-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)) (v3 : (c : Dev Cert.Kernel2Ideal.nD) → Buf (Elt Ideal) ((c.tc : Thread Cert.Kernel2Ideal.nD Cert.Kernel2Ideal.τ).loc Cert.Kernel2Ideal.main_v32_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_v32_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v156) = v0 c
          ∧ r.2.mem ((c.tc : Thread Cert.Reference2Ideal.nD Cert.Reference2Ideal.τ).loc Cert.Reference2Ideal.main_v160) = v1 c
          ∧ r.2.mem ((c.tc : Thread Cert.Reference2Ideal.nD Cert.Reference2Ideal.τ).loc Cert.Reference2Ideal.main_v132) = v2 c
          ∧ r.2.mem ((c.tc : Thread Cert.Reference2Ideal.nD Cert.Reference2Ideal.τ).loc Cert.Reference2Ideal.main_v161) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)) (v6 : (c : Dev Cert.Kernel3Ideal.nD) → Buf (Elt Ideal) ((c.tc : Thread Cert.Kernel3Ideal.nD Cert.Kernel3Ideal.τ).loc Cert.Kernel3Ideal.main_v2_6)) (v7 : (c : Dev Cert.Kernel3Ideal.nD) → Buf (Elt Ideal) ((c.tc : Thread Cert.Kernel3Ideal.nD Cert.Kernel3Ideal.τ).loc Cert.Kernel3Ideal.main_v2_7)) (v8 : (c : Dev Cert.Kernel3Ideal.nD) → Buf (Elt Ideal) ((c.tc : Thread Cert.Kernel3Ideal.nD Cert.Kernel3Ideal.τ).loc Cert.Kernel3Ideal.main_v2_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_v2_6) = v6 c
          ∧ r.2.mem ((c.tc : Thread Cert.Kernel3Ideal.nD Cert.Kernel3Ideal.τ).loc Cert.Kernel3Ideal.main_v2_7) = v7 c
          ∧ r.2.mem ((c.tc : Thread Cert.Kernel3Ideal.nD Cert.Kernel3Ideal.τ).loc Cert.Kernel3Ideal.main_v2_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v154) = v0 c
          ∧ r.2.mem ((c.tc : Thread Cert.Reference3Ideal.nD Cert.Reference3Ideal.τ).loc Cert.Reference3Ideal.main_v159) = v1 c
          ∧ r.2.mem ((c.tc : Thread Cert.Reference3Ideal.nD Cert.Reference3Ideal.τ).loc Cert.Reference3Ideal.main_v160) = v2 c
          ∧ r.2.mem ((c.tc : Thread Cert.Reference3Ideal.nD Cert.Reference3Ideal.τ).loc Cert.Reference3Ideal.main_v161) = v3 c
          ∧ r.2.mem ((c.tc : Thread Cert.Reference3Ideal.nD Cert.Reference3Ideal.τ).loc Cert.Reference3Ideal.main_v162) = v4 c
          ∧ r.2.mem ((c.tc : Thread Cert.Reference3Ideal.nD Cert.Reference3Ideal.τ).loc Cert.Reference3Ideal.main_v163) = v5 c
          ∧ r.2.mem ((c.tc : Thread Cert.Reference3Ideal.nD Cert.Reference3Ideal.τ).loc Cert.Reference3Ideal.main_v133) = v6 c
          ∧ r.2.mem ((c.tc : Thread Cert.Reference3Ideal.nD Cert.Reference3Ideal.τ).loc Cert.Reference3Ideal.main_v155) = v7 c
          ∧ r.2.mem ((c.tc : Thread Cert.Reference3Ideal.nD Cert.Reference3Ideal.τ).loc Cert.Reference3Ideal.main_v108) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)) (v3 : (c : Dev Cert.Kernel4Ideal.nD) → Buf (Elt Ideal) ((c.tc : Thread Cert.Kernel4Ideal.nD Cert.Kernel4Ideal.τ).loc Cert.Kernel4Ideal.main_v27_3)) (v4 : (c : Dev Cert.Kernel4Ideal.nD) → Buf (Elt Ideal) ((c.tc : Thread Cert.Kernel4Ideal.nD Cert.Kernel4Ideal.τ).loc Cert.Kernel4Ideal.main_v27_4)) (v5 : (c : Dev Cert.Kernel4Ideal.nD) → Buf (Elt Ideal) ((c.tc : Thread Cert.Kernel4Ideal.nD Cert.Kernel4Ideal.τ).loc Cert.Kernel4Ideal.main_v27_5)) (v6 : (c : Dev Cert.Kernel4Ideal.nD) → Buf (Elt Ideal) ((c.tc : Thread Cert.Kernel4Ideal.nD Cert.Kernel4Ideal.τ).loc Cert.Kernel4Ideal.main_v27_6)) (v7 : (c : Dev Cert.Kernel4Ideal.nD) → Buf (Elt Ideal) ((c.tc : Thread Cert.Kernel4Ideal.nD Cert.Kernel4Ideal.τ).loc Cert.Kernel4Ideal.main_v27_7)) (v8 : (c : Dev Cert.Kernel4Ideal.nD) → Buf (Elt Ideal) ((c.tc : Thread Cert.Kernel4Ideal.nD Cert.Kernel4Ideal.τ).loc Cert.Kernel4Ideal.main_v27_8)) (v9 : (c : Dev Cert.Kernel4Ideal.nD) → Buf (Elt Ideal) ((c.tc : Thread Cert.Kernel4Ideal.nD Cert.Kernel4Ideal.τ).loc Cert.Kernel4Ideal.main_v27_9)) (v10 : (c : Dev Cert.Kernel4Ideal.nD) → Buf (Elt Ideal) ((c.tc : Thread Cert.Kernel4Ideal.nD Cert.Kernel4Ideal.τ).loc Cert.Kernel4Ideal.main_v27_10)) (v11 : (c : Dev Cert.Kernel4Ideal.nD) → Buf (Elt Ideal) ((c.tc : Thread Cert.Kernel4Ideal.nD Cert.Kernel4Ideal.τ).loc Cert.Kernel4Ideal.main_v27_11)) (v12 : (c : Dev Cert.Kernel4Ideal.nD) → Buf (Elt Ideal) ((c.tc : Thread Cert.Kernel4Ideal.nD Cert.Kernel4Ideal.τ).loc Cert.Kernel4Ideal.main_v27_12)) (v13 : (c : Dev Cert.Kernel4Ideal.nD) → Buf (Elt Ideal) ((c.tc : Thread Cert.Kernel4Ideal.nD Cert.Kernel4Ideal.τ).loc Cert.Kernel4Ideal.main_v27_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_v27_3) = v3 c
          ∧ r.2.mem ((c.tc : Thread Cert.Kernel4Ideal.nD Cert.Kernel4Ideal.τ).loc Cert.Kernel4Ideal.main_v27_4) = v4 c
          ∧ r.2.mem ((c.tc : Thread Cert.Kernel4Ideal.nD Cert.Kernel4Ideal.τ).loc Cert.Kernel4Ideal.main_v27_5) = v5 c
          ∧ r.2.mem ((c.tc : Thread Cert.Kernel4Ideal.nD Cert.Kernel4Ideal.τ).loc Cert.Kernel4Ideal.main_v27_6) = v6 c
          ∧ r.2.mem ((c.tc : Thread Cert.Kernel4Ideal.nD Cert.Kernel4Ideal.τ).loc Cert.Kernel4Ideal.main_v27_7) = v7 c
          ∧ r.2.mem ((c.tc : Thread Cert.Kernel4Ideal.nD Cert.Kernel4Ideal.τ).loc Cert.Kernel4Ideal.main_v27_8) = v8 c
          ∧ r.2.mem ((c.tc : Thread Cert.Kernel4Ideal.nD Cert.Kernel4Ideal.τ).loc Cert.Kernel4Ideal.main_v27_9) = v9 c
          ∧ r.2.mem ((c.tc : Thread Cert.Kernel4Ideal.nD Cert.Kernel4Ideal.τ).loc Cert.Kernel4Ideal.main_v27_10) = v10 c
          ∧ r.2.mem ((c.tc : Thread Cert.Kernel4Ideal.nD Cert.Kernel4Ideal.τ).loc Cert.Kernel4Ideal.main_v27_11) = v11 c
          ∧ r.2.mem ((c.tc : Thread Cert.Kernel4Ideal.nD Cert.Kernel4Ideal.τ).loc Cert.Kernel4Ideal.main_v27_12) = v12 c
          ∧ r.2.mem ((c.tc : Thread Cert.Kernel4Ideal.nD Cert.Kernel4Ideal.τ).loc Cert.Kernel4Ideal.main_v27_13) = v13 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v190) = v0 c
          ∧ r.2.mem ((c.tc : Thread Cert.Reference4Ideal.nD Cert.Reference4Ideal.τ).loc Cert.Reference4Ideal.main_v193) = v1 c
          ∧ r.2.mem ((c.tc : Thread Cert.Reference4Ideal.nD Cert.Reference4Ideal.τ).loc Cert.Reference4Ideal.main_v195) = v2 c
          ∧ r.2.mem ((c.tc : Thread Cert.Reference4Ideal.nD Cert.Reference4Ideal.τ).loc Cert.Reference4Ideal.main_v197) = v3 c
          ∧ r.2.mem ((c.tc : Thread Cert.Reference4Ideal.nD Cert.Reference4Ideal.τ).loc Cert.Reference4Ideal.main_v134) = v4 c
          ∧ r.2.mem ((c.tc : Thread Cert.Reference4Ideal.nD Cert.Reference4Ideal.τ).loc Cert.Reference4Ideal.main_v127) = v5 c
          ∧ r.2.mem ((c.tc : Thread Cert.Reference4Ideal.nD Cert.Reference4Ideal.τ).loc Cert.Reference4Ideal.main_v198) = v6 c
          ∧ r.2.mem ((c.tc : Thread Cert.Reference4Ideal.nD Cert.Reference4Ideal.τ).loc Cert.Reference4Ideal.main_v199) = v7 c
          ∧ r.2.mem ((c.tc : Thread Cert.Reference4Ideal.nD Cert.Reference4Ideal.τ).loc Cert.Reference4Ideal.main_v102) = v8 c
          ∧ r.2.mem ((c.tc : Thread Cert.Reference4Ideal.nD Cert.Reference4Ideal.τ).loc Cert.Reference4Ideal.main_v123) = v9 c
          ∧ r.2.mem ((c.tc : Thread Cert.Reference4Ideal.nD Cert.Reference4Ideal.τ).loc Cert.Reference4Ideal.main_v200) = v10 c
          ∧ r.2.mem ((c.tc : Thread Cert.Reference4Ideal.nD Cert.Reference4Ideal.τ).loc Cert.Reference4Ideal.main_v132) = v11 c
          ∧ r.2.mem ((c.tc : Thread Cert.Reference4Ideal.nD Cert.Reference4Ideal.τ).loc Cert.Reference4Ideal.main_v187) = v12 c
          ∧ r.2.mem ((c.tc : Thread Cert.Reference4Ideal.nD Cert.Reference4Ideal.τ).loc Cert.Reference4Ideal.main_v186) = v13 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v27)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v27) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v79) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v13_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v13_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_v54) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite4 : Cert.Pre_finite4.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite.lean ====
abbrev S32x1024 : Shape := ⟨2, ![32, 1024]⟩
abbrev S1024 : Shape := ⟨1, ![1024]⟩
abbrev S1024x6144 : Shape := ⟨2, ![1024, 6144]⟩
abbrev S6144 : Shape := ⟨1, ![6144]⟩
abbrev S32x6144 : Shape := ⟨2, ![32, 6144]⟩
abbrev S8x6144 : Shape := ⟨2, ![8, 6144]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S8x6144 : S_.BroadcastsInDim S8x6144 (![] : Fin 0 → Fin S8x6144.rank)
  reducesTo_S8x6144_S_d0_1 : S8x6144.ReducesTo [0, 1] S_

variable [Facts]

def fn {F : FTy → Type} [FloatOps F] (main_arg0 : FVec F S32x1024 .f32) (main_arg1 : FVec F S1024 .f32) (main_arg2 : FVec F S1024x6144 .f32) (main_arg3 : FVec F S6144 .f32) (main_arg4 : FVec F S32x6144 .f32) (main_arg5 : FVec F S8x6144 .f32) (main_arg6 : IVec S_ 32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6144 .f32 := Host.absf main_arg2
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  let main_v9 : FVec F S8x6144 .f32 := Host.absf main_arg5
  let main_cst_2 : FVec F S_ .f32 := constant S_ .f32 0x7F800000#32
  let main_v10 : FVec F S8x6144 .f32 := broadcastInDim S8x6144 ![] bcast_S_S8x6144 main_cst_2
  let main_v11 : IVec S8x6144 1 := cmpf .olt main_v9 main_v10
  let main_c_3 : IVec S_ 1 := constantI S_ 1 1#1
  let main_v12 : IVec S_ 1 := (fun x v => Host.reduce IntOp.andi x v reducesTo_S8x6144_S_d0_1 h_S_) main_v11 main_c_3
  let main_v13 : IVec S_ 1 := andi main_v8 main_v12
  main_v13
-- ==== Pre_finite2.lean ====
abbrev S4x2304x2976 : Shape := ⟨3, ![4, 2304, 2976]⟩
abbrev S4x256x1024 : Shape := ⟨3, ![4, 256, 1024]⟩
abbrev S4x2048x1024 : Shape := ⟨3, ![4, 2048, 1024]⟩
abbrev S2x1024 : Shape := ⟨2, ![2, 1024]⟩
abbrev S4x2x1024 : Shape := ⟨3, ![4, 2, 1024]⟩
abbrev S1x1024 : Shape := ⟨2, ![1, 1024]⟩
abbrev S1024x2976 : Shape := ⟨2, ![1024, 2976]⟩
abbrev S1x1952 : Shape := ⟨2, ![1, 1952]⟩
abbrev S_ : Shape := ⟨0, ![]⟩

class Facts : Prop where
  bcast_S_S4x2304x2976 : S_.BroadcastsInDim S4x2304x2976 (![] : Fin 0 → Fin S4x2304x2976.rank)
  reducesTo_S4x2304x2976_S_d0_1_2 : S4x2304x2976.ReducesTo [0, 1, 2] S_
  h_S_ : 0 < S_.numel
  bcast_S_S1x1952 : S_.BroadcastsInDim S1x1952 (![] : Fin 0 → Fin S1x1952.rank)
  reducesTo_S1x1952_S_d0_1 : S1x1952.ReducesTo [0, 1] S_

variable [Facts]

def fn {F : FTy → Type} [FloatOps F] (main_arg0 : FVec F S4x2304x2976 .f32) (main_arg1 : FVec F S4x256x1024 .f32) (main_arg2 : FVec F S4x2048x1024 .f32) (main_arg3 : FVec F S2x1024 .f32) (main_arg4 : FVec F S4x2x1024 .f32) (main_arg5 : FVec F S1x1024 .f32) (main_arg6 : FVec F S1024x2976 .f32) (main_arg7 : FVec F S1x1952 .f32) (main_arg8 : FVec F S1x1952 .f32) (main_arg9 : FVec F S4x2048x1024 .f32) : IVec S_ 1 :=
  let main_v0 : FVec F S4x2304x2976 .f32 := Host.absf main_arg0
  let main_cst : FVec F S_ .f32 := constant S_ .f32 0x7F800000#32
  let main_v1 : FVec F S4x2304x2976 .f32 := broadcastInDim S4x2304x2976 ![] bcast_S_S4x2304x2976 main_cst
  let main_v2 : IVec S4x2304x2976 1 := cmpf .olt main_v0 main_v1
  let main_c : IVec S_ 1 := constantI S_ 1 1#1
  let main_v3 : IVec S_ 1 := (fun x v => Host.reduce IntOp.andi x v reducesTo_S4x2304x2976_S_d0_1_2 h_S_) main_v2 main_c
  let main_v4 : FVec F S1x1952 .f32 := Host.absf main_arg7
  let main_cst_0 : FVec F S_ .f32 := constant S_ .f32 0x7F800000#32
  let main_v5 : FVec F S1x1952 .f32 := broadcastInDim S1x1952 ![] bcast_S_S1x1952 main_cst_0
  let main_v6 : IVec S1x1952 1 := cmpf .olt main_v4 main_v5
  let main_c_1 : IVec S_ 1 := constantI S_ 1 1#1
  let main_v7 : IVec S_ 1 := (fun x v => Host.reduce IntOp.andi x v reducesTo_S1x1952_S_d0_1 h_S_) main_v6 main_c_1
  let main_v8 : IVec S_ 1 := andi main_v3 main_v7
  let main_v9 : FVec F S1x1952 .f32 := Host.absf main_arg8
  let main_cst_2 : FVec F S_ .f32 := constant S_ .f32 0x7F800000#32
  let main_v10 : FVec F S1x1952 .f32 := broadcastInDim S1x1952 ![] bcast_S_S1x1952 main_cst_2
  let main_v11 : IVec S1x1952 1 := cmpf .olt main_v9 main_v10
  let main_c_3 : IVec S_ 1 := constantI S_ 1 1#1
  let main_v12 : IVec S_ 1 := (fun x v => Host.reduce IntOp.andi x v reducesTo_S1x1952_S_d0_1 h_S_) main_v11 main_c_3
  let main_v13 : IVec S_ 1 := andi main_v8 main_v12
  main_v13
-- ==== Pre_finite4.lean ====
abbrev S4x2304x512 : Shape := ⟨3, ![4, 2304, 512]⟩
abbrev S4x2304x160 : Shape := ⟨3, ![4, 2304, 160]⟩
abbrev S4x2048x1024 : Shape := ⟨3, ![4, 2048, 1024]⟩
abbrev S4x1x1024 : Shape := ⟨3, ![4, 1, 1024]⟩
abbrev S8x64 : Shape := ⟨2, ![8, 64]⟩
abbrev S160x512 : Shape := ⟨2, ![160, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩

class Facts : Prop where
  bcast_S_S4x2304x512 : S_.BroadcastsInDim S4x2304x512 (![] : Fin 0 → Fin S4x2304x512.rank)
  reducesTo_S4x2304x512_S_d0_1_2 : S4x2304x512.ReducesTo [0, 1, 2] S_
  h_S_ : 0 < S_.numel
  bcast_S_S4x2304x160 : S_.BroadcastsInDim S4x2304x160 (![] : Fin 0 → Fin S4x2304x160.rank)
  reducesTo_S4x2304x160_S_d0_1_2 : S4x2304x160.ReducesTo [0, 1, 2] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S8x64 : S_.BroadcastsInDim S8x64 (![] : Fin 0 → Fin S8x64.rank)
  reducesTo_S8x64_S_d0_1 : S8x64.ReducesTo [0, 1] S_
  bcast_S_S160x512 : S_.BroadcastsInDim S160x512 (![] : Fin 0 → Fin S160x512.rank)
  reducesTo_S160x512_S_d0_1 : S160x512.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part4 {F : FTy → Type} [FloatOps F] (main_arg15 : FVec F S1x1024 .f32) (main_arg16 : FVec F S4x2048x1024 .f32) (main_v63 : IVec S_ 1) (main_v67 : IVec S_ 1) : IVec S_ 1 :=
  let main_v68 : IVec S_ 1 := andi main_v63 main_v67
  let main_v69 : FVec F S1x1024 .f32 := Host.absf main_arg15
  let main_cst_26 : FVec F S_ .f32 := constant S_ .f32 0x7F800000#32
  let main_v70 : FVec F S1x1024 .f32 := broadcastInDim S1x1024 ![] bcast_S_S1x1024 main_cst_26
  let main_v71 : IVec S1x1024 1 := cmpf .olt main_v69 main_v70
  let main_c_27 : IVec S_ 1 := constantI S_ 1 1#1
  let main_v72 : IVec S_ 1 := (fun x v => Host.reduce IntOp.andi x v reducesTo_S1x1024_S_d0_1 h_S_) main_v71 main_c_27
  let main_v73 : IVec S_ 1 := andi main_v68 main_v72
  let main_v74 : FVec F S4x2048x1024 .f32 := Host.absf main_arg16
  let main_cst_28 : FVec F S_ .f32 := constant S_ .f32 0x7F800000#32
  let main_v75 : FVec F S4x2048x1024 .f32 := broadcastInDim S4x2048x1024 ![] bcast_S_S4x2048x1024 main_cst_28
  let main_v76 : IVec S4x2048x1024 1 := cmpf .olt main_v74 main_v75
  let main_c_29 : IVec S_ 1 := constantI S_ 1 1#1
  let main_v77 : IVec S_ 1 := (fun x v => Host.reduce IntOp.andi x v reducesTo_S4x2048x1024_S_d0_1_2 h_S_) main_v76 main_c_29
  let main_v78 : IVec S_ 1 := andi main_v73 main_v77
  main_v78

def fn_part3 {F : FTy → Type} [FloatOps F] (main_arg12 : FVec F S1x512 .f32) (main_arg13 : FVec F S1x512 .f32) (main_arg14 : FVec F S1024x1024 .f32) (main_arg15 : FVec F S1x1024 .f32) (main_arg16 : FVec F S4x2048x1024 .f32) (main_v48 : IVec S_ 1) (main_v49 : FVec F S160x512 .f32) (main_v50 : FVec F S160x512 .f32) : IVec S_ 1 :=
  let main_v51 : IVec S160x512 1 := cmpf .olt main_v49 main_v50
  let main_c_19 : IVec S_ 1 := constantI S_ 1 1#1
  let main_v52 : IVec S_ 1 := (fun x v => Host.reduce IntOp.andi x v reducesTo_S160x512_S_d0_1 h_S_) main_v51 main_c_19
  let main_v53 : IVec S_ 1 := andi main_v48 main_v52
  let main_v54 : FVec F S1x512 .f32 := Host.absf main_arg12
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  let main_v59 : FVec F S1x512 .f32 := Host.absf main_arg13
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S1024x1024 .f32 := Host.absf main_arg14
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg15 main_arg16 main_v63 main_v67

def fn_part2 {F : FTy → Type} [FloatOps F] (main_arg7 : FVec F S4x2304x512 .f32) (main_arg9 : FVec F S4x1x1024 .f32) (main_arg10 : FVec F S8x64 .f32) (main_arg11 : FVec F S160x512 .f32) (main_arg12 : FVec F S1x512 .f32) (main_arg13 : FVec F S1x512 .f32) (main_arg14 : FVec F S1024x1024 .f32) (main_arg15 : FVec F S1x1024 .f32) (main_arg16 : FVec F S4x2048x1024 .f32) (main_v33 : IVec S_ 1) : IVec S_ 1 :=
  let main_v34 : FVec F S4x2304x512 .f32 := Host.absf main_arg7
  let main_cst_12 : FVec F S_ .f32 := constant S_ .f32 0x7F800000#32
  let main_v35 : FVec F S4x2304x512 .f32 := broadcastInDim S4x2304x512 ![] bcast_S_S4x2304x512 main_cst_12
  let main_v36 : IVec S4x2304x512 1 := cmpf .olt main_v34 main_v35
  let main_c_13 : IVec S_ 1 := constantI S_ 1 1#1
  let main_v37 : IVec S_ 1 := (fun x v => Host.reduce IntOp.andi x v reducesTo_S4x2304x512_S_d0_1_2 h_S_) main_v36 main_c_13
  let main_v38 : IVec S_ 1 := andi main_v33 main_v37
  let main_v39 : FVec F S4x1x1024 .f32 := Host.absf main_arg9
  let main_cst_14 : FVec F S_ .f32 := constant S_ .f32 0x7F800000#32
  let main_v40 : FVec F S4x1x1024 .f32 := broadcastInDim S4x1x1024 ![] bcast_S_S4x1x1024 main_cst_14
  let main_v41 : IVec S4x1x1024 1 := cmpf .olt main_v39 main_v40
  let main_c_15 : IVec S_ 1 := constantI S_ 1 1#1
  let main_v42 : IVec S_ 1 := (fun x v => Host.reduce IntOp.andi x v reducesTo_S4x1x1024_S_d0_1_2 h_S_) main_v41 main_c_15
  let main_v43 : IVec S_ 1 := andi main_v38 main_v42
  let main_v44 : FVec F S8x64 .f32 := Host.absf main_arg10
  let main_cst_16 : FVec F S_ .f32 := constant S_ .f32 0x7F800000#32
  let main_v45 : FVec F S8x64 .f32 := broadcastInDim S8x64 ![] bcast_S_S8x64 main_cst_16
  let main_v46 : IVec S8x64 1 := cmpf .olt main_v44 main_v45
  let main_c_17 : IVec S_ 1 := constantI S_ 1 1#1
  let main_v47 : IVec S_ 1 := (fun x v => Host.reduce IntOp.andi x v reducesTo_S8x64_S_d0_1 h_S_) main_v46 main_c_17
  let main_v48 : IVec S_ 1 := andi main_v43 main_v47
  let main_v49 : FVec F S160x512 .f32 := Host.absf main_arg11
  let main_cst_18 : FVec F S_ .f32 := constant S_ .f32 0x7F800000#32
  let main_v50 : FVec F S160x512 .f32 := broadcastInDim S160x512 ![] bcast_S_S160x512 main_cst_18
  fn_part3 (F := F) main_arg12 main_arg13 main_arg14 main_arg15 main_arg16 main_v48 main_v49 main_v50

def fn_part1 {F : FTy → Type} [FloatOps F] (main_arg4 : FVec F S4x2304x512 .f32) (main_arg5 : FVec F S4x2304x512 .f32) (main_arg6 : FVec F S4x2304x160 .f32) (main_arg7 : FVec F S4x2304x512 .f32) (main_arg9 : FVec F S4x1x1024 .f32) (main_arg10 : FVec F S8x64 .f32) (main_arg11 : FVec F S160x512 .f32) (main_arg12 : FVec F S1x512 .f32) (main_arg13 : FVec F S1x512 .f32) (main_arg14 : FVec F S1024x1024 .f32) (main_arg15 : FVec F S1x1024 .f32) (main_arg16 : FVec F S4x2048x1024 .f32) (main_v13 : IVec S_ 1) (main_v16 : IVec S4x2304x512 1) : IVec S_ 1 :=
  let main_c_5 : IVec S_ 1 := constantI S_ 1 1#1
  let main_v17 : IVec S_ 1 := (fun x v => Host.reduce IntOp.andi x v reducesTo_S4x2304x512_S_d0_1_2 h_S_) main_v16 main_c_5
  let main_v18 : IVec S_ 1 := andi main_v13 main_v17
  let main_v19 : FVec F S4x2304x512 .f32 := Host.absf main_arg4
  let main_cst_6 : FVec F S_ .f32 := constant S_ .f32 0x7F800000#32
  let main_v20 : FVec F S4x2304x512 .f32 := broadcastInDim S4x2304x512 ![] bcast_S_S4x2304x512 main_cst_6
  let main_v21 : IVec S4x2304x512 1 := cmpf .olt main_v19 main_v20
  let main_c_7 : IVec S_ 1 := constantI S_ 1 1#1
  let main_v22 : IVec S_ 1 := (fun x v => Host.reduce IntOp.andi x v reducesTo_S4x2304x512_S_d0_1_2 h_S_) main_v21 main_c_7
  let main_v23 : IVec S_ 1 := andi main_v18 main_v22
  let main_v24 : FVec F S4x2304x512 .f32 := Host.absf main_arg5
  let main_cst_8 : FVec F S_ .f32 := constant S_ .f32 0x7F800000#32
  let main_v25 : FVec F S4x2304x512 .f32 := broadcastInDim S4x2304x512 ![] bcast_S_S4x2304x512 main_cst_8
  let main_v26 : IVec S4x2304x512 1 := cmpf .olt main_v24 main_v25
  let main_c_9 : IVec S_ 1 := constantI S_ 1 1#1
  let main_v27 : IVec S_ 1 := (fun x v => Host.reduce IntOp.andi x v reducesTo_S4x2304x512_S_d0_1_2 h_S_) main_v26 main_c_9
  let main_v28 : IVec S_ 1 := andi main_v23 main_v27
  let main_v29 : FVec F S4x2304x160 .f32 := Host.absf main_arg6
  let main_cst_10 : FVec F S_ .f32 := constant S_ .f32 0x7F800000#32
  let main_v30 : FVec F S4x2304x160 .f32 := broadcastInDim S4x2304x160 ![] bcast_S_S4x2304x160 main_cst_10
  let main_v31 : IVec S4x2304x160 1 := cmpf .olt main_v29 main_v30
  let main_c_11 : IVec S_ 1 := constantI S_ 1 1#1
  let main_v32 : IVec S_ 1 := (fun x v => Host.reduce IntOp.andi x v reducesTo_S4x2304x160_S_d0_1_2 h_S_) main_v31 main_c_11
  let main_v33 : IVec S_ 1 := andi main_v28 main_v32
  fn_part2 (F := F) main_arg7 main_arg9 main_arg10 main_arg11 main_arg12 main_arg13 main_arg14 main_arg15 main_arg16 main_v33

def fn {F : FTy → Type} [FloatOps F] (main_arg0 : FVec F S4x2304x512 .f32) (main_arg1 : FVec F S4x2304x512 .f32) (main_arg2 : FVec F S4x2304x512 .f32) (main_arg3 : FVec F S4x2304x512 .f32) (main_arg4 : FVec F S4x2304x512 .f32) (main_arg5 : FVec F S4x2304x512 .f32) (main_arg6 : FVec F S4x2304x160 .f32) (main_arg7 : FVec F S4x2304x512 .f32) (main_arg8 : FVec F S4x2048x1024 .f32) (main_arg9 : FVec F S4x1x1024 .f32) (main_arg10 : FVec F S8x64 .f32) (main_arg11 : FVec F S160x512 .f32) (main_arg12 : FVec F S1x512 .f32) (main_arg13 : FVec F S1x512 .f32) (main_arg14 : FVec F S1024x1024 .f32) (main_arg15 : FVec F S1x1024 .f32) (main_arg16 : FVec F S4x2048x1024 .f32) : IVec S_ 1 :=
  let main_v0 : FVec F S4x2304x512 .f32 := Host.absf main_arg0
  let main_cst : FVec F S_ .f32 := constant S_ .f32 0x7F800000#32
  let main_v1 : FVec F S4x2304x512 .f32 := broadcastInDim S4x2304x512 ![] bcast_S_S4x2304x512 main_cst
  let main_v2 : IVec S4x2304x512 1 := cmpf .olt main_v0 main_v1
  let main_c : IVec S_ 1 := constantI S_ 1 1#1
  let main_v3 : IVec S_ 1 := (fun x v => Host.reduce IntOp.andi x v reducesTo_S4x2304x512_S_d0_1_2 h_S_) main_v2 main_c
  let main_v4 : FVec F S4x2304x512 .f32 := Host.absf main_arg1
  let main_cst_0 : FVec F S_ .f32 := constant S_ .f32 0x7F800000#32
  let main_v5 : FVec F S4x2304x512 .f32 := broadcastInDim S4x2304x512 ![] bcast_S_S4x2304x512 main_cst_0
  let main_v6 : IVec S4x2304x512 1 := cmpf .olt main_v4 main_v5
  let main_c_1 : IVec S_ 1 := constantI S_ 1 1#1
  let main_v7 : IVec S_ 1 := (fun x v => Host.reduce IntOp.andi x v reducesTo_S4x2304x512_S_d0_1_2 h_S_) main_v6 main_c_1
  let main_v8 : IVec S_ 1 := andi main_v3 main_v7
  let main_v9 : FVec F S4x2304x512 .f32 := Host.absf main_arg2
  let main_cst_2 : FVec F S_ .f32 := constant S_ .f32 0x7F800000#32
  let main_v10 : FVec F S4x2304x512 .f32 := broadcastInDim S4x2304x512 ![] bcast_S_S4x2304x512 main_cst_2
  let main_v11 : IVec S4x2304x512 1 := cmpf .olt main_v9 main_v10
  let main_c_3 : IVec S_ 1 := constantI S_ 1 1#1
  let main_v12 : IVec S_ 1 := (fun x v => Host.reduce IntOp.andi x v reducesTo_S4x2304x512_S_d0_1_2 h_S_) main_v11 main_c_3
  let main_v13 : IVec S_ 1 := andi main_v8 main_v12
  let main_v14 : FVec F S4x2304x512 .f32 := Host.absf main_arg3
  let main_cst_4 : FVec F S_ .f32 := constant S_ .f32 0x7F800000#32
  let main_v15 : FVec F S4x2304x512 .f32 := broadcastInDim S4x2304x512 ![] bcast_S_S4x2304x512 main_cst_4
  let main_v16 : IVec S4x2304x512 1 := cmpf .olt main_v14 main_v15
  fn_part1 (F := F) main_arg4 main_arg5 main_arg6 main_arg7 main_arg9 main_arg10 main_arg11 main_arg12 main_arg13 main_arg14 main_arg15 main_arg16 main_v13 main_v16
-- ==== Pre_finite7.lean ====
abbrev S4x2304x512 : Shape := ⟨3, ![4, 2304, 512]⟩
abbrev S4x2304x160 : Shape := ⟨3, ![4, 2304, 160]⟩
abbrev S4x2048x1024 : Shape := ⟨3, ![4, 2048, 1024]⟩
abbrev S4x1x1024 : Shape := ⟨3, ![4, 1, 1024]⟩
abbrev S8x64 : Shape := ⟨2, ![8, 64]⟩
abbrev S160x512 : Shape := ⟨2, ![160, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩

class Facts : Prop where
  bcast_S_S4x2304x512 : S_.BroadcastsInDim S4x2304x512 (![] : Fin 0 → Fin S4x2304x512.rank)
  reducesTo_S4x2304x512_S_d0_1_2 : S4x2304x512.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_arg4 : FVec F S4x2304x512 .f32) (main_arg10 : FVec F S8x64 .f32) (main_v13 : IVec S_ 1) (main_v16 : IVec S4x2304x512 1) : IVec S_ 1 :=
  let main_c_5 : IVec S_ 1 := constantI S_ 1 1#1
  let main_v17 : IVec S_ 1 := (fun x v => Host.reduce IntOp.andi x v reducesTo_S4x2304x512_S_d0_1_2 h_S_) main_v16 main_c_5
  let main_v18 : IVec S_ 1 := andi main_v13 main_v17
  let main_v19 : FVec F S4x2304x512 .f32 := Host.absf main_arg4
  let main_cst_6 : FVec F S_ .f32 := constant S_ .f32 0x7F800000#32
  let main_v20 : FVec F S4x2304x512 .f32 := broadcastInDim S4x2304x512 ![] bcast_S_S4x2304x512 main_cst_6
  let main_v21 : IVec S4x2304x512 1 := cmpf .olt main_v19 main_v20
  let main_c_7 : IVec S_ 1 := constantI S_ 1 1#1
  let main_v22 : IVec S_ 1 := (fun x v => Host.reduce IntOp.andi x v reducesTo_S4x2304x512_S_d0_1_2 h_S_) main_v21 main_c_7
  let main_v23 : IVec S_ 1 := andi main_v18 main_v22
  let main_v24 : FVec F S8x64 .f32 := Host.absf main_arg10
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  main_v28

def fn {F : FTy → Type} [FloatOps F] (main_arg0 : FVec F S4x2304x512 .f32) (main_arg1 : FVec F S4x2304x512 .f32) (main_arg2 : FVec F S4x2304x512 .f32) (main_arg3 : FVec F S4x2304x512 .f32) (main_arg4 : FVec F S4x2304x512 .f32) (main_arg5 : FVec F S4x2304x512 .f32) (main_arg6 : FVec F S4x2304x160 .f32) (main_arg7 : FVec F S4x2304x512 .f32) (main_arg8 : FVec F S4x2048x1024 .f32) (main_arg9 : FVec F S4x1x1024 .f32) (main_arg10 : FVec F S8x64 .f32) (main_arg11 : FVec F S160x512 .f32) (main_arg12 : FVec F S1x512 .f32) (main_arg13 : FVec F S1x512 .f32) (main_arg14 : FVec F S1024x1024 .f32) (main_arg15 : FVec F S1x1024 .f32) : IVec S_ 1 :=
  let main_v0 : FVec F S4x2304x512 .f32 := Host.absf main_arg0
  let main_cst : FVec F S_ .f32 := constant S_ .f32 0x7F800000#32
  let main_v1 : FVec F S4x2304x512 .f32 := broadcastInDim S4x2304x512 ![] bcast_S_S4x2304x512 main_cst
  let main_v2 : IVec S4x2304x512 1 := cmpf .olt main_v0 main_v1
  let main_c : IVec S_ 1 := constantI S_ 1 1#1
  let main_v3 : IVec S_ 1 := (fun x v => Host.reduce IntOp.andi x v reducesTo_S4x2304x512_S_d0_1_2 h_S_) main_v2 main_c
  let main_v4 : FVec F S4x2304x512 .f32 := Host.absf main_arg1
  let main_cst_0 : FVec F S_ .f32 := constant S_ .f32 0x7F800000#32
  let main_v5 : FVec F S4x2304x512 .f32 := broadcastInDim S4x2304x512 ![] bcast_S_S4x2304x512 main_cst_0
  let main_v6 : IVec S4x2304x512 1 := cmpf .olt main_v4 main_v5
  let main_c_1 : IVec S_ 1 := constantI S_ 1 1#1
  let main_v7 : IVec S_ 1 := (fun x v => Host.reduce IntOp.andi x v reducesTo_S4x2304x512_S_d0_1_2 h_S_) main_v6 main_c_1
  let main_v8 : IVec S_ 1 := andi main_v3 main_v7
  let main_v9 : FVec F S4x2304x512 .f32 := Host.absf main_arg2
  let main_cst_2 : FVec F S_ .f32 := constant S_ .f32 0x7F800000#32
  let main_v10 : FVec F S4x2304x512 .f32 := broadcastInDim S4x2304x512 ![] bcast_S_S4x2304x512 main_cst_2
  let main_v11 : IVec S4x2304x512 1 := cmpf .olt main_v9 main_v10
  let main_c_3 : IVec S_ 1 := constantI S_ 1 1#1
  let main_v12 : IVec S_ 1 := (fun x v => Host.reduce IntOp.andi x v reducesTo_S4x2304x512_S_d0_1_2 h_S_) main_v11 main_c_3
  let main_v13 : IVec S_ 1 := andi main_v8 main_v12
  let main_v14 : FVec F S4x2304x512 .f32 := Host.absf main_arg3
  let main_cst_4 : FVec F S_ .f32 := constant S_ .f32 0x7F800000#32
  let main_v15 : FVec F S4x2304x512 .f32 := broadcastInDim S4x2304x512 ![] bcast_S_S4x2304x512 main_cst_4
  let main_v16 : IVec S4x2304x512 1 := cmpf .olt main_v14 main_v15
  fn_part1 (F := F) main_arg4 main_arg10 main_v13 main_v16
-- ==== Kernel.lean ====
abbrev S32x1024 : Shape := ⟨2, ![32, 1024]⟩
abbrev S1024 : Shape := ⟨1, ![1024]⟩
abbrev S1024x6144 : Shape := ⟨2, ![1024, 6144]⟩
abbrev S6144 : Shape := ⟨1, ![6144]⟩
abbrev S32x6144 : Shape := ⟨2, ![32, 6144]⟩
abbrev S8x6144 : Shape := ⟨2, ![8, 6144]⟩
abbrev S_ : Shape := ⟨0, ![]⟩
abbrev S8x4x1024 : Shape := ⟨3, ![8, 4, 1024]⟩
abbrev S8x1x1024 : Shape := ⟨3, ![8, 1, 1024]⟩
abbrev S8x3x1024 : Shape := ⟨3, ![8, 3, 1024]⟩
abbrev S8x8x1024 : Shape := ⟨3, ![8, 8, 1024]⟩
abbrev S8x4x6144 : Shape := ⟨3, ![8, 4, 6144]⟩
abbrev S8x1x6144 : Shape := ⟨3, ![8, 1, 6144]⟩
abbrev S8x3x6144 : Shape := ⟨3, ![8, 3, 6144]⟩
abbrev S8x8x6144 : Shape := ⟨3, ![8, 8, 6144]⟩
abbrev S64x1024 : Shape := ⟨2, ![64, 1024]⟩
abbrev S64x6144 : Shape := ⟨2, ![64, 6144]⟩
abbrev S64x768 : Shape := ⟨2, ![64, 768]⟩
abbrev S1x1024 : Shape := ⟨2, ![1, 1024]⟩
abbrev S1024x768 : Shape := ⟨2, ![1024, 768]⟩
abbrev S1x6144 : Shape := ⟨2, ![1, 6144]⟩
abbrev S64x1 : Shape := ⟨2, ![64, 1]⟩

abbrev nBuf : Space → Nat
  | .hbm => 42
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S32x6144, .f32⟩
  | .hbm, ⟨5, _⟩ => ⟨S8x6144, .f32⟩
  | .hbm, ⟨6, _⟩ => ⟨S_, .i32⟩
  | .hbm, ⟨7, _⟩ => ⟨S8x4x1024, .f32⟩
  | .hbm, ⟨8, _⟩ => ⟨S8x1x1024, .f32⟩
  | .hbm, ⟨9, _⟩ => ⟨S_, .f32⟩
  | .hbm, ⟨10, _⟩ => ⟨S8x3x1024, .f32⟩
  | .hbm, ⟨11, _⟩ => ⟨S8x8x1024, .f32⟩
  | .hbm, ⟨12, _⟩ => ⟨S8x4x6144, .f32⟩
  | .hbm, ⟨13, _⟩ => ⟨S8x1x6144, .f32⟩
  | .hbm, ⟨14, _⟩ => ⟨S_, .f32⟩
  | .hbm, ⟨15, _⟩ => ⟨S8x3x6144, .f32⟩
  | .hbm, ⟨16, _⟩ => ⟨S8x8x6144, .f32⟩
  | .hbm, ⟨17, _⟩ => ⟨S8x8x1024, .f32⟩
  | .hbm, ⟨18, _⟩ => ⟨S8x8x1024, .f32⟩
  | .hbm, ⟨19, _⟩ => ⟨S_, .f32⟩
  | .hbm, ⟨20, _⟩ => ⟨S8x8x1024, .f32⟩
  | .hbm, ⟨21, _⟩ => ⟨S8x8x1024, .f32⟩
  | .hbm, ⟨22, _⟩ => ⟨S_, .f32⟩
  | .hbm, ⟨23, _⟩ => ⟨S8x8x1024, .f32⟩
  | .hbm, ⟨24, _⟩ => ⟨S8x8x1024, .f32⟩
  | .hbm, ⟨25, _⟩ => ⟨S8x8x1024, .f32⟩
  | .hbm, ⟨26, _⟩ => ⟨S64x1024, .f32⟩
  | .hbm, ⟨27, _⟩ => ⟨S64x6144, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x768, .f32⟩
  | .hbm, ⟨37, _⟩ => ⟨S1x1024, .f32⟩
  | .hbm, ⟨38, _⟩ => ⟨S1024x6144, .bf16⟩
  | .hbm, ⟨39, _⟩ => ⟨S1024x768, .f32⟩
  | .hbm, ⟨40, _⟩ => ⟨S1x6144, .f32⟩
  | .hbm, ⟨41, _⟩ => ⟨S1x1024, .f32⟩
  | .local _ .vmem, ⟨0, _⟩ => ⟨S64x1024, .f32⟩
  | .local _ .vmem, ⟨1, _⟩ => ⟨S64x6144, .f32⟩
  | .local _ .vmem, ⟨2, _⟩ => ⟨S64x768, .f32⟩
  | .local _ .vmem, ⟨3, _⟩ => ⟨S1x1024, .f32⟩
  | .local _ .vmem, ⟨4, _⟩ => ⟨S1024x6144, .bf16⟩
  | .local _ .vmem, ⟨5, _⟩ => ⟨S1024x768, .f32⟩
  | .local _ .vmem, ⟨6, _⟩ => ⟨S1x6144, .f32⟩
  | .local _ .vmem, ⟨7, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S32x1024 : Shape := ⟨2, ![32, 1024]⟩
abbrev S1024 : Shape := ⟨1, ![1024]⟩
abbrev S1024x6144 : Shape := ⟨2, ![1024, 6144]⟩
abbrev S6144 : Shape := ⟨1, ![6144]⟩
abbrev S32x6144 : Shape := ⟨2, ![32, 6144]⟩
abbrev S8x6144 : Shape := ⟨2, ![8, 6144]⟩
abbrev S_ : Shape := ⟨0, ![]⟩
abbrev S1x6144 : Shape := ⟨2, ![1, 6144]⟩
abbrev S1x1024 : Shape := ⟨2, ![1, 1024]⟩
abbrev S6144x1024 : Shape := ⟨2, ![6144, 1024]⟩
abbrev S1024x768 : Shape := ⟨2, ![1024, 768]⟩

abbrev nBuf : Space → Nat
  | .hbm => 72
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S32x6144, .f32⟩
  | .hbm, ⟨5, _⟩ => ⟨S8x6144, .f32⟩
  | .hbm, ⟨6, _⟩ => ⟨S_, .i32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x6144, .f32⟩
  | .hbm, ⟨17, _⟩ => ⟨S1x6144, .f32⟩
  | .hbm, ⟨18, _⟩ => ⟨S32x6144, .f32⟩
  | .hbm, ⟨19, _⟩ => ⟨S32x6144, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x6144, .f32⟩
  | .hbm, ⟨35, _⟩ => ⟨S1x6144, .f32⟩
  | .hbm, ⟨36, _⟩ => ⟨S1x6144, .f32⟩
  | .hbm, ⟨37, _⟩ => ⟨S_, .f32⟩
  | .hbm, ⟨38, _⟩ => ⟨S6144, .f32⟩
  | .hbm, ⟨39, _⟩ => ⟨S1x6144, .f32⟩
  | .hbm, ⟨40, _⟩ => ⟨S_, .f32⟩
  | .hbm, ⟨41, _⟩ => ⟨S6144, .f32⟩
  | .hbm, ⟨42, _⟩ => ⟨S6144x1024, .f32⟩
  | .hbm, ⟨43, _⟩ => ⟨S1024x6144, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S32x6144, .f32⟩
  | .hbm, ⟨52, _⟩ => ⟨S_, .f32⟩
  | .hbm, ⟨53, _⟩ => ⟨S6144, .f32⟩
  | .hbm, ⟨54, _⟩ => ⟨S1x6144, .f32⟩
  | .hbm, ⟨55, _⟩ => ⟨S_, .f32⟩
  | .hbm, ⟨56, _⟩ => ⟨S6144, .f32⟩
  | .hbm, ⟨57, _⟩ => ⟨S6144, .f32⟩
  | .hbm, ⟨58, _⟩ => ⟨S6144x1024, .f32⟩
  | .hbm, ⟨59, _⟩ => ⟨S1024x6144, .f32⟩
  | .hbm, ⟨60, _⟩ => ⟨S1024x6144, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1024x768, .f32⟩
  | .hbm, ⟨70, _⟩ => ⟨S1x6144, .f32⟩
  | .hbm, ⟨71, _⟩ => ⟨S1x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v6_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v6_1 : Ref sig .tc := ⟨.hbm, 32, rfl⟩
abbrev main_v6_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c : Ref sig .tc := ⟨.hbm, 61, rfl⟩
abbrev main_v26 : Ref sig .tc := ⟨.hbm, 62, rfl⟩
abbrev main_c_4 : Ref sig .tc := ⟨.hbm, 63, rfl⟩
abbrev main_v27 : Ref sig .tc := ⟨.hbm, 64, rfl⟩
abbrev main_c_5 : Ref sig .tc := ⟨.hbm, 65, rfl⟩
abbrev main_v28 : Ref sig .tc := ⟨.hbm, 66, rfl⟩
abbrev main_v29 : Ref sig .tc := ⟨.hbm, 67, rfl⟩
abbrev main_c_6 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩

abbrev nD : Nat := 1
abbrev τ : Topo := Topo.v7x

variable {F : FTy → Type} [FloatOps F]
-- ==== Kernel2.lean ====
abbrev S4x2304x2976 : Shape := ⟨3, ![4, 2304, 2976]⟩
abbrev S4x256x1024 : Shape := ⟨3, ![4, 256, 1024]⟩
abbrev S4x2048x1024 : Shape := ⟨3, ![4, 2048, 1024]⟩
abbrev S2x1024 : Shape := ⟨2, ![2, 1024]⟩
abbrev S4x2x1024 : Shape := ⟨3, ![4, 2, 1024]⟩
abbrev S1x1024 : Shape := ⟨2, ![1, 1024]⟩
abbrev S1024x2976 : Shape := ⟨2, ![1024, 2976]⟩
abbrev S1x1952 : Shape := ⟨2, ![1, 1952]⟩
abbrev S1024x1536 : Shape := ⟨2, ![1024, 1536]⟩
abbrev S1024x128 : Shape := ⟨2, ![1024, 128]⟩
abbrev S1024x160 : Shape := ⟨2, ![1024, 160]⟩
abbrev S_ : Shape := ⟨0, ![]⟩
abbrev S1024x96 : Shape := ⟨2, ![1024, 96]⟩
abbrev S1024x1024 : Shape := ⟨2, ![1024, 1024]⟩
abbrev S1024x3072 : Shape := ⟨2, ![1024, 3072]⟩
abbrev S1x1536 : Shape := ⟨2, ![1, 1536]⟩
abbrev S1x128 : Shape := ⟨2, ![1, 128]⟩
abbrev S1x160 : Shape := ⟨2, ![1, 160]⟩
abbrev S1x96 : Shape := ⟨2, ![1, 96]⟩
abbrev S1x2048 : Shape := ⟨2, ![1, 2048]⟩
abbrev S1x1x2x1024 : Shape := ⟨4, ![1, 1, 2, 1024]⟩
abbrev S4x1x2x1024 : Shape := ⟨4, ![4, 1, 2, 1024]⟩
abbrev S4x8x2x1024 : Shape := ⟨4, ![4, 8, 2, 1024]⟩
abbrev S4x9x2x1024 : Shape := ⟨4, ![4, 9, 2, 1024]⟩
abbrev S4x2304x1536 : Shape := ⟨3, ![4, 2304, 1536]⟩
abbrev S4x2304x128 : Shape := ⟨3, ![4, 2304, 128]⟩
abbrev S4x2304x160 : Shape := ⟨3, ![4, 2304, 160]⟩
abbrev S4x2304x96 : Shape := ⟨3, ![4, 2304, 96]⟩
abbrev S4x2304x1024 : Shape := ⟨3, ![4, 2304, 1024]⟩
abbrev S4x2304x3072 : Shape := ⟨3, ![4, 2304, 3072]⟩
abbrev S1x256x3072 : Shape := ⟨3, ![1, 256, 3072]⟩
abbrev S1x8x2048 : Shape := ⟨3, ![1, 8, 2048]⟩
abbrev S1x256x1024 : Shape := ⟨3, ![1, 256, 1024]⟩
abbrev S256x1024 : Shape := ⟨2, ![256, 1024]⟩
abbrev S1x256x2048 : Shape := ⟨3, ![1, 256, 2048]⟩
abbrev S256x2048 : Shape := ⟨2, ![256, 2048]⟩
abbrev S1x1x2048 : Shape := ⟨3, ![1, 1, 2048]⟩
abbrev S256x1 : Shape := ⟨2, ![256, 1]⟩
abbrev S256x3072 : Shape := ⟨2, ![256, 3072]⟩
abbrev S1x1x1x1024 : Shape := ⟨4, ![1, 1, 1, 1024]⟩
abbrev S256 : Shape := ⟨1, ![256]⟩
abbrev S1024 : Shape := ⟨1, ![1024]⟩

abbrev nBuf : Space → Nat
  | .hbm => 50
  | .vmem => 25
  | .smem => 0
  | _ => 0

abbrev bufTy : (tb : Table) → Fin (tcTables nBuf tb) → BufTy
  | .hbm, ⟨0, _⟩ => ⟨S4x2304x2976, .f32⟩
  | .hbm, ⟨1, _⟩ => ⟨S4x256x1024, .f32⟩
  | .hbm, ⟨2, _⟩ => ⟨S4x2048x1024, .f32⟩
  | .hbm, ⟨3, _⟩ => ⟨S2x1024, .f32⟩
  | .hbm, ⟨4, _⟩ => ⟨S4x2x1024, .f32⟩
  | .hbm, ⟨5, _⟩ => ⟨S1x1024, .f32⟩
  | .hbm, ⟨6, _⟩ => ⟨S1024x2976, .f32⟩
  | .hbm, ⟨7, _⟩ => ⟨S1x1952, .f32⟩
  | .hbm, ⟨8, _⟩ => ⟨S1x1952, .f32⟩
  | .hbm, ⟨9, _⟩ => ⟨S4x2048x1024, .f32⟩
  | .hbm, ⟨10, _⟩ => ⟨S1024x1536, .f32⟩
  | .hbm, ⟨11, _⟩ => ⟨S1024x128, .f32⟩
  | .hbm, ⟨12, _⟩ => ⟨S1024x128, .f32⟩
  | .hbm, ⟨13, _⟩ => ⟨S1024x160, .f32⟩
  | .hbm, ⟨14, _⟩ => ⟨S_, .f32⟩
  | .hbm, ⟨15, _⟩ => ⟨S1024x96, .f32⟩
  | .hbm, ⟨16, _⟩ => ⟨S1024x1024, .f32⟩
  | .hbm, ⟨17, _⟩ => ⟨S1024x3072, .f32⟩
  | .hbm, ⟨18, _⟩ => ⟨S1024x3072, .bf16⟩
  | .hbm, ⟨19, _⟩ => ⟨S1x1536, .f32⟩
  | .hbm, ⟨20, _⟩ => ⟨S1x128, .f32⟩
  | .hbm, ⟨21, _⟩ => ⟨S1x128, .f32⟩
  | .hbm, ⟨22, _⟩ => ⟨S1x160, .f32⟩
  | .hbm, ⟨23, _⟩ => ⟨S_, .f32⟩
  | .hbm, ⟨24, _⟩ => ⟨S1x96, .f32⟩
  | .hbm, ⟨25, _⟩ => ⟨S1x2048, .f32⟩
  | .hbm, ⟨26, _⟩ => ⟨S1x1536, .f32⟩
  | .hbm, ⟨27, _⟩ => ⟨S1x128, .f32⟩
  | .hbm, ⟨28, _⟩ => ⟨S1x128, .f32⟩
  | .hbm, ⟨29, _⟩ => ⟨S1x160, .f32⟩
  | .hbm, ⟨30, _⟩ => ⟨S_, .f32⟩
  | .hbm, ⟨31, _⟩ => ⟨S1x96, .f32⟩
  | .hbm, ⟨32, _⟩ => ⟨S1x2048, .f32⟩
  | .hbm, ⟨33, _⟩ => ⟨S1x1x2x1024, .f32⟩
  | .hbm, ⟨34, _⟩ => ⟨S4x1x2x1024, .f32⟩
  | .hbm, ⟨35, _⟩ => ⟨S4x1x2x1024, .f32⟩
  | .hbm, ⟨36, _⟩ => ⟨S4x8x2x1024, .f32⟩
  | .hbm, ⟨37, _⟩ => ⟨S4x9x2x1024, .f32⟩
  | .hbm, ⟨38, _⟩ => ⟨S4x2304x1536, .f32⟩
  | .hbm, ⟨39, _⟩ => ⟨S4x2304x128, .f32⟩
  | .hbm, ⟨40, _⟩ => ⟨S4x2304x128, .f32⟩
  | .hbm, ⟨41, _⟩ => ⟨S4x2304x160, .f32⟩
  | .hbm, ⟨42, _⟩ => ⟨S_, .f32⟩
  | .hbm, ⟨43, _⟩ => ⟨S4x2304x96, .f32⟩
  | .hbm, ⟨44, _⟩ => ⟨S4x2304x1024, .f32⟩
  | .hbm, ⟨45, _⟩ => ⟨S4x2304x3072, .f32⟩
  | .hbm, ⟨46, _⟩ => ⟨S4x2048x1024, .f32⟩
  | .hbm, ⟨47, _⟩ => ⟨S4x2304x3072, .bf16⟩
  | .hbm, ⟨48, _⟩ => ⟨S4x9x2x1024, .f32⟩
  | .hbm, ⟨49, _⟩ => ⟨S1x1024, .f32⟩
  | .local _ .vmem, ⟨0, _⟩ => ⟨S1x256x3072, .f32⟩
  | .local _ .vmem, ⟨1, _⟩ => ⟨S1x256x3072, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x2x1024, .f32⟩
  | .local _ .vmem, ⟨11, _⟩ => ⟨S1x1x2x1024, .f32⟩
  | .local _ .vmem, ⟨12, _⟩ => ⟨S1x1024, .f32⟩
  | .local _ .vmem, ⟨13, _⟩ => ⟨S1024x3072, .bf16⟩
  | .local _ .vmem, ⟨14, _⟩ => ⟨S1x2048, .f32⟩
  | .local _ .vmem, ⟨15, _⟩ => ⟨S1x2048, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x3072, .bf16⟩
  | .local _ .vmem, ⟨21, _⟩ => ⟨S1x256x3072, .bf16⟩
  | .local _ .vmem, ⟨22, _⟩ => ⟨S1x1x2x1024, .f32⟩
  | .local _ .vmem, ⟨23, _⟩ => ⟨S1x1x2x1024, .f32⟩
  | .local _ .vmem, ⟨24, _⟩ => ⟨S1x1024, .f32⟩
  | _, _ => ⟨S4x2304x2976, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_v32_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![4, 9], ![false, false]⟩

def k0_cond3 (i : grid0.Coords) : BitVec 1 :=
  let arg1 : BitVec 32 := BitVec.ofNat 32 (i 1).val
  let c1_i32_54 : BitVec 32 := 1#32
  let v127 : BitVec 1 := Scalar.cmpi .sge arg1 c1_i32_54
  let v128 : BitVec 32 := Scalar.extui v127
  let c0_i32_55 : BitVec 32 := 0#32
  let v129 : BitVec 1 := Scalar.cmpi .ne v128 c0_i32_55
  v129

def k0_cond1 (i : grid0.Coords) : BitVec 1 :=
  let arg0 : BitVec 32 := BitVec.ofNat 32 (i 0).val
  let c0_i32_50 : BitVec 32 := 0#32
  let v119 : BitVec 1 := Scalar.cmpi .eq arg0 c0_i32_50
  let arg1 : BitVec 32 := BitVec.ofNat 32 (i 1).val
  let c0_i32_51 : BitVec 32 := 0#32
  let v120 : BitVec 1 := Scalar.cmpi .eq arg1 c0_i32_51
  let v121 : BitVec 1 := Scalar.andi v119 v120
  let v122 : BitVec 32 := Scalar.extui v121
  let c0_i32_52 : BitVec 32 := 0#32
  let v123 : BitVec 1 := Scalar.cmpi .ne v122 c0_i32_52
  v123

def k0_cond2 (i : grid0.Coords) : BitVec 1 :=
  let arg0 : BitVec 32 := BitVec.ofNat 32 (i 0).val
  let c0_i32_50 : BitVec 32 := 0#32
  let v119 : BitVec 1 := Scalar.cmpi .eq arg0 c0_i32_50
  let arg1 : BitVec 32 := BitVec.ofNat 32 (i 1).val
  let c0_i32_51 : BitVec 32 := 0#32
  let v120 : BitVec 1 := Scalar.cmpi .eq arg1 c0_i32_51
  let v121 : BitVec 1 := Scalar.andi v119 v120
  let v_true : BitVec 1 := 1#1
  let v124 : BitVec 1 := Scalar.xori v121 v_true
  let v125 : BitVec 32 := Scalar.extui v124
  let c0_i32_53 : BitVec 32 := 0#32
  let v126 : BitVec 1 := Scalar.cmpi .ne v125 c0_i32_53
  v126

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference2Ideal.lean ====
abbrev S4x2304x2976 : Shape := ⟨3, ![4, 2304, 2976]⟩
abbrev S4x256x1024 : Shape := ⟨3, ![4, 256, 1024]⟩
abbrev S4x2048x1024 : Shape := ⟨3, ![4, 2048, 1024]⟩
abbrev S2x1024 : Shape := ⟨2, ![2, 1024]⟩
abbrev S4x2x1024 : Shape := ⟨3, ![4, 2, 1024]⟩
abbrev S1x1024 : Shape := ⟨2, ![1, 1024]⟩
abbrev S1024x2976 : Shape := ⟨2, ![1024, 2976]⟩
abbrev S1x1952 : Shape := ⟨2, ![1, 1952]⟩
abbrev S4x1x2x1024 : Shape := ⟨4, ![4, 1, 2, 1024]⟩
abbrev S4x8x2x1024 : Shape := ⟨4, ![4, 8, 2, 1024]⟩
abbrev S4x9x2x1024 : Shape := ⟨4, ![4, 9, 2, 1024]⟩
abbrev S_ : Shape := ⟨0, ![]⟩
abbrev S4x2304x1952 : Shape := ⟨3, ![4, 2304, 1952]⟩
abbrev S4x256x1952 : Shape := ⟨3, ![4, 256, 1952]⟩
abbrev S1952 : Shape := ⟨1, ![1952]⟩
abbrev S4x1x1952 : Shape := ⟨3, ![4, 1, 1952]⟩
abbrev S4x258x1952 : Shape := ⟨3, ![4, 258, 1952]⟩
abbrev S1x1x1952 : Shape := ⟨3, ![1, 1, 1952]⟩
abbrev S4x2048x1952 : Shape := ⟨3, ![4, 2048, 1952]⟩
abbrev S4x2050x1952 : Shape := ⟨3, ![4, 2050, 1952]⟩
abbrev S4x2304x1024 : Shape := ⟨3, ![4, 2304, 1024]⟩
abbrev S2976x1024 : Shape := ⟨2, ![2976, 1024]⟩
abbrev S1024 : Shape := ⟨1, ![1024]⟩
abbrev S4x9x256x1024 : Shape := ⟨4, ![4, 9, 256, 1024]⟩
abbrev S4x9x256 : Shape := ⟨3, ![4, 9, 256]⟩
abbrev S4x9x256x1 : Shape := ⟨4, ![4, 9, 256, 1]⟩
abbrev S1x1x1x1024 : Shape := ⟨4, ![1, 1, 1, 1024]⟩
abbrev S4x9x1x1024 : Shape := ⟨4, ![4, 9, 1, 1024]⟩
abbrev S4x9x1024 : Shape := ⟨3, ![4, 9, 1024]⟩
abbrev S4x2304x96 : Shape := ⟨3, ![4, 2304, 96]⟩
abbrev S4x2304x3072 : Shape := ⟨3, ![4, 2304, 3072]⟩

abbrev nBuf : Space → Nat
  | .hbm => 203
  | .vmem => 0
  | .smem => 0
  | _ => 0

abbrev hbmTy0_0 (i : Nat) : BufTy := match i % 128 with
  | 0 => ⟨S4x2304x2976, .f32⟩
  | 1 => ⟨S4x256x1024, .f32⟩
  | 2 => ⟨S4x2048x1024, .f32⟩
  | 3 => ⟨S2x1024, .f32⟩
  | 4 => ⟨S4x2x1024, .f32⟩
  | 5 => ⟨S1x1024, .f32⟩
  | 6 => ⟨S1024x2976, .f32⟩
  | 7 => ⟨S1x1952, .f32⟩
  | 8 => ⟨S1x1952, .f32⟩
  | 9 => ⟨S4x2048x1024, .f32⟩
  | 10 => ⟨S4x1x2x1024, .f32⟩
  | 11 => ⟨S4x1x2x1024, .f32⟩
  | 12 => ⟨S4x8x2x1024, .f32⟩
  | 13 => ⟨S4x9x2x1024, .f32⟩
  | 14 => ⟨S_, .f32⟩
  | 15 => ⟨S4x2304x1952, .f32⟩
  | 16 => ⟨S4x256x1952, .f32⟩
  | 17 => ⟨S1952, .f32⟩
  | 18 => ⟨S1952, .f32⟩
  | 19 => ⟨S4x1x1952, .f32⟩
  | 20 => ⟨S_, .f32⟩
  | 21 => ⟨S4x1x1952, .f32⟩
  | 22 => ⟨S4x258x1952, .f32⟩
  | 23 => ⟨S_, .f32⟩
  | 24 => ⟨S4x1x1952, .f32⟩
  | 25 => ⟨S_, .f32⟩
  | 26 => ⟨S4x1x1952, .f32⟩
  | 27 => ⟨S4x256x1952, .f32⟩
  | 28 => ⟨S4x256x1952, .f32⟩
  | 29 => ⟨S1x1x1952, .f32⟩
  | 30 => ⟨S4x256x1952, .f32⟩
  | 31 => ⟨S4x256x1952, .f32⟩
  | 32 => ⟨S4x256x1952, .f32⟩
  | 33 => ⟨S4x256x1952, .f32⟩
  | 34 => ⟨S4x256x1952, .f32⟩
  | 35 => ⟨S1x1x1952, .f32⟩
  | 36 => ⟨S4x256x1952, .f32⟩
  | 37 => ⟨S4x256x1952, .f32⟩
  | 38 => ⟨S4x256x1952, .f32⟩
  | 39 => ⟨S4x2048x1952, .f32⟩
  | 40 => ⟨S1952, .f32⟩
  | 41 => ⟨S1952, .f32⟩
  | 42 => ⟨S4x1x1952, .f32⟩
  | 43 => ⟨S_, .f32⟩
  | 44 => ⟨S4x1x1952, .f32⟩
  | 45 => ⟨S4x2050x1952, .f32⟩
  | 46 => ⟨S_, .f32⟩
  | 47 => ⟨S4x1x1952, .f32⟩
  | 48 => ⟨S_, .f32⟩
  | 49 => ⟨S4x1x1952, .f32⟩
  | 50 => ⟨S4x2048x1952, .f32⟩
  | 51 => ⟨S4x2048x1952, .f32⟩
  | 52 => ⟨S1x1x1952, .f32⟩
  | 53 => ⟨S4x2048x1952, .f32⟩
  | 54 => ⟨S4x2048x1952, .f32⟩
  | 55 => ⟨S4x2048x1952, .f32⟩
  | 56 => ⟨S4x2048x1952, .f32⟩
  | 57 => ⟨S4x2048x1952, .f32⟩
  | 58 => ⟨S1x1x1952, .f32⟩
  | 59 => ⟨S4x2048x1952, .f32⟩
  | 60 => ⟨S4x2048x1952, .f32⟩
  | 61 => ⟨S4x2048x1952, .f32⟩
  | 62 => ⟨S4x2304x1952, .f32⟩
  | 63 => ⟨S4x2304x1952, .f32⟩
  | 64 => ⟨S4x256x1952, .f32⟩
  | 65 => ⟨S4x2048x1952, .f32⟩
  | 66 => ⟨S4x2048x1952, .f32⟩
  | 67 => ⟨S4x2048x1952, .f32⟩
  | 68 => ⟨S4x2048x1952, .f32⟩
  | 69 => ⟨S_, .f32⟩
  | 70 => ⟨S4x2050x1952, .f32⟩
  | 71 => ⟨S4x2048x1952, .f32⟩
  | 72 => ⟨S4x2048x1952, .f32⟩
  | 73 => ⟨S4x2048x1952, .f32⟩
  | 74 => ⟨S4x2048x1952, .f32⟩
  | 75 => ⟨S4x2048x1952, .f32⟩
  | 76 => ⟨S_, .f32⟩
  | 77 => ⟨S4x2050x1952, .f32⟩
  | 78 => ⟨S4x2050x1952, .f32⟩
  | 79 => ⟨S4x1x1952, .f32⟩
  | 80 => ⟨S4x2048x1952, .f32⟩
  | 81 => ⟨S4x1x1952, .f32⟩
  | 82 => ⟨S4x2048x1952, .f32⟩
  | 83 => ⟨S_, .f32⟩
  | 84 => ⟨S4x2304x1952, .f32⟩
  | 85 => ⟨S4x256x1952, .f32⟩
  | 86 => ⟨S4x256x1952, .f32⟩
  | 87 => ⟨S4x256x1952, .f32⟩
  | 88 => ⟨S_, .f32⟩
  | 89 => ⟨S4x258x1952, .f32⟩
  | 90 => ⟨S4x256x1952, .f32⟩
  | 91 => ⟨S4x256x1952, .f32⟩
  | 92 => ⟨S4x256x1952, .f32⟩
  | 93 => ⟨S4x256x1952, .f32⟩
  | 94 => ⟨S4x256x1952, .f32⟩
  | 95 => ⟨S_, .f32⟩
  | 96 => ⟨S4x258x1952, .f32⟩
  | 97 => ⟨S4x258x1952, .f32⟩
  | 98 => ⟨S4x1x1952, .f32⟩
  | 99 => ⟨S4x256x1952, .f32⟩
  | 100 => ⟨S4x1x1952, .f32⟩
  | 101 => ⟨S4x256x1952, .f32⟩
  | 102 => ⟨S_, .f32⟩
  | 103 => ⟨S4x2304x1952, .f32⟩
  | 104 => ⟨S4x2304x1952, .f32⟩
  | 105 => ⟨S4x2304x1024, .f32⟩
  | 106 => ⟨S4x2304x2976, .f32⟩
  | 107 => ⟨S2976x1024, .f32⟩
  | 108 => ⟨S4x2304x1024, .f32⟩
  | 109 => ⟨S1024, .f32⟩
  | 110 => ⟨S4x2304x1024, .f32⟩
  | 111 => ⟨S_, .f32⟩
  | 112 => ⟨S4x256x1024, .f32⟩
  | 113 => ⟨S4x9x256x1024, .f32⟩
  | 114 => ⟨S4x9x256x1024, .f32⟩
  | 115 => ⟨S_, .f32⟩
  | 116 => ⟨S4x9x256, .f32⟩
  | 117 => ⟨S4x9x256x1, .f32⟩
  | 118 => ⟨S_, .f32⟩
  | 119 => ⟨S4x9x256x1, .f32⟩
  | 120 => ⟨S4x9x256x1, .f32⟩
  | 121 => ⟨S_, .f32⟩
  | 122 => ⟨S4x9x256x1, .f32⟩
  | 123 => ⟨S4x9x256x1, .f32⟩
  | 124 => ⟨S4x9x256x1, .f32⟩
  | 125 => ⟨S4x9x256x1, .f32⟩
  | 126 => ⟨S_, .f32⟩
  | 127 => ⟨S4x9x256x1, .f32⟩
  | _ => ⟨S4x2304x2976, .f32⟩

abbrev hbmTy0_1 (i : Nat) : BufTy := match i % 128 with
  | 0 => ⟨S4x9x256x1, .f32⟩
  | 1 => ⟨S4x9x256x1024, .f32⟩
  | 2 => ⟨S4x9x256x1024, .f32⟩
  | 3 => ⟨S1x1x1x1024, .f32⟩
  | 4 => ⟨S4x9x256x1024, .f32⟩
  | 5 => ⟨S4x9x256x1024, .f32⟩
  | 6 => ⟨S4x9x1x1024, .f32⟩
  | 7 => ⟨S4x9x1024, .f32⟩
  | 8 => ⟨S4x9x1x1024, .f32⟩
  | 9 => ⟨S4x9x1x1024, .f32⟩
  | 10 => ⟨S4x9x1024, .f32⟩
  | 11 => ⟨S4x9x1x1024, .f32⟩
  | 12 => ⟨S_, .f32⟩
  | 13 => ⟨S4x9x1x1024, .f32⟩
  | 14 => ⟨S4x9x1x1024, .f32⟩
  | 15 => ⟨S4x9x256x1024, .f32⟩
  | 16 => ⟨S4x9x256x1024, .f32⟩
  | 17 => ⟨S4x9x256x1024, .f32⟩
  | 18 => ⟨S4x9x256x1024, .f32⟩
  | 19 => ⟨S4x9x256x1024, .f32⟩
  | 20 => ⟨S_, .f32⟩
  | 21 => ⟨S4x9x1024, .f32⟩
  | 22 => ⟨S4x9x1x1024, .f32⟩
  | 23 => ⟨S4x9x256x1024, .f32⟩
  | 24 => ⟨S_, .f32⟩
  | 25 => ⟨S4x9x1024, .f32⟩
  | 26 => ⟨S4x9x1x1024, .f32⟩
  | 27 => ⟨S4x9x256x1024, .f32⟩
  | 28 => ⟨S4x9x256x1024, .f32⟩
  | 29 => ⟨S_, .f32⟩
  | 30 => ⟨S4x9x1024, .f32⟩
  | 31 => ⟨S4x9x1x1024, .f32⟩
  | 32 => ⟨S_, .f32⟩
  | 33 => ⟨S4x9x2x1024, .f32⟩
  | 34 => ⟨S_, .f32⟩
  | 35 => ⟨S4x9x1024, .f32⟩
  | 36 => ⟨S4x9x1x1024, .f32⟩
  | 37 => ⟨S_, .f32⟩
  | 38 => ⟨S4x9x2x1024, .f32⟩
  | 39 => ⟨S4x9x2x1024, .f32⟩
  | 40 => ⟨S4x9x256x1024, .f32⟩
  | 41 => ⟨S_, .f32⟩
  | 42 => ⟨S1024, .f32⟩
  | 43 => ⟨S1x1x1x1024, .f32⟩
  | 44 => ⟨S4x9x256x1024, .f32⟩
  | 45 => ⟨S4x9x256x1024, .f32⟩
  | 46 => ⟨S_, .f32⟩
  | 47 => ⟨S1024, .f32⟩
  | 48 => ⟨S4x9x256x1024, .f32⟩
  | 49 => ⟨S_, .f32⟩
  | 50 => ⟨S4x9x256, .f32⟩
  | 51 => ⟨S4x9x256x1, .f32⟩
  | 52 => ⟨S4x9x256x1024, .f32⟩
  | 53 => ⟨S4x9x256x1024, .f32⟩
  | 54 => ⟨S4x9x256x1, .f32⟩
  | 55 => ⟨S_, .f32⟩
  | 56 => ⟨S4x9x256x1, .f32⟩
  | 57 => ⟨S4x9x256x1, .f32⟩
  | 58 => ⟨S_, .f32⟩
  | 59 => ⟨S4x9x256, .f32⟩
  | 60 => ⟨S4x9x256x1024, .f32⟩
  | 61 => ⟨S4x9x256x1024, .f32⟩
  | 62 => ⟨S4x9x256x1024, .f32⟩
  | 63 => ⟨S4x9x256x1024, .f32⟩
  | 64 => ⟨S4x9x256x1024, .f32⟩
  | 65 => ⟨S4x2304x1024, .f32⟩
  | 66 => ⟨S4x256x1024, .f32⟩
  | 67 => ⟨S4x2048x1024, .f32⟩
  | 68 => ⟨S4x2048x1024, .f32⟩
  | 69 => ⟨S_, .f32⟩
  | 70 => ⟨S4x2304x96, .f32⟩
  | 71 => ⟨S4x2304x1024, .f32⟩
  | 72 => ⟨S4x2304x3072, .f32⟩
  | 73 => ⟨S4x2304x3072, .bf16⟩
  | 74 => ⟨S1x1024, .f32⟩
  | _ => ⟨S4x2304x2976, .f32⟩

abbrev hbmTy (i : Nat) : BufTy := match i / 128 with
  | 0 => hbmTy0_0 i
  | 1 => hbmTy0_1 i
  | _ => ⟨S4x2304x2976, .f32⟩

abbrev bufTy : (tb : Table) → Fin (tcTables nBuf tb) → BufTy
  | .hbm, ⟨i, _⟩ => hbmTy i
  | _, _ => ⟨S4x2304x2976, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_11 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_12 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_13 : Ref sig .tc := ⟨.hbm, 115, rfl⟩
abbrev main_v91 : Ref sig .tc := ⟨.hbm, 116, rfl⟩
abbrev main_v92 : Ref sig .tc := ⟨.hbm, 117, rfl⟩
abbrev main_cst_14 : Ref sig .tc := ⟨.hbm, 118, rfl⟩
abbrev main_v93 : Ref sig .tc := ⟨.hbm, 119, rfl⟩
abbrev main_v94 : Ref sig .tc := ⟨.hbm, 120, rfl⟩
abbrev main_cst_15 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_17 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_18 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_20 : Ref sig .tc := ⟨.hbm, 157, rfl⟩
abbrev main_v126 : Ref sig .tc := ⟨.hbm, 158, rfl⟩
abbrev main_v127 : Ref sig .tc := ⟨.hbm, 159, rfl⟩
abbrev main_cst_21 : Ref sig .tc := ⟨.hbm, 160, rfl⟩
abbrev main_v128 : Ref sig .tc := ⟨.hbm, 161, rfl⟩
abbrev main_cst_22 : Ref sig .tc := ⟨.hbm, 162, rfl⟩
abbrev main_v129 : Ref sig .tc := ⟨.hbm, 163, rfl⟩
abbrev main_v130 : Ref sig .tc := ⟨.hbm, 164, rfl⟩
abbrev main_cst_23 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_24 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_25 : Ref sig .tc := ⟨.hbm, 174, rfl⟩
abbrev main_v138 : Ref sig .tc := ⟨.hbm, 175, rfl⟩
abbrev main_v139 : Ref sig .tc := ⟨.hbm, 176, rfl⟩
abbrev main_cst_26 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_27 : Ref sig .tc := ⟨.hbm, 183, rfl⟩
abbrev main_v145 : Ref sig .tc := ⟨.hbm, 184, rfl⟩
abbrev main_v146 : Ref sig .tc := ⟨.hbm, 185, rfl⟩
abbrev main_cst_28 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_29 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x3x1024 : Shape := ⟨3, ![4, 3, 1024]⟩
abbrev S1x1024 : Shape := ⟨2, ![1, 1024]⟩
abbrev S1024x4096 : Shape := ⟨2, ![1024, 4096]⟩
abbrev S4096x1024 : Shape := ⟨2, ![4096, 1024]⟩
abbrev S4x8x8x128 : Shape := ⟨4, ![4, 8, 8, 128]⟩
abbrev S4x2048x4096 : Shape := ⟨3, ![4, 2048, 4096]⟩
abbrev S1x256x1024 : Shape := ⟨3, ![1, 256, 1024]⟩
abbrev S1x3x1024 : Shape := ⟨3, ![1, 3, 1024]⟩
abbrev S1x1x8x128 : Shape := ⟨4, ![1, 1, 8, 128]⟩
abbrev S1x256x4096 : Shape := ⟨3, ![1, 256, 4096]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x4096 : Shape := ⟨2, ![256, 4096]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩
abbrev S8x128 : Shape := ⟨2, ![8, 128]⟩
abbrev S3x1024 : Shape := ⟨2, ![3, 1024]⟩

abbrev nBuf : Space → Nat
  | .hbm => 18
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x3x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S1024x4096, .bf16⟩
  | .hbm, ⟨8, _⟩ => ⟨S4096x1024, .bf16⟩
  | .hbm, ⟨9, _⟩ => ⟨S4x2048x1024, .f32⟩
  | .hbm, ⟨10, _⟩ => ⟨S4x8x8x128, .f32⟩
  | .hbm, ⟨11, _⟩ => ⟨S4x2048x1024, .bf16⟩
  | .hbm, ⟨12, _⟩ => ⟨S4x2048x4096, .bf16⟩
  | .hbm, ⟨13, _⟩ => ⟨S4x2048x4096, .bf16⟩
  | .hbm, ⟨14, _⟩ => ⟨S4x2048x1024, .bf16⟩
  | .hbm, ⟨15, _⟩ => ⟨S4x3x1024, .f32⟩
  | .hbm, ⟨16, _⟩ => ⟨S1x1024, .f32⟩
  | .hbm, ⟨17, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x1x8x128, .f32⟩
  | .local _ .vmem, ⟨13, _⟩ => ⟨S1x1x8x128, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x4096, .bf16⟩
  | .local _ .vmem, ⟨17, _⟩ => ⟨S1x256x4096, .bf16⟩
  | .local _ .vmem, ⟨18, _⟩ => ⟨S1x256x4096, .bf16⟩
  | .local _ .vmem, ⟨19, _⟩ => ⟨S1x256x4096, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x3x1024, .f32⟩
  | .local _ .vmem, ⟨23, _⟩ => ⟨S1x3x1024, .f32⟩
  | .local _ .vmem, ⟨24, _⟩ => ⟨S1x1024, .f32⟩
  | .local _ .vmem, ⟨25, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v162 : BitVec 1 := Scalar.cmpi .eq arg1 c0_i32
  let v163 : BitVec 32 := Scalar.extui v162
  let c0_i32_74 : BitVec 32 := 0#32
  let v164 : BitVec 1 := Scalar.cmpi .ne v163 c0_i32_74
  v164

def k0_cond2 (i : grid0.Coords) : BitVec 1 :=
  let arg1 : BitVec 32 := BitVec.ofNat 32 (i 1).val
  let c0_i32 : BitVec 32 := 0#32
  let v162 : BitVec 1 := Scalar.cmpi .eq arg1 c0_i32
  let v_true : BitVec 1 := 1#1
  let v165 : BitVec 1 := Scalar.xori v162 v_true
  let v166 : BitVec 32 := Scalar.extui v165
  let c0_i32_75 : BitVec 32 := 0#32
  let v167 : BitVec 1 := Scalar.cmpi .ne v166 c0_i32_75
  v167

def k0_cond3 (i : grid0.Coords) : BitVec 1 :=
  let arg0 : BitVec 32 := BitVec.ofNat 32 (i 0).val
  let c0_i32_76 : BitVec 32 := 0#32
  let v168 : BitVec 1 := Scalar.cmpi .eq arg0 c0_i32_76
  let arg1 : BitVec 32 := BitVec.ofNat 32 (i 1).val
  let c0_i32_77 : BitVec 32 := 0#32
  let v169 : BitVec 1 := Scalar.cmpi .eq arg1 c0_i32_77
  let v170 : BitVec 1 := Scalar.andi v168 v169
  let v171 : BitVec 32 := Scalar.extui v170
  let c0_i32_78 : BitVec 32 := 0#32
  let v172 : BitVec 1 := Scalar.cmpi .ne v171 c0_i32_78
  v172

def k0_cond4 (i : grid0.Coords) : BitVec 1 :=
  let arg0 : BitVec 32 := BitVec.ofNat 32 (i 0).val
  let c0_i32_76 : BitVec 32 := 0#32
  let v168 : BitVec 1 := Scalar.cmpi .eq arg0 c0_i32_76
  let arg1 : BitVec 32 := BitVec.ofNat 32 (i 1).val
  let c0_i32_77 : BitVec 32 := 0#32
  let v169 : BitVec 1 := Scalar.cmpi .eq arg1 c0_i32_77
  let v170 : BitVec 1 := Scalar.andi v168 v169
  let true_79 : BitVec 1 := 1#1
  let v173 : BitVec 1 := Scalar.xori v170 true_79
  let v174 : BitVec 32 := Scalar.extui v173
  let c0_i32_80 : BitVec 32 := 0#32
  let v175 : BitVec 1 := Scalar.cmpi .ne v174 c0_i32_80
  v175

def k0_cond5 (i : grid0.Coords) : BitVec 1 :=
  let arg0 : BitVec 32 := BitVec.ofNat 32 (i 0).val
  let c0_i32_76 : BitVec 32 := 0#32
  let v168 : BitVec 1 := Scalar.cmpi .eq arg0 c0_i32_76
  let arg1 : BitVec 32 := BitVec.ofNat 32 (i 1).val
  let c0_i32_77 : BitVec 32 := 0#32
  let v169 : BitVec 1 := Scalar.cmpi .eq arg1 c0_i32_77
  let v170 : BitVec 1 := Scalar.andi v168 v169
  let v176 : BitVec 32 := Scalar.extui v170
  let c0_i32_81 : BitVec 32 := 0#32
  let v177 : BitVec 1 := Scalar.cmpi .ne v176 c0_i32_81
  v177

def k0_cond6 (i : grid0.Coords) : BitVec 1 :=
  let arg0 : BitVec 32 := BitVec.ofNat 32 (i 0).val
  let c0_i32_76 : BitVec 32 := 0#32
  let v168 : BitVec 1 := Scalar.cmpi .eq arg0 c0_i32_76
  let arg1 : BitVec 32 := BitVec.ofNat 32 (i 1).val
  let c0_i32_77 : BitVec 32 := 0#32
  let v169 : BitVec 1 := Scalar.cmpi .eq arg1 c0_i32_77
  let v170 : BitVec 1 := Scalar.andi v168 v169
  let true_82 : BitVec 1 := 1#1
  let v178 : BitVec 1 := Scalar.xori v170 true_82
  let v179 : BitVec 32 := Scalar.extui v178
  let c0_i32_83 : BitVec 32 := 0#32
  let v180 : BitVec 1 := Scalar.cmpi .ne v179 c0_i32_83
  v180

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference3Ideal.lean ====
abbrev S4x2048x1024 : Shape := ⟨3, ![4, 2048, 1024]⟩
abbrev S4x3x1024 : Shape := ⟨3, ![4, 3, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4x2048x4096 : Shape := ⟨3, ![4, 2048, 4096]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x1024 : Shape := ⟨2, ![4, 1024]⟩
abbrev S4x8x256 : Shape := ⟨3, ![4, 8, 256]⟩
abbrev S4x8 : Shape := ⟨2, ![4, 8]⟩
abbrev S4x8x1x1 : Shape := ⟨4, ![4, 8, 1, 1]⟩
abbrev S4x8x8x128 : Shape := ⟨4, ![4, 8, 8, 128]⟩

abbrev nBuf : Space → Nat
  | .hbm => 217
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x3x1024, .f32⟩
  | 3 => ⟨S1x1024, .f32⟩
  | 4 => ⟨S1x1024, .f32⟩
  | 5 => ⟨S1024x4096, .f32⟩
  | 6 => ⟨S4096x1024, .f32⟩
  | 7 => ⟨S_, .f32⟩
  | 8 => ⟨S4x2048x4096, .f32⟩
  | 9 => ⟨S_, .f32⟩
  | 10 => ⟨S4x2048x1024, .f32⟩
  | 11 => ⟨S1024, .f32⟩
  | 12 => ⟨S4x2048x1024, .f32⟩
  | 13 => ⟨S_, .f32⟩
  | 14 => ⟨S4x2048, .f32⟩
  | 15 => ⟨S4x2048x1, .f32⟩
  | 16 => ⟨S_, .f32⟩
  | 17 => ⟨S4x2048x1, .f32⟩
  | 18 => ⟨S4x2048x1, .f32⟩
  | 19 => ⟨S_, .f32⟩
  | 20 => ⟨S4x2048x1, .f32⟩
  | 21 => ⟨S4x2048x1, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x1024, .f32⟩
  | 28 => ⟨S4x2048x1024, .f32⟩
  | 29 => ⟨S1x1x1024, .f32⟩
  | 30 => ⟨S4x2048x1024, .f32⟩
  | 31 => ⟨S4x2048x1024, .f32⟩
  | 32 => ⟨S4x1x1024, .f32⟩
  | 33 => ⟨S4x1024, .f32⟩
  | 34 => ⟨S4x1x1024, .f32⟩
  | 35 => ⟨S4x1x1024, .f32⟩
  | 36 => ⟨S4x1024, .f32⟩
  | 37 => ⟨S4x1x1024, .f32⟩
  | 38 => ⟨S_, .f32⟩
  | 39 => ⟨S4x1x1024, .f32⟩
  | 40 => ⟨S4x1x1024, .f32⟩
  | 41 => ⟨S4x2048x1024, .f32⟩
  | 42 => ⟨S4x2048x1024, .f32⟩
  | 43 => ⟨S4x2048x1024, .f32⟩
  | 44 => ⟨S4x2048x1024, .f32⟩
  | 45 => ⟨S4x2048x4096, .f32⟩
  | 46 => ⟨S4x2048x4096, .f32⟩
  | 47 => ⟨S_, .f32⟩
  | 48 => ⟨S4x2048x4096, .f32⟩
  | 49 => ⟨S4x2048x4096, .f32⟩
  | 50 => ⟨S_, .f32⟩
  | 51 => ⟨S4x2048x4096, .f32⟩
  | 52 => ⟨S4x2048x4096, .i1⟩
  | 53 => ⟨S_, .f32⟩
  | 54 => ⟨S4x2048x4096, .f32⟩
  | 55 => ⟨S4x2048x4096, .f32⟩
  | 56 => ⟨S_, .f32⟩
  | 57 => ⟨S4x2048x4096, .f32⟩
  | 58 => ⟨S4x2048x4096, .f32⟩
  | 59 => ⟨S4x1x1024, .f32⟩
  | 60 => ⟨S4x1024, .f32⟩
  | 61 => ⟨S4x1x1024, .f32⟩
  | 62 => ⟨S4x2048x1024, .f32⟩
  | 63 => ⟨S4x2048x1024, .f32⟩
  | 64 => ⟨S1024, .f32⟩
  | 65 => ⟨S4x2048x1024, .f32⟩
  | 66 => ⟨S_, .f32⟩
  | 67 => ⟨S4x2048, .f32⟩
  | 68 => ⟨S4x2048x1, .f32⟩
  | 69 => ⟨S_, .f32⟩
  | 70 => ⟨S4x2048x1, .f32⟩
  | 71 => ⟨S4x2048x1, .f32⟩
  | 72 => ⟨S_, .f32⟩
  | 73 => ⟨S4x2048x1, .f32⟩
  | 74 => ⟨S4x2048x1, .f32⟩
  | 75 => ⟨S4x2048x1, .f32⟩
  | 76 => ⟨S4x2048x1, .f32⟩
  | 77 => ⟨S_, .f32⟩
  | 78 => ⟨S4x2048x1, .f32⟩
  | 79 => ⟨S4x2048x1, .f32⟩
  | 80 => ⟨S4x2048x1024, .f32⟩
  | 81 => ⟨S4x2048x1024, .f32⟩
  | 82 => ⟨S1x1x1024, .f32⟩
  | 83 => ⟨S4x2048x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S4x2048x1024, .f32⟩
  | 89 => ⟨S4x2048x1024, .f32⟩
  | 90 => ⟨S_, .f32⟩
  | 91 => ⟨S4x2048x1024, .f32⟩
  | 92 => ⟨S4x2048x1024, .f32⟩
  | 93 => ⟨S_, .f32⟩
  | 94 => ⟨S4x2048, .f32⟩
  | 95 => ⟨S_, .f32⟩
  | 96 => ⟨S4x2048, .f32⟩
  | 97 => ⟨S4x2048, .f32⟩
  | 98 => ⟨S_, .f32⟩
  | 99 => ⟨S4x2048, .f32⟩
  | 100 => ⟨S4x2048, .f32⟩
  | 101 => ⟨S_, .f32⟩
  | 102 => ⟨S4x2048, .f32⟩
  | 103 => ⟨S_, .f32⟩
  | 104 => ⟨S4x2048x1024, .f32⟩
  | 105 => ⟨S_, .f32⟩
  | 106 => ⟨S4x2048x4096, .f32⟩
  | 107 => ⟨S_, .f32⟩
  | 108 => ⟨S4x2048, .f32⟩
  | 109 => ⟨S4x2048, .f32⟩
  | 110 => ⟨S_, .f32⟩
  | 111 => ⟨S4x2048, .f32⟩
  | 112 => ⟨S4x2048, .f32⟩
  | 113 => ⟨S4x2048x1024, .f32⟩
  | 114 => ⟨S4x2048x1024, .f32⟩
  | 115 => ⟨S4x2048x1024, .f32⟩
  | 116 => ⟨S4x2048x1024, .f32⟩
  | 117 => ⟨S4x2048x1024, .f32⟩
  | 118 => ⟨S_, .f32⟩
  | 119 => ⟨S4x1024, .f32⟩
  | 120 => ⟨S4x1x1024, .f32⟩
  | 121 => ⟨S4x2048x1024, .f32⟩
  | 122 => ⟨S_, .f32⟩
  | 123 => ⟨S1024, .f32⟩
  | 124 => ⟨S1x1x1024, .f32⟩
  | 125 => ⟨S4x2048x1024, .f32⟩
  | 126 => ⟨S4x2048x1024, .f32⟩
  | 127 => ⟨S_, .f32⟩
  | _ => ⟨S4x2048x1024, .f32⟩

abbrev hbmTy0_1 (i : Nat) : BufTy := match i % 128 with
  | 0 => ⟨S1024, .f32⟩
  | 1 => ⟨S4x2048x1024, .f32⟩
  | 2 => ⟨S_, .f32⟩
  | 3 => ⟨S4x2048, .f32⟩
  | 4 => ⟨S4x2048x1, .f32⟩
  | 5 => ⟨S4x2048x1024, .f32⟩
  | 6 => ⟨S4x2048x1024, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048, .f32⟩
  | 13 => ⟨S4x2048x1024, .f32⟩
  | 14 => ⟨S4x2048x1024, .f32⟩
  | 15 => ⟨S4x2048x1024, .f32⟩
  | 16 => ⟨S4x2048x1024, .f32⟩
  | 17 => ⟨S4x2048x1024, .f32⟩
  | 18 => ⟨S1x1024, .f32⟩
  | 19 => ⟨S4x2048x4096, .f32⟩
  | 20 => ⟨S4x2048x4096, .f32⟩
  | 21 => ⟨S_, .f32⟩
  | 22 => ⟨S4x1024, .f32⟩
  | 23 => ⟨S4x1x1024, .f32⟩
  | 24 => ⟨S_, .f32⟩
  | 25 => ⟨S4x3x1024, .f32⟩
  | 26 => ⟨S4x2048x4096, .f32⟩
  | 27 => ⟨S_, .f32⟩
  | 28 => ⟨S4x2048x4096, .f32⟩
  | 29 => ⟨S4x2048x4096, .f32⟩
  | 30 => ⟨S4x2048x1024, .f32⟩
  | 31 => ⟨S4x2048x1024, .f32⟩
  | 32 => ⟨S_, .f32⟩
  | 33 => ⟨S4x1024, .f32⟩
  | 34 => ⟨S4x1x1024, .f32⟩
  | 35 => ⟨S4x2048x1024, .f32⟩
  | 36 => ⟨S_, .f32⟩
  | 37 => ⟨S4x1024, .f32⟩
  | 38 => ⟨S4x1x1024, .f32⟩
  | 39 => ⟨S4x2048x1024, .f32⟩
  | 40 => ⟨S4x2048x1024, .f32⟩
  | 41 => ⟨S_, .f32⟩
  | 42 => ⟨S4x1024, .f32⟩
  | 43 => ⟨S4x1x1024, .f32⟩
  | 44 => ⟨S_, .f32⟩
  | 45 => ⟨S4x3x1024, .f32⟩
  | 46 => ⟨S4x3x1024, .f32⟩
  | 47 => ⟨S_, .f32⟩
  | 48 => ⟨S4x1024, .f32⟩
  | 49 => ⟨S4x1x1024, .f32⟩
  | 50 => ⟨S_, .f32⟩
  | 51 => ⟨S4x3x1024, .f32⟩
  | 52 => ⟨S4x3x1024, .f32⟩
  | 53 => ⟨S4x2048x1024, .f32⟩
  | 54 => ⟨S_, .f32⟩
  | 55 => ⟨S1024, .f32⟩
  | 56 => ⟨S1x1x1024, .f32⟩
  | 57 => ⟨S4x2048x1024, .f32⟩
  | 58 => ⟨S4x2048x1024, .f32⟩
  | 59 => ⟨S_, .f32⟩
  | 60 => ⟨S1024, .f32⟩
  | 61 => ⟨S4x2048x1024, .f32⟩
  | 62 => ⟨S_, .f32⟩
  | 63 => ⟨S4x2048, .f32⟩
  | 64 => ⟨S4x2048x1, .f32⟩
  | 65 => ⟨S4x2048x1024, .f32⟩
  | 66 => ⟨S4x2048x1024, .f32⟩
  | 67 => ⟨S4x2048x1024, .f32⟩
  | 68 => ⟨S4x2048x1, .f32⟩
  | 69 => ⟨S_, .f32⟩
  | 70 => ⟨S4x2048x1, .f32⟩
  | 71 => ⟨S4x2048x1, .f32⟩
  | 72 => ⟨S_, .f32⟩
  | 73 => ⟨S4x2048, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1024, .f32⟩
  | 80 => ⟨S4x8x256, .f32⟩
  | 81 => ⟨S_, .f32⟩
  | 82 => ⟨S4x8, .f32⟩
  | 83 => ⟨S4x8x1x1, .f32⟩
  | 84 => ⟨S4x8x8x128, .f32⟩
  | 85 => ⟨S4x2048x1024, .bf16⟩
  | 86 => ⟨S4x2048x4096, .bf16⟩
  | 87 => ⟨S4x2048x4096, .bf16⟩
  | 88 => ⟨S4x2048x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_cst_21 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_22 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_23 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_24 : Ref sig .tc := ⟨.hbm, 127, rfl⟩
abbrev main_v93 : Ref sig .tc := ⟨.hbm, 128, rfl⟩
abbrev main_v94 : Ref sig .tc := ⟨.hbm, 129, rfl⟩
abbrev main_cst_25 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_26 : Ref sig .tc := ⟨.hbm, 136, rfl⟩
abbrev main_v100 : Ref sig .tc := ⟨.hbm, 137, rfl⟩
abbrev main_v101 : Ref sig .tc := ⟨.hbm, 138, rfl⟩
abbrev main_cst_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_28 : Ref sig .tc := ⟨.hbm, 149, rfl⟩
abbrev main_v111 : Ref sig .tc := ⟨.hbm, 150, rfl⟩
abbrev main_v112 : Ref sig .tc := ⟨.hbm, 151, rfl⟩
abbrev main_cst_29 : Ref sig .tc := ⟨.hbm, 152, rfl⟩
abbrev main_v113 : Ref sig .tc := ⟨.hbm, 153, rfl⟩
abbrev main_v114 : Ref sig .tc := ⟨.hbm, 154, rfl⟩
abbrev main_cst_30 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_31 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_32 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_33 : Ref sig .tc := ⟨.hbm, 169, rfl⟩
abbrev main_v126 : Ref sig .tc := ⟨.hbm, 170, rfl⟩
abbrev main_v127 : Ref sig .tc := ⟨.hbm, 171, rfl⟩
abbrev main_cst_34 : Ref sig .tc := ⟨.hbm, 172, rfl⟩
abbrev main_v128 : Ref sig .tc := ⟨.hbm, 173, rfl⟩
abbrev main_v129 : Ref sig .tc := ⟨.hbm, 174, rfl⟩
abbrev main_cst_35 : Ref sig .tc := ⟨.hbm, 175, rfl⟩
abbrev main_v130 : Ref sig .tc := ⟨.hbm, 176, rfl⟩
abbrev main_v131 : Ref sig .tc := ⟨.hbm, 177, rfl⟩
abbrev main_cst_36 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_37 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_38 : Ref sig .tc := ⟨.hbm, 187, rfl⟩
abbrev main_v139 : Ref sig .tc := ⟨.hbm, 188, rfl⟩
abbrev main_v140 : Ref sig .tc := ⟨.hbm, 189, rfl⟩
abbrev main_cst_39 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_40 : Ref sig .tc := ⟨.hbm, 197, rfl⟩
abbrev main_v147 : Ref sig .tc := ⟨.hbm, 198, rfl⟩
abbrev main_v148 : Ref sig .tc := ⟨.hbm, 199, rfl⟩
abbrev main_cst_41 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_42 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩

abbrev nD : Nat := 1
abbrev τ : Topo := Topo.v7x

variable {F : FTy → Type} [FloatOps F]
-- ==== Kernel4.lean ====
abbrev S4x2304x512 : Shape := ⟨3, ![4, 2304, 512]⟩
abbrev S4x2304x160 : Shape := ⟨3, ![4, 2304, 160]⟩
abbrev S4x2048x1024 : Shape := ⟨3, ![4, 2048, 1024]⟩
abbrev S4x1x1024 : Shape := ⟨3, ![4, 1, 1024]⟩
abbrev S8x64 : Shape := ⟨2, ![8, 64]⟩
abbrev S160x512 : Shape := ⟨2, ![160, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S4x2304x96 : Shape := ⟨3, ![4, 2304, 96]⟩
abbrev S4x2304x256 : Shape := ⟨3, ![4, 2304, 256]⟩
abbrev S96x512 : Shape := ⟨2, ![96, 512]⟩
abbrev S256x512 : Shape := ⟨2, ![256, 512]⟩
abbrev S4x2304x4x128 : Shape := ⟨4, ![4, 2304, 4, 128]⟩
abbrev S4x4x2304x128 : Shape := ⟨4, ![4, 4, 2304, 128]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x4x2048x128 : Shape := ⟨4, ![4, 4, 2048, 128]⟩
abbrev S4x2048x256 : Shape := ⟨3, ![4, 2048, 256]⟩
abbrev S4x2048x512 : Shape := ⟨3, ![4, 2048, 512]⟩
abbrev S1x4x256x128 : Shape := ⟨4, ![1, 4, 256, 128]⟩
abbrev S1x256x256 : Shape := ⟨3, ![1, 256, 256]⟩
abbrev S1x256x512 : Shape := ⟨3, ![1, 256, 512]⟩
abbrev S1x256x1024 : Shape := ⟨3, ![1, 256, 1024]⟩
abbrev S1x1x1024 : Shape := ⟨3, ![1, 1, 1024]⟩
abbrev S1x1x256x128 : Shape := ⟨4, ![1, 1, 256, 128]⟩
abbrev S256x128 : Shape := ⟨2, ![256, 128]⟩
abbrev S256x1024 : Shape := ⟨2, ![256, 1024]⟩
abbrev S1024 : Shape := ⟨1, ![1024]⟩
abbrev S512 : Shape := ⟨1, ![512]⟩

abbrev nBuf : Space → Nat
  | .hbm => 60
  | .vmem => 52
  | .smem => 0
  | _ => 0

abbrev bufTy : (tb : Table) → Fin (tcTables nBuf tb) → BufTy
  | .hbm, ⟨0, _⟩ => ⟨S4x2304x512, .f32⟩
  | .hbm, ⟨1, _⟩ => ⟨S4x2304x512, .f32⟩
  | .hbm, ⟨2, _⟩ => ⟨S4x2304x512, .f32⟩
  | .hbm, ⟨3, _⟩ => ⟨S4x2304x512, .f32⟩
  | .hbm, ⟨4, _⟩ => ⟨S4x2304x512, .f32⟩
  | .hbm, ⟨5, _⟩ => ⟨S4x2304x512, .f32⟩
  | .hbm, ⟨6, _⟩ => ⟨S4x2304x160, .f32⟩
  | .hbm, ⟨7, _⟩ => ⟨S4x2304x512, .f32⟩
  | .hbm, ⟨8, _⟩ => ⟨S4x2048x1024, .f32⟩
  | .hbm, ⟨9, _⟩ => ⟨S4x1x1024, .f32⟩
  | .hbm, ⟨10, _⟩ => ⟨S8x64, .f32⟩
  | .hbm, ⟨11, _⟩ => ⟨S160x512, .f32⟩
  | .hbm, ⟨12, _⟩ => ⟨S1x512, .f32⟩
  | .hbm, ⟨13, _⟩ => ⟨S1x512, .f32⟩
  | .hbm, ⟨14, _⟩ => ⟨S1024x1024, .f32⟩
  | .hbm, ⟨15, _⟩ => ⟨S1x1024, .f32⟩
  | .hbm, ⟨16, _⟩ => ⟨S4x2048x1024, .f32⟩
  | .hbm, ⟨17, _⟩ => ⟨S_, .f32⟩
  | .hbm, ⟨18, _⟩ => ⟨S4x2304x96, .f32⟩
  | .hbm, ⟨19, _⟩ => ⟨S4x2304x256, .f32⟩
  | .hbm, ⟨20, _⟩ => ⟨S_, .f32⟩
  | .hbm, ⟨21, _⟩ => ⟨S96x512, .f32⟩
  | .hbm, ⟨22, _⟩ => ⟨S256x512, .f32⟩
  | .hbm, ⟨23, _⟩ => ⟨S4x2304x4x128, .f32⟩
  | .hbm, ⟨24, _⟩ => ⟨S4x4x2304x128, .f32⟩
  | .hbm, ⟨25, _⟩ => ⟨S4x2304x4x128, .f32⟩
  | .hbm, ⟨26, _⟩ => ⟨S4x4x2304x128, .f32⟩
  | .hbm, ⟨27, _⟩ => ⟨S4x2304x4x128, .f32⟩
  | .hbm, ⟨28, _⟩ => ⟨S4x4x2304x128, .f32⟩
  | .hbm, ⟨29, _⟩ => ⟨S4x2304x4x128, .f32⟩
  | .hbm, ⟨30, _⟩ => ⟨S4x4x2304x128, .f32⟩
  | .hbm, ⟨31, _⟩ => ⟨S4x2304x4x128, .f32⟩
  | .hbm, ⟨32, _⟩ => ⟨S4x4x2304x128, .f32⟩
  | .hbm, ⟨33, _⟩ => ⟨S4x2304x4x128, .f32⟩
  | .hbm, ⟨34, _⟩ => ⟨S4x4x2304x128, .f32⟩
  | .hbm, ⟨35, _⟩ => ⟨S1x512, .f32⟩
  | .hbm, ⟨36, _⟩ => ⟨S1024x1024, .bf16⟩
  | .hbm, ⟨37, _⟩ => ⟨S4x64, .i32⟩
  | .hbm, ⟨38, _⟩ => ⟨S256, .i32⟩
  | .hbm, ⟨39, _⟩ => ⟨S256x1, .i32⟩
  | .hbm, ⟨40, _⟩ => ⟨S1x256, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S256x256, .f32⟩
  | .hbm, ⟨45, _⟩ => ⟨S256x256, .bf16⟩
  | .hbm, ⟨46, _⟩ => ⟨S4x4x2048x128, .f32⟩
  | .hbm, ⟨47, _⟩ => ⟨S4x4x2048x128, .f32⟩
  | .hbm, ⟨48, _⟩ => ⟨S4x4x2048x128, .f32⟩
  | .hbm, ⟨49, _⟩ => ⟨S4x4x2048x128, .f32⟩
  | .hbm, ⟨50, _⟩ => ⟨S4x2048x256, .f32⟩
  | .hbm, ⟨51, _⟩ => ⟨S4x2048x512, .f32⟩
  | .hbm, ⟨52, _⟩ => ⟨S4x2048x1024, .bf16⟩
  | .hbm, ⟨53, _⟩ => ⟨S4x2048x1024, .bf16⟩
  | .hbm, ⟨54, _⟩ => ⟨S4x1x1024, .f32⟩
  | .hbm, ⟨55, _⟩ => ⟨S1x1024, .f32⟩
  | .hbm, ⟨56, _⟩ => ⟨S1x512, .f32⟩
  | .hbm, ⟨57, _⟩ => ⟨S256x512, .f32⟩
  | .hbm, ⟨58, _⟩ => ⟨S1x512, .f32⟩
  | .hbm, ⟨59, _⟩ => ⟨S1x512, .f32⟩
  | .local _ .vmem, ⟨0, _⟩ => ⟨S1x4x256x128, .f32⟩
  | .local _ .vmem, ⟨1, _⟩ => ⟨S1x4x256x128, .f32⟩
  | .local _ .vmem, ⟨2, _⟩ => ⟨S1x4x256x128, .f32⟩
  | .local _ .vmem, ⟨3, _⟩ => ⟨S1x4x256x128, .f32⟩
  | .local _ .vmem, ⟨4, _⟩ => ⟨S1x4x256x128, .f32⟩
  | .local _ .vmem, ⟨5, _⟩ => ⟨S1x4x256x128, .f32⟩
  | .local _ .vmem, ⟨6, _⟩ => ⟨S1x4x256x128, .f32⟩
  | .local _ .vmem, ⟨7, _⟩ => ⟨S1x4x256x128, .f32⟩
  | .local _ .vmem, ⟨8, _⟩ => ⟨S1x4x256x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x4x256x128, .f32⟩
  | .local _ .vmem, ⟨12, _⟩ => ⟨S1x256x256, .f32⟩
  | .local _ .vmem, ⟨13, _⟩ => ⟨S1x256x256, .f32⟩
  | .local _ .vmem, ⟨14, _⟩ => ⟨S1x256x512, .f32⟩
  | .local _ .vmem, ⟨15, _⟩ => ⟨S1x256x512, .f32⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x512, .f32⟩
  | .local _ .vmem, ⟨21, _⟩ => ⟨S256x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S1x1024, .f32⟩
  | .local _ .vmem, ⟨26, _⟩ => ⟨S256x256, .bf16⟩
  | .local _ .vmem, ⟨27, _⟩ => ⟨S1x256x1024, .f32⟩
  | .local _ .vmem, ⟨28, _⟩ => ⟨S1x256x1024, .f32⟩
  | .local _ .vmem, ⟨29, _⟩ => ⟨S1x4x256x128, .f32⟩
  | .local _ .vmem, ⟨30, _⟩ => ⟨S1x4x256x128, .f32⟩
  | .local _ .vmem, ⟨31, _⟩ => ⟨S1x4x256x128, .f32⟩
  | .local _ .vmem, ⟨32, _⟩ => ⟨S1x4x256x128, .f32⟩
  | .local _ .vmem, ⟨33, _⟩ => ⟨S1x4x256x128, .f32⟩
  | .local _ .vmem, ⟨34, _⟩ => ⟨S1x4x256x128, .f32⟩
  | .local _ .vmem, ⟨35, _⟩ => ⟨S1x4x256x128, .f32⟩
  | .local _ .vmem, ⟨36, _⟩ => ⟨S1x4x256x128, .f32⟩
  | .local _ .vmem, ⟨37, _⟩ => ⟨S1x256x256, .f32⟩
  | .local _ .vmem, ⟨38, _⟩ => ⟨S1x256x256, .f32⟩
  | .local _ .vmem, ⟨39, _⟩ => ⟨S1x256x512, .f32⟩
  | .local _ .vmem, ⟨40, _⟩ => ⟨S1x256x512, .f32⟩
  | .local _ .vmem, ⟨41, _⟩ => ⟨S1x256x1024, .bf16⟩
  | .local _ .vmem, ⟨42, _⟩ => ⟨S1x256x1024, .bf16⟩
  | .local _ .vmem, ⟨43, _⟩ => ⟨S1x256x1024, .bf16⟩
  | .local _ .vmem, ⟨44, _⟩ => ⟨S1x256x1024, .bf16⟩
  | .local _ .vmem, ⟨45, _⟩ => ⟨S1x1x1024, .f32⟩
  | .local _ .vmem, ⟨46, _⟩ => ⟨S1x1x1024, .f32⟩
  | .local _ .vmem, ⟨47, _⟩ => ⟨S1x1024, .f32⟩
  | .local _ .vmem, ⟨48, _⟩ => ⟨S1x512, .f32⟩
  | .local _ .vmem, ⟨49, _⟩ => ⟨S256x512, .f32⟩
  | .local _ .vmem, ⟨50, _⟩ => ⟨S1x512, .f32⟩
  | .local _ .vmem, ⟨51, _⟩ => ⟨S1x512, .f32⟩
  | _, _ => ⟨S4x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v27_3 : Ref sig .tc := ⟨.hbm, 49, rfl⟩
abbrev main_v27_4 : Ref sig .tc := ⟨.hbm, 50, rfl⟩
abbrev main_v27_5 : Ref sig .tc := ⟨.hbm, 51, rfl⟩
abbrev main_v27_6 : Ref sig .tc := ⟨.hbm, 52, rfl⟩
abbrev main_v27_7 : Ref sig .tc := ⟨.hbm, 53, rfl⟩
abbrev main_v27_8 : Ref sig .tc := ⟨.hbm, 54, rfl⟩
abbrev main_v27_9 : Ref sig .tc := ⟨.hbm, 55, rfl⟩
abbrev main_v27_10 : Ref sig .tc := ⟨.hbm, 56, rfl⟩
abbrev main_v27_11 : Ref sig .tc := ⟨.hbm, 57, rfl⟩
abbrev main_v27_12 : Ref sig .tc := ⟨.hbm, 58, rfl⟩
abbrev main_v27_13 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_stg27_0 : Ref sig .tc := ⟨.vmem, 47, rfl⟩
abbrev cc0_stg28_0 : Ref sig .tc := ⟨.vmem, 48, rfl⟩
abbrev cc0_stg29_0 : Ref sig .tc := ⟨.vmem, 49, rfl⟩
abbrev cc0_stg30_0 : Ref sig .tc := ⟨.vmem, 50, rfl⟩
abbrev cc0_stg31_0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46
abbrev cc0_sem27_0 : DmaSem sig := 47
abbrev cc0_sem28_0 : DmaSem sig := 48
abbrev cc0_sem29_0 : DmaSem sig := 49
abbrev cc0_sem30_0 : DmaSem sig := 50
abbrev cc0_sem31_0 : DmaSem sig := 51

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v376 : BitVec 1 := Scalar.cmpi .eq arg1 c0_i32
  let v377 : BitVec 32 := Scalar.extui v376
  let c0_i32_251 : BitVec 32 := 0#32
  let v378 : BitVec 1 := Scalar.cmpi .ne v377 c0_i32_251
  v378

def k0_cond2 (i : grid0.Coords) : BitVec 1 :=
  let arg1 : BitVec 32 := BitVec.ofNat 32 (i 1).val
  let c0_i32 : BitVec 32 := 0#32
  let v376 : BitVec 1 := Scalar.cmpi .eq arg1 c0_i32
  let v_true : BitVec 1 := 1#1
  let v379 : BitVec 1 := Scalar.xori v376 v_true
  let v380 : BitVec 32 := Scalar.extui v379
  let c0_i32_252 : BitVec 32 := 0#32
  let v381 : BitVec 1 := Scalar.cmpi .ne v380 c0_i32_252
  v381

def k0_cond3 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let v385 : BitVec 32 := Scalar.extui v384
  let c0_i32_255 : BitVec 32 := 0#32
  let v386 : BitVec 1 := Scalar.cmpi .ne v385 c0_i32_255
  v386

def k0_cond4 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let true_256 : BitVec 1 := 1#1
  let v387 : BitVec 1 := Scalar.xori v384 true_256
  let v388 : BitVec 32 := Scalar.extui v387
  let c0_i32_257 : BitVec 32 := 0#32
  let v389 : BitVec 1 := Scalar.cmpi .ne v388 c0_i32_257
  v389

def k0_cond5 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let v390 : BitVec 32 := Scalar.extui v384
  let c0_i32_258 : BitVec 32 := 0#32
  let v391 : BitVec 1 := Scalar.cmpi .ne v390 c0_i32_258
  v391

def k0_cond6 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let true_259 : BitVec 1 := 1#1
  let v392 : BitVec 1 := Scalar.xori v384 true_259
  let v393 : BitVec 32 := Scalar.extui v392
  let c0_i32_260 : BitVec 32 := 0#32
  let v394 : BitVec 1 := Scalar.cmpi .ne v393 c0_i32_260
  v394

def k0_cond7 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let v395 : BitVec 32 := Scalar.extui v384
  let c0_i32_261 : BitVec 32 := 0#32
  let v396 : BitVec 1 := Scalar.cmpi .ne v395 c0_i32_261
  v396

def k0_cond8 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let true_262 : BitVec 1 := 1#1
  let v397 : BitVec 1 := Scalar.xori v384 true_262
  let v398 : BitVec 32 := Scalar.extui v397
  let c0_i32_263 : BitVec 32 := 0#32
  let v399 : BitVec 1 := Scalar.cmpi .ne v398 c0_i32_263
  v399

def k0_cond9 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let v400 : BitVec 32 := Scalar.extui v384
  let c0_i32_264 : BitVec 32 := 0#32
  let v401 : BitVec 1 := Scalar.cmpi .ne v400 c0_i32_264
  v401

def k0_cond10 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let true_265 : BitVec 1 := 1#1
  let v402 : BitVec 1 := Scalar.xori v384 true_265
  let v403 : BitVec 32 := Scalar.extui v402
  let c0_i32_266 : BitVec 32 := 0#32
  let v404 : BitVec 1 := Scalar.cmpi .ne v403 c0_i32_266
  v404

def k0_cond11 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let v405 : BitVec 32 := Scalar.extui v384
  let c0_i32_267 : BitVec 32 := 0#32
  let v406 : BitVec 1 := Scalar.cmpi .ne v405 c0_i32_267
  v406

def k0_cond12 (i : grid0.Coords) : BitVec 1 :=
  let arg0 : BitVec 32 := BitVec.ofNat 32 (i 0).val
  let c0_i32_253 : BitVec 32 := 0#32
  let v382 : BitVec 1 := Scalar.cmpi .eq arg0 c0_i32_253
  let arg1 : BitVec 32 := BitVec.ofNat 32 (i 1).val
  let c0_i32_254 : BitVec 32 := 0#32
  let v383 : BitVec 1 := Scalar.cmpi .eq arg1 c0_i32_254
  let v384 : BitVec 1 := Scalar.andi v382 v383
  let true_268 : BitVec 1 := 1#1
  let v407 : BitVec 1 := Scalar.xori v384 true_268
  let v408 : BitVec 32 := Scalar.extui v407
  let c0_i32_269 : BitVec 32 := 0#32
  let v409 : BitVec 1 := Scalar.cmpi .ne v408 c0_i32_269
  v409

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S256x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]
-- ==== Reference4Ideal.lean ====
abbrev S4x2304x512 : Shape := ⟨3, ![4, 2304, 512]⟩
abbrev S4x2304x160 : Shape := ⟨3, ![4, 2304, 160]⟩
abbrev S4x2048x1024 : Shape := ⟨3, ![4, 2048, 1024]⟩
abbrev S4x1x1024 : Shape := ⟨3, ![4, 1, 1024]⟩
abbrev S8x64 : Shape := ⟨2, ![8, 64]⟩
abbrev S160x512 : Shape := ⟨2, ![160, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S4x2304x96 : Shape := ⟨3, ![4, 2304, 96]⟩
abbrev S4x2304x256 : Shape := ⟨3, ![4, 2304, 256]⟩
abbrev S96x512 : Shape := ⟨2, ![96, 512]⟩
abbrev S256x512 : Shape := ⟨2, ![256, 512]⟩
abbrev S4x2048x512 : Shape := ⟨3, ![4, 2048, 512]⟩
abbrev S4x2048x8x64 : Shape := ⟨4, ![4, 2048, 8, 64]⟩
abbrev S4x2048x256 : Shape := ⟨3, ![4, 2048, 256]⟩
abbrev S512 : Shape := ⟨1, ![512]⟩
abbrev S4x2048x8 : Shape := ⟨3, ![4, 2048, 8]⟩
abbrev S4x2048x8x1 : Shape := ⟨4, ![4, 2048, 8, 1]⟩
abbrev S1x1x512 : Shape := ⟨3, ![1, 1, 512]⟩
abbrev S1x1x8x64 : Shape := ⟨4, ![1, 1, 8, 64]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S512x256 : Shape := ⟨2, ![512, 256]⟩
abbrev S4x2048x4x128 : Shape := ⟨4, ![4, 2048, 4, 128]⟩
abbrev S4x4x2048x128 : Shape := ⟨4, ![4, 4, 2048, 128]⟩

abbrev nBuf : Space → Nat
  | .hbm => 259
  | .vmem => 0
  | .smem => 0
  | _ => 0

abbrev hbmTy0_0 (i : Nat) : BufTy := match i % 128 with
  | 0 => ⟨S4x2304x512, .f32⟩
  | 1 => ⟨S4x2304x512, .f32⟩
  | 2 => ⟨S4x2304x512, .f32⟩
  | 3 => ⟨S4x2304x512, .f32⟩
  | 4 => ⟨S4x2304x512, .f32⟩
  | 5 => ⟨S4x2304x512, .f32⟩
  | 6 => ⟨S4x2304x160, .f32⟩
  | 7 => ⟨S4x2304x512, .f32⟩
  | 8 => ⟨S4x2048x1024, .f32⟩
  | 9 => ⟨S4x1x1024, .f32⟩
  | 10 => ⟨S8x64, .f32⟩
  | 11 => ⟨S160x512, .f32⟩
  | 12 => ⟨S1x512, .f32⟩
  | 13 => ⟨S1x512, .f32⟩
  | 14 => ⟨S1024x1024, .f32⟩
  | 15 => ⟨S1x1024, .f32⟩
  | 16 => ⟨S4x2048x1024, .f32⟩
  | 17 => ⟨S_, .f32⟩
  | 18 => ⟨S4x2304x96, .f32⟩
  | 19 => ⟨S4x2304x256, .f32⟩
  | 20 => ⟨S_, .f32⟩
  | 21 => ⟨S96x512, .f32⟩
  | 22 => ⟨S256x512, .f32⟩
  | 23 => ⟨S4x2048x512, .f32⟩
  | 24 => ⟨S4x2048x512, .f32⟩
  | 25 => ⟨S4x2048x512, .f32⟩
  | 26 => ⟨S4x2048x8x64, .f32⟩
  | 27 => ⟨S4x2048x512, .f32⟩
  | 28 => ⟨S4x2048x512, .f32⟩
  | 29 => ⟨S4x2048x512, .f32⟩
  | 30 => ⟨S_, .f32⟩
  | 31 => ⟨S4x2048x512, .f32⟩
  | 32 => ⟨S4x2048x512, .f32⟩
  | 33 => ⟨S4x2048x8x64, .f32⟩
  | 34 => ⟨S4x2048x512, .f32⟩
  | 35 => ⟨S4x2048x512, .f32⟩
  | 36 => ⟨S4x2048x256, .f32⟩
  | 37 => ⟨S4x2048x512, .f32⟩
  | 38 => ⟨S_, .f32⟩
  | 39 => ⟨S4x2048x1024, .f32⟩
  | 40 => ⟨S512, .f32⟩
  | 41 => ⟨S512, .f32⟩
  | 42 => ⟨S_, .f32⟩
  | 43 => ⟨S4x2048x8, .f32⟩
  | 44 => ⟨S4x2048x8x1, .f32⟩
  | 45 => ⟨S_, .f32⟩
  | 46 => ⟨S4x2048x8x1, .f32⟩
  | 47 => ⟨S4x2048x8x1, .f32⟩
  | 48 => ⟨S4x2048x8x64, .f32⟩
  | 49 => ⟨S4x2048x8x64, .f32⟩
  | 50 => ⟨S4x2048x8x64, .f32⟩
  | 51 => ⟨S_, .f32⟩
  | 52 => ⟨S4x2048x8x64, .f32⟩
  | 53 => ⟨S4x2048x8x64, .f32⟩
  | 54 => ⟨S_, .f32⟩
  | 55 => ⟨S4x2048x8, .f32⟩
  | 56 => ⟨S4x2048x8x1, .f32⟩
  | 57 => ⟨S_, .f32⟩
  | 58 => ⟨S4x2048x8x1, .f32⟩
  | 59 => ⟨S4x2048x8x1, .f32⟩
  | 60 => ⟨S4x2048x8x64, .f32⟩
  | 61 => ⟨S4x2048x8x64, .f32⟩
  | 62 => ⟨S_, .f32⟩
  | 63 => ⟨S4x2048x8x1, .f32⟩
  | 64 => ⟨S4x2048x8x1, .f32⟩
  | 65 => ⟨S4x2048x8x1, .f32⟩
  | 66 => ⟨S4x2048x8x1, .f32⟩
  | 67 => ⟨S_, .f32⟩
  | 68 => ⟨S4x2048x8x1, .f32⟩
  | 69 => ⟨S4x2048x8x1, .f32⟩
  | 70 => ⟨S4x2048x8x64, .f32⟩
  | 71 => ⟨S4x2048x8x64, .f32⟩
  | 72 => ⟨S4x2048x512, .f32⟩
  | 73 => ⟨S1x1x512, .f32⟩
  | 74 => ⟨S4x2048x512, .f32⟩
  | 75 => ⟨S4x2048x512, .f32⟩
  | 76 => ⟨S1x1x512, .f32⟩
  | 77 => ⟨S4x2048x512, .f32⟩
  | 78 => ⟨S4x2048x512, .f32⟩
  | 79 => ⟨S4x2048x8x64, .f32⟩
  | 80 => ⟨S4x2048x8x64, .f32⟩
  | 81 => ⟨S1x1x8x64, .f32⟩
  | 82 => ⟨S4x2048x8x64, .f32⟩
  | 83 => ⟨S4x2048x8x64, .f32⟩
  | 84 => ⟨S_, .f32⟩
  | 85 => ⟨S4x2048x8, .f32⟩
  | 86 => ⟨S4x2048x8x1, .f32⟩
  | 87 => ⟨S4x2048x8x64, .f32⟩
  | 88 => ⟨S4x2048x8x64, .f32⟩
  | 89 => ⟨S4x2048x8x64, .f32⟩
  | 90 => ⟨S4x2048x256, .f32⟩
  | 91 => ⟨S4x2048x256, .f32⟩
  | 92 => ⟨S_, .f32⟩
  | 93 => ⟨S4x2048x256, .f32⟩
  | 94 => ⟨S4x2048x256, .f32⟩
  | 95 => ⟨S_, .f32⟩
  | 96 => ⟨S4x2048x256, .f32⟩
  | 97 => ⟨S4x2048x256, .f32⟩
  | 98 => ⟨S_, .f32⟩
  | 99 => ⟨S4x2048x256, .f32⟩
  | 100 => ⟨S4x2048x256, .f32⟩
  | 101 => ⟨S4x2048x256, .f32⟩
  | 102 => ⟨S4x2048x512, .f32⟩
  | 103 => ⟨S4x2048x512, .f32⟩
  | 104 => ⟨S4x2048x512, .f32⟩
  | 105 => ⟨S4x2048x512, .f32⟩
  | 106 => ⟨S4x2048x1024, .f32⟩
  | 107 => ⟨S4x2048x1024, .f32⟩
  | 108 => ⟨S4x2048x1024, .f32⟩
  | 109 => ⟨S1024, .f32⟩
  | 110 => ⟨S4x2048x1024, .f32⟩
  | 111 => ⟨S_, .f32⟩
  | 112 => ⟨S4x2048, .f32⟩
  | 113 => ⟨S4x2048x1, .f32⟩
  | 114 => ⟨S_, .f32⟩
  | 115 => ⟨S4x2048x1, .f32⟩
  | 116 => ⟨S4x2048x1, .f32⟩
  | 117 => ⟨S_, .f32⟩
  | 118 => ⟨S4x2048x1, .f32⟩
  | 119 => ⟨S4x2048x1, .f32⟩
  | 120 => ⟨S4x2048x1, .f32⟩
  | 121 => ⟨S4x2048x1, .f32⟩
  | 122 => ⟨S_, .f32⟩
  | 123 => ⟨S4x2048x1, .f32⟩
  | 124 => ⟨S4x2048x1, .f32⟩
  | 125 => ⟨S4x2048x1024, .f32⟩
  | 126 => ⟨S4x2048x1024, .f32⟩
  | 127 => ⟨S1x1x1024, .f32⟩
  | _ => ⟨S4x2304x512, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S4x2048x1024, .f32⟩
  | 4 => ⟨S4x2048x1024, .f32⟩
  | 5 => ⟨S_, .f32⟩
  | 6 => ⟨S4x2048x1024, .f32⟩
  | 7 => ⟨S4x2048x1024, .f32⟩
  | 8 => ⟨S4x2048x1024, .f32⟩
  | 9 => ⟨S4x2048x1024, .f32⟩
  | 10 => ⟨S_, .f32⟩
  | 11 => ⟨S4x1024, .f32⟩
  | 12 => ⟨S4x1x1024, .f32⟩
  | 13 => ⟨S4x2048x1024, .f32⟩
  | 14 => ⟨S_, .f32⟩
  | 15 => ⟨S1024, .f32⟩
  | 16 => ⟨S1x1x1024, .f32⟩
  | 17 => ⟨S4x2048x1024, .f32⟩
  | 18 => ⟨S4x2048x1024, .f32⟩
  | 19 => ⟨S_, .f32⟩
  | 20 => ⟨S1024, .f32⟩
  | 21 => ⟨S4x2048x1024, .f32⟩
  | 22 => ⟨S_, .f32⟩
  | 23 => ⟨S4x2048, .f32⟩
  | 24 => ⟨S4x2048x1, .f32⟩
  | 25 => ⟨S4x2048x1024, .f32⟩
  | 26 => ⟨S4x2048x1024, .f32⟩
  | 27 => ⟨S4x2048x1, .f32⟩
  | 28 => ⟨S_, .f32⟩
  | 29 => ⟨S4x2048x1, .f32⟩
  | 30 => ⟨S4x2048x1, .f32⟩
  | 31 => ⟨S_, .f32⟩
  | 32 => ⟨S4x2048, .f32⟩
  | 33 => ⟨S4x2048x1024, .f32⟩
  | 34 => ⟨S4x2048x1024, .f32⟩
  | 35 => ⟨S4x2048x1024, .f32⟩
  | 36 => ⟨S4x2048x1024, .f32⟩
  | 37 => ⟨S4x2048x1024, .f32⟩
  | 38 => ⟨S1x1024, .f32⟩
  | 39 => ⟨S4x2048x1024, .f32⟩
  | 40 => ⟨S4x2048x1024, .f32⟩
  | 41 => ⟨S4x2048x512, .f32⟩
  | 42 => ⟨S4x2048x512, .f32⟩
  | 43 => ⟨S4x2048x512, .f32⟩
  | 44 => ⟨S4x2048x512, .f32⟩
  | 45 => ⟨S4x2048x8x64, .f32⟩
  | 46 => ⟨S512x256, .f32⟩
  | 47 => ⟨S256x512, .f32⟩
  | 48 => ⟨S4x2048x256, .f32⟩
  | 49 => ⟨S4x2048x256, .f32⟩
  | 50 => ⟨S4x2048x8x64, .f32⟩
  | 51 => ⟨S4x2048x8x64, .f32⟩
  | 52 => ⟨S4x2048x8x64, .f32⟩
  | 53 => ⟨S_, .f32⟩
  | 54 => ⟨S4x2048x8, .f32⟩
  | 55 => ⟨S4x2048x8x1, .f32⟩
  | 56 => ⟨S4x2048x512, .f32⟩
  | 57 => ⟨S_, .f32⟩
  | 58 => ⟨S4x2048x8, .f32⟩
  | 59 => ⟨S4x2048x8x64, .f32⟩
  | 60 => ⟨S4x2048x8x64, .f32⟩
  | 61 => ⟨S_, .f32⟩
  | 62 => ⟨S8x64, .f32⟩
  | 63 => ⟨S1x1x8x64, .f32⟩
  | 64 => ⟨S4x2048x8x64, .f32⟩
  | 65 => ⟨S4x2048x8x64, .f32⟩
  | 66 => ⟨S_, .f32⟩
  | 67 => ⟨S8x64, .f32⟩
  | 68 => ⟨S4x2048x8x64, .f32⟩
  | 69 => ⟨S4x2048x8x64, .f32⟩
  | 70 => ⟨S4x2048x512, .f32⟩
  | 71 => ⟨S_, .f32⟩
  | 72 => ⟨S512, .f32⟩
  | 73 => ⟨S1x1x512, .f32⟩
  | 74 => ⟨S_, .f32⟩
  | 75 => ⟨S512, .f32⟩
  | 76 => ⟨S4x2048x512, .f32⟩
  | 77 => ⟨S_, .f32⟩
  | 78 => ⟨S512, .f32⟩
  | 79 => ⟨S1x1x512, .f32⟩
  | 80 => ⟨S4x2048x512, .f32⟩
  | 81 => ⟨S4x2048x512, .f32⟩
  | 82 => ⟨S_, .f32⟩
  | 83 => ⟨S512, .f32⟩
  | 84 => ⟨S4x2048x8x64, .f32⟩
  | 85 => ⟨S4x2048x8x64, .f32⟩
  | 86 => ⟨S_, .f32⟩
  | 87 => ⟨S4x2048x8, .f32⟩
  | 88 => ⟨S4x2048x8x1, .f32⟩
  | 89 => ⟨S4x2048x8x64, .f32⟩
  | 90 => ⟨S4x2048x8x64, .f32⟩
  | 91 => ⟨S4x2048x8x1, .f32⟩
  | 92 => ⟨S4x2048x8x64, .f32⟩
  | 93 => ⟨S_, .f32⟩
  | 94 => ⟨S4x2048x8, .f32⟩
  | 95 => ⟨S4x2048x8x1, .f32⟩
  | 96 => ⟨S_, .f32⟩
  | 97 => ⟨S4x2048x8x1, .f32⟩
  | 98 => ⟨S4x2048x8x1, .f32⟩
  | 99 => ⟨S_, .f32⟩
  | 100 => ⟨S4x2048x8, .f32⟩
  | 101 => ⟨S4x2048x8x64, .f32⟩
  | 102 => ⟨S4x2048x8x64, .f32⟩
  | 103 => ⟨S4x2048x8x64, .f32⟩
  | 104 => ⟨S_, .f32⟩
  | 105 => ⟨S4x2048x8, .f32⟩
  | 106 => ⟨S4x2048x8x1, .f32⟩
  | 107 => ⟨S4x2048x8x64, .f32⟩
  | 108 => ⟨S4x2048x8x1, .f32⟩
  | 109 => ⟨S_, .f32⟩
  | 110 => ⟨S4x2048x8x1, .f32⟩
  | 111 => ⟨S4x2048x8x1, .f32⟩
  | 112 => ⟨S_, .f32⟩
  | 113 => ⟨S4x2048x8, .f32⟩
  | 114 => ⟨S4x2048x8x64, .f32⟩
  | 115 => ⟨S4x2048x8x64, .f32⟩
  | 116 => ⟨S1x512, .f32⟩
  | 117 => ⟨S1x512, .f32⟩
  | 118 => ⟨S4x2048x512, .f32⟩
  | 119 => ⟨S4x2048x4x128, .f32⟩
  | 120 => ⟨S4x4x2048x128, .f32⟩
  | 121 => ⟨S4x2048x512, .f32⟩
  | 122 => ⟨S4x2048x4x128, .f32⟩
  | 123 => ⟨S4x4x2048x128, .f32⟩
  | 124 => ⟨S4x2048x4x128, .f32⟩
  | 125 => ⟨S4x4x2048x128, .f32⟩
  | 126 => ⟨S4x2048x4x128, .f32⟩
  | 127 => ⟨S4x4x2048x128, .f32⟩
  | _ => ⟨S4x2304x512, .f32⟩

abbrev hbmTy0_2 (i : Nat) : BufTy := match i % 128 with
  | 0 => ⟨S4x2048x1024, .bf16⟩
  | 1 => ⟨S4x2048x1024, .bf16⟩
  | 2 => ⟨S1x512, .f32⟩
  | _ => ⟨S4x2304x512, .f32⟩

abbrev hbmTy (i : Nat) : BufTy := match i / 128 with
  | 0 => hbmTy0_0 i
  | 1 => hbmTy0_1 i
  | 2 => hbmTy0_2 i
  | _ => ⟨S4x2304x512, .f32⟩

abbrev bufTy : (tb : Table) → Fin (tcTables nBuf tb) → BufTy
  | .hbm, ⟨i, _⟩ => hbmTy i
  | _, _ => ⟨S4x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_19 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_21 : Ref sig .tc := ⟨.hbm, 147, rfl⟩
abbrev main_v108 : Ref sig .tc := ⟨.hbm, 148, rfl⟩
abbrev main_v109 : Ref sig .tc := ⟨.hbm, 149, rfl⟩
abbrev main_cst_22 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_23 : Ref sig .tc := ⟨.hbm, 156, rfl⟩
abbrev main_v115 : Ref sig .tc := ⟨.hbm, 157, rfl⟩
abbrev main_v116 : Ref sig .tc := ⟨.hbm, 158, rfl⟩
abbrev main_cst_24 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_25 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_26 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_27 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_28 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_29 : Ref sig .tc := ⟨.hbm, 199, rfl⟩
abbrev main_v152 : Ref sig .tc := ⟨.hbm, 200, rfl⟩
abbrev main_v153 : Ref sig .tc := ⟨.hbm, 201, rfl⟩
abbrev main_cst_30 : Ref sig .tc := ⟨.hbm, 202, rfl⟩
abbrev main_v154 : Ref sig .tc := ⟨.hbm, 203, rfl⟩
abbrev main_v155 : Ref sig .tc := ⟨.hbm, 204, rfl⟩
abbrev main_cst_31 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_32 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_33 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_34 : Ref sig .tc := ⟨.hbm, 221, rfl⟩
abbrev main_v169 : Ref sig .tc := ⟨.hbm, 222, rfl⟩
abbrev main_v170 : Ref sig .tc := ⟨.hbm, 223, rfl⟩
abbrev main_cst_35 : Ref sig .tc := ⟨.hbm, 224, rfl⟩
abbrev main_v171 : Ref sig .tc := ⟨.hbm, 225, rfl⟩
abbrev main_v172 : Ref sig .tc := ⟨.hbm, 226, rfl⟩
abbrev main_cst_36 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_37 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_38 : Ref sig .tc := ⟨.hbm, 237, rfl⟩
abbrev main_v181 : Ref sig .tc := ⟨.hbm, 238, rfl⟩
abbrev main_v182 : Ref sig .tc := ⟨.hbm, 239, rfl⟩
abbrev main_cst_39 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩

abbrev nD : Nat := 1
abbrev τ : Topo := Topo.v7x

variable {F : FTy → Type} [FloatOps F]
-- ==== Kernel6.lean ====
abbrev S4x1024 : Shape := ⟨2, ![4, 1024]⟩
abbrev S1x1024 : Shape := ⟨2, ![1, 1024]⟩
abbrev S1024x6144 : Shape := ⟨2, ![1024, 6144]⟩
abbrev S1x6144 : Shape := ⟨2, ![1, 6144]⟩
abbrev S_ : Shape := ⟨0, ![]⟩
abbrev S3x1024 : Shape := ⟨2, ![3, 1024]⟩
abbrev S8x1024 : Shape := ⟨2, ![8, 1024]⟩
abbrev S8x6144 : Shape := ⟨2, ![8, 6144]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S1x1024, .f32⟩
  | .hbm, ⟨2, _⟩ => ⟨S1024x6144, .f32⟩
  | .hbm, ⟨3, _⟩ => ⟨S1x6144, .f32⟩
  | .hbm, ⟨4, _⟩ => ⟨S_, .f32⟩
  | .hbm, ⟨5, _⟩ => ⟨S3x1024, .f32⟩
  | .hbm, ⟨6, _⟩ => ⟨S8x1024, .f32⟩
  | .hbm, ⟨7, _⟩ => ⟨S1024x6144, .bf16⟩
  | .hbm, ⟨8, _⟩ => ⟨S8x1024, .f32⟩
  | .hbm, ⟨9, _⟩ => ⟨S8x6144, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4x1024 : Shape := ⟨2, ![4, 1024]⟩
abbrev S1x1024 : Shape := ⟨2, ![1, 1024]⟩
abbrev S1024x6144 : Shape := ⟨2, ![1024, 6144]⟩
abbrev S1x6144 : Shape := ⟨2, ![1, 6144]⟩
abbrev S_ : Shape := ⟨0, ![]⟩
abbrev S3x1024 : Shape := ⟨2, ![3, 1024]⟩
abbrev S8x1024 : Shape := ⟨2, ![8, 1024]⟩
abbrev S8x6144 : Shape := ⟨2, ![8, 6144]⟩
abbrev S6144 : Shape := ⟨1, ![6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024, .f32⟩
  | .hbm, ⟨2, _⟩ => ⟨S1024x6144, .f32⟩
  | .hbm, ⟨3, _⟩ => ⟨S1x6144, .f32⟩
  | .hbm, ⟨4, _⟩ => ⟨S_, .f32⟩
  | .hbm, ⟨5, _⟩ => ⟨S3x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel7.lean ====
abbrev S4x2304x512 : Shape := ⟨3, ![4, 2304, 512]⟩
abbrev S4x2304x160 : Shape := ⟨3, ![4, 2304, 160]⟩
abbrev S4x2048x1024 : Shape := ⟨3, ![4, 2048, 1024]⟩
abbrev S4x1x1024 : Shape := ⟨3, ![4, 1, 1024]⟩
abbrev S8x64 : Shape := ⟨2, ![8, 64]⟩
abbrev S160x512 : Shape := ⟨2, ![160, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S4x2304x96 : Shape := ⟨3, ![4, 2304, 96]⟩
abbrev S4x2304x256 : Shape := ⟨3, ![4, 2304, 256]⟩
abbrev S96x512 : Shape := ⟨2, ![96, 512]⟩
abbrev S256x512 : Shape := ⟨2, ![256, 512]⟩
abbrev S4x2304x4x128 : Shape := ⟨4, ![4, 2304, 4, 128]⟩
abbrev S4x4x2304x128 : Shape := ⟨4, ![4, 4, 2304, 128]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x4x256x128 : Shape := ⟨4, ![1, 4, 256, 128]⟩
abbrev S1x256x256 : Shape := ⟨3, ![1, 256, 256]⟩
abbrev S1x256x512 : Shape := ⟨3, ![1, 256, 512]⟩
abbrev S1x256x1024 : Shape := ⟨3, ![1, 256, 1024]⟩
abbrev S1x1x1024 : Shape := ⟨3, ![1, 1, 1024]⟩
abbrev S1x1x256x128 : Shape := ⟨4, ![1, 1, 256, 128]⟩
abbrev S256x128 : Shape := ⟨2, ![256, 128]⟩
abbrev S256x1024 : Shape := ⟨2, ![256, 1024]⟩

abbrev nBuf : Space → Nat
  | .hbm => 46
  | .vmem => 29
  | .smem => 0
  | _ => 0

abbrev bufTy : (tb : Table) → Fin (tcTables nBuf tb) → BufTy
  | .hbm, ⟨0, _⟩ => ⟨S4x2304x512, .f32⟩
  | .hbm, ⟨1, _⟩ => ⟨S4x2304x512, .f32⟩
  | .hbm, ⟨2, _⟩ => ⟨S4x2304x512, .f32⟩
  | .hbm, ⟨3, _⟩ => ⟨S4x2304x512, .f32⟩
  | .hbm, ⟨4, _⟩ => ⟨S4x2304x512, .f32⟩
  | .hbm, ⟨5, _⟩ => ⟨S4x2304x512, .f32⟩
  | .hbm, ⟨6, _⟩ => ⟨S4x2304x160, .f32⟩
  | .hbm, ⟨7, _⟩ => ⟨S4x2304x512, .f32⟩
  | .hbm, ⟨8, _⟩ => ⟨S4x2048x1024, .f32⟩
  | .hbm, ⟨9, _⟩ => ⟨S4x1x1024, .f32⟩
  | .hbm, ⟨10, _⟩ => ⟨S8x64, .f32⟩
  | .hbm, ⟨11, _⟩ => ⟨S160x512, .f32⟩
  | .hbm, ⟨12, _⟩ => ⟨S1x512, .f32⟩
  | .hbm, ⟨13, _⟩ => ⟨S1x512, .f32⟩
  | .hbm, ⟨14, _⟩ => ⟨S1024x1024, .f32⟩
  | .hbm, ⟨15, _⟩ => ⟨S1x1024, .f32⟩
  | .hbm, ⟨16, _⟩ => ⟨S_, .f32⟩
  | .hbm, ⟨17, _⟩ => ⟨S4x2304x96, .f32⟩
  | .hbm, ⟨18, _⟩ => ⟨S4x2304x256, .f32⟩
  | .hbm, ⟨19, _⟩ => ⟨S_, .f32⟩
  | .hbm, ⟨20, _⟩ => ⟨S96x512, .f32⟩
  | .hbm, ⟨21, _⟩ => ⟨S256x512, .f32⟩
  | .hbm, ⟨22, _⟩ => ⟨S4x2304x4x128, .f32⟩
  | .hbm, ⟨23, _⟩ => ⟨S4x4x2304x128, .f32⟩
  | .hbm, ⟨24, _⟩ => ⟨S4x2304x4x128, .f32⟩
  | .hbm, ⟨25, _⟩ => ⟨S4x4x2304x128, .f32⟩
  | .hbm, ⟨26, _⟩ => ⟨S4x2304x4x128, .f32⟩
  | .hbm, ⟨27, _⟩ => ⟨S4x4x2304x128, .f32⟩
  | .hbm, ⟨28, _⟩ => ⟨S4x2304x4x128, .f32⟩
  | .hbm, ⟨29, _⟩ => ⟨S4x4x2304x128, .f32⟩
  | .hbm, ⟨30, _⟩ => ⟨S4x2304x4x128, .f32⟩
  | .hbm, ⟨31, _⟩ => ⟨S4x4x2304x128, .f32⟩
  | .hbm, ⟨32, _⟩ => ⟨S4x2304x4x128, .f32⟩
  | .hbm, ⟨33, _⟩ => ⟨S4x4x2304x128, .f32⟩
  | .hbm, ⟨34, _⟩ => ⟨S1x512, .f32⟩
  | .hbm, ⟨35, _⟩ => ⟨S1024x1024, .bf16⟩
  | .hbm, ⟨36, _⟩ => ⟨S4x64, .i32⟩
  | .hbm, ⟨37, _⟩ => ⟨S256, .i32⟩
  | .hbm, ⟨38, _⟩ => ⟨S256x1, .i32⟩
  | .hbm, ⟨39, _⟩ => ⟨S1x256, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S256x256, .f32⟩
  | .hbm, ⟨44, _⟩ => ⟨S256x256, .bf16⟩
  | .hbm, ⟨45, _⟩ => ⟨S4x2048x1024, .f32⟩
  | .local _ .vmem, ⟨0, _⟩ => ⟨S1x4x256x128, .f32⟩
  | .local _ .vmem, ⟨1, _⟩ => ⟨S1x4x256x128, .f32⟩
  | .local _ .vmem, ⟨2, _⟩ => ⟨S1x4x256x128, .f32⟩
  | .local _ .vmem, ⟨3, _⟩ => ⟨S1x4x256x128, .f32⟩
  | .local _ .vmem, ⟨4, _⟩ => ⟨S1x4x256x128, .f32⟩
  | .local _ .vmem, ⟨5, _⟩ => ⟨S1x4x256x128, .f32⟩
  | .local _ .vmem, ⟨6, _⟩ => ⟨S1x4x256x128, .f32⟩
  | .local _ .vmem, ⟨7, _⟩ => ⟨S1x4x256x128, .f32⟩
  | .local _ .vmem, ⟨8, _⟩ => ⟨S1x4x256x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x4x256x128, .f32⟩
  | .local _ .vmem, ⟨12, _⟩ => ⟨S1x256x256, .f32⟩
  | .local _ .vmem, ⟨13, _⟩ => ⟨S1x256x256, .f32⟩
  | .local _ .vmem, ⟨14, _⟩ => ⟨S1x256x512, .f32⟩
  | .local _ .vmem, ⟨15, _⟩ => ⟨S1x256x512, .f32⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x512, .f32⟩
  | .local _ .vmem, ⟨21, _⟩ => ⟨S256x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S1x1024, .f32⟩
  | .local _ .vmem, ⟨26, _⟩ => ⟨S256x256, .bf16⟩
  | .local _ .vmem, ⟨27, _⟩ => ⟨S1x256x1024, .f32⟩
  | .local _ .vmem, ⟨28, _⟩ => ⟨S1x256x1024, .f32⟩
  | _, _ => ⟨S4x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference7Ideal.lean ====
abbrev S4x2304x512 : Shape := ⟨3, ![4, 2304, 512]⟩
abbrev S4x2304x160 : Shape := ⟨3, ![4, 2304, 160]⟩
abbrev S4x2048x1024 : Shape := ⟨3, ![4, 2048, 1024]⟩
abbrev S4x1x1024 : Shape := ⟨3, ![4, 1, 1024]⟩
abbrev S8x64 : Shape := ⟨2, ![8, 64]⟩
abbrev S160x512 : Shape := ⟨2, ![160, 512]⟩
abbrev S1x512 : Shape := ⟨2, ![1, 512]⟩
abbrev S1024x1024 : Shape := ⟨2, ![1024, 1024]⟩
abbrev S1x1024 : Shape := ⟨2, ![1, 1024]⟩
abbrev S4x2048x512 : Shape := ⟨3, ![4, 2048, 512]⟩
abbrev S4x2048x8x64 : Shape := ⟨4, ![4, 2048, 8, 64]⟩
abbrev S_ : Shape := ⟨0, ![]⟩
abbrev S4x2048x160 : Shape := ⟨3, ![4, 2048, 160]⟩
abbrev S512 : Shape := ⟨1, ![512]⟩
abbrev S4x2048x8 : Shape := ⟨3, ![4, 2048, 8]⟩
abbrev S4x2048x8x1 : Shape := ⟨4, ![4, 2048, 8, 1]⟩
abbrev S1x1x512 : Shape := ⟨3, ![1, 1, 512]⟩
abbrev S1x1x8x64 : Shape := ⟨4, ![1, 1, 8, 64]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4x2304x512, .f32⟩
  | .hbm, ⟨1, _⟩ => ⟨S4x2304x512, .f32⟩
  | .hbm, ⟨2, _⟩ => ⟨S4x2304x512, .f32⟩
  | .hbm, ⟨3, _⟩ => ⟨S4x2304x512, .f32⟩
  | .hbm, ⟨4, _⟩ => ⟨S4x2304x512, .f32⟩
  | .hbm, ⟨5, _⟩ => ⟨S4x2304x512, .f32⟩
  | .hbm, ⟨6, _⟩ => ⟨S4x2304x160, .f32⟩
  | .hbm, ⟨7, _⟩ => ⟨S4x2304x512, .f32⟩
  | .hbm, ⟨8, _⟩ => ⟨S4x2048x1024, .f32⟩
  | .hbm, ⟨9, _⟩ => ⟨S4x1x1024, .f32⟩
  | .hbm, ⟨10, _⟩ => ⟨S8x64, .f32⟩
  | .hbm, ⟨11, _⟩ => ⟨S160x512, .f32⟩
  | .hbm, ⟨12, _⟩ => ⟨S1x512, .f32⟩
  | .hbm, ⟨13, _⟩ => ⟨S1x512, .f32⟩
  | .hbm, ⟨14, _⟩ => ⟨S1024x1024, .f32⟩
  | .hbm, ⟨15, _⟩ => ⟨S1x1024, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S4x2048x8x64, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S_, .f32⟩
  | .hbm, ⟨24, _⟩ => ⟨S4x2048x512, .f32⟩
  | .hbm, ⟨25, _⟩ => ⟨S4x2048x512, .f32⟩
  | .hbm, ⟨26, _⟩ => ⟨S4x2048x8x64, .f32⟩
  | .hbm, ⟨27, _⟩ => ⟨S4x2048x512, .f32⟩
  | .hbm, ⟨28, _⟩ => ⟨S4x2048x512, .f32⟩
  | .hbm, ⟨29, _⟩ => ⟨S4x2048x160, .f32⟩
  | .hbm, ⟨30, _⟩ => ⟨S512, .f32⟩
  | .hbm, ⟨31, _⟩ => ⟨S512, .f32⟩
  | .hbm, ⟨32, _⟩ => ⟨S_, .f32⟩
  | .hbm, ⟨33, _⟩ => ⟨S4x2048x8, .f32⟩
  | .hbm, ⟨34, _⟩ => ⟨S4x2048x8x1, .f32⟩
  | .hbm, ⟨35, _⟩ => ⟨S_, .f32⟩
  | .hbm, ⟨36, _⟩ => ⟨S4x2048x8x1, .f32⟩
  | .hbm, ⟨37, _⟩ => ⟨S4x2048x8x1, .f32⟩
  | .hbm, ⟨38, _⟩ => ⟨S4x2048x8x64, .f32⟩
  | .hbm, ⟨39, _⟩ => ⟨S4x2048x8x64, .f32⟩
  | .hbm, ⟨40, _⟩ => ⟨S4x2048x8x64, .f32⟩
  | .hbm, ⟨41, _⟩ => ⟨S_, .f32⟩
  | .hbm, ⟨42, _⟩ => ⟨S4x2048x8, .f32⟩
  | .hbm, ⟨43, _⟩ => ⟨S4x2048x8x1, .f32⟩
  | .hbm, ⟨44, _⟩ => ⟨S_, .f32⟩
  | .hbm, ⟨45, _⟩ => ⟨S4x2048x8x1, .f32⟩
  | .hbm, ⟨46, _⟩ => ⟨S4x2048x8x1, .f32⟩
  | .hbm, ⟨47, _⟩ => ⟨S4x2048x8x64, .f32⟩
  | .hbm, ⟨48, _⟩ => ⟨S4x2048x8x64, .f32⟩
  | .hbm, ⟨49, _⟩ => ⟨S_, .f32⟩
  | .hbm, ⟨50, _⟩ => ⟨S4x2048x8x1, .f32⟩
  | .hbm, ⟨51, _⟩ => ⟨S4x2048x8x1, .f32⟩
  | .hbm, ⟨52, _⟩ => ⟨S4x2048x8x1, .f32⟩
  | .hbm, ⟨53, _⟩ => ⟨S4x2048x8x64, .f32⟩
  | .hbm, ⟨54, _⟩ => ⟨S4x2048x8x64, .f32⟩
  | .hbm, ⟨55, _⟩ => ⟨S4x2048x512, .f32⟩
  | .hbm, ⟨56, _⟩ => ⟨S1x1x512, .f32⟩
  | .hbm, ⟨57, _⟩ => ⟨S4x2048x512, .f32⟩
  | .hbm, ⟨58, _⟩ => ⟨S4x2048x512, .f32⟩
  | .hbm, ⟨59, _⟩ => ⟨S1x1x512, .f32⟩
  | .hbm, ⟨60, _⟩ => ⟨S4x2048x512, .f32⟩
  | .hbm, ⟨61, _⟩ => ⟨S4x2048x512, .f32⟩
  | .hbm, ⟨62, _⟩ => ⟨S4x2048x8x64, .f32⟩
  | .hbm, ⟨63, _⟩ => ⟨S4x2048x8x64, .f32⟩
  | .hbm, ⟨64, _⟩ => ⟨S1x1x8x64, .f32⟩
  | .hbm, ⟨65, _⟩ => ⟨S4x2048x8x64, .f32⟩
  | .hbm, ⟨66, _⟩ => ⟨S4x2048x8x64, .f32⟩
  | .hbm, ⟨67, _⟩ => ⟨S_, .f32⟩
  | .hbm, ⟨68, _⟩ => ⟨S4x2048x8, .f32⟩
  | .hbm, ⟨69, _⟩ => ⟨S4x2048x8x1, .f32⟩
  | .hbm, ⟨70, _⟩ => ⟨S4x2048x8x64, .f32⟩
  | .hbm, ⟨71, _⟩ => ⟨S4x2048x8x64, .f32⟩
  | .hbm, ⟨72, _⟩ => ⟨S4x2048x8x64, .f32⟩
  | .hbm, ⟨73, _⟩ => ⟨S4x2048x160, .f32⟩
  | .hbm, ⟨74, _⟩ => ⟨S4x2048x160, .f32⟩
  | .hbm, ⟨75, _⟩ => ⟨S_, .f32⟩
  | .hbm, ⟨76, _⟩ => ⟨S4x2048x160, .f32⟩
  | .hbm, ⟨77, _⟩ => ⟨S4x2048x160, .f32⟩
  | .hbm, ⟨78, _⟩ => ⟨S_, .f32⟩
  | .hbm, ⟨79, _⟩ => ⟨S4x2048x160, .f32⟩
  | .hbm, ⟨80, _⟩ => ⟨S4x2048x160, .f32⟩
  | .hbm, ⟨81, _⟩ => ⟨S4x2048x512, .f32⟩
  | .hbm, ⟨82, _⟩ => ⟨S4x2048x512, .f32⟩
  | .hbm, ⟨83, _⟩ => ⟨S4x2048x512, .f32⟩
  | .hbm, ⟨84, _⟩ => ⟨S4x2048x512, .f32⟩
  | .hbm, ⟨85, _⟩ => ⟨S4x2048x512, .f32⟩
  | .hbm, ⟨86, _⟩ => ⟨S4x2048x1024, .f32⟩
  | .hbm, ⟨87, _⟩ => ⟨S4x2048x1024, .f32⟩
  | .hbm, ⟨88, _⟩ => ⟨S1024, .f32⟩
  | .hbm, ⟨89, _⟩ => ⟨S4x2048x1024, .f32⟩
  | .hbm, ⟨90, _⟩ => ⟨S_, .f32⟩
  | .hbm, ⟨91, _⟩ => ⟨S4x2048, .f32⟩
  | .hbm, ⟨92, _⟩ => ⟨S4x2048x1, .f32⟩
  | .hbm, ⟨93, _⟩ => ⟨S_, .f32⟩
  | .hbm, ⟨94, _⟩ => ⟨S4x2048x1, .f32⟩
  | .hbm, ⟨95, _⟩ => ⟨S4x2048x1, .f32⟩
  | .hbm, ⟨96, _⟩ => ⟨S_, .f32⟩
  | .hbm, ⟨97, _⟩ => ⟨S4x2048x1, .f32⟩
  | .hbm, ⟨98, _⟩ => ⟨S4x2048x1, .f32⟩
  | .hbm, ⟨99, _⟩ => ⟨S4x2048x1, .f32⟩
  | .hbm, ⟨100, _⟩ => ⟨S4x2048x1024, .f32⟩
  | .hbm, ⟨101, _⟩ => ⟨S4x2048x1024, .f32⟩
  | .hbm, ⟨102, _⟩ => ⟨S1x1x1024, .f32⟩
  | .hbm, ⟨103, _⟩ => ⟨S4x2048x1024, .f32⟩
  | .hbm, ⟨104, _⟩ => ⟨S4x2048x1024, .f32⟩
  | .hbm, ⟨105, _⟩ => ⟨S4x2048x1024, .f32⟩
  | .hbm, ⟨106, _⟩ => ⟨S4x2048x1024, .f32⟩
  | .hbm, ⟨107, _⟩ => ⟨S4x2048x1024, .f32⟩
  | _, _ => ⟨S4x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel8.lean ====
abbrev S4x256x1024 : Shape := ⟨3, ![4, 256, 1024]⟩
abbrev S4x2048x1024 : Shape := ⟨3, ![4, 2048, 1024]⟩
abbrev S2x1024 : Shape := ⟨2, ![2, 1024]⟩
abbrev S4x2x1024 : Shape := ⟨3, ![4, 2, 1024]⟩
abbrev S1x1024 : Shape := ⟨2, ![1, 1024]⟩
abbrev S1024x2976 : Shape := ⟨2, ![1024, 2976]⟩
abbrev S1x1x2x1024 : Shape := ⟨4, ![1, 1, 2, 1024]⟩
abbrev S4x1x2x1024 : Shape := ⟨4, ![4, 1, 2, 1024]⟩
abbrev S4x8x2x1024 : Shape := ⟨4, ![4, 8, 2, 1024]⟩
abbrev S4x9x2x1024 : Shape := ⟨4, ![4, 9, 2, 1024]⟩
abbrev S1024x1536 : Shape := ⟨2, ![1024, 1536]⟩
abbrev S1024x128 : Shape := ⟨2, ![1024, 128]⟩
abbrev S1024x160 : Shape := ⟨2, ![1024, 160]⟩
abbrev S_ : Shape := ⟨0, ![]⟩
abbrev S1024x96 : Shape := ⟨2, ![1024, 96]⟩
abbrev S1024x1024 : Shape := ⟨2, ![1024, 1024]⟩
abbrev S1024x3072 : Shape := ⟨2, ![1024, 3072]⟩
abbrev S4x2304x3072 : Shape := ⟨3, ![4, 2304, 3072]⟩
abbrev S4x2304x1024 : Shape := ⟨3, ![4, 2304, 1024]⟩
abbrev S1x256x1024 : Shape := ⟨3, ![1, 256, 1024]⟩
abbrev S1x256x3072 : Shape := ⟨3, ![1, 256, 3072]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x3072 : Shape := ⟨2, ![256, 3072]⟩

abbrev nBuf : Space → Nat
  | .hbm => 22
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S4x2048x1024, .f32⟩
  | .hbm, ⟨2, _⟩ => ⟨S2x1024, .f32⟩
  | .hbm, ⟨3, _⟩ => ⟨S4x2x1024, .f32⟩
  | .hbm, ⟨4, _⟩ => ⟨S1x1024, .f32⟩
  | .hbm, ⟨5, _⟩ => ⟨S1024x2976, .f32⟩
  | .hbm, ⟨6, _⟩ => ⟨S1x1x2x1024, .f32⟩
  | .hbm, ⟨7, _⟩ => ⟨S4x1x2x1024, .f32⟩
  | .hbm, ⟨8, _⟩ => ⟨S4x1x2x1024, .f32⟩
  | .hbm, ⟨9, _⟩ => ⟨S4x8x2x1024, .f32⟩
  | .hbm, ⟨10, _⟩ => ⟨S4x9x2x1024, .f32⟩
  | .hbm, ⟨11, _⟩ => ⟨S1024x1536, .f32⟩
  | .hbm, ⟨12, _⟩ => ⟨S1024x128, .f32⟩
  | .hbm, ⟨13, _⟩ => ⟨S1024x128, .f32⟩
  | .hbm, ⟨14, _⟩ => ⟨S1024x160, .f32⟩
  | .hbm, ⟨15, _⟩ => ⟨S_, .f32⟩
  | .hbm, ⟨16, _⟩ => ⟨S1024x96, .f32⟩
  | .hbm, ⟨17, _⟩ => ⟨S1024x1024, .f32⟩
  | .hbm, ⟨18, _⟩ => ⟨S1024x3072, .f32⟩
  | .hbm, ⟨19, _⟩ => ⟨S1024x3072, .bf16⟩
  | .hbm, ⟨20, _⟩ => ⟨S4x2304x3072, .f32⟩
  | .hbm, ⟨21, _⟩ => ⟨S4x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x2x1024, .f32⟩
  | .local _ .vmem, ⟨5, _⟩ => ⟨S1x1x2x1024, .f32⟩
  | .local _ .vmem, ⟨6, _⟩ => ⟨S1x1024, .f32⟩
  | .local _ .vmem, ⟨7, _⟩ => ⟨S1024x3072, .bf16⟩
  | .local _ .vmem, ⟨8, _⟩ => ⟨S1x256x3072, .f32⟩
  | .local _ .vmem, ⟨9, _⟩ => ⟨S1x256x3072, .f32⟩
  | .local _ .vmem, ⟨10, _⟩ => ⟨S1x256x1024, .bf16⟩
  | .local _ .vmem, ⟨11, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S4x256x1024 : Shape := ⟨3, ![4, 256, 1024]⟩
abbrev S4x2048x1024 : Shape := ⟨3, ![4, 2048, 1024]⟩
abbrev S2x1024 : Shape := ⟨2, ![2, 1024]⟩
abbrev S4x2x1024 : Shape := ⟨3, ![4, 2, 1024]⟩
abbrev S1x1024 : Shape := ⟨2, ![1, 1024]⟩
abbrev S1024x2976 : Shape := ⟨2, ![1024, 2976]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048 : Shape := ⟨2, ![4, 2048]⟩
abbrev S4x2048x1 : Shape := ⟨3, ![4, 2048, 1]⟩
abbrev S4x1x1024 : Shape := ⟨3, ![4, 1, 1024]⟩
abbrev S4x2304x1024 : Shape := ⟨3, ![4, 2304, 1024]⟩
abbrev S4x2304x2976 : Shape := ⟨3, ![4, 2304, 2976]⟩
abbrev S4x2304x1952 : Shape := ⟨3, ![4, 2304, 1952]⟩
abbrev S4x2304x96 : Shape := ⟨3, ![4, 2304, 96]⟩
abbrev S4x2304x3072 : Shape := ⟨3, ![4, 2304, 3072]⟩

abbrev nBuf : Space → Nat
  | .hbm => 70
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x2048x1024, .f32⟩
  | .hbm, ⟨2, _⟩ => ⟨S2x1024, .f32⟩
  | .hbm, ⟨3, _⟩ => ⟨S4x2x1024, .f32⟩
  | .hbm, ⟨4, _⟩ => ⟨S1x1024, .f32⟩
  | .hbm, ⟨5, _⟩ => ⟨S1024x2976, .f32⟩
  | .hbm, ⟨6, _⟩ => ⟨S1024, .f32⟩
  | .hbm, ⟨7, _⟩ => ⟨S4x256x1024, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S4x256x1024, .f32⟩
  | .hbm, ⟨19, _⟩ => ⟨S4x256x1024, .f32⟩
  | .hbm, ⟨20, _⟩ => ⟨S1x1x1024, .f32⟩
  | .hbm, ⟨21, _⟩ => ⟨S4x256x1024, .f32⟩
  | .hbm, ⟨22, _⟩ => ⟨S4x256x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S4x256x1024, .f32⟩
  | .hbm, ⟨32, _⟩ => ⟨S4x256x1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S4x1x1024, .f32⟩
  | .hbm, ⟨54, _⟩ => ⟨S4x1x1024, .f32⟩
  | .hbm, ⟨55, _⟩ => ⟨S_, .f32⟩
  | .hbm, ⟨56, _⟩ => ⟨S4x1x1024, .f32⟩
  | .hbm, ⟨57, _⟩ => ⟨S4x1x1024, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2304x1024, .f32⟩
  | .hbm, ⟨63, _⟩ => ⟨S4x2304x2976, .f32⟩
  | .hbm, ⟨64, _⟩ => ⟨S4x2304x1952, .f32⟩
  | .hbm, ⟨65, _⟩ => ⟨S_, .f32⟩
  | .hbm, ⟨66, _⟩ => ⟨S4x2304x96, .f32⟩
  | .hbm, ⟨67, _⟩ => ⟨S4x2304x1024, .f32⟩
  | .hbm, ⟨68, _⟩ => ⟨S4x2304x3072, .f32⟩
  | .hbm, ⟨69, _⟩ => ⟨S4x2304x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Proof.Ada.lean ====
module

public import proofs.«01_k».proof.Defs
public import proofs.«01_k».proof.Proof.Gen.KernelIdeal.Value
public import proofs.«01_k».proof.Proof.Gen.ReferenceIdeal.Run
public import proofs.«01_k».proof.Proof.Gen.Pre_finite
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Ada
open Cert.KernelIdeal Cert.KernelIdeal.Gen
variable (m : (ℓ : Loc nD τ sig) → Buf (Elt Ideal) ℓ)

theorem idx : ∀ t : Fin cfg0.N, win0_0.index t = ![0,0] ∧ win0_1.index t = ![0,0] ∧ win0_2.index t = ![0,0] ∧ win0_3.index t = ![0,0] ∧ win0_4.index t = ![0,0] ∧ win0_5.index t = ![0,0] ∧ win0_6.index t = ![0,0] ∧ win0_7.index t = ![0,0] := (by decide +kernel : ∀ t : Fin grid0.N, _)

/-- The weight gradient the body stores: the product over the 64 rows. -/
theorem final5 (c : Dev nD) : (dats m 0 c).arrAt 5 (cfgs 0).N
    = k0_pay3 (F := Ideal) (V m c main_v15) (V m c main_v21) := by
  refine (dats m 0 c).arrAt_eq_of_after_last 5 t0_0 (by decide +kernel) _ fun j => ?_
  blk_simp; rw [after0_5]; frame_out; blk_point [iblk, idx t0_0]

theorem final6 (c : Dev nD) : (dats m 0 c).arrAt 6 (cfgs 0).N
    = k0_pay4 (F := Ideal) (V m c main_v16) := by
  refine (dats m 0 c).arrAt_eq_of_after_last 6 t0_0 (by decide +kernel) _ fun j => ?_
  blk_simp; rw [after0_6]; frame_out; blk_point [iblk, idx t0_0]

theorem final7 (c : Dev nD) : (dats m 0 c).arrAt 7 (cfgs 0).N
    = k0_pay1 (F := Ideal) (k0_pay5 (F := Ideal) (V m c main_v16)) (V m c main_v23) (V m c main_v22) := by
  refine (dats m 0 c).arrAt_eq_of_after_last 7 t0_0 (by decide +kernel) _ fun j => ?_
  blk_simp; rw [after0_7]; frame_out; blk_point [iblk, idx t0_0]
end Cert.KernelIdeal.Ada
-- ==== Proof.AdaHost.lean ====
module
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem Idealize.ShloMosaic.StableHlo
namespace Cert.KernelIdeal.Ada
open Cert.KernelIdeal Cert.KernelIdeal.Gen
variable (m : (ℓ : Loc nD τ sig) → Buf (Elt Ideal) ℓ)

/-- The rows of the eight devices, 1024 wide: four batch rows, the context row, three more, device by device. -/
def cat1024 (x : FVec Ideal S8x4x1024 .f32) (y : FVec Ideal S8x1x1024 .f32) (z : FVec Ideal S8x3x1024 .f32) : FVec Ideal S8x8x1024 .f32 :=
  concatenate S8x8x1024 1 [⟨S8x4x1024, x⟩, ⟨S8x1x1024, y⟩, ⟨S8x3x1024, z⟩] concatenates_S8x4x1024_S8x1x1024_S8x3x1024_S8x8x1024_d1

/-- The same layout, 6144 wide. -/
def cat6144 (x : FVec Ideal S8x4x6144 .f32) (y : FVec Ideal S8x1x6144 .f32) (z : FVec Ideal S8x3x6144 .f32) : FVec Ideal S8x8x6144 .f32 :=
  concatenate S8x8x6144 1 [⟨S8x4x6144, x⟩, ⟨S8x1x6144, y⟩, ⟨S8x3x6144, z⟩] concatenates_S8x4x6144_S8x1x6144_S8x3x6144_S8x8x6144_d1

/-- The conditioning rows: a device's four batch rows, the context row, three rows of zeros. -/
def rows1024 (x : FVec Ideal S32x1024 .f32) (y : FVec Ideal S1024 .f32) : FVec Ideal S8x8x1024 .f32 :=
  cat1024 (shapeCast S8x4x1024 x shapeCasts_S32x1024_S8x4x1024) (broadcastInDim S8x1x1024 ![2] bcast_S1024_S8x1x1024_2 y)
    (broadcastInDim S8x3x1024 ![] bcast_S_S8x3x1024 (constant (F := Ideal) S_ .f32 0x00000000#32))

/-- The cotangent rows in the same layout. -/
def rows6144 (x : FVec Ideal S32x6144 .f32) (y : FVec Ideal S8x6144 .f32) : FVec Ideal S64x6144 .f32 :=
  shapeCast S64x6144 (cat6144 (shapeCast S8x4x6144 x shapeCasts_S32x6144_S8x4x6144) (shapeCast S8x1x6144 y shapeCasts_S8x6144_S8x1x6144)
    (broadcastInDim S8x3x6144 ![] bcast_S_S8x3x6144 (constant (F := Ideal) S_ .f32 0x00000000#32))) shapeCasts_S8x8x6144_S64x6144

/-- `x / (1 + exp (-x))` as the host writes it. -/
def silu (x : FVec Ideal S8x8x1024 .f32) : FVec Ideal S8x8x1024 .f32 :=
  mulf x (Host.divf (broadcastInDim S8x8x1024 ![] bcast_S_S8x8x1024 (constant S_ .f32 0x3F800000#32))
    (addf (broadcastInDim S8x8x1024 ![] bcast_S_S8x8x1024 (constant S_ .f32 0x3F800000#32)) (Host.exp (Host.negf x))))

/-- The first column of device `e`'s slice, as the host computes it. -/
def start (e : IVec S_ 32) : IVec S_ 32 :=
  select (cmpi .slt (muli e (constantI S_ 32 768#32)) (constantI S_ 32 0#32))
    (addi (muli e (constantI S_ 32 768#32)) (constantI S_ 32 6144#32)) (muli e (constantI S_ 32 768#32))

section reads
variable (W : Valuation τ sig (Elt Ideal))
theorem r4 : StableHlo.upto (hostOps0 (F := Ideal)) W 9 (Proc.devRef .tc main_v4) = shapeCast S8x4x6144 (W (Proc.devRef .tc main_arg4)) shapeCasts_S32x6144_S8x4x6144 := by
  after_reads_simp; rfl
theorem r5 : StableHlo.upto (hostOps0 (F := Ideal)) W 9 (Proc.devRef .tc main_v5) = shapeCast S8x1x6144 (W (Proc.devRef .tc main_arg5)) shapeCasts_S8x6144_S8x1x6144 := by
  after_reads_simp; rfl
theorem r6 : StableHlo.upto (hostOps0 (F := Ideal)) W 9 (Proc.devRef .tc main_v6) = broadcastInDim S8x3x6144 ![] bcast_S_S8x3x6144 (constant (F := Ideal) S_ .f32 0x00000000#32) := by
  after_reads_simp
theorem r0 : StableHlo.upto (hostOps0 (F := Ideal)) W 4 (Proc.devRef .tc main_v0) = shapeCast S8x4x1024 (W (Proc.devRef .tc main_arg0)) shapeCasts_S32x1024_S8x4x1024 := by
  after_reads_simp; rfl
theorem r1 : StableHlo.upto (hostOps0 (F := Ideal)) W 4 (Proc.devRef .tc main_v1) = broadcastInDim S8x1x1024 ![2] bcast_S1024_S8x1x1024_2 (W (Proc.devRef .tc main_arg1)) := by
  after_reads_simp
theorem r2 : StableHlo.upto (hostOps0 (F := Ideal)) W 4 (Proc.devRef .tc main_v2) = broadcastInDim S8x3x1024 ![] bcast_S_S8x3x1024 (constant (F := Ideal) S_ .f32 0x00000000#32) := by
  after_reads_simp
theorem r16 : StableHlo.after (hostOps0 (F := Ideal)) W (Proc.devRef .tc main_v16) = rows6144 (W (Proc.devRef .tc main_arg4)) (W (Proc.devRef .tc main_arg5)) := by
  after_reads_simp
  change shapeCast S64x6144 (cat6144 (StableHlo.upto (hostOps0 (F := Ideal)) W 9 (Proc.devRef .tc main_v4)) (StableHlo.upto hostOps0 W 9 (Proc.devRef .tc main_v5)) (StableHlo.upto hostOps0 W 9 (Proc.devRef .tc main_v6))) shapeCasts_S8x8x6144_S64x6144 = _
  rw [r4, r5, r6]; rfl
theorem r15 : StableHlo.after (hostOps0 (F := Ideal)) W (Proc.devRef .tc main_v15)
    = shapeCast S64x1024 (silu (rows1024 (W (Proc.devRef .tc main_arg0)) (W (Proc.devRef .tc main_arg1)))) shapeCasts_S8x8x1024_S64x1024 := by
  after_reads_simp
  change shapeCast S64x1024 (silu (cat1024 (StableHlo.upto (hostOps0 (F := Ideal)) W 4 (Proc.devRef .tc main_v0)) (StableHlo.upto hostOps0 W 4 (Proc.devRef .tc main_v1)) (StableHlo.upto hostOps0 W 4 (Proc.devRef .tc main_v2)))) shapeCasts_S8x8x1024_S64x1024 = _
  rw [r0, r1, r2]; rfl
theorem r22 : StableHlo.after (hostOps0 (F := Ideal)) W (Proc.devRef .tc main_v22) = shapeCast S1x1024 (W (Proc.devRef .tc main_arg1)) shapeCasts_S1024_S1x1024 := by
  after_reads_simp; rfl
theorem r23 : StableHlo.after (hostOps0 (F := Ideal)) W (Proc.devRef .tc main_v23) = truncf (F := Ideal) .bf16 (W (Proc.devRef .tc main_arg2)) bitsLt_bf16_f32 := by
  after_reads_simp
theorem rc5 : StableHlo.upto (hostOps0 (F := Ideal)) W 29 (Proc.devRef .tc main_c_5) = constantI S_ 32 0#32 := by
  after_reads_simp
theorem r20 : StableHlo.upto (hostOps0 (F := Ideal)) W 29 (Proc.devRef .tc main_v20) = start (W (Proc.devRef .tc main_arg6)) := by
  after_reads_simp; rfl
theorem r21 : StableHlo.after (hostOps0 (F := Ideal)) W (Proc.devRef .tc main_v21)
    = Host.dynamicSlice S64x768 (rows6144 (W (Proc.devRef .tc main_arg4)) (W (Proc.devRef .tc main_arg5)))
      (fun k => ((![constantI S_ 32 0#32, start (W (Proc.devRef .tc main_arg6))] : Fin 2 → IVec S_ 32) k (Shape.Idx.first h_S_)).toInt) sliceFits_S64x6144_S64x768 := by
  after_reads_simp
  change Host.dynamicSlice S64x768 (shapeCast S64x6144 (cat6144 (StableHlo.upto hostOps0 W 9 (Proc.devRef .tc main_v4)) (StableHlo.upto hostOps0 W 9 (Proc.devRef .tc main_v5)) (StableHlo.upto hostOps0 W 9 (Proc.devRef .tc main_v6))) shapeCasts_S8x8x6144_S64x6144) _ _ = _
  rw [r4, r5, r6]
  refine congrArg (fun f => Host.dynamicSlice S64x768 _ f sliceFits_S64x6144_S64x768) (funext fun k => ?_)
  fin_cases k
  · exact congrArg (fun x : IVec S_ 32 => BitVec.toInt (x (Shape.Idx.first h_S_))) (rc5 W)
  · exact congrArg (fun x : IVec S_ 32 => BitVec.toInt (x (Shape.Idx.first h_S_))) (r20 W)
end reads
end Cert.KernelIdeal.Ada
-- ==== Proof.AdaRefPoint.lean ====
module
public import proofs.«01_k».proof.Proof.Gen.ReferenceIdeal.Run
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.ReferenceIdeal.Ada
open Cert.ReferenceIdeal Cert.ReferenceIdeal.Gen Idealize.ShloMosaic.StableHlo

/-- The reference's result 0. -/
def out0 (x : FVec Ideal S32x1024 .f32) (y : FVec Ideal S1024 .f32) (w : FVec Ideal S1024x6144 .f32) (gx : FVec Ideal S32x6144 .f32) (gc : FVec Ideal S8x6144 .f32) (me : IVec S_ 32) : FVec Ideal S1024x768 .f32 :=
  Host.dynamicSlice S1024x768 (addf (transpose S1024x6144 [1, 0] (Host.dotGeneral dot_S1x6144_S1x1024_S6144x1024_0_0_1_1_n_n none (broadcastInDim S1x6144 ![1] bcast_S6144_S1x6144_1 (Host.reduceAdd gc (constant S_ .f32 0x00000000#32) reducesTo_S8x6144_S6144_d0 h_S_)) (mulf (broadcastInDim S1x1024 ![1] bcast_S1024_S1x1024_1 y) (Host.divf (broadcastInDim S1x1024 ![] bcast_S_S1x1024 (constant S_ .f32 0x3F800000#32)) (addf (broadcastInDim S1x1024 ![] bcast_S_S1x1024 (constant S_ .f32 0x3F800000#32)) (Host.exp (Host.negf (broadcastInDim S1x1024 ![1] bcast_S1024_S1x1024_1 y))))))) transposes_S6144x1024_S1024x6144_1_0) (transpose S1024x6144 [1, 0] (Host.dotGeneral dot_S32x6144_S32x1024_S6144x1024_0_0_1_1_n_n none (shapeCast _ gx shapeCasts_S32x6144_S32x6144) (mulf x (Host.divf (broadcastInDim S32x1024 ![] bcast_S_S32x1024 (constant S_ .f32 0x3F800000#32)) (addf (broadcastInDim S32x1024 ![] bcast_S_S32x1024 (constant S_ .f32 0x3F800000#32)) (Host.exp (Host.negf x)))))) transposes_S6144x1024_S1024x6144_1_0)) (fun k => (((![constantI S_ 32 0#32, select (cmpi .slt (muli me (constantI S_ 32 768#32)) (constantI S_ 32 0#32)) (addi (muli me (constantI S_ 32 768#32)) (constantI S_ 32 6144#32)) (muli me (constantI S_ 32 768#32))] : Fin 2 → (⟨S_, .i32⟩ : BufTy).Contents (Elt Ideal))) k (Shape.Idx.first h_S_)).toInt) sliceFits_S1024x6144_S1024x768

/-- The reference's result 1. -/
def out1 (x : FVec Ideal S32x1024 .f32) (y : FVec Ideal S1024 .f32) (w : FVec Ideal S1024x6144 .f32) (gx : FVec Ideal S32x6144 .f32) (gc : FVec Ideal S8x6144 .f32) (me : IVec S_ 32) : FVec Ideal S1x6144 .f32 :=
  shapeCast S1x6144 (addf (Host.reduceAdd (broadcastInDim S1x6144 ![1] bcast_S6144_S1x6144_1 (Host.reduceAdd gc (constant S_ .f32 0x00000000#32) reducesTo_S8x6144_S6144_d0 h_S_)) (constant S_ .f32 0x00000000#32) reducesTo_S1x6144_S6144_d0 h_S_) (Host.reduceAdd (shapeCast _ (Host.reduceAdd gx (constant S_ .f32 0x00000000#32) reducesTo_S32x6144_S6144_d0 h_S_) shapeCasts_S6144_S1x6144) (constant S_ .f32 0x00000000#32) reducesTo_S1x6144_S6144_d0 h_S_)) shapeCasts_S6144_S1x6144

/-- The reference's result 2. -/
def out2 (x : FVec Ideal S32x1024 .f32) (y : FVec Ideal S1024 .f32) (w : FVec Ideal S1024x6144 .f32) (gx : FVec Ideal S32x6144 .f32) (gc : FVec Ideal S8x6144 .f32) (me : IVec S_ 32) : FVec Ideal S1x1024 .f32 :=
  shapeCast S1x1024 (Host.reduceAdd (addf (mulf (Host.dotGeneral dot_S1x6144_S1024x6144_S1x1024_1_1_0_0_n_n none (broadcastInDim S1x6144 ![1] bcast_S6144_S1x6144_1 (Host.reduceAdd gc (constant S_ .f32 0x00000000#32) reducesTo_S8x6144_S6144_d0 h_S_)) w) (Host.divf (broadcastInDim S1x1024 ![] bcast_S_S1x1024 (constant S_ .f32 0x3F800000#32)) (addf (broadcastInDim S1x1024 ![] bcast_S_S1x1024 (constant S_ .f32 0x3F800000#32)) (Host.exp (Host.negf (broadcastInDim S1x1024 ![1] bcast_S1024_S1x1024_1 y)))))) (mulf (mulf (broadcastInDim S1x1024 ![1] bcast_S1024_S1x1024_1 y) (Host.dotGeneral dot_S1x6144_S1024x6144_S1x1024_1_1_0_0_n_n none (broadcastInDim S1x6144 ![1] bcast_S6144_S1x6144_1 (Host.reduceAdd gc (constant S_ .f32 0x00000000#32) reducesTo_S8x6144_S6144_d0 h_S_)) w)) (mulf (Host.divf (broadcastInDim S1x1024 ![] bcast_S_S1x1024 (constant S_ .f32 0x3F800000#32)) (addf (broadcastInDim S1x1024 ![] bcast_S_S1x1024 (constant S_ .f32 0x3F800000#32)) (Host.exp (Host.negf (broadcastInDim S1x1024 ![1] bcast_S1024_S1x1024_1 y))))) (subf (broadcastInDim S1x1024 ![] bcast_S_S1x1024 (constant S_ .f32 0x3F800000#32)) (Host.divf (broadcastInDim S1x1024 ![] bcast_S_S1x1024 (constant S_ .f32 0x3F800000#32)) (addf (broadcastInDim S1x1024 ![] bcast_S_S1x1024 (constant S_ .f32 0x3F800000#32)) (Host.exp (Host.negf (broadcastInDim S1x1024 ![1] bcast_S1024_S1x1024_1 y))))))))) (constant S_ .f32 0x00000000#32) reducesTo_S1x1024_S1024_d0 h_S_) shapeCasts_S1024_S1x1024

end Cert.ReferenceIdeal.Ada
-- ==== Proof.Finite.lean ====
module
public import Idealize.ShloMosaic.Lib.Pipeline.ValueKit
public import Idealize.ShloMosaic.Lib.Pointwise
public import Idealize.ShloMosaic.Lib.ReduceAll
@[expose] public section
noncomputable section
open Idealize.ShloMosaic
namespace Cert.Finite

/-- A value that is a real number. -/
def IsReal (x : EReal) : Prop := ∃ r : ℝ, x = r

theorem IsReal.zero : IsReal 0 := ⟨0, by simp⟩
theorem IsReal.one : IsReal 1 := ⟨1, by simp⟩
theorem IsReal.add {x y : EReal} (hx : IsReal x) (hy : IsReal y) : IsReal (x + y) := by
  obtain ⟨a, rfl⟩ := hx; obtain ⟨b, rfl⟩ := hy; exact ⟨a + b, by norm_cast⟩
theorem IsReal.mul {x y : EReal} (hx : IsReal x) (hy : IsReal y) : IsReal (x * y) := by
  obtain ⟨a, rfl⟩ := hx; obtain ⟨b, rfl⟩ := hy; exact ⟨a * b, by norm_cast⟩
theorem IsReal.neg {x : EReal} (hx : IsReal x) : IsReal (-x) := by
  obtain ⟨a, rfl⟩ := hx; exact ⟨-a, by norm_cast⟩
theorem IsReal.sub {x y : EReal} (hx : IsReal x) (hy : IsReal y) : IsReal (x - y) := by
  obtain ⟨a, rfl⟩ := hx; obtain ⟨b, rfl⟩ := hy; exact ⟨a - b, by norm_cast⟩
/-- The sum of real numbers, taken among the extended reals. -/
theorem coe_sum {n : ℕ} (g : Fin n → ℝ) : ((∑ i, g i : ℝ) : EReal) = ∑ i, (g i : EReal) := by
  induction n with
  | zero => simp
  | succ n ih => rw [Fin.sum_univ_succ, Fin.sum_univ_succ, EReal.coe_add, ih]

theorem IsReal.sum {n : ℕ} {f : Fin n → EReal} (h : ∀ i, IsReal (f i)) : IsReal (∑ i, f i) := by
  choose g hg using h
  exact ⟨∑ i, g i, by rw [Finset.sum_congr rfl fun i _ => hg i, coe_sum]⟩

/-- The logistic function of a real number is a real number. -/
theorem IsReal.sigmoid {x : EReal} (hx : IsReal x) : IsReal (Ideal.div 1 (1 + Ideal.exp (-x))) := by
  obtain ⟨a, rfl⟩ := hx
  have e : (1 : EReal) + Ideal.exp (-(a : EReal)) = ((1 + Real.exp (-a) : ℝ) : EReal) := by
    rw [← EReal.coe_neg, Ideal.exp_coe]; norm_cast
  have h : (1 + Real.exp (-a) : ℝ) ≠ 0 := by positivity
  rw [e, Ideal.div_coe h, one_mul]
  exact ⟨_, rfl⟩

/-- A real factor distributes over a sum of real numbers. -/
theorem sum_mul_real {n : ℕ} {f : Fin n → EReal} (h : ∀ i, IsReal (f i)) {y : EReal} (hy : IsReal y) :
    (∑ i, f i) * y = ∑ i, f i * y := by
  choose g hg using h
  obtain ⟨b, rfl⟩ := hy
  simp only [hg]
  rw [← coe_sum, ← EReal.coe_mul, Finset.sum_mul, coe_sum]
  exact Finset.sum_congr rfl fun i _ => EReal.coe_mul _ _

theorem mul_add_real {x y z : EReal} (hx : IsReal x) (hy : IsReal y) (hz : IsReal z) : x * (y + z) = x * y + x * z := by
  obtain ⟨a, rfl⟩ := hx; obtain ⟨b, rfl⟩ := hy; obtain ⟨c, rfl⟩ := hz
  norm_cast; ring

/-- A value whose absolute value is below infinity is a real number. -/
theorem isReal_of_abs {x : EReal} (h : Ideal.cmp .olt (max x (-x)) ⊤ = 1) : IsReal x := by
  rw [Ideal.cmp_olt_eq_one] at h
  induction x using EReal.rec with
  | bot => simp at h
  | top => simp at h
  | coe a => exact ⟨a, rfl⟩

/-- An array all of whose absolute values the host found below infinity has real elements. -/
theorem isReal_of_all {s u t : Shape} {axes : List (Fin s.rank)} [Subsingleton t.Idx] (x : FVec Ideal s .f32) (y : FVec Ideal s .f32) (hy : ∀ i, y i = (⊤ : EReal))
    (init : u.Idx → BitVec 1) (h : s.ReducesTo axes t) (hu : 0 < u.numel) (j : t.Idx)
    (e : Host.reduce IntOp.andi (cmpf .olt (Host.absf x) y) init h hu j = 1#1) (i : s.Idx) : IsReal (x i) := by
  have := Host.reduce_andi_all _ _ _ _ j e i
  refine isReal_of_abs ?_
  rw [← hy i]
  exact this
end Cert.Finite
-- ==== Proof.AdaEq.lean ====
module
public import proofs.«01_k».proof.Proof.AdaHost
public import proofs.«01_k».proof.Proof.AdaRefPoint
public import proofs.«01_k».proof.Proof.Finite
@[expose] public section
set_option maxRecDepth 16384
noncomputable section
open Idealize.ShloMosaic Idealize.ShloMosaic.TcCoe Idealize.SL.Sem
namespace Cert.Ada
open Cert.KernelIdeal Cert.KernelIdeal.Gen Cert.KernelIdeal.Ada Cert.ReferenceIdeal.Ada Cert.Finite

/-- A sum over the 64 rows of the eight devices: the batch rows, the context rows, and zeros. -/
theorem sum_rows (f : Fin 64 → EReal) (x : Fin 32 → EReal) (y : Fin 8 → EReal)
    (h : ∀ r : Fin 64, f r = if h : r.val % 8 < 4 then x ⟨r.val / 8 * 4 + r.val % 8, by omega⟩
      else if _ : r.val % 8 - 4 < 1 then y ⟨r.val / 8, by omega⟩ else 0) :
    ∑ r, f r = ∑ d, y d + ∑ b, x b := by
  rw [Fin.sum_univ_tiles 8 8 rfl f, Fin.sum_univ_tiles 8 4 rfl x, ← Finset.sum_add_distrib]
  refine Finset.sum_congr rfl fun d _ => ?_
  have hd := d.isLt
  have lo : ∀ (k : ℕ) (hk : k < 4), f ⟨d.val * 8 + k, by omega⟩ = x ⟨d.val * 4 + k, by omega⟩ := fun k hk => by
    rw [h, dif_pos (show (d.val * 8 + k) % 8 < 4 by omega)]
    exact congrArg x (Fin.ext (show (d.val * 8 + k) / 8 * 4 + (d.val * 8 + k) % 8 = d.val * 4 + k by omega))
  have mid : f ⟨d.val * 8 + 4, by omega⟩ = y d := by
    rw [h, dif_neg (show ¬ (d.val * 8 + 4) % 8 < 4 by omega), dif_pos (show (d.val * 8 + 4) % 8 - 4 < 1 by omega)]
    exact congrArg y (Fin.ext (show (d.val * 8 + 4) / 8 = d.val by omega))
  have hi : ∀ (k : ℕ) (_ : 4 < k) (hk : k < 8), f ⟨d.val * 8 + k, by omega⟩ = 0 := fun k hk4 hk => by
    rw [h, dif_neg (show ¬ (d.val * 8 + k) % 8 < 4 by omega), dif_neg (show ¬ (d.val * 8 + k) % 8 - 4 < 1 by omega)]
  rw [Fin.sum_univ_eight, Fin.sum_univ_four]
  calc _ = x ⟨d.val * 4 + 0, by omega⟩ + x ⟨d.val * 4 + 1, by omega⟩ + x ⟨d.val * 4 + 2, by omega⟩ + x ⟨d.val * 4 + 3, by omega⟩
        + y d + 0 + 0 + 0 := by
        exact congr (congrArg _ (congr (congrArg _ (congr (congrArg _ (congr (congrArg _ (congr (congrArg _ (congr (congrArg _
          (congr (congrArg _ (lo 0 (by omega))) (lo 1 (by omega)))) (lo 2 (by omega)))) (lo 3 (by omega)))) mid))
          (hi 5 (by omega) (by omega)))) (hi 6 (by omega) (by omega)))) (hi 7 (by omega) (by omega))
    _ = _ := by rw [add_zero, add_zero, add_zero, add_comm]; rfl

variable (x : FVec Ideal S32x1024 .f32) (y : FVec Ideal S1024 .f32) (w : FVec Ideal S1024x6144 .f32) (gx : FVec Ideal S32x6144 .f32) (gc : FVec Ideal S8x6144 .f32) (me : IVec S_ 32)

/-- The bias gradient. -/
theorem eq1 : k0_pay4 (F := Ideal) (rows6144 gx gc) = out1 x y w gx gc me := by
  funext j; idx_vars j
  pointwise [k0_pay4, k0_pay2, rows6144, cat6144, out1]
  rw [sum_rows _ (fun b => gx (ix2 b j1)) (fun d => gc (ix2 d j1)) (fun r => rfl), Fin.sum_univ_one, Fin.sum_univ_one]

theorem mask : ∀ r : Fin 64, (IntOp.cmpi CmpIPredicate.eq
                (Scalar.select
                  (IntOp.andi
                    (IntOp.xori
                      (IntOp.cmpi CmpIPredicate.slt
                        (IntOp.remsi ArithUnit.vector (BitVec.ofNat 32 r.val)
                          (Scalar.select (Scalar.cmpi CmpIPredicate.eq 8#32 0#32) 1#32 8#32))
                        0#32)
                      (Scalar.cmpi CmpIPredicate.slt (Scalar.select (Scalar.cmpi CmpIPredicate.eq 8#32 0#32) 1#32 8#32)
                        0#32))
                    (IntOp.cmpi CmpIPredicate.ne
                      (IntOp.remsi ArithUnit.vector (BitVec.ofNat 32 r.val)
                        (Scalar.select (Scalar.cmpi CmpIPredicate.eq 8#32 0#32) 1#32 8#32))
                      0#32))
                  (IntOp.addi
                    (IntOp.remsi ArithUnit.vector (BitVec.ofNat 32 r.val)
                      (Scalar.select (Scalar.cmpi CmpIPredicate.eq 8#32 0#32) 1#32 8#32))
                    (Scalar.select (Scalar.cmpi CmpIPredicate.eq 8#32 0#32) 1#32 8#32))
                  (IntOp.remsi ArithUnit.vector (BitVec.ofNat 32 r.val)
                    (Scalar.select (Scalar.cmpi CmpIPredicate.eq 8#32 0#32) 1#32 8#32)))
                4#32) = if r.val % 8 = 4 then 1#1 else 0#1 := by decide

/-- The context row's gradient. -/
theorem eq2 (hy : ∀ i, IsReal (y i)) (hw : ∀ i, IsReal (w i)) (hg : ∀ i, IsReal (gc i)) :
    k0_pay1 (F := Ideal) (k0_pay5 (F := Ideal) (rows6144 gx gc)) (truncf (F := Ideal) .bf16 w bitsLt_bf16_f32)
      (shapeCast S1x1024 y shapeCasts_S1024_S1x1024) = out2 x y w gx gc me := by
  funext j; idx_vars j
  pointwise [k0_pay1,k0_pay2,k0_pay5, rows6144, cat6144, out2]
  simp only [mask, zero_sub, Fin.sum_univ_one]
  have e : ∀ k : Fin 6144, (∑ r : Fin 64, Scalar.select (if r.val % 8 = 4 then 1#1 else 0#1)
      (if h : r.val % 8 < 4 then gx (ix2 ⟨r.val / 8 * 4 + r.val % 8, by omega⟩ k)
        else if h : r.val % 8 - 4 < 1 then gc (ix2 ⟨r.val / 8, by omega⟩ k) else 0) (0 : EReal)) = ∑ d, gc (ix2 d k) := fun k => by
    rw [sum_rows _ (fun _ => 0) (fun d => gc (ix2 d k)) (fun r => ?_)]
    · simp
    · by_cases h4 : r.val % 8 = 4
      · simp [h4, Scalar.select]
      · rcases Nat.lt_or_gt_of_ne h4 with h | h
        · simp [h4, Scalar.select, h]
        · have h1 : ¬ r.val % 8 < 4 := by omega
          have h2 : ¬ r.val % 8 - 4 < 1 := by omega
          simp [h4, Scalar.select, h1, h2]
  have hs := (hy (ix1 j1)).sigmoid
  have hd : IsReal (∑ k : Fin 6144, (∑ d, gc (ix2 d k)) * w (ix2 j1 k)) := IsReal.sum fun k => (IsReal.sum fun d => hg _).mul (hw _)
  simp only [e]
  rw [mul_add_real hd hs (((hy _).mul hs).mul (IsReal.one.sub hs))]
  congr 1
  rw [mul_comm (y (ix1 j1)) (∑ k : Fin 6144, _), mul_assoc, mul_assoc]

/-- A slice as high as its array starts at its first row. -/
theorem clamp0 (f : Fin 2 → Int) : Host.clampedStart ReferenceIdeal.S1024x6144 ReferenceIdeal.S1024x768 rfl f 0 = 0 := by
  have := Host.clampedStart_le (s := ReferenceIdeal.S1024x6144) (t := ReferenceIdeal.S1024x768) rfl f 0
  simpa using this

/-- Both programs cut the slice at the same column. -/
theorem clamp1 : Host.clampedStart ReferenceIdeal.S1024x6144 ReferenceIdeal.S1024x768 rfl
      (fun k => ((![constantI ReferenceIdeal.S_ 32 0#32,
        select (cmpi CmpIPredicate.slt (muli me (constantI ReferenceIdeal.S_ 32 768#32)) (constantI ReferenceIdeal.S_ 32 0#32))
          (addi (muli me (constantI ReferenceIdeal.S_ 32 768#32)) (constantI ReferenceIdeal.S_ 32 6144#32))
          (muli me (constantI ReferenceIdeal.S_ 32 768#32))] : Fin 2 → IVec S_ 32) k (Shape.Idx.first ReferenceIdeal.Gen.h_S_)).toInt) 1
    = Host.clampedStart S64x6144 S64x768 rfl (fun k => ((![constantI S_ 32 0#32, start me] : Fin 2 → IVec S_ 32) k (Shape.Idx.first h_S_)).toInt) 1 := rfl

theorem clampK (f : Fin 2 → Int) : Host.clampedStart S64x6144 S64x768 rfl f 0 = 0 := by
  have := Host.clampedStart_le (s := S64x6144) (t := S64x768) rfl f 0
  simpa using this

/-- One entry of the weight gradient. -/
theorem eq0_at (hy : ∀ i, IsReal (y i)) (hg : ∀ i, IsReal (gc i)) (j0 : Fin 1024) (col : Fin 6144) :
    (∑ r : Fin 64,
      (if h : r.val % 8 < 4 then x (ix2 ⟨r.val / 8 * 4 + r.val % 8, by omega⟩ j0)
          else if h : r.val % 8 - 4 < 1 then y (ix1 j0) else 0) *
          Ideal.div 1 (1 + Ideal.exp (-if h : r.val % 8 < 4 then x (ix2 ⟨r.val / 8 * 4 + r.val % 8, by omega⟩ j0)
                  else if h : r.val % 8 - 4 < 1 then y (ix1 j0) else 0)) *
        if h : r.val % 8 < 4 then gx (ix2 ⟨r.val / 8 * 4 + r.val % 8, by omega⟩ col)
        else if h : r.val % 8 - 4 < 1 then gc (ix2 ⟨r.val / 8, by omega⟩ col) else 0)
    = ∑ _k : Fin 1, (∑ d, gc (ix2 d col)) * (y (ix1 j0) * Ideal.div 1 (1 + Ideal.exp (-y (ix1 j0)))) +
      ∑ b, gx (ix2 b col) * (x (ix2 b j0) * Ideal.div 1 (1 + Ideal.exp (-x (ix2 b j0)))) := by
  rw [sum_rows _ (fun b => gx (ix2 b col) * (x (ix2 b j0) * Ideal.div 1 (1 + Ideal.exp (-x (ix2 b j0)))))
    (fun d => gc (ix2 d col) * (y (ix1 j0) * Ideal.div 1 (1 + Ideal.exp (-y (ix1 j0))))) (fun r => ?_)]
  · rw [Fin.sum_univ_one, sum_mul_real (fun d => hg _) ((hy _).mul (hy _).sigmoid)]
  · split_ifs
    · exact mul_comm _ _
    · exact mul_comm _ _
    · simp

/-- The weight gradient's slice. -/
theorem eq0 (hy : ∀ i, IsReal (y i)) (hg : ∀ i, IsReal (gc i)) :
    k0_pay3 (F := Ideal) (shapeCast S64x1024 (silu (rows1024 x y)) shapeCasts_S8x8x1024_S64x1024) (Host.dynamicSlice S64x768 (rows6144 gx gc)
      (fun k => ((![constantI S_ 32 0#32, start me] : Fin 2 → IVec S_ 32) k (Shape.Idx.first h_S_)).toInt) sliceFits_S64x6144_S64x768)
     = out0 x y w gx gc me := by
  funext j; idx_vars j
  pointwise [k0_pay3, rows6144, cat6144, rows1024, cat1024, silu, out0]
  simp only [clamp0, clampK, clamp1 me, zero_add, Fin.eta]
  exact eq0_at x y gx gc hy hg j0 ⟨_, _⟩
end Cert.Ada
-- ==== Proof.AdaAlg.lean ====
module

public import proofs.«01_k».proof.Proof.Ada
public import proofs.«01_k».proof.Proof.AdaEq

@[expose] public section

set_option maxRecDepth 16384

noncomputable section

open Idealize.ShloMosaic Idealize.ShloMosaic.TcCoe Idealize.SL.Sem
namespace Cert.Ada
open Cert.Finite

instance : Subsingleton (Cert.Pre_finite.S_).Idx := ⟨fun a b => funext fun i => Fin.elim0 i⟩

theorem inf_bits : Ideal.ofBits .f32 0x7F800000#32 = ⊤ := by simp [Ideal.ofBits, Ideal.ieee]

/-- What the precondition says of the arrays it reads. -/
theorem pre_real (a0 : FVec Ideal Cert.Pre_finite.S32x1024 .f32) (y : FVec Ideal Cert.Pre_finite.S1024 .f32)
    (w : FVec Ideal Cert.Pre_finite.S1024x6144 .f32) (a3 : FVec Ideal Cert.Pre_finite.S6144 .f32) (a4 : FVec Ideal Cert.Pre_finite.S32x6144 .f32)
    (gc : FVec Ideal Cert.Pre_finite.S8x6144 .f32) (a6 : IVec Cert.Pre_finite.S_ 32)
    (h : @Cert.Pre_finite.fn Cert.Pre_finite.Gen.facts Ideal _ a0 y w a3 a4 gc a6 = fun _ => 1#1) :
    (∀ i, IsReal (y i)) ∧ (∀ i, IsReal (w i)) ∧ (∀ i, IsReal (gc i)) := by
  have h0 := congrFun h (fun i => Fin.elim0 i)
  have h1 := IntOp.andi_eq_one.1 h0
  have h2 := IntOp.andi_eq_one.1 h1.1
  have inf : ∀ x : Ideal .f32, x = Scalar.ofBits (F := Ideal) .f32 0x7F800000#32 → x = (⊤ : EReal) := fun x hx => by
    rw [hx]; exact inf_bits
  exact ⟨isReal_of_all _ _ (fun i => inf _ rfl) _ _ _ _ h2.1, isReal_of_all _ _ (fun i => inf _ rfl) _ _ _ _ h2.2,
    isReal_of_all _ _ (fun i => inf _ rfl) _ _ _ _ h1.2⟩

theorem alg : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, ?_, ?_⟩
  · exact Cert.KernelIdeal.Value.run_blocks m g
  · refine (θ_run _ _ _).mono (fun _ h c => ?_) (Cert.ReferenceIdeal.Value.run (F := Ideal) m' g')
    obtain ⟨hy, hw, hg⟩ := pre_real _ _ _ _ _ _ _ (hpre c)
    obtain ⟨h0, h1, h2, hargs⟩ := h c
    obtain ⟨e0, e1, e2, -, e4, e5, e6⟩ := hag c
    refine ⟨h0.trans ?_, h1.trans ?_, h2.trans ?_, hargs⟩
    · rw [e0, e1, e4, e5, e6]
      exact ((Cert.KernelIdeal.Ada.final5 m c).trans ((congrArg₂ _ (Cert.KernelIdeal.Ada.r15 _) (Cert.KernelIdeal.Ada.r21 _)).trans (eq0 _ _ (m ((c.tc : Thread Cert.KernelIdeal.nD Cert.KernelIdeal.τ).loc Cert.KernelIdeal.main_arg2)) _ _ _ hy hg))).symm
    · rw [e4, e5]
      exact ((Cert.KernelIdeal.Ada.final6 m c).trans ((congrArg _ (Cert.KernelIdeal.Ada.r16 _)).trans (eq1 (fun _ => 0) (fun _ => 0) (fun _ => 0) _ _ (fun _ => 0)))).symm
    · rw [e1, e2, e5]
      refine Eq.symm ((Cert.KernelIdeal.Ada.final7 m c).trans (Eq.trans ?_ (eq2 (fun _ => 0) _ _ (m ((c.tc : Thread Cert.KernelIdeal.nD Cert.KernelIdeal.τ).loc Cert.KernelIdeal.main_arg4)) _ (fun _ => 0) hy hw hg)))
      exact congr (congrArg₂ _ (congrArg _ (Cert.KernelIdeal.Ada.r16 _)) (Cert.KernelIdeal.Ada.r23 _)) (Cert.KernelIdeal.Ada.r22 _)
end Cert.Ada
-- ==== Proof.NormRow.lean ====
module

public import Idealize.ShloMosaic.Lib.Pipeline.ValueKit
public import Idealize.ShloMosaic.Lib.Pointwise

@[expose] public section

set_option maxRecDepth 16384

noncomputable section

open Idealize.ShloMosaic

namespace Cert.NormRow

/-- The mean square of a row, with the norm's small constant added. -/
def ms (x : Fin 1024 → EReal) : EReal :=
  Ideal.div (∑ k, x k * x k) (Ideal.ofBits FTy.f32 1149239296#32) + Ideal.ofBits FTy.f32 897988541#32

/-- The factor of `x` in the gradient of the norm: what comes back through the mean square. -/
def corr (x g s d : Fin 1024 → EReal) : EReal :=
  Ideal.div ((∑ k, x k * (d k * (1 + s k) * g k)) *
    (Ideal.ofBits FTy.f32 3204448256#32 * Ideal.div (Ideal.rsqrt (ms x)) (ms x))) (Ideal.ofBits FTy.f32 1149239296#32)

/-- The gradient of a modulated, normalised row with respect to the row: `g` the norm's weight, `s` the modulation's
    scale, `d` the cotangent. -/
def grad (x g s d : Fin 1024 → EReal) (h : Fin 1024) : EReal :=
  d h * (1 + s h) * g h * Ideal.rsqrt (ms x) + x h * corr x g s d + corr x g s d * x h

end Cert.NormRow
-- ==== Proof.InProjShift.lean ====
module

public import proofs.«01_k».proof.Proof.Gen.Reference2Ideal.Run
public import Idealize.ShloMosaic.Lib.Pointwise
public import proofs.«01_k».proof.Proof.Finite

@[expose] public section

set_option maxRecDepth 16384

noncomputable section

open Idealize.ShloMosaic Idealize.ShloMosaic.TcCoe Idealize.SL.Sem Idealize.ShloMosaic.StableHlo

namespace Cert.InProj
open Cert.Reference2Ideal Cert.Reference2Ideal.Gen Cert.Reference2Ideal.Value

/-- The transpose of the token shift, as `jax.vjp` writes it: the later sequence and the first, each zero beyond its ends. -/
def hshift (d : FVec Ideal S4x2304x2976 .f32) (p n : FVec Ideal S1x1952 .f32) : FVec Ideal S4x2304x1952 .f32 :=
  let e : FVec Ideal S4x2304x1952 .f32 := extractStridedSlice S4x2304x1952 ![0, 0, 0] d slices_S4x2304x2976_S4x2304x1952_0_0_0
  let e1 : FVec Ideal S4x256x1952 .f32 := extractStridedSlice S4x256x1952 ![0, 0, 0] e slices_S4x2304x1952_S4x256x1952_0_0_0
  let e2 : FVec Ideal S4x2048x1952 .f32 := extractStridedSlice S4x2048x1952 ![0, 256, 0] e slices_S4x2304x1952_S4x2048x1952_0_256_0
  let wp : FVec Ideal S1x1x1952 .f32 := broadcastInDim S1x1x1952 ![2] bcast_S1952_S1x1x1952_2 (shapeCast S1952 p shapeCasts_S1x1952_S1952)
  let wn : FVec Ideal S1x1x1952 .f32 := broadcastInDim S1x1x1952 ![2] bcast_S1952_S1x1x1952_2 (shapeCast S1952 n shapeCasts_S1x1952_S1952)
  let n2 : FVec Ideal S4x2048x1952 .f32 := mulf (broadcastInDim S4x2048x1952 ![0, 1, 2] bcast_S1x1x1952_S4x2048x1952_0_1_2 wn) e2
  let p2 : FVec Ideal S4x2048x1952 .f32 := mulf (broadcastInDim S4x2048x1952 ![0, 1, 2] bcast_S1x1x1952_S4x2048x1952_0_1_2 wp) e2
  let s2 : FVec Ideal S4x2050x1952 .f32 := addf (pad S4x2050x1952 ![0, 2, 0] ![0, 0, 0] ![0, 0, 0] n2 (constant (F := Ideal) S_ .f32 0x00000000#32) pads_S4x2048x1952_S4x2050x1952_000_200_000 h_S_) (pad S4x2050x1952 ![0, 0, 0] ![0, 2, 0] ![0, 0, 0] p2 (constant (F := Ideal) S_ .f32 0x00000000#32) pads_S4x2048x1952_S4x2050x1952_000_020_000 h_S_)
  let n1 : FVec Ideal S4x256x1952 .f32 := mulf (broadcastInDim S4x256x1952 ![0, 1, 2] bcast_S1x1x1952_S4x256x1952_0_1_2 wn) e1
  let p1 : FVec Ideal S4x256x1952 .f32 := mulf (broadcastInDim S4x256x1952 ![0, 1, 2] bcast_S1x1x1952_S4x256x1952_0_1_2 wp) e1
  let s1 : FVec Ideal S4x258x1952 .f32 := addf (pad S4x258x1952 ![0, 2, 0] ![0, 0, 0] ![0, 0, 0] n1 (constant (F := Ideal) S_ .f32 0x00000000#32) pads_S4x256x1952_S4x258x1952_000_200_000 h_S_) (pad S4x258x1952 ![0, 0, 0] ![0, 2, 0] ![0, 0, 0] p1 (constant (F := Ideal) S_ .f32 0x00000000#32) pads_S4x256x1952_S4x258x1952_000_020_000 h_S_)
  addf (pad S4x2304x1952 ![0, 256, 0] ![0, 0, 0] ![0, 0, 0] (addf (addf (addf (Host.negf n2) e2) (Host.negf p2)) (extractStridedSlice S4x2048x1952 ![0, 1, 0] s2 slices_S4x2050x1952_S4x2048x1952_0_1_0)) (constant (F := Ideal) S_ .f32 0x00000000#32) pads_S4x2048x1952_S4x2304x1952_000_25600_000 h_S_) (pad S4x2304x1952 ![0, 0, 0] ![0, 2048, 0] ![0, 0, 0] (addf (addf (addf (Host.negf n1) e1) (Host.negf p1)) (extractStridedSlice S4x256x1952 ![0, 1, 0] s1 slices_S4x258x1952_S4x256x1952_0_1_0)) (constant (F := Ideal) S_ .f32 0x00000000#32) pads_S4x256x1952_S4x2304x1952_000_020480_000 h_S_)

open Cert.Finite in
/-- The five terms of a token's gradient, gathered. -/
theorem gather {d p n x y : EReal} (hd : IsReal d) (hp : IsReal p) (hn : IsReal n) (hx : IsReal x) (hy : IsReal y) :
    -(n * d) + d + -(p * d) + (n * y + p * x) = d * (1 - p - n) + p * x + n * y := by
  obtain ⟨d, rfl⟩ := hd; obtain ⟨p, rfl⟩ := hp; obtain ⟨n, rfl⟩ := hn; obtain ⟨x, rfl⟩ := hx; obtain ⟨y, rfl⟩ := hy
  norm_cast
  ring_nf

open Cert.Finite in
/-- Token by token: a token's own cotangent, the next token's and the previous one's, within its sequence. -/
theorem hshift_apply (d : FVec Ideal S4x2304x2976 .f32) (p n : FVec Ideal S1x1952 .f32) (hd : ∀ i, IsReal (d i)) (hp : ∀ i, IsReal (p i))
    (hn : ∀ i, IsReal (n i)) (b : Fin 4) (t : Fin 2304) (c : Fin 1952) :
    hshift d p n (ix3 b t c) = d (ix3 b t ⟨c.val, by omega⟩) * (1 - p (ix2 0 c) - n (ix2 0 c))
      + p (ix2 0 c) * (if h : t.val = 255 ∨ t.val = 2303 then 0 else d (ix3 b ⟨t.val + 1, by omega⟩ ⟨c.val, by omega⟩))
      + n (ix2 0 c) * (if h : t.val = 0 ∨ t.val = 256 then 0 else d (ix3 b ⟨t.val - 1, by omega⟩ ⟨c.val, by omega⟩)) := by
  have hx : IsReal (if h : t.val = 255 ∨ t.val = 2303 then 0 else d (ix3 b ⟨t.val + 1, by omega⟩ ⟨c.val, by omega⟩)) := by
    split_ifs; exacts [IsReal.zero, hd _]
  have hy : IsReal (if h : t.val = 0 ∨ t.val = 256 then 0 else d (ix3 b ⟨t.val - 1, by omega⟩ ⟨c.val, by omega⟩)) := by
    split_ifs; exacts [IsReal.zero, hd _]
  refine Eq.trans ?_ (gather (hd _) (hp _) (hn _) hx hy)
  clear hx hy
  pointwise [hshift]
  by_cases ht : t.val < 256
  · simp only [dif_neg (show ¬(256 ≤ t.val ∧ t.val - 256 < 2048) by omega), dif_pos ht, zero_add]
    refine congrArg (_ + ·) (congrArg₂ (· + ·) ?_ ?_)
    · by_cases h0 : t.val = 0
      · simp only [dif_neg (show ¬(2 ≤ 1 + t.val ∧ 1 + t.val - 2 < 256) by omega), dif_pos (show t.val = 0 ∨ t.val = 256 by omega), mul_zero]
      · simp only [dif_pos (show 2 ≤ 1 + t.val ∧ 1 + t.val - 2 < 256 by omega), dif_neg (show ¬(t.val = 0 ∨ t.val = 256) by omega)]
        exact congrArg (fun q => n (ix2 0 c) * d (ix3 b q ⟨c.val, by omega⟩)) (Fin.ext (show 1 + t.val - 2 = t.val - 1 by omega))
    · by_cases h0 : t.val = 255
      · simp only [dif_neg (show ¬(1 + t.val < 256) by omega), dif_pos (show t.val = 255 ∨ t.val = 2303 by omega), mul_zero]
      · simp only [dif_pos (show 1 + t.val < 256 by omega), dif_neg (show ¬(t.val = 255 ∨ t.val = 2303) by omega)]
        exact congrArg (fun q => p (ix2 0 c) * d (ix3 b q ⟨c.val, by omega⟩)) (Fin.ext (show 1 + t.val = t.val + 1 by omega))
  · have e : (⟨256 + (t.val - 256), by omega⟩ : Fin 2304) = t := Fin.ext (show 256 + (t.val - 256) = t.val by omega)
    simp only [dif_pos (show 256 ≤ t.val ∧ t.val - 256 < 2048 by omega), dif_neg ht, add_zero, e]
    refine congrArg (_ + ·) (congrArg₂ (· + ·) ?_ ?_)
    · by_cases h0 : t.val = 256
      · simp only [dif_neg (show ¬(2 ≤ 1 + (t.val - 256) ∧ 1 + (t.val - 256) - 2 < 2048) by omega), dif_pos (show t.val = 0 ∨ t.val = 256 by omega), mul_zero]
      · simp only [dif_pos (show 2 ≤ 1 + (t.val - 256) ∧ 1 + (t.val - 256) - 2 < 2048 by omega), dif_neg (show ¬(t.val = 0 ∨ t.val = 256) by omega)]
        exact congrArg (fun q => n (ix2 0 c) * d (ix3 b q ⟨c.val, by omega⟩)) (Fin.ext (show 256 + (1 + (t.val - 256) - 2) = t.val - 1 by omega))
    · by_cases h0 : t.val = 2303
      · simp only [dif_neg (show ¬(1 + (t.val - 256) < 2048) by omega), dif_pos (show t.val = 255 ∨ t.val = 2303 by omega), mul_zero]
      · simp only [dif_pos (show 1 + (t.val - 256) < 2048 by omega), dif_neg (show ¬(t.val = 255 ∨ t.val = 2303) by omega)]
        exact congrArg (fun q => p (ix2 0 c) * d (ix3 b q ⟨c.val, by omega⟩)) (Fin.ext (show 256 + (1 + (t.val - 256)) = t.val + 1 by omega))

end Cert.InProj
-- ==== Proof.InProjRef.lean ====
module

public import proofs.«01_k».proof.Proof.Gen.Reference2Ideal.Run
public import proofs.«01_k».proof.Proof.NormRow
public import proofs.«01_k».proof.Proof.InProjShift

@[expose] public section

set_option maxRecDepth 16384

noncomputable section

open Idealize.ShloMosaic Idealize.ShloMosaic.TcCoe Idealize.SL.Sem Idealize.ShloMosaic.StableHlo

namespace Cert.InProj
open Cert.Reference2Ideal Cert.Reference2Ideal.Gen Cert.Reference2Ideal.Value

/-- The mean squares as the host computes them. -/
def hms (x : FVec Ideal S4x9x256x1024 .f32) : FVec Ideal S4x9x256x1 .f32 :=
  addf (Host.divf (broadcastInDim S4x9x256x1 ![0, 1, 2] bcast_S4x9x256_S4x9x256x1_0_1_2 (Host.reduceAdd (mulf x x) (constant S_ .f32 0x00000000#32) reducesTo_S4x9x256x1024_S4x9x256_d3 h_S_)) (broadcastInDim S4x9x256x1 ![] bcast_S_S4x9x256x1 (constant S_ .f32 0x44800000#32))) (broadcastInDim S4x9x256x1 ![] bcast_S_S4x9x256x1 (constant S_ .f32 0x358637BD#32))

/-- The normalised rows. -/
def hnorm (x : FVec Ideal S4x9x256x1024 .f32) : FVec Ideal S4x9x256x1024 .f32 :=
  mulf x (broadcastInDim S4x9x256x1024 ![0, 1, 2, 3] bcast_S4x9x256x1_S4x9x256x1024_0_1_2_3 (Host.rsqrt (hms x)))

/-- The cotangent of the norm's output: the cotangent times the modulation's factor. -/
def hscaled (d : FVec Ideal S4x9x256x1024 .f32) (s : FVec Ideal S4x9x1x1024 .f32) : FVec Ideal S4x9x256x1024 .f32 :=
  mulf d (broadcastInDim S4x9x256x1024 ![0, 1, 2, 3] bcast_S4x9x1x1024_S4x9x256x1024_0_1_2_3 s)

/-- A row of weights laid over every row. -/
def hweight (g : FVec Ideal S1x1x1x1024 .f32) : FVec Ideal S4x9x256x1024 .f32 :=
  broadcastInDim S4x9x256x1024 ![0, 1, 2, 3] bcast_S1x1x1x1024_S4x9x256x1024_0_1_2_3 g

/-- What comes back through the mean square. -/
def hcorr (x d : FVec Ideal S4x9x256x1024 .f32) (s : FVec Ideal S4x9x1x1024 .f32) (g : FVec Ideal S1x1x1x1024 .f32) : FVec Ideal S4x9x256x1024 .f32 :=
  broadcastInDim S4x9x256x1024 ![0, 1, 2] bcast_S4x9x256_S4x9x256x1024_0_1_2 (Host.reduceAdd (Host.divf (mulf (shapeCast S4x9x256x1 (Host.reduceAdd (mulf x (mulf (hscaled d s) (hweight g))) (constant S_ .f32 0x00000000#32) reducesTo_S4x9x256x1024_S4x9x256_d3 h_S_) shapeCasts_S4x9x256_S4x9x256x1) (mulf (broadcastInDim S4x9x256x1 ![] bcast_S_S4x9x256x1 (constant S_ .f32 0xBF000000#32)) (Host.divf (Host.rsqrt (hms x)) (hms x)))) (broadcastInDim S4x9x256x1 ![] bcast_S_S4x9x256x1 (constant S_ .f32 0x44800000#32))) (constant S_ .f32 0x00000000#32) reducesTo_S4x9x256x1_S4x9x256_d3 h_S_)

/-- The gradient of the normalised rows with respect to the rows, all tokens in one axis. -/
def hgrad (x d : FVec Ideal S4x9x256x1024 .f32) (s : FVec Ideal S4x9x1x1024 .f32) (g : FVec Ideal S1x1x1x1024 .f32) : FVec Ideal S4x2304x1024 .f32 :=
  shapeCast S4x2304x1024 (addf (addf (mulf (mulf (hscaled d s) (hweight g)) (broadcastInDim S4x9x256x1024 ![0, 1, 2, 3] bcast_S4x9x256x1_S4x9x256x1024_0_1_2_3 (Host.rsqrt (hms x)))) (mulf x (hcorr x d s g))) (mulf (hcorr x d s g) x)) shapeCasts_S4x9x256x1024_S4x2304x1024

/-- The reference's result 0. -/
def hout0 (dx : FVec Ideal S4x2048x1024 .f32) (x d : FVec Ideal S4x9x256x1024 .f32) (s : FVec Ideal S4x9x1x1024 .f32) (g : FVec Ideal S1x1x1x1024 .f32) : FVec Ideal S4x2048x1024 .f32 :=
  addf dx (extractStridedSlice S4x2048x1024 ![0, 256, 0] (hgrad x d s g) slices_S4x2304x1024_S4x2048x1024_0_256_0)

/-- The reference's result 2. -/
def hout2 (x d : FVec Ideal S4x9x256x1024 .f32) (g : FVec Ideal S1x1x1x1024 .f32) : FVec Ideal S4x9x2x1024 .f32 :=
  addf (pad S4x9x2x1024 ![0, 0, 1, 0] ![0, 0, 0, 0] ![0, 0, 0, 0] (broadcastInDim S4x9x1x1024 ![0, 1, 3] bcast_S4x9x1024_S4x9x1x1024_0_1_3 (Host.reduceAdd (shapeCast S4x9x1x1024 (Host.reduceAdd (mulf (mulf (hnorm x) (hweight g)) d) (constant S_ .f32 0x00000000#32) reducesTo_S4x9x256x1024_S4x9x1024_d2 h_S_) shapeCasts_S4x9x1024_S4x9x1x1024) (constant S_ .f32 0x00000000#32) reducesTo_S4x9x1x1024_S4x9x1024_d2 h_S_)) (constant (F := Ideal) S_ .f32 0x00000000#32) pads_S4x9x1x1024_S4x9x2x1024_000_000_100_000 h_S_) (pad S4x9x2x1024 ![0, 0, 0, 0] ![0, 0, 1, 0] ![0, 0, 0, 0] (broadcastInDim S4x9x1x1024 ![0, 1, 3] bcast_S4x9x1024_S4x9x1x1024_0_1_3 (Host.reduceAdd (shapeCast S4x9x1x1024 (Host.reduceAdd d (constant S_ .f32 0x00000000#32) reducesTo_S4x9x256x1024_S4x9x1024_d2 h_S_) shapeCasts_S4x9x1024_S4x9x1x1024) (constant S_ .f32 0x00000000#32) reducesTo_S4x9x1x1024_S4x9x1024_d2 h_S_)) (constant (F := Ideal) S_ .f32 0x00000000#32) pads_S4x9x1x1024_S4x9x2x1024_000_000_010_000 h_S_)

/-- The reference's result 3. -/
def hout3 (x d : FVec Ideal S4x9x256x1024 .f32) (s : FVec Ideal S4x9x1x1024 .f32) : FVec Ideal S1x1024 .f32 :=
  broadcastInDim S1x1024 ![1] bcast_S1024_S1x1024_1 (Host.reduceAdd (shapeCast S1x1x1x1024 (Host.reduceAdd (mulf (hnorm x) (hscaled d s)) (constant S_ .f32 0x00000000#32) reducesTo_S4x9x256x1024_S1024_d0_1_2 h_S_) shapeCasts_S1024_S1x1x1x1024) (constant S_ .f32 0x00000000#32) reducesTo_S1x1x1x1024_S1024_d0_1_2 h_S_)

open Cert.NormRow in
/-- Result 0, token by token: the residual stream's cotangent and the norm's gradient. -/
theorem hout0_apply (dx : FVec Ideal S4x2048x1024 .f32) (x d : FVec Ideal S4x9x256x1024 .f32) (s : FVec Ideal S4x9x1x1024 .f32) (g : FVec Ideal S1x1x1x1024 .f32)
    (w : Fin 4 → Fin 9 → Fin 1024 → EReal) (hs : ∀ b j h, s (ix4 b j 0 h) = 1 + w b j h) (b : Fin 4) (t : Fin 2048) (h : Fin 1024) :
    hout0 dx x d s g (ix3 b t h) = dx (ix3 b t h) + grad (fun k => x (ix4 b ⟨(256 + t.val) / 256, by omega⟩ ⟨(256 + t.val) % 256, by omega⟩ k))
      (fun k => g (ix4 0 0 0 k)) (w b ⟨(256 + t.val) / 256, by omega⟩) (fun k => d (ix4 b ⟨(256 + t.val) / 256, by omega⟩ ⟨(256 + t.val) % 256, by omega⟩ k)) h := by
  pointwise [hout0, hgrad, hcorr, hscaled, hweight, hms]
  simp only [hs, Fin.sum_univ_one]
  rfl

open Cert.NormRow in
/-- Result 2: row 0 the sums of the cotangent over a run's tokens, row 1 those of the cotangent times the norm's output. -/
theorem hout2_apply (x d : FVec Ideal S4x9x256x1024 .f32) (g : FVec Ideal S1x1x1x1024 .f32)
    (b : Fin 4) (j : Fin 9) (q : Fin 2) (h : Fin 1024) : hout2 x d g (ix4 b j q h)
      = if q.val < 1 then ∑ r, d (ix4 b j r h)
        else ∑ r, x (ix4 b j r h) * Ideal.rsqrt (ms fun k => x (ix4 b j r k)) * g (ix4 0 0 0 h) * d (ix4 b j r h) := by
  pointwise [hout2, hnorm, hweight, hms]
  rw [Fin.sum_univ_one, Fin.sum_univ_one]
  by_cases hq : q.val < 1
  · rw [dif_neg (by omega), dif_pos hq, if_pos hq, zero_add]
  · rw [dif_pos (by omega), dif_neg hq, if_neg hq, add_zero]; rfl

/-- A sum over the three leading axes. -/
theorem sum_lead {n0 n1 n2 n3 : ℕ} (hr : (⟨4, ![n0, n1, n2, n3]⟩ : Shape).ReducesTo [0, 1, 2] ⟨1, ![n3]⟩)
    (v : (⟨4, ![n0, n1, n2, n3]⟩ : Shape).Idx → EReal) (init : EReal) (h : Fin n3) :
    Ideal.hostReduceAdd hr v init (ix1 h) = init + ∑ k : Fin n0 × Fin n1 × Fin n2, v (ix4 k.1 k.2.1 k.2.2 h) := by
  refine congrArg (init + ·) (Finset.sum_filter_eq_sum_of_fiber _ (fun k : Fin n0 × Fin n1 × Fin n2 => ix4 k.1 k.2.1 k.2.2 h)
    (fun _ _ e => Prod.ext (congrFun e 0) (Prod.ext (congrFun e 1) (congrFun e 2))) (fun i => ?_) v)
  constructor
  · intro e
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun e 0)).symm
  · rintro ⟨k, rfl⟩
    funext a; apply Fin.ext
    match a with
    | ⟨0, _⟩ => rfl

open Cert.NormRow in
/-- Result 3: the weight's gradient, summed over every token. -/
theorem hout3_apply (x d : FVec Ideal S4x9x256x1024 .f32) (s : FVec Ideal S4x9x1x1024 .f32)
    (w : Fin 4 → Fin 9 → Fin 1024 → EReal) (hs : ∀ b j h, s (ix4 b j 0 h) = 1 + w b j h) (h : Fin 1024) :
    hout3 x d s (ix2 0 h) = ∑ b : Fin 4, ∑ j : Fin 9, ∑ r : Fin 256,
      x (ix4 b j r h) * Ideal.rsqrt (ms fun k => x (ix4 b j r k)) * (d (ix4 b j r h) * (1 + w b j h)) := by
  have e : hout3 x d s (ix2 0 h) = ∑ k : Fin 4 × Fin 9 × Fin 256,
      mulf (hnorm x) (hscaled d s) (ix4 k.1 k.2.1 k.2.2 h) := by
    unfold hout3
    generalize mulf (hnorm x) (hscaled d s) = v
    pointwise
    rw [sum_lead, zero_add]
    pointwise
    rw [Finset.sum_congr rfl fun k _ => sum_lead _ v 0 h]
    simp only [zero_add, Fintype.sum_prod_type, Fin.sum_univ_one]
  rw [e, Fintype.sum_prod_type]
  refine Finset.sum_congr rfl fun b _ => ?_
  rw [Fintype.sum_prod_type]
  refine Finset.sum_congr rfl fun j _ => Finset.sum_congr rfl fun r _ => ?_
  dsimp only
  pointwise [hnorm, hscaled, hms]
  rw [hs]; rfl

/-- The hidden rows, run by run. -/
def hx (ctx : FVec Ideal S4x256x1024 .f32) (x : FVec Ideal S4x2048x1024 .f32) : FVec Ideal S4x9x256x1024 .f32 :=
  shapeCast S4x9x256x1024 (concatenate S4x2304x1024 1 [⟨S4x256x1024, ctx⟩, ⟨S4x2048x1024, x⟩] concatenates_S4x256x1024_S4x2048x1024_S4x2304x1024_d1) shapeCasts_S4x2304x1024_S4x9x256x1024

theorem hx_apply (ctx : FVec Ideal S4x256x1024 .f32) (x : FVec Ideal S4x2048x1024 .f32) (b : Fin 4) (j : Fin 9) (r : Fin 256) (h : Fin 1024) :
    hx ctx x (ix4 b j r h) = if _ : j.val < 1 then ctx (ix3 b r h) else x (ix3 b ⟨(j.val - 1) * 256 + r.val, by omega⟩ h) := by
  pointwise [hx]
  by_cases hj : j.val < 1
  · have e : (⟨j.val * 256 + r.val, by omega⟩ : Fin 256) = r := Fin.ext (show j.val * 256 + r.val = r.val by omega)
    simp only [dif_pos hj, dif_pos (show j.val * 256 + r.val < 256 by omega), e]
  · simp only [dif_neg hj, dif_neg (show ¬ j.val * 256 + r.val < 256 by omega)]
    exact congrArg (fun q => x (ix3 b q h)) (Fin.ext (show j.val * 256 + r.val - 256 = (j.val - 1) * 256 + r.val by omega))

/-- One plus the modulation's scale, run by run. -/
def hscale (mc : FVec Ideal S2x1024 .f32) (mx : FVec Ideal S4x2x1024 .f32) : FVec Ideal S4x9x1x1024 .f32 :=
  addf (broadcastInDim S4x9x1x1024 ![] bcast_S_S4x9x1x1024 (constant S_ .f32 0x3F800000#32)) (broadcastInDim S4x9x1x1024 ![0, 1, 3] bcast_S4x9x1024_S4x9x1x1024_0_1_3 (shapeCast S4x9x1024 (extractStridedSlice S4x9x1x1024 ![0, 0, 1, 0] (concatenate S4x9x2x1024 1 [⟨S4x1x2x1024, (broadcastInDim S4x1x2x1024 ![2, 3] bcast_S2x1024_S4x1x2x1024_2_3 mc)⟩, ⟨S4x8x2x1024, (broadcastInDim S4x8x2x1024 ![0, 1, 2, 3] bcast_S4x1x2x1024_S4x8x2x1024_0_1_2_3 (broadcastInDim S4x1x2x1024 ![0, 2, 3] bcast_S4x2x1024_S4x1x2x1024_0_2_3 mx))⟩] concatenates_S4x1x2x1024_S4x8x2x1024_S4x9x2x1024_d1) slices_S4x9x2x1024_S4x9x1x1024_0_0_1_0) shapeCasts_S4x9x1x1024_S4x9x1024))

theorem hscale_apply (mc : FVec Ideal S2x1024 .f32) (mx : FVec Ideal S4x2x1024 .f32) (b : Fin 4) (j : Fin 9) (h : Fin 1024) :
    hscale mc mx (ix4 b j 0 h) = 1 + if j.val < 1 then mc (ix2 1 h) else mx (ix3 b 1 h) := by
  pointwise [hscale]
  rfl

/-- The gradient of the projection's input. -/
def hdh (z : FVec Ideal S4x2304x1952 .f32) (d : FVec Ideal S4x2304x2976 .f32) (w : FVec Ideal S1024x2976 .f32) : FVec Ideal S4x9x256x1024 .f32 :=
  shapeCast S4x9x256x1024 (Host.dotGeneral dot_S4x2304x2976_S2976x1024_S4x2304x1024_2_0_01_1_n_n none (concatenate S4x2304x2976 2 [⟨S4x2304x1952, z⟩, ⟨S4x2304x1024, (extractStridedSlice S4x2304x1024 ![0, 0, 1952] d slices_S4x2304x2976_S4x2304x1024_0_0_1952)⟩] concatenates_S4x2304x1952_S4x2304x1024_S4x2304x2976_d2) (transpose S2976x1024 [1, 0] w transposes_S1024x2976_S2976x1024_1_0)) shapeCasts_S4x2304x1024_S4x9x256x1024

theorem hdh_apply (z : FVec Ideal S4x2304x1952 .f32) (d : FVec Ideal S4x2304x2976 .f32) (w : FVec Ideal S1024x2976 .f32) (b : Fin 4) (j : Fin 9) (r : Fin 256) (h : Fin 1024) :
    hdh z d w (ix4 b j r h) = ∑ k : Fin 1952, z (ix3 b ⟨j.val * 256 + r.val, by omega⟩ k) * w (ix2 h ⟨k.val, by omega⟩)
      + ∑ k : Fin 1024, d (ix3 b ⟨j.val * 256 + r.val, by omega⟩ ⟨1952 + k.val, by omega⟩) * w (ix2 h ⟨1952 + k.val, by omega⟩) := by
  pointwise [hdh]

/-- The reference's result 1: the shifted columns' gradient, zero columns, the other columns. -/
def hout1 (z : FVec Ideal S4x2304x1952 .f32) (d : FVec Ideal S4x2304x2976 .f32) : FVec Ideal S4x2304x3072 .bf16 :=
  truncf .bf16 (concatenate S4x2304x3072 2 [⟨S4x2304x1952, z⟩, ⟨S4x2304x96, (broadcastInDim S4x2304x96 ![] bcast_S_S4x2304x96 (constant (F := Ideal) S_ .f32 0x00000000#32))⟩, ⟨S4x2304x1024, (extractStridedSlice S4x2304x1024 ![0, 0, 1952] d slices_S4x2304x2976_S4x2304x1024_0_0_1952)⟩] concatenates_S4x2304x1952_S4x2304x96_S4x2304x1024_S4x2304x3072_d2) bitsLt_bf16_f32

theorem hout1_apply (z : FVec Ideal S4x2304x1952 .f32) (d : FVec Ideal S4x2304x2976 .f32) (b : Fin 4) (t : Fin 2304) (k : Fin 3072) :
    hout1 z d (ix3 b t k) = if _ : k.val < 1952 then z (ix3 b t ⟨k.val, by omega⟩)
      else if _ : k.val < 2048 then (0 : EReal) else d (ix3 b t ⟨k.val - 96, by omega⟩) := by
  pointwise [hout1]
  by_cases h1 : k.val < 1952
  · simp only [dif_pos h1]
  · by_cases h2 : k.val < 2048
    · simp only [dif_neg h1, dif_pos h2, dif_pos (show k.val - 1952 < 96 by omega)]
    · simp only [dif_neg h1, dif_neg h2, dif_neg (show ¬ k.val - 1952 < 96 by omega)]
      exact congrArg (fun q => d (ix3 b t q)) (Fin.ext (show 1952 + (k.val - 1952 - 96) = k.val - 96 by omega))

section results
variable (V0 : Valuation τ sig (Elt Ideal))
/-- The weight of the norm as the host reads it. -/
def hg (g : FVec Ideal S1x1024 .f32) : FVec Ideal S1x1x1x1024 .f32 :=
  broadcastInDim S1x1x1x1024 ![3] bcast_S1024_S1x1x1x1024_3 (shapeCast S1024 g shapeCasts_S1x1024_S1024)
theorem hg_apply (g : FVec Ideal S1x1024 .f32) (h : Fin 1024) : hg g (ix4 0 0 0 h) = g (ix2 0 h) := by
  pointwise [hg]

theorem v81_eq : res_main_v81 V0 = hshift (V0 (Proc.devRef .tc main_arg0)) (V0 (Proc.devRef .tc main_arg7)) (V0 (Proc.devRef .tc main_arg8)) := rfl
theorem v89_eq : res_main_v89 V0 = hx (V0 (Proc.devRef .tc main_arg1)) (V0 (Proc.devRef .tc main_arg2)) := rfl
theorem v103_eq : res_main_v103 V0 = hg (V0 (Proc.devRef .tc main_arg5)) := rfl
theorem v113_eq : res_main_v113 V0 = hscale (V0 (Proc.devRef .tc main_arg3)) (V0 (Proc.devRef .tc main_arg4)) := rfl
theorem v118_eq : res_main_v118 V0 = hdh (res_main_v81 V0) (V0 (Proc.devRef .tc main_arg0)) (V0 (Proc.devRef .tc main_arg6)) := rfl
theorem out0_eq : addf (V0 (Proc.devRef .tc main_arg9)) (extractStridedSlice S4x2048x1024 ![0, 256, 0] (res_main_v153 V0) slices_S4x2304x1024_S4x2048x1024_0_256_0)
    = hout0 (V0 (Proc.devRef .tc main_arg9)) (res_main_v89 V0) (res_main_v118 V0) (res_main_v113 V0) (res_main_v103 V0) := rfl
end results
end Cert.InProj
-- ==== Proof.InProjHost.lean ====
module

public import proofs.«01_k».proof.Proof.Gen.Kernel2Ideal.Value
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.InProj
open Cert.Kernel2Ideal Cert.Kernel2Ideal.Gen

/-- Six column segments side by side. -/
def cols6 (a : FVec Ideal S4x2304x1536 .f32) (b c : FVec Ideal S4x2304x128 .f32) (d : FVec Ideal S4x2304x160 .f32) (e : FVec Ideal S4x2304x96 .f32)
    (f : FVec Ideal S4x2304x1024 .f32) : FVec Ideal S4x2304x3072 .f32 :=
  concatenate S4x2304x3072 2 [⟨S4x2304x1536, a⟩, ⟨S4x2304x128, b⟩, ⟨S4x2304x128, c⟩, ⟨S4x2304x160, d⟩, ⟨S4x2304x96, e⟩, ⟨S4x2304x1024, f⟩]
    concatenates_S4x2304x1536_S4x2304x128_S4x2304x128_S4x2304x160_S4x2304x96_S4x2304x1024_S4x2304x3072_d2

/-- The same for the weight. -/
def wcols6 (a : FVec Ideal S1024x1536 .f32) (b c : FVec Ideal S1024x128 .f32) (d : FVec Ideal S1024x160 .f32) (e : FVec Ideal S1024x96 .f32)
    (f : FVec Ideal S1024x1024 .f32) : FVec Ideal S1024x3072 .bf16 :=
  truncf .bf16 (concatenate S1024x3072 1 [⟨S1024x1536, a⟩, ⟨S1024x128, b⟩, ⟨S1024x128, c⟩, ⟨S1024x160, d⟩, ⟨S1024x96, e⟩, ⟨S1024x1024, f⟩]
    concatenates_S1024x1536_S1024x128_S1024x128_S1024x160_S1024x96_S1024x1024_S1024x3072_d1) bitsLt_bf16_f32

/-- Five column segments of a row side by side. -/
def rcols5 (a : FVec Ideal S1x1536 .f32) (b c : FVec Ideal S1x128 .f32) (d : FVec Ideal S1x160 .f32) (e : FVec Ideal S1x96 .f32) : FVec Ideal S1x2048 .f32 :=
  concatenate S1x2048 1 [⟨S1x1536, a⟩, ⟨S1x128, b⟩, ⟨S1x128, c⟩, ⟨S1x160, d⟩, ⟨S1x96, e⟩]
    concatenates_S1x1536_S1x128_S1x128_S1x160_S1x96_S1x2048_d1

/-- The context's run before the sequence's runs. -/
def runs (a : FVec Ideal S4x1x2x1024 .f32) (b : FVec Ideal S4x8x2x1024 .f32) : FVec Ideal S4x9x2x1024 .f32 :=
  concatenate S4x9x2x1024 1 [⟨S4x1x2x1024, a⟩, ⟨S4x8x2x1024, b⟩] concatenates_S4x1x2x1024_S4x8x2x1024_S4x9x2x1024_d1

/-- The cotangent with its columns padded. -/
def padd (d : FVec Ideal S4x2304x2976 .f32) : FVec Ideal S4x2304x3072 .f32 :=
  cols6 (extractStridedSlice S4x2304x1536 ![0, 0, 0] d slices_S4x2304x2976_S4x2304x1536_0_0_0)
    (extractStridedSlice S4x2304x128 ![0, 0, 1536] d slices_S4x2304x2976_S4x2304x128_0_0_1536)
    (extractStridedSlice S4x2304x128 ![0, 0, 1664] d slices_S4x2304x2976_S4x2304x128_0_0_1664)
    (extractStridedSlice S4x2304x160 ![0, 0, 1792] d slices_S4x2304x2976_S4x2304x160_0_0_1792)
    (broadcastInDim S4x2304x96 ![] bcast_S_S4x2304x96 (constant (F := Ideal) S_ .f32 0x00000000#32))
    (extractStridedSlice S4x2304x1024 ![0, 0, 1952] d slices_S4x2304x2976_S4x2304x1024_0_0_1952)

/-- The weight with its columns padded, rounded. -/
def padw (d : FVec Ideal S1024x2976 .f32) : FVec Ideal S1024x3072 .bf16 :=
  wcols6 (extractStridedSlice S1024x1536 ![0, 0] d slices_S1024x2976_S1024x1536_0_0)
    (extractStridedSlice S1024x128 ![0, 1536] d slices_S1024x2976_S1024x128_0_1536)
    (extractStridedSlice S1024x128 ![0, 1664] d slices_S1024x2976_S1024x128_0_1664)
    (extractStridedSlice S1024x160 ![0, 1792] d slices_S1024x2976_S1024x160_0_1792)
    (broadcastInDim S1024x96 ![] bcast_S_S1024x96 (constant (F := Ideal) S_ .f32 0x00000000#32))
    (extractStridedSlice S1024x1024 ![0, 1952] d slices_S1024x2976_S1024x1024_0_1952)

/-- A row of shift factors with its columns padded. -/
def padr (d : FVec Ideal S1x1952 .f32) : FVec Ideal S1x2048 .f32 :=
  rcols5 (extractStridedSlice S1x1536 ![0, 0] d slices_S1x1952_S1x1536_0_0)
    (extractStridedSlice S1x128 ![0, 1536] d slices_S1x1952_S1x128_0_1536)
    (extractStridedSlice S1x128 ![0, 1664] d slices_S1x1952_S1x128_0_1664)
    (extractStridedSlice S1x160 ![0, 1792] d slices_S1x1952_S1x160_0_1792)
    (broadcastInDim S1x96 ![] bcast_S_S1x96 (constant (F := Ideal) S_ .f32 0x00000000#32))

/-- The modulation, run by run. -/
def modt (mc : FVec Ideal S2x1024 .f32) (mx : FVec Ideal S4x2x1024 .f32) : FVec Ideal S4x9x2x1024 .f32 :=
  runs (broadcastInDim S4x1x2x1024 ![0, 1, 2, 3] bcast_S1x1x2x1024_S4x1x2x1024_0_1_2_3 (broadcastInDim S1x1x2x1024 ![2, 3] bcast_S2x1024_S1x1x2x1024_2_3 mc))
    (broadcastInDim S4x8x2x1024 ![0, 1, 2, 3] bcast_S4x1x2x1024_S4x8x2x1024_0_1_2_3 (broadcastInDim S4x1x2x1024 ![0, 2, 3] bcast_S4x2x1024_S4x1x2x1024_0_2_3 mx))

section reads
variable (W : Valuation τ sig (Elt Ideal))
theorem r0 : StableHlo.upto (hostOps0 (F := Ideal)) W 7 (Proc.devRef .tc main_v0) = (extractStridedSlice S1024x1536 ![0, 0] (W (Proc.devRef .tc main_arg6)) slices_S1024x2976_S1024x1536_0_0) := by
  after_reads_simp
theorem r1 : StableHlo.upto (hostOps0 (F := Ideal)) W 7 (Proc.devRef .tc main_v1) = (extractStridedSlice S1024x128 ![0, 1536] (W (Proc.devRef .tc main_arg6)) slices_S1024x2976_S1024x128_0_1536) := by
  after_reads_simp
theorem r2 : StableHlo.upto (hostOps0 (F := Ideal)) W 7 (Proc.devRef .tc main_v2) = (extractStridedSlice S1024x128 ![0, 1664] (W (Proc.devRef .tc main_arg6)) slices_S1024x2976_S1024x128_0_1664) := by
  after_reads_simp
theorem r3 : StableHlo.upto (hostOps0 (F := Ideal)) W 7 (Proc.devRef .tc main_v3) = (extractStridedSlice S1024x160 ![0, 1792] (W (Proc.devRef .tc main_arg6)) slices_S1024x2976_S1024x160_0_1792) := by
  after_reads_simp
theorem r4 : StableHlo.upto (hostOps0 (F := Ideal)) W 7 (Proc.devRef .tc main_v4) = (broadcastInDim S1024x96 ![] bcast_S_S1024x96 (constant (F := Ideal) S_ .f32 0x00000000#32)) := by
  after_reads_simp
theorem r5 : StableHlo.upto (hostOps0 (F := Ideal)) W 7 (Proc.devRef .tc main_v5) = (extractStridedSlice S1024x1024 ![0, 1952] (W (Proc.devRef .tc main_arg6)) slices_S1024x2976_S1024x1024_0_1952) := by
  after_reads_simp
theorem r8 : StableHlo.upto (hostOps0 (F := Ideal)) W 15 (Proc.devRef .tc main_v8) = (extractStridedSlice S1x1536 ![0, 0] (W (Proc.devRef .tc main_arg7)) slices_S1x1952_S1x1536_0_0) := by
  after_reads_simp
theorem r9 : StableHlo.upto (hostOps0 (F := Ideal)) W 15 (Proc.devRef .tc main_v9) = (extractStridedSlice S1x128 ![0, 1536] (W (Proc.devRef .tc main_arg7)) slices_S1x1952_S1x128_0_1536) := by
  after_reads_simp
theorem r10 : StableHlo.upto (hostOps0 (F := Ideal)) W 15 (Proc.devRef .tc main_v10) = (extractStridedSlice S1x128 ![0, 1664] (W (Proc.devRef .tc main_arg7)) slices_S1x1952_S1x128_0_1664) := by
  after_reads_simp
theorem r11 : StableHlo.upto (hostOps0 (F := Ideal)) W 15 (Proc.devRef .tc main_v11) = (extractStridedSlice S1x160 ![0, 1792] (W (Proc.devRef .tc main_arg7)) slices_S1x1952_S1x160_0_1792) := by
  after_reads_simp
theorem r12 : StableHlo.upto (hostOps0 (F := Ideal)) W 15 (Proc.devRef .tc main_v12) = (broadcastInDim S1x96 ![] bcast_S_S1x96 (constant (F := Ideal) S_ .f32 0x00000000#32)) := by
  after_reads_simp
theorem r14 : StableHlo.upto (hostOps0 (F := Ideal)) W 22 (Proc.devRef .tc main_v14) = (extractStridedSlice S1x1536 ![0, 0] (W (Proc.devRef .tc main_arg8)) slices_S1x1952_S1x1536_0_0) := by
  after_reads_simp
theorem r15 : StableHlo.upto (hostOps0 (F := Ideal)) W 22 (Proc.devRef .tc main_v15) = (extractStridedSlice S1x128 ![0, 1536] (W (Proc.devRef .tc main_arg8)) slices_S1x1952_S1x128_0_1536) := by
  after_reads_simp
theorem r16 : StableHlo.upto (hostOps0 (F := Ideal)) W 22 (Proc.devRef .tc main_v16) = (extractStridedSlice S1x128 ![0, 1664] (W (Proc.devRef .tc main_arg8)) slices_S1x1952_S1x128_0_1664) := by
  after_reads_simp
theorem r17 : StableHlo.upto (hostOps0 (F := Ideal)) W 22 (Proc.devRef .tc main_v17) = (extractStridedSlice S1x160 ![0, 1792] (W (Proc.devRef .tc main_arg8)) slices_S1x1952_S1x160_0_1792) := by
  after_reads_simp
theorem r18 : StableHlo.upto (hostOps0 (F := Ideal)) W 22 (Proc.devRef .tc main_v18) = (broadcastInDim S1x96 ![] bcast_S_S1x96 (constant (F := Ideal) S_ .f32 0x00000000#32)) := by
  after_reads_simp
theorem r25 : StableHlo.upto (hostOps0 (F := Ideal)) W 35 (Proc.devRef .tc main_v25) = (extractStridedSlice S4x2304x1536 ![0, 0, 0] (W (Proc.devRef .tc main_arg0)) slices_S4x2304x2976_S4x2304x1536_0_0_0) := by
  after_reads_simp
theorem r26 : StableHlo.upto (hostOps0 (F := Ideal)) W 35 (Proc.devRef .tc main_v26) = (extractStridedSlice S4x2304x128 ![0, 0, 1536] (W (Proc.devRef .tc main_arg0)) slices_S4x2304x2976_S4x2304x128_0_0_1536) := by
  after_reads_simp
theorem r27 : StableHlo.upto (hostOps0 (F := Ideal)) W 35 (Proc.devRef .tc main_v27) = (extractStridedSlice S4x2304x128 ![0, 0, 1664] (W (Proc.devRef .tc main_arg0)) slices_S4x2304x2976_S4x2304x128_0_0_1664) := by
  after_reads_simp
theorem r28 : StableHlo.upto (hostOps0 (F := Ideal)) W 35 (Proc.devRef .tc main_v28) = (extractStridedSlice S4x2304x160 ![0, 0, 1792] (W (Proc.devRef .tc main_arg0)) slices_S4x2304x2976_S4x2304x160_0_0_1792) := by
  after_reads_simp
theorem r29 : StableHlo.upto (hostOps0 (F := Ideal)) W 35 (Proc.devRef .tc main_v29) = (broadcastInDim S4x2304x96 ![] bcast_S_S4x2304x96 (constant (F := Ideal) S_ .f32 0x00000000#32)) := by
  after_reads_simp
theorem r30 : StableHlo.upto (hostOps0 (F := Ideal)) W 35 (Proc.devRef .tc main_v30) = (extractStridedSlice S4x2304x1024 ![0, 0, 1952] (W (Proc.devRef .tc main_arg0)) slices_S4x2304x2976_S4x2304x1024_0_0_1952) := by
  after_reads_simp
theorem r7 : StableHlo.after (hostOps0 (F := Ideal)) W (Proc.devRef .tc main_v7) = padw (W (Proc.devRef .tc main_arg6)) := by
  after_reads_simp
  change wcols6 (StableHlo.upto (hostOps0 (F := Ideal)) W 7 (Proc.devRef .tc main_v0)) (StableHlo.upto (hostOps0 (F := Ideal)) W 7 (Proc.devRef .tc main_v1)) (StableHlo.upto (hostOps0 (F := Ideal)) W 7 (Proc.devRef .tc main_v2)) (StableHlo.upto (hostOps0 (F := Ideal)) W 7 (Proc.devRef .tc main_v3)) (StableHlo.upto (hostOps0 (F := Ideal)) W 7 (Proc.devRef .tc main_v4)) (StableHlo.upto (hostOps0 (F := Ideal)) W 7 (Proc.devRef .tc main_v5)) = _
  rw [r0, r1, r2, r3, r4, r5]; rfl
theorem r13 : StableHlo.after (hostOps0 (F := Ideal)) W (Proc.devRef .tc main_v13) = padr (W (Proc.devRef .tc main_arg7)) := by
  after_reads_simp
  change rcols5 (StableHlo.upto (hostOps0 (F := Ideal)) W 15 (Proc.devRef .tc main_v8)) (StableHlo.upto (hostOps0 (F := Ideal)) W 15 (Proc.devRef .tc main_v9)) (StableHlo.upto (hostOps0 (F := Ideal)) W 15 (Proc.devRef .tc main_v10)) (StableHlo.upto (hostOps0 (F := Ideal)) W 15 (Proc.devRef .tc main_v11)) (StableHlo.upto (hostOps0 (F := Ideal)) W 15 (Proc.devRef .tc main_v12)) = _
  rw [r8, r9, r10, r11, r12]; rfl
theorem r19 : StableHlo.after (hostOps0 (F := Ideal)) W (Proc.devRef .tc main_v19) = padr (W (Proc.devRef .tc main_arg8)) := by
  after_reads_simp
  change rcols5 (StableHlo.upto (hostOps0 (F := Ideal)) W 22 (Proc.devRef .tc main_v14)) (StableHlo.upto (hostOps0 (F := Ideal)) W 22 (Proc.devRef .tc main_v15)) (StableHlo.upto (hostOps0 (F := Ideal)) W 22 (Proc.devRef .tc main_v16)) (StableHlo.upto (hostOps0 (F := Ideal)) W 22 (Proc.devRef .tc main_v17)) (StableHlo.upto (hostOps0 (F := Ideal)) W 22 (Proc.devRef .tc main_v18)) = _
  rw [r14, r15, r16, r17, r18]; rfl
theorem r31 : StableHlo.after (hostOps0 (F := Ideal)) W (Proc.devRef .tc main_v31) = padd (W (Proc.devRef .tc main_arg0)) := by
  after_reads_simp
  change cols6 (StableHlo.upto (hostOps0 (F := Ideal)) W 35 (Proc.devRef .tc main_v25)) (StableHlo.upto (hostOps0 (F := Ideal)) W 35 (Proc.devRef .tc main_v26)) (StableHlo.upto (hostOps0 (F := Ideal)) W 35 (Proc.devRef .tc main_v27)) (StableHlo.upto (hostOps0 (F := Ideal)) W 35 (Proc.devRef .tc main_v28)) (StableHlo.upto (hostOps0 (F := Ideal)) W 35 (Proc.devRef .tc main_v29)) (StableHlo.upto (hostOps0 (F := Ideal)) W 35 (Proc.devRef .tc main_v30)) = _
  rw [r25, r26, r27, r28, r29, r30]; rfl
theorem r21 : StableHlo.upto (hostOps0 (F := Ideal)) W 27 (Proc.devRef .tc main_v21) = (broadcastInDim S4x1x2x1024 ![0, 1, 2, 3] bcast_S1x1x2x1024_S4x1x2x1024_0_1_2_3 (broadcastInDim S1x1x2x1024 ![2, 3] bcast_S2x1024_S1x1x2x1024_2_3 (W (Proc.devRef .tc main_arg3)))) := by
  after_reads_simp
theorem r23 : StableHlo.upto (hostOps0 (F := Ideal)) W 27 (Proc.devRef .tc main_v23) = (broadcastInDim S4x8x2x1024 ![0, 1, 2, 3] bcast_S4x1x2x1024_S4x8x2x1024_0_1_2_3 (broadcastInDim S4x1x2x1024 ![0, 2, 3] bcast_S4x2x1024_S4x1x2x1024_0_2_3 (W (Proc.devRef .tc main_arg4)))) := by
  after_reads_simp
theorem r24 : StableHlo.after (hostOps0 (F := Ideal)) W (Proc.devRef .tc main_v24) = modt (W (Proc.devRef .tc main_arg3)) (W (Proc.devRef .tc main_arg4)) := by
  after_reads_simp
  change runs (StableHlo.upto (hostOps0 (F := Ideal)) W 27 (Proc.devRef .tc main_v21)) (StableHlo.upto (hostOps0 (F := Ideal)) W 27 (Proc.devRef .tc main_v23)) = _
  rw [r21, r23]; rfl
end reads

theorem padd_apply (d : FVec Ideal S4x2304x2976 .f32) (b : Fin 4) (r : Fin 2304) (k : Fin 3072) :
    padd d (ix3 b r k) = if h : k.val < 1952 then d (ix3 b r ⟨k.val, by omega⟩) else if h' : k.val < 2048 then 0 else d (ix3 b r ⟨k.val - 96, by omega⟩) := by
  pointwise [padd, cols6]
  by_cases h1 : k.val < 1536
  · simp only [dif_pos h1, dif_pos (show k.val < 1952 by omega)]
  by_cases h2 : k.val < 1664
  · simp only [dif_neg h1, dif_pos (show k.val - 1536 < 128 by omega), dif_pos (show k.val < 1952 by omega)]
    exact congrArg (fun q => d (ix3 b r q)) (Fin.ext (show 1536 + (k.val - 1536) = k.val by omega))
  by_cases h3 : k.val < 1792
  · simp only [dif_neg h1, dif_neg (show ¬ k.val - 1536 < 128 by omega), dif_pos (show k.val - 1536 - 128 < 128 by omega), dif_pos (show k.val < 1952 by omega)]
    exact congrArg (fun q => d (ix3 b r q)) (Fin.ext (show 1664 + (k.val - 1536 - 128) = k.val by omega))
  by_cases h4 : k.val < 1952
  · simp only [dif_neg h1, dif_neg (show ¬ k.val - 1536 < 128 by omega), dif_neg (show ¬ k.val - 1536 - 128 < 128 by omega), dif_pos (show k.val - 1536 - 128 - 128 < 160 by omega), dif_pos h4]
    exact congrArg (fun q => d (ix3 b r q)) (Fin.ext (show 1792 + (k.val - 1536 - 128 - 128) = k.val by omega))
  · simp only [dif_neg h1, dif_neg (show ¬ k.val - 1536 < 128 by omega), dif_neg (show ¬ k.val - 1536 - 128 < 128 by omega), dif_neg (show ¬ k.val - 1536 - 128 - 128 < 160 by omega), dif_neg h4]
    by_cases h5 : k.val < 2048
    · simp only [dif_pos h5, dif_pos (show k.val - 1536 - 128 - 128 - 160 < 96 by omega)]
    · simp only [dif_neg h5, dif_neg (show ¬ k.val - 1536 - 128 - 128 - 160 < 96 by omega)]
      exact congrArg (fun q => d (ix3 b r q)) (Fin.ext (show 1952 + (k.val - 1536 - 128 - 128 - 160 - 96) = k.val - 96 by omega))
theorem padw_apply (d : FVec Ideal S1024x2976 .f32) (r : Fin 1024) (k : Fin 3072) :
    padw d (ix2 r k) = if h : k.val < 1952 then d (ix2 r ⟨k.val, by omega⟩) else if h' : k.val < 2048 then 0 else d (ix2 r ⟨k.val - 96, by omega⟩) := by
  pointwise [padw, wcols6]
  by_cases h1 : k.val < 1536
  · simp only [dif_pos h1, dif_pos (show k.val < 1952 by omega)]
  by_cases h2 : k.val < 1664
  · simp only [dif_neg h1, dif_pos (show k.val - 1536 < 128 by omega), dif_pos (show k.val < 1952 by omega)]
    exact congrArg (fun q => d (ix2 r q)) (Fin.ext (show 1536 + (k.val - 1536) = k.val by omega))
  by_cases h3 : k.val < 1792
  · simp only [dif_neg h1, dif_neg (show ¬ k.val - 1536 < 128 by omega), dif_pos (show k.val - 1536 - 128 < 128 by omega), dif_pos (show k.val < 1952 by omega)]
    exact congrArg (fun q => d (ix2 r q)) (Fin.ext (show 1664 + (k.val - 1536 - 128) = k.val by omega))
  by_cases h4 : k.val < 1952
  · simp only [dif_neg h1, dif_neg (show ¬ k.val - 1536 < 128 by omega), dif_neg (show ¬ k.val - 1536 - 128 < 128 by omega), dif_pos (show k.val - 1536 - 128 - 128 < 160 by omega), dif_pos h4]
    exact congrArg (fun q => d (ix2 r q)) (Fin.ext (show 1792 + (k.val - 1536 - 128 - 128) = k.val by omega))
  · simp only [dif_neg h1, dif_neg (show ¬ k.val - 1536 < 128 by omega), dif_neg (show ¬ k.val - 1536 - 128 < 128 by omega), dif_neg (show ¬ k.val - 1536 - 128 - 128 < 160 by omega), dif_neg h4]
    by_cases h5 : k.val < 2048
    · simp only [dif_pos h5, dif_pos (show k.val - 1536 - 128 - 128 - 160 < 96 by omega)]
    · simp only [dif_neg h5, dif_neg (show ¬ k.val - 1536 - 128 - 128 - 160 < 96 by omega)]
      exact congrArg (fun q => d (ix2 r q)) (Fin.ext (show 1952 + (k.val - 1536 - 128 - 128 - 160 - 96) = k.val - 96 by omega))
theorem padr_apply (d : FVec Ideal S1x1952 .f32) (k : Fin 2048) :
    padr d (ix2 0 k) = if h : k.val < 1952 then d (ix2 0 ⟨k.val, by omega⟩) else 0 := by
  pointwise [padr, rcols5]
  by_cases h1 : k.val < 1536
  · simp only [dif_pos h1, dif_pos (show k.val < 1952 by omega)]
  by_cases h2 : k.val < 1664
  · simp only [dif_neg h1, dif_pos (show k.val - 1536 < 128 by omega), dif_pos (show k.val < 1952 by omega)]
    exact congrArg (fun q => d (ix2 0 q)) (Fin.ext (show 1536 + (k.val - 1536) = k.val by omega))
  by_cases h3 : k.val < 1792
  · simp only [dif_neg h1, dif_neg (show ¬ k.val - 1536 < 128 by omega), dif_pos (show k.val - 1536 - 128 < 128 by omega), dif_pos (show k.val < 1952 by omega)]
    exact congrArg (fun q => d (ix2 0 q)) (Fin.ext (show 1664 + (k.val - 1536 - 128) = k.val by omega))
  by_cases h4 : k.val < 1952
  · simp only [dif_neg h1, dif_neg (show ¬ k.val - 1536 < 128 by omega), dif_neg (show ¬ k.val - 1536 - 128 < 128 by omega), dif_pos (show k.val - 1536 - 128 - 128 < 160 by omega), dif_pos h4]
    exact congrArg (fun q => d (ix2 0 q)) (Fin.ext (show 1792 + (k.val - 1536 - 128 - 128) = k.val by omega))
  · simp only [dif_neg h1, dif_neg (show ¬ k.val - 1536 < 128 by omega), dif_neg (show ¬ k.val - 1536 - 128 < 128 by omega), dif_neg (show ¬ k.val - 1536 - 128 - 128 < 160 by omega), dif_neg h4]
theorem modt_apply (mc : FVec Ideal S2x1024 .f32) (mx : FVec Ideal S4x2x1024 .f32) (b : Fin 4) (j : Fin 9) (e : Fin 2) (h : Fin 1024) :
    modt mc mx (ix4 b j e h) = if j.val = 0 then mc (ix2 e h) else mx (ix3 b e h) := by
  pointwise [modt, runs]
  by_cases hj : j.val = 0
  · simp only [dif_pos (show j.val < 1 by omega), if_pos hj]
  · simp only [dif_neg (show ¬ j.val < 1 by omega), if_neg hj]
end Cert.InProj
-- ==== Proof.InProjTile.lean ====
module

public import proofs.«01_k».proof.Proof.Gen.Kernel2Ideal.Value
public import Idealize.ShloMosaic.Lib.Pipeline.Value
public import Idealize.ShloMosaic.Lib.Pipeline.ValueKit
public import proofs.«01_k».proof.Proof.NormRow

@[expose] public section

set_option maxRecDepth 16384

noncomputable section

open Idealize.ShloMosaic Idealize.ShloMosaic.TcCoe Idealize.SL.Sem
open Idealize.ShloMosaic.Pipeline (Dat)

namespace Cert.InProj
open Cert.Kernel2Ideal Cert.Kernel2Ideal.Gen Cert.NormRow
variable (m : (ℓ : Loc nD τ sig) → Buf (Elt Ideal) ℓ)

/-- The run's hidden rows. -/
def xt (c : Dev nD) (t : Fin cfg0.N) : FVec Ideal S256x1024 .f32 :=
  k0_pay4 (grid0.coords t) (iblk m c 3 t) (iblk m c 4 t)

/-- The run's gradient of the projection's output. -/
def dz (c : Dev nD) (t : Fin cfg0.N) : FVec Ideal S256x3072 .bf16 :=
  k0_pay11 (F := Ideal) (k0_pay5 (iblk m c 8 t)) (k0_pay6 (iblk m c 9 t))
    (k0_pay7 (View.ld (iblk m c 0 t) (Rect.unit ![0, 0, 0] ![1, 256, 2048] inb_S1x256x3072_S1x256x2048_0_0_0)))
    (k0_pay8 (grid0.coords t) (View.ld (X0_1 m c t) (Rect.unit ![0, 7, 0] ![1, 1, 2048] inb_S1x8x2048_S1x1x2048_0_7_0)))
    (k0_pay9 (grid0.coords t) (View.ld (X0_2 m c t) (Rect.unit ![0, 0, 0] ![1, 1, 2048] inb_S1x8x2048_S1x1x2048_0_0_0)))
    (iota Kind.tc S256x1 32 [0] iota_S256x1_d0_w32) k0_pay10
    (View.ld (iblk m c 0 t) (Rect.unit ![0, 0, 2048] ![1, 256, 1024] inb_S1x256x3072_S1x256x1024_0_0_2048))

/-- Its product with the weight: the gradient of the projection's input. -/
def dh (c : Dev nD) (t : Fin cfg0.N) : FVec Ideal S256x1024 .f32 :=
  k0_pay13 (F := Ideal) (k0_pay5 (iblk m c 8 t)) (k0_pay6 (iblk m c 9 t))
    (k0_pay7 (View.ld (iblk m c 0 t) (Rect.unit ![0, 0, 0] ![1, 256, 2048] inb_S1x256x3072_S1x256x2048_0_0_0)))
    (k0_pay8 (grid0.coords t) (View.ld (X0_1 m c t) (Rect.unit ![0, 7, 0] ![1, 1, 2048] inb_S1x8x2048_S1x1x2048_0_7_0)))
    (k0_pay9 (grid0.coords t) (View.ld (X0_2 m c t) (Rect.unit ![0, 0, 0] ![1, 1, 2048] inb_S1x8x2048_S1x1x2048_0_0_0)))
    (iota Kind.tc S256x1 32 [0] iota_S256x1_d0_w32) k0_pay10
    (View.ld (iblk m c 0 t) (Rect.unit ![0, 0, 2048] ![1, 256, 1024] inb_S1x256x3072_S1x256x1024_0_0_2048))
    (iblk m c 7 t)

/-- The modulation's scale row. -/
def sc (c : Dev nD) (t : Fin cfg0.N) : FVec Ideal S1x1024 .f32 :=
  k0_pay14 (View.ld (iblk m c 5 t) (Rect.unit ![0, 0, 1, 0] ![1, 1, 1, 1024] inb_S1x1x2x1024_S1x1x1x1024_0_0_1_0))

/-- The run's part of the norm weight's gradient. -/
def dg (c : Dev nD) (t : Fin cfg0.N) : FVec Ideal S1x1024 .f32 :=
  k0_pay20 (F := Ideal) (xt m c t) (dh m c t) (sc m c t) (k0_pay15 (xt m c t))

theorem cases (t : Fin cfg0.N) : (t.val % 36 = 0 ∧ ¬1 ≤ t.val ∧ ¬1 ≤ t.val % 9) ∨ (¬t.val % 36 = 0 ∧ 1 ≤ t.val ∧ 1 ≤ t.val % 9)
    ∨ (¬t.val % 36 = 0 ∧ 1 ≤ t.val ∧ ¬1 ≤ t.val % 9) := by
  have h : t.val < 36 := t.isLt
  omega

theorem out11 (c : Dev nD) (t : Fin cfg0.N) (h2 : 1 ≤ t.val % 9) : (outsAt0 m c t.val t.isLt).1
    = k0_pay3 (F := Ideal) (k0_pay21 (F := Ideal) (xt m c t) (dh m c t) (iblk m c 6 t) (sc m c t) (k0_pay15 (xt m c t))) (iblk m c 10 t) := by
  have h : t.val < 36 := t.isLt
  rw [outsAt0_B m c t (by omega) (by omega) h2]; frame_out; rfl

theorem out12 (c : Dev nD) (t : Fin cfg0.N) : (outsAt0 m c t.val t.isLt).2.1
    = shapeCast S1x256x3072 (dz m c t) shapeCasts_S256x3072_S1x256x3072 := by
  rcases cases t with ⟨h0, h1, h2⟩ | ⟨h0, h1, h2⟩ | ⟨h0, h1, h2⟩
  · rw [outsAt0_A m c t h0 h1 h2]; frame_out; rfl
  · rw [outsAt0_B m c t h0 h1 h2]; frame_out; rfl
  · rw [outsAt0_C m c t h0 h1 h2]; frame_out; rfl

theorem out13 (c : Dev nD) (t : Fin cfg0.N) : (outsAt0 m c t.val t.isLt).2.2.1
    = k0_pay1 (F := Ideal) (k0_pay22 (F := Ideal) (xt m c t) (dh m c t) (iblk m c 6 t) (k0_pay15 (xt m c t))) := by
  rcases cases t with ⟨h0, h1, h2⟩ | ⟨h0, h1, h2⟩ | ⟨h0, h1, h2⟩
  · rw [outsAt0_A m c t h0 h1 h2]; frame_out; rfl
  · rw [outsAt0_B m c t h0 h1 h2]; frame_out; rfl
  · rw [outsAt0_C m c t h0 h1 h2]; frame_out; rfl

theorem out14_first (c : Dev nD) (t : Fin cfg0.N) (h : t.val % 36 = 0) : (outsAt0 m c t.val t.isLt).2.2.2 = dg m c t := by
  have ht : t.val < 36 := t.isLt
  rw [outsAt0_A m c t h (by omega) (by omega)]; frame_out; rfl

theorem out14_later (c : Dev nD) (t : Fin cfg0.N) (h : ¬t.val % 36 = 0) : (outsAt0 m c t.val t.isLt).2.2.2
    = k0_pay2 (F := Ideal) (dg m c t) (outsAt0 m c (t.val - 1) (Nat.lt_of_le_of_lt (Nat.sub_le _ _) t.isLt)).2.2.2 := by
  rcases cases t with ⟨h0, h1, h2⟩ | ⟨h0, h1, h2⟩ | ⟨h0, h1, h2⟩
  · exact absurd h0 h
  · rw [outsAt0_B m c t h0 h1 h2]; frame_out; rfl
  · rw [outsAt0_C m c t h0 h1 h2]; frame_out; rfl

/-! ## The payloads, element by element -/

theorem pay20_apply (v5 v67 : FVec Ideal S256x1024 .f32) (v70 : FVec Ideal S1x1024 .f32) (h : Fin 1024) :
    k0_pay20 v5 v67 v70 (k0_pay15 v5) (ix2 0 h)
      = ∑ r, v5 (ix2 r h) * Ideal.rsqrt (ms fun k => v5 (ix2 r k)) * (v67 (ix2 r h) * (1 + v70 (ix2 0 h))) := by
  pointwise [k0_pay20, k0_pay18, k0_pay17, k0_pay16, k0_pay15, k0_pay19]
  rfl

theorem pay1_apply (v5 v67 : FVec Ideal S256x1024 .f32) (v68 : FVec Ideal S1x1024 .f32) (q : Fin 2) (h : Fin 1024) :
    k0_pay1 (F := Ideal) (k0_pay22 v5 v67 v68 (k0_pay15 v5)) (ix4 0 0 q h) = if q.val < 1 then ∑ r, v67 (ix2 r h)
      else ∑ r, v5 (ix2 r h) * Ideal.rsqrt (ms fun k => v5 (ix2 r k)) * v68 (ix2 0 h) * v67 (ix2 r h) := by
  pointwise [k0_pay1, k0_pay22, k0_pay18, k0_pay17, k0_pay16, k0_pay15, k0_pay19]
  rfl

theorem pay3_apply (v5 v67 : FVec Ideal S256x1024 .f32) (v68 v70 : FVec Ideal S1x1024 .f32) (v : FVec Ideal S1x256x1024 .f32) (q : Fin 256) (h : Fin 1024) :
    k0_pay3 (F := Ideal) (k0_pay21 v5 v67 v68 v70 (k0_pay15 v5)) v (ix3 0 q h)
      = grad (fun k => v5 (ix2 q k)) (fun k => v68 (ix2 0 k)) (fun k => v70 (ix2 0 k)) (fun k => v67 (ix2 q k)) h + v (ix3 0 q h) := by
  pointwise [k0_pay3, k0_pay21, k0_pay18, k0_pay17, k0_pay16, k0_pay15, k0_pay19]
  simp only [Fin.sum_univ_one]
  rfl

theorem mask_next : ∀ j : Fin 9, (Scalar.extui (Scalar.andi (Scalar.cmpi CmpIPredicate.ne (BitVec.ofNat 32 j.val) 0#32)
    (Scalar.cmpi CmpIPredicate.ne (BitVec.ofNat 32 j.val) 8#32)) : BitVec 32).toInt = if j.val = 0 ∨ j.val = 8 then 0 else 1 := by decide +kernel
theorem mask_prev : ∀ j : Fin 9, (Scalar.extui (Scalar.andi (Scalar.cmpi CmpIPredicate.ne (BitVec.ofNat 32 j.val) 0#32)
    (Scalar.cmpi CmpIPredicate.ne (BitVec.ofNat 32 j.val) 1#32)) : BitVec 32).toInt = if j.val = 0 ∨ j.val = 1 then 0 else 1 := by decide +kernel
theorem is_last : ∀ q : Fin 256, IntOp.cmpi CmpIPredicate.eq (BitVec.ofNat 32 q.val) 255#32 = if q.val = 255 then 1#1 else 0#1 := by decide +kernel
theorem is_first : ∀ q : Fin 256, IntOp.cmpi CmpIPredicate.eq (BitVec.ofNat 32 q.val) 0#32 = if q.val = 0 then 1#1 else 0#1 := by decide +kernel

theorem select_zero (x y : EReal) : Scalar.select 1#1 (x * (((0 : ℤ) : ℝ) : EReal)) y = 0 := by
  change x * (((0 : ℤ) : ℝ) : EReal) = 0
  simp
theorem select_one (x y : EReal) : Scalar.select 1#1 (x * (((1 : ℤ) : ℝ) : EReal)) y = x := by
  change x * (((1 : ℤ) : ℝ) : EReal) = x
  simp

/-- Both shifts and the columns that are not shifted, element by element; the two runs' neighbours count only within a sequence. -/
theorem pay11_apply (i : grid0.Coords) (v17 v19 : FVec Ideal S1x2048 .f32) (v21 : FVec Ideal S1x256x2048 .f32) (v25 v29 : FVec Ideal S1x1x2048 .f32)
    (v58 : FVec Ideal S1x256x1024 .f32) (q : Fin 256) (k : Fin 3072) :
    k0_pay11 (F := Ideal) (k0_pay5 v17) (k0_pay6 v19) (k0_pay7 v21) (k0_pay8 i v25) (k0_pay9 i v29) (iota Kind.tc S256x1 32 [0] iota_S256x1_d0_w32) k0_pay10 v58 (ix2 q k)
      = if hk : k.val < 2048 then v21 (ix3 0 q ⟨k.val, hk⟩) * (1 - v17 (ix2 0 ⟨k.val, hk⟩) - v19 (ix2 0 ⟨k.val, hk⟩))
          + v17 (ix2 0 ⟨k.val, hk⟩) * (if hq : q.val = 255 then (if (i 1).val = 0 ∨ (i 1).val = 8 then 0 else v29 (ix3 0 0 ⟨k.val, hk⟩)) else v21 (ix3 0 ⟨q.val + 1, by omega⟩ ⟨k.val, hk⟩))
          + v19 (ix2 0 ⟨k.val, hk⟩) * (if hq : q.val = 0 then (if (i 1).val = 0 ∨ (i 1).val = 1 then 0 else v25 (ix3 0 0 ⟨k.val, hk⟩)) else v21 (ix3 0 ⟨q.val - 1, by omega⟩ ⟨k.val, hk⟩))
        else v58 (ix3 0 q ⟨k.val - 2048, by omega⟩) := by
  pointwise [k0_pay11, k0_pay5, k0_pay6, k0_pay7, k0_pay8, k0_pay9, k0_pay10]
  have a1 := mask_next (i 1)
  have a2 := mask_prev (i 1)
  rw [a1, a2, is_last, is_first]
  by_cases hk : k.val < 2048
  · simp only [dif_pos hk]
    refine congrArg₂ (· + ·) (congrArg (_ + ·) (congrArg (_ * ·) ?_)) (congrArg (_ * ·) ?_)
    · by_cases hq : q.val = 255
      · simp only [dif_pos hq, if_pos hq]
        by_cases hj : (i 1).val = 0 ∨ (i 1).val = 8
        · simp only [if_pos hj]
          exact select_zero _ _
        · simp only [if_neg hj]
          exact select_one _ _
      · simp only [dif_neg hq, if_neg hq]
        exact congrArg (fun r => v21 (ix3 0 r ⟨k.val, hk⟩)) (Fin.ext (show (q.val + 256 - 255) % 256 = q.val + 1 by omega))
    · by_cases hq : q.val = 0
      · simp only [dif_pos hq, if_pos hq]
        by_cases hj : (i 1).val = 0 ∨ (i 1).val = 1
        · simp only [if_pos hj]
          exact select_zero _ _
        · simp only [if_neg hj]
          exact select_one _ _
      · simp only [dif_neg hq, if_neg hq]
        exact congrArg (fun r => v21 (ix3 0 r ⟨k.val, hk⟩)) (Fin.ext (show (q.val + 256 - 1) % 256 = q.val - 1 by omega))
  · simp only [dif_neg hk]
end Cert.InProj
-- ==== Proof.InProjBlocks.lean ====
module

public import proofs.«01_k».proof.Proof.InProjHost
public import proofs.«01_k».proof.Proof.InProjTile

@[expose] public section

set_option maxRecDepth 16384

noncomputable section

open Idealize.ShloMosaic Idealize.ShloMosaic.TcCoe Idealize.SL.Sem
open Idealize.ShloMosaic.Pipeline (Dat)

namespace Cert.InProj
open Cert.Kernel2Ideal Cert.Kernel2Ideal.Gen Cert.NormRow
variable (m : (ℓ : Loc nD τ sig) → Buf (Elt Ideal) ℓ)

theorem idx_in : ∀ t : Fin cfg0.N, win0_0.index t = ![t.val / 9, t.val % 9, 0] ∧ win0_1.index t = ![t.val / 9, (t.val % 9) * 32 - 1, 0]
    ∧ win0_2.index t = ![t.val / 9, min ((t.val % 9 + 1) * 32) 287, 0] ∧ win0_3.index t = ![t.val / 9, 0, 0] ∧ win0_4.index t = ![t.val / 9, t.val % 9 - 1, 0]
    ∧ win0_5.index t = ![t.val / 9, t.val % 9, 0, 0] ∧ win0_6.index t = ![0, 0] ∧ win0_7.index t = ![0, 0] ∧ win0_8.index t = ![0, 0]
    ∧ win0_9.index t = ![0, 0] ∧ win0_10.index t = ![t.val / 9, t.val % 9 - 1, 0] :=
  (by decide +kernel : ∀ t : Fin grid0.N, _)
theorem idx_out : ∀ t : Fin cfg0.N, win0_11.index t = ![t.val / 9, t.val % 9 - 1, 0] ∧ win0_12.index t = ![t.val / 9, t.val % 9, 0]
    ∧ win0_13.index t = ![t.val / 9, t.val % 9, 0, 0] ∧ win0_14.index t = ![0, 0] :=
  (by decide +kernel : ∀ t : Fin grid0.N, _)
theorem coord : ∀ t : Fin cfg0.N, ((grid0.coords t) 1).val = t.val % 9 :=
  (by decide +kernel : ∀ t : Fin grid0.N, _)

/-- The point's batch row. -/
def bt (t : Fin cfg0.N) : Fin 4 := ⟨t.val / 9, by have h : t.val < 36 := t.isLt; omega⟩
/-- The point's run of tokens. -/
def jt (t : Fin cfg0.N) : Fin 9 := ⟨t.val % 9, by omega⟩

theorem blk0 (c : Dev nD) (t : Fin cfg0.N) (q : Fin 256) (k : Fin 3072) : iblk m c 0 t (ix3 0 q k)
    = V m c main_v31 (ix3 (bt t) ⟨(jt t).val * 256 + q.val, by have := (jt t).isLt; omega⟩ k) := by
  obtain ⟨h0, h1, h2, h3, h4, h5, h6, h7, h8, h9, h10⟩ := idx_in t
  have e1 : (bt t).val = t.val / 9 := rfl
  have e2 : (jt t).val = t.val % 9 := rfl
  blk_point [iblk, h0]
  all_goals omega
theorem blk3 (c : Dev nD) (t : Fin cfg0.N) (q : Fin 256) (k : Fin 1024) : iblk m c 3 t (ix3 0 q k)
    = V m c main_arg1 (ix3 (bt t) q k) := by
  obtain ⟨h0, h1, h2, h3, h4, h5, h6, h7, h8, h9, h10⟩ := idx_in t
  have e1 : (bt t).val = t.val / 9 := rfl
  have e2 : (jt t).val = t.val % 9 := rfl
  blk_point [iblk, h3]
  all_goals omega
theorem blk4 (c : Dev nD) (t : Fin cfg0.N) (q : Fin 256) (k : Fin 1024) : iblk m c 4 t (ix3 0 q k)
    = V m c main_arg2 (ix3 (bt t) ⟨((jt t).val - 1) * 256 + q.val, by have := (jt t).isLt; omega⟩ k) := by
  obtain ⟨h0, h1, h2, h3, h4, h5, h6, h7, h8, h9, h10⟩ := idx_in t
  have e1 : (bt t).val = t.val / 9 := rfl
  have e2 : (jt t).val = t.val % 9 := rfl
  blk_point [iblk, h4]
  all_goals omega
theorem blk5 (c : Dev nD) (t : Fin cfg0.N) (e : Fin 2) (k : Fin 1024) : iblk m c 5 t (ix4 0 0 e k)
    = V m c main_v24 (ix4 (bt t) (jt t) e k) := by
  obtain ⟨h0, h1, h2, h3, h4, h5, h6, h7, h8, h9, h10⟩ := idx_in t
  have e1 : (bt t).val = t.val / 9 := rfl
  have e2 : (jt t).val = t.val % 9 := rfl
  blk_point [iblk, h5]
  all_goals omega
theorem blk6 (c : Dev nD) (t : Fin cfg0.N) : iblk m c 6 t = V m c main_arg5 := by
  obtain ⟨h0, h1, h2, h3, h4, h5, h6, h7, h8, h9, h10⟩ := idx_in t
  funext j
  blk_point [iblk, h6]
theorem blk7 (c : Dev nD) (t : Fin cfg0.N) : iblk m c 7 t = V m c main_v7 := by
  obtain ⟨h0, h1, h2, h3, h4, h5, h6, h7, h8, h9, h10⟩ := idx_in t
  funext j
  blk_point [iblk, h7]
theorem blk8 (c : Dev nD) (t : Fin cfg0.N) : iblk m c 8 t = V m c main_v13 := by
  obtain ⟨h0, h1, h2, h3, h4, h5, h6, h7, h8, h9, h10⟩ := idx_in t
  funext j
  blk_point [iblk, h8]
theorem blk9 (c : Dev nD) (t : Fin cfg0.N) : iblk m c 9 t = V m c main_v19 := by
  obtain ⟨h0, h1, h2, h3, h4, h5, h6, h7, h8, h9, h10⟩ := idx_in t
  funext j
  blk_point [iblk, h9]
theorem blk10 (c : Dev nD) (t : Fin cfg0.N) (q : Fin 256) (k : Fin 1024) : iblk m c 10 t (ix3 0 q k)
    = V m c main_arg9 (ix3 (bt t) ⟨((jt t).val - 1) * 256 + q.val, by have := (jt t).isLt; omega⟩ k) := by
  obtain ⟨h0, h1, h2, h3, h4, h5, h6, h7, h8, h9, h10⟩ := idx_in t
  have e1 : (bt t).val = t.val / 9 := rfl
  have e2 : (jt t).val = t.val % 9 := rfl
  blk_point [iblk, h10]
  all_goals omega
theorem x1 (c : Dev nD) (t : Fin cfg0.N) (k : Fin 2048) : X0_1 m c t (ix3 0 7 k)
    = V m c main_v31 (ix3 (bt t) ⟨((jt t).val * 32 - 1) * 8 + 7, by have := (jt t).isLt; omega⟩ ⟨k.val, by omega⟩) := by
  obtain ⟨h0, h1, h2, h3, h4, h5, h6, h7, h8, h9, h10⟩ := idx_in t
  have e1 : (bt t).val = t.val / 9 := rfl
  have e2 : (jt t).val = t.val % 9 := rfl
  unfold X0_1 Pipeline.Window.fill
  simp only [dif_pos (moved0_1 t _)]
  blk_point [iblk, h1]
  all_goals omega
theorem x2 (c : Dev nD) (t : Fin cfg0.N) (k : Fin 2048) : X0_2 m c t (ix3 0 0 k)
    = V m c main_v31 (ix3 (bt t) ⟨min (((jt t).val + 1) * 32) 287 * 8, by have := (jt t).isLt; omega⟩ ⟨k.val, by omega⟩) := by
  obtain ⟨h0, h1, h2, h3, h4, h5, h6, h7, h8, h9, h10⟩ := idx_in t
  have e1 : (bt t).val = t.val / 9 := rfl
  have e2 : (jt t).val = t.val % 9 := rfl
  unfold X0_2 Pipeline.Window.fill
  simp only [dif_pos (moved0_2 t _)]
  blk_point [iblk, h2]
  all_goals omega

theorem is_ctx : ∀ j : Fin 9, Scalar.cmpi CmpIPredicate.slt (BitVec.ofNat 32 j.val) 1#32 = if j.val < 1 then 1#1 else 0#1 := by decide +kernel

/-- A run's hidden rows: the context's, or those of the sequence. -/
theorem xt_apply (c : Dev nD) (t : Fin cfg0.N) (q : Fin 256) (h : Fin 1024) :
    xt m c t (ix2 q h) = if _ : (jt t).val < 1 then V m c main_arg1 (ix3 (bt t) q h)
      else V m c main_arg2 (ix3 (bt t) ⟨((jt t).val - 1) * 256 + q.val, by have := (jt t).isLt; omega⟩ h) := by
  refine Eq.trans (b := if (jt t).val < 1 then iblk m c 3 t (ix3 0 q h) else iblk m c 4 t (ix3 0 q h)) ?_ ?_
  swap
  · rw [blk3, blk4]; split_ifs <;> rfl
  unfold xt
  generalize iblk m c 3 t = a
  generalize iblk m c 4 t = b
  pointwise [k0_pay4]
  have e := is_ctx (grid0.coords t 1)
  have e2 : (jt t).val = t.val % 9 := rfl
  rw [e, coord t]
  by_cases hj : t.val % 9 < 1
  · simp only [if_pos hj, e2]; rfl
  · simp only [if_neg hj, e2]; rfl

/-- The gradient of the projection's output before the weight: shifted columns, zero columns, the others. -/
theorem dz_apply (c : Dev nD) (t : Fin cfg0.N) (D : FVec Ideal S4x2304x3072 .f32) (P N : FVec Ideal S1x2048 .f32)
    (hD : V m c main_v31 = D) (hP : V m c main_v13 = P) (hN : V m c main_v19 = N) (q : Fin 256) (k : Fin 3072) : dz m c t (ix2 q k)
    = if hk : k.val < 2048 then
        D (ix3 (bt t) ⟨(jt t).val * 256 + q.val, by have := (jt t).isLt; omega⟩ k) * (1 - P (ix2 0 ⟨k.val, hk⟩) - N (ix2 0 ⟨k.val, hk⟩))
          + P (ix2 0 ⟨k.val, hk⟩) * (if h : (jt t).val * 256 + q.val = 255 ∨ (jt t).val * 256 + q.val = 2303 then 0
              else D (ix3 (bt t) ⟨(jt t).val * 256 + q.val + 1, by have := (jt t).isLt; omega⟩ k))
          + N (ix2 0 ⟨k.val, hk⟩) * (if h : (jt t).val * 256 + q.val = 0 ∨ (jt t).val * 256 + q.val = 256 then 0
              else D (ix3 (bt t) ⟨(jt t).val * 256 + q.val - 1, by have := (jt t).isLt; omega⟩ k))
        else D (ix3 (bt t) ⟨(jt t).val * 256 + q.val, by have := (jt t).isLt; omega⟩ k) := by
  unfold dz
  rw [pay11_apply, blk8, blk9, hP, hN]
  have hj9 := (jt t).isLt
  have ej : (grid0.coords t 1).val = (jt t).val := coord t
  have L (r : Fin 256) (k : Fin 2048) : View.ld (iblk m c 0 t) (Rect.unit ![0, 0, 0] ![1, 256, 2048] inb_S1x256x3072_S1x256x2048_0_0_0) (ix3 0 r k)
      = D (ix3 (bt t) ⟨(jt t).val * 256 + r.val, by omega⟩ ⟨k.val, by omega⟩) := by
    rw [← hD, ← blk0]
    pointwise
  have L2 (r : Fin 256) (k : Fin 1024) : View.ld (iblk m c 0 t) (Rect.unit ![0, 0, 2048] ![1, 256, 1024] inb_S1x256x3072_S1x256x1024_0_0_2048) (ix3 0 r k)
      = D (ix3 (bt t) ⟨(jt t).val * 256 + r.val, by omega⟩ ⟨2048 + k.val, by omega⟩) := by
    rw [← hD, ← blk0]
    pointwise
  have L3 (k : Fin 2048) : View.ld (X0_1 m c t) (Rect.unit ![0, 7, 0] ![1, 1, 2048] inb_S1x8x2048_S1x1x2048_0_7_0) (ix3 0 0 k)
      = D (ix3 (bt t) ⟨((jt t).val * 32 - 1) * 8 + 7, by omega⟩ ⟨k.val, by omega⟩) := by
    rw [← hD, ← x1]
    pointwise
  have L4 (k : Fin 2048) : View.ld (X0_2 m c t) (Rect.unit ![0, 0, 0] ![1, 1, 2048] inb_S1x8x2048_S1x1x2048_0_0_0) (ix3 0 0 k)
      = D (ix3 (bt t) ⟨min (((jt t).val + 1) * 32) 287 * 8, by omega⟩ ⟨k.val, by omega⟩) := by
    rw [← hD, ← x2]
    pointwise
  simp only [L, L2, L3, L4, ej]
  by_cases hk : k.val < 2048
  · simp only [dif_pos hk]
    refine congrArg₂ (· + ·) (congrArg (_ + ·) (congrArg (_ * ·) ?_)) (congrArg (_ * ·) ?_)
    · by_cases hq : q.val = 255
      · simp only [dif_pos hq]
        by_cases hj : (jt t).val = 0 ∨ (jt t).val = 8
        · simp only [if_pos hj, dif_pos (show (jt t).val * 256 + q.val = 255 ∨ (jt t).val * 256 + q.val = 2303 by omega)]
        · simp only [if_neg hj, dif_neg (show ¬((jt t).val * 256 + q.val = 255 ∨ (jt t).val * 256 + q.val = 2303) by omega)]
          exact congrArg (fun r => D (ix3 (bt t) r k)) (Fin.ext (show min (((jt t).val + 1) * 32) 287 * 8 = (jt t).val * 256 + q.val + 1 by omega))
      · simp only [dif_neg hq, dif_neg (show ¬((jt t).val * 256 + q.val = 255 ∨ (jt t).val * 256 + q.val = 2303) by omega)]
        rfl
    · by_cases hq : q.val = 0
      · simp only [dif_pos hq]
        by_cases hj : (jt t).val = 0 ∨ (jt t).val = 1
        · simp only [if_pos hj, dif_pos (show (jt t).val * 256 + q.val = 0 ∨ (jt t).val * 256 + q.val = 256 by omega)]
        · simp only [if_neg hj, dif_neg (show ¬((jt t).val * 256 + q.val = 0 ∨ (jt t).val * 256 + q.val = 256) by omega)]
          exact congrArg (fun r => D (ix3 (bt t) r k)) (Fin.ext (show ((jt t).val * 32 - 1) * 8 + 7 = (jt t).val * 256 + q.val - 1 by omega))
      · simp only [dif_neg hq, dif_neg (show ¬((jt t).val * 256 + q.val = 0 ∨ (jt t).val * 256 + q.val = 256) by omega)]
        exact congrArg (fun r => D (ix3 (bt t) r k)) (Fin.ext (show (jt t).val * 256 + (q.val - 1) = (jt t).val * 256 + q.val - 1 by omega))
  · simp only [dif_neg hk]
    exact congrArg (fun r => D (ix3 (bt t) _ r)) (Fin.ext (show 2048 + (k.val - 2048) = k.val by omega))
end Cert.InProj
-- ==== Proof.InProjRows.lean ====
module

public import proofs.«01_k».proof.Proof.InProjBlocks

@[expose] public section

set_option maxRecDepth 16384

noncomputable section

open Idealize.ShloMosaic Idealize.ShloMosaic.TcCoe Idealize.SL.Sem
open Idealize.ShloMosaic.Pipeline (Dat)

namespace Cert.InProj
open Cert.Kernel2Ideal Cert.Kernel2Ideal.Gen Cert.NormRow

/-- A token's gradient through the shift: its own cotangent, the next token's, the previous one's. -/
def tok (d : FVec Ideal S4x2304x2976 .f32) (p n : FVec Ideal S1x1952 .f32) (b : Fin 4) (t : Fin 2304) (k : Fin 1952) : EReal :=
  d (ix3 b t ⟨k.val, by omega⟩) * (1 - p (ix2 0 k) - n (ix2 0 k))
    + p (ix2 0 k) * (if h : t.val = 255 ∨ t.val = 2303 then 0 else d (ix3 b ⟨t.val + 1, by omega⟩ ⟨k.val, by omega⟩))
    + n (ix2 0 k) * (if h : t.val = 0 ∨ t.val = 256 then 0 else d (ix3 b ⟨t.val - 1, by omega⟩ ⟨k.val, by omega⟩))

/-- The padded columns of that gradient. -/
def zcol (d : FVec Ideal S4x2304x2976 .f32) (p n : FVec Ideal S1x1952 .f32) (b : Fin 4) (t : Fin 2304) (k : Fin 3072) : EReal :=
  if hk : k.val < 1952 then tok d p n b t ⟨k.val, hk⟩ else if hk : k.val < 2048 then 0 else d (ix3 b t ⟨k.val - 96, by omega⟩)

/-- The hidden row of a run's token. -/
def hrow (ctx : FVec Ideal S4x256x1024 .f32) (x : FVec Ideal S4x2048x1024 .f32) (b : Fin 4) (j : Fin 9) (r : Fin 256) (h : Fin 1024) : EReal :=
  if _ : j.val < 1 then ctx (ix3 b r h) else x (ix3 b ⟨(j.val - 1) * 256 + r.val, by omega⟩ h)

/-- The gradient of a run's normalised row. -/
def nrow (d : FVec Ideal S4x2304x2976 .f32) (p n : FVec Ideal S1x1952 .f32) (w : FVec Ideal S1024x2976 .f32) (b : Fin 4) (j : Fin 9) (r : Fin 256) (h : Fin 1024) : EReal :=
  ∑ k : Fin 1952, tok d p n b ⟨j.val * 256 + r.val, by omega⟩ k * w (ix2 h ⟨k.val, by omega⟩)
    + ∑ k : Fin 1024, d (ix3 b ⟨j.val * 256 + r.val, by omega⟩ ⟨1952 + k.val, by omega⟩) * w (ix2 h ⟨1952 + k.val, by omega⟩)

/-- The modulation's scale of a run. -/
def srow (mc : FVec Ideal S2x1024 .f32) (mx : FVec Ideal S4x2x1024 .f32) (b : Fin 4) (j : Fin 9) (h : Fin 1024) : EReal :=
  if j.val < 1 then mc (ix2 1 h) else mx (ix3 b 1 h)

/-- A sum over the padded columns leaves the padding out. -/
theorem sum_cols (f : Fin 3072 → EReal) (h0 : ∀ k : Fin 3072, 1952 ≤ k.val → k.val < 2048 → f k = 0) :
    ∑ k, f k = ∑ k : Fin 1952, f ⟨k.val, by omega⟩ + ∑ k : Fin 1024, f ⟨2048 + k.val, by omega⟩ := by
  have e1 : ∑ k, f k = ∑ k : Fin 2048, f ⟨k.val, by omega⟩ + ∑ k : Fin 1024, f ⟨2048 + k.val, by omega⟩ :=
    Fin.sum_univ_add (a := 2048) (b := 1024) f
  have e2 : ∑ k : Fin 2048, f ⟨k.val, by omega⟩ = ∑ k : Fin 1952, f ⟨k.val, by omega⟩ + ∑ k : Fin 96, f ⟨1952 + k.val, by omega⟩ :=
    Fin.sum_univ_add (a := 1952) (b := 96) fun k : Fin 2048 => f ⟨k.val, by omega⟩
  rw [e1, e2, Finset.sum_eq_zero (s := Finset.univ (α := Fin 96)) fun k _ => h0 _ (Nat.le_add_right _ _) (by show 1952 + k.val < 2048; omega), add_zero]

theorem pay13_apply (v17 v19 : FVec Ideal S1x2048 .f32) (v21 : FVec Ideal S256x2048 .f32) (v25 v29 : FVec Ideal S1x2048 .f32)
    (i0 : IVec S256x1 32) (i1 : IVec S256x1 1) (v58 : FVec Ideal S1x256x1024 .f32) (w : FVec Ideal S1024x3072 .bf16) (q : Fin 256) (h : Fin 1024) :
    k0_pay13 (F := Ideal) v17 v19 v21 v25 v29 i0 i1 v58 w (ix2 q h) = ∑ k, k0_pay11 (F := Ideal) v17 v19 v21 v25 v29 i0 i1 v58 (ix2 q k) * w (ix2 h k) := by
  unfold k0_pay13
  generalize k0_pay11 (F := Ideal) v17 v19 v21 v25 v29 i0 i1 v58 = z
  pointwise
variable (m : (ℓ : Loc nD τ sig) → Buf (Elt Ideal) ℓ)

theorem dz_row (c : Dev nD) (t : Fin cfg0.N) (d : FVec Ideal S4x2304x2976 .f32) (p n : FVec Ideal S1x1952 .f32)
    (hD : V m c main_v31 = padd d) (hP : V m c main_v13 = padr p) (hN : V m c main_v19 = padr n) (q : Fin 256) (k : Fin 3072) :
    dz m c t (ix2 q k) = zcol d p n (bt t) ⟨(jt t).val * 256 + q.val, by have := (jt t).isLt; omega⟩ k := by
  rw [dz_apply m c t _ _ _ hD hP hN]
  unfold zcol tok
  have hj9 := (jt t).isLt
  by_cases h1 : k.val < 1952
  · simp only [padd_apply, padr_apply, dif_pos h1, dif_pos (show k.val < 2048 by omega)]
  · by_cases h2 : k.val < 2048
    · simp only [padd_apply, padr_apply, dif_neg h1, dif_pos h2, zero_mul, add_zero]
    · simp only [padd_apply, dif_neg h1, dif_neg h2]

theorem dh_row (c : Dev nD) (t : Fin cfg0.N) (d : FVec Ideal S4x2304x2976 .f32) (p n : FVec Ideal S1x1952 .f32) (w : FVec Ideal S1024x2976 .f32)
    (hD : V m c main_v31 = padd d) (hP : V m c main_v13 = padr p) (hN : V m c main_v19 = padr n) (hW : V m c main_v7 = padw w) (q : Fin 256) (h : Fin 1024) :
    dh m c t (ix2 q h) = nrow d p n w (bt t) (jt t) q h := by
  have hj9 := (jt t).isLt
  unfold dh
  rw [pay13_apply, blk7, hW]
  refine (Finset.sum_congr rfl fun k _ => congrArg (· * padw w (ix2 h k)) (dz_row m c t d p n hD hP hN q k)).trans ?_
  rw [sum_cols]
  · unfold nrow
    refine congrArg₂ (· + ·) (Finset.sum_congr rfl fun k _ => ?_) (Finset.sum_congr rfl fun k _ => ?_)
    · simp only [zcol, padw_apply, dif_pos k.isLt]
    · simp only [zcol, padw_apply, dif_neg (show ¬ 2048 + k.val < 1952 by omega), dif_neg (show ¬ 2048 + k.val < 2048 by omega)]
      have e : (⟨2048 + k.val - 96, by omega⟩ : Fin 2976) = ⟨1952 + k.val, by omega⟩ := Fin.ext (show 2048 + k.val - 96 = 1952 + k.val by omega)
      rw [e]
  · intro k h1 h2
    simp only [padw_apply, dif_neg (show ¬ k.val < 1952 by omega), dif_pos h2]
    exact mul_zero _

theorem sc_row (c : Dev nD) (t : Fin cfg0.N) (mc : FVec Ideal S2x1024 .f32) (mx : FVec Ideal S4x2x1024 .f32)
    (hM : V m c main_v24 = modt mc mx) (h : Fin 1024) : sc m c t (ix2 0 h) = srow mc mx (bt t) (jt t) h := by
  have e : sc m c t (ix2 0 h) = iblk m c 5 t (ix4 0 0 1 h) := by
    unfold sc
    generalize iblk m c 5 t = v
    pointwise [k0_pay14]
  rw [e, blk5, hM, modt_apply]
  unfold srow
  by_cases hj : (jt t).val = 0
  · rw [if_pos hj, if_pos (by omega)]
  · rw [if_neg hj, if_neg (by omega)]
end Cert.InProj
-- ==== Proof.InProjFinal.lean ====
module

public import proofs.«01_k».proof.Proof.InProjRows

@[expose] public section

set_option maxRecDepth 16384

noncomputable section

open Idealize.ShloMosaic Idealize.ShloMosaic.TcCoe Idealize.SL.Sem
open Idealize.ShloMosaic.Pipeline (Dat)

namespace Cert.InProj
open Cert.Kernel2Ideal Cert.Kernel2Ideal.Gen Cert.NormRow

/-- Result 0 over the arrays: the norm's gradient and the residual stream's cotangent. -/
def out0 (d : FVec Ideal S4x2304x2976 .f32) (ctx : FVec Ideal S4x256x1024 .f32) (x : FVec Ideal S4x2048x1024 .f32) (mc : FVec Ideal S2x1024 .f32)
    (mx : FVec Ideal S4x2x1024 .f32) (g : FVec Ideal S1x1024 .f32) (w : FVec Ideal S1024x2976 .f32) (p n : FVec Ideal S1x1952 .f32)
    (dx : FVec Ideal S4x2048x1024 .f32) : FVec Ideal S4x2048x1024 .f32 := fun i =>
  let b : Fin 4 := i 0
  let j : Fin 9 := ⟨(256 + (i 1).val) / 256, by have : (i 1).val < 2048 := (i 1).isLt; omega⟩
  let r : Fin 256 := ⟨(256 + (i 1).val) % 256, by omega⟩
  grad (hrow ctx x b j r) (fun k => g (ix2 0 k)) (srow mc mx b j) (nrow d p n w b j r) (i 2) + dx i

/-- Result 1: the gradient of the padded projection. -/
def out1 (d : FVec Ideal S4x2304x2976 .f32) (p n : FVec Ideal S1x1952 .f32) : FVec Ideal S4x2304x3072 .bf16 := fun i =>
  zcol d p n (i 0) (i 1) (i 2)

/-- Result 2: the modulation's cotangent, run by run. -/
def out2 (d : FVec Ideal S4x2304x2976 .f32) (ctx : FVec Ideal S4x256x1024 .f32) (x : FVec Ideal S4x2048x1024 .f32)
    (g : FVec Ideal S1x1024 .f32) (w : FVec Ideal S1024x2976 .f32) (p n : FVec Ideal S1x1952 .f32) : FVec Ideal S4x9x2x1024 .f32 := fun i =>
  if (i 2).val < 1 then ∑ r, nrow d p n w (i 0) (i 1) r (i 3)
  else ∑ r, hrow ctx x (i 0) (i 1) r (i 3) * Ideal.rsqrt (ms (hrow ctx x (i 0) (i 1) r)) * g (ix2 0 (i 3)) * nrow d p n w (i 0) (i 1) r (i 3)

/-- A run's part of result 3. -/
def part3 (d : FVec Ideal S4x2304x2976 .f32) (ctx : FVec Ideal S4x256x1024 .f32) (x : FVec Ideal S4x2048x1024 .f32) (mc : FVec Ideal S2x1024 .f32)
    (mx : FVec Ideal S4x2x1024 .f32) (w : FVec Ideal S1024x2976 .f32) (p n : FVec Ideal S1x1952 .f32) (b : Fin 4) (j : Fin 9) (h : Fin 1024) : EReal :=
  ∑ r, hrow ctx x b j r h * Ideal.rsqrt (ms (hrow ctx x b j r)) * (nrow d p n w b j r h * (1 + srow mc mx b j h))

/-- Result 3: the norm weight's gradient, summed over every run. -/
def out3 (d : FVec Ideal S4x2304x2976 .f32) (ctx : FVec Ideal S4x256x1024 .f32) (x : FVec Ideal S4x2048x1024 .f32) (mc : FVec Ideal S2x1024 .f32)
    (mx : FVec Ideal S4x2x1024 .f32) (w : FVec Ideal S1024x2976 .f32) (p n : FVec Ideal S1x1952 .f32) : FVec Ideal S1x1024 .f32 := fun i =>
  ∑ b, ∑ j, part3 d ctx x mc mx w p n b j (i 1)

theorem flush11 : ∀ t : Fin cfg0.N, (cfg0.win 11).flush t = true → 1 ≤ t.val % 9 :=
  (by decide +kernel : ∀ t : Fin grid0.N, _)

/-- A block's index of three axes, the first of extent one. -/
theorem ix3_of {n1 n2 : ℕ} (y : (⟨3, ![1, n1, n2]⟩ : Shape).Idx) : y = ix3 0 (y 1) (y 2) := by
  funext a
  match a with
  | ⟨0, _⟩ => exact Fin.ext (Nat.lt_one_iff.1 (y 0).isLt)
  | ⟨1, _⟩ => rfl
  | ⟨2, _⟩ => rfl
/-- A block's index of four axes, the first two of extent one. -/
theorem ix4_of {n2 n3 : ℕ} (y : (⟨4, ![1, 1, n2, n3]⟩ : Shape).Idx) : y = ix4 0 0 (y 2) (y 3) := by
  funext a
  match a with
  | ⟨0, _⟩ => exact Fin.ext (Nat.lt_one_iff.1 (y 0).isLt)
  | ⟨1, _⟩ => exact Fin.ext (Nat.lt_one_iff.1 (y 1).isLt)
  | ⟨2, _⟩ => rfl
  | ⟨3, _⟩ => rfl

/-- A sum over the batch rows and their runs, in the grid's order. -/
theorem sum_runs (f : Fin 4 → Fin 9 → EReal) : ∑ b, ∑ j, f b j = ∑ s : Fin 36, f ⟨s.val / 9, by omega⟩ ⟨s.val % 9, by omega⟩ := by
  rw [← (finProdFinEquiv (m := 4) (n := 9)).sum_comp (fun s : Fin 36 => f ⟨s.val / 9, by omega⟩ ⟨s.val % 9, by omega⟩), Fintype.sum_prod_type]
  refine Finset.sum_congr rfl fun b _ => Finset.sum_congr rfl fun j _ => congrArg₂ f (Fin.ext ?_) (Fin.ext ?_)
  · show b.val = (j.val + 9 * b.val) / 9
    omega
  · show j.val = (j.val + 9 * b.val) % 9
    omega

variable (m : (ℓ : Loc nD τ sig) → Buf (Elt Ideal) ℓ)
variable (c : Dev nD) (d : FVec Ideal S4x2304x2976 .f32) (ctx : FVec Ideal S4x256x1024 .f32) (x : FVec Ideal S4x2048x1024 .f32) (mc : FVec Ideal S2x1024 .f32)
    (mx : FVec Ideal S4x2x1024 .f32) (g : FVec Ideal S1x1024 .f32) (w : FVec Ideal S1024x2976 .f32) (p n : FVec Ideal S1x1952 .f32)
    (dx : FVec Ideal S4x2048x1024 .f32)
  (hD : V m c main_v31 = padd d) (hC : V m c main_arg1 = ctx) (hX : V m c main_arg2 = x) (hM : V m c main_v24 = modt mc mx) (hG : V m c main_arg5 = g)
  (hW : V m c main_v7 = padw w) (hP : V m c main_v13 = padr p) (hN : V m c main_v19 = padr n) (hR : V m c main_arg9 = dx)

include hC hX in
theorem xt_row (t : Fin cfg0.N) (q : Fin 256) (h : Fin 1024) : xt m c t (ix2 q h) = hrow ctx x (bt t) (jt t) q h := by
  rw [xt_apply, hC, hX]; rfl

omit m c in
theorem out0_row (b : Fin 4) (t : Fin 2048) (h : Fin 1024) (j : Fin 9) (q : Fin 256) (hj : (256 + t.val) / 256 = j.val) (hq : (256 + t.val) % 256 = q.val) :
    out0 d ctx x mc mx g w p n dx (ix3 b t h)
      = grad (hrow ctx x b j q) (fun k => g (ix2 0 k)) (srow mc mx b j) (nrow d p n w b j q) h + dx (ix3 b t h) := by
  have ej : (⟨(256 + t.val) / 256, by omega⟩ : Fin 9) = j := Fin.ext hj
  have eq : (⟨(256 + t.val) % 256, by omega⟩ : Fin 256) = q := Fin.ext hq
  rw [← ej, ← eq]; rfl

/-- What a point writes of result 0. -/
theorem tile0 (hD : V m c main_v31 = padd d) (hC : V m c main_arg1 = ctx) (hX : V m c main_arg2 = x) (hM : V m c main_v24 = modt mc mx) (hG : V m c main_arg5 = g)
    (hW : V m c main_v7 = padw w) (hP : V m c main_v13 = padr p) (hN : V m c main_v19 = padr n) (hR : V m c main_arg9 = dx)
    (t : Fin cfg0.N) (h9 : 1 ≤ t.val % 9) (y : S1x256x1024.Idx) (i : S4x2048x1024.Idx)
    (e0 : (i 0).val = t.val / 9) (e1 : (i 1).val = (t.val % 9 - 1) * 256 + (y 1).val) (e2 : (i 2).val = (y 2).val) :
    k0_pay3 (F := Ideal) (k0_pay21 (xt m c t) (dh m c t) (iblk m c 6 t) (sc m c t) (k0_pay15 (xt m c t))) (iblk m c 10 t) y
      = out0 d ctx x mc mx g w p n dx i := by
  obtain ⟨q, h, rfl⟩ : ∃ (q : Fin 256) (h : Fin 1024), y = ix3 0 q h := ⟨y 1, y 2, ix3_of y⟩
  replace e1 : (i 1).val = (t.val % 9 - 1) * 256 + q.val := e1
  have hj9 := (jt t).isLt
  have ej : (jt t).val = t.val % 9 := rfl
  obtain ⟨r, hr⟩ : ∃ r : Fin 2048, r = ⟨((jt t).val - 1) * 256 + q.val, by omega⟩ := ⟨_, rfl⟩
  have er : r.val = (t.val % 9 - 1) * 256 + q.val := by rw [hr, ← ej]
  have hi : i = ix3 (bt t) r h := by
    funext a
    match a with
    | ⟨0, _⟩ => exact Fin.ext e0
    | ⟨1, _⟩ => exact Fin.ext (e1.trans er.symm)
    | ⟨2, _⟩ => exact Fin.ext e2
  rw [hi, out0_row d ctx x mc mx g w p n dx (bt t) r h (jt t) q (by omega) (by omega), pay3_apply, blk10, hR, blk6, hG, hr]
  rw [funext fun k => xt_row m c ctx x hC hX t q k, funext fun k => sc_row m c t mc mx hM k, funext fun k => dh_row m c t d p n w hD hP hN hW q k]

/-- What a point writes of result 1. -/
theorem tile1 (hD : V m c main_v31 = padd d) (hP : V m c main_v13 = padr p) (hN : V m c main_v19 = padr n)
    (t : Fin cfg0.N) (y : S1x256x3072.Idx) (i : S4x2304x3072.Idx)
    (e0 : (i 0).val = t.val / 9) (e1 : (i 1).val = t.val % 9 * 256 + (y 1).val) (e2 : (i 2).val = (y 2).val) :
    shapeCast S1x256x3072 (dz m c t) shapeCasts_S256x3072_S1x256x3072 y = out1 d p n i := by
  obtain ⟨q, k, rfl⟩ : ∃ (q : Fin 256) (k : Fin 3072), y = ix3 0 q k := ⟨y 1, y 2, ix3_of y⟩
  have E : shapeCast S1x256x3072 (dz m c t) shapeCasts_S256x3072_S1x256x3072 (ix3 0 q k) = dz m c t (ix2 q k) := by
    generalize dz m c t = z
    pointwise
  refine E.trans ((dz_row m c t d p n hD hP hN q k).trans ?_)
  unfold out1
  have hj := (jt t).isLt
  have hb : i 0 = bt t := Fin.ext e0
  have hr : i 1 = (⟨(jt t).val * 256 + q.val, by omega⟩ : Fin 2304) := Fin.ext e1
  have hk : i 2 = k := Fin.ext e2
  rw [hb, hr, hk]

/-- What a point writes of result 2. -/
theorem tile2 (hD : V m c main_v31 = padd d) (hC : V m c main_arg1 = ctx) (hX : V m c main_arg2 = x) (hG : V m c main_arg5 = g)
    (hW : V m c main_v7 = padw w) (hP : V m c main_v13 = padr p) (hN : V m c main_v19 = padr n)
    (t : Fin cfg0.N) (y : S1x1x2x1024.Idx) (i : S4x9x2x1024.Idx)
    (e0 : (i 0).val = t.val / 9) (e1 : (i 1).val = t.val % 9) (e2 : (i 2).val = (y 2).val) (e3 : (i 3).val = (y 3).val) :
    k0_pay1 (F := Ideal) (k0_pay22 (F := Ideal) (xt m c t) (dh m c t) (iblk m c 6 t) (k0_pay15 (xt m c t))) y = out2 d ctx x g w p n i := by
  obtain ⟨q, k, rfl⟩ : ∃ (q : Fin 2) (k : Fin 1024), y = ix4 0 0 q k := ⟨y 2, y 3, ix4_of y⟩
  rw [pay1_apply, blk6, hG]
  unfold out2
  have hb : i 0 = bt t := Fin.ext e0
  have hj : i 1 = jt t := Fin.ext e1
  have hq : i 2 = q := Fin.ext e2
  have hh : i 3 = k := Fin.ext e3
  rw [hb, hj, hq, hh]
  simp only [dh_row m c t d p n w hD hP hN hW, xt_row m c ctx x hC hX]

include hD hC hX hM hW hP hN in
theorem dg_row (t : Fin cfg0.N) (h : Fin 1024) : dg m c t (ix2 0 h) = part3 d ctx x mc mx w p n (bt t) (jt t) h := by
  unfold dg part3
  rw [pay20_apply]
  simp only [dh_row m c t d p n w hD hP hN hW, xt_row m c ctx x hC hX, sc_row m c t mc mx hM]

theorem pay2_apply (a b : FVec Ideal S1x1024 .f32) (j : S1x1024.Idx) : k0_pay2 (F := Ideal) a b j = b j + a j := by
  pointwise [k0_pay2]

include hD hC hX hM hG hW hP hN hR in
theorem final11 : (dats m 0 c).arrAt 11 cfg0.N = out0 d ctx x mc mx g w p n dx := by
  refine (dats m 0 c).arrAt_eq_of_covers 11 _ (by decide +kernel) fun t hf y => ?_
  have h9 := flush11 t hf
  blk_simp
  rw [after0_11, out11 m c t h9]
  have y0 : (y 0).val < 1 := (y 0).isLt
  refine tile0 m c d ctx x mc mx g w p n dx hD hC hX hM hG hW hP hN hR t h9 y _ ?_ ?_ ?_
  all_goals (blk_simp [(idx_out t).1] <;> try omega)

include hD hP hN in
theorem final12 : (dats m 0 c).arrAt 12 cfg0.N = out1 d p n := by
  refine (dats m 0 c).arrAt_eq_of_covers 12 _ (by decide +kernel) fun t hf y => ?_
  blk_simp
  rw [after0_12, out12 m c t]
  have y0 : (y 0).val < 1 := (y 0).isLt
  refine tile1 m c d p n hD hP hN t y _ ?_ ?_ ?_
  all_goals (blk_simp [(idx_out t).2.1] <;> try omega)

include hD hC hX hG hW hP hN in
theorem final13 : (dats m 0 c).arrAt 13 cfg0.N = out2 d ctx x g w p n := by
  refine (dats m 0 c).arrAt_eq_of_covers 13 _ (by decide +kernel) fun t hf y => ?_
  blk_simp
  rw [after0_13, out13 m c t]
  have y0 : (y 0).val < 1 := (y 0).isLt
  have y1 : (y 1).val < 1 := (y 1).isLt
  refine tile2 m c d ctx x g w p n hD hC hX hG hW hP hN t y _ ?_ ?_ ?_ ?_
  all_goals (blk_simp [(idx_out t).2.2.1] <;> try omega)

/-- What the last point leaves in result 3. -/
theorem tile3 (hD : V m c main_v31 = padd d) (hC : V m c main_arg1 = ctx) (hX : V m c main_arg2 = x) (hM : V m c main_v24 = modt mc mx)
    (hW : V m c main_v7 = padw w) (hP : V m c main_v13 = padr p) (hN : V m c main_v19 = padr n)
    (y i : S1x1024.Idx) (e1 : (i 1).val = (y 1).val) (t : ℕ) (ht : ∀ s : Fin 36, 36 * (t / 36) + s.val < cfg0.N) :
    ∑ s : Fin 36, dg m c ⟨36 * (t / 36) + s.val, ht s⟩ y = out3 d ctx x mc mx w p n i := by
  obtain ⟨k, rfl⟩ : ∃ k : Fin 1024, y = ix2 0 k := ⟨y 1, by
    funext a
    match a with
    | ⟨0, _⟩ => exact Fin.ext (Nat.lt_one_iff.1 (y 0).isLt)
    | ⟨1, _⟩ => rfl⟩
  have hk : i 1 = k := Fin.ext e1
  unfold out3
  rw [hk, sum_runs]
  refine Finset.sum_congr rfl fun s _ => ?_
  refine (dg_row m c d ctx x mc mx w p n hD hC hX hM hW hP hN _ k).trans ?_
  refine congrArg₂ (fun b j => part3 d ctx x mc mx w p n b j k) (Fin.ext ?_) (Fin.ext ?_)
  · show (36 * (t / 36) + s.val) / 9 = s.val / 9
    have h := ht s
    have h' : cfg0.N = 36 := rfl
    omega
  · show (36 * (t / 36) + s.val) % 9 = s.val % 9
    omega

include hD hC hX hM hW hP hN in
theorem final14 : (dats m 0 c).arrAt 14 cfg0.N = out3 d ctx x mc mx w p n := by
  refine (dats m 0 c).arrAt_eq_of_covers 14 _ (by decide +kernel) fun t hf y => ?_
  blk_simp
  rw [after0_14, Pipeline.eq_sum_fin_of_reset_step_apply_of_flush (fun n h => (outsAt0 m c n h).2.2.2) 36 (fun _ => 0) (fun n h => dg m c n h)
    (fun t h j => by rw [out14_first m c t h, zero_add]) (fun t h j => by rw [out14_later m c t h]; exact pay2_apply _ _ j)
    t ((flush0_14 t).mp hf) _, zero_add]
  have ht : t.val < 36 := t.isLt
  refine tile3 m c d ctx x mc mx w p n hD hC hX hM hW hP hN y _ ?_ t.val _
  blk_simp [(idx_out t).2.2.2]
end Cert.InProj
-- ==== Proof.InProjEq.lean ====
module

public import proofs.«01_k».proof.Proof.InProjRef
public import proofs.«01_k».proof.Proof.InProjFinal

@[expose] public section

set_option maxRecDepth 16384

noncomputable section

open Idealize.ShloMosaic Idealize.ShloMosaic.TcCoe Idealize.SL.Sem

namespace Cert.InProj
open Cert.Kernel2Ideal Cert.Finite Cert.NormRow

variable (d : FVec Ideal S4x2304x2976 .f32) (ctx : FVec Ideal S4x256x1024 .f32) (x : FVec Ideal S4x2048x1024 .f32) (mc : FVec Ideal S2x1024 .f32)
    (mx : FVec Ideal S4x2x1024 .f32) (g : FVec Ideal S1x1024 .f32) (w : FVec Ideal S1024x2976 .f32) (p n : FVec Ideal S1x1952 .f32)
    (dx : FVec Ideal S4x2048x1024 .f32)

theorem hshift_tok (hd : ∀ i, IsReal (d i)) (hp : ∀ i, IsReal (p i)) (hn : ∀ i, IsReal (n i)) (b : Fin 4) (t : Fin 2304) (k : Fin 1952) :
    hshift d p n (ix3 b t k) = tok d p n b t k := hshift_apply d p n hd hp hn b t k

theorem hdh_row (hd : ∀ i, IsReal (d i)) (hp : ∀ i, IsReal (p i)) (hn : ∀ i, IsReal (n i)) (b : Fin 4) (j : Fin 9) (r : Fin 256) (h : Fin 1024) :
    hdh (hshift d p n) d w (ix4 b j r h) = nrow d p n w b j r h := by
  refine (hdh_apply (hshift d p n) d w b j r h).trans ?_
  unfold nrow
  refine congrArg (· + _) (Finset.sum_congr rfl fun k _ => congrArg (· * _) (hshift_tok d p n hd hp hn b _ k))

theorem hx_row (b : Fin 4) (j : Fin 9) (r : Fin 256) (h : Fin 1024) : hx ctx x (ix4 b j r h) = hrow ctx x b j r h := hx_apply ctx x b j r h

/-- Result 0 of the two programs is the same array. -/
theorem eq0 (hd : ∀ i, IsReal (d i)) (hp : ∀ i, IsReal (p i)) (hn : ∀ i, IsReal (n i)) :
    out0 d ctx x mc mx g w p n dx = hout0 dx (hx ctx x) (hdh (hshift d p n) d w) (hscale mc mx) (hg g) := by
  funext i
  obtain ⟨b, t, h, rfl⟩ : ∃ (b : Fin 4) (t : Fin 2048) (h : Fin 1024), i = ix3 b t h := ⟨i 0, i 1, i 2, by
    funext a
    match a with
    | ⟨0, _⟩ => rfl
    | ⟨1, _⟩ => rfl
    | ⟨2, _⟩ => rfl⟩
  refine (out0_row d ctx x mc mx g w p n dx b t h ⟨(256 + t.val) / 256, by omega⟩ ⟨(256 + t.val) % 256, by omega⟩ rfl rfl).trans ?_
  refine Eq.trans ?_ (hout0_apply dx (hx ctx x) (hdh (hshift d p n) d w) (hscale mc mx) (hg g) (srow mc mx) (fun b j h => hscale_apply mc mx b j h) b t h).symm
  rw [add_comm]
  refine congrArg (_ + ·) ?_
  rw [funext fun k => hx_row ctx x b ⟨(256 + t.val) / 256, by omega⟩ ⟨(256 + t.val) % 256, by omega⟩ k, funext fun k => hg_apply g k,
    funext fun k => hdh_row d w p n hd hp hn b ⟨(256 + t.val) / 256, by omega⟩ ⟨(256 + t.val) % 256, by omega⟩ k]

/-- Result 1 of the two programs is the same array. -/
theorem eq1 (hd : ∀ i, IsReal (d i)) (hp : ∀ i, IsReal (p i)) (hn : ∀ i, IsReal (n i)) :
    out1 d p n = hout1 (hshift d p n) d := by
  funext i
  obtain ⟨b, t, h, rfl⟩ : ∃ (b : Fin 4) (t : Fin 2304) (h : Fin 3072), i = ix3 b t h := ⟨i 0, i 1, i 2, by
    funext a
    match a with
    | ⟨0, _⟩ => rfl
    | ⟨1, _⟩ => rfl
    | ⟨2, _⟩ => rfl⟩
  refine Eq.trans ?_ (hout1_apply (hshift d p n) d b t h).symm
  show zcol d p n b t h = _
  unfold zcol
  by_cases h1 : h.val < 1952
  · simp only [dif_pos h1]
    exact (hshift_tok d p n hd hp hn b t _).symm
  · simp only [dif_neg h1]

/-- Result 2 of the two programs is the same array. -/
theorem eq2 (hd : ∀ i, IsReal (d i)) (hp : ∀ i, IsReal (p i)) (hn : ∀ i, IsReal (n i)) :
    out2 d ctx x g w p n = hout2 (hx ctx x) (hdh (hshift d p n) d w) (hg g) := by
  funext i
  obtain ⟨b, j, q, h, rfl⟩ : ∃ (b : Fin 4) (j : Fin 9) (q : Fin 2) (h : Fin 1024), i = ix4 b j q h := ⟨i 0, i 1, i 2, i 3, by
    funext a
    match a with
    | ⟨0, _⟩ => rfl
    | ⟨1, _⟩ => rfl
    | ⟨2, _⟩ => rfl
    | ⟨3, _⟩ => rfl⟩
  refine Eq.trans ?_ (hout2_apply (hx ctx x) (hdh (hshift d p n) d w) (hg g) b j q h).symm
  simp only [hdh_row d w p n hd hp hn, hx_row, hg_apply]
  rfl

/-- Result 3 of the two programs is the same array. -/
theorem eq3 (hd : ∀ i, IsReal (d i)) (hp : ∀ i, IsReal (p i)) (hn : ∀ i, IsReal (n i)) :
    out3 d ctx x mc mx w p n = hout3 (hx ctx x) (hdh (hshift d p n) d w) (hscale mc mx) := by
  funext i
  obtain ⟨h, rfl⟩ : ∃ h : Fin 1024, i = ix2 0 h := ⟨i 1, by
    funext a
    match a with
    | ⟨0, _⟩ => exact Fin.ext (Nat.lt_one_iff.1 (i 0).isLt)
    | ⟨1, _⟩ => rfl⟩
  refine Eq.trans ?_ (hout3_apply (hx ctx x) (hdh (hshift d p n) d w) (hscale mc mx) (srow mc mx) (fun b j h => hscale_apply mc mx b j h) h).symm
  simp only [hdh_row d w p n hd hp hn, hx_row]
  rfl
end Cert.InProj
-- ==== Proof.InProjAlg.lean ====
module

public import proofs.«01_k».proof.Proof.InProjEq
public import proofs.«01_k».proof.Defs
public import proofs.«01_k».proof.Proof.Gen.Pre_finite2

@[expose] public section

set_option maxRecDepth 16384

noncomputable section

open Idealize.ShloMosaic Idealize.ShloMosaic.TcCoe Idealize.SL.Sem
namespace Cert.InProj
open Cert.Finite

instance : Subsingleton (Cert.Pre_finite2.S_).Idx := ⟨fun a b => funext fun i => Fin.elim0 i⟩

theorem inf_bits : Ideal.ofBits .f32 0x7F800000#32 = ⊤ := by simp [Ideal.ofBits, Ideal.ieee]

/-- What the precondition says of the arrays it reads. -/
theorem pre_real (a0 : FVec Ideal Cert.Pre_finite2.S4x2304x2976 .f32) (a1 : FVec Ideal Cert.Pre_finite2.S4x256x1024 .f32)
    (a2 : FVec Ideal Cert.Pre_finite2.S4x2048x1024 .f32) (a3 : FVec Ideal Cert.Pre_finite2.S2x1024 .f32) (a4 : FVec Ideal Cert.Pre_finite2.S4x2x1024 .f32)
    (a5 : FVec Ideal Cert.Pre_finite2.S1x1024 .f32) (a6 : FVec Ideal Cert.Pre_finite2.S1024x2976 .f32) (a7 a8 : FVec Ideal Cert.Pre_finite2.S1x1952 .f32)
    (a9 : FVec Ideal Cert.Pre_finite2.S4x2048x1024 .f32)
    (h : @Cert.Pre_finite2.fn Cert.Pre_finite2.Gen.facts Ideal _ a0 a1 a2 a3 a4 a5 a6 a7 a8 a9 = fun _ => 1#1) :
    (∀ i, IsReal (a0 i)) ∧ (∀ i, IsReal (a7 i)) ∧ (∀ i, IsReal (a8 i)) := by
  have h0 := congrFun h (fun i => Fin.elim0 i)
  have h1 := IntOp.andi_eq_one.1 h0
  have h2 := IntOp.andi_eq_one.1 h1.1
  have inf : ∀ x : Ideal .f32, x = Scalar.ofBits (F := Ideal) .f32 0x7F800000#32 → x = (⊤ : EReal) := fun x hx => by
    rw [hx]; exact inf_bits
  exact ⟨isReal_of_all _ _ (fun i => inf _ rfl) _ _ _ _ h2.1, isReal_of_all _ _ (fun i => inf _ rfl) _ _ _ _ h2.2,
    isReal_of_all _ _ (fun i => inf _ rfl) _ _ _ _ h1.2⟩

set_option maxHeartbeats 2000000 in
/-- The kernel and the reference end with the same four arrays. -/
theorem alg : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hag
  refine ⟨fun c => (Cert.Kernel2Ideal.Gen.dats m 0 c).arrAt 11 Cert.Kernel2Ideal.cfg0.N, fun c => (Cert.Kernel2Ideal.Gen.dats m 0 c).arrAt 12 Cert.Kernel2Ideal.cfg0.N,
    fun c => (Cert.Kernel2Ideal.Gen.dats m 0 c).arrAt 13 Cert.Kernel2Ideal.cfg0.N, fun c => (Cert.Kernel2Ideal.Gen.dats m 0 c).arrAt 14 Cert.Kernel2Ideal.cfg0.N, ?_, ?_⟩
  · exact Cert.Kernel2Ideal.Value.run_blocks m g
  · refine (θ_run _ _ _).mono (fun _ h c => ?_) (Cert.Reference2Ideal.Value.run (F := Ideal) m' g')
    obtain ⟨hd, hp, hn⟩ := pre_real _ _ _ _ _ _ _ _ _ _ (hpre c)
    obtain ⟨h0, h1, h2, h3, hargs⟩ := h c
    obtain ⟨e0, e1, e2, e3, e4, e5, e6, e7, e8, e9⟩ := hag c
    refine ⟨h0.trans (Eq.trans (b := hout0 (m' ((c.tc : Thread Cert.Reference2Ideal.nD Cert.Reference2Ideal.τ).loc Cert.Reference2Ideal.main_arg9)) (hx (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (hdh (hshift (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8))) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg6))) (hscale (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))) (hg (m' ((c.tc : Thread Cert.Reference2Ideal.nD Cert.Reference2Ideal.τ).loc Cert.Reference2Ideal.main_arg5)))) rfl ?_),
      h1.trans (Eq.trans (b := hout1 (hshift (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8))) (m' ((c.tc : Thread Cert.Reference2Ideal.nD Cert.Reference2Ideal.τ).loc Cert.Reference2Ideal.main_arg0))) rfl ?_),
      h2.trans (Eq.trans (b := hout2 (hx (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (hdh (hshift (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8))) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg6))) (hg (m' ((c.tc : Thread Cert.Reference2Ideal.nD Cert.Reference2Ideal.τ).loc Cert.Reference2Ideal.main_arg5)))) rfl ?_),
      h3.trans (Eq.trans (b := hout3 (hx (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (hdh (hshift (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8))) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg6))) (hscale (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)))) rfl ?_), hargs⟩
    · rw [e0, e1, e2, e3, e4, e5, e6, e7, e8, e9]
      exact ((final11 m c _ _ _ _ _ _ _ _ _ _ (r31 _) rfl rfl (r24 _) rfl (r7 _) (r13 _) (r19 _) rfl).trans (eq0 _ _ _ _ _ _ _ _ _ _ hd hp hn)).symm
    · rw [e0, e7, e8]
      exact ((final12 m c _ _ _ (r31 _) (r13 _) (r19 _)).trans (eq1 _ _ _ hd hp hn)).symm
    · rw [e0, e1, e2, e5, e6, e7, e8]
      exact ((final13 m c _ _ _ _ _ _ _ (r31 _) rfl rfl rfl (r7 _) (r13 _) (r19 _)).trans (eq2 _ _ _ _ _ _ _ hd hp hn)).symm
    · rw [e0, e1, e2, e3, e4, e6, e7, e8]
      exact ((final14 m c _ _ _ _ _ _ _ _ (r31 _) rfl rfl (r24 _) (r7 _) (r13 _) (r19 _)).trans (eq3 _ _ _ _ _ _ _ _ hd hp hn)).symm
end Cert.InProj
-- ==== Proof.MlpRow.lean ====
module

public import proofs.«01_k».proof.Proof.NormRow

@[expose] public section

set_option maxRecDepth 16384

noncomputable section

open Idealize.ShloMosaic Idealize.ShloMosaic.TcCoe Idealize.SL.Sem

namespace Cert.MlpRow
open Cert.NormRow

/-- A row of the stream's width. -/
abbrev Row := Fin 1024 → EReal

/-- The normalised row, times the norm's weight. -/
def nrm (x g : Row) (h : Fin 1024) : EReal := x h * Ideal.rsqrt (ms x) * g h

/-- The factor of `x` in the norm's gradient, `e` the cotangent of the normalised row before its weight. -/
def corr1 (x e : Row) : EReal :=
  Ideal.div ((∑ k, x k * e k) * (Ideal.ofBits FTy.f32 3204448256#32 * Ideal.div (Ideal.rsqrt (ms x)) (ms x))) (Ideal.ofBits FTy.f32 1149239296#32)

/-- The norm's gradient. -/
def back (x e : Row) (h : Fin 1024) : EReal := e h * Ideal.rsqrt (ms x) + x h * corr1 x e + corr1 x e * x h

/-- The layer's input row: normalised and modulated. -/
def hid (x g s t : Row) (h : Fin 1024) : EReal := nrm x g h * (1 + s h) + t h

/-- The hidden layer before it is squared. -/
def rl (a : Row) (w1 : Fin 1024 → Fin 4096 → EReal) (f : Fin 4096) : EReal := max (∑ k, a k * w1 k f) 0

/-- The layer's output row. -/
def ff (r : Fin 4096 → EReal) (w2 : Fin 4096 → Fin 1024 → EReal) (h : Fin 1024) : EReal := ∑ f, r f * r f * w2 f h

/-- The prediction's error: `y` the layer's output, `u` its gate, `t` the target. -/
def err (x y u g t : Row) (h : Fin 1024) : EReal := x h + u h * nrm y g h - t h

/-- The loss's cotangent of the prediction. -/
def ct (e : Row) (h : Fin 1024) : EReal := e h * Ideal.ofBits FTy.f32 981467136#32

/-- A row's part of the loss, before the half. -/
def lossRow (e : Row) : EReal := Ideal.div (∑ h, e h * e h) (Ideal.ofBits FTy.f32 1149239296#32)

/-- The cotangent of the hidden layer before the squared ReLU. -/
def dpre (r : Fin 4096 → EReal) (d : Row) (w2 : Fin 4096 → Fin 1024 → EReal) (f : Fin 4096) : EReal :=
  (∑ h, d h * w2 f h) * (Ideal.ofBits FTy.f32 1073741824#32 * r f)

/-- The cotangent of the layer's input row. -/
def dhid (p : Fin 4096 → EReal) (w1 : Fin 1024 → Fin 4096 → EReal) (h : Fin 1024) : EReal := ∑ f, p f * w1 h f

/-- All that one row of the layer needs: the stream's row, the target's, the modulation, the two norms' weights and the
    two matrices. -/
@[ext] structure In where
  x : Row
  t : Row
  sh : Row
  sc : Row
  gt : Row
  g3 : Row
  g4 : Row
  w1 : Fin 1024 → Fin 4096 → EReal
  w2 : Fin 4096 → Fin 1024 → EReal

namespace In
variable (i : In)
def h2 : Row := hid i.x i.g3 i.sc i.sh
def r : Fin 4096 → EReal := rl i.h2 i.w1
def y : Row := ff i.r i.w2
def e : Row := err i.x i.y i.gt i.g4 i.t
def c : Row := ct i.e
def gc (h : Fin 1024) : EReal := i.gt h * i.c h
def dy : Row := back i.y fun h => i.gc h * i.g4 h
def dp : Fin 4096 → EReal := dpre i.r i.dy i.w2
def dh : Row := dhid i.dp i.w1
def dn (h : Fin 1024) : EReal := i.dh h * (1 + i.sc h)
def dx (h : Fin 1024) : EReal := i.c h + back i.x (fun k => i.dn k * i.g3 k) h
end In
end Cert.MlpRow
-- ==== Proof.MlpRef.lean ====
module

public import proofs.«01_k».proof.Proof.Gen.Reference3Ideal.Run
public import proofs.«01_k».proof.Proof.NormRow
public import proofs.«01_k».proof.Proof.MlpRow

@[expose] public section

set_option maxRecDepth 16384

noncomputable section

open Idealize.ShloMosaic Idealize.ShloMosaic.TcCoe Idealize.SL.Sem Idealize.ShloMosaic.StableHlo

namespace Cert.Mlp
open Cert.Reference3Ideal Cert.Reference3Ideal.Gen Cert.Reference3Ideal.Value Cert.NormRow Cert.MlpRow

/-- The mean squares. -/
def hms (x : FVec Ideal S4x2048x1024 .f32) : FVec Ideal S4x2048x1 .f32 :=
  addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
/-- The rows over their root mean square. -/
def hxr (x : FVec Ideal S4x2048x1024 .f32) : FVec Ideal S4x2048x1024 .f32 := mulf x (broadcastInDim S4x2048x1024 ![0, 1, 2] bcast_S4x2048x1_S4x2048x1024_0_1_2 (Host.rsqrt (hms x)))
/-- A norm's weight. -/
def hw (g : FVec Ideal S1x1024 .f32) : FVec Ideal S1x1x1024 .f32 := broadcastInDim S1x1x1024 ![2] bcast_S1024_S1x1x1024_2 (shapeCast S1024 g shapeCasts_S1x1024_S1024)
/-- The normalised rows. -/
def hn (x : FVec Ideal S4x2048x1024 .f32) (g : FVec Ideal S1x1024 .f32) : FVec Ideal S4x2048x1024 .f32 := mulf (hxr x) (broadcastInDim S4x2048x1024 ![0, 1, 2] bcast_S1x1x1024_S4x2048x1024_0_1_2 (hw g))
/-- One plus the modulation's scale; its shift; its gate. -/
def hsc (m : FVec Ideal S4x3x1024 .f32) : FVec Ideal S4x1x1024 .f32 := addf (broadcastInDim S4x1x1024 ![] bcast_S_S4x1x1024 (constant S_ .f32 0x3F800000#32)) (broadcastInDim S4x1x1024 ![0, 2] bcast_S4x1024_S4x1x1024_0_2 (shapeCast S4x1024 (extractStridedSlice S4x1x1024 ![0, 1, 0] m slices_S4x3x1024_S4x1x1024_0_1_0) shapeCasts_S4x1x1024_S4x1024))
def hsh (m : FVec Ideal S4x3x1024 .f32) : FVec Ideal S4x1x1024 .f32 := (broadcastInDim S4x1x1024 ![0, 2] bcast_S4x1024_S4x1x1024_0_2 (shapeCast S4x1024 (extractStridedSlice S4x1x1024 ![0, 0, 0] m slices_S4x3x1024_S4x1x1024_0_0_0) shapeCasts_S4x1x1024_S4x1024))
def hgt (m : FVec Ideal S4x3x1024 .f32) : FVec Ideal S4x1x1024 .f32 := (broadcastInDim S4x1x1024 ![0, 2] bcast_S4x1024_S4x1x1024_0_2 (shapeCast S4x1024 (extractStridedSlice S4x1x1024 ![0, 2, 0] m slices_S4x3x1024_S4x1x1024_0_2_0) shapeCasts_S4x1x1024_S4x1024))
/-- The layer's input. -/
def hh (n : FVec Ideal S4x2048x1024 .f32) (m : FVec Ideal S4x3x1024 .f32) : FVec Ideal S4x2048x1024 .f32 := addf (mulf n (broadcastInDim S4x2048x1024 ![0, 1, 2] bcast_S4x1x1024_S4x2048x1024_0_1_2 (hsc m))) (broadcastInDim S4x2048x1024 ![0, 1, 2] bcast_S4x1x1024_S4x2048x1024_0_1_2 (hsh m))
/-- The hidden rows before and after the ReLU. -/
def hpre (h : FVec Ideal S4x2048x1024 .f32) (w : FVec Ideal S1024x4096 .f32) : FVec Ideal S4x2048x4096 .f32 :=
  addf (Host.dotGeneral dot_S4x2048x1024_S1024x4096_S4x2048x4096_2_0_01_1_n_n none h w) (broadcastInDim S4x2048x4096 ![] bcast_S_S4x2048x4096 (constant S_ .f32 0x00000000#32))
def hrl (p : FVec Ideal S4x2048x4096 .f32) : FVec Ideal S4x2048x4096 .f32 := maximumf p (broadcastInDim S4x2048x4096 ![] bcast_S_S4x2048x4096 (constant S_ .f32 0x00000000#32))
def hsq (r : FVec Ideal S4x2048x4096 .f32) : FVec Ideal S4x2048x4096 .f32 := mulf r r
/-- The layer's output. -/
def hy (a : FVec Ideal S4x2048x4096 .f32) (w : FVec Ideal S4096x1024 .f32) : FVec Ideal S4x2048x1024 .f32 :=
  addf (Host.dotGeneral dot_S4x2048x4096_S4096x1024_S4x2048x1024_2_0_01_1_n_n none a w) (broadcastInDim S4x2048x1024 ![] bcast_S_S4x2048x1024 (constant S_ .f32 0x00000000#32))
/-- The prediction's error. -/
def he (x t n : FVec Ideal S4x2048x1024 .f32) (m : FVec Ideal S4x3x1024 .f32) : FVec Ideal S4x2048x1024 .f32 := subf (addf x (mulf (broadcastInDim S4x2048x1024 ![0, 1, 2] bcast_S4x1x1024_S4x2048x1024_0_1_2 (hgt m)) n)) t
/-- The loss's cotangent of the prediction. -/
def hc (e : FVec Ideal S4x2048x1024 .f32) : FVec Ideal S4x2048x1024 .f32 := mulf (broadcastInDim S4x2048x1024 ![0, 1] bcast_S4x2048_S4x2048x1024_0_1 (Host.divf (mulf (broadcastInDim S4x2048 ![] bcast_S_S4x2048 (constant S_ .f32 0x3F000000#32)) (broadcastInDim S4x2048 ![] bcast_S_S4x2048 (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) e)
def hgc (c : FVec Ideal S4x2048x1024 .f32) (m : FVec Ideal S4x3x1024 .f32) : FVec Ideal S4x2048x1024 .f32 := mulf (broadcastInDim S4x2048x1024 ![0, 1, 2] bcast_S4x1x1024_S4x2048x1024_0_1_2 (hgt m)) c
def hwt (c : FVec Ideal S4x2048x1024 .f32) (g : FVec Ideal S1x1024 .f32) : FVec Ideal S4x2048x1024 .f32 := mulf c (broadcastInDim S4x2048x1024 ![0, 1, 2] bcast_S1x1x1024_S4x2048x1024_0_1_2 (hw g))
/-- What comes back through a mean square. -/
def hcorr (x e : FVec Ideal S4x2048x1024 .f32) : FVec Ideal S4x2048x1024 .f32 :=
  broadcastInDim S4x2048x1024 ![0, 1] bcast_S4x2048_S4x2048x1024_0_1 (Host.reduceAdd (Host.divf (mulf (shapeCast S4x2048x1 (Host.reduceAdd (mulf x e) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (hms x)) (hms x)))) (broadcastInDim S4x2048x1 ![] bcast_S_S4x2048x1 (constant S_ .f32 0x44800000#32))) (constant S_ .f32 0x00000000#32) reducesTo_S4x2048x1_S4x2048_d2 h_S_)
/-- A norm's gradient. -/
def hback (x e : FVec Ideal S4x2048x1024 .f32) : FVec Ideal S4x2048x1024 .f32 := addf (addf (mulf e (broadcastInDim S4x2048x1024 ![0, 1, 2] bcast_S4x2048x1_S4x2048x1024_0_1_2 (Host.rsqrt (hms x)))) (mulf x (hcorr x e))) (mulf (hcorr x e) x)
/-- The cotangent of the hidden rows before the ReLU. -/
def hdp (p : FVec Ideal S4x2048x4096 .f32) (d : FVec Ideal S4x2048x1024 .f32) (w : FVec Ideal S4096x1024 .f32) : FVec Ideal S4x2048x4096 .f32 :=
  select (cmpf .ogt p (broadcastInDim S4x2048x4096 ![] bcast_S_S4x2048x4096 (constant S_ .f32 0x00000000#32))) (mulf (addf (broadcastInDim S4x2048x4096 ![] bcast_S_S4x2048x4096 (constant S_ .f32 0x00000000#32)) (Host.dotGeneral dot_S4x2048x1024_S4096x1024_S4x2048x4096_2_1_01_0_n_n none d w)) (mulf (broadcastInDim S4x2048x4096 ![] bcast_S_S4x2048x4096 (constant S_ .f32 0x40000000#32)) (hrl p))) (broadcastInDim S4x2048x4096 ![] bcast_S_S4x2048x4096 (constant S_ .f32 0x00000000#32))
def hdh (p : FVec Ideal S4x2048x4096 .f32) (w : FVec Ideal S1024x4096 .f32) : FVec Ideal S4x2048x1024 .f32 :=
  addf (broadcastInDim S4x2048x1024 ![] bcast_S_S4x2048x1024 (constant S_ .f32 0x00000000#32)) (Host.dotGeneral dot_S4x2048x4096_S1024x4096_S4x2048x1024_2_1_01_0_n_n none p w)
def hdn (d : FVec Ideal S4x2048x1024 .f32) (m : FVec Ideal S4x3x1024 .f32) : FVec Ideal S4x2048x1024 .f32 := mulf d (broadcastInDim S4x2048x1024 ![0, 1, 2] bcast_S4x1x1024_S4x2048x1024_0_1_2 (hsc m))
/-- The stream's gradient. -/
def hdx (c x e : FVec Ideal S4x2048x1024 .f32) : FVec Ideal S4x2048x1024 .f32 := addf (addf (addf c (mulf e (broadcastInDim S4x2048x1024 ![0, 1, 2] bcast_S4x2048x1_S4x2048x1024_0_1_2 (Host.rsqrt (hms x))))) (mulf x (hcorr x e))) (mulf (hcorr x e) x)
/-- Each run's loss, laid over a tile. -/
def hloss (e : FVec Ideal S4x2048x1024 .f32) : FVec Ideal S4x8x8x128 .f32 :=
  broadcastInDim S4x8x8x128 ![0, 1, 2, 3] bcast_S4x8x1x1_S4x8x8x128_0_1_2_3 (broadcastInDim S4x8x1x1 ![0, 1] bcast_S4x8_S4x8x1x1_0_1 (Host.reduceAdd (shapeCast S4x8x256 (mulf (broadcastInDim S4x2048 ![] bcast_S_S4x2048 (constant S_ .f32 0x3F000000#32)) (Host.divf (Host.reduceAdd (mulf e e) (constant S_ .f32 0x00000000#32) reducesTo_S4x2048x1024_S4x2048_d2 h_S_) (broadcastInDim S4x2048 ![] bcast_S_S4x2048 (constant S_ .f32 0x44800000#32)))) shapeCasts_S4x2048_S4x8x256) (constant S_ .f32 0x00000000#32) reducesTo_S4x8x256_S4x8_d2 h_S_))
/-- The modulation's gradient: the gate's, the scale's and the shift's rows. -/
def hdm (u v w : FVec Ideal S4x2048x1024 .f32) : FVec Ideal S4x3x1024 .f32 := addf (addf (pad S4x3x1024 ![0, 2, 0] ![0, 0, 0] ![0, 0, 0] (broadcastInDim S4x1x1024 ![0, 2] bcast_S4x1024_S4x1x1024_0_2 (Host.reduceAdd (shapeCast S4x1x1024 (Host.reduceAdd u (constant S_ .f32 0x00000000#32) reducesTo_S4x2048x1024_S4x1024_d1 h_S_) shapeCasts_S4x1024_S4x1x1024) (constant S_ .f32 0x00000000#32) reducesTo_S4x1x1024_S4x1024_d1 h_S_)) (constant (F := Ideal) S_ .f32 0x00000000#32) pads_S4x1x1024_S4x3x1024_000_200_000 h_S_) (pad S4x3x1024 ![0, 1, 0] ![0, 1, 0] ![0, 0, 0] (broadcastInDim S4x1x1024 ![0, 2] bcast_S4x1024_S4x1x1024_0_2 (Host.reduceAdd (shapeCast S4x1x1024 (Host.reduceAdd v (constant S_ .f32 0x00000000#32) reducesTo_S4x2048x1024_S4x1024_d1 h_S_) shapeCasts_S4x1024_S4x1x1024) (constant S_ .f32 0x00000000#32) reducesTo_S4x1x1024_S4x1024_d1 h_S_)) (constant (F := Ideal) S_ .f32 0x00000000#32) pads_S4x1x1024_S4x3x1024_000_110_000 h_S_)) (pad S4x3x1024 ![0, 0, 0] ![0, 2, 0] ![0, 0, 0] (broadcastInDim S4x1x1024 ![0, 2] bcast_S4x1024_S4x1x1024_0_2 (Host.reduceAdd (shapeCast S4x1x1024 (Host.reduceAdd w (constant S_ .f32 0x00000000#32) reducesTo_S4x2048x1024_S4x1024_d1 h_S_) shapeCasts_S4x1024_S4x1x1024) (constant S_ .f32 0x00000000#32) reducesTo_S4x1x1024_S4x1024_d1 h_S_)) (constant (F := Ideal) S_ .f32 0x00000000#32) pads_S4x1x1024_S4x3x1024_000_020_000 h_S_)
/-- A weight's gradient: the sum over every token. -/
def hdg (v : FVec Ideal S4x2048x1024 .f32) : FVec Ideal S1x1024 .f32 :=
  broadcastInDim S1x1024 ![1] bcast_S1024_S1x1024_1 (Host.reduceAdd (shapeCast S1x1x1024 (Host.reduceAdd v (constant S_ .f32 0x00000000#32) reducesTo_S4x2048x1024_S1024_d0_1 h_S_) shapeCasts_S1024_S1x1x1024) (constant S_ .f32 0x00000000#32) reducesTo_S1x1x1024_S1024_d0_1 h_S_)

theorem hms_apply (x : FVec Ideal S4x2048x1024 .f32) (b : Fin 4) (t : Fin 2048) : hms x (ix3 b t 0) = ms fun k => x (ix3 b t k) := by
  pointwise [hms]; rfl
theorem hxr_apply (x : FVec Ideal S4x2048x1024 .f32) (b : Fin 4) (t : Fin 2048) (h : Fin 1024) :
    hxr x (ix3 b t h) = x (ix3 b t h) * Ideal.rsqrt (ms fun k => x (ix3 b t k)) := by
  pointwise [hxr, hms]; rfl
theorem hw_apply (g : FVec Ideal S1x1024 .f32) (h : Fin 1024) : hw g (ix3 0 0 h) = g (ix2 0 h) := by
  pointwise [hw]
theorem hn_apply (x : FVec Ideal S4x2048x1024 .f32) (g : FVec Ideal S1x1024 .f32) (b : Fin 4) (t : Fin 2048) (h : Fin 1024) :
    hn x g (ix3 b t h) = nrm (fun k => x (ix3 b t k)) (fun k => g (ix2 0 k)) h := by
  pointwise [hn, hxr, hms, hw]; rfl
theorem hh_apply (n : FVec Ideal S4x2048x1024 .f32) (m : FVec Ideal S4x3x1024 .f32) (b : Fin 4) (t : Fin 2048) (h : Fin 1024) :
    hh n m (ix3 b t h) = n (ix3 b t h) * (1 + m (ix3 b 1 h)) + m (ix3 b 0 h) := by
  pointwise [hh, hsc, hsh]
theorem hpre_apply (a : FVec Ideal S4x2048x1024 .f32) (w : FVec Ideal S1024x4096 .f32) (b : Fin 4) (t : Fin 2048) (f : Fin 4096) :
    hpre a w (ix3 b t f) = ∑ k : Fin 1024, a (ix3 b t k) * w (ix2 k f) := by
  pointwise [hpre]
theorem hrl_apply (p : FVec Ideal S4x2048x4096 .f32) (b : Fin 4) (t : Fin 2048) (f : Fin 4096) : hrl p (ix3 b t f) = max (p (ix3 b t f)) 0 := by
  pointwise [hrl]
theorem hsq_apply (p : FVec Ideal S4x2048x4096 .f32) (b : Fin 4) (t : Fin 2048) (f : Fin 4096) : hsq p (ix3 b t f) = p (ix3 b t f) * p (ix3 b t f) := by
  pointwise [hsq]
theorem hy_apply (a : FVec Ideal S4x2048x4096 .f32) (w : FVec Ideal S4096x1024 .f32) (b : Fin 4) (t : Fin 2048) (h : Fin 1024) :
    hy a w (ix3 b t h) = ∑ f : Fin 4096, a (ix3 b t f) * w (ix2 f h) := by
  pointwise [hy]
theorem he_apply (x u n : FVec Ideal S4x2048x1024 .f32) (m : FVec Ideal S4x3x1024 .f32) (b : Fin 4) (t : Fin 2048) (h : Fin 1024) :
    he x u n m (ix3 b t h) = x (ix3 b t h) + m (ix3 b 2 h) * n (ix3 b t h) - u (ix3 b t h) := by
  pointwise [he, hgt]

/-- Half of twice a value over 1024 is the value times 2^-10. -/
theorem scale_eq (e : EReal) : Ideal.div (Ideal.ofBits FTy.f32 1056964608#32 * 1) (Ideal.ofBits FTy.f32 1149239296#32) * (Ideal.ofBits FTy.f32 1073741824#32 * e)
    = e * Ideal.ofBits FTy.f32 981467136#32 := by
  have h1 : Ideal.ofBits FTy.f32 1056964608#32 = ((1 / 2 : ℝ) : EReal) := by simp [Ideal.ofBits, Ideal.ieee]; rw [← EReal.coe_mul]; norm_num
  have h2 : Ideal.ofBits FTy.f32 1149239296#32 = ((1024 : ℝ) : EReal) := by simp [Ideal.ofBits, Ideal.ieee]; rw [← EReal.coe_mul]; norm_num
  have h3 : Ideal.ofBits FTy.f32 1073741824#32 = ((2 : ℝ) : EReal) := by simp [Ideal.ofBits, Ideal.ieee]; rw [← EReal.coe_mul]; norm_num
  have h4 : Ideal.ofBits FTy.f32 981467136#32 = ((1 / 1024 : ℝ) : EReal) := by simp [Ideal.ofBits, Ideal.ieee]; rw [← EReal.coe_mul]; norm_num
  rw [h1, h2, h3, h4, Ideal.div_coe (by norm_num), mul_one, ← mul_assoc, mul_comm e]
  congr 1
  norm_cast
  norm_num

theorem hc_apply (e : FVec Ideal S4x2048x1024 .f32) (b : Fin 4) (t : Fin 2048) (h : Fin 1024) : hc e (ix3 b t h) = e (ix3 b t h) * Ideal.ofBits FTy.f32 981467136#32 := by
  rw [← scale_eq]
  pointwise [hc]
theorem hgc_apply (c : FVec Ideal S4x2048x1024 .f32) (m : FVec Ideal S4x3x1024 .f32) (b : Fin 4) (t : Fin 2048) (h : Fin 1024) : hgc c m (ix3 b t h) = m (ix3 b 2 h) * c (ix3 b t h) := by
  pointwise [hgc, hgt]
theorem hwt_apply (c : FVec Ideal S4x2048x1024 .f32) (g : FVec Ideal S1x1024 .f32) (b : Fin 4) (t : Fin 2048) (h : Fin 1024) : hwt c g (ix3 b t h) = c (ix3 b t h) * g (ix2 0 h) := by
  pointwise [hwt, hw]
theorem hback_apply (x e : FVec Ideal S4x2048x1024 .f32) (b : Fin 4) (t : Fin 2048) (h : Fin 1024) :
    hback x e (ix3 b t h) = back (fun k => x (ix3 b t k)) (fun k => e (ix3 b t k)) h := by
  pointwise [hback, hcorr, hms]
  simp only [Fin.sum_univ_one]
  rfl
theorem hdx_apply (c x e : FVec Ideal S4x2048x1024 .f32) (b : Fin 4) (t : Fin 2048) (h : Fin 1024) :
    hdx c x e (ix3 b t h) = c (ix3 b t h) + back (fun k => x (ix3 b t k)) (fun k => e (ix3 b t k)) h := by
  unfold back
  rw [← add_assoc, ← add_assoc]
  pointwise [hdx, hcorr, hms]
  simp only [Fin.sum_univ_one]
  rfl

/-- Outside the ReLU's support the factor two times the ReLU vanishes by itself. -/
theorem relu_sel (p d : EReal) : (if 0 < p then d * (Ideal.ofBits FTy.f32 1073741824#32 * max p 0) else 0)
    = d * (Ideal.ofBits FTy.f32 1073741824#32 * max p 0) := by
  by_cases h : 0 < p
  · rw [if_pos h]
  · rw [if_neg h, max_eq_right (not_lt.1 h), mul_zero, mul_zero]
theorem hdp_apply (p : FVec Ideal S4x2048x4096 .f32) (d : FVec Ideal S4x2048x1024 .f32) (w : FVec Ideal S4096x1024 .f32) (b : Fin 4) (t : Fin 2048) (f : Fin 4096) :
    hdp p d w (ix3 b t f) = (∑ h : Fin 1024, d (ix3 b t h) * w (ix2 f h)) * (Ideal.ofBits FTy.f32 1073741824#32 * max (p (ix3 b t f)) 0) := by
  refine Eq.trans ?_ (relu_sel (p (ix3 b t f)) (∑ h : Fin 1024, d (ix3 b t h) * w (ix2 f h)))
  pointwise [hdp, hrl]
theorem hdh_apply (p : FVec Ideal S4x2048x4096 .f32) (w : FVec Ideal S1024x4096 .f32) (b : Fin 4) (t : Fin 2048) (h : Fin 1024) :
    hdh p w (ix3 b t h) = ∑ f : Fin 4096, p (ix3 b t f) * w (ix2 h f) := by
  pointwise [hdh]
theorem hdn_apply (d : FVec Ideal S4x2048x1024 .f32) (m : FVec Ideal S4x3x1024 .f32) (b : Fin 4) (t : Fin 2048) (h : Fin 1024) : hdn d m (ix3 b t h) = d (ix3 b t h) * (1 + m (ix3 b 1 h)) := by
  pointwise [hdn, hsc]

/-- A run's half comes out of its sum. -/
theorem half_sum {n : ℕ} (f : Fin n → EReal) : ∑ q, Ideal.ofBits FTy.f32 1056964608#32 * f q = Ideal.ofBits FTy.f32 1056964608#32 * ∑ q, f q := by
  have h1 : Ideal.ofBits FTy.f32 1056964608#32 = ((1 / 2 : ℝ) : EReal) := by simp [Ideal.ofBits, Ideal.ieee]; rw [← EReal.coe_mul]; norm_num
  rw [h1]
  induction n with
  | zero => simp
  | succ n ih =>
    rw [Fin.sum_univ_succ, Fin.sum_univ_succ, ih,
      EReal.left_distrib_of_nonneg_of_ne_top (by exact_mod_cast (by norm_num : (0 : ℝ) ≤ 1 / 2)) (EReal.coe_ne_top _)]

theorem hloss_apply (e : FVec Ideal S4x2048x1024 .f32) (b : Fin 4) (j : Fin 8) (q : Fin 8) (l : Fin 128) :
    hloss e (ix4 b j q l) = Ideal.ofBits FTy.f32 1056964608#32 * ∑ r : Fin 256, lossRow fun k => e (ix3 b ⟨j.val * 256 + r.val, by omega⟩ k) := by
  rw [← half_sum]
  pointwise [hloss]
  rfl

theorem hdm_apply (u v w : FVec Ideal S4x2048x1024 .f32) (b : Fin 4) (s : Fin 3) (h : Fin 1024) : hdm u v w (ix3 b s h)
    = if s.val < 1 then ∑ t : Fin 2048, w (ix3 b t h) else if s.val < 2 then ∑ t : Fin 2048, v (ix3 b t h) else ∑ t : Fin 2048, u (ix3 b t h) := by
  pointwise [hdm]
  simp only [Fin.sum_univ_one]
  obtain ⟨s, hs⟩ := s
  interval_cases s <;> simp

/-- A sum over the two leading axes. -/
theorem sum_lead2 {n0 n1 n2 : ℕ} (hr : (⟨3, ![n0, n1, n2]⟩ : Shape).ReducesTo [0, 1] ⟨1, ![n2]⟩)
    (v : (⟨3, ![n0, n1, n2]⟩ : Shape).Idx → EReal) (init : EReal) (h : Fin n2) :
    Ideal.hostReduceAdd hr v init (ix1 h) = init + ∑ k : Fin n0 × Fin n1, v (ix3 k.1 k.2 h) := by
  refine congrArg (init + ·) (Finset.sum_filter_eq_sum_of_fiber _ (fun k : Fin n0 × Fin n1 => ix3 k.1 k.2 h)
    (fun _ _ e => Prod.ext (congrFun e 0) (congrFun e 1)) (fun i => ?_) v)
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext a; apply Fin.ext
    match a with
    | ⟨0, _⟩ => rfl
theorem hdg_apply (v : FVec Ideal S4x2048x1024 .f32) (h : Fin 1024) : hdg v (ix2 0 h) = ∑ b : Fin 4, ∑ t : Fin 2048, v (ix3 b t h) := by
  unfold hdg
  pointwise
  rw [sum_lead2, zero_add]
  pointwise
  rw [Finset.sum_congr rfl fun k _ => sum_lead2 _ v 0 h]
  simp only [zero_add, Fintype.sum_prod_type, Fin.sum_univ_one]
end Cert.Mlp
-- ==== Proof.MlpTile.lean ====
module

public import proofs.«01_k».proof.Proof.Gen.Kernel3Ideal.Value
public import proofs.«01_k».proof.Proof.MlpRow
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mlp
open Cert.Kernel3Ideal Cert.Kernel3Ideal.Gen Cert.NormRow Cert.MlpRow

/-! ## The payloads, element by element -/

theorem pay14_apply (x : FVec Ideal S1x256x1024 .f32) (sh sc : FVec Ideal S1x1x1024 .f32) (g : FVec Ideal S1x1024 .f32) (q : Fin 256) (h : Fin 1024) :
    k0_pay14 (F := Ideal) x sh sc g (ix2 q h)
      = hid (fun k => x (ix3 0 q k)) (fun k => g (ix2 0 k)) (fun k => sc (ix3 0 0 k)) (fun k => sh (ix3 0 0 k)) h := by
  pointwise [k0_pay14, k0_pay13, k0_pay12, k0_pay11, k0_pay9, k0_pay8, k0_pay6]
  rfl

theorem pay12_apply (x : FVec Ideal S1x256x1024 .f32) (g : FVec Ideal S1x1024 .f32) (q : Fin 256) (h : Fin 1024) :
    k0_pay12 (F := Ideal) x g (ix2 q h) = nrm (fun k => x (ix3 0 q k)) (fun k => g (ix2 0 k)) h := by
  pointwise [k0_pay12, k0_pay11, k0_pay9, k0_pay8, k0_pay6]
  rfl

theorem pay17_apply (x : FVec Ideal S1x256x1024 .f32) (sh sc : FVec Ideal S1x1x1024 .f32) (g : FVec Ideal S1x1024 .f32) (w : FVec Ideal S1024x4096 .bf16)
    (a : Row) (q : Fin 256) (f : Fin 4096) (ha : ∀ k, k0_pay14 (F := Ideal) x sh sc g (ix2 q k) = a k) :
    k0_pay17 (F := Ideal) (k0_pay15 x sh sc g w) k0_pay16 (ix2 q f) = rl a (fun k f => w (ix2 k f)) f := by
  unfold k0_pay17 k0_pay16 k0_pay15
  generalize k0_pay14 (F := Ideal) x sh sc g = z at ha ⊢
  pointwise
  simp only [ha]
  rfl

theorem pay19_apply (u v : FVec Ideal S256x4096 .f32) (w : FVec Ideal S4096x1024 .bf16) (r : Fin 4096 → EReal) (q : Fin 256) (h : Fin 1024)
    (hr : ∀ f, k0_pay17 (F := Ideal) u v (ix2 q f) = r f) :
    k0_pay19 (F := Ideal) u v w (ix2 q h) = ff r (fun f h => w (ix2 f h)) h := by
  unfold k0_pay19 k0_pay18
  generalize k0_pay17 (F := Ideal) u v = z at hr ⊢
  pointwise
  simp only [hr]
  rfl

theorem pay24_apply (u v : FVec Ideal S256x4096 .f32) (w : FVec Ideal S4096x1024 .bf16) (g : FVec Ideal S1x1024 .f32) (y : Row) (q : Fin 256) (h : Fin 1024)
    (hy : ∀ k, k0_pay19 (F := Ideal) u v w (ix2 q k) = y k) :
    k0_pay24 (F := Ideal) u v w g (ix2 q h) = nrm y (fun k => g (ix2 0 k)) h := by
  unfold k0_pay24 k0_pay23 k0_pay21 k0_pay20
  generalize k0_pay19 (F := Ideal) u v w = z at hy ⊢
  pointwise
  simp only [hy]
  rfl

theorem pay23_apply (u v : FVec Ideal S256x4096 .f32) (w : FVec Ideal S4096x1024 .bf16) (y : Row) (q : Fin 256) (h : Fin 1024)
    (hy : ∀ k, k0_pay19 (F := Ideal) u v w (ix2 q k) = y k) :
    k0_pay23 (F := Ideal) u v w (ix2 q h) = y h * Ideal.rsqrt (ms y) := by
  unfold k0_pay23 k0_pay21 k0_pay20
  generalize k0_pay19 (F := Ideal) u v w = z at hy ⊢
  pointwise
  simp only [hy]
  rfl

theorem pay25_apply (x t : FVec Ideal S1x256x1024 .f32) (p : FVec Ideal S1x1x1024 .f32) (u v : FVec Ideal S256x4096 .f32) (w : FVec Ideal S4096x1024 .bf16)
    (g : FVec Ideal S1x1024 .f32) (y : Row) (q : Fin 256) (h : Fin 1024) (hy : ∀ k, k0_pay19 (F := Ideal) u v w (ix2 q k) = y k) :
    k0_pay25 (F := Ideal) (k0_pay6 x) (k0_pay7 p) u v w g t (ix2 q h)
      = err (fun k => x (ix3 0 q k)) y (fun k => p (ix3 0 0 k)) (fun k => g (ix2 0 k)) (fun k => t (ix3 0 q k)) h := by
  have e := pay24_apply u v w g y q h hy
  unfold k0_pay25
  generalize k0_pay24 (F := Ideal) u v w g = z at e ⊢
  pointwise [k0_pay6, k0_pay7]
  rw [e]
  rfl

theorem pay26_apply (x : FVec Ideal S256x1024 .f32) (p : FVec Ideal S1x1024 .f32) (u v : FVec Ideal S256x4096 .f32) (w : FVec Ideal S4096x1024 .bf16)
    (g : FVec Ideal S1x1024 .f32) (t : FVec Ideal S1x256x1024 .f32) (e : Fin 256 → Row)
    (he : ∀ q k, k0_pay25 (F := Ideal) x p u v w g t (ix2 q k) = e q k) :
    k0_pay26 (F := Ideal) x p u v w g t = Ideal.ofBits FTy.f32 1056964608#32 * ∑ q, lossRow (e q) := by
  unfold k0_pay26
  generalize k0_pay25 (F := Ideal) x p u v w g t = z at he ⊢
  pointwise
  simp only [Fin.sum_univ_one, he]
  rfl

theorem pay27_apply (x : FVec Ideal S256x1024 .f32) (p : FVec Ideal S1x1024 .f32) (u v : FVec Ideal S256x4096 .f32) (w : FVec Ideal S4096x1024 .bf16)
    (g : FVec Ideal S1x1024 .f32) (t : FVec Ideal S1x256x1024 .f32) (e : Row) (q : Fin 256) (h : Fin 1024)
    (he : ∀ k, k0_pay25 (F := Ideal) x p u v w g t (ix2 q k) = e k) :
    k0_pay27 (F := Ideal) x p u v w g t (ix2 q h) = ct e h := by
  unfold k0_pay27
  generalize k0_pay25 (F := Ideal) x p u v w g t = z at he ⊢
  pointwise
  simp only [he]
  rfl

theorem pay28_apply (x : FVec Ideal S256x1024 .f32) (p : FVec Ideal S1x1x1024 .f32) (u v : FVec Ideal S256x4096 .f32) (w : FVec Ideal S4096x1024 .bf16)
    (g : FVec Ideal S1x1024 .f32) (t : FVec Ideal S1x256x1024 .f32) (c : Row) (q : Fin 256) (h : Fin 1024)
    (hc : ∀ k, k0_pay27 (F := Ideal) x (k0_pay7 p) u v w g t (ix2 q k) = c k) :
    k0_pay28 (F := Ideal) x (k0_pay7 p) u v w g t (ix2 q h) = p (ix3 0 0 h) * c h := by
  unfold k0_pay28
  generalize k0_pay27 (F := Ideal) x (k0_pay7 p) u v w g t = z at hc ⊢
  pointwise [k0_pay7]
  simp only [hc]

theorem pay29_apply (x : FVec Ideal S256x1024 .f32) (p : FVec Ideal S1x1024 .f32) (u v : FVec Ideal S256x4096 .f32) (w : FVec Ideal S4096x1024 .bf16)
    (g : FVec Ideal S1x1024 .f32) (t : FVec Ideal S1x256x1024 .f32) (c n : Row) (q : Fin 256) (h : Fin 1024)
    (hc : ∀ k, k0_pay27 (F := Ideal) x p u v w g t (ix2 q k) = c k) (hn : ∀ k, k0_pay24 (F := Ideal) u v w g (ix2 q k) = n k) :
    k0_pay29 (F := Ideal) x p u v w g t (ix2 q h) = c h * n h := by
  unfold k0_pay29
  generalize k0_pay27 (F := Ideal) x p u v w g t = z at hc ⊢
  generalize k0_pay24 (F := Ideal) u v w g = z' at hn ⊢
  pointwise
  simp only [hc, hn]

theorem pay30_apply (a : FVec Ideal S256x1024 .f32) (r : Fin 256 → EReal) (h : Fin 1024) (ha : ∀ q, a (ix2 q h) = r q) :
    k0_pay30 (F := Ideal) a (ix2 0 h) = ∑ q, r q := by
  pointwise [k0_pay30]
  simp only [ha]

theorem pay31_apply (a b : FVec Ideal S256x1024 .f32) (r s : Fin 256 → EReal) (h : Fin 1024) (ha : ∀ q, a (ix2 q h) = r q) (hb : ∀ q, b (ix2 q h) = s q) :
    k0_pay31 (F := Ideal) a b (ix2 0 h) = ∑ q, r q * s q := by
  pointwise [k0_pay31]
  simp only [ha, hb]

theorem pay32_apply (u v : FVec Ideal S256x4096 .f32) (w : FVec Ideal S4096x1024 .bf16) (g : FVec Ideal S1x1024 .f32) (c : FVec Ideal S256x1024 .f32)
    (y d : Row) (q : Fin 256) (h : Fin 1024) (hy : ∀ k, k0_pay19 (F := Ideal) u v w (ix2 q k) = y k) (hd : ∀ k, c (ix2 q k) = d k) :
    k0_pay32 (F := Ideal) (k0_pay19 u v w) g (k0_pay21 u v w) (k0_pay22 u v w) c (ix2 q h) = back y (fun k => d k * g (ix2 0 k)) h := by
  unfold k0_pay32 k0_pay22 k0_pay21 k0_pay20
  generalize k0_pay19 (F := Ideal) u v w = z at hy ⊢
  pointwise
  simp only [Fin.sum_univ_one, hy, hd]
  rfl

theorem pay33_apply (r : FVec Ideal S256x4096 .f32) (y : FVec Ideal S256x1024 .f32) (g : FVec Ideal S1x1024 .f32) (a b : FVec Ideal S256x1 .f32)
    (c : FVec Ideal S256x1024 .f32) (w : FVec Ideal S4096x1024 .bf16) (r' : Fin 4096 → EReal) (d : Row) (q : Fin 256) (f : Fin 4096)
    (hr : ∀ f, r (ix2 q f) = r' f) (hd : ∀ k, k0_pay32 (F := Ideal) y g a b c (ix2 q k) = d k) :
    k0_pay33 (F := Ideal) r y g a b c w (ix2 q f) = dpre r' d (fun f h => w (ix2 f h)) f := by
  unfold k0_pay33
  generalize k0_pay32 (F := Ideal) y g a b c = z at hd ⊢
  pointwise
  simp only [hr, hd]
  rfl

section
variable (r : FVec Ideal S256x4096 .f32) (y : FVec Ideal S256x1024 .f32) (g : FVec Ideal S1x1024 .f32) (a b : FVec Ideal S256x1 .f32)
    (c : FVec Ideal S256x1024 .f32) (w : FVec Ideal S4096x1024 .bf16) (v : FVec Ideal S1024x4096 .bf16)

theorem pay34_apply (p : Fin 4096 → EReal) (q : Fin 256) (h : Fin 1024) (hp : ∀ f, k0_pay33 (F := Ideal) r y g a b c w (ix2 q f) = p f) :
    k0_pay34 (F := Ideal) r y g a b c w v (ix2 q h) = dhid p (fun h f => v (ix2 h f)) h := by
  unfold k0_pay34
  generalize k0_pay33 (F := Ideal) r y g a b c w = z at hp ⊢
  pointwise
  simp only [hp]
  rfl

theorem pay35_apply (d : Fin 256 → EReal) (h : Fin 1024) (hd : ∀ q, k0_pay34 (F := Ideal) r y g a b c w v (ix2 q h) = d q) :
    k0_pay35 (F := Ideal) r y g a b c w v (ix2 0 h) = ∑ q, d q := by
  unfold k0_pay35
  generalize k0_pay34 (F := Ideal) r y g a b c w v = z at hd ⊢
  pointwise
  simp only [hd]

theorem pay36_apply (n : FVec Ideal S256x1024 .f32) (n' d : Fin 256 → EReal) (h : Fin 1024)
    (hn : ∀ q, n (ix2 q h) = n' q) (hd : ∀ q, k0_pay34 (F := Ideal) r y g a b c w v (ix2 q h) = d q) :
    k0_pay36 (F := Ideal) n r y g a b c w v (ix2 0 h) = ∑ q, n' q * d q := by
  unfold k0_pay36
  generalize k0_pay34 (F := Ideal) r y g a b c w v = z at hd ⊢
  pointwise
  simp only [hd, hn]

theorem pay37_apply (s : FVec Ideal S1x1x1024 .f32) (d : Row) (q : Fin 256) (h : Fin 1024)
    (hd : ∀ k, k0_pay34 (F := Ideal) r y g a b c w v (ix2 q k) = d k) :
    k0_pay37 (F := Ideal) (k0_pay13 s) r y g a b c w v (ix2 q h) = d h * (1 + s (ix3 0 0 h)) := by
  unfold k0_pay37
  generalize k0_pay34 (F := Ideal) r y g a b c w v = z at hd ⊢
  pointwise [k0_pay13]
  simp only [hd]

theorem pay38_apply (x : FVec Ideal S1x256x1024 .f32) (s : FVec Ideal S1x1024 .f32) (d : Fin 256 → EReal) (h : Fin 1024)
    (hd : ∀ q, k0_pay37 (F := Ideal) s r y g a b c w v (ix2 q h) = d q) :
    k0_pay38 (F := Ideal) (k0_pay11 x) s r y g a b c w v (ix2 0 h) = ∑ q, x (ix3 0 q h) * Ideal.rsqrt (ms fun k => x (ix3 0 q k)) * d q := by
  unfold k0_pay38
  generalize k0_pay37 (F := Ideal) s r y g a b c w v = z at hd ⊢
  pointwise [k0_pay11, k0_pay9, k0_pay8, k0_pay6]
  simp only [hd]
  rfl

theorem pay40_apply (x : FVec Ideal S1x256x1024 .f32) (o : FVec Ideal S256x1024 .f32) (s g3 : FVec Ideal S1x1024 .f32) (d o' : Row) (q : Fin 256) (h : Fin 1024)
    (hd : ∀ k, k0_pay37 (F := Ideal) s r y g a b c w v (ix2 q k) = d k) (ho : ∀ k, o (ix2 q k) = o' k) :
    k0_pay40 (F := Ideal) (k0_pay6 x) (k0_pay9 x) (k0_pay10 x) o (k0_pay39 g3 s r y g a b c w v) (ix3 0 q h)
      = o' h + back (fun k => x (ix3 0 q k)) (fun k => d k * g3 (ix2 0 k)) h := by
  unfold k0_pay40 k0_pay39
  generalize k0_pay37 (F := Ideal) s r y g a b c w v = z at hd ⊢
  pointwise [k0_pay10, k0_pay9, k0_pay8, k0_pay6]
  simp only [Fin.sum_univ_one, hd, ho]
  rfl
end

/-! ## What a point computes -/

/-- What a point reads: the stream's rows, the target's, the modulation, the two norms' weights and the two matrices. -/
structure Blk where
  X : FVec Ideal S1x256x1024 .f32
  T : FVec Ideal S1x256x1024 .f32
  M : FVec Ideal S1x3x1024 .f32
  G3 : FVec Ideal S1x1024 .f32
  G4 : FVec Ideal S1x1024 .f32
  W1 : FVec Ideal S1024x4096 .bf16
  W2 : FVec Ideal S4096x1024 .bf16

namespace Blk
variable (b : Blk)

/-- The row `q` of the point with all it needs. -/
def at' (q : Fin 256) : In where
  x k := b.X (ix3 0 q k)
  t k := b.T (ix3 0 q k)
  sh k := b.M (ix3 0 0 k)
  sc k := b.M (ix3 0 1 k)
  gt k := b.M (ix3 0 2 k)
  g3 k := b.G3 (ix2 0 k)
  g4 k := b.G4 (ix2 0 k)
  w1 k f := b.W1 (ix2 k f)
  w2 f h := b.W2 (ix2 f h)

/-- The modulation's rows. -/
def sh : FVec Ideal S1x1x1024 .f32 := View.ld (Val := Elt Ideal) (e' := .f32) b.M (Rect.unit ![0, 0, 0] ![1, 1, 1024] inb_S1x3x1024_S1x1x1024_0_0_0)
def sc : FVec Ideal S1x1x1024 .f32 := View.ld (Val := Elt Ideal) (e' := .f32) b.M (Rect.unit ![0, 1, 0] ![1, 1, 1024] inb_S1x3x1024_S1x1x1024_0_1_0)
def gt : FVec Ideal S1x1x1024 .f32 := View.ld (Val := Elt Ideal) (e' := .f32) b.M (Rect.unit ![0, 2, 0] ![1, 1, 1024] inb_S1x3x1024_S1x1x1024_0_2_0)

theorem sh_apply (k : Fin 1024) : b.sh (ix3 0 0 k) = b.M (ix3 0 0 k) := by pointwise [sh]
theorem sc_apply (k : Fin 1024) : b.sc (ix3 0 0 k) = b.M (ix3 0 1 k) := by pointwise [sc]
theorem gt_apply (k : Fin 1024) : b.gt (ix3 0 0 k) = b.M (ix3 0 2 k) := by pointwise [gt]

/-- The point's hidden rows before the rectification. -/
def u : FVec Ideal S256x4096 .f32 := k0_pay15 (F := Ideal) b.X b.sh b.sc b.G3 b.W1

theorem h2_apply (q : Fin 256) (h : Fin 1024) : k0_pay14 (F := Ideal) b.X b.sh b.sc b.G3 (ix2 q h) = (b.at' q).h2 h := by
  rw [pay14_apply]
  simp only [sh_apply, sc_apply]
  rfl

theorem r_apply (q : Fin 256) (f : Fin 4096) : k0_pay17 (F := Ideal) b.u (k0_pay16 (F := Ideal)) (ix2 q f) = (b.at' q).r f :=
  pay17_apply _ _ _ _ _ _ q f fun k => b.h2_apply q k

theorem y_apply (q : Fin 256) (h : Fin 1024) : k0_pay19 (F := Ideal) b.u (k0_pay16 (F := Ideal)) b.W2 (ix2 q h) = (b.at' q).y h :=
  pay19_apply _ _ _ _ q h fun f => b.r_apply q f

theorem e_apply (q : Fin 256) (h : Fin 1024) :
    k0_pay25 (F := Ideal) (k0_pay6 b.X) (k0_pay7 b.gt) b.u (k0_pay16 (F := Ideal)) b.W2 b.G4 b.T (ix2 q h) = (b.at' q).e h := by
  rw [pay25_apply _ _ _ _ _ _ _ (b.at' q).y q h fun k => b.y_apply q k]
  simp only [gt_apply]
  rfl

/-- The loss's cotangent of the point's rows, and the same times the gate. -/
def ctt : FVec Ideal S256x1024 .f32 := k0_pay27 (F := Ideal) (k0_pay6 b.X) (k0_pay7 b.gt) b.u (k0_pay16 (F := Ideal)) b.W2 b.G4 b.T
def gct : FVec Ideal S256x1024 .f32 := k0_pay28 (F := Ideal) (k0_pay6 b.X) (k0_pay7 b.gt) b.u (k0_pay16 (F := Ideal)) b.W2 b.G4 b.T

theorem c_apply (q : Fin 256) (h : Fin 1024) : b.ctt (ix2 q h) = (b.at' q).c h :=
  pay27_apply _ _ _ _ _ _ _ _ q h fun k => b.e_apply q k

theorem gc_apply (q : Fin 256) (h : Fin 1024) : b.gct (ix2 q h) = (b.at' q).gc h := by
  refine (pay28_apply _ _ _ _ _ _ _ _ q h fun k => b.c_apply q k).trans ?_
  rw [gt_apply]
  rfl

theorem dy_apply (q : Fin 256) (h : Fin 1024) :
    k0_pay32 (F := Ideal) (k0_pay19 b.u (k0_pay16 (F := Ideal)) b.W2) b.G4 (k0_pay21 b.u (k0_pay16 (F := Ideal)) b.W2) (k0_pay22 b.u (k0_pay16 (F := Ideal)) b.W2) b.gct (ix2 q h) = (b.at' q).dy h :=
  pay32_apply _ _ _ _ _ _ _ q h (fun k => b.y_apply q k) fun k => b.gc_apply q k

theorem dp_apply (q : Fin 256) (f : Fin 4096) :
    k0_pay33 (F := Ideal) (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2) b.gct b.W2 (ix2 q f)
      = (b.at' q).dp f :=
  pay33_apply _ _ _ _ _ _ _ _ _ q f (fun f => b.r_apply q f) fun k => b.dy_apply q k

theorem dh_apply (q : Fin 256) (h : Fin 1024) :
    k0_pay34 (F := Ideal) (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2) b.gct b.W2 b.W1 (ix2 q h)
      = (b.at' q).dh h :=
  pay34_apply _ _ _ _ _ _ _ _ _ q h fun f => b.dp_apply q f

theorem dn_apply (q : Fin 256) (h : Fin 1024) :
    k0_pay37 (F := Ideal) (k0_pay13 b.sc) (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2) b.gct b.W2 b.W1
      (ix2 q h) = (b.at' q).dn h := by
  refine (pay37_apply _ _ _ _ _ _ _ _ _ _ q h fun k => b.dh_apply q k).trans ?_
  rw [sc_apply]
  rfl

/-- The point's rows of the stream's gradient. -/
def dxt : FVec Ideal S1x256x1024 .f32 :=
  k0_pay40 (F := Ideal) (k0_pay6 b.X) (k0_pay9 b.X) (k0_pay10 b.X) b.ctt (k0_pay39 b.G3 (k0_pay13 b.sc) (k0_pay17 b.u (k0_pay16 (F := Ideal))) (k0_pay19 b.u (k0_pay16 (F := Ideal)) b.W2) b.G4
    (k0_pay21 b.u (k0_pay16 (F := Ideal)) b.W2) (k0_pay22 b.u (k0_pay16 (F := Ideal)) b.W2) b.gct b.W2 b.W1)
/-- The point's part of the loss, laid over a tile. -/
def losst : FVec Ideal S1x1x8x128 .f32 := k0_pay41 (F := Ideal) (k0_pay26 (k0_pay6 b.X) (k0_pay7 b.gt) b.u (k0_pay16 (F := Ideal)) b.W2 b.G4 b.T)
/-- The layer's input rows, the gradient of the hidden rows, the squared rows and the gradient of the layer's output. -/
def ht : FVec Ideal S1x256x1024 .bf16 := k0_pay42 (F := Ideal) (k0_pay14 b.X b.sh b.sc b.G3)
def dpt : FVec Ideal S1x256x4096 .bf16 :=
  k0_pay43 (F := Ideal) (k0_pay33 (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2) b.gct b.W2)
def actt : FVec Ideal S1x256x4096 .bf16 := k0_pay44 (F := Ideal) (k0_pay18 b.u (k0_pay16 (F := Ideal)))
def dyt : FVec Ideal S1x256x1024 .bf16 :=
  k0_pay1 (F := Ideal) (k0_pay32 (k0_pay19 b.u (k0_pay16 (F := Ideal)) b.W2) b.G4 (k0_pay21 b.u (k0_pay16 (F := Ideal)) b.W2) (k0_pay22 b.u (k0_pay16 (F := Ideal)) b.W2) b.gct)
/-- The point's parts of the gradients of the modulation and of the two norms' weights. -/
def dgtt : FVec Ideal S1x1024 .f32 := k0_pay30 (F := Ideal) (k0_pay29 (k0_pay6 b.X) (k0_pay7 b.gt) b.u (k0_pay16 (F := Ideal)) b.W2 b.G4 b.T)
def dsht : FVec Ideal S1x1024 .f32 :=
  k0_pay35 (F := Ideal) (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2) b.gct b.W2 b.W1
def dsct : FVec Ideal S1x1024 .f32 :=
  k0_pay36 (F := Ideal) (k0_pay12 b.X b.G3) (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2) b.gct b.W2 b.W1
def dg3t : FVec Ideal S1x1024 .f32 :=
  k0_pay38 (F := Ideal) (k0_pay11 b.X) (k0_pay13 b.sc) (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2)
    b.gct b.W2 b.W1
def dg4t : FVec Ideal S1x1024 .f32 := k0_pay31 (F := Ideal) (k0_pay23 b.u (k0_pay16 (F := Ideal)) b.W2) b.gct
def dmt : FVec Ideal S1x3x1024 .f32 := k0_pay2 (F := Ideal) b.dgtt b.dsht b.dsct

theorem dxt_apply (q : Fin 256) (h : Fin 1024) : b.dxt (ix3 0 q h) = (b.at' q).dx h :=
  pay40_apply _ _ _ _ _ _ _ _ _ _ _ _ _ _ q h (fun k => b.dn_apply q k) fun k => b.c_apply q k

theorem losst_apply (i : Fin 8) (l : Fin 128) :
    b.losst (ix4 0 0 i l) = Ideal.ofBits FTy.f32 1056964608#32 * ∑ q, lossRow (b.at' q).e := by
  have e := pay26_apply _ _ _ _ _ _ _ (fun q => (b.at' q).e) fun q k => b.e_apply q k
  unfold losst
  rw [e]
  generalize Ideal.ofBits FTy.f32 1056964608#32 * ∑ q, lossRow (b.at' q).e = z
  pointwise [k0_pay41]

theorem ht_apply (q : Fin 256) (h : Fin 1024) : b.ht (ix3 0 q h) = (b.at' q).h2 h := by
  have e := b.h2_apply q h
  unfold ht
  generalize k0_pay14 (F := Ideal) b.X b.sh b.sc b.G3 = z at e ⊢
  pointwise [k0_pay42]
  exact e

theorem dpt_apply (q : Fin 256) (f : Fin 4096) : b.dpt (ix3 0 q f) = (b.at' q).dp f := by
  have e := b.dp_apply q f
  unfold dpt
  generalize k0_pay33 (F := Ideal) (k0_pay17 b.u (k0_pay16 (F := Ideal))) (k0_pay19 b.u (k0_pay16 (F := Ideal)) b.W2) b.G4 (k0_pay21 b.u (k0_pay16 (F := Ideal)) b.W2) (k0_pay22 b.u (k0_pay16 (F := Ideal)) b.W2) b.gct b.W2 = z at e ⊢
  pointwise [k0_pay43]
  exact e

theorem actt_apply (q : Fin 256) (f : Fin 4096) : b.actt (ix3 0 q f) = (b.at' q).r f * (b.at' q).r f := by
  have e := b.r_apply q f
  unfold actt k0_pay18
  generalize k0_pay17 (F := Ideal) b.u (k0_pay16 (F := Ideal)) = z at e ⊢
  pointwise [k0_pay44]
  rw [e]

theorem dyt_apply (q : Fin 256) (h : Fin 1024) : b.dyt (ix3 0 q h) = (b.at' q).dy h := by
  have e := b.dy_apply q h
  unfold dyt
  generalize k0_pay32 (F := Ideal) (k0_pay19 b.u (k0_pay16 (F := Ideal)) b.W2) b.G4 (k0_pay21 b.u (k0_pay16 (F := Ideal)) b.W2) (k0_pay22 b.u (k0_pay16 (F := Ideal)) b.W2) b.gct = z at e ⊢
  pointwise [k0_pay1]
  exact e

theorem dgtt_apply (h : Fin 1024) : b.dgtt (ix2 0 h) = ∑ q, (b.at' q).c h * nrm (b.at' q).y (b.at' q).g4 h :=
  pay30_apply _ _ h fun q => pay29_apply _ _ _ _ _ _ _ _ _ q h (fun k => b.c_apply q k) fun k => pay24_apply _ _ _ _ _ q k fun k => b.y_apply q k

theorem dsht_apply (h : Fin 1024) : b.dsht (ix2 0 h) = ∑ q, (b.at' q).dh h :=
  pay35_apply _ _ _ _ _ _ _ _ _ h fun q => b.dh_apply q h

theorem dsct_apply (h : Fin 1024) : b.dsct (ix2 0 h) = ∑ q, nrm (b.at' q).x (b.at' q).g3 h * (b.at' q).dh h :=
  pay36_apply _ _ _ _ _ _ _ _ _ _ _ h (fun q => pay12_apply _ _ q h) fun q => b.dh_apply q h

theorem dg3t_apply (h : Fin 1024) : b.dg3t (ix2 0 h) = ∑ q, (b.at' q).x h * Ideal.rsqrt (ms (b.at' q).x) * (b.at' q).dn h :=
  pay38_apply _ _ _ _ _ _ _ _ _ _ _ h fun q => b.dn_apply q h

theorem dg4t_apply (h : Fin 1024) : b.dg4t (ix2 0 h) = ∑ q, (b.at' q).y h * Ideal.rsqrt (ms (b.at' q).y) * (b.at' q).gc h :=
  pay31_apply _ _ _ _ h (fun q => pay23_apply _ _ _ _ q h fun k => b.y_apply q k) fun q => b.gc_apply q h

theorem dmt_apply (j : Fin 3) (h : Fin 1024) : b.dmt (ix3 0 j h) = if j.val < 1 then b.dsht (ix2 0 h) else if j.val < 2 then b.dsct (ix2 0 h) else b.dgtt (ix2 0 h) := by
  unfold dmt
  generalize b.dgtt = g
  generalize b.dsht = s
  generalize b.dsct = t
  pointwise [k0_pay2]
  obtain ⟨j, hj⟩ := j
  interval_cases j <;> rfl
end Blk

end Cert.Mlp
-- ==== Proof.MlpOut.lean ====
module

public import proofs.«01_k».proof.Proof.Gen.Kernel3Ideal.Value
public import proofs.«01_k».proof.Proof.MlpTile
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mlp
open Cert.Kernel3Ideal Cert.Kernel3Ideal.Gen Cert.NormRow Cert.MlpRow

variable (m : (ℓ : Loc nD τ sig) → Buf (Elt Ideal) ℓ)

/-- What the point `t` reads. -/
def blk (c : Dev nD) (t : Fin cfg0.N) : Blk :=
  ⟨iblk m c 0 t, iblk m c 1 t, iblk m c 2 t, iblk m c 3 t, iblk m c 4 t, iblk m c 5 t, iblk m c 6 t⟩

theorem cases (t : Fin cfg0.N) : (t.val % 8 = 0 ∧ t.val % 32 = 0) ∨ (¬t.val % 8 = 0 ∧ ¬t.val % 32 = 0) ∨ (t.val % 8 = 0 ∧ ¬t.val % 32 = 0) := by
  omega

set_option maxHeartbeats 2000000 in
theorem out7 (c : Dev nD) (t : Fin cfg0.N) : (outsAt0 m c t.val t.isLt).1 = (blk m c t).dxt := by
  have ht : t.val < 32 := t.isLt
  rcases cases t with ⟨h0, h1⟩ | ⟨h0, h1⟩ | ⟨h0, h1⟩
  · rw [outsAt0_A m c t h0 (by omega) h1 (by omega) h1 (by omega)]; frame_out; rfl
  · rw [outsAt0_B m c t h0 (by omega) h1 (by omega) h1 (by omega)]; frame_out; rfl
  · rw [outsAt0_C m c t h0 (by omega) h1 (by omega) h1 (by omega)]; frame_out; rfl

set_option maxHeartbeats 2000000 in
theorem out8 (c : Dev nD) (t : Fin cfg0.N) : (outsAt0 m c t.val t.isLt).2.1 = (blk m c t).losst := by
  have ht : t.val < 32 := t.isLt
  rcases cases t with ⟨h0, h1⟩ | ⟨h0, h1⟩ | ⟨h0, h1⟩
  · rw [outsAt0_A m c t h0 (by omega) h1 (by omega) h1 (by omega)]; frame_out; rfl
  · rw [outsAt0_B m c t h0 (by omega) h1 (by omega) h1 (by omega)]; frame_out; rfl
  · rw [outsAt0_C m c t h0 (by omega) h1 (by omega) h1 (by omega)]; frame_out; rfl

set_option maxHeartbeats 2000000 in
theorem out9 (c : Dev nD) (t : Fin cfg0.N) : (outsAt0 m c t.val t.isLt).2.2.1 = (blk m c t).ht := by
  have ht : t.val < 32 := t.isLt
  rcases cases t with ⟨h0, h1⟩ | ⟨h0, h1⟩ | ⟨h0, h1⟩
  · rw [outsAt0_A m c t h0 (by omega) h1 (by omega) h1 (by omega)]; frame_out; rfl
  · rw [outsAt0_B m c t h0 (by omega) h1 (by omega) h1 (by omega)]; frame_out; rfl
  · rw [outsAt0_C m c t h0 (by omega) h1 (by omega) h1 (by omega)]; frame_out; rfl

set_option maxHeartbeats 2000000 in
theorem out10 (c : Dev nD) (t : Fin cfg0.N) : (outsAt0 m c t.val t.isLt).2.2.2.1 = (blk m c t).dpt := by
  have ht : t.val < 32 := t.isLt
  rcases cases t with ⟨h0, h1⟩ | ⟨h0, h1⟩ | ⟨h0, h1⟩
  · rw [outsAt0_A m c t h0 (by omega) h1 (by omega) h1 (by omega)]; frame_out; rfl
  · rw [outsAt0_B m c t h0 (by omega) h1 (by omega) h1 (by omega)]; frame_out; rfl
  · rw [outsAt0_C m c t h0 (by omega) h1 (by omega) h1 (by omega)]; frame_out; rfl

set_option maxHeartbeats 2000000 in
theorem out11 (c : Dev nD) (t : Fin cfg0.N) : (outsAt0 m c t.val t.isLt).2.2.2.2.1 = (blk m c t).actt := by
  have ht : t.val < 32 := t.isLt
  rcases cases t with ⟨h0, h1⟩ | ⟨h0, h1⟩ | ⟨h0, h1⟩
  · rw [outsAt0_A m c t h0 (by omega) h1 (by omega) h1 (by omega)]; frame_out; rfl
  · rw [outsAt0_B m c t h0 (by omega) h1 (by omega) h1 (by omega)]; frame_out; rfl
  · rw [outsAt0_C m c t h0 (by omega) h1 (by omega) h1 (by omega)]; frame_out; rfl

set_option maxHeartbeats 2000000 in
theorem out12 (c : Dev nD) (t : Fin cfg0.N) : (outsAt0 m c t.val t.isLt).2.2.2.2.2.1 = (blk m c t).dyt := by
  have ht : t.val < 32 := t.isLt
  rcases cases t with ⟨h0, h1⟩ | ⟨h0, h1⟩ | ⟨h0, h1⟩
  · rw [outsAt0_A m c t h0 (by omega) h1 (by omega) h1 (by omega)]; frame_out; rfl
  · rw [outsAt0_B m c t h0 (by omega) h1 (by omega) h1 (by omega)]; frame_out; rfl
  · rw [outsAt0_C m c t h0 (by omega) h1 (by omega) h1 (by omega)]; frame_out; rfl

set_option maxHeartbeats 2000000 in
theorem out13_first (c : Dev nD) (t : Fin cfg0.N) (h : t.val % 8 = 0) : (outsAt0 m c t.val t.isLt).2.2.2.2.2.2.1 = (blk m c t).dmt := by
  have ht : t.val < 32 := t.isLt
  rcases cases t with ⟨h0, h1⟩ | ⟨h0, h1⟩ | ⟨h0, h1⟩
  · rw [outsAt0_A m c t h0 (by omega) h1 (by omega) h1 (by omega)]; frame_out; rfl
  · exact absurd h h0
  · rw [outsAt0_C m c t h0 (by omega) h1 (by omega) h1 (by omega)]; frame_out; rfl

set_option maxHeartbeats 2000000 in
theorem out13_later (c : Dev nD) (t : Fin cfg0.N) (h : ¬t.val % 8 = 0) : (outsAt0 m c t.val t.isLt).2.2.2.2.2.2.1
    = k0_pay3 (F := Ideal) (blk m c t).dgtt (blk m c t).dsht (blk m c t).dsct (outsAt0 m c (t.val - 1) (Nat.lt_of_le_of_lt (Nat.sub_le _ _) t.isLt)).2.2.2.2.2.2.1 := by
  have ht : t.val < 32 := t.isLt
  rw [outsAt0_B m c t h (by omega) (by omega) (by omega) (by omega) (by omega)]; frame_out; rfl

set_option maxHeartbeats 2000000 in
theorem out14_first (c : Dev nD) (t : Fin cfg0.N) (h : t.val % 32 = 0) : (outsAt0 m c t.val t.isLt).2.2.2.2.2.2.2.1 = (blk m c t).dg3t := by
  have ht : t.val < 32 := t.isLt
  rw [outsAt0_A m c t (by omega) (by omega) h (by omega) h (by omega)]; frame_out; rfl

set_option maxHeartbeats 2000000 in
theorem out14_later (c : Dev nD) (t : Fin cfg0.N) (h : ¬t.val % 32 = 0) : (outsAt0 m c t.val t.isLt).2.2.2.2.2.2.2.1
    = k0_pay4 (F := Ideal) (blk m c t).dg3t (outsAt0 m c (t.val - 1) (Nat.lt_of_le_of_lt (Nat.sub_le _ _) t.isLt)).2.2.2.2.2.2.2.1 := by
  have ht : t.val < 32 := t.isLt
  rcases cases t with ⟨h0, h1⟩ | ⟨h0, h1⟩ | ⟨h0, h1⟩
  · exact absurd h1 h
  · rw [outsAt0_B m c t h0 (by omega) h1 (by omega) h1 (by omega)]; frame_out; rfl
  · rw [outsAt0_C m c t h0 (by omega) h1 (by omega) h1 (by omega)]; frame_out; rfl

set_option maxHeartbeats 2000000 in
theorem out15_first (c : Dev nD) (t : Fin cfg0.N) (h : t.val % 32 = 0) : (outsAt0 m c t.val t.isLt).2.2.2.2.2.2.2.2 = (blk m c t).dg4t := by
  have ht : t.val < 32 := t.isLt
  rw [outsAt0_A m c t (by omega) (by omega) h (by omega) h (by omega)]; frame_out; rfl

set_option maxHeartbeats 2000000 in
theorem out15_later (c : Dev nD) (t : Fin cfg0.N) (h : ¬t.val % 32 = 0) : (outsAt0 m c t.val t.isLt).2.2.2.2.2.2.2.2
    = k0_pay5 (F := Ideal) (blk m c t).dg4t (outsAt0 m c (t.val - 1) (Nat.lt_of_le_of_lt (Nat.sub_le _ _) t.isLt)).2.2.2.2.2.2.2.2 := by
  have ht : t.val < 32 := t.isLt
  rcases cases t with ⟨h0, h1⟩ | ⟨h0, h1⟩ | ⟨h0, h1⟩
  · exact absurd h1 h
  · rw [outsAt0_B m c t h0 (by omega) h1 (by omega) h1 (by omega)]; frame_out; rfl
  · rw [outsAt0_C m c t h0 (by omega) h1 (by omega) h1 (by omega)]; frame_out; rfl

end Cert.Mlp
-- ==== Proof.MlpFinal.lean ====
module

public import proofs.«01_k».proof.Proof.MlpOut

@[expose] public section

set_option maxRecDepth 16384

noncomputable section

open Idealize.ShloMosaic Idealize.ShloMosaic.TcCoe Idealize.SL.Sem
open Idealize.ShloMosaic.Pipeline (Dat)

namespace Cert.Mlp
open Cert.Kernel3Ideal Cert.Kernel3Ideal.Gen Cert.NormRow Cert.MlpRow

/-- The arrays of the call. -/
structure Arr where
  X : FVec Ideal S4x2048x1024 .f32
  T : FVec Ideal S4x2048x1024 .f32
  M : FVec Ideal S4x3x1024 .f32
  G3 : FVec Ideal S1x1024 .f32
  G4 : FVec Ideal S1x1024 .f32
  W1 : FVec Ideal S1024x4096 .f32
  W2 : FVec Ideal S4096x1024 .f32

namespace Arr
variable (a : Arr)

/-- Token `t` of batch row `b` with all it needs. -/
def row (b : Fin 4) (t : Fin 2048) : In where
  x k := a.X (ix3 b t k)
  t k := a.T (ix3 b t k)
  sh k := a.M (ix3 b 0 k)
  sc k := a.M (ix3 b 1 k)
  gt k := a.M (ix3 b 2 k)
  g3 k := a.G3 (ix2 0 k)
  g4 k := a.G4 (ix2 0 k)
  w1 k f := a.W1 (ix2 k f)
  w2 f h := a.W2 (ix2 f h)

/-- Token `q` of the run `j` of 256 tokens. -/
def run (b : Fin 4) (j : Fin 8) (q : Fin 256) : In := a.row b ⟨j.val * 256 + q.val, by omega⟩

/-- The results over the arrays: the stream's gradient, each run's loss laid over a tile, the layer's input, the gradient of
    the hidden rows, the squared rows, the gradient of the layer's output. -/
def o0 : FVec Ideal S4x2048x1024 .f32 := fun i => (a.row (i 0) (i 1)).dx (i 2)
def o1 : FVec Ideal S4x8x8x128 .f32 := fun i => Ideal.ofBits FTy.f32 1056964608#32 * ∑ q, lossRow (a.run (i 0) (i 1) q).e
def o2 : FVec Ideal S4x2048x1024 .bf16 := fun i => (a.row (i 0) (i 1)).h2 (i 2)
def o3 : FVec Ideal S4x2048x4096 .bf16 := fun i => (a.row (i 0) (i 1)).dp (i 2)
def o4 : FVec Ideal S4x2048x4096 .bf16 := fun i => (a.row (i 0) (i 1)).r (i 2) * (a.row (i 0) (i 1)).r (i 2)
def o5 : FVec Ideal S4x2048x1024 .bf16 := fun i => (a.row (i 0) (i 1)).dy (i 2)
/-- A run's part of the modulation's gradient. -/
def part (b : Fin 4) (j : Fin 8) (s : Fin 3) (h : Fin 1024) : EReal :=
  if s.val < 1 then ∑ q, (a.run b j q).dh h
  else if s.val < 2 then ∑ q, nrm (a.run b j q).x (a.run b j q).g3 h * (a.run b j q).dh h
  else ∑ q, (a.run b j q).c h * nrm (a.run b j q).y (a.run b j q).g4 h
/-- The modulation's gradient and those of the two norms' weights. -/
def o6 : FVec Ideal S4x3x1024 .f32 := fun i => ∑ j, a.part (i 0) j (i 1) (i 2)
def o7 : FVec Ideal S1x1024 .f32 := fun i => ∑ b, ∑ j, ∑ q, (a.run b j q).x (i 1) * Ideal.rsqrt (ms (a.run b j q).x) * (a.run b j q).dn (i 1)
def o8 : FVec Ideal S1x1024 .f32 := fun i => ∑ b, ∑ j, ∑ q, (a.run b j q).y (i 1) * Ideal.rsqrt (ms (a.run b j q).y) * (a.run b j q).gc (i 1)
end Arr

variable (m : (ℓ : Loc nD τ sig) → Buf (Elt Ideal) ℓ) (c : Dev nD) (a : Arr)

/-- The call reads the arrays `a`. -/
structure Reads : Prop where
  hX : V m c main_arg0 = a.X
  hT : V m c main_arg1 = a.T
  hM : V m c main_arg2 = a.M
  hG3 : V m c main_arg3 = a.G3
  hG4 : V m c main_arg4 = a.G4
  hW1 : V m c main_v0 = truncf .bf16 a.W1 bitsLt_bf16_f32
  hW2 : V m c main_v1 = truncf .bf16 a.W2 bitsLt_bf16_f32

theorem idx_in : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![0, 0] ∧ win0_5.index t = ![0, 0] ∧ win0_6.index t = ![0, 0] :=
  (by decide +kernel : ∀ t : Fin grid0.N, _)
theorem idx_out : ∀ t : Fin cfg0.N, win0_7.index t = ![t.val / 8, t.val % 8, 0] ∧ win0_8.index t = ![t.val / 8, t.val % 8, 0, 0]
    ∧ win0_9.index t = ![t.val / 8, t.val % 8, 0] ∧ win0_10.index t = ![t.val / 8, t.val % 8, 0] ∧ win0_11.index t = ![t.val / 8, t.val % 8, 0]
    ∧ win0_12.index t = ![t.val / 8, t.val % 8, 0] ∧ win0_13.index t = ![t.val / 8, 0, 0] ∧ win0_14.index t = ![0, 0] ∧ win0_15.index t = ![0, 0] :=
  (by decide +kernel : ∀ t : Fin grid0.N, _)

/-- The point's batch row. -/
def bt (t : Fin cfg0.N) : Fin 4 := ⟨t.val / 8, by have h : t.val < 32 := t.isLt; omega⟩
/-- The point's run of tokens. -/
def jt (t : Fin cfg0.N) : Fin 8 := ⟨t.val % 8, by omega⟩

theorem blk0 (t : Fin cfg0.N) (q : Fin 256) (k : Fin 1024) : iblk m c 0 t (ix3 0 q k) = V m c main_arg0 (ix3 (bt t) ⟨(jt t).val * 256 + q.val, by have := (jt t).isLt; omega⟩ k) := by
  obtain ⟨h0, h1, h2, h3, h4, h5, h6⟩ := idx_in t
  have e1 : (bt t).val = t.val / 8 := rfl
  have e2 : (jt t).val = t.val % 8 := rfl
  blk_point [iblk, h0]
  all_goals omega
theorem blk1 (t : Fin cfg0.N) (q : Fin 256) (k : Fin 1024) : iblk m c 1 t (ix3 0 q k) = V m c main_arg1 (ix3 (bt t) ⟨(jt t).val * 256 + q.val, by have := (jt t).isLt; omega⟩ k) := by
  obtain ⟨h0, h1, h2, h3, h4, h5, h6⟩ := idx_in t
  have e1 : (bt t).val = t.val / 8 := rfl
  have e2 : (jt t).val = t.val % 8 := rfl
  blk_point [iblk, h1]
  all_goals omega
theorem blk2 (t : Fin cfg0.N) (s : Fin 3) (k : Fin 1024) : iblk m c 2 t (ix3 0 s k) = V m c main_arg2 (ix3 (bt t) s k) := by
  obtain ⟨h0, h1, h2, h3, h4, h5, h6⟩ := idx_in t
  have e1 : (bt t).val = t.val / 8 := rfl
  blk_point [iblk, h2]
  all_goals omega
theorem blk3 (t : Fin cfg0.N) : iblk m c 3 t = V m c main_arg3 := by
  obtain ⟨h0, h1, h2, h3, h4, h5, h6⟩ := idx_in t
  funext j; blk_point [iblk, h3]
theorem blk4 (t : Fin cfg0.N) : iblk m c 4 t = V m c main_arg4 := by
  obtain ⟨h0, h1, h2, h3, h4, h5, h6⟩ := idx_in t
  funext j; blk_point [iblk, h4]
theorem blk5 (t : Fin cfg0.N) : iblk m c 5 t = V m c main_v0 := by
  obtain ⟨h0, h1, h2, h3, h4, h5, h6⟩ := idx_in t
  funext j; blk_point [iblk, h5]
theorem blk6 (t : Fin cfg0.N) : iblk m c 6 t = V m c main_v1 := by
  obtain ⟨h0, h1, h2, h3, h4, h5, h6⟩ := idx_in t
  funext j; blk_point [iblk, h6]

/-- The point's row `q` is the token of its run. -/
theorem at_run (R : Reads m c a) (t : Fin cfg0.N) (q : Fin 256) : (blk m c t).at' q = a.run (bt t) (jt t) q := by
  refine In.ext (funext fun k => ?_) (funext fun k => ?_) (funext fun k => ?_) (funext fun k => ?_) (funext fun k => ?_) (funext fun k => ?_)
    (funext fun k => ?_) (funext fun k => funext fun f => ?_) (funext fun k => funext fun f => ?_)
  · exact (blk0 m c t q k).trans (congrFun R.hX _)
  · exact (blk1 m c t q k).trans (congrFun R.hT _)
  · exact (blk2 m c t 0 k).trans (congrFun R.hM _)
  · exact (blk2 m c t 1 k).trans (congrFun R.hM _)
  · exact (blk2 m c t 2 k).trans (congrFun R.hM _)
  · exact congrFun ((blk3 m c t).trans R.hG3) _
  · exact congrFun ((blk4 m c t).trans R.hG4) _
  · exact congrFun ((blk5 m c t).trans R.hW1) _
  · exact congrFun ((blk6 m c t).trans R.hW2) _

/-- A block's index of three axes, the first of extent one. -/
theorem ix3_of {n1 n2 : ℕ} (y : (⟨3, ![1, n1, n2]⟩ : Shape).Idx) : y = ix3 0 (y 1) (y 2) := by
  funext a
  match a with
  | ⟨0, _⟩ => exact Fin.ext (Nat.lt_one_iff.1 (y 0).isLt)
  | ⟨1, _⟩ => rfl
  | ⟨2, _⟩ => rfl
/-- A block's index of four axes, the first two of extent one. -/
theorem ix4_of {n2 n3 : ℕ} (y : (⟨4, ![1, 1, n2, n3]⟩ : Shape).Idx) : y = ix4 0 0 (y 2) (y 3) := by
  funext a
  match a with
  | ⟨0, _⟩ => exact Fin.ext (Nat.lt_one_iff.1 (y 0).isLt)
  | ⟨1, _⟩ => exact Fin.ext (Nat.lt_one_iff.1 (y 1).isLt)
  | ⟨2, _⟩ => rfl
  | ⟨3, _⟩ => rfl
/-- A row's index. -/
theorem ix2_of {n : ℕ} (y : (⟨2, ![1, n]⟩ : Shape).Idx) : y = ix2 0 (y 1) := by
  funext a
  match a with
  | ⟨0, _⟩ => exact Fin.ext (Nat.lt_one_iff.1 (y 0).isLt)
  | ⟨1, _⟩ => rfl

/-- A sum over the batch rows and their runs, in the grid's order. -/
theorem sum_runs (f : Fin 4 → Fin 8 → EReal) : ∑ b, ∑ j, f b j = ∑ s : Fin 32, f ⟨s.val / 8, by omega⟩ ⟨s.val % 8, by omega⟩ := by
  rw [← (finProdFinEquiv (m := 4) (n := 8)).sum_comp (fun s : Fin 32 => f ⟨s.val / 8, by omega⟩ ⟨s.val % 8, by omega⟩), Fintype.sum_prod_type]
  refine Finset.sum_congr rfl fun b _ => Finset.sum_congr rfl fun j _ => congrArg₂ f (Fin.ext ?_) (Fin.ext ?_)
  · show b.val = (j.val + 8 * b.val) / 8
    omega
  · show j.val = (j.val + 8 * b.val) % 8
    omega

/-- The array's row an element of a point's block belongs to. -/
theorem run_eq (t : Fin cfg0.N) (q : Fin 256) (b : Fin 4) (r : Fin 2048) (e0 : b.val = t.val / 8) (e1 : r.val = t.val % 8 * 256 + q.val) :
    a.run (bt t) (jt t) q = a.row b r := by
  have hb : b = bt t := Fin.ext e0
  have hr : r = ⟨(jt t).val * 256 + q.val, by have := (jt t).isLt; omega⟩ := Fin.ext e1
  rw [hb, hr]; rfl

theorem tile7 (R : Reads m c a) (t : Fin cfg0.N) (y : S1x256x1024.Idx) (i : S4x2048x1024.Idx)
    (e0 : (i 0).val = t.val / 8) (e1 : (i 1).val = t.val % 8 * 256 + (y 1).val) (e2 : (i 2).val = (y 2).val) : (blk m c t).dxt y = a.o0 i := by
  obtain ⟨q, h, rfl⟩ : ∃ (q : Fin 256) (h : Fin 1024), y = ix3 0 q h := ⟨y 1, y 2, ix3_of y⟩
  have hh : i 2 = h := Fin.ext e2
  rw [Blk.dxt_apply, at_run m c a R, run_eq a t q (i 0) (i 1) e0 e1, ← hh]
  rfl

theorem tile9 (R : Reads m c a) (t : Fin cfg0.N) (y : S1x256x1024.Idx) (i : S4x2048x1024.Idx)
    (e0 : (i 0).val = t.val / 8) (e1 : (i 1).val = t.val % 8 * 256 + (y 1).val) (e2 : (i 2).val = (y 2).val) : (blk m c t).ht y = a.o2 i := by
  obtain ⟨q, h, rfl⟩ : ∃ (q : Fin 256) (h : Fin 1024), y = ix3 0 q h := ⟨y 1, y 2, ix3_of y⟩
  have hh : i 2 = h := Fin.ext e2
  rw [Blk.ht_apply, at_run m c a R, run_eq a t q (i 0) (i 1) e0 e1, ← hh]
  rfl

theorem tile10 (R : Reads m c a) (t : Fin cfg0.N) (y : S1x256x4096.Idx) (i : S4x2048x4096.Idx)
    (e0 : (i 0).val = t.val / 8) (e1 : (i 1).val = t.val % 8 * 256 + (y 1).val) (e2 : (i 2).val = (y 2).val) : (blk m c t).dpt y = a.o3 i := by
  obtain ⟨q, h, rfl⟩ : ∃ (q : Fin 256) (h : Fin 4096), y = ix3 0 q h := ⟨y 1, y 2, ix3_of y⟩
  have hh : i 2 = h := Fin.ext e2
  rw [Blk.dpt_apply, at_run m c a R, run_eq a t q (i 0) (i 1) e0 e1, ← hh]
  rfl

theorem tile11 (R : Reads m c a) (t : Fin cfg0.N) (y : S1x256x4096.Idx) (i : S4x2048x4096.Idx)
    (e0 : (i 0).val = t.val / 8) (e1 : (i 1).val = t.val % 8 * 256 + (y 1).val) (e2 : (i 2).val = (y 2).val) : (blk m c t).actt y = a.o4 i := by
  obtain ⟨q, h, rfl⟩ : ∃ (q : Fin 256) (h : Fin 4096), y = ix3 0 q h := ⟨y 1, y 2, ix3_of y⟩
  have hh : i 2 = h := Fin.ext e2
  rw [Blk.actt_apply, at_run m c a R, run_eq a t q (i 0) (i 1) e0 e1, ← hh]
  rfl

theorem tile12 (R : Reads m c a) (t : Fin cfg0.N) (y : S1x256x1024.Idx) (i : S4x2048x1024.Idx)
    (e0 : (i 0).val = t.val / 8) (e1 : (i 1).val = t.val % 8 * 256 + (y 1).val) (e2 : (i 2).val = (y 2).val) : (blk m c t).dyt y = a.o5 i := by
  obtain ⟨q, h, rfl⟩ : ∃ (q : Fin 256) (h : Fin 1024), y = ix3 0 q h := ⟨y 1, y 2, ix3_of y⟩
  have hh : i 2 = h := Fin.ext e2
  rw [Blk.dyt_apply, at_run m c a R, run_eq a t q (i 0) (i 1) e0 e1, ← hh]
  rfl

theorem tile8 (R : Reads m c a) (t : Fin cfg0.N) (y : S1x1x8x128.Idx) (i : S4x8x8x128.Idx)
    (e0 : (i 0).val = t.val / 8) (e1 : (i 1).val = t.val % 8) : (blk m c t).losst y = a.o1 i := by
  obtain ⟨q, h, rfl⟩ : ∃ (q : Fin 8) (h : Fin 128), y = ix4 0 0 q h := ⟨y 2, y 3, ix4_of y⟩
  have hb : i 0 = bt t := Fin.ext e0
  have hj : i 1 = jt t := Fin.ext e1
  unfold Arr.o1
  rw [Blk.losst_apply, hb, hj]
  simp only [at_run m c a R]

theorem dm_row (R : Reads m c a) (t : Fin cfg0.N) (s : Fin 3) (h : Fin 1024) : (blk m c t).dmt (ix3 0 s h) = a.part (bt t) (jt t) s h := by
  rw [Blk.dmt_apply, Blk.dsht_apply, Blk.dsct_apply, Blk.dgtt_apply]
  simp only [at_run m c a R]
  rfl

theorem tile13 (R : Reads m c a) (y : S1x3x1024.Idx) (i : S4x3x1024.Idx) (t : ℕ) (hN : t < 32) (ht : ∀ s : Fin 8, 8 * (t / 8) + s.val < cfg0.N)
    (e0 : (i 0).val = t / 8) (e1 : (i 1).val = (y 1).val) (e2 : (i 2).val = (y 2).val) :
    ∑ s : Fin 8, (blk m c ⟨8 * (t / 8) + s.val, ht s⟩).dmt y = a.o6 i := by
  obtain ⟨q, h, rfl⟩ : ∃ (q : Fin 3) (h : Fin 1024), y = ix3 0 q h := ⟨y 1, y 2, ix3_of y⟩
  have hq : i 1 = q := Fin.ext e1
  have hh : i 2 = h := Fin.ext e2
  unfold Arr.o6
  rw [hq, hh]
  refine Finset.sum_congr rfl fun s _ => ?_
  refine (dm_row m c a R _ q h).trans ?_
  refine congrArg₂ (fun b j => a.part b j q h) (Fin.ext ?_) (Fin.ext ?_)
  · rw [e0]
    show (8 * (t / 8) + s.val) / 8 = t / 8
    omega
  · show (8 * (t / 8) + s.val) % 8 = s.val
    omega

theorem tile14 (R : Reads m c a) (y i : S1x1024.Idx) (e1 : (i 1).val = (y 1).val) (t : ℕ) (ht : ∀ s : Fin 32, 32 * (t / 32) + s.val < cfg0.N) :
    ∑ s : Fin 32, (blk m c ⟨32 * (t / 32) + s.val, ht s⟩).dg3t y = a.o7 i := by
  obtain ⟨k, rfl⟩ : ∃ k : Fin 1024, y = ix2 0 k := ⟨y 1, ix2_of y⟩
  have hk : i 1 = k := Fin.ext e1
  unfold Arr.o7
  rw [hk, sum_runs]
  refine Finset.sum_congr rfl fun s _ => ?_
  rw [Blk.dg3t_apply]
  simp only [at_run m c a R]
  have h := ht s
  have h' : cfg0.N = 32 := rfl
  have hb : bt ⟨32 * (t / 32) + s.val, ht s⟩ = ⟨s.val / 8, by omega⟩ := Fin.ext (by show (32 * (t / 32) + s.val) / 8 = s.val / 8; omega)
  have hj : jt ⟨32 * (t / 32) + s.val, ht s⟩ = ⟨s.val % 8, by omega⟩ := Fin.ext (by show (32 * (t / 32) + s.val) % 8 = s.val % 8; omega)
  rw [hb, hj]

theorem tile15 (R : Reads m c a) (y i : S1x1024.Idx) (e1 : (i 1).val = (y 1).val) (t : ℕ) (ht : ∀ s : Fin 32, 32 * (t / 32) + s.val < cfg0.N) :
    ∑ s : Fin 32, (blk m c ⟨32 * (t / 32) + s.val, ht s⟩).dg4t y = a.o8 i := by
  obtain ⟨k, rfl⟩ : ∃ k : Fin 1024, y = ix2 0 k := ⟨y 1, ix2_of y⟩
  have hk : i 1 = k := Fin.ext e1
  unfold Arr.o8
  rw [hk, sum_runs]
  refine Finset.sum_congr rfl fun s _ => ?_
  rw [Blk.dg4t_apply]
  simp only [at_run m c a R]
  have h := ht s
  have h' : cfg0.N = 32 := rfl
  have hb : bt ⟨32 * (t / 32) + s.val, ht s⟩ = ⟨s.val / 8, by omega⟩ := Fin.ext (by show (32 * (t / 32) + s.val) / 8 = s.val / 8; omega)
  have hj : jt ⟨32 * (t / 32) + s.val, ht s⟩ = ⟨s.val % 8, by omega⟩ := Fin.ext (by show (32 * (t / 32) + s.val) % 8 = s.val % 8; omega)
  rw [hb, hj]

theorem pay3_apply (g s t : FVec Ideal S1x1024 .f32) (p : FVec Ideal S1x3x1024 .f32) (j : S1x3x1024.Idx) :
    k0_pay3 (F := Ideal) g s t p j = p j + k0_pay2 g s t j := by
  unfold k0_pay3
  generalize k0_pay2 (F := Ideal) g s t = z
  pointwise
theorem pay4_apply (a b : FVec Ideal S1x1024 .f32) (j : S1x1024.Idx) : k0_pay4 (F := Ideal) a b j = b j + a j := by
  pointwise [k0_pay4]
theorem pay5_apply (a b : FVec Ideal S1x1024 .f32) (j : S1x1024.Idx) : k0_pay5 (F := Ideal) a b j = b j + a j := by
  pointwise [k0_pay5]

theorem final7 (R : Reads m c a) : (dats m 0 c).arrAt 7 cfg0.N = a.o0 := by
  refine (dats m 0 c).arrAt_eq_of_covers 7 _ (by decide +kernel) fun t hf y => ?_
  blk_simp
  rw [after0_7, out7 m c t]
  have y0 : (y 0).val < 1 := (y 0).isLt
  refine tile7 m c a R t y _ ?_ ?_ ?_
  all_goals (blk_simp [(idx_out t).1] <;> try omega)

theorem final8 (R : Reads m c a) : (dats m 0 c).arrAt 8 cfg0.N = a.o1 := by
  refine (dats m 0 c).arrAt_eq_of_covers 8 _ (by decide +kernel) fun t hf y => ?_
  blk_simp
  rw [after0_8, out8 m c t]
  have y0 : (y 0).val < 1 := (y 0).isLt
  have y1 : (y 1).val < 1 := (y 1).isLt
  refine tile8 m c a R t y _ ?_ ?_
  all_goals (blk_simp [(idx_out t).2.1] <;> try omega)

theorem final9 (R : Reads m c a) : (dats m 0 c).arrAt 9 cfg0.N = a.o2 := by
  refine (dats m 0 c).arrAt_eq_of_covers 9 _ (by decide +kernel) fun t hf y => ?_
  blk_simp
  rw [after0_9, out9 m c t]
  have y0 : (y 0).val < 1 := (y 0).isLt
  refine tile9 m c a R t y _ ?_ ?_ ?_
  all_goals (blk_simp [(idx_out t).2.2.1] <;> try omega)

theorem final10 (R : Reads m c a) : (dats m 0 c).arrAt 10 cfg0.N = a.o3 := by
  refine (dats m 0 c).arrAt_eq_of_covers 10 _ (by decide +kernel) fun t hf y => ?_
  blk_simp
  rw [after0_10, out10 m c t]
  have y0 : (y 0).val < 1 := (y 0).isLt
  refine tile10 m c a R t y _ ?_ ?_ ?_
  all_goals (blk_simp [(idx_out t).2.2.2.1] <;> try omega)

theorem final11 (R : Reads m c a) : (dats m 0 c).arrAt 11 cfg0.N = a.o4 := by
  refine (dats m 0 c).arrAt_eq_of_covers 11 _ (by decide +kernel) fun t hf y => ?_
  blk_simp
  rw [after0_11, out11 m c t]
  have y0 : (y 0).val < 1 := (y 0).isLt
  refine tile11 m c a R t y _ ?_ ?_ ?_
  all_goals (blk_simp [(idx_out t).2.2.2.2.1] <;> try omega)

theorem final12 (R : Reads m c a) : (dats m 0 c).arrAt 12 cfg0.N = a.o5 := by
  refine (dats m 0 c).arrAt_eq_of_covers 12 _ (by decide +kernel) fun t hf y => ?_
  blk_simp
  rw [after0_12, out12 m c t]
  have y0 : (y 0).val < 1 := (y 0).isLt
  refine tile12 m c a R t y _ ?_ ?_ ?_
  all_goals (blk_simp [(idx_out t).2.2.2.2.2.1] <;> try omega)

theorem final13 (R : Reads m c a) : (dats m 0 c).arrAt 13 cfg0.N = a.o6 := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.2.1) 8 (fun _ => 0) (fun t => (blk m c t).dmt)
    (fun t h j => by rw [out13_first m c t h, zero_add]) (fun t h j => by rw [out13_later m c t h]; exact pay3_apply _ _ _ _ j)
    t ((flush0_13 t).mp hf) _, zero_add]
  have ht : t.val < 32 := t.isLt
  have y0 : (y 0).val < 1 := (y 0).isLt
  refine tile13 m c a R y _ t.val ht _ ?_ ?_ ?_
  all_goals (blk_simp [(idx_out t).2.2.2.2.2.2.1] <;> try omega)

theorem final14 (R : Reads m c a) : (dats m 0 c).arrAt 14 cfg0.N = a.o7 := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2.2.1) 32 (fun _ => 0) (fun t => (blk m c t).dg3t)
    (fun t h j => by rw [out14_first m c t h, zero_add]) (fun t h j => by rw [out14_later m c t h]; exact pay4_apply _ _ j)
    t ((flush0_14 t).mp hf) _, zero_add]
  refine tile14 m c a R y _ ?_ t.val _
  blk_simp [(idx_out t).2.2.2.2.2.2.2.1]

theorem final15 (R : Reads m c a) : (dats m 0 c).arrAt 15 cfg0.N = a.o8 := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.2.2) 32 (fun _ => 0) (fun t => (blk m c t).dg4t)
    (fun t h j => by rw [out15_first m c t h, zero_add]) (fun t h j => by rw [out15_later m c t h]; exact pay5_apply _ _ j)
    t ((flush0_15 t).mp hf) _, zero_add]
  refine tile15 m c a R y _ ?_ t.val _
  blk_simp [(idx_out t).2.2.2.2.2.2.2.2]

end Cert.Mlp
-- ==== Proof.MlpEq.lean ====
module

public import proofs.«01_k».proof.Proof.MlpRef
public import proofs.«01_k».proof.Proof.MlpFinal

@[expose] public section

set_option maxRecDepth 16384

noncomputable section

open Idealize.ShloMosaic Idealize.ShloMosaic.TcCoe Idealize.SL.Sem
open Idealize.ShloMosaic.Pipeline (Dat)

namespace Cert.Mlp
open Cert.Kernel3Ideal Cert.Kernel3Ideal.Gen Cert.NormRow Cert.MlpRow

namespace Arr
variable (a : Arr)
/-- The reference's arrays: the normalised stream, the layer's input, the hidden rows, the layer's output, the error, the
    cotangents. -/
def n3 : FVec Ideal S4x2048x1024 .f32 := hn a.X a.G3
def h : FVec Ideal S4x2048x1024 .f32 := hh a.n3 a.M
def p : FVec Ideal S4x2048x4096 .f32 := hpre a.h a.W1
def q : FVec Ideal S4x2048x4096 .f32 := hsq (hrl a.p)
def y : FVec Ideal S4x2048x1024 .f32 := hy a.q a.W2
def n4 : FVec Ideal S4x2048x1024 .f32 := hn a.y a.G4
def e : FVec Ideal S4x2048x1024 .f32 := he a.X a.T a.n4 a.M
def c : FVec Ideal S4x2048x1024 .f32 := hc a.e
def gc : FVec Ideal S4x2048x1024 .f32 := hgc a.c a.M
def dy : FVec Ideal S4x2048x1024 .f32 := hback a.y (hwt a.gc a.G4)
def dp : FVec Ideal S4x2048x4096 .f32 := hdp a.p a.dy a.W2
def dh : FVec Ideal S4x2048x1024 .f32 := hdh a.dp a.W1
def dn : FVec Ideal S4x2048x1024 .f32 := hdn a.dh a.M

variable (b : Fin 4) (t : Fin 2048) (k : Fin 1024)
theorem n3_row : a.n3 (ix3 b t k) = nrm (a.row b t).x (a.row b t).g3 k := hn_apply _ _ b t k
theorem h_row : a.h (ix3 b t k) = (a.row b t).h2 k := by
  refine (hh_apply _ _ b t k).trans ?_
  rw [n3_row]; rfl
theorem p_row (f : Fin 4096) : a.p (ix3 b t f) = ∑ k, (a.row b t).h2 k * (a.row b t).w1 k f := by
  refine (hpre_apply _ _ b t f).trans ?_
  exact Finset.sum_congr rfl fun k _ => congrArg (· * _) (a.h_row b t k)
theorem r_row (f : Fin 4096) : max (a.p (ix3 b t f)) 0 = (a.row b t).r f := by
  rw [p_row]; rfl
theorem q_row (f : Fin 4096) : a.q (ix3 b t f) = (a.row b t).r f * (a.row b t).r f := by
  refine (hsq_apply _ b t f).trans ?_
  rw [show hrl a.p (ix3 b t f) = (a.row b t).r f from (hrl_apply _ b t f).trans (a.r_row b t f)]
theorem y_row : a.y (ix3 b t k) = (a.row b t).y k := by
  refine (hy_apply _ _ b t k).trans ?_
  exact Finset.sum_congr rfl fun f _ => congrArg (· * _) (a.q_row b t f)
theorem n4_row : a.n4 (ix3 b t k) = nrm (a.row b t).y (a.row b t).g4 k :=
  (hn_apply _ _ b t k).trans (congrArg (fun z => nrm z (a.row b t).g4 k) (funext fun j => a.y_row b t j))
theorem e_row : a.e (ix3 b t k) = (a.row b t).e k := by
  refine (he_apply _ _ _ _ b t k).trans ?_
  rw [n4_row]; rfl
theorem c_row : a.c (ix3 b t k) = (a.row b t).c k := by
  refine (hc_apply _ b t k).trans ?_
  rw [e_row]; rfl
theorem gc_row : a.gc (ix3 b t k) = (a.row b t).gc k := by
  refine (hgc_apply _ _ b t k).trans ?_
  rw [c_row]; rfl
theorem dy_row : a.dy (ix3 b t k) = (a.row b t).dy k := by
  refine (hback_apply _ _ b t k).trans ?_
  refine congrArg₂ (fun u v => back u v k) (funext fun j => a.y_row b t j) (funext fun j => ?_)
  refine (hwt_apply _ _ b t j).trans ?_
  rw [gc_row]; rfl
theorem dp_row (f : Fin 4096) : a.dp (ix3 b t f) = (a.row b t).dp f := by
  refine (hdp_apply _ _ _ b t f).trans ?_
  rw [r_row]
  exact congrArg (· * _) (Finset.sum_congr rfl fun h _ => congrArg (· * _) (a.dy_row b t h))
theorem dh_row : a.dh (ix3 b t k) = (a.row b t).dh k := by
  refine (hdh_apply _ _ b t k).trans ?_
  exact Finset.sum_congr rfl fun f _ => congrArg (· * _) (a.dp_row b t f)
theorem dn_row : a.dn (ix3 b t k) = (a.row b t).dn k := by
  refine (hdn_apply _ _ b t k).trans ?_
  rw [dh_row]; rfl
end Arr

/-- An index is its three coordinates. -/
theorem ix3_eta {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl
theorem ix4_eta {n0 n1 n2 n3 : ℕ} (i : (⟨4, ![n0, n1, n2, n3]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

/-- A sum over the tokens, run by run. -/
theorem sum_tok (f : Fin 2048 → EReal) : ∑ t, f t = ∑ j : Fin 8, ∑ q : Fin 256, f ⟨j.val * 256 + q.val, by omega⟩ := by
  rw [← (finProdFinEquiv (m := 8) (n := 256)).sum_comp f, Fintype.sum_prod_type]
  refine Finset.sum_congr rfl fun j _ => Finset.sum_congr rfl fun q _ => congrArg f (Fin.ext ?_)
  show q.val + 256 * j.val = j.val * 256 + q.val
  omega

section eqs
variable (a : Arr)
theorem eq0 : a.o0 = hdx a.c a.X (hwt a.dn a.G3) := by
  funext i
  obtain ⟨b, t, k, rfl⟩ : ∃ (b : Fin 4) (t : Fin 2048) (k : Fin 1024), i = ix3 b t k := ⟨i 0, i 1, i 2, ix3_eta i⟩
  refine Eq.trans ?_ (hdx_apply _ _ _ b t k).symm
  rw [Arr.c_row]
  refine congrArg (_ + ·) (congrArg (fun v => back _ v k) (funext fun j => ?_))
  refine Eq.trans ?_ (hwt_apply _ _ b t j).symm
  rw [Arr.dn_row]; rfl
theorem eq1 : a.o1 = hloss a.e := by
  funext i
  obtain ⟨b, j, s, l, rfl⟩ : ∃ (b : Fin 4) (j : Fin 8) (s : Fin 8) (l : Fin 128), i = ix4 b j s l := ⟨i 0, i 1, i 2, i 3, ix4_eta i⟩
  refine Eq.trans ?_ (hloss_apply _ b j s l).symm
  exact congrArg (_ * ·) (Finset.sum_congr rfl fun q _ => congrArg lossRow (funext fun k => (a.e_row b _ k).symm))
theorem eq2 : a.o2 = truncf .bf16 a.h bitsLt_bf16_f32 := by
  funext i
  obtain ⟨b, t, k, rfl⟩ : ∃ (b : Fin 4) (t : Fin 2048) (k : Fin 1024), i = ix3 b t k := ⟨i 0, i 1, i 2, ix3_eta i⟩
  exact (a.h_row b t k).symm
theorem eq3 : a.o3 = truncf .bf16 a.dp bitsLt_bf16_f32 := by
  funext i
  obtain ⟨b, t, k, rfl⟩ : ∃ (b : Fin 4) (t : Fin 2048) (k : Fin 4096), i = ix3 b t k := ⟨i 0, i 1, i 2, ix3_eta i⟩
  exact (a.dp_row b t k).symm
theorem eq4 : a.o4 = truncf .bf16 a.q bitsLt_bf16_f32 := by
  funext i
  obtain ⟨b, t, k, rfl⟩ : ∃ (b : Fin 4) (t : Fin 2048) (k : Fin 4096), i = ix3 b t k := ⟨i 0, i 1, i 2, ix3_eta i⟩
  exact (a.q_row b t k).symm
theorem eq5 : a.o5 = truncf .bf16 a.dy bitsLt_bf16_f32 := by
  funext i
  obtain ⟨b, t, k, rfl⟩ : ∃ (b : Fin 4) (t : Fin 2048) (k : Fin 1024), i = ix3 b t k := ⟨i 0, i 1, i 2, ix3_eta i⟩
  exact (a.dy_row b t k).symm
theorem eq6 : a.o6 = hdm (mulf a.c a.n4) (mulf a.n3 a.dh) a.dh := by
  funext i
  obtain ⟨b, s, k, rfl⟩ : ∃ (b : Fin 4) (s : Fin 3) (k : Fin 1024), i = ix3 b s k := ⟨i 0, i 1, i 2, ix3_eta i⟩
  refine Eq.trans ?_ (hdm_apply _ _ _ b s k).symm
  show ∑ j, a.part b j s k = _
  unfold Arr.part
  by_cases h1 : s.val < 1
  · simp only [if_pos h1]
    rw [sum_tok]
    exact Finset.sum_congr rfl fun j _ => Finset.sum_congr rfl fun q _ => (a.dh_row b _ k).symm
  · by_cases h2 : s.val < 2
    · simp only [if_neg h1, if_pos h2]
      rw [sum_tok]
      exact Finset.sum_congr rfl fun j _ => Finset.sum_congr rfl fun q _ => congrArg₂ (· * ·) (a.n3_row b _ k).symm (a.dh_row b _ k).symm
    · simp only [if_neg h1, if_neg h2]
      rw [sum_tok]
      exact Finset.sum_congr rfl fun j _ => Finset.sum_congr rfl fun q _ => congrArg₂ (· * ·) (a.c_row b _ k).symm (a.n4_row b _ k).symm
theorem eq7 : a.o7 = hdg (mulf (hxr a.X) a.dn) := by
  funext i
  obtain ⟨k, rfl⟩ : ∃ k : Fin 1024, i = ix2 0 k := ⟨i 1, ix2_of i⟩
  refine Eq.trans ?_ (hdg_apply _ k).symm
  refine Finset.sum_congr rfl fun b _ => ?_
  rw [sum_tok]
  exact Finset.sum_congr rfl fun j _ => Finset.sum_congr rfl fun q _ => congrArg₂ (· * ·) (hxr_apply _ b _ k).symm (a.dn_row b _ k).symm
theorem eq8 : a.o8 = hdg (mulf (hxr a.y) a.gc) := by
  funext i
  obtain ⟨k, rfl⟩ : ∃ k : Fin 1024, i = ix2 0 k := ⟨i 1, ix2_of i⟩
  refine Eq.trans ?_ (hdg_apply _ k).symm
  refine Finset.sum_congr rfl fun b _ => ?_
  rw [sum_tok]
  refine Finset.sum_congr rfl fun j _ => Finset.sum_congr rfl fun q _ => congrArg₂ (· * ·) ?_ (a.gc_row b _ k).symm
  refine Eq.trans ?_ (hxr_apply _ b _ k).symm
  rw [funext fun j => a.y_row b _ j, Arr.y_row]
  rfl
end eqs
end Cert.Mlp
-- ==== Proof.MlpAlg.lean ====
module

public import proofs.«01_k».proof.Defs
public import Idealize.ShloMosaic.Lib.StableHlo.RunRead
public import proofs.«01_k».proof.Proof.Gen.Kernel3Ideal.Value
public import proofs.«01_k».proof.Proof.MlpEq

@[expose] public section

set_option maxRecDepth 16384

noncomputable section

open Idealize.ShloMosaic Idealize.ShloMosaic.TcCoe Idealize.SL.Sem
open Idealize.ShloMosaic.Pipeline (Dat)

namespace Cert.Mlp

section host
open Cert.Kernel3Ideal Cert.Kernel3Ideal.Gen
variable (W : Valuation τ sig (Elt Ideal))
/-- The two matrices as the call reads them. -/
def cast1 (w : FVec Ideal S1024x4096 .f32) : FVec Ideal S1024x4096 .bf16 := truncf .bf16 w bitsLt_bf16_f32
def cast2 (w : FVec Ideal S4096x1024 .f32) : FVec Ideal S4096x1024 .bf16 := truncf .bf16 w bitsLt_bf16_f32
theorem r0 : StableHlo.after (hostOps0 (F := Ideal)) W (Proc.devRef .tc main_v0) = cast1 (W (Proc.devRef .tc main_arg5)) := by
  after_reads_simp; rfl
theorem r1 : StableHlo.after (hostOps0 (F := Ideal)) W (Proc.devRef .tc main_v1) = cast2 (W (Proc.devRef .tc main_arg6)) := by
  after_reads_simp; rfl
end host

open Cert.Kernel3Ideal Cert.Kernel3Ideal.Gen in
/-- The reference's result 0 over the arrays. -/
def res0 (A : Arr) := hdx A.c A.X (hwt A.dn A.G3)
open Cert.Kernel3Ideal Cert.Kernel3Ideal.Gen in
/-- The reference's result 1 over the arrays. -/
def res1 (A : Arr) := hloss A.e
open Cert.Kernel3Ideal Cert.Kernel3Ideal.Gen in
/-- The reference's result 2 over the arrays. -/
def res2 (A : Arr) := (truncf .bf16 A.h bitsLt_bf16_f32 : FVec Ideal Cert.Kernel3Ideal.S4x2048x1024 .bf16)
open Cert.Kernel3Ideal Cert.Kernel3Ideal.Gen in
/-- The reference's result 3 over the arrays. -/
def res3 (A : Arr) := (truncf .bf16 A.dp bitsLt_bf16_f32 : FVec Ideal Cert.Kernel3Ideal.S4x2048x4096 .bf16)
open Cert.Kernel3Ideal Cert.Kernel3Ideal.Gen in
/-- The reference's result 4 over the arrays. -/
def res4 (A : Arr) := (truncf .bf16 A.q bitsLt_bf16_f32 : FVec Ideal Cert.Kernel3Ideal.S4x2048x4096 .bf16)
open Cert.Kernel3Ideal Cert.Kernel3Ideal.Gen in
/-- The reference's result 5 over the arrays. -/
def res5 (A : Arr) := (truncf .bf16 A.dy bitsLt_bf16_f32 : FVec Ideal Cert.Kernel3Ideal.S4x2048x1024 .bf16)
open Cert.Kernel3Ideal Cert.Kernel3Ideal.Gen in
/-- The reference's result 6 over the arrays. -/
def res6 (A : Arr) := hdm (mulf A.c A.n4) (mulf A.n3 A.dh) A.dh
open Cert.Kernel3Ideal Cert.Kernel3Ideal.Gen in
/-- The reference's result 7 over the arrays. -/
def res7 (A : Arr) := hdg (mulf (hxr A.X) A.dn)
open Cert.Kernel3Ideal Cert.Kernel3Ideal.Gen in
/-- The reference's result 8 over the arrays. -/
def res8 (A : Arr) := hdg (mulf (hxr A.y) A.gc)

set_option maxHeartbeats 4000000 in
/-- The kernel and the reference end with the same nine arrays. -/
theorem alg : Cert.algebraic_Kernel3Ideal_Reference3Ideal (hKernel3Ideal := Cert.Kernel3Ideal.Gen.facts) (hReference3Ideal := Cert.Reference3Ideal.Gen.facts) := by
  intro m g m' g' _ hag
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, ?_, ?_⟩
  · exact Cert.Kernel3Ideal.Value.run_blocks m g
  · refine (θ_run _ _ _).mono (fun _ h c => ?_) (Cert.Reference3Ideal.Value.run (F := Ideal) m' g')
    obtain ⟨h0, h1, h2, h3, h4, h5, h6, h7, h8, hargs⟩ := h c
    obtain ⟨e0, e1, e2, e3, e4, e5, e6⟩ := hag c
    have reads : Reads m c (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6))) := by
      rw [e0, e1, e2, e3, e4, e5, e6]
      exact ⟨rfl, rfl, rfl, rfl, rfl, r0 _, r1 _⟩
    refine ⟨h0.trans (Eq.trans (b := res0 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h1.trans (Eq.trans (b := res1 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h2.trans (Eq.trans (b := res2 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h3.trans (Eq.trans (b := res3 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h4.trans (Eq.trans (b := res4 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h5.trans (Eq.trans (b := res5 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h6.trans (Eq.trans (b := res6 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h7.trans (Eq.trans (b := res7 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), h8.trans (Eq.trans (b := res8 (Arr.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)))) rfl ?_), hargs⟩
    · exact ((final7 m c _ reads).trans (eq0 _)).symm
    · exact ((final8 m c _ reads).trans (eq1 _)).symm
    · exact ((final9 m c _ reads).trans (eq2 _)).symm
    · exact ((final10 m c _ reads).trans (eq3 _)).symm
    · exact ((final11 m c _ reads).trans (eq4 _)).symm
    · exact ((final12 m c _ reads).trans (eq5 _)).symm
    · exact ((final13 m c _ reads).trans (eq6 _)).symm
    · exact ((final14 m c _ reads).trans (eq7 _)).symm
    · exact ((final15 m c _ reads).trans (eq8 _)).symm
end Cert.Mlp
-- ==== Proof.MixRunA.lean ====
module

public import proofs.«01_k».proof.Proof.Gen.Kernel4Ideal.Frame.Runs

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

/-! The core of the layer, the device, and the staging memrefs with what they hold. -/

variable (c : Dev nD) (i : grid0.Coords)
variable (arg2 : Memref sig .tc .vmem S1x4x256x128 .f32) (harg2 : arg2.IsWhole)
variable (arg3 : Memref sig .tc .vmem S1x4x256x128 .f32) (harg3 : arg3.IsWhole)
variable (arg4 : Memref sig .tc .vmem S1x4x256x128 .f32) (harg4 : arg4.IsWhole)
variable (arg5 : Memref sig .tc .vmem S1x4x256x128 .f32) (harg5 : arg5.IsWhole)
variable (arg6 : Memref sig .tc .vmem S1x4x256x128 .f32) (harg6 : arg6.IsWhole)
variable (arg7 : Memref sig .tc .vmem S1x4x256x128 .f32) (harg7 : arg7.IsWhole)
variable (arg8 : Memref sig .tc .vmem S1x256x256 .f32) (harg8 : arg8.IsWhole)
variable (arg9 : Memref sig .tc .vmem S1x256x512 .f32) (harg9 : arg9.IsWhole)
variable (arg10 : Memref sig .tc .vmem S1x256x1024 .f32) (harg10 : arg10.IsWhole)
variable (arg11 : Memref sig .tc .vmem S1x1x1024 .f32) (harg11 : arg11.IsWhole)
variable (arg12 : Memref sig .tc .vmem S1x512 .f32) (harg12 : arg12.IsWhole)
variable (arg13 : Memref sig .tc .vmem S256x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1024x1024 .bf16) (harg16 : arg16.IsWhole)
variable (arg17 : Memref sig .tc .vmem S1x1024 .f32) (harg17 : arg17.IsWhole)
variable (arg18 : Memref sig .tc .vmem S256x256 .bf16) (harg18 : arg18.IsWhole)
variable (arg19 : Memref sig .tc .vmem S1x256x1024 .f32) (harg19 : arg19.IsWhole)
variable (arg20 : Memref sig .tc .vmem S1x4x256x128 .f32) (harg20 : arg20.IsWhole)
variable (arg21 : Memref sig .tc .vmem S1x4x256x128 .f32) (harg21 : arg21.IsWhole)
variable (arg22 : Memref sig .tc .vmem S1x4x256x128 .f32) (harg22 : arg22.IsWhole)
variable (arg23 : Memref sig .tc .vmem S1x4x256x128 .f32) (harg23 : arg23.IsWhole)
variable (arg24 : Memref sig .tc .vmem S1x256x256 .f32) (harg24 : arg24.IsWhole)
variable (arg25 : Memref sig .tc .vmem S1x256x512 .f32) (harg25 : arg25.IsWhole)
variable (arg26 : Memref sig .tc .vmem S1x256x1024 .bf16) (harg26 : arg26.IsWhole)
variable (arg27 : Memref sig .tc .vmem S1x256x1024 .bf16) (harg27 : arg27.IsWhole)
variable (arg28 : Memref sig .tc .vmem S1x1x1024 .f32) (harg28 : arg28.IsWhole)
variable (arg29 : Memref sig .tc .vmem S1x1024 .f32) (harg29 : arg29.IsWhole)
variable (arg30 : Memref sig .tc .vmem S1x512 .f32) (harg30 : arg30.IsWhole)
variable (arg31 : Memref sig .tc .vmem S256x512 .f32) (harg31 : arg31.IsWhole)
variable (arg32 : Memref sig .tc .vmem S1x512 .f32) (harg32 : arg32.IsWhole)
variable (arg33 : Memref sig .tc .vmem S1x512 .f32) (harg33 : arg33.IsWhole)
variable (x0 : Vec F S1x4x256x128 .f32)
variable (x1 : Vec F S1x4x256x128 .f32)
variable (x2 : Vec F S1x4x256x128 .f32)
variable (x3 : Vec F S1x4x256x128 .f32)
variable (x4 : Vec F S1x4x256x128 .f32)
variable (x5 : Vec F S1x4x256x128 .f32)
variable (x6 : Vec F S1x256x256 .f32)
variable (x7 : Vec F S1x256x512 .f32)
variable (x8 : Vec F S1x256x1024 .f32)
variable (x9 : Vec F S1x1x1024 .f32)
variable (x10 : Vec F S1x512 .f32)
variable (x11 : Vec F S256x512 .f32)
variable (x12 : Vec F S1x512 .f32)
variable (x13 : Vec F S1x512 .f32)
variable (x14 : Vec F S1024x1024 .bf16)
variable (x15 : Vec F S1x1024 .f32)
variable (x16 : Vec F S256x256 .bf16)
variable (x17 : Vec F S1x256x1024 .f32)

set_option maxHeartbeats 4000000 in
/-- The body's run at the first point of the grid, where every accumulator is stored afresh: on the inputs' memrefs holding `x0` … `x17` it
    leaves them as they were and each output's memref with a list of stores, which the run finds. -/
noncomputable def runA (hc : conds0_A i) :
    Σ' (L18 : List (View.Piece (Elt F) S1x4x256x128 .f32)),
    Σ' (L19 : List (View.Piece (Elt F) S1x4x256x128 .f32)),
    Σ' (L20 : List (View.Piece (Elt F) S1x4x256x128 .f32)),
    Σ' (L21 : List (View.Piece (Elt F) S1x4x256x128 .f32)),
    Σ' (L22 : List (View.Piece (Elt F) S1x256x256 .f32)),
    Σ' (L23 : List (View.Piece (Elt F) S1x256x512 .f32)),
    Σ' (L24 : List (View.Piece (Elt F) S1x256x1024 .bf16)),
    Σ' (L25 : List (View.Piece (Elt F) S1x256x1024 .bf16)),
    Σ' (L26 : List (View.Piece (Elt F) S1x1x1024 .f32)),
    Σ' (L27 : List (View.Piece (Elt F) S1x1024 .f32)),
    Σ' (L28 : List (View.Piece (Elt F) S1x512 .f32)),
    Σ' (L29 : List (View.Piece (Elt F) S256x512 .f32)),
    Σ' (L30 : List (View.Piece (Elt F) S1x512 .f32)),
    { L31 : List (View.Piece (Elt F) S1x512 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ (∃ d, owns (c : Thread nD τ) arg20 fullShare d)
          ∗ (∃ d, owns (c : Thread nD τ) arg21 fullShare d)
          ∗ (∃ d, owns (c : Thread nD τ) arg22 fullShare d)
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)
          ∗ (∃ d, owns (c : Thread nD τ) arg27 fullShare d)
          ∗ (∃ d, owns (c : Thread nD τ) arg28 fullShare d)
          ∗ (∃ d, owns (c : Thread nD τ) arg29 fullShare d)
          ∗ (∃ d, owns (c : Thread nD τ) arg30 fullShare d)
          ∗ (∃ d, owns (c : Thread nD τ) arg31 fullShare d)
          ∗ (∃ d, owns (c : Thread nD τ) arg32 fullShare d)
          ∗ (∃ d, owns (c : Thread nD τ) arg33 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ (∃ f, arg20.view.loc (c : Thread nD τ) ↦[arg20.view.set]{fullShare} arg20.view.writes (Elt F) f L18)
          ∗ (∃ f, arg21.view.loc (c : Thread nD τ) ↦[arg21.view.set]{fullShare} arg21.view.writes (Elt F) f L19)
          ∗ (∃ f, arg22.view.loc (c : Thread nD τ) ↦[arg22.view.set]{fullShare} arg22.view.writes (Elt F) f L20)
          ∗ (∃ f, arg23.view.loc (c : Thread nD τ) ↦[arg23.view.set]{fullShare} arg23.view.writes (Elt F) f L21)
          ∗ (∃ f, arg24.view.loc (c : Thread nD τ) ↦[arg24.view.set]{fullShare} arg24.view.writes (Elt F) f L22)
          ∗ (∃ f, arg25.view.loc (c : Thread nD τ) ↦[arg25.view.set]{fullShare} arg25.view.writes (Elt F) f L23)
          ∗ (∃ f, arg26.view.loc (c : Thread nD τ) ↦[arg26.view.set]{fullShare} arg26.view.writes (Elt F) f L24)
          ∗ (∃ f, arg27.view.loc (c : Thread nD τ) ↦[arg27.view.set]{fullShare} arg27.view.writes (Elt F) f L25)
          ∗ (∃ f, arg28.view.loc (c : Thread nD τ) ↦[arg28.view.set]{fullShare} arg28.view.writes (Elt F) f L26)
          ∗ (∃ f, arg29.view.loc (c : Thread nD τ) ↦[arg29.view.set]{fullShare} arg29.view.writes (Elt F) f L27)
          ∗ (∃ f, arg30.view.loc (c : Thread nD τ) ↦[arg30.view.set]{fullShare} arg30.view.writes (Elt F) f L28)
          ∗ (∃ f, arg31.view.loc (c : Thread nD τ) ↦[arg31.view.set]{fullShare} arg31.view.writes (Elt F) f L29)
          ∗ (∃ f, arg32.view.loc (c : Thread nD τ) ↦[arg32.view.set]{fullShare} arg32.view.writes (Elt F) f L30)
          ∗ (∃ f, arg33.view.loc (c : Thread nD τ) ↦[arg33.view.set]{fullShare} arg33.view.writes (Elt F) f L31)) -∗ K ⟨⟩))
          ⊢ wp frame (wpE (defs₀ (F := F)) Variants.none c none) E (cc0_mix_out_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, ?_, ?_, ?_, ?_, ?_, ?_, ?_, ?_, ?_, ?_, ?_, ?_, fun E K => ?run⟩
  case run =>
    obtain ⟨hc0, hc1, hc2, hc3, hc4, hc5, hc6, hc7, hc8, hc9, hc10, hc11⟩ := hc
    simp only [cc0_mix_out_bwd_eq_skeleton]; unfold cc0_mix_out_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31

end Cert.MixRun
-- ==== Proof.MixRunB.lean ====
module

public import proofs.«01_k».proof.Proof.Gen.Kernel4Ideal.Frame.Runs

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

/-! The core of the layer, the device, and the staging memrefs with what they hold. -/

variable (c : Dev nD) (i : grid0.Coords)
variable (arg2 : Memref sig .tc .vmem S1x4x256x128 .f32) (harg2 : arg2.IsWhole)
variable (arg3 : Memref sig .tc .vmem S1x4x256x128 .f32) (harg3 : arg3.IsWhole)
variable (arg4 : Memref sig .tc .vmem S1x4x256x128 .f32) (harg4 : arg4.IsWhole)
variable (arg5 : Memref sig .tc .vmem S1x4x256x128 .f32) (harg5 : arg5.IsWhole)
variable (arg6 : Memref sig .tc .vmem S1x4x256x128 .f32) (harg6 : arg6.IsWhole)
variable (arg7 : Memref sig .tc .vmem S1x4x256x128 .f32) (harg7 : arg7.IsWhole)
variable (arg8 : Memref sig .tc .vmem S1x256x256 .f32) (harg8 : arg8.IsWhole)
variable (arg9 : Memref sig .tc .vmem S1x256x512 .f32) (harg9 : arg9.IsWhole)
variable (arg10 : Memref sig .tc .vmem S1x256x1024 .f32) (harg10 : arg10.IsWhole)
variable (arg11 : Memref sig .tc .vmem S1x1x1024 .f32) (harg11 : arg11.IsWhole)
variable (arg12 : Memref sig .tc .vmem S1x512 .f32) (harg12 : arg12.IsWhole)
variable (arg13 : Memref sig .tc .vmem S256x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1024x1024 .bf16) (harg16 : arg16.IsWhole)
variable (arg17 : Memref sig .tc .vmem S1x1024 .f32) (harg17 : arg17.IsWhole)
variable (arg18 : Memref sig .tc .vmem S256x256 .bf16) (harg18 : arg18.IsWhole)
variable (arg19 : Memref sig .tc .vmem S1x256x1024 .f32) (harg19 : arg19.IsWhole)
variable (arg20 : Memref sig .tc .vmem S1x4x256x128 .f32) (harg20 : arg20.IsWhole)
variable (arg21 : Memref sig .tc .vmem S1x4x256x128 .f32) (harg21 : arg21.IsWhole)
variable (arg22 : Memref sig .tc .vmem S1x4x256x128 .f32) (harg22 : arg22.IsWhole)
variable (arg23 : Memref sig .tc .vmem S1x4x256x128 .f32) (harg23 : arg23.IsWhole)
variable (arg24 : Memref sig .tc .vmem S1x256x256 .f32) (harg24 : arg24.IsWhole)
variable (arg25 : Memref sig .tc .vmem S1x256x512 .f32) (harg25 : arg25.IsWhole)
variable (arg26 : Memref sig .tc .vmem S1x256x1024 .bf16) (harg26 : arg26.IsWhole)
variable (arg27 : Memref sig .tc .vmem S1x256x1024 .bf16) (harg27 : arg27.IsWhole)
variable (arg28 : Memref sig .tc .vmem S1x1x1024 .f32) (harg28 : arg28.IsWhole)
variable (arg29 : Memref sig .tc .vmem S1x1024 .f32) (harg29 : arg29.IsWhole)
variable (arg30 : Memref sig .tc .vmem S1x512 .f32) (harg30 : arg30.IsWhole)
variable (arg31 : Memref sig .tc .vmem S256x512 .f32) (harg31 : arg31.IsWhole)
variable (arg32 : Memref sig .tc .vmem S1x512 .f32) (harg32 : arg32.IsWhole)
variable (arg33 : Memref sig .tc .vmem S1x512 .f32) (harg33 : arg33.IsWhole)
variable (x0 : Vec F S1x4x256x128 .f32)
variable (x1 : Vec F S1x4x256x128 .f32)
variable (x2 : Vec F S1x4x256x128 .f32)
variable (x3 : Vec F S1x4x256x128 .f32)
variable (x4 : Vec F S1x4x256x128 .f32)
variable (x5 : Vec F S1x4x256x128 .f32)
variable (x6 : Vec F S1x256x256 .f32)
variable (x7 : Vec F S1x256x512 .f32)
variable (x8 : Vec F S1x256x1024 .f32)
variable (x9 : Vec F S1x1x1024 .f32)
variable (x10 : Vec F S1x512 .f32)
variable (x11 : Vec F S256x512 .f32)
variable (x12 : Vec F S1x512 .f32)
variable (x13 : Vec F S1x512 .f32)
variable (x14 : Vec F S1024x1024 .bf16)
variable (x15 : Vec F S1x1024 .f32)
variable (x16 : Vec F S256x256 .bf16)
variable (x17 : Vec F S1x256x1024 .f32)
variable (x26 : Vec F S1x1x1024 .f32)
variable (x27 : Vec F S1x1024 .f32)
variable (x28 : Vec F S1x512 .f32)
variable (x29 : Vec F S256x512 .f32)
variable (x30 : Vec F S1x512 .f32)
variable (x31 : Vec F S1x512 .f32)

set_option maxHeartbeats 4000000 in
/-- The body's run inside a batch row, where every accumulator is added to: on the inputs' memrefs holding `x0` … `x17` it
    leaves them as they were and each output's memref with a list of stores, which the run finds. -/
noncomputable def runB (hc : conds0_B i) :
    Σ' (L18 : List (View.Piece (Elt F) S1x4x256x128 .f32)),
    Σ' (L19 : List (View.Piece (Elt F) S1x4x256x128 .f32)),
    Σ' (L20 : List (View.Piece (Elt F) S1x4x256x128 .f32)),
    Σ' (L21 : List (View.Piece (Elt F) S1x4x256x128 .f32)),
    Σ' (L22 : List (View.Piece (Elt F) S1x256x256 .f32)),
    Σ' (L23 : List (View.Piece (Elt F) S1x256x512 .f32)),
    Σ' (L24 : List (View.Piece (Elt F) S1x256x1024 .bf16)),
    Σ' (L25 : List (View.Piece (Elt F) S1x256x1024 .bf16)),
    Σ' (L26 : List (View.Piece (Elt F) S1x1x1024 .f32)),
    Σ' (L27 : List (View.Piece (Elt F) S1x1024 .f32)),
    Σ' (L28 : List (View.Piece (Elt F) S1x512 .f32)),
    Σ' (L29 : List (View.Piece (Elt F) S256x512 .f32)),
    Σ' (L30 : List (View.Piece (Elt F) S1x512 .f32)),
    { L31 : List (View.Piece (Elt F) S1x512 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ (∃ d, owns (c : Thread nD τ) arg20 fullShare d)
          ∗ (∃ d, owns (c : Thread nD τ) arg21 fullShare d)
          ∗ (∃ d, owns (c : Thread nD τ) arg22 fullShare d)
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)
          ∗ (∃ d, owns (c : Thread nD τ) arg27 fullShare d)
          ∗ owns (c : Thread nD τ) arg28 fullShare x26
          ∗ owns (c : Thread nD τ) arg29 fullShare x27
          ∗ owns (c : Thread nD τ) arg30 fullShare x28
          ∗ owns (c : Thread nD τ) arg31 fullShare x29
          ∗ owns (c : Thread nD τ) arg32 fullShare x30
          ∗ owns (c : Thread nD τ) arg33 fullShare x31
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ (∃ f, arg20.view.loc (c : Thread nD τ) ↦[arg20.view.set]{fullShare} arg20.view.writes (Elt F) f L18)
          ∗ (∃ f, arg21.view.loc (c : Thread nD τ) ↦[arg21.view.set]{fullShare} arg21.view.writes (Elt F) f L19)
          ∗ (∃ f, arg22.view.loc (c : Thread nD τ) ↦[arg22.view.set]{fullShare} arg22.view.writes (Elt F) f L20)
          ∗ (∃ f, arg23.view.loc (c : Thread nD τ) ↦[arg23.view.set]{fullShare} arg23.view.writes (Elt F) f L21)
          ∗ (∃ f, arg24.view.loc (c : Thread nD τ) ↦[arg24.view.set]{fullShare} arg24.view.writes (Elt F) f L22)
          ∗ (∃ f, arg25.view.loc (c : Thread nD τ) ↦[arg25.view.set]{fullShare} arg25.view.writes (Elt F) f L23)
          ∗ (∃ f, arg26.view.loc (c : Thread nD τ) ↦[arg26.view.set]{fullShare} arg26.view.writes (Elt F) f L24)
          ∗ (∃ f, arg27.view.loc (c : Thread nD τ) ↦[arg27.view.set]{fullShare} arg27.view.writes (Elt F) f L25)
          ∗ (∃ f, arg28.view.loc (c : Thread nD τ) ↦[arg28.view.set]{fullShare} arg28.view.writes (Elt F) f L26)
          ∗ (∃ f, arg29.view.loc (c : Thread nD τ) ↦[arg29.view.set]{fullShare} arg29.view.writes (Elt F) f L27)
          ∗ (∃ f, arg30.view.loc (c : Thread nD τ) ↦[arg30.view.set]{fullShare} arg30.view.writes (Elt F) f L28)
          ∗ (∃ f, arg31.view.loc (c : Thread nD τ) ↦[arg31.view.set]{fullShare} arg31.view.writes (Elt F) f L29)
          ∗ (∃ f, arg32.view.loc (c : Thread nD τ) ↦[arg32.view.set]{fullShare} arg32.view.writes (Elt F) f L30)
          ∗ (∃ f, arg33.view.loc (c : Thread nD τ) ↦[arg33.view.set]{fullShare} arg33.view.writes (Elt F) f L31)) -∗ K ⟨⟩))
          ⊢ wp frame (wpE (defs₀ (F := F)) Variants.none c none) E (cc0_mix_out_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, ?_, ?_, ?_, ?_, ?_, ?_, ?_, ?_, ?_, ?_, ?_, ?_, fun E K => ?run⟩
  case run =>
    obtain ⟨hc0, hc1, hc2, hc3, hc4, hc5, hc6, hc7, hc8, hc9, hc10, hc11⟩ := hc
    simp only [cc0_mix_out_bwd_eq_skeleton]; unfold cc0_mix_out_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%f26, %hf26, H26⟩, ⟨%f27, %hf27, H27⟩, ⟨%f28, %hf28, H28⟩, ⟨%f29, %hf29, H29⟩, ⟨%f30, %hf30, H30⟩, ⟨%f31, %hf31, H31⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    obtain rfl := harg28.eq_unread hf26
    obtain rfl := harg29.eq_unread hf27
    obtain rfl := harg30.eq_unread hf28
    obtain rfl := harg31.eq_unread hf29
    obtain rfl := harg32.eq_unread hf30
    obtain rfl := harg33.eq_unread hf31
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31

end Cert.MixRun
-- ==== Proof.MixRunC.lean ====
module

public import proofs.«01_k».proof.Proof.Gen.Kernel4Ideal.Frame.Runs

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

/-! The core of the layer, the device, and the staging memrefs with what they hold. -/

variable (c : Dev nD) (i : grid0.Coords)
variable (arg2 : Memref sig .tc .vmem S1x4x256x128 .f32) (harg2 : arg2.IsWhole)
variable (arg3 : Memref sig .tc .vmem S1x4x256x128 .f32) (harg3 : arg3.IsWhole)
variable (arg4 : Memref sig .tc .vmem S1x4x256x128 .f32) (harg4 : arg4.IsWhole)
variable (arg5 : Memref sig .tc .vmem S1x4x256x128 .f32) (harg5 : arg5.IsWhole)
variable (arg6 : Memref sig .tc .vmem S1x4x256x128 .f32) (harg6 : arg6.IsWhole)
variable (arg7 : Memref sig .tc .vmem S1x4x256x128 .f32) (harg7 : arg7.IsWhole)
variable (arg8 : Memref sig .tc .vmem S1x256x256 .f32) (harg8 : arg8.IsWhole)
variable (arg9 : Memref sig .tc .vmem S1x256x512 .f32) (harg9 : arg9.IsWhole)
variable (arg10 : Memref sig .tc .vmem S1x256x1024 .f32) (harg10 : arg10.IsWhole)
variable (arg11 : Memref sig .tc .vmem S1x1x1024 .f32) (harg11 : arg11.IsWhole)
variable (arg12 : Memref sig .tc .vmem S1x512 .f32) (harg12 : arg12.IsWhole)
variable (arg13 : Memref sig .tc .vmem S256x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1024x1024 .bf16) (harg16 : arg16.IsWhole)
variable (arg17 : Memref sig .tc .vmem S1x1024 .f32) (harg17 : arg17.IsWhole)
variable (arg18 : Memref sig .tc .vmem S256x256 .bf16) (harg18 : arg18.IsWhole)
variable (arg19 : Memref sig .tc .vmem S1x256x1024 .f32) (harg19 : arg19.IsWhole)
variable (arg20 : Memref sig .tc .vmem S1x4x256x128 .f32) (harg20 : arg20.IsWhole)
variable (arg21 : Memref sig .tc .vmem S1x4x256x128 .f32) (harg21 : arg21.IsWhole)
variable (arg22 : Memref sig .tc .vmem S1x4x256x128 .f32) (harg22 : arg22.IsWhole)
variable (arg23 : Memref sig .tc .vmem S1x4x256x128 .f32) (harg23 : arg23.IsWhole)
variable (arg24 : Memref sig .tc .vmem S1x256x256 .f32) (harg24 : arg24.IsWhole)
variable (arg25 : Memref sig .tc .vmem S1x256x512 .f32) (harg25 : arg25.IsWhole)
variable (arg26 : Memref sig .tc .vmem S1x256x1024 .bf16) (harg26 : arg26.IsWhole)
variable (arg27 : Memref sig .tc .vmem S1x256x1024 .bf16) (harg27 : arg27.IsWhole)
variable (arg28 : Memref sig .tc .vmem S1x1x1024 .f32) (harg28 : arg28.IsWhole)
variable (arg29 : Memref sig .tc .vmem S1x1024 .f32) (harg29 : arg29.IsWhole)
variable (arg30 : Memref sig .tc .vmem S1x512 .f32) (harg30 : arg30.IsWhole)
variable (arg31 : Memref sig .tc .vmem S256x512 .f32) (harg31 : arg31.IsWhole)
variable (arg32 : Memref sig .tc .vmem S1x512 .f32) (harg32 : arg32.IsWhole)
variable (arg33 : Memref sig .tc .vmem S1x512 .f32) (harg33 : arg33.IsWhole)
variable (x0 : Vec F S1x4x256x128 .f32)
variable (x1 : Vec F S1x4x256x128 .f32)
variable (x2 : Vec F S1x4x256x128 .f32)
variable (x3 : Vec F S1x4x256x128 .f32)
variable (x4 : Vec F S1x4x256x128 .f32)
variable (x5 : Vec F S1x4x256x128 .f32)
variable (x6 : Vec F S1x256x256 .f32)
variable (x7 : Vec F S1x256x512 .f32)
variable (x8 : Vec F S1x256x1024 .f32)
variable (x9 : Vec F S1x1x1024 .f32)
variable (x10 : Vec F S1x512 .f32)
variable (x11 : Vec F S256x512 .f32)
variable (x12 : Vec F S1x512 .f32)
variable (x13 : Vec F S1x512 .f32)
variable (x14 : Vec F S1024x1024 .bf16)
variable (x15 : Vec F S1x1024 .f32)
variable (x16 : Vec F S256x256 .bf16)
variable (x17 : Vec F S1x256x1024 .f32)
variable (x27 : Vec F S1x1024 .f32)
variable (x28 : Vec F S1x512 .f32)
variable (x29 : Vec F S256x512 .f32)
variable (x30 : Vec F S1x512 .f32)
variable (x31 : Vec F S1x512 .f32)

set_option maxHeartbeats 4000000 in
/-- The body's run at the first tile of a later batch row, where the gate's accumulator is stored afresh and the others are added to: on the inputs' memrefs holding `x0` … `x17` it
    leaves them as they were and each output's memref with a list of stores, which the run finds. -/
noncomputable def runC (hc : conds0_C i) :
    Σ' (L18 : List (View.Piece (Elt F) S1x4x256x128 .f32)),
    Σ' (L19 : List (View.Piece (Elt F) S1x4x256x128 .f32)),
    Σ' (L20 : List (View.Piece (Elt F) S1x4x256x128 .f32)),
    Σ' (L21 : List (View.Piece (Elt F) S1x4x256x128 .f32)),
    Σ' (L22 : List (View.Piece (Elt F) S1x256x256 .f32)),
    Σ' (L23 : List (View.Piece (Elt F) S1x256x512 .f32)),
    Σ' (L24 : List (View.Piece (Elt F) S1x256x1024 .bf16)),
    Σ' (L25 : List (View.Piece (Elt F) S1x256x1024 .bf16)),
    Σ' (L26 : List (View.Piece (Elt F) S1x1x1024 .f32)),
    Σ' (L27 : List (View.Piece (Elt F) S1x1024 .f32)),
    Σ' (L28 : List (View.Piece (Elt F) S1x512 .f32)),
    Σ' (L29 : List (View.Piece (Elt F) S256x512 .f32)),
    Σ' (L30 : List (View.Piece (Elt F) S1x512 .f32)),
    { L31 : List (View.Piece (Elt F) S1x512 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ (∃ d, owns (c : Thread nD τ) arg20 fullShare d)
          ∗ (∃ d, owns (c : Thread nD τ) arg21 fullShare d)
          ∗ (∃ d, owns (c : Thread nD τ) arg22 fullShare d)
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)
          ∗ (∃ d, owns (c : Thread nD τ) arg27 fullShare d)
          ∗ (∃ d, owns (c : Thread nD τ) arg28 fullShare d)
          ∗ owns (c : Thread nD τ) arg29 fullShare x27
          ∗ owns (c : Thread nD τ) arg30 fullShare x28
          ∗ owns (c : Thread nD τ) arg31 fullShare x29
          ∗ owns (c : Thread nD τ) arg32 fullShare x30
          ∗ owns (c : Thread nD τ) arg33 fullShare x31
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare x14
          ∗ owns (c : Thread nD τ) arg17 fullShare x15
          ∗ owns (c : Thread nD τ) arg18 fullShare x16
          ∗ owns (c : Thread nD τ) arg19 fullShare x17
          ∗ (∃ f, arg20.view.loc (c : Thread nD τ) ↦[arg20.view.set]{fullShare} arg20.view.writes (Elt F) f L18)
          ∗ (∃ f, arg21.view.loc (c : Thread nD τ) ↦[arg21.view.set]{fullShare} arg21.view.writes (Elt F) f L19)
          ∗ (∃ f, arg22.view.loc (c : Thread nD τ) ↦[arg22.view.set]{fullShare} arg22.view.writes (Elt F) f L20)
          ∗ (∃ f, arg23.view.loc (c : Thread nD τ) ↦[arg23.view.set]{fullShare} arg23.view.writes (Elt F) f L21)
          ∗ (∃ f, arg24.view.loc (c : Thread nD τ) ↦[arg24.view.set]{fullShare} arg24.view.writes (Elt F) f L22)
          ∗ (∃ f, arg25.view.loc (c : Thread nD τ) ↦[arg25.view.set]{fullShare} arg25.view.writes (Elt F) f L23)
          ∗ (∃ f, arg26.view.loc (c : Thread nD τ) ↦[arg26.view.set]{fullShare} arg26.view.writes (Elt F) f L24)
          ∗ (∃ f, arg27.view.loc (c : Thread nD τ) ↦[arg27.view.set]{fullShare} arg27.view.writes (Elt F) f L25)
          ∗ (∃ f, arg28.view.loc (c : Thread nD τ) ↦[arg28.view.set]{fullShare} arg28.view.writes (Elt F) f L26)
          ∗ (∃ f, arg29.view.loc (c : Thread nD τ) ↦[arg29.view.set]{fullShare} arg29.view.writes (Elt F) f L27)
          ∗ (∃ f, arg30.view.loc (c : Thread nD τ) ↦[arg30.view.set]{fullShare} arg30.view.writes (Elt F) f L28)
          ∗ (∃ f, arg31.view.loc (c : Thread nD τ) ↦[arg31.view.set]{fullShare} arg31.view.writes (Elt F) f L29)
          ∗ (∃ f, arg32.view.loc (c : Thread nD τ) ↦[arg32.view.set]{fullShare} arg32.view.writes (Elt F) f L30)
          ∗ (∃ f, arg33.view.loc (c : Thread nD τ) ↦[arg33.view.set]{fullShare} arg33.view.writes (Elt F) f L31)) -∗ K ⟨⟩))
          ⊢ wp frame (wpE (defs₀ (F := F)) Variants.none c none) E (cc0_mix_out_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, ?_, ?_, ?_, ?_, ?_, ?_, ?_, ?_, ?_, ?_, ?_, ?_, fun E K => ?run⟩
  case run =>
    obtain ⟨hc0, hc1, hc2, hc3, hc4, hc5, hc6, hc7, hc8, hc9, hc10, hc11⟩ := hc
    simp only [cc0_mix_out_bwd_eq_skeleton]; unfold cc0_mix_out_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%f27, %hf27, H27⟩, ⟨%f28, %hf28, H28⟩, ⟨%f29, %hf29, H29⟩, ⟨%f30, %hf30, H30⟩, ⟨%f31, %hf31, H31⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    obtain rfl := harg29.eq_unread hf27
    obtain rfl := harg30.eq_unread hf28
    obtain rfl := harg31.eq_unread hf29
    obtain rfl := harg32.eq_unread hf30
    obtain rfl := harg33.eq_unread hf31
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31

end Cert.MixRun
-- ==== Proof.MixDats.lean ====
module

public import proofs.«01_k».proof.Proof.MixRunA
public import proofs.«01_k».proof.Proof.MixRunB
public import proofs.«01_k».proof.Proof.MixRunC

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' memrefs hold after a point. -/
structure Outs (F : FTy → Type) where
  o18 : Vec F S1x4x256x128 .f32
  o19 : Vec F S1x4x256x128 .f32
  o20 : Vec F S1x4x256x128 .f32
  o21 : Vec F S1x4x256x128 .f32
  o22 : Vec F S1x256x256 .f32
  o23 : Vec F S1x256x512 .f32
  o24 : Vec F S1x256x1024 .bf16
  o25 : Vec F S1x256x1024 .bf16
  o26 : Vec F S1x1x1024 .f32
  o27 : Vec F S1x1024 .f32
  o28 : Vec F S1x512 .f32
  o29 : Vec F S256x512 .f32
  o30 : Vec F S1x512 .f32
  o31 : Vec F S1x512 .f32

/-! ## The three cases -/

theorem condsA (t : Fin cfg0.N) (ht : t.val = 0) : conds0_A (grid0.coords t) :=
  ⟨(hcond0_0 t).mpr (by omega), fun h => absurd ((hcond0_1 t).mp h) (by omega), (hcond0_2 t).mpr (by omega), fun h => absurd ((hcond0_3 t).mp h) (by omega), (hcond0_4 t).mpr (by omega), fun h => absurd ((hcond0_5 t).mp h) (by omega), (hcond0_6 t).mpr (by omega), fun h => absurd ((hcond0_7 t).mp h) (by omega), (hcond0_8 t).mpr (by omega), fun h => absurd ((hcond0_9 t).mp h) (by omega), (hcond0_10 t).mpr (by omega), fun h => absurd ((hcond0_11 t).mp h) (by omega)⟩
theorem condsB (t : Fin cfg0.N) (ht : ¬t.val % 8 = 0) : conds0_B (grid0.coords t) :=
  ⟨fun h => absurd ((hcond0_0 t).mp h) (by omega), (hcond0_1 t).mpr (by omega), fun h => absurd ((hcond0_2 t).mp h) (by omega), (hcond0_3 t).mpr (by omega), fun h => absurd ((hcond0_4 t).mp h) (by omega), (hcond0_5 t).mpr (by omega), fun h => absurd ((hcond0_6 t).mp h) (by omega), (hcond0_7 t).mpr (by omega), fun h => absurd ((hcond0_8 t).mp h) (by omega), (hcond0_9 t).mpr (by omega), fun h => absurd ((hcond0_10 t).mp h) (by omega), (hcond0_11 t).mpr (by omega)⟩
theorem condsC (t : Fin cfg0.N) (h0 : ¬t.val = 0) (h8 : t.val % 8 = 0) : conds0_C (grid0.coords t) :=
  have hN : t.val < 32 := lt_of_lt_of_eq t.isLt (show cfg0.N = 32 from N_0)
  ⟨(hcond0_0 t).mpr (by omega), fun h => absurd ((hcond0_1 t).mp h) (by omega), fun h => absurd ((hcond0_2 t).mp h) (by omega), (hcond0_3 t).mpr (by omega), fun h => absurd ((hcond0_4 t).mp h) (by omega), (hcond0_5 t).mpr (by omega), fun h => absurd ((hcond0_6 t).mp h) (by omega), (hcond0_7 t).mpr (by omega), fun h => absurd ((hcond0_8 t).mp h) (by omega), (hcond0_9 t).mpr (by omega), fun h => absurd ((hcond0_10 t).mp h) (by omega), (hcond0_11 t).mpr (by omega)⟩

/-- The body's run at the point `t`, at the first point of the grid, where every accumulator is stored afresh. -/
abbrev atA (c : Dev nD) (t : Fin cfg0.N) (h : conds0_A (grid0.coords t)) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) h

/-- What that run leaves in the outputs' memrefs. -/
def leftA (c : Dev nD) (t : Fin cfg0.N) (h : conds0_A (grid0.coords t)) : Outs F where
  o18 := VO0_18.read (Elt F) (VO0_18.writes (Elt F) VO0_18.junk (atA m c t h).1)
  o19 := VO0_19.read (Elt F) (VO0_19.writes (Elt F) VO0_19.junk (atA m c t h).2.1)
  o20 := VO0_20.read (Elt F) (VO0_20.writes (Elt F) VO0_20.junk (atA m c t h).2.2.1)
  o21 := VO0_21.read (Elt F) (VO0_21.writes (Elt F) VO0_21.junk (atA m c t h).2.2.2.1)
  o22 := VO0_22.read (Elt F) (VO0_22.writes (Elt F) VO0_22.junk (atA m c t h).2.2.2.2.1)
  o23 := VO0_23.read (Elt F) (VO0_23.writes (Elt F) VO0_23.junk (atA m c t h).2.2.2.2.2.1)
  o24 := VO0_24.read (Elt F) (VO0_24.writes (Elt F) VO0_24.junk (atA m c t h).2.2.2.2.2.2.1)
  o25 := VO0_25.read (Elt F) (VO0_25.writes (Elt F) VO0_25.junk (atA m c t h).2.2.2.2.2.2.2.1)
  o26 := VO0_26.read (Elt F) (VO0_26.writes (Elt F) VO0_26.junk (atA m c t h).2.2.2.2.2.2.2.2.1)
  o27 := VO0_27.read (Elt F) (VO0_27.writes (Elt F) VO0_27.junk (atA m c t h).2.2.2.2.2.2.2.2.2.1)
  o28 := VO0_28.read (Elt F) (VO0_28.writes (Elt F) VO0_28.junk (atA m c t h).2.2.2.2.2.2.2.2.2.2.1)
  o29 := VO0_29.read (Elt F) (VO0_29.writes (Elt F) VO0_29.junk (atA m c t h).2.2.2.2.2.2.2.2.2.2.2.1)
  o30 := VO0_30.read (Elt F) (VO0_30.writes (Elt F) VO0_30.junk (atA m c t h).2.2.2.2.2.2.2.2.2.2.2.2.1)
  o31 := VO0_31.read (Elt F) (VO0_31.writes (Elt F) VO0_31.junk (atA m c t h).2.2.2.2.2.2.2.2.2.2.2.2.2.1)

/-- The body's run at the point `t`, inside a batch row, where every accumulator is added to. -/
abbrev atB (c : Dev nD) (t : Fin cfg0.N) (h : conds0_B (grid0.coords t)) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p.o26 p.o27 p.o28 p.o29 p.o30 p.o31 h

/-- What that run leaves in the outputs' memrefs. -/
def leftB (c : Dev nD) (t : Fin cfg0.N) (h : conds0_B (grid0.coords t)) (p : Outs F) : Outs F where
  o18 := VO0_18.read (Elt F) (VO0_18.writes (Elt F) VO0_18.junk (atB m c t h p).1)
  o19 := VO0_19.read (Elt F) (VO0_19.writes (Elt F) VO0_19.junk (atB m c t h p).2.1)
  o20 := VO0_20.read (Elt F) (VO0_20.writes (Elt F) VO0_20.junk (atB m c t h p).2.2.1)
  o21 := VO0_21.read (Elt F) (VO0_21.writes (Elt F) VO0_21.junk (atB m c t h p).2.2.2.1)
  o22 := VO0_22.read (Elt F) (VO0_22.writes (Elt F) VO0_22.junk (atB m c t h p).2.2.2.2.1)
  o23 := VO0_23.read (Elt F) (VO0_23.writes (Elt F) VO0_23.junk (atB m c t h p).2.2.2.2.2.1)
  o24 := VO0_24.read (Elt F) (VO0_24.writes (Elt F) VO0_24.junk (atB m c t h p).2.2.2.2.2.2.1)
  o25 := VO0_25.read (Elt F) (VO0_25.writes (Elt F) VO0_25.junk (atB m c t h p).2.2.2.2.2.2.2.1)
  o26 := VO0_26.read (Elt F) (VO0_26.writes (Elt F) VO0_26.junk (atB m c t h p).2.2.2.2.2.2.2.2.1)
  o27 := VO0_27.read (Elt F) (VO0_27.writes (Elt F) VO0_27.junk (atB m c t h p).2.2.2.2.2.2.2.2.2.1)
  o28 := VO0_28.read (Elt F) (VO0_28.writes (Elt F) VO0_28.junk (atB m c t h p).2.2.2.2.2.2.2.2.2.2.1)
  o29 := VO0_29.read (Elt F) (VO0_29.writes (Elt F) VO0_29.junk (atB m c t h p).2.2.2.2.2.2.2.2.2.2.2.1)
  o30 := VO0_30.read (Elt F) (VO0_30.writes (Elt F) VO0_30.junk (atB m c t h p).2.2.2.2.2.2.2.2.2.2.2.2.1)
  o31 := VO0_31.read (Elt F) (VO0_31.writes (Elt F) VO0_31.junk (atB m c t h p).2.2.2.2.2.2.2.2.2.2.2.2.2.1)

/-- The body's run at the point `t`, at the first tile of a later batch row, where the gate's accumulator is stored afresh and the others are added to. -/
abbrev atC (c : Dev nD) (t : Fin cfg0.N) (h : conds0_C (grid0.coords t)) (p : Outs F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p.o27 p.o28 p.o29 p.o30 p.o31 h

/-- What that run leaves in the outputs' memrefs. -/
def leftC (c : Dev nD) (t : Fin cfg0.N) (h : conds0_C (grid0.coords t)) (p : Outs F) : Outs F where
  o18 := VO0_18.read (Elt F) (VO0_18.writes (Elt F) VO0_18.junk (atC m c t h p).1)
  o19 := VO0_19.read (Elt F) (VO0_19.writes (Elt F) VO0_19.junk (atC m c t h p).2.1)
  o20 := VO0_20.read (Elt F) (VO0_20.writes (Elt F) VO0_20.junk (atC m c t h p).2.2.1)
  o21 := VO0_21.read (Elt F) (VO0_21.writes (Elt F) VO0_21.junk (atC m c t h p).2.2.2.1)
  o22 := VO0_22.read (Elt F) (VO0_22.writes (Elt F) VO0_22.junk (atC m c t h p).2.2.2.2.1)
  o23 := VO0_23.read (Elt F) (VO0_23.writes (Elt F) VO0_23.junk (atC m c t h p).2.2.2.2.2.1)
  o24 := VO0_24.read (Elt F) (VO0_24.writes (Elt F) VO0_24.junk (atC m c t h p).2.2.2.2.2.2.1)
  o25 := VO0_25.read (Elt F) (VO0_25.writes (Elt F) VO0_25.junk (atC m c t h p).2.2.2.2.2.2.2.1)
  o26 := VO0_26.read (Elt F) (VO0_26.writes (Elt F) VO0_26.junk (atC m c t h p).2.2.2.2.2.2.2.2.1)
  o27 := VO0_27.read (Elt F) (VO0_27.writes (Elt F) VO0_27.junk (atC m c t h p).2.2.2.2.2.2.2.2.2.1)
  o28 := VO0_28.read (Elt F) (VO0_28.writes (Elt F) VO0_28.junk (atC m c t h p).2.2.2.2.2.2.2.2.2.2.1)
  o29 := VO0_29.read (Elt F) (VO0_29.writes (Elt F) VO0_29.junk (atC m c t h p).2.2.2.2.2.2.2.2.2.2.2.1)
  o30 := VO0_30.read (Elt F) (VO0_30.writes (Elt F) VO0_30.junk (atC m c t h p).2.2.2.2.2.2.2.2.2.2.2.2.1)
  o31 := VO0_31.read (Elt F) (VO0_31.writes (Elt F) VO0_31.junk (atC m c t h p).2.2.2.2.2.2.2.2.2.2.2.2.2.1)

/-- What the outputs' memrefs hold after each point. -/
def outsAt (c : Dev nD) : (n : ℕ) → n < cfg0.N → Outs F
  | 0, h => leftA m c ⟨0, h⟩ (condsA ⟨0, h⟩ rfl)
  | n + 1, h =>
    if h8 : (n + 1) % 8 = 0 then leftC m c ⟨n + 1, h⟩ (condsC ⟨n + 1, h⟩ (Nat.succ_ne_zero n) h8) (outsAt c n (Nat.lt_of_succ_lt h))
    else leftB m c ⟨n + 1, h⟩ (condsB ⟨n + 1, h⟩ h8) (outsAt c n (Nat.lt_of_succ_lt h))

/-- What the point before left. -/
abbrev prev (c : Dev nD) (t : Fin cfg0.N) : Outs F := outsAt m c (t.val - 1) (Nat.lt_of_le_of_lt (Nat.sub_le _ _) t.isLt)

theorem outsAt_A (c : Dev nD) (t : Fin cfg0.N) (ht : t.val = 0) : outsAt m c t.val t.isLt = leftA m c t (condsA t ht) := by
  obtain ⟨n, hn⟩ := t
  cases n with
  | zero => rfl
  | succ n => exact absurd ht (Nat.succ_ne_zero n)
theorem outsAt_B (c : Dev nD) (t : Fin cfg0.N) (ht : ¬t.val % 8 = 0) : outsAt m c t.val t.isLt = leftB m c t (condsB t ht) (prev m c t) := by
  obtain ⟨n, hn⟩ := t
  cases n with
  | zero => exact absurd (Nat.zero_mod 8) ht
  | succ n => exact dif_neg ht
theorem outsAt_C (c : Dev nD) (t : Fin cfg0.N) (h0 : ¬t.val = 0) (h8 : t.val % 8 = 0) :
    outsAt m c t.val t.isLt = leftC m c t (condsC t h0 h8) (prev m c t) := by
  obtain ⟨n, hn⟩ := t
  cases n with
  | zero => exact absurd rfl h0
  | succ n => exact dif_pos h8

/-! ## The pipeline's data -/

/-- The arrays as the region finds them; after a point each input's memref at its block, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).o18
    | ⟨19, _⟩ => (outsAt m c t.val t.isLt).o19
    | ⟨20, _⟩ => (outsAt m c t.val t.isLt).o20
    | ⟨21, _⟩ => (outsAt m c t.val t.isLt).o21
    | ⟨22, _⟩ => (outsAt m c t.val t.isLt).o22
    | ⟨23, _⟩ => (outsAt m c t.val t.isLt).o23
    | ⟨24, _⟩ => (outsAt m c t.val t.isLt).o24
    | ⟨25, _⟩ => (outsAt m c t.val t.isLt).o25
    | ⟨26, _⟩ => (outsAt m c t.val t.isLt).o26
    | ⟨27, _⟩ => (outsAt m c t.val t.isLt).o27
    | ⟨28, _⟩ => (outsAt m c t.val t.isLt).o28
    | ⟨29, _⟩ => (outsAt m c t.val t.isLt).o29
    | ⟨30, _⟩ => (outsAt m c t.val t.isLt).o30
    | ⟨31, _⟩ => (outsAt m c t.val t.isLt).o31
    | ⟨_ + 32, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = (outsAt m c t.val t.isLt).o18 := by dsimp only [dats]
theorem after19 (c : Dev nD) (t : Fin cfg0.N) : (dats m 0 c).after 19 t = (outsAt m c t.val t.isLt).o19 := by dsimp only [dats]
theorem after20 (c : Dev nD) (t : Fin cfg0.N) : (dats m 0 c).after 20 t = (outsAt m c t.val t.isLt).o20 := by dsimp only [dats]
theorem after21 (c : Dev nD) (t : Fin cfg0.N) : (dats m 0 c).after 21 t = (outsAt m c t.val t.isLt).o21 := by dsimp only [dats]
theorem after22 (c : Dev nD) (t : Fin cfg0.N) : (dats m 0 c).after 22 t = (outsAt m c t.val t.isLt).o22 := by dsimp only [dats]
theorem after23 (c : Dev nD) (t : Fin cfg0.N) : (dats m 0 c).after 23 t = (outsAt m c t.val t.isLt).o23 := by dsimp only [dats]
theorem after24 (c : Dev nD) (t : Fin cfg0.N) : (dats m 0 c).after 24 t = (outsAt m c t.val t.isLt).o24 := by dsimp only [dats]
theorem after25 (c : Dev nD) (t : Fin cfg0.N) : (dats m 0 c).after 25 t = (outsAt m c t.val t.isLt).o25 := by dsimp only [dats]
theorem after26 (c : Dev nD) (t : Fin cfg0.N) : (dats m 0 c).after 26 t = (outsAt m c t.val t.isLt).o26 := by dsimp only [dats]
theorem after27 (c : Dev nD) (t : Fin cfg0.N) : (dats m 0 c).after 27 t = (outsAt m c t.val t.isLt).o27 := by dsimp only [dats]
theorem after28 (c : Dev nD) (t : Fin cfg0.N) : (dats m 0 c).after 28 t = (outsAt m c t.val t.isLt).o28 := by dsimp only [dats]
theorem after29 (c : Dev nD) (t : Fin cfg0.N) : (dats m 0 c).after 29 t = (outsAt m c t.val t.isLt).o29 := by dsimp only [dats]
theorem after30 (c : Dev nD) (t : Fin cfg0.N) : (dats m 0 c).after 30 t = (outsAt m c t.val t.isLt).o30 := by dsimp only [dats]
theorem after31 (c : Dev nD) (t : Fin cfg0.N) : (dats m 0 c).after 31 t = (outsAt m c t.val t.isLt).o31 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d

/-- No point leaves the accumulator 26 alone. -/
theorem live26 : ∀ t : Fin cfg0.N, cfg0.idle 26 (grid0.coords t) = false := by decide +kernel
theorem kept26 : ∀ t : Fin cfg0.N, ¬t.val % 8 = 0 → cfg0.fresh 26 t.val = false := by
  intro t; rw [fresh0_26_eq t]; revert t; decide +kernel
/-- Where it is added to, it holds what the point before left. -/
theorem before26 (c : Dev nD) (t : Fin cfg0.N) (ht : ¬t.val % 8 = 0) (d) : (dats m 0 c).before 26 t d = (prev m c t).o26 := by
  rw [Dat.before_out_traj _ 26 rfl (fun _ _ => rfl) (fun t _ hi _ => absurd hi (by rw [show cfg0.idle 26 (grid0.coords t) = false from live26 t]; exact Bool.false_ne_true)) t.val t rfl d,
    if_neg (by rw [kept26 t ht]; exact Bool.false_ne_true)]
  dsimp only [dats]

/-- No point leaves the accumulator 27 alone. -/
theorem live27 : ∀ t : Fin cfg0.N, cfg0.idle 27 (grid0.coords t) = false := by decide +kernel
theorem kept27 : ∀ t : Fin cfg0.N, ¬t.val = 0 → cfg0.fresh 27 t.val = false := by
  intro t; rw [fresh0_27_eq t]; revert t; decide +kernel
/-- Where it is added to, it holds what the point before left. -/
theorem before27 (c : Dev nD) (t : Fin cfg0.N) (ht : ¬t.val = 0) (d) : (dats m 0 c).before 27 t d = (prev m c t).o27 := by
  rw [Dat.before_out_traj _ 27 rfl (fun _ _ => rfl) (fun t _ hi _ => absurd hi (by rw [show cfg0.idle 27 (grid0.coords t) = false from live27 t]; exact Bool.false_ne_true)) t.val t rfl d,
    if_neg (by rw [kept27 t ht]; exact Bool.false_ne_true)]
  dsimp only [dats]

/-- No point leaves the accumulator 28 alone. -/
theorem live28 : ∀ t : Fin cfg0.N, cfg0.idle 28 (grid0.coords t) = false := by decide +kernel
theorem kept28 : ∀ t : Fin cfg0.N, ¬t.val = 0 → cfg0.fresh 28 t.val = false := by
  intro t; rw [fresh0_28_eq t]; revert t; decide +kernel
/-- Where it is added to, it holds what the point before left. -/
theorem before28 (c : Dev nD) (t : Fin cfg0.N) (ht : ¬t.val = 0) (d) : (dats m 0 c).before 28 t d = (prev m c t).o28 := by
  rw [Dat.before_out_traj _ 28 rfl (fun _ _ => rfl) (fun t _ hi _ => absurd hi (by rw [show cfg0.idle 28 (grid0.coords t) = false from live28 t]; exact Bool.false_ne_true)) t.val t rfl d,
    if_neg (by rw [kept28 t ht]; exact Bool.false_ne_true)]
  dsimp only [dats]

/-- No point leaves the accumulator 29 alone. -/
theorem live29 : ∀ t : Fin cfg0.N, cfg0.idle 29 (grid0.coords t) = false := by decide +kernel
theorem kept29 : ∀ t : Fin cfg0.N, ¬t.val = 0 → cfg0.fresh 29 t.val = false := by
  intro t; rw [fresh0_29_eq t]; revert t; decide +kernel
/-- Where it is added to, it holds what the point before left. -/
theorem before29 (c : Dev nD) (t : Fin cfg0.N) (ht : ¬t.val = 0) (d) : (dats m 0 c).before 29 t d = (prev m c t).o29 := by
  rw [Dat.before_out_traj _ 29 rfl (fun _ _ => rfl) (fun t _ hi _ => absurd hi (by rw [show cfg0.idle 29 (grid0.coords t) = false from live29 t]; exact Bool.false_ne_true)) t.val t rfl d,
    if_neg (by rw [kept29 t ht]; exact Bool.false_ne_true)]
  dsimp only [dats]

/-- No point leaves the accumulator 30 alone. -/
theorem live30 : ∀ t : Fin cfg0.N, cfg0.idle 30 (grid0.coords t) = false := by decide +kernel
theorem kept30 : ∀ t : Fin cfg0.N, ¬t.val = 0 → cfg0.fresh 30 t.val = false := by
  intro t; rw [fresh0_30_eq t]; revert t; decide +kernel
/-- Where it is added to, it holds what the point before left. -/
theorem before30 (c : Dev nD) (t : Fin cfg0.N) (ht : ¬t.val = 0) (d) : (dats m 0 c).before 30 t d = (prev m c t).o30 := by
  rw [Dat.before_out_traj _ 30 rfl (fun _ _ => rfl) (fun t _ hi _ => absurd hi (by rw [show cfg0.idle 30 (grid0.coords t) = false from live30 t]; exact Bool.false_ne_true)) t.val t rfl d,
    if_neg (by rw [kept30 t ht]; exact Bool.false_ne_true)]
  dsimp only [dats]

/-- No point leaves the accumulator 31 alone. -/
theorem live31 : ∀ t : Fin cfg0.N, cfg0.idle 31 (grid0.coords t) = false := by decide +kernel
theorem kept31 : ∀ t : Fin cfg0.N, ¬t.val = 0 → cfg0.fresh 31 t.val = false := by
  intro t; rw [fresh0_31_eq t]; revert t; decide +kernel
/-- Where it is added to, it holds what the point before left. -/
theorem before31 (c : Dev nD) (t : Fin cfg0.N) (ht : ¬t.val = 0) (d) : (dats m 0 c).before 31 t d = (prev m c t).o31 := by
  rw [Dat.before_out_traj _ 31 rfl (fun _ _ => rfl) (fun t _ hi _ => absurd hi (by rw [show cfg0.idle 31 (grid0.coords t) = false from live31 t]; exact Bool.false_ne_true)) t.val t rfl d,
    if_neg (by rw [kept31 t ht]; exact Bool.false_ne_true)]
  dsimp only [dats]

theorem leaves0 (c : Dev nD) (t : Fin cfg0.N) : (dats m 0 c).leavesExact 0 t = owns (c : Thread nD τ) (ms0_0 t) fullShare (iblk m c 0 t) := by
  unfold Dat.leavesExact; rw [liveAt0_0 t, after0]
theorem leaves1 (c : Dev nD) (t : Fin cfg0.N) : (dats m 0 c).leavesExact 1 t = owns (c : Thread nD τ) (ms0_1 t) fullShare (iblk m c 1 t) := by
  unfold Dat.leavesExact; rw [liveAt0_1 t, after1]
theorem leaves2 (c : Dev nD) (t : Fin cfg0.N) : (dats m 0 c).leavesExact 2 t = owns (c : Thread nD τ) (ms0_2 t) fullShare (iblk m c 2 t) := by
  unfold Dat.leavesExact; rw [liveAt0_2 t, after2]
theorem leaves3 (c : Dev nD) (t : Fin cfg0.N) : (dats m 0 c).leavesExact 3 t = owns (c : Thread nD τ) (ms0_3 t) fullShare (iblk m c 3 t) := by
  unfold Dat.leavesExact; rw [liveAt0_3 t, after3]
theorem leaves4 (c : Dev nD) (t : Fin cfg0.N) : (dats m 0 c).leavesExact 4 t = owns (c : Thread nD τ) (ms0_4 t) fullShare (iblk m c 4 t) := by
  unfold Dat.leavesExact; rw [liveAt0_4 t, after4]
theorem leaves5 (c : Dev nD) (t : Fin cfg0.N) : (dats m 0 c).leavesExact 5 t = owns (c : Thread nD τ) (ms0_5 t) fullShare (iblk m c 5 t) := by
  unfold Dat.leavesExact; rw [liveAt0_5 t, after5]
theorem leaves6 (c : Dev nD) (t : Fin cfg0.N) : (dats m 0 c).leavesExact 6 t = owns (c : Thread nD τ) (ms0_6 t) fullShare (iblk m c 6 t) := by
  unfold Dat.leavesExact; rw [liveAt0_6 t, after6]
theorem leaves7 (c : Dev nD) (t : Fin cfg0.N) : (dats m 0 c).leavesExact 7 t = owns (c : Thread nD τ) (ms0_7 t) fullShare (iblk m c 7 t) := by
  unfold Dat.leavesExact; rw [liveAt0_7 t, after7]
theorem leaves8 (c : Dev nD) (t : Fin cfg0.N) : (dats m 0 c).leavesExact 8 t = owns (c : Thread nD τ) (ms0_8 t) fullShare (iblk m c 8 t) := by
  unfold Dat.leavesExact; rw [liveAt0_8 t, after8]
theorem leaves9 (c : Dev nD) (t : Fin cfg0.N) : (dats m 0 c).leavesExact 9 t = owns (c : Thread nD τ) (ms0_9 t) fullShare (iblk m c 9 t) := by
  unfold Dat.leavesExact; rw [liveAt0_9 t, after9]
theorem leaves10 (c : Dev nD) (t : Fin cfg0.N) : (dats m 0 c).leavesExact 10 t = owns (c : Thread nD τ) (ms0_10 t) fullShare (iblk m c 10 t) := by
  unfold Dat.leavesExact; rw [liveAt0_10 t, after10]
theorem leaves11 (c : Dev nD) (t : Fin cfg0.N) : (dats m 0 c).leavesExact 11 t = owns (c : Thread nD τ) (ms0_11 t) fullShare (iblk m c 11 t) := by
  unfold Dat.leavesExact; rw [liveAt0_11 t, after11]
theorem leaves12 (c : Dev nD) (t : Fin cfg0.N) : (dats m 0 c).leavesExact 12 t = owns (c : Thread nD τ) (ms0_12 t) fullShare (iblk m c 12 t) := by
  unfold Dat.leavesExact; rw [liveAt0_12 t, after12]
theorem leaves13 (c : Dev nD) (t : Fin cfg0.N) : (dats m 0 c).leavesExact 13 t = owns (c : Thread nD τ) (ms0_13 t) fullShare (iblk m c 13 t) := by
  unfold Dat.leavesExact; rw [liveAt0_13 t, after13]
theorem leaves14 (c : Dev nD) (t : Fin cfg0.N) : (dats m 0 c).leavesExact 14 t = owns (c : Thread nD τ) (ms0_14 t) fullShare (iblk m c 14 t) := by
  unfold Dat.leavesExact; rw [liveAt0_14 t, after14]
theorem leaves15 (c : Dev nD) (t : Fin cfg0.N) : (dats m 0 c).leavesExact 15 t = owns (c : Thread nD τ) (ms0_15 t) fullShare (iblk m c 15 t) := by
  unfold Dat.leavesExact; rw [liveAt0_15 t, after15]
theorem leaves16 (c : Dev nD) (t : Fin cfg0.N) : (dats m 0 c).leavesExact 16 t = owns (c : Thread nD τ) (ms0_16 t) fullShare (iblk m c 16 t) := by
  unfold Dat.leavesExact; rw [liveAt0_16 t, after16]
theorem leaves17 (c : Dev nD) (t : Fin cfg0.N) : (dats m 0 c).leavesExact 17 t = owns (c : Thread nD τ) (ms0_17 t) fullShare (iblk m c 17 t) := by
  unfold Dat.leavesExact; rw [liveAt0_17 t, after17]
theorem leaves18 (c : Dev nD) (t : Fin cfg0.N) : (dats m 0 c).leavesExact 18 t = owns (c : Thread nD τ) (ms0_18 t) fullShare ((outsAt m c t.val t.isLt).o18) := by
  unfold Dat.leavesExact; rw [liveAt0_18 t, after18]
theorem leaves19 (c : Dev nD) (t : Fin cfg0.N) : (dats m 0 c).leavesExact 19 t = owns (c : Thread nD τ) (ms0_19 t) fullShare ((outsAt m c t.val t.isLt).o19) := by
  unfold Dat.leavesExact; rw [liveAt0_19 t, after19]
theorem leaves20 (c : Dev nD) (t : Fin cfg0.N) : (dats m 0 c).leavesExact 20 t = owns (c : Thread nD τ) (ms0_20 t) fullShare ((outsAt m c t.val t.isLt).o20) := by
  unfold Dat.leavesExact; rw [liveAt0_20 t, after20]
theorem leaves21 (c : Dev nD) (t : Fin cfg0.N) : (dats m 0 c).leavesExact 21 t = owns (c : Thread nD τ) (ms0_21 t) fullShare ((outsAt m c t.val t.isLt).o21) := by
  unfold Dat.leavesExact; rw [liveAt0_21 t, after21]
theorem leaves22 (c : Dev nD) (t : Fin cfg0.N) : (dats m 0 c).leavesExact 22 t = owns (c : Thread nD τ) (ms0_22 t) fullShare ((outsAt m c t.val t.isLt).o22) := by
  unfold Dat.leavesExact; rw [liveAt0_22 t, after22]
theorem leaves23 (c : Dev nD) (t : Fin cfg0.N) : (dats m 0 c).leavesExact 23 t = owns (c : Thread nD τ) (ms0_23 t) fullShare ((outsAt m c t.val t.isLt).o23) := by
  unfold Dat.leavesExact; rw [liveAt0_23 t, after23]
theorem leaves24 (c : Dev nD) (t : Fin cfg0.N) : (dats m 0 c).leavesExact 24 t = owns (c : Thread nD τ) (ms0_24 t) fullShare ((outsAt m c t.val t.isLt).o24) := by
  unfold Dat.leavesExact; rw [liveAt0_24 t, after24]
theorem leaves25 (c : Dev nD) (t : Fin cfg0.N) : (dats m 0 c).leavesExact 25 t = owns (c : Thread nD τ) (ms0_25 t) fullShare ((outsAt m c t.val t.isLt).o25) := by
  unfold Dat.leavesExact; rw [liveAt0_25 t, after25]
theorem leaves26 (c : Dev nD) (t : Fin cfg0.N) : (dats m 0 c).leavesExact 26 t = owns (c : Thread nD τ) (ms0_26 t) fullShare ((outsAt m c t.val t.isLt).o26) := by
  unfold Dat.leavesExact; rw [live26 t, after26]
theorem leaves27 (c : Dev nD) (t : Fin cfg0.N) : (dats m 0 c).leavesExact 27 t = owns (c : Thread nD τ) (ms0_27 t) fullShare ((outsAt m c t.val t.isLt).o27) := by
  unfold Dat.leavesExact; rw [live27 t, after27]
theorem leaves28 (c : Dev nD) (t : Fin cfg0.N) : (dats m 0 c).leavesExact 28 t = owns (c : Thread nD τ) (ms0_28 t) fullShare ((outsAt m c t.val t.isLt).o28) := by
  unfold Dat.leavesExact; rw [live28 t, after28]
theorem leaves29 (c : Dev nD) (t : Fin cfg0.N) : (dats m 0 c).leavesExact 29 t = owns (c : Thread nD τ) (ms0_29 t) fullShare ((outsAt m c t.val t.isLt).o29) := by
  unfold Dat.leavesExact; rw [live29 t, after29]
theorem leaves30 (c : Dev nD) (t : Fin cfg0.N) : (dats m 0 c).leavesExact 30 t = owns (c : Thread nD τ) (ms0_30 t) fullShare ((outsAt m c t.val t.isLt).o30) := by
  unfold Dat.leavesExact; rw [live30 t, after30]
theorem leaves31 (c : Dev nD) (t : Fin cfg0.N) : (dats m 0 c).leavesExact 31 t = owns (c : Thread nD τ) (ms0_31 t) fullShare ((outsAt m c t.val t.isLt).o31) := by
  unfold Dat.leavesExact; rw [live31 t, after31]

/-- What a point hands the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- What the body hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t)

end Cert.MixRun
-- ==== Proof.MixBodyA.lean ====
module

public import proofs.«01_k».proof.Proof.MixDats

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ)

/-! The stores that the run at the first point of the grid, where every accumulator is stored afresh
    finds cover each output's block. -/

theorem coverA18 (c : Dev nD) (t : Fin cfg0.N) (h : conds0_A (grid0.coords t)) (y : S1x4x256x128.Idx) :
    ∃ pc ∈ (atA m c t h).1, y ∈ pc.1.set :=
  View.cover_of_tiledL (atA m c t h).1 S1x1x256x128.size (by sl_kernel_rfl) y
theorem coverA19 (c : Dev nD) (t : Fin cfg0.N) (h : conds0_A (grid0.coords t)) (y : S1x4x256x128.Idx) :
    ∃ pc ∈ (atA m c t h).2.1, y ∈ pc.1.set :=
  View.cover_of_tiledL (atA m c t h).2.1 S1x1x256x128.size (by sl_kernel_rfl) y
theorem coverA20 (c : Dev nD) (t : Fin cfg0.N) (h : conds0_A (grid0.coords t)) (y : S1x4x256x128.Idx) :
    ∃ pc ∈ (atA m c t h).2.2.1, y ∈ pc.1.set :=
  View.cover_of_tiledL (atA m c t h).2.2.1 S1x1x256x128.size (by sl_kernel_rfl) y
theorem coverA21 (c : Dev nD) (t : Fin cfg0.N) (h : conds0_A (grid0.coords t)) (y : S1x4x256x128.Idx) :
    ∃ pc ∈ (atA m c t h).2.2.2.1, y ∈ pc.1.set :=
  View.cover_of_tiledL (atA m c t h).2.2.2.1 S1x1x256x128.size (by sl_kernel_rfl) y
theorem coverA22 (c : Dev nD) (t : Fin cfg0.N) (h : conds0_A (grid0.coords t)) (y : S1x256x256.Idx) :
    ∃ pc ∈ (atA m c t h).2.2.2.2.1, y ∈ pc.1.set :=
  View.cover_of_tiledL (atA m c t h).2.2.2.2.1 S1x256x256.size (by sl_kernel_rfl) y
theorem coverA23 (c : Dev nD) (t : Fin cfg0.N) (h : conds0_A (grid0.coords t)) (y : S1x256x512.Idx) :
    ∃ pc ∈ (atA m c t h).2.2.2.2.2.1, y ∈ pc.1.set :=
  View.cover_of_tiledL (atA m c t h).2.2.2.2.2.1 S1x256x512.size (by sl_kernel_rfl) y
theorem coverA24 (c : Dev nD) (t : Fin cfg0.N) (h : conds0_A (grid0.coords t)) (y : S1x256x1024.Idx) :
    ∃ pc ∈ (atA m c t h).2.2.2.2.2.2.1, y ∈ pc.1.set :=
  View.cover_of_tiledL (atA m c t h).2.2.2.2.2.2.1 S1x256x1024.size (by sl_kernel_rfl) y
theorem coverA25 (c : Dev nD) (t : Fin cfg0.N) (h : conds0_A (grid0.coords t)) (y : S1x256x1024.Idx) :
    ∃ pc ∈ (atA m c t h).2.2.2.2.2.2.2.1, y ∈ pc.1.set :=
  View.cover_of_tiledL (atA m c t h).2.2.2.2.2.2.2.1 S1x256x1024.size (by sl_kernel_rfl) y
theorem coverA26 (c : Dev nD) (t : Fin cfg0.N) (h : conds0_A (grid0.coords t)) (y : S1x1x1024.Idx) :
    ∃ pc ∈ (atA m c t h).2.2.2.2.2.2.2.2.1, y ∈ pc.1.set :=
  View.cover_of_tiledL (atA m c t h).2.2.2.2.2.2.2.2.1 S1x1x1024.size (by sl_kernel_rfl) y
theorem coverA27 (c : Dev nD) (t : Fin cfg0.N) (h : conds0_A (grid0.coords t)) (y : S1x1024.Idx) :
    ∃ pc ∈ (atA m c t h).2.2.2.2.2.2.2.2.2.1, y ∈ pc.1.set :=
  View.cover_of_tiledL (atA m c t h).2.2.2.2.2.2.2.2.2.1 S1x1024.size (by sl_kernel_rfl) y
theorem coverA28 (c : Dev nD) (t : Fin cfg0.N) (h : conds0_A (grid0.coords t)) (y : S1x512.Idx) :
    ∃ pc ∈ (atA m c t h).2.2.2.2.2.2.2.2.2.2.1, y ∈ pc.1.set :=
  View.cover_of_tiledL (atA m c t h).2.2.2.2.2.2.2.2.2.2.1 S1x512.size (by sl_kernel_rfl) y
theorem coverA29 (c : Dev nD) (t : Fin cfg0.N) (h : conds0_A (grid0.coords t)) (y : S256x512.Idx) :
    ∃ pc ∈ (atA m c t h).2.2.2.2.2.2.2.2.2.2.2.1, y ∈ pc.1.set :=
  View.cover_of_tiledL (atA m c t h).2.2.2.2.2.2.2.2.2.2.2.1 S256x512.size (by sl_kernel_rfl) y
theorem coverA30 (c : Dev nD) (t : Fin cfg0.N) (h : conds0_A (grid0.coords t)) (y : S1x512.Idx) :
    ∃ pc ∈ (atA m c t h).2.2.2.2.2.2.2.2.2.2.2.2.1, y ∈ pc.1.set :=
  View.cover_of_tiledL (atA m c t h).2.2.2.2.2.2.2.2.2.2.2.2.1 S1x512.size (by sl_kernel_rfl) y
theorem coverA31 (c : Dev nD) (t : Fin cfg0.N) (h : conds0_A (grid0.coords t)) (y : S1x512.Idx) :
    ∃ pc ∈ (atA m c t h).2.2.2.2.2.2.2.2.2.2.2.2.2.1, y ∈ pc.1.set :=
  View.cover_of_tiledL (atA m c t h).2.2.2.2.2.2.2.2.2.2.2.2.2.1 S1x512.size (by sl_kernel_rfl) y

set_option maxHeartbeats 9600000 in
/-- The body's triple at the first point of the grid, where every accumulator is stored afresh. -/
theorem bodyA (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, leaves9, leaves10, leaves11, leaves12, leaves13, leaves14, leaves15, leaves16, leaves17, leaves18, leaves19, leaves20, leaves21, leaves22, leaves23, leaves24, leaves25, leaves26, leaves27, leaves28, leaves29, leaves30, leaves31]
  rw [outsAt_A m c t ht]
  dsimp only [leftA]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((atA m c t (condsA t ht)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (coverA18 m c t _)
  isplitl [H19]
  · unfold owns; iexists _; isplitr
    swap; · iexact H19
    ipureintro; exact View.read_writes_of_cover _ _ _ _ _ (coverA19 m c t _)
  isplitl [H20]
  · unfold owns; iexists _; isplitr
    swap; · iexact H20
    ipureintro; exact View.read_writes_of_cover _ _ _ _ _ (coverA20 m c t _)
  isplitl [H21]
  · unfold owns; iexists _; isplitr
    swap; · iexact H21
    ipureintro; exact View.read_writes_of_cover _ _ _ _ _ (coverA21 m c t _)
  isplitl [H22]
  · unfold owns; iexists _; isplitr
    swap; · iexact H22
    ipureintro; exact View.read_writes_of_cover _ _ _ _ _ (coverA22 m c t _)
  isplitl [H23]
  · unfold owns; iexists _; isplitr
    swap; · iexact H23
    ipureintro; exact View.read_writes_of_cover _ _ _ _ _ (coverA23 m c t _)
  isplitl [H24]
  · unfold owns; iexists _; isplitr
    swap; · iexact H24
    ipureintro; exact View.read_writes_of_cover _ _ _ _ _ (coverA24 m c t _)
  isplitl [H25]
  · unfold owns; iexists _; isplitr
    swap; · iexact H25
    ipureintro; exact View.read_writes_of_cover _ _ _ _ _ (coverA25 m c t _)
  isplitl [H26]
  · unfold owns; iexists _; isplitr
    swap; · iexact H26
    ipureintro; exact View.read_writes_of_cover _ _ _ _ _ (coverA26 m c t _)
  isplitl [H27]
  · unfold owns; iexists _; isplitr
    swap; · iexact H27
    ipureintro; exact View.read_writes_of_cover _ _ _ _ _ (coverA27 m c t _)
  isplitl [H28]
  · unfold owns; iexists _; isplitr
    swap; · iexact H28
    ipureintro; exact View.read_writes_of_cover _ _ _ _ _ (coverA28 m c t _)
  isplitl [H29]
  · unfold owns; iexists _; isplitr
    swap; · iexact H29
    ipureintro; exact View.read_writes_of_cover _ _ _ _ _ (coverA29 m c t _)
  isplitl [H30]
  · unfold owns; iexists _; isplitr
    swap; · iexact H30
    ipureintro; exact View.read_writes_of_cover _ _ _ _ _ (coverA30 m c t _)
  unfold owns; iexists _; isplitr
  swap; · iexact H31
  ipureintro; exact View.read_writes_of_cover _ _ _ _ _ (coverA31 m c t _)

end Cert.MixRun
-- ==== Proof.MixBodyB.lean ====
module

public import proofs.«01_k».proof.Proof.MixDats

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ)

/-! The stores that the run inside a batch row, where every accumulator is added to
    finds cover each output's block. -/

theorem coverB18 (c : Dev nD) (t : Fin cfg0.N) (h : conds0_B (grid0.coords t)) (p : Outs F) (y : S1x4x256x128.Idx) :
    ∃ pc ∈ (atB m c t h p).1, y ∈ pc.1.set :=
  View.cover_of_tiledL (atB m c t h p).1 S1x1x256x128.size (by sl_kernel_rfl) y
theorem coverB19 (c : Dev nD) (t : Fin cfg0.N) (h : conds0_B (grid0.coords t)) (p : Outs F) (y : S1x4x256x128.Idx) :
    ∃ pc ∈ (atB m c t h p).2.1, y ∈ pc.1.set :=
  View.cover_of_tiledL (atB m c t h p).2.1 S1x1x256x128.size (by sl_kernel_rfl) y
theorem coverB20 (c : Dev nD) (t : Fin cfg0.N) (h : conds0_B (grid0.coords t)) (p : Outs F) (y : S1x4x256x128.Idx) :
    ∃ pc ∈ (atB m c t h p).2.2.1, y ∈ pc.1.set :=
  View.cover_of_tiledL (atB m c t h p).2.2.1 S1x1x256x128.size (by sl_kernel_rfl) y
theorem coverB21 (c : Dev nD) (t : Fin cfg0.N) (h : conds0_B (grid0.coords t)) (p : Outs F) (y : S1x4x256x128.Idx) :
    ∃ pc ∈ (atB m c t h p).2.2.2.1, y ∈ pc.1.set :=
  View.cover_of_tiledL (atB m c t h p).2.2.2.1 S1x1x256x128.size (by sl_kernel_rfl) y
theorem coverB22 (c : Dev nD) (t : Fin cfg0.N) (h : conds0_B (grid0.coords t)) (p : Outs F) (y : S1x256x256.Idx) :
    ∃ pc ∈ (atB m c t h p).2.2.2.2.1, y ∈ pc.1.set :=
  View.cover_of_tiledL (atB m c t h p).2.2.2.2.1 S1x256x256.size (by sl_kernel_rfl) y
theorem coverB23 (c : Dev nD) (t : Fin cfg0.N) (h : conds0_B (grid0.coords t)) (p : Outs F) (y : S1x256x512.Idx) :
    ∃ pc ∈ (atB m c t h p).2.2.2.2.2.1, y ∈ pc.1.set :=
  View.cover_of_tiledL (atB m c t h p).2.2.2.2.2.1 S1x256x512.size (by sl_kernel_rfl) y
theorem coverB24 (c : Dev nD) (t : Fin cfg0.N) (h : conds0_B (grid0.coords t)) (p : Outs F) (y : S1x256x1024.Idx) :
    ∃ pc ∈ (atB m c t h p).2.2.2.2.2.2.1, y ∈ pc.1.set :=
  View.cover_of_tiledL (atB m c t h p).2.2.2.2.2.2.1 S1x256x1024.size (by sl_kernel_rfl) y
theorem coverB25 (c : Dev nD) (t : Fin cfg0.N) (h : conds0_B (grid0.coords t)) (p : Outs F) (y : S1x256x1024.Idx) :
    ∃ pc ∈ (atB m c t h p).2.2.2.2.2.2.2.1, y ∈ pc.1.set :=
  View.cover_of_tiledL (atB m c t h p).2.2.2.2.2.2.2.1 S1x256x1024.size (by sl_kernel_rfl) y
theorem coverB26 (c : Dev nD) (t : Fin cfg0.N) (h : conds0_B (grid0.coords t)) (p : Outs F) (y : S1x1x1024.Idx) :
    ∃ pc ∈ (atB m c t h p).2.2.2.2.2.2.2.2.1, y ∈ pc.1.set :=
  View.cover_of_tiledL (atB m c t h p).2.2.2.2.2.2.2.2.1 S1x1x1024.size (by sl_kernel_rfl) y
theorem coverB27 (c : Dev nD) (t : Fin cfg0.N) (h : conds0_B (grid0.coords t)) (p : Outs F) (y : S1x1024.Idx) :
    ∃ pc ∈ (atB m c t h p).2.2.2.2.2.2.2.2.2.1, y ∈ pc.1.set :=
  View.cover_of_tiledL (atB m c t h p).2.2.2.2.2.2.2.2.2.1 S1x1024.size (by sl_kernel_rfl) y
theorem coverB28 (c : Dev nD) (t : Fin cfg0.N) (h : conds0_B (grid0.coords t)) (p : Outs F) (y : S1x512.Idx) :
    ∃ pc ∈ (atB m c t h p).2.2.2.2.2.2.2.2.2.2.1, y ∈ pc.1.set :=
  View.cover_of_tiledL (atB m c t h p).2.2.2.2.2.2.2.2.2.2.1 S1x512.size (by sl_kernel_rfl) y
theorem coverB29 (c : Dev nD) (t : Fin cfg0.N) (h : conds0_B (grid0.coords t)) (p : Outs F) (y : S256x512.Idx) :
    ∃ pc ∈ (atB m c t h p).2.2.2.2.2.2.2.2.2.2.2.1, y ∈ pc.1.set :=
  View.cover_of_tiledL (atB m c t h p).2.2.2.2.2.2.2.2.2.2.2.1 S256x512.size (by sl_kernel_rfl) y
theorem coverB30 (c : Dev nD) (t : Fin cfg0.N) (h : conds0_B (grid0.coords t)) (p : Outs F) (y : S1x512.Idx) :
    ∃ pc ∈ (atB m c t h p).2.2.2.2.2.2.2.2.2.2.2.2.1, y ∈ pc.1.set :=
  View.cover_of_tiledL (atB m c t h p).2.2.2.2.2.2.2.2.2.2.2.2.1 S1x512.size (by sl_kernel_rfl) y
theorem coverB31 (c : Dev nD) (t : Fin cfg0.N) (h : conds0_B (grid0.coords t)) (p : Outs F) (y : S1x512.Idx) :
    ∃ pc ∈ (atB m c t h p).2.2.2.2.2.2.2.2.2.2.2.2.2.1, y ∈ pc.1.set :=
  View.cover_of_tiledL (atB m c t h p).2.2.2.2.2.2.2.2.2.2.2.2.2.1 S1x512.size (by sl_kernel_rfl) y

set_option maxHeartbeats 9600000 in
/-- The body's triple inside a batch row, where every accumulator is added to. -/
theorem bodyB (c : Dev nD) (t : Fin cfg0.N) (ht : ¬t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).Φ t.succ = (dats m 0 c).Φ t.castSucc from rfl,
    show (dats m 0 c).owesAt () t.succ = (dats m 0 c).owesAt () t.castSucc from rfl]
  simp only [before26 m c t ht, before27 m c t (fun e => ht (by rw [e])), before28 m c t (fun e => ht (by rw [e])), before29 m c t (fun e => ht (by rw [e])), before30 m c t (fun e => ht (by rw [e])), before31 m c t (fun e => ht (by rw [e]))]
  rw [leaves0, leaves1, leaves2, leaves3, leaves4, leaves5, leaves6, leaves7, leaves8, leaves9, leaves10, leaves11, leaves12, leaves13, leaves14, leaves15, leaves16, leaves17, leaves18, leaves19, leaves20, leaves21, leaves22, leaves23, leaves24, leaves25, leaves26, leaves27, leaves28, leaves29, leaves30, leaves31]
  rw [outsAt_B m c t ht]
  dsimp only [leftB]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((atB m c t (condsB t ht) (prev m c t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexact H26
  isplitl [H27]; · iexact H27
  isplitl [H28]; · iexact H28
  isplitl [H29]; · iexact H29
  isplitl [H30]; · iexact H30
  isplitl [H31]; · iexact H31
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (coverB18 m c t _ _)
  isplitl [H19]
  · unfold owns; iexists _; isplitr
    swap; · iexact H19
    ipureintro; exact View.read_writes_of_cover _ _ _ _ _ (coverB19 m c t _ _)
  isplitl [H20]
  · unfold owns; iexists _; isplitr
    swap; · iexact H20
    ipureintro; exact View.read_writes_of_cover _ _ _ _ _ (coverB20 m c t _ _)
  isplitl [H21]
  · unfold owns; iexists _; isplitr
    swap; · iexact H21
    ipureintro; exact View.read_writes_of_cover _ _ _ _ _ (coverB21 m c t _ _)
  isplitl [H22]
  · unfold owns; iexists _; isplitr
    swap; · iexact H22
    ipureintro; exact View.read_writes_of_cover _ _ _ _ _ (coverB22 m c t _ _)
  isplitl [H23]
  · unfold owns; iexists _; isplitr
    swap; · iexact H23
    ipureintro; exact View.read_writes_of_cover _ _ _ _ _ (coverB23 m c t _ _)
  isplitl [H24]
  · unfold owns; iexists _; isplitr
    swap; · iexact H24
    ipureintro; exact View.read_writes_of_cover _ _ _ _ _ (coverB24 m c t _ _)
  isplitl [H25]
  · unfold owns; iexists _; isplitr
    swap; · iexact H25
    ipureintro; exact View.read_writes_of_cover _ _ _ _ _ (coverB25 m c t _ _)
  isplitl [H26]
  · unfold owns; iexists _; isplitr
    swap; · iexact H26
    ipureintro; exact View.read_writes_of_cover _ _ _ _ _ (coverB26 m c t _ _)
  isplitl [H27]
  · unfold owns; iexists _; isplitr
    swap; · iexact H27
    ipureintro; exact View.read_writes_of_cover _ _ _ _ _ (coverB27 m c t _ _)
  isplitl [H28]
  · unfold owns; iexists _; isplitr
    swap; · iexact H28
    ipureintro; exact View.read_writes_of_cover _ _ _ _ _ (coverB28 m c t _ _)
  isplitl [H29]
  · unfold owns; iexists _; isplitr
    swap; · iexact H29
    ipureintro; exact View.read_writes_of_cover _ _ _ _ _ (coverB29 m c t _ _)
  isplitl [H30]
  · unfold owns; iexists _; isplitr
    swap; · iexact H30
    ipureintro; exact View.read_writes_of_cover _ _ _ _ _ (coverB30 m c t _ _)
  unfold owns; iexists _; isplitr
  swap; · iexact H31
  ipureintro; exact View.read_writes_of_cover _ _ _ _ _ (coverB31 m c t _ _)

end Cert.MixRun
-- ==== Proof.MixBodyC.lean ====
module

public import proofs.«01_k».proof.Proof.MixDats

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ)

/-! The stores that the run at the first tile of a later batch row, where the gate's accumulator is stored afresh and the others are added to
    finds cover each output's block. -/

theorem coverC18 (c : Dev nD) (t : Fin cfg0.N) (h : conds0_C (grid0.coords t)) (p : Outs F) (y : S1x4x256x128.Idx) :
    ∃ pc ∈ (atC m c t h p).1, y ∈ pc.1.set :=
  View.cover_of_tiledL (atC m c t h p).1 S1x1x256x128.size (by sl_kernel_rfl) y
theorem coverC19 (c : Dev nD) (t : Fin cfg0.N) (h : conds0_C (grid0.coords t)) (p : Outs F) (y : S1x4x256x128.Idx) :
    ∃ pc ∈ (atC m c t h p).2.1, y ∈ pc.1.set :=
  View.cover_of_tiledL (atC m c t h p).2.1 S1x1x256x128.size (by sl_kernel_rfl) y
theorem coverC20 (c : Dev nD) (t : Fin cfg0.N) (h : conds0_C (grid0.coords t)) (p : Outs F) (y : S1x4x256x128.Idx) :
    ∃ pc ∈ (atC m c t h p).2.2.1, y ∈ pc.1.set :=
  View.cover_of_tiledL (atC m c t h p).2.2.1 S1x1x256x128.size (by sl_kernel_rfl) y
theorem coverC21 (c : Dev nD) (t : Fin cfg0.N) (h : conds0_C (grid0.coords t)) (p : Outs F) (y : S1x4x256x128.Idx) :
    ∃ pc ∈ (atC m c t h p).2.2.2.1, y ∈ pc.1.set :=
  View.cover_of_tiledL (atC m c t h p).2.2.2.1 S1x1x256x128.size (by sl_kernel_rfl) y
theorem coverC22 (c : Dev nD) (t : Fin cfg0.N) (h : conds0_C (grid0.coords t)) (p : Outs F) (y : S1x256x256.Idx) :
    ∃ pc ∈ (atC m c t h p).2.2.2.2.1, y ∈ pc.1.set :=
  View.cover_of_tiledL (atC m c t h p).2.2.2.2.1 S1x256x256.size (by sl_kernel_rfl) y
theorem coverC23 (c : Dev nD) (t : Fin cfg0.N) (h : conds0_C (grid0.coords t)) (p : Outs F) (y : S1x256x512.Idx) :
    ∃ pc ∈ (atC m c t h p).2.2.2.2.2.1, y ∈ pc.1.set :=
  View.cover_of_tiledL (atC m c t h p).2.2.2.2.2.1 S1x256x512.size (by sl_kernel_rfl) y
theorem coverC24 (c : Dev nD) (t : Fin cfg0.N) (h : conds0_C (grid0.coords t)) (p : Outs F) (y : S1x256x1024.Idx) :
    ∃ pc ∈ (atC m c t h p).2.2.2.2.2.2.1, y ∈ pc.1.set :=
  View.cover_of_tiledL (atC m c t h p).2.2.2.2.2.2.1 S1x256x1024.size (by sl_kernel_rfl) y
theorem coverC25 (c : Dev nD) (t : Fin cfg0.N) (h : conds0_C (grid0.coords t)) (p : Outs F) (y : S1x256x1024.Idx) :
    ∃ pc ∈ (atC m c t h p).2.2.2.2.2.2.2.1, y ∈ pc.1.set :=
  View.cover_of_tiledL (atC m c t h p).2.2.2.2.2.2.2.1 S1x256x1024.size (by sl_kernel_rfl) y
theorem coverC26 (c : Dev nD) (t : Fin cfg0.N) (h : conds0_C (grid0.coords t)) (p : Outs F) (y : S1x1x1024.Idx) :
    ∃ pc ∈ (atC m c t h p).2.2.2.2.2.2.2.2.1, y ∈ pc.1.set :=
  View.cover_of_tiledL (atC m c t h p).2.2.2.2.2.2.2.2.1 S1x1x1024.size (by sl_kernel_rfl) y
theorem coverC27 (c : Dev nD) (t : Fin cfg0.N) (h : conds0_C (grid0.coords t)) (p : Outs F) (y : S1x1024.Idx) :
    ∃ pc ∈ (atC m c t h p).2.2.2.2.2.2.2.2.2.1, y ∈ pc.1.set :=
  View.cover_of_tiledL (atC m c t h p).2.2.2.2.2.2.2.2.2.1 S1x1024.size (by sl_kernel_rfl) y
theorem coverC28 (c : Dev nD) (t : Fin cfg0.N) (h : conds0_C (grid0.coords t)) (p : Outs F) (y : S1x512.Idx) :
    ∃ pc ∈ (atC m c t h p).2.2.2.2.2.2.2.2.2.2.1, y ∈ pc.1.set :=
  View.cover_of_tiledL (atC m c t h p).2.2.2.2.2.2.2.2.2.2.1 S1x512.size (by sl_kernel_rfl) y
theorem coverC29 (c : Dev nD) (t : Fin cfg0.N) (h : conds0_C (grid0.coords t)) (p : Outs F) (y : S256x512.Idx) :
    ∃ pc ∈ (atC m c t h p).2.2.2.2.2.2.2.2.2.2.2.1, y ∈ pc.1.set :=
  View.cover_of_tiledL (atC m c t h p).2.2.2.2.2.2.2.2.2.2.2.1 S256x512.size (by sl_kernel_rfl) y
theorem coverC30 (c : Dev nD) (t : Fin cfg0.N) (h : conds0_C (grid0.coords t)) (p : Outs F) (y : S1x512.Idx) :
    ∃ pc ∈ (atC m c t h p).2.2.2.2.2.2.2.2.2.2.2.2.1, y ∈ pc.1.set :=
  View.cover_of_tiledL (atC m c t h p).2.2.2.2.2.2.2.2.2.2.2.2.1 S1x512.size (by sl_kernel_rfl) y
theorem coverC31 (c : Dev nD) (t : Fin cfg0.N) (h : conds0_C (grid0.coords t)) (p : Outs F) (y : S1x512.Idx) :
    ∃ pc ∈ (atC m c t h p).2.2.2.2.2.2.2.2.2.2.2.2.2.1, y ∈ pc.1.set :=
  View.cover_of_tiledL (atC m c t h p).2.2.2.2.2.2.2.2.2.2.2.2.2.1 S1x512.size (by sl_kernel_rfl) y

set_option maxHeartbeats 9600000 in
/-- The body's triple at the first tile of a later batch row, where the gate's accumulator is stored afresh and the others are added to. -/
theorem bodyC (c : Dev nD) (t : Fin cfg0.N) (h0 : ¬t.val = 0) (h8 : t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).Φ t.succ = (dats m 0 c).Φ t.castSucc from rfl,
    show (dats m 0 c).owesAt () t.succ = (dats m 0 c).owesAt () t.castSucc from rfl]
  simp only [before27 m c t h0, before28 m c t h0, before29 m c t h0, before30 m c t h0, before31 m c t h0]
  rw [leaves0, leaves1, leaves2, leaves3, leaves4, leaves5, leaves6, leaves7, leaves8, leaves9, leaves10, leaves11, leaves12, leaves13, leaves14, leaves15, leaves16, leaves17, leaves18, leaves19, leaves20, leaves21, leaves22, leaves23, leaves24, leaves25, leaves26, leaves27, leaves28, leaves29, leaves30, leaves31]
  rw [outsAt_C m c t h0 h8]
  dsimp only [leftC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((atC m c t (condsC t h0 h8) (prev m c t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexact H27
  isplitl [H28]; · iexact H28
  isplitl [H29]; · iexact H29
  isplitl [H30]; · iexact H30
  isplitl [H31]; · iexact H31
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (coverC18 m c t _ _)
  isplitl [H19]
  · unfold owns; iexists _; isplitr
    swap; · iexact H19
    ipureintro; exact View.read_writes_of_cover _ _ _ _ _ (coverC19 m c t _ _)
  isplitl [H20]
  · unfold owns; iexists _; isplitr
    swap; · iexact H20
    ipureintro; exact View.read_writes_of_cover _ _ _ _ _ (coverC20 m c t _ _)
  isplitl [H21]
  · unfold owns; iexists _; isplitr
    swap; · iexact H21
    ipureintro; exact View.read_writes_of_cover _ _ _ _ _ (coverC21 m c t _ _)
  isplitl [H22]
  · unfold owns; iexists _; isplitr
    swap; · iexact H22
    ipureintro; exact View.read_writes_of_cover _ _ _ _ _ (coverC22 m c t _ _)
  isplitl [H23]
  · unfold owns; iexists _; isplitr
    swap; · iexact H23
    ipureintro; exact View.read_writes_of_cover _ _ _ _ _ (coverC23 m c t _ _)
  isplitl [H24]
  · unfold owns; iexists _; isplitr
    swap; · iexact H24
    ipureintro; exact View.read_writes_of_cover _ _ _ _ _ (coverC24 m c t _ _)
  isplitl [H25]
  · unfold owns; iexists _; isplitr
    swap; · iexact H25
    ipureintro; exact View.read_writes_of_cover _ _ _ _ _ (coverC25 m c t _ _)
  isplitl [H26]
  · unfold owns; iexists _; isplitr
    swap; · iexact H26
    ipureintro; exact View.read_writes_of_cover _ _ _ _ _ (coverC26 m c t _ _)
  isplitl [H27]
  · unfold owns; iexists _; isplitr
    swap; · iexact H27
    ipureintro; exact View.read_writes_of_cover _ _ _ _ _ (coverC27 m c t _ _)
  isplitl [H28]
  · unfold owns; iexists _; isplitr
    swap; · iexact H28
    ipureintro; exact View.read_writes_of_cover _ _ _ _ _ (coverC28 m c t _ _)
  isplitl [H29]
  · unfold owns; iexists _; isplitr
    swap; · iexact H29
    ipureintro; exact View.read_writes_of_cover _ _ _ _ _ (coverC29 m c t _ _)
  isplitl [H30]
  · unfold owns; iexists _; isplitr
    swap; · iexact H30
    ipureintro; exact View.read_writes_of_cover _ _ _ _ _ (coverC30 m c t _ _)
  unfold owns; iexists _; isplitr
  swap; · iexact H31
  ipureintro; exact View.read_writes_of_cover _ _ _ _ _ (coverC31 m c t _ _)

end Cert.MixRun
-- ==== Proof.MixFrame.lean ====
module

public import Idealize.ShloMosaic.Lib.Claim
public import proofs.«01_k».proof.Proof.MixBodyA
public import proofs.«01_k».proof.Proof.MixBodyB
public import proofs.«01_k».proof.Proof.MixBodyC

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixRun
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem body (c : Dev nD) (t : Fin cfg0.N) :
    bodyPre m c t ⊢ wp frame (wpE (defs₀ (F := F)) Variants.none c none) Set.univ (bodyAt0 t) (fun _ => bodyPost m c t) := by
  by_cases h8 : t.val % 8 = 0
  · by_cases h0 : t.val = 0
    · exact bodyA m c t h0
    · exact bodyC m c t h0 h8
  · exact bodyB m c t h8

theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- The program's run: every array of the pipeline ends at what the data say, every other buffer as the region found it,
    every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_all : θ_run defs (onTc (τ := τ) (main (F := F))) (s₀ m ρ) (Pipeline.FramePost cfgs (dats m) 0 (V m)) :=
  (θ_run defs _ _).mono (fun _ h => h.1) (run_quiet m ρ)

/-- The frame: the arguments end as they were, every semaphore at zero. -/
theorem frame4 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_all m ρ)) ((θ_run defs _ _).mono (fun _ h => h.2) (run_quiet m ρ))

set_option maxHeartbeats 4000000 in
/-- The run with each output array named by the data. -/
theorem run_blocks : θ_run defs (onTc (τ := τ) (main (F := F))) ⟨m, fun _ => 0, ρ⟩ fun r => ∀ c : Dev nD,
r.2.mem ((c : Thread nD τ).loc main_v27_0) = (dats m 0 c).arrAt 18 cfg0.N
      ∧ r.2.mem ((c : Thread nD τ).loc main_v27_1) = (dats m 0 c).arrAt 19 cfg0.N
      ∧ r.2.mem ((c : Thread nD τ).loc main_v27_2) = (dats m 0 c).arrAt 20 cfg0.N
      ∧ r.2.mem ((c : Thread nD τ).loc main_v27_3) = (dats m 0 c).arrAt 21 cfg0.N
      ∧ r.2.mem ((c : Thread nD τ).loc main_v27_4) = (dats m 0 c).arrAt 22 cfg0.N
      ∧ r.2.mem ((c : Thread nD τ).loc main_v27_5) = (dats m 0 c).arrAt 23 cfg0.N
      ∧ r.2.mem ((c : Thread nD τ).loc main_v27_6) = (dats m 0 c).arrAt 24 cfg0.N
      ∧ r.2.mem ((c : Thread nD τ).loc main_v27_7) = (dats m 0 c).arrAt 25 cfg0.N
      ∧ r.2.mem ((c : Thread nD τ).loc main_v27_8) = (dats m 0 c).arrAt 26 cfg0.N
      ∧ r.2.mem ((c : Thread nD τ).loc main_v27_9) = (dats m 0 c).arrAt 27 cfg0.N
      ∧ r.2.mem ((c : Thread nD τ).loc main_v27_10) = (dats m 0 c).arrAt 28 cfg0.N
      ∧ r.2.mem ((c : Thread nD τ).loc main_v27_11) = (dats m 0 c).arrAt 29 cfg0.N
      ∧ r.2.mem ((c : Thread nD τ).loc main_v27_12) = (dats m 0 c).arrAt 30 cfg0.N
      ∧ r.2.mem ((c : Thread nD τ).loc main_v27_13) = (dats m 0 c).arrAt 31 cfg0.N
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).1 18, (h c).1 19, (h c).1 20, (h c).1 21, (h c).1 22, (h c).1 23, (h c).1 24, (h c).1 25, (h c).1 26, (h c).1 27, (h c).1 28, (h c).1 29, (h c).1 30, (h c).1 31,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).2 main_arg14 (Pipeline.mem_restRefs_of main_arg14 (by decide) (by decide))).trans (V_main_arg14 m c),
      ((h c).1 15).trans (((dats m 0 c).arrAt_in 15 rfl _).trans ((A_eq m c 15).trans (V_main_arg15 m c))),
      ((h c).1 17).trans (((dats m 0 c).arrAt_in 17 rfl _).trans ((A_eq m c 17).trans (V_main_arg16 m c)))⟩) (run_all m ρ)

end Cert.MixRun
-- ==== Proof.MixBits.lean ====
module

public import proofs.«01_k».proof.Defs
public import proofs.«01_k».proof.Proof.Gen.Kernel4
public import proofs.«01_k».proof.Proof.MixFrame

@[expose] public section

noncomputable section

open Idealize.ShloMosaic Idealize.ShloMosaic.TcCoe Idealize.ShloMosaic.Tactic Idealize.SL.Sem

namespace Cert.MixRun

/-- The frame of the second printing of the program, read at machine words. -/
def BitsFrame : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

theorem bitsFrame : BitsFrame := fun m ρ _ => frame4 m ρ

/-- Both printings are one program. -/
theorem bitsFrame_eq : BitsFrame = Cert.quiescent_Kernel4 (hKernel4 := Cert.Kernel4.Gen.facts) := by sl_kernel_rfl

theorem frame_bits : Cert.quiescent_Kernel4 (hKernel4 := Cert.Kernel4.Gen.facts) := bitsFrame_eq ▸ bitsFrame

end Cert.MixRun
-- ==== Proof.MixRow.lean ====
module

public import proofs.«01_k».proof.Proof.MlpRow
public import proofs.«01_k».proof.Proof.Finite

@[expose] public section

set_option maxRecDepth 16384

noncomputable section

open Idealize.ShloMosaic Idealize.ShloMosaic.TcCoe Idealize.SL.Sem

namespace Cert.MixRow
open Cert.NormRow Cert.MlpRow Cert.Finite

/-- A row of the mixer's width, 8 heads of 64. -/
abbrev Half := Fin 512 → EReal

/-- One head's share of a row: the row times one half of the block matrix of ones, taken as its rounded part and the
    remainder. -/
def seg (E : Fin 256 → Fin 256 → EReal) (x : Half) (h : Fin 512) : EReal :=
  (∑ k : Fin 256, x ⟨h.val / 256 * 256 + k.val, by omega⟩ * E k ⟨h.val % 256, by omega⟩) +
    ∑ k : Fin 256, (x ⟨h.val / 256 * 256 + k.val, by omega⟩ - x ⟨h.val / 256 * 256 + k.val, by omega⟩) * E k ⟨h.val % 256, by omega⟩

/-- The sum of a row over the head that holds position `h`. -/
def grp (x : Half) (h : Fin 512) : EReal := ∑ i : Fin 64, x ⟨h.val / 64 * 64 + i.val, by omega⟩

/-- The float 1/64. -/
def inv : EReal := Ideal.ofBits FTy.f32 1015021568#32
/-- The float -1/2. -/
def mhalf : EReal := Ideal.ofBits FTy.f32 3204448256#32
/-- The group norm's small constant. -/
def eps : EReal := Ideal.ofBits FTy.f32 975685036#32

/-- All that one token of the readout needs: the two scans' outputs and keys, the receptance, the value, the gate's hidden
    row, the convolution's row, the cotangent, and the weights. -/
@[ext] structure In where
  yf : Half
  yb : Half
  kf : Half
  kb : Half
  r : Half
  v : Half
  gd : Fin 256 → EReal
  cv : Half
  ga : Row
  rk : Half
  gw : Fin 256 → Half
  lw : Half
  lb : Half
  wo : Fin 1024 → Row
  g2 : Row
  E : Fin 256 → Fin 256 → EReal
  d : Row

namespace In
variable (i : In)
def y (h : Fin 512) : EReal := i.yf h + i.yb h
def k (h : Fin 512) : EReal := Ideal.ofBits FTy.f32 1056964608#32 * (i.kf h + i.kb h)
def yc (h : Fin 512) : EReal := i.y h - seg i.E i.y h * inv
def a (h : Fin 512) : EReal := seg i.E (fun h => i.yc h * i.yc h) h * inv + eps
def rs (h : Fin 512) : EReal := Ideal.rsqrt (i.a h)
def dd (h : Fin 512) : EReal := mhalf * Ideal.div (i.rs h) (i.a h)
def nh (h : Fin 512) : EReal := i.yc h * i.rs h
def yn (h : Fin 512) : EReal := i.nh h * i.lw h + i.lb h
def q (h : Fin 512) : EReal := i.r h * i.k h
def sb (h : Fin 512) : EReal := seg i.E (fun h => i.q h * i.rk h) h
def ex (k : Fin 256) : EReal := Ideal.exp (-(i.gd k))
def sg (k : Fin 256) : EReal := Ideal.div 1 (1 + i.ex k)
def sp (k : Fin 256) : EReal := Ideal.div 1 ((1 + i.ex k) * (1 + i.ex k))
def g (h : Fin 512) : EReal := ∑ k, i.sg k * i.gw k h
def s (h : Fin 512) : EReal := i.yn h + i.sb h * i.v h
def ro (h : Fin 512) : EReal := i.s h * i.g h
def cat (k : Fin 1024) : EReal := if h : k.val < 512 then i.ro ⟨k.val, h⟩ else i.cv ⟨k.val - 512, by omega⟩
def mix (h : Fin 1024) : EReal := ∑ k, i.cat k * i.wo k h
def ge (h : Fin 1024) : EReal := i.ga h * i.d h
def dgate (h : Fin 1024) : EReal := i.d h * nrm i.mix i.g2 h
def dg2 (h : Fin 1024) : EReal := i.mix h * Ideal.rsqrt (ms i.mix) * i.ge h
def dmix : Row := back i.mix fun k => i.ge k * i.g2 k
def dcat (k : Fin 1024) : EReal := ∑ h, i.dmix h * i.wo k h
def dro (h : Fin 512) : EReal := i.dcat ⟨h.val, by omega⟩
def dcv (h : Fin 512) : EReal := i.dcat ⟨512 + h.val, by omega⟩
def dg (h : Fin 512) : EReal := i.s h * i.dro h
def ds (h : Fin 512) : EReal := i.dro h * i.g h
def dsg (k : Fin 256) : EReal := ∑ h, i.dg h * i.gw k h
def dgd (k : Fin 256) : EReal := -(-(i.dsg k * i.sp k) * i.ex k)
def dgw (k : Fin 256) (h : Fin 512) : EReal := i.sg k * i.dg h
def dv (h : Fin 512) : EReal := i.sb h * i.ds h
def sd (h : Fin 512) : EReal := seg i.E (fun h => i.ds h * i.v h) h
def drk (h : Fin 512) : EReal := i.q h * i.sd h
def dq (h : Fin 512) : EReal := i.sd h * i.rk h
def dk (h : Fin 512) : EReal := i.r h * i.dq h
def dr (h : Fin 512) : EReal := i.dq h * i.k h
def dlw (h : Fin 512) : EReal := i.nh h * i.ds h
def dn (h : Fin 512) : EReal := i.ds h * i.lw h
def sv (h : Fin 512) : EReal := seg i.E (fun h => i.yc h * i.dn h * i.dd h * inv) h
def dyc (h : Fin 512) : EReal := i.dn h * i.rs h + i.yc h * i.sv h + i.sv h * i.yc h
def dy (h : Fin 512) : EReal := i.dyc h + seg i.E (fun h => -(i.dyc h) * inv) h
end In
end Cert.MixRow
-- ==== Proof.MixHost.lean ====
module

public import proofs.«01_k».proof.Proof.Gen.Kernel4Ideal.Frame.Runs
public import proofs.«01_k».proof.Proof.MixRow
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.MixOut
open Cert.Kernel4Ideal Cert.Kernel4Ideal.Gen Cert.NormRow Cert.MlpRow Cert.MixRow

/-! ## What the host prepares -/

/-- An array's columns as four pairs of heads. -/
def hds (x : FVec Ideal S4x2304x512 .f32) : FVec Ideal S4x4x2304x128 .f32 :=
  transpose S4x4x2304x128 [0, 2, 1, 3] (shapeCast S4x2304x4x128 x shapeCasts_S4x2304x512_S4x2304x4x128) transposes_S4x2304x4x128_S4x4x2304x128_0_2_1_3
/-- The gate's hidden rows and its weights, with zeros after the last true column and row. -/
def gdp (x : FVec Ideal S4x2304x160 .f32) : FVec Ideal S4x2304x256 .f32 :=
  concatenate S4x2304x256 2 [⟨S4x2304x160, x⟩, ⟨S4x2304x96, broadcastInDim S4x2304x96 ![] bcast_S_S4x2304x96 (constant (F := Ideal) S_ .f32 0x00000000#32)⟩] concatenates_S4x2304x160_S4x2304x96_S4x2304x256_d2
def gwp (x : FVec Ideal S160x512 .f32) : FVec Ideal S256x512 .f32 :=
  concatenate S256x512 0 [⟨S160x512, x⟩, ⟨S96x512, broadcastInDim S96x512 ![] bcast_S_S96x512 (constant (F := Ideal) S_ .f32 0x00000000#32)⟩] concatenates_S160x512_S96x512_S256x512_d0
/-- The heads' weights as one row. -/
def rkr (x : FVec Ideal S8x64 .f32) : FVec Ideal S1x512 .f32 := shapeCast S1x512 x shapeCasts_S8x64_S1x512
/-- The output projection, rounded. -/
def wob (x : FVec Ideal S1024x1024 .f32) : FVec Ideal S1024x1024 .bf16 := truncf .bf16 x bitsLt_bf16_f32
/-- A position's head, along a half row. -/
def hnum : IVec S256 32 := shapeCast S256 (iotaInDim S4x64 32 0) shapeCasts_S4x64_S256
/-- The block matrix of ones: one where row and column lie in the same head. -/
def ones : FVec Ideal S256x256 .bf16 :=
  truncf .bf16 (uitofp .f32 (cmpi .eq (broadcastInDim S256x256 ![0, 1] bcast_S256x1_S256x256_0_1 (broadcastInDim S256x1 ![0] bcast_S256_S256x1_0 hnum))
    (broadcastInDim S256x256 ![0, 1] bcast_S1x256_S256x256_0_1 (broadcastInDim S1x256 ![1] bcast_S256_S1x256_1 hnum))) : FVec Ideal S256x256 .f32) bitsLt_bf16_f32

theorem hds_apply (x : FVec Ideal S4x2304x512 .f32) (b j : Fin 4) (t : Fin 2304) (l : Fin 128) : hds x (ix4 b j t l) = x (ix3 b t ⟨j.val * 128 + l.val, by omega⟩) := by
  pointwise [hds]
theorem gdp_apply (x : FVec Ideal S4x2304x160 .f32) (b : Fin 4) (t : Fin 2304) (k : Fin 256) :
    gdp x (ix3 b t k) = if h : k.val < 160 then x (ix3 b t ⟨k.val, h⟩) else 0 := by
  pointwise [gdp]
theorem gwp_apply (x : FVec Ideal S160x512 .f32) (k : Fin 256) (h : Fin 512) :
    gwp x (ix2 k h) = if e : k.val < 160 then x (ix2 ⟨k.val, e⟩ h) else 0 := by
  pointwise [gwp]
theorem rkr_apply (x : FVec Ideal S8x64 .f32) (h : Fin 512) : rkr x (ix2 0 h) = x (ix2 ⟨h.val / 64, by omega⟩ ⟨h.val % 64, by omega⟩) := by
  pointwise [rkr]
theorem wob_apply (x : FVec Ideal S1024x1024 .f32) (k h : Fin 1024) : wob x (ix2 k h) = x (ix2 k h) := by
  pointwise [wob]
theorem ones_apply (k l : Fin 256) : ones (ix2 k l) = if k.val / 64 = l.val / 64 then 1 else 0 := by
  pointwise [ones, hnum]
  have e : BitVec.ofNat 32 (k.val / 64) = BitVec.ofNat 32 (l.val / 64) ↔ k.val / 64 = l.val / 64 := by
    rw [← BitVec.toNat_inj]
    simp only [BitVec.toNat_ofNat]
    omega
  by_cases h : k.val / 64 = l.val / 64
  · rw [if_pos h, h]
    simp [IntOp.cmpi, FloatOps.uitofp]
  · rw [if_neg h]
    have h' := fun x => h (e.1 x)
    simp only [IntOp.cmpi, FloatOps.uitofp]
    rw [show (BitVec.ofNat 32 (k.val / 64) == BitVec.ofNat 32 (l.val / 64)) = false from beq_eq_false_iff_ne.2 h']
    simp

section reads
variable (W : Valuation τ sig (Elt Ideal))
theorem r0 : StableHlo.after (hostOps0 (F := Ideal)) W (Proc.devRef .tc main_v5) = hds (W (Proc.devRef .tc main_arg0)) := by
  after_reads_simp; rfl
theorem r1 : StableHlo.after (hostOps0 (F := Ideal)) W (Proc.devRef .tc main_v7) = hds (W (Proc.devRef .tc main_arg1)) := by
  after_reads_simp; rfl
theorem r2 : StableHlo.after (hostOps0 (F := Ideal)) W (Proc.devRef .tc main_v9) = hds (W (Proc.devRef .tc main_arg2)) := by
  after_reads_simp; rfl
theorem r3 : StableHlo.after (hostOps0 (F := Ideal)) W (Proc.devRef .tc main_v11) = hds (W (Proc.devRef .tc main_arg3)) := by
  after_reads_simp; rfl
theorem r4 : StableHlo.after (hostOps0 (F := Ideal)) W (Proc.devRef .tc main_v13) = hds (W (Proc.devRef .tc main_arg4)) := by
  after_reads_simp; rfl
theorem r5 : StableHlo.after (hostOps0 (F := Ideal)) W (Proc.devRef .tc main_v15) = hds (W (Proc.devRef .tc main_arg5)) := by
  after_reads_simp; rfl
theorem r6 : StableHlo.after (hostOps0 (F := Ideal)) W (Proc.devRef .tc main_v1) = gdp (W (Proc.devRef .tc main_arg6)) := by
  after_reads_simp; rfl
theorem r7 : StableHlo.after (hostOps0 (F := Ideal)) W (Proc.devRef .tc main_v16) = rkr (W (Proc.devRef .tc main_arg10)) := by
  after_reads_simp; rfl
theorem r8 : StableHlo.after (hostOps0 (F := Ideal)) W (Proc.devRef .tc main_v3) = gwp (W (Proc.devRef .tc main_arg11)) := by
  after_reads_simp; rfl
theorem r9 : StableHlo.after (hostOps0 (F := Ideal)) W (Proc.devRef .tc main_v17) = wob (W (Proc.devRef .tc main_arg14)) := by
  after_reads_simp; rfl
theorem r10 : StableHlo.after (hostOps0 (F := Ideal)) W (Proc.devRef .tc main_v26) = ones := by
  after_reads_simp; rfl
end reads

/-! ## The call's arrays -/

/-- The arrays of the call. -/
structure Arr where
  YF : FVec Ideal S4x2304x512 .f32
  YB : FVec Ideal S4x2304x512 .f32
  KF : FVec Ideal S4x2304x512 .f32
  KB : FVec Ideal S4x2304x512 .f32
  R : FVec Ideal S4x2304x512 .f32
  V : FVec Ideal S4x2304x512 .f32
  GD : FVec Ideal S4x2304x160 .f32
  CV : FVec Ideal S4x2304x512 .f32
  X : FVec Ideal S4x2048x1024 .f32
  GA : FVec Ideal S4x1x1024 .f32
  RK : FVec Ideal S8x64 .f32
  GW : FVec Ideal S160x512 .f32
  LW : FVec Ideal S1x512 .f32
  LB : FVec Ideal S1x512 .f32
  WO : FVec Ideal S1024x1024 .f32
  G2 : FVec Ideal S1x1024 .f32
  D : FVec Ideal S4x2048x1024 .f32

namespace Arr
variable (a : Arr)

/-- Token `t` of batch row `b` with all it needs: the sequence's tokens come after the context's 256. -/
def row (b : Fin 4) (t : Fin 2048) : MixRow.In where
  yf h := a.YF (ix3 b ⟨256 + t.val, by omega⟩ h)
  yb h := a.YB (ix3 b ⟨256 + t.val, by omega⟩ h)
  kf h := a.KF (ix3 b ⟨256 + t.val, by omega⟩ h)
  kb h := a.KB (ix3 b ⟨256 + t.val, by omega⟩ h)
  r h := a.R (ix3 b ⟨256 + t.val, by omega⟩ h)
  v h := a.V (ix3 b ⟨256 + t.val, by omega⟩ h)
  cv h := a.CV (ix3 b ⟨256 + t.val, by omega⟩ h)
  gd k := if h : k.val < 160 then a.GD (ix3 b ⟨256 + t.val, by omega⟩ ⟨k.val, h⟩) else 0
  ga h := a.GA (ix3 b 0 h)
  rk h := a.RK (ix2 ⟨h.val / 64, by omega⟩ ⟨h.val % 64, by omega⟩)
  gw k h := if e : k.val < 160 then a.GW (ix2 ⟨k.val, e⟩ h) else 0
  lw h := a.LW (ix2 0 h)
  lb h := a.LB (ix2 0 h)
  wo j h := a.WO (ix2 j h)
  g2 h := a.G2 (ix2 0 h)
  E k l := if k.val / 64 = l.val / 64 then 1 else 0
  d h := a.D (ix3 b t h)

/-- Token `q` of the run `j` of 256 tokens. -/
def run (b : Fin 4) (j : Fin 8) (q : Fin 256) : MixRow.In := a.row b ⟨j.val * 256 + q.val, by omega⟩

/-- Rows of the mixer's width as four pairs of heads. -/
def pairs (f : Fin 4 → Fin 2048 → Half) : FVec Ideal S4x4x2048x128 .f32 := fun i => f (i 0) (i 2) ⟨(i 1).val * 128 + (i 3).val, by
  have h1 : (i 1).val < 4 := (i 1).isLt
  have h3 : (i 3).val < 128 := (i 3).isLt
  omega⟩

/-- The results over the arrays: the gradients of the scans' outputs, the keys, the receptance and the value. -/
def o0 := pairs fun b t => (a.row b t).dy
def o1 := pairs fun b t => (a.row b t).dk
def o2 := pairs fun b t => (a.row b t).dr
def o3 := pairs fun b t => (a.row b t).dv
/-- Those of the gate's hidden row and the convolution's row, the concatenated rows, the gradient of their projection. -/
def o4 : FVec Ideal S4x2048x256 .f32 := fun i => (a.row (i 0) (i 1)).dgd (i 2)
def o5 : FVec Ideal S4x2048x512 .f32 := fun i => (a.row (i 0) (i 1)).dcv (i 2)
def o6 : FVec Ideal S4x2048x1024 .bf16 := fun i => (a.row (i 0) (i 1)).cat (i 2)
def o7 : FVec Ideal S4x2048x1024 .bf16 := fun i => (a.row (i 0) (i 1)).dmix (i 2)
/-- The modulation's gate, and the weights. -/
def o8 : FVec Ideal S4x1x1024 .f32 := fun i => ∑ j, ∑ q, (a.run (i 0) j q).dgate (i 2)
def o9 : FVec Ideal S1x1024 .f32 := fun i => ∑ b, ∑ j, ∑ q, (a.run b j q).dg2 (i 1)
def o10 : FVec Ideal S1x512 .f32 := fun i => ∑ b, ∑ j, ∑ q, (a.run b j q).drk (i 1)
def o11 : FVec Ideal S256x512 .f32 := fun i => ∑ b, ∑ j, ∑ q, (a.run b j q).dgw (i 0) (i 1)
def o12 : FVec Ideal S1x512 .f32 := fun i => ∑ b, ∑ j, ∑ q, (a.run b j q).dlw (i 1)
def o13 : FVec Ideal S1x512 .f32 := fun i => ∑ b, ∑ j, ∑ q, (a.run b j q).ds (i 1)
end Arr

variable (m : (ℓ : Loc nD τ sig) → Buf (Elt Ideal) ℓ) (c : Dev nD) (a : Arr)

/-- The call reads the arrays `a`, prepared by the host. -/
structure Reads : Prop where
  hYF : V m c main_v5 = hds a.YF
  hYB : V m c main_v7 = hds a.YB
  hKF : V m c main_v9 = hds a.KF
  hKB : V m c main_v11 = hds a.KB
  hR : V m c main_v13 = hds a.R
  hV : V m c main_v15 = hds a.V
  hGD : V m c main_v1 = gdp a.GD
  hCV : V m c main_arg7 = a.CV
  hX : V m c main_arg8 = a.X
  hGA : V m c main_arg9 = a.GA
  hRK : V m c main_v16 = rkr a.RK
  hGW : V m c main_v3 = gwp a.GW
  hLW : V m c main_arg12 = a.LW
  hLB : V m c main_arg13 = a.LB
  hWO : V m c main_v17 = wob a.WO
  hG2 : V m c main_arg15 = a.G2
  hE : V m c main_v26 = ones
  hD : V m c main_arg16 = a.D

end Cert.MixOut
-- ==== Proof.MixReal.lean ====
module

public import proofs.«01_k».proof.Proof.MixRow

@[expose] public section

set_option maxRecDepth 16384

noncomputable section

open Idealize.ShloMosaic Idealize.ShloMosaic.TcCoe Idealize.SL.Sem

namespace Cert.MixRow
open Cert.NormRow Cert.MlpRow Cert.Finite

theorem inv_eq : inv = ((1 / 64 : ℝ) : EReal) := by
  unfold inv
  simp [Ideal.ofBits, Ideal.ieee]
  rw [← EReal.coe_mul]; norm_num
theorem mhalf_eq : mhalf = ((-1 / 2 : ℝ) : EReal) := by
  unfold mhalf
  simp [Ideal.ofBits, Ideal.ieee]
  rw [← EReal.coe_mul]; norm_num
theorem half_eq : Ideal.ofBits FTy.f32 1056964608#32 = ((1 / 2 : ℝ) : EReal) := by
  simp [Ideal.ofBits, Ideal.ieee]
  rw [← EReal.coe_mul]; norm_num

/-- A value that is a positive real number. -/
def Pos (x : EReal) : Prop := ∃ r : ℝ, 0 < r ∧ x = r

theorem eps_pos : Pos eps := by
  unfold eps
  simp only [Ideal.ofBits, Ideal.ieee]
  simp
  refine ⟨_, ?_, (EReal.coe_mul _ _).symm⟩
  norm_num
theorem Pos.real {x : EReal} (h : Pos x) : IsReal x := by obtain ⟨r, _, e⟩ := h; exact ⟨r, e⟩
theorem Pos.rsqrt {x : EReal} (h : Pos x) : IsReal (Ideal.rsqrt x) := by
  obtain ⟨r, p, rfl⟩ := h
  rw [Ideal.rsqrt_coe, if_neg (not_lt.2 p.le), if_neg p.ne']
  exact ⟨_, rfl⟩
theorem Pos.div {x y : EReal} (hx : IsReal x) (h : Pos y) : IsReal (Ideal.div x y) := by
  obtain ⟨r, p, rfl⟩ := h
  rw [Ideal.div_coe p.ne']
  exact hx.mul ⟨_, rfl⟩

theorem blk_sum (x : Half) (h : Fin 512) :
    ∑ k : Fin 256, x ⟨h.val / 256 * 256 + k.val, by omega⟩ * (if k.val / 64 = h.val % 256 / 64 then (1 : EReal) else 0) = grp x h := by
  unfold grp
  rw [← (finProdFinEquiv (m := 4) (n := 64)).sum_comp, Fintype.sum_prod_type]
  rw [Finset.sum_eq_single (⟨h.val % 256 / 64, by omega⟩ : Fin 4)]
  · refine Finset.sum_congr rfl fun i _ => ?_
    rw [if_pos (by simp [finProdFinEquiv]; omega), mul_one]
    refine congrArg x (Fin.ext ?_)
    simp [finProdFinEquiv]; omega
  · intro g _ hg
    refine Finset.sum_eq_zero fun i _ => ?_
    rw [if_neg, mul_zero]
    intro e
    apply hg
    refine Fin.ext ?_
    simp [finProdFinEquiv] at e
    show g.val = h.val % 256 / 64
    omega
  · intro hn; exact absurd (Finset.mem_univ _) hn

/-- With the block matrix of ones, a head's share of a row of real numbers is the sum over the head. -/
theorem seg_eq (E : Fin 256 → Fin 256 → EReal) (hE : ∀ k h, E k h = if k.val / 64 = h.val / 64 then 1 else 0) (x : Half)
    (hx : ∀ h, IsReal (x h)) (h : Fin 512) : seg E x h = grp x h := by
  have z : ∀ y : EReal, IsReal y → y - y = 0 := by
    rintro y ⟨r, rfl⟩
    rw [← EReal.coe_sub, sub_self]; rfl
  unfold seg
  simp only [hE, z _ (hx _), zero_mul, Finset.sum_const_zero, add_zero]
  exact blk_sum x h

theorem grp_real {x : Half} (hx : ∀ h, IsReal (x h)) (h : Fin 512) : IsReal (grp x h) := IsReal.sum fun _ => hx _

theorem grp_nonneg {x : Half} (hx : ∀ h, ∃ r : ℝ, 0 ≤ r ∧ x h = r) (h : Fin 512) : ∃ r : ℝ, 0 ≤ r ∧ grp x h = r := by
  choose f hf hx using hx
  refine ⟨∑ i : Fin 64, f ⟨h.val / 64 * 64 + i.val, by omega⟩, Finset.sum_nonneg fun _ _ => hf _, ?_⟩
  unfold grp
  rw [coe_sum]
  exact Finset.sum_congr rfl fun _ _ => hx _

theorem sq_nonneg' {x : EReal} (hx : IsReal x) : ∃ r : ℝ, 0 ≤ r ∧ x * x = r := by
  obtain ⟨a, rfl⟩ := hx
  exact ⟨a * a, mul_self_nonneg a, (EReal.coe_mul _ _).symm⟩

/-- The norm's mean square with its constant is positive. -/
theorem ms_pos {x : Row} (hx : ∀ h, IsReal (x h)) : Pos (ms x) := by
  choose f hf using fun h => sq_nonneg' (hx h)
  have e : Pos (Ideal.ofBits FTy.f32 897988541#32) := by
    simp only [Ideal.ofBits, Ideal.ieee]
    simp
    refine ⟨_, ?_, (EReal.coe_mul _ _).symm⟩
    norm_num
  have n : Ideal.ofBits FTy.f32 1149239296#32 = ((1024 : ℝ) : EReal) := by
    simp [Ideal.ofBits, Ideal.ieee]
    rw [← EReal.coe_mul]; norm_num
  obtain ⟨r, p, e⟩ := e
  refine ⟨(∑ h, f h) * (1 / 1024) + r, ?_, ?_⟩
  · have := Finset.sum_nonneg (s := Finset.univ) fun h _ => (hf h).1
    positivity
  · unfold ms
    rw [n, Ideal.div_coe (by norm_num), e, Finset.sum_congr rfl fun h _ => (hf h).2, ← coe_sum, ← EReal.coe_mul, ← EReal.coe_add]

theorem ofBits_real (n : ℝ) {b : EReal} (h : b = n) : IsReal b := ⟨n, h⟩

theorem back_real {x e : Row} (hx : ∀ h, IsReal (x h)) (he : ∀ h, IsReal (e h)) (h : Fin 1024) : IsReal (back x e h) := by
  have p := ms_pos hx
  have n : Ideal.ofBits FTy.f32 1149239296#32 = ((1024 : ℝ) : EReal) := by
    simp [Ideal.ofBits, Ideal.ieee]
    rw [← EReal.coe_mul]; norm_num
  have c : IsReal (corr1 x e) := by
    unfold corr1
    refine Pos.div ?_ ⟨1024, by norm_num, n⟩
    exact (IsReal.sum fun k => (hx k).mul (he k)).mul (IsReal.mul ⟨_, mhalf_eq⟩ (Pos.div p.rsqrt p))
  exact (((he h).mul p.rsqrt).add ((hx h).mul c)).add (c.mul (hx h))
end Cert.MixRow
-- ==== Proof.MixMath.lean ====
module

public import proofs.«01_k».proof.Proof.MixReal

@[expose] public section

set_option maxRecDepth 16384

noncomputable section

open Idealize.ShloMosaic Idealize.ShloMosaic.TcCoe Idealize.SL.Sem

namespace Cert.MixRow
open Cert.NormRow Cert.MlpRow Cert.Finite

/-- The float 64. -/
def c64 : EReal := Ideal.ofBits FTy.f32 1115684864#32
/-- The float 2. -/
def c2 : EReal := Ideal.ofBits FTy.f32 1073741824#32

theorem c64_eq : c64 = ((64 : ℝ) : EReal) := by
  unfold c64
  simp [Ideal.ofBits, Ideal.ieee]
  rw [← EReal.coe_mul]; norm_num
theorem c2_eq : c2 = ((2 : ℝ) : EReal) := by
  unfold c2
  simp [Ideal.ofBits, Ideal.ieee]
  rw [← EReal.coe_mul]; norm_num
theorem div64 (x : EReal) : Ideal.div x c64 = x * inv := by
  rw [c64_eq, Ideal.div_coe (by norm_num), inv_eq]

/-- What the readout's equality needs of a token's rows: real numbers in the scans' outputs and keys, the receptance and its
    weight, the block matrix of ones, and the gate's weights padded with zeros. -/
structure In.OkF (i : In) : Prop where
  yf : ∀ h, IsReal (i.yf h)
  yb : ∀ h, IsReal (i.yb h)
  kf : ∀ h, IsReal (i.kf h)
  kb : ∀ h, IsReal (i.kb h)
  r : ∀ h, IsReal (i.r h)
  rk : ∀ h, IsReal (i.rk h)
  E : ∀ k h, i.E k h = if k.val / 64 = h.val / 64 then 1 else 0
  pad : ∀ k h, 160 ≤ k.val → i.gw k h = 0

/-- What its gradient's equality needs: real numbers in the other rows too. -/
structure In.Ok (i : In) : Prop extends In.OkF i where
  v : ∀ h, IsReal (i.v h)
  gd : ∀ h, IsReal (i.gd h)
  cv : ∀ h, IsReal (i.cv h)
  ga : ∀ h, IsReal (i.ga h)
  gw : ∀ k h, IsReal (i.gw k h)
  lw : ∀ h, IsReal (i.lw h)
  lb : ∀ h, IsReal (i.lb h)
  wo : ∀ k h, IsReal (i.wo k h)
  g2 : ∀ h, IsReal (i.g2 h)
  d : ∀ h, IsReal (i.d h)

/-- A sum over a head is the same from every position of the head. -/
theorem grp_at (x : Half) (h : Fin 512) (j : Fin 64) : grp x ⟨h.val / 64 * 64 + j.val, by omega⟩ = grp x h := by
  unfold grp
  refine Finset.sum_congr rfl fun i _ => congrArg x (Fin.ext ?_)
  show (h.val / 64 * 64 + j.val) / 64 * 64 + i.val = h.val / 64 * 64 + i.val
  omega

/-- A sum over the padded positions is the sum over the true ones. -/
theorem sum_pad (f : Fin 256 → EReal) (hf : ∀ k, 160 ≤ k.val → f k = 0) : ∑ k, f k = ∑ k : Fin 160, f ⟨k.val, by omega⟩ := by
  rw [Fin.sum_univ_add (a := 160) (b := 96) f]
  rw [Finset.sum_eq_zero (s := Finset.univ) (f := fun i : Fin 96 => f (Fin.natAdd 160 i)), add_zero]
  · rfl
  · intro k _
    exact hf _ (by simp)

namespace In.OkF
variable {i : In} (o : i.OkF)
include o
theorem y_real (h : Fin 512) : IsReal (i.y h) := (o.yf h).add (o.yb h)
theorem k_real (h : Fin 512) : IsReal (i.k h) := IsReal.mul ⟨_, half_eq⟩ ((o.kf h).add (o.kb h))
theorem inv_real : IsReal inv := ⟨_, inv_eq⟩
theorem seg_grp {x : Half} (hx : ∀ h, IsReal (x h)) (h : Fin 512) : seg i.E x h = grp x h := seg_eq i.E o.E x hx h
/-- The centred row. -/
theorem yc_eq (h : Fin 512) : i.yc h = i.y h - Ideal.div (grp i.y h) c64 := by
  unfold In.yc
  rw [o.seg_grp o.y_real, div64]
theorem yc_real (h : Fin 512) : IsReal (i.yc h) := by
  rw [o.yc_eq, div64]
  exact (o.y_real h).sub ((grp_real o.y_real h).mul o.inv_real)
/-- The variance with its constant. -/
theorem a_eq (h : Fin 512) : i.a h = Ideal.div (grp (fun h => i.yc h * i.yc h) h) c64 + eps := by
  unfold In.a
  rw [o.seg_grp fun h => (o.yc_real h).mul (o.yc_real h), div64]
theorem q_real (h : Fin 512) : IsReal (i.q h) := (o.r h).mul (o.k_real h)
theorem sb_eq (h : Fin 512) : i.sb h = grp (fun h => i.q h * i.rk h) h := o.seg_grp (fun h => (o.q_real h).mul (o.rk h)) h
theorem g_eq (h : Fin 512) : i.g h = ∑ k : Fin 160, i.sg ⟨k.val, by omega⟩ * i.gw ⟨k.val, by omega⟩ h :=
  sum_pad _ fun k e => by rw [o.pad k h e, mul_zero]
end In.OkF

namespace In.Ok
variable {i : In} (o : i.Ok)
include o
theorem a_pos (h : Fin 512) : Pos (i.a h) := by
  rw [o.a_eq, div64, inv_eq]
  obtain ⟨r, p, e⟩ := eps_pos
  obtain ⟨s, q, f⟩ := grp_nonneg (fun h => sq_nonneg' (o.yc_real h)) h
  refine ⟨s * (1 / 64) + r, by positivity, ?_⟩
  rw [f, e, ← EReal.coe_mul, ← EReal.coe_add]
theorem a_at (h : Fin 512) (j : Fin 64) : i.a ⟨h.val / 64 * 64 + j.val, by omega⟩ = i.a h := by
  rw [o.a_eq, o.a_eq, grp_at]
theorem rs_real (h : Fin 512) : IsReal (i.rs h) := (o.a_pos h).rsqrt
theorem dd_real (h : Fin 512) : IsReal (i.dd h) := IsReal.mul ⟨_, mhalf_eq⟩ (Pos.div (o.rs_real h) (o.a_pos h))
theorem dd_at (h : Fin 512) (j : Fin 64) : i.dd ⟨h.val / 64 * 64 + j.val, by omega⟩ = i.dd h := by
  unfold In.dd In.rs
  rw [o.a_at]
theorem nh_real (h : Fin 512) : IsReal (i.nh h) := (o.yc_real h).mul (o.rs_real h)
theorem yn_real (h : Fin 512) : IsReal (i.yn h) := ((o.nh_real h).mul (o.lw h)).add (o.lb h)
theorem sb_real (h : Fin 512) : IsReal (i.sb h) := by
  rw [o.sb_eq]; exact grp_real (fun h => (o.q_real h).mul (o.rk h)) h
theorem sg_real (k : Fin 256) : IsReal (i.sg k) := IsReal.sigmoid (o.gd k)
theorem g_real (h : Fin 512) : IsReal (i.g h) := IsReal.sum fun k => (o.sg_real k).mul (o.gw k h)
theorem s_real (h : Fin 512) : IsReal (i.s h) := (o.yn_real h).add ((o.sb_real h).mul (o.v h))
theorem ro_real (h : Fin 512) : IsReal (i.ro h) := (o.s_real h).mul (o.g_real h)
theorem cat_real (k : Fin 1024) : IsReal (i.cat k) := by
  unfold In.cat
  split
  · exact o.ro_real _
  · exact o.cv _
theorem mix_real (h : Fin 1024) : IsReal (i.mix h) := IsReal.sum fun k => (o.cat_real k).mul (o.wo k h)
theorem ge_real (h : Fin 1024) : IsReal (i.ge h) := (o.ga h).mul (o.d h)
theorem dmix_real (h : Fin 1024) : IsReal (i.dmix h) := back_real o.mix_real (fun k => (o.ge_real k).mul (o.g2 k)) h
theorem dcat_real (k : Fin 1024) : IsReal (i.dcat k) := IsReal.sum fun h => (o.dmix_real h).mul (o.wo k h)
theorem ds_real (h : Fin 512) : IsReal (i.ds h) := (o.dcat_real _).mul (o.g_real h)
theorem dg_real (h : Fin 512) : IsReal (i.dg h) := (o.s_real h).mul (o.dcat_real _)
theorem dsg_real (k : Fin 256) : IsReal (i.dsg k) := IsReal.sum fun h => (o.dg_real h).mul (o.gw k h)
theorem sd_eq (h : Fin 512) : i.sd h = grp (fun h => i.ds h * i.v h) h := o.seg_grp (fun h => (o.ds_real h).mul (o.v h)) h
theorem dn_real (h : Fin 512) : IsReal (i.dn h) := (o.ds_real h).mul (o.lw h)
/-- The logistic function's gradient, from its value. -/
theorem dgd_eq (k : Fin 256) : i.dgd k = i.dsg k * (i.sg k * (1 - i.sg k)) := by
  obtain ⟨x, hx⟩ := o.gd k
  obtain ⟨z, hz⟩ := o.dsg_real k
  unfold In.dgd In.sg In.sp In.ex
  rw [hz, hx, ← EReal.coe_neg, Ideal.exp_coe]
  have e : (1 : EReal) + ((Real.exp (-x) : ℝ) : EReal) = ((1 + Real.exp (-x) : ℝ) : EReal) := by norm_cast
  have p : (1 + Real.exp (-x) : ℝ) ≠ 0 := by positivity
  rw [e, ← EReal.coe_mul, Ideal.div_coe p, Ideal.div_coe (mul_ne_zero p p)]
  norm_cast
  generalize Real.exp (-x) = u at p ⊢
  field_simp
  ring
theorem dgd_pad (k : Fin 256) (hk : 160 ≤ k.val) : i.dgd k = 0 := by
  have z : i.dsg k = 0 := Finset.sum_eq_zero fun h _ => by rw [o.pad k h hk, mul_zero]
  rw [o.dgd_eq, z, zero_mul]
/-- What comes back through the variance. -/
theorem sv_eq (h : Fin 512) : i.sv h = Ideal.div (grp (fun h => i.yc h * i.dn h) h * i.dd h) c64 := by
  unfold In.sv
  rw [o.seg_grp fun h => (((o.yc_real h).mul (o.dn_real h)).mul (o.dd_real h)).mul o.inv_real, div64, mul_assoc]
  unfold grp
  rw [sum_mul_real (fun k => (o.yc_real _).mul (o.dn_real _)) ((o.dd_real h).mul o.inv_real)]
  refine Finset.sum_congr rfl fun j _ => ?_
  beta_reduce
  rw [o.dd_at, mul_assoc]
theorem sv_real (h : Fin 512) : IsReal (i.sv h) := by
  rw [o.sv_eq, div64]
  exact ((grp_real (fun h => (o.yc_real h).mul (o.dn_real h)) h).mul (o.dd_real h)).mul o.inv_real
theorem dyc_eq (h : Fin 512) : i.dyc h = i.dn h * i.rs h + i.sv h * (c2 * i.yc h) := by
  unfold In.dyc
  obtain ⟨a, ha⟩ := o.dn_real h
  obtain ⟨b, hb⟩ := o.rs_real h
  obtain ⟨c, hc⟩ := o.sv_real h
  obtain ⟨d, hd⟩ := o.yc_real h
  rw [ha, hb, hc, hd, c2_eq]
  norm_cast
  ring
theorem dyc_real (h : Fin 512) : IsReal (i.dyc h) := by
  rw [o.dyc_eq]
  exact ((o.dn_real h).mul (o.rs_real h)).add ((o.sv_real h).mul (IsReal.mul ⟨_, c2_eq⟩ (o.yc_real h)))
/-- The group norm's gradient. -/
theorem dy_eq (h : Fin 512) : i.dy h = i.dn h * i.rs h + i.sv h * (c2 * i.yc h) +
    Ideal.div (grp (fun h => -(i.dn h * i.rs h)) h + grp (fun h => -(i.sv h * (c2 * i.yc h))) h) c64 := by
  unfold In.dy
  rw [o.seg_grp fun h => (o.dyc_real h).neg.mul o.inv_real, div64, ← o.dyc_eq]
  refine congrArg (i.dyc h + ·) ?_
  unfold grp
  rw [← Finset.sum_add_distrib, sum_mul_real (fun k => ?_) o.inv_real]
  · refine Finset.sum_congr rfl fun j _ => congrArg (· * inv) ?_
    beta_reduce
    rw [o.dyc_eq]
    obtain ⟨a, ha⟩ := (o.dn_real ⟨h.val / 64 * 64 + j.val, by omega⟩).mul (o.rs_real ⟨h.val / 64 * 64 + j.val, by omega⟩)
    obtain ⟨b, hb⟩ := (o.sv_real ⟨h.val / 64 * 64 + j.val, by omega⟩).mul (IsReal.mul ⟨_, c2_eq⟩ (o.yc_real ⟨h.val / 64 * 64 + j.val, by omega⟩))
    rw [ha, hb]
    norm_cast
    ring
  · exact ((o.dn_real _).mul (o.rs_real _)).neg.add ((o.sv_real _).mul (IsReal.mul ⟨_, c2_eq⟩ (o.yc_real _))).neg
end In.Ok
end Cert.MixRow
-- ==== Proof.MixRef.lean ====
module

public import proofs.«01_k».proof.Proof.Gen.Reference4Ideal.Run
public import proofs.«01_k».proof.Proof.MixHost
public import proofs.«01_k».proof.Proof.MixMath

@[expose] public section

set_option maxRecDepth 16384

noncomputable section

open Idealize.ShloMosaic Idealize.ShloMosaic.TcCoe Idealize.SL.Sem Idealize.ShloMosaic.StableHlo

namespace Cert.MixOut
open Cert.Reference4Ideal Cert.Reference4Ideal.Gen Cert.Reference4Ideal.Value Cert.NormRow Cert.MlpRow Cert.MixRow

/-! ## The reference's arrays, operation by operation -/

/-- Tokens by the mixer's width; by heads; one number of each head; by the model's width. -/
abbrev Tok := FVec Ideal S4x2048x512 .f32
abbrev Hd := FVec Ideal S4x2048x8x64 .f32
abbrev Hd1 := FVec Ideal S4x2048x8x1 .f32
abbrev Wide := FVec Ideal S4x2048x1024 .f32
abbrev Long := FVec Ideal S4x2304x512 .f32

def hsl (x : Long) : Tok := extractStridedSlice S4x2048x512 ![0, 256, 0] x slices_S4x2304x512_S4x2048x512_0_256_0
def hup (x : Tok) : Hd := shapeCast S4x2048x8x64 x shapeCasts_S4x2048x512_S4x2048x8x64
def hdown (x : Hd) : Tok := shapeCast S4x2048x512 x shapeCasts_S4x2048x8x64_S4x2048x512
def hcut (x : Tok) : FVec Ideal S4x4x2048x128 .f32 := transpose S4x4x2048x128 [0, 2, 1, 3] (shapeCast S4x2048x4x128 x shapeCasts_S4x2048x512_S4x2048x4x128) transposes_S4x2048x4x128_S4x4x2048x128_0_2_1_3
def hhalf (x : Tok) : Tok := mulf (broadcastInDim S4x2048x512 ![] bcast_S_S4x2048x512 (constant S_ .f32 0x3F000000#32)) x
/-- One number of each head laid over the head. -/
def hb (x : Hd1) : Hd := broadcastInDim S4x2048x8x64 ![0, 1, 2, 3] bcast_S4x2048x8x1_S4x2048x8x64_0_1_2_3 x
/-- The sum over a head, and over 64. -/
def hsum (x : Hd) : FVec Ideal S4x2048x8 .f32 := Host.reduceAdd x (constant S_ .f32 0x00000000#32) reducesTo_S4x2048x8x64_S4x2048x8_d3 h_S_
def hk1 (x : FVec Ideal S4x2048x8 .f32) : Hd1 := broadcastInDim S4x2048x8x1 ![0, 1, 2] bcast_S4x2048x8_S4x2048x8x1_0_1_2 x
def hr1 (x : FVec Ideal S4x2048x8 .f32) : Hd1 := shapeCast S4x2048x8x1 x shapeCasts_S4x2048x8_S4x2048x8x1
/-- A head's number back through the kept axis. -/
def hback1 (x : Hd1) : Hd := broadcastInDim S4x2048x8x64 ![0, 1, 2] bcast_S4x2048x8_S4x2048x8x64_0_1_2 (Host.reduceAdd x (constant S_ .f32 0x00000000#32) reducesTo_S4x2048x8x1_S4x2048x8_d3 h_S_)
def hdiv (x : Hd1) : Hd1 := Host.divf x (broadcastInDim S4x2048x8x1 ![] bcast_S_S4x2048x8x1 (constant S_ .f32 0x42800000#32))
def heps (x : Hd1) : Hd1 := addf x (broadcastInDim S4x2048x8x1 ![] bcast_S_S4x2048x8x1 (constant S_ .f32 0x3A27C5AC#32))
def hdd (rs a : Hd1) : Hd1 := mulf (broadcastInDim S4x2048x8x1 ![] bcast_S_S4x2048x8x1 (constant S_ .f32 0xBF000000#32)) (Host.divf rs a)
def htwo (x : Hd) : Hd := mulf (broadcastInDim S4x2048x8x64 ![] bcast_S_S4x2048x8x64 (constant S_ .f32 0x40000000#32)) x
/-- A weight over the mixer's width, and over the heads. -/
def hrow (g : FVec Ideal S1x512 .f32) : Tok := broadcastInDim S4x2048x512 ![0, 1, 2] bcast_S1x1x512_S4x2048x512_0_1_2 (broadcastInDim S1x1x512 ![2] bcast_S512_S1x1x512_2 (shapeCast S512 g shapeCasts_S1x512_S512))
def hhead (g : FVec Ideal S8x64 .f32) : Hd := broadcastInDim S4x2048x8x64 ![0, 1, 2, 3] bcast_S1x1x8x64_S4x2048x8x64_0_1_2_3 (broadcastInDim S1x1x8x64 ![2, 3] bcast_S8x64_S1x1x8x64_2_3 g)
/-- The gate: the logistic of the hidden rows times the weights. -/
def hgds (x : FVec Ideal S4x2304x160 .f32) : FVec Ideal S4x2048x256 .f32 := extractStridedSlice S4x2048x256 ![0, 256, 0] (gdp x) slices_S4x2304x256_S4x2048x256_0_256_0
def hsig (x : FVec Ideal S4x2048x256 .f32) : FVec Ideal S4x2048x256 .f32 := Host.divf (broadcastInDim S4x2048x256 ![] bcast_S_S4x2048x256 (constant S_ .f32 0x3F800000#32)) (addf (broadcastInDim S4x2048x256 ![] bcast_S_S4x2048x256 (constant S_ .f32 0x3F800000#32)) (Host.exp (Host.negf x)))
def hone (x : FVec Ideal S4x2048x256 .f32) : FVec Ideal S4x2048x256 .f32 := mulf x (subf (broadcastInDim S4x2048x256 ![] bcast_S_S4x2048x256 (constant S_ .f32 0x3F800000#32)) x)
def hg (x : FVec Ideal S4x2048x256 .f32) (w : FVec Ideal S256x512 .f32) : Tok := Host.dotGeneral dot_S4x2048x256_S256x512_S4x2048x512_2_0_01_1_n_n none x w
def hgT (x : Tok) (w : FVec Ideal S256x512 .f32) : FVec Ideal S4x2048x256 .f32 := Host.dotGeneral dot_S4x2048x512_S256x512_S4x2048x256_2_1_01_0_n_n none x w
def hgw (x : Tok) (s : FVec Ideal S4x2048x256 .f32) : FVec Ideal S256x512 .f32 := transpose S256x512 [1, 0] (Host.dotGeneral dot_S4x2048x512_S4x2048x256_S512x256_01_01_2_2_n_n none x s) transposes_S512x256_S256x512_1_0
/-- The two halves side by side, and the projection. -/
def hcat (x c : Tok) : Wide := concatenate S4x2048x1024 2 [⟨S4x2048x512, x⟩, ⟨S4x2048x512, c⟩] concatenates_S4x2048x512_S4x2048x512_S4x2048x1024_d2
def hmix (x : Wide) (w : FVec Ideal S1024x1024 .f32) : Wide := addf (Host.dotGeneral dot_S4x2048x1024_S1024x1024_S4x2048x1024_2_0_01_1_n_n none x w) (broadcastInDim S4x2048x1024 ![] bcast_S_S4x2048x1024 (constant S_ .f32 0x00000000#32))
def hmixT (x : Wide) (w : FVec Ideal S1024x1024 .f32) : Wide := addf (broadcastInDim S4x2048x1024 ![] bcast_S_S4x2048x1024 (constant S_ .f32 0x00000000#32)) (Host.dotGeneral dot_S4x2048x1024_S1024x1024_S4x2048x1024_2_1_01_0_n_n none x w)
def hlo (x : Wide) : Tok := extractStridedSlice S4x2048x512 ![0, 0, 0] x slices_S4x2048x1024_S4x2048x512_0_0_0
def hhi (x : Wide) : Tok := extractStridedSlice S4x2048x512 ![0, 0, 512] x slices_S4x2048x1024_S4x2048x512_0_0_512
/-- The norm over the model's width, its weight, its gradient. -/
def hms (x : Wide) : FVec Ideal S4x2048x1 .f32 :=
  addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
def hxr (x : Wide) : Wide := mulf x (broadcastInDim S4x2048x1024 ![0, 1, 2] bcast_S4x2048x1_S4x2048x1024_0_1_2 (Host.rsqrt (hms x)))
def hw (x : Wide) (g : FVec Ideal S1x1024 .f32) : Wide := mulf x (broadcastInDim S4x2048x1024 ![0, 1, 2] bcast_S1x1x1024_S4x2048x1024_0_1_2 (broadcastInDim S1x1x1024 ![2] bcast_S1024_S1x1x1024_2 (shapeCast S1024 g shapeCasts_S1x1024_S1024)))
def hge (g : FVec Ideal S4x1x1024 .f32) (x : Wide) : Wide := mulf (broadcastInDim S4x2048x1024 ![0, 1, 2] bcast_S4x1x1024_S4x2048x1024_0_1_2 g) x
def hcorr (x e : Wide) : Wide :=
  broadcastInDim S4x2048x1024 ![0, 1] bcast_S4x2048_S4x2048x1024_0_1 (Host.reduceAdd (Host.divf (mulf (shapeCast S4x2048x1 (Host.reduceAdd (mulf x e) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (hms x)) (hms x)))) (broadcastInDim S4x2048x1 ![] bcast_S_S4x2048x1 (constant S_ .f32 0x44800000#32))) (constant S_ .f32 0x00000000#32) reducesTo_S4x2048x1_S4x2048_d2 h_S_)
def hback (x e : Wide) : Wide := addf (addf (mulf e (broadcastInDim S4x2048x1024 ![0, 1, 2] bcast_S4x2048x1_S4x2048x1024_0_1_2 (Host.rsqrt (hms x)))) (mulf x (hcorr x e))) (mulf (hcorr x e) x)
/-- The sums over the tokens: of each batch row, and of all. -/
def hrows (x : Wide) : FVec Ideal S4x1x1024 .f32 := shapeCast S4x1x1024 (Host.reduceAdd x (constant S_ .f32 0x00000000#32) reducesTo_S4x2048x1024_S4x1024_d1 h_S_) shapeCasts_S4x1024_S4x1x1024
def hall (x : Wide) : FVec Ideal S1x1024 .f32 :=
  broadcastInDim S1x1024 ![1] bcast_S1024_S1x1024_1 (Host.reduceAdd (shapeCast S1x1x1024 (Host.reduceAdd x (constant S_ .f32 0x00000000#32) reducesTo_S4x2048x1024_S1024_d0_1 h_S_) shapeCasts_S1024_S1x1x1024) (constant S_ .f32 0x00000000#32) reducesTo_S1x1x1024_S1024_d0_1 h_S_)
def hall5 (x : Tok) : FVec Ideal S1x512 .f32 :=
  broadcastInDim S1x512 ![1] bcast_S512_S1x512_1 (Host.reduceAdd (shapeCast S1x1x512 (Host.reduceAdd x (constant S_ .f32 0x00000000#32) reducesTo_S4x2048x512_S512_d0_1 h_S_) shapeCasts_S512_S1x1x512) (constant S_ .f32 0x00000000#32) reducesTo_S1x1x512_S512_d0_1 h_S_)
def hallh (x : Hd) : FVec Ideal S1x512 .f32 :=
  shapeCast S1x512 (Host.reduceAdd (shapeCast S1x1x8x64 (Host.reduceAdd x (constant S_ .f32 0x00000000#32) reducesTo_S4x2048x8x64_S8x64_d0_1 h_S_) shapeCasts_S8x64_S1x1x8x64) (constant S_ .f32 0x00000000#32) reducesTo_S1x1x8x64_S8x64_d0_1 h_S_) shapeCasts_S8x64_S1x512

section elements
variable (b : Fin 4) (t : Fin 2048)
theorem hsl_apply (x : Long) (h : Fin 512) : hsl x (ix3 b t h) = x (ix3 b ⟨256 + t.val, by omega⟩ h) := by pointwise [hsl]
theorem hup_apply (x : Tok) (n : Fin 8) (i : Fin 64) : hup x (ix4 b t n i) = x (ix3 b t ⟨n.val * 64 + i.val, by omega⟩) := by pointwise [hup]
theorem hdown_apply (x : Hd) (h : Fin 512) : hdown x (ix3 b t h) = x (ix4 b t ⟨h.val / 64, by omega⟩ ⟨h.val % 64, by omega⟩) := by pointwise [hdown]
theorem hcut_apply (x : Tok) (j : Fin 4) (l : Fin 128) : hcut x (ix4 b j t l) = x (ix3 b t ⟨j.val * 128 + l.val, by omega⟩) := by pointwise [hcut]
theorem hhalf_apply (x : Tok) (h : Fin 512) : hhalf x (ix3 b t h) = Ideal.ofBits FTy.f32 1056964608#32 * x (ix3 b t h) := by pointwise [hhalf]
theorem hb_apply (x : Hd1) (n : Fin 8) (i : Fin 64) : hb x (ix4 b t n i) = x (ix4 b t n 0) := by pointwise [hb]
theorem hsum_apply (x : Hd) (n : Fin 8) : hsum x (ix3 b t n) = ∑ i : Fin 64, x (ix4 b t n i) := by pointwise [hsum]
theorem hk1_apply (x : FVec Ideal S4x2048x8 .f32) (n : Fin 8) : hk1 x (ix4 b t n 0) = x (ix3 b t n) := by pointwise [hk1]
theorem hr1_apply (x : FVec Ideal S4x2048x8 .f32) (n : Fin 8) : hr1 x (ix4 b t n 0) = x (ix3 b t n) := by pointwise [hr1]
theorem hback1_apply (x : Hd1) (n : Fin 8) (i : Fin 64) : hback1 x (ix4 b t n i) = x (ix4 b t n 0) := by
  pointwise [hback1]
  simp only [Fin.sum_univ_one]
theorem hdiv_apply (x : Hd1) (n : Fin 8) : hdiv x (ix4 b t n 0) = Ideal.div (x (ix4 b t n 0)) c64 := by pointwise [hdiv]; rfl
theorem heps_apply (x : Hd1) (n : Fin 8) : heps x (ix4 b t n 0) = x (ix4 b t n 0) + eps := by pointwise [heps]; rfl
theorem hdd_apply (x y : Hd1) (n : Fin 8) : hdd x y (ix4 b t n 0) = mhalf * Ideal.div (x (ix4 b t n 0)) (y (ix4 b t n 0)) := by pointwise [hdd]; rfl
theorem htwo_apply (x : Hd) (n : Fin 8) (i : Fin 64) : htwo x (ix4 b t n i) = c2 * x (ix4 b t n i) := by pointwise [htwo]; rfl
theorem hrow_apply (g : FVec Ideal S1x512 .f32) (h : Fin 512) : hrow g (ix3 b t h) = g (ix2 0 h) := by pointwise [hrow]
theorem hhead_apply (g : FVec Ideal S8x64 .f32) (n : Fin 8) (i : Fin 64) : hhead g (ix4 b t n i) = g (ix2 n i) := by pointwise [hhead]
theorem hgds_apply (x : FVec Ideal S4x2304x160 .f32) (k : Fin 256) : hgds x (ix3 b t k) = if h : k.val < 160 then x (ix3 b ⟨256 + t.val, by omega⟩ ⟨k.val, h⟩) else 0 := by
  refine Eq.trans ?_ (gdp_apply x b ⟨256 + t.val, by omega⟩ k)
  unfold hgds
  generalize gdp x = z
  pointwise
theorem hsig_apply (x : FVec Ideal S4x2048x256 .f32) (k : Fin 256) : hsig x (ix3 b t k) = Ideal.div 1 (1 + Ideal.exp (-(x (ix3 b t k)))) := by pointwise [hsig]
theorem hone_apply (x : FVec Ideal S4x2048x256 .f32) (k : Fin 256) : hone x (ix3 b t k) = x (ix3 b t k) * (1 - x (ix3 b t k)) := by pointwise [hone]
theorem hg_apply (x : FVec Ideal S4x2048x256 .f32) (w : FVec Ideal S256x512 .f32) (h : Fin 512) : hg x w (ix3 b t h) = ∑ k : Fin 256, x (ix3 b t k) * w (ix2 k h) := by pointwise [hg]
theorem hgT_apply (x : Tok) (w : FVec Ideal S256x512 .f32) (k : Fin 256) : hgT x w (ix3 b t k) = ∑ h : Fin 512, x (ix3 b t h) * w (ix2 k h) := by pointwise [hgT]
theorem hcat_apply (x c : Tok) (k : Fin 1024) : hcat x c (ix3 b t k) = if h : k.val < 512 then x (ix3 b t ⟨k.val, h⟩) else c (ix3 b t ⟨k.val - 512, by omega⟩) := by pointwise [hcat]
theorem hmix_apply (x : Wide) (w : FVec Ideal S1024x1024 .f32) (h : Fin 1024) : hmix x w (ix3 b t h) = ∑ k : Fin 1024, x (ix3 b t k) * w (ix2 k h) := by pointwise [hmix]
theorem hmixT_apply (x : Wide) (w : FVec Ideal S1024x1024 .f32) (k : Fin 1024) : hmixT x w (ix3 b t k) = ∑ h : Fin 1024, x (ix3 b t h) * w (ix2 k h) := by pointwise [hmixT]
theorem hlo_apply (x : Wide) (h : Fin 512) : hlo x (ix3 b t h) = x (ix3 b t ⟨h.val, by omega⟩) := by pointwise [hlo]
theorem hhi_apply (x : Wide) (h : Fin 512) : hhi x (ix3 b t h) = x (ix3 b t ⟨512 + h.val, by omega⟩) := by pointwise [hhi]
theorem hxr_apply (x : Wide) (h : Fin 1024) : hxr x (ix3 b t h) = x (ix3 b t h) * Ideal.rsqrt (ms fun k => x (ix3 b t k)) := by
  pointwise [hxr, hms]; rfl
theorem hw_apply (x : Wide) (g : FVec Ideal S1x1024 .f32) (h : Fin 1024) : hw x g (ix3 b t h) = x (ix3 b t h) * g (ix2 0 h) := by pointwise [hw]
theorem hge_apply (g : FVec Ideal S4x1x1024 .f32) (x : Wide) (h : Fin 1024) : hge g x (ix3 b t h) = g (ix3 b 0 h) * x (ix3 b t h) := by pointwise [hge]
theorem hback_apply (x e : Wide) (h : Fin 1024) : hback x e (ix3 b t h) = back (fun k => x (ix3 b t k)) (fun k => e (ix3 b t k)) h := by
  pointwise [hback, hcorr, hms]
  simp only [Fin.sum_univ_one]
  rfl
theorem hrows_apply (x : Wide) (h : Fin 1024) : hrows x (ix3 b 0 h) = ∑ t : Fin 2048, x (ix3 b t h) := by pointwise [hrows]
end elements

/-- A sum over the two leading axes of three. -/
theorem sum_lead2 {n0 n1 n2 : ℕ} (hr : (⟨3, ![n0, n1, n2]⟩ : Shape).ReducesTo [0, 1] ⟨1, ![n2]⟩)
    (v : (⟨3, ![n0, n1, n2]⟩ : Shape).Idx → EReal) (init : EReal) (h : Fin n2) :
    Ideal.hostReduceAdd hr v init (ix1 h) = init + ∑ k : Fin n0 × Fin n1, v (ix3 k.1 k.2 h) := by
  refine congrArg (init + ·) (Finset.sum_filter_eq_sum_of_fiber _ (fun k : Fin n0 × Fin n1 => ix3 k.1 k.2 h)
    (fun _ _ e => Prod.ext (congrFun e 0) (congrFun e 1)) (fun i => ?_) v)
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext a; apply Fin.ext
    match a with
    | ⟨0, _⟩ => rfl
/-- A sum over the two leading axes of four. -/
theorem sum_lead2' {n0 n1 n2 n3 : ℕ} (hr : (⟨4, ![n0, n1, n2, n3]⟩ : Shape).ReducesTo [0, 1] ⟨2, ![n2, n3]⟩)
    (v : (⟨4, ![n0, n1, n2, n3]⟩ : Shape).Idx → EReal) (init : EReal) (h : Fin n2) (l : Fin n3) :
    Ideal.hostReduceAdd hr v init (ix2 h l) = init + ∑ k : Fin n0 × Fin n1, v (ix4 k.1 k.2 h l) := by
  refine congrArg (init + ·) (Finset.sum_filter_eq_sum_of_fiber _ (fun k : Fin n0 × Fin n1 => ix4 k.1 k.2 h l)
    (fun _ _ e => Prod.ext (congrFun e 0) (congrFun e 1)) (fun i => ?_) v)
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext a; apply Fin.ext
    match a with
    | ⟨0, _⟩ => rfl
    | ⟨1, _⟩ => rfl
theorem hall_apply (v : Wide) (h : Fin 1024) : hall v (ix2 0 h) = ∑ b : Fin 4, ∑ t : Fin 2048, v (ix3 b t h) := by
  unfold hall
  pointwise
  rw [sum_lead2, zero_add]
  pointwise
  rw [Finset.sum_congr rfl fun k _ => sum_lead2 _ v 0 h]
  simp only [zero_add, Fintype.sum_prod_type, Fin.sum_univ_one]
theorem hall5_apply (v : Tok) (h : Fin 512) : hall5 v (ix2 0 h) = ∑ b : Fin 4, ∑ t : Fin 2048, v (ix3 b t h) := by
  unfold hall5
  pointwise
  rw [sum_lead2, zero_add]
  pointwise
  rw [Finset.sum_congr rfl fun k _ => sum_lead2 _ v 0 h]
  simp only [zero_add, Fintype.sum_prod_type, Fin.sum_univ_one]
theorem hallh_apply (v : Hd) (h : Fin 512) : hallh v (ix2 0 h) = ∑ b : Fin 4, ∑ t : Fin 2048, v (ix4 b t ⟨h.val / 64, by omega⟩ ⟨h.val % 64, by omega⟩) := by
  unfold hallh
  pointwise
  rw [sum_lead2', zero_add]
  pointwise
  rw [Finset.sum_congr rfl fun k _ => sum_lead2' _ v 0 _ _]
  simp only [zero_add, Fintype.sum_prod_type, Fin.sum_univ_one]
theorem hgw_apply (x : Tok) (s : FVec Ideal S4x2048x256 .f32) (k : Fin 256) (h : Fin 512) : hgw x s (ix2 k h) = ∑ b : Fin 4, ∑ t : Fin 2048, x (ix3 b t h) * s (ix3 b t k) := by
  pointwise [hgw]
end Cert.MixOut
-- ==== Proof.MixLines.lean ====
module

public import proofs.«01_k».proof.Proof.MixRef

@[expose] public section

set_option maxRecDepth 16384

noncomputable section

open Idealize.ShloMosaic Idealize.ShloMosaic.TcCoe Idealize.SL.Sem

namespace Cert.MixOut
open Cert.Reference4Ideal Cert.Reference4Ideal.Gen Cert.NormRow Cert.MlpRow Cert.MixRow Cert.Finite

/-- Position `i` of head `n` in a row of the mixer's width. -/
def at_ (n : Fin 8) (i : Fin 64) : Fin 512 := ⟨n.val * 64 + i.val, by omega⟩
theorem at_split (h : Fin 512) : at_ ⟨h.val / 64, by omega⟩ ⟨h.val % 64, by omega⟩ = h := Fin.ext (by show h.val / 64 * 64 + h.val % 64 = h.val; omega)
/-- A sum over a head from any of its positions. -/
theorem grp_head (x : Half) (n : Fin 8) (i : Fin 64) : grp x (at_ n i) = ∑ j, x (at_ n j) := by
  unfold grp
  refine Finset.sum_congr rfl fun j _ => congrArg x (Fin.ext ?_)
  show (n.val * 64 + i.val) / 64 * 64 + j.val = n.val * 64 + j.val
  omega

namespace Arr
variable (a : Arr)

/-! ## The reference's arrays over the call's -/
def y : Hd := hup (addf (hsl a.YF) (hsl a.YB))
def k : Hd := hup (hhalf (addf (hsl a.KF) (hsl a.KB)))
def r : Hd := hup (hsl a.R)
def v : Hd := hup (hsl a.V)
def yc : Hd := subf a.y (hb (hdiv (hk1 (hsum a.y))))
def va : Hd1 := heps (hdiv (hk1 (hsum (mulf a.yc a.yc))))
def rs : Hd1 := Host.rsqrt a.va
def nh : Tok := hdown (mulf a.yc (hb a.rs))
def q : Hd := mulf a.r a.k
def sb : Hd1 := hk1 (hsum (mulf a.q (hhead a.RK)))
def sg : FVec Ideal S4x2048x256 .f32 := hsig (hgds a.GD)
def g : Tok := hg a.sg (gwp a.GW)
def s : Tok := addf (addf (mulf a.nh (hrow a.LW)) (hrow a.LB)) (hdown (mulf (hb a.sb) a.v))
def cat : Wide := hcat (mulf a.s a.g) (hsl a.CV)
def mix : Wide := hmix a.cat a.WO
def ge : Wide := hge a.GA a.D
def dmix : Wide := hback a.mix (hw a.ge a.G2)
def dcat : Wide := hmixT a.dmix a.WO
def dg : Tok := mulf a.s (hlo a.dcat)
def ds : Tok := mulf (hlo a.dcat) a.g
def dsh : Hd := hup a.ds
def sd : Hd := hback1 (hr1 (hsum (mulf a.dsh a.v)))
def dq : Hd := mulf a.sd (hhead a.RK)
def dn : Hd := hup (mulf a.ds (hrow a.LW))
def dnr : Hd := mulf a.dn (hb a.rs)
def sv : Hd := hback1 (hdiv (mulf (hr1 (hsum (mulf a.yc a.dn))) (hdd a.rs a.va)))
def svy : Hd := mulf a.sv (htwo a.yc)
def dy : Hd := addf (addf a.dnr a.svy) (hback1 (hdiv (addf (hr1 (hsum (Host.negf a.dnr))) (hr1 (hsum (Host.negf a.svy))))))

/-- What the arrays' tokens satisfy. -/
def OkF : Prop := ∀ b t, (a.row b t).OkF
def Ok : Prop := ∀ b t, (a.row b t).Ok
variable {a} in
theorem Ok.f (o : a.Ok) : a.OkF := fun b t => (o b t).toOkF

variable (b : Fin 4) (t : Fin 2048) (n : Fin 8) (i : Fin 64) (h : Fin 512)
theorem y_row : a.y (ix4 b t n i) = (a.row b t).y (at_ n i) := by
  refine (hup_apply b t _ n i).trans ?_
  exact congrArg₂ (· + ·) (hsl_apply b t _ _) (hsl_apply b t _ _)
theorem k_row : a.k (ix4 b t n i) = (a.row b t).k (at_ n i) := by
  refine (hup_apply b t _ n i).trans ((hhalf_apply b t _ _).trans ?_)
  exact congrArg (_ * ·) (congrArg₂ (· + ·) (hsl_apply b t _ _) (hsl_apply b t _ _))
theorem r_row : a.r (ix4 b t n i) = (a.row b t).r (at_ n i) := (hup_apply b t _ n i).trans (hsl_apply b t _ _)
theorem v_row : a.v (ix4 b t n i) = (a.row b t).v (at_ n i) := (hup_apply b t _ n i).trans (hsl_apply b t _ _)
theorem rk_row : hhead a.RK (ix4 b t n i) = (a.row b t).rk (at_ n i) := by
  refine (hhead_apply b t _ n i).trans (congrArg₂ (fun x y => a.RK (ix2 x y)) (Fin.ext ?_) (Fin.ext ?_))
  · show n.val = (n.val * 64 + i.val) / 64
    omega
  · show i.val = (n.val * 64 + i.val) % 64
    omega
theorem q_row : a.q (ix4 b t n i) = (a.row b t).q (at_ n i) := congrArg₂ (· * ·) (a.r_row b t n i) (a.k_row b t n i)
theorem sg_row (k : Fin 256) : a.sg (ix3 b t k) = (a.row b t).sg k := by
  refine (hsig_apply b t _ k).trans ?_
  rw [hgds_apply]; rfl
theorem gw_row (k : Fin 256) : gwp a.GW (ix2 k h) = (a.row b t).gw k h := gwp_apply _ k h
theorem g_row : a.g (ix3 b t h) = (a.row b t).g h :=
  (hg_apply b t _ _ h).trans (Finset.sum_congr rfl fun k _ => congrArg₂ (· * ·) (a.sg_row b t k) (a.gw_row b t h k))
theorem ge_row (h : Fin 1024) : a.ge (ix3 b t h) = (a.row b t).ge h := hge_apply b t _ _ h
theorem hc_row : hsl a.CV (ix3 b t h) = (a.row b t).cv h := hsl_apply b t _ h

variable {a}
/-- A head's sum of an array whose elements are a row's. -/
theorem sum_row {x : Hd} {f : Half} (e : ∀ i, x (ix4 b t n i) = f (at_ n i)) : hsum x (ix3 b t n) = grp f (at_ n i) := by
  rw [hsum_apply, grp_head]
  exact Finset.sum_congr rfl fun j _ => e j
section
variable (o : a.OkF)
include o
theorem yc_row : a.yc (ix4 b t n i) = (a.row b t).yc (at_ n i) := by
  rw [(o b t).yc_eq]
  refine congrArg₂ (· - ·) (a.y_row b t n i) ?_
  rw [hb_apply, hdiv_apply, hk1_apply, sum_row b t n i fun j => a.y_row b t n j]
theorem a_row : a.va (ix4 b t n 0) = (a.row b t).a (at_ n i) := by
  rw [(o b t).a_eq]
  refine (heps_apply b t _ n).trans (congrArg (· + _) ?_)
  rw [hdiv_apply, hk1_apply]
  exact congrArg (fun z => Ideal.div z c64) (sum_row b t n i fun j => congrArg₂ (· * ·) (yc_row b t n j o) (yc_row b t n j o))
theorem rs_row : a.rs (ix4 b t n 0) = (a.row b t).rs (at_ n i) := congrArg Ideal.rsqrt (a_row b t n i o)
theorem nh_row : a.nh (ix3 b t h) = (a.row b t).nh h := by
  refine (hdown_apply b t _ h).trans ?_
  refine (congrArg₂ (· * ·) (yc_row b t _ _ o) ((hb_apply b t _ _ _).trans (rs_row b t _ ⟨h.val % 64, by omega⟩ o))).trans ?_
  rw [at_split]
  rfl
theorem sb_row : a.sb (ix4 b t n 0) = (a.row b t).sb (at_ n i) := by
  rw [(o b t).sb_eq]
  refine (hk1_apply b t _ n).trans ?_
  exact sum_row b t n i fun j => congrArg₂ (· * ·) (a.q_row b t n j) (a.rk_row b t n j)
theorem s_row : a.s (ix3 b t h) = (a.row b t).s h := by
  refine congrArg₂ (· + ·) (congrArg₂ (· + ·) (congrArg₂ (· * ·) (nh_row b t h o) (hrow_apply b t _ h)) (hrow_apply b t _ h)) ?_
  refine (hdown_apply b t _ h).trans ?_
  refine (congrArg₂ (· * ·) ((hb_apply b t _ _ _).trans (sb_row b t _ ⟨h.val % 64, by omega⟩ o)) (a.v_row b t _ _)).trans ?_
  rw [at_split]
theorem cat_row (k : Fin 1024) : a.cat (ix3 b t k) = (a.row b t).cat k := by
  refine (hcat_apply b t _ _ k).trans ?_
  unfold In.cat
  by_cases h : k.val < 512
  · rw [dif_pos h, dif_pos h]
    exact congrArg₂ (· * ·) (s_row b t _ o) (a.g_row b t _)
  · rw [dif_neg h, dif_neg h]
    exact a.hc_row b t _
theorem mix_row (h : Fin 1024) : a.mix (ix3 b t h) = (a.row b t).mix h :=
  (hmix_apply b t _ _ h).trans (Finset.sum_congr rfl fun k _ => congrArg (· * _) (cat_row b t o k))
end
variable (o : a.Ok)
include o
theorem dmix_row (h : Fin 1024) : a.dmix (ix3 b t h) = (a.row b t).dmix h := by
  refine (hback_apply b t _ _ h).trans ?_
  refine congrArg₂ (fun u v => back u v h) (funext fun k => mix_row b t o.f k) (funext fun k => ?_)
  exact (hw_apply b t _ _ k).trans (congrArg (· * _) (a.ge_row b t k))
theorem dcat_row (k : Fin 1024) : a.dcat (ix3 b t k) = (a.row b t).dcat k :=
  (hmixT_apply b t _ _ k).trans (Finset.sum_congr rfl fun h _ => congrArg (· * _) (dmix_row b t o h))
theorem dro_row : hlo a.dcat (ix3 b t h) = (a.row b t).dro h := (hlo_apply b t _ h).trans (dcat_row b t o _)
theorem dg_row : a.dg (ix3 b t h) = (a.row b t).dg h := congrArg₂ (· * ·) (s_row b t h o.f) (dro_row b t h o)
theorem ds_row : a.ds (ix3 b t h) = (a.row b t).ds h := congrArg₂ (· * ·) (dro_row b t h o) (a.g_row b t h)
theorem dsh_row : a.dsh (ix4 b t n i) = (a.row b t).ds (at_ n i) := (hup_apply b t _ n i).trans (ds_row b t _ o)
theorem sd_row : a.sd (ix4 b t n i) = (a.row b t).sd (at_ n i) := by
  rw [(o b t).sd_eq]
  refine (hback1_apply b t _ n i).trans ((hr1_apply b t _ n).trans ?_)
  exact sum_row b t n i fun j => congrArg₂ (· * ·) (dsh_row b t n j o) (a.v_row b t n j)
theorem dq_row : a.dq (ix4 b t n i) = (a.row b t).dq (at_ n i) := congrArg₂ (· * ·) (sd_row b t n i o) (a.rk_row b t n i)
theorem dn_row : a.dn (ix4 b t n i) = (a.row b t).dn (at_ n i) :=
  (hup_apply b t _ n i).trans (congrArg₂ (· * ·) (ds_row b t _ o) (hrow_apply b t _ _))
theorem dnr_row : a.dnr (ix4 b t n i) = (a.row b t).dn (at_ n i) * (a.row b t).rs (at_ n i) :=
  congrArg₂ (· * ·) (dn_row b t n i o) ((hb_apply b t _ n i).trans (rs_row b t n i o.f))
theorem sv_row : a.sv (ix4 b t n i) = (a.row b t).sv (at_ n i) := by
  rw [(o b t).sv_eq]
  refine (hback1_apply b t _ n i).trans ((hdiv_apply b t _ n).trans (congrArg (fun z => Ideal.div z c64) ?_))
  refine congrArg₂ (· * ·) ((hr1_apply b t _ n).trans ?_) ((hdd_apply b t _ _ n).trans ?_)
  · exact sum_row b t n i fun j => congrArg₂ (· * ·) (yc_row b t n j o.f) (dn_row b t n j o)
  · exact congrArg₂ (fun u v => mhalf * Ideal.div u v) (rs_row b t n i o.f) (a_row b t n i o.f)
theorem svy_row : a.svy (ix4 b t n i) = (a.row b t).sv (at_ n i) * (c2 * (a.row b t).yc (at_ n i)) :=
  congrArg₂ (· * ·) (sv_row b t n i o) ((htwo_apply b t _ n i).trans (congrArg (_ * ·) (yc_row b t n i o.f)))
theorem dy_row : a.dy (ix4 b t n i) = (a.row b t).dy (at_ n i) := by
  rw [(o b t).dy_eq]
  refine congrArg₂ (· + ·) (congrArg₂ (· + ·) (dnr_row b t n i o) (svy_row b t n i o)) ?_
  refine (hback1_apply b t _ n i).trans ((hdiv_apply b t _ n).trans (congrArg (fun z => Ideal.div z c64) ?_))
  refine congrArg₂ (· + ·) ((hr1_apply b t _ n).trans ?_) ((hr1_apply b t _ n).trans ?_)
  · exact sum_row b t n i fun j => congrArg (fun z => -z) (dnr_row b t n j o)
  · exact sum_row b t n i fun j => congrArg (fun z => -z) (svy_row b t n j o)

end Arr
end Cert.MixOut
-- ==== Proof.MixEq.lean ====
module

public import proofs.«01_k».proof.Proof.MixLines

@[expose] public section

set_option maxRecDepth 16384

noncomputable section

open Idealize.ShloMosaic Idealize.ShloMosaic.TcCoe Idealize.SL.Sem

namespace Cert.MixOut
open Cert.Reference4Ideal Cert.Reference4Ideal.Gen Cert.NormRow Cert.MlpRow Cert.MixRow Cert.Finite

/-! ## The kernel's results are the reference's -/

/-- An index is its coordinates. -/
theorem ix2_eta {n0 n1 : ℕ} (i : (⟨2, ![n0, n1]⟩ : Shape).Idx) : i = ix2 (i 0) (i 1) := by
  funext a
  match a with
  | ⟨0, _⟩ => rfl
  | ⟨1, _⟩ => rfl
theorem ix3_eta {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl
theorem ix4_eta {n0 n1 n2 n3 : ℕ} (i : (⟨4, ![n0, n1, n2, n3]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl
/-- A row's index. -/
theorem ix2_row {n : ℕ} (y : (⟨2, ![1, n]⟩ : Shape).Idx) : y = ix2 0 (y 1) := by
  funext a
  match a with
  | ⟨0, _⟩ => exact Fin.ext (Nat.lt_one_iff.1 (y 0).isLt)
  | ⟨1, _⟩ => rfl
/-- An index of three axes, the second of extent one. -/
theorem ix3_row {n0 n2 : ℕ} (i : (⟨3, ![n0, 1, n2]⟩ : Shape).Idx) : i = ix3 (i 0) 0 (i 2) := by
  funext a
  match a with
  | ⟨0, _⟩ => rfl
  | ⟨1, _⟩ => exact Fin.ext (Nat.lt_one_iff.1 (i 1).isLt)
  | ⟨2, _⟩ => rfl

/-- A sum over the tokens, run by run. -/
theorem sum_tok (f : Fin 2048 → EReal) : ∑ t, f t = ∑ j : Fin 8, ∑ q : Fin 256, f ⟨j.val * 256 + q.val, by omega⟩ := by
  rw [← (finProdFinEquiv (m := 8) (n := 256)).sum_comp f, Fintype.sum_prod_type]
  refine Finset.sum_congr rfl fun j _ => Finset.sum_congr rfl fun q _ => congrArg f (Fin.ext ?_)
  show q.val + 256 * j.val = j.val * 256 + q.val
  omega

variable {a : Arr}

/-- A sum over the runs of a batch row. -/
theorem sum_row_runs (f : MixRow.In → EReal) (b : Fin 4) : ∑ j, ∑ q, f (a.run b j q) = ∑ t, f (a.row b t) := (sum_tok fun t => f (a.row b t)).symm

/-- Rows by pairs of heads. -/
theorem pairs_eq (f : MixRow.In → Half) (x : Hd) (e : ∀ b t n i, x (ix4 b t n i) = f (a.row b t) (at_ n i)) :
    Arr.pairs (fun b t => f (a.row b t)) = hcut (hdown x) := by
  funext i
  obtain ⟨b, j, t, l, rfl⟩ : ∃ (b j : Fin 4) (t : Fin 2048) (l : Fin 128), i = ix4 b j t l := ⟨i 0, i 1, i 2, i 3, ix4_eta i⟩
  refine Eq.trans ?_ ((hcut_apply b t _ j l).trans ((hdown_apply b t _ _).trans (e b t _ _))).symm
  rw [at_split]
  rfl

/-- The arrays' tokens are as the equality needs them, where the arrays are finite. -/
theorem Arr.ok (hYF : ∀ i, IsReal (a.YF i)) (hYB : ∀ i, IsReal (a.YB i)) (hKF : ∀ i, IsReal (a.KF i)) (hKB : ∀ i, IsReal (a.KB i))
    (hR : ∀ i, IsReal (a.R i)) (hV : ∀ i, IsReal (a.V i)) (hGD : ∀ i, IsReal (a.GD i)) (hCV : ∀ i, IsReal (a.CV i)) (hGA : ∀ i, IsReal (a.GA i))
    (hRK : ∀ i, IsReal (a.RK i)) (hGW : ∀ i, IsReal (a.GW i)) (hLW : ∀ i, IsReal (a.LW i)) (hLB : ∀ i, IsReal (a.LB i)) (hWO : ∀ i, IsReal (a.WO i))
    (hG2 : ∀ i, IsReal (a.G2 i)) (hD : ∀ i, IsReal (a.D i)) : a.Ok := fun b t => {
  yf := fun _ => hYF _
  yb := fun _ => hYB _
  kf := fun _ => hKF _
  kb := fun _ => hKB _
  r := fun _ => hR _
  v := fun _ => hV _
  gd := fun k => by
    unfold Arr.row
    dsimp only
    split
    · exact hGD _
    · exact ⟨0, rfl⟩
  cv := fun _ => hCV _
  ga := fun _ => hGA _
  rk := fun _ => hRK _
  gw := fun k h => by
    unfold Arr.row
    dsimp only
    split
    · exact hGW _
    · exact ⟨0, rfl⟩
  lw := fun _ => hLW _
  lb := fun _ => hLB _
  wo := fun _ _ => hWO _
  g2 := fun _ => hG2 _
  d := fun _ => hD _
  E := fun _ _ => rfl
  pad := fun k h e => by
    unfold Arr.row
    dsimp only
    rw [dif_neg (by omega)] }

variable (a)
/-- The reference's results over the arrays. -/
def res0 := hcut (hdown a.dy)
def res1 := hcut (hdown (mulf a.r a.dq))
def res2 := hcut (hdown (mulf a.dq a.k))
def res3 := hcut (hdown (mulf (hb a.sb) a.dsh))
def res4 : FVec Ideal S4x2048x256 .f32 := mulf (hgT a.dg (gwp a.GW)) (hone a.sg)
def res5 := hhi a.dcat
def res6 : FVec Ideal S4x2048x1024 .bf16 := truncf .bf16 a.cat bitsLt_bf16_f32
def res7 : FVec Ideal S4x2048x1024 .bf16 := truncf .bf16 a.dmix bitsLt_bf16_f32
def res8 := hrows (mulf a.D (hw (hxr a.mix) a.G2))
def res9 := hall (mulf (hxr a.mix) a.ge)
def res10 := hallh (mulf a.q a.sd)
def res11 := hgw a.dg a.sg
def res12 := hall5 (mulf a.nh a.ds)
def res13 := hall5 a.ds

variable {a} (o : a.Ok)
include o
theorem eq0 : a.o0 = res0 a := pairs_eq MixRow.In.dy a.dy fun b t n i => Arr.dy_row b t n i o
theorem eq1 : a.o1 = res1 a := pairs_eq MixRow.In.dk _ fun b t n i => congrArg₂ (· * ·) (a.r_row b t n i) (Arr.dq_row b t n i o)
theorem eq2 : a.o2 = res2 a := pairs_eq MixRow.In.dr _ fun b t n i => congrArg₂ (· * ·) (Arr.dq_row b t n i o) (a.k_row b t n i)
theorem eq3 : a.o3 = res3 a := pairs_eq MixRow.In.dv _ fun b t n i =>
  congrArg₂ (· * ·) ((hb_apply b t _ n i).trans (Arr.sb_row b t n i o.f)) (Arr.dsh_row b t n i o)
theorem eq4 : a.o4 = res4 a := by
  funext i
  obtain ⟨b, t, k, rfl⟩ : ∃ (b : Fin 4) (t : Fin 2048) (k : Fin 256), i = ix3 b t k := ⟨i 0, i 1, i 2, ix3_eta i⟩
  refine ((o b t).dgd_eq k).trans ?_
  refine congrArg₂ (· * ·) ?_ ?_
  · refine Eq.trans ?_ (hgT_apply b t _ _ k).symm
    exact Finset.sum_congr rfl fun h _ => congrArg₂ (· * ·) (Arr.dg_row b t h o).symm (a.gw_row b t h k).symm
  · refine Eq.trans ?_ (hone_apply b t _ k).symm
    rw [a.sg_row b t k]
theorem eq5 : a.o5 = res5 a := by
  funext i
  obtain ⟨b, t, h, rfl⟩ : ∃ (b : Fin 4) (t : Fin 2048) (h : Fin 512), i = ix3 b t h := ⟨i 0, i 1, i 2, ix3_eta i⟩
  exact ((hhi_apply b t _ h).trans (Arr.dcat_row b t o _)).symm
theorem eq6 : a.o6 = res6 a := by
  funext i
  obtain ⟨b, t, h, rfl⟩ : ∃ (b : Fin 4) (t : Fin 2048) (h : Fin 1024), i = ix3 b t h := ⟨i 0, i 1, i 2, ix3_eta i⟩
  exact (Arr.cat_row b t o.f h).symm
theorem eq7 : a.o7 = res7 a := by
  funext i
  obtain ⟨b, t, h, rfl⟩ : ∃ (b : Fin 4) (t : Fin 2048) (h : Fin 1024), i = ix3 b t h := ⟨i 0, i 1, i 2, ix3_eta i⟩
  exact (Arr.dmix_row b t o h).symm
/-- The projected row over its root mean square. -/
theorem xr_row (b : Fin 4) (t : Fin 2048) (h : Fin 1024) : hxr a.mix (ix3 b t h) = (a.row b t).mix h * Ideal.rsqrt (ms (a.row b t).mix) := by
  refine (hxr_apply b t _ h).trans ?_
  rw [funext fun k => Arr.mix_row b t o.f k, Arr.mix_row b t o.f h]
theorem eq8 : a.o8 = res8 a := by
  funext i
  obtain ⟨b, h, rfl⟩ : ∃ (b : Fin 4) (h : Fin 1024), i = ix3 b 0 h := ⟨i 0, i 2, ix3_row i⟩
  refine Eq.trans ?_ (hrows_apply b _ h).symm
  refine (sum_row_runs (fun x => x.dgate h) b).trans (Finset.sum_congr rfl fun t _ => ?_)
  refine congrArg₂ (· * ·) rfl ?_
  refine Eq.trans ?_ (hw_apply b t _ _ h).symm
  rw [xr_row o]
  rfl
theorem eq9 : a.o9 = res9 a := by
  funext i
  obtain ⟨h, rfl⟩ : ∃ h : Fin 1024, i = ix2 0 h := ⟨i 1, ix2_row i⟩
  refine Eq.trans ?_ (hall_apply _ h).symm
  refine Finset.sum_congr rfl fun b _ => (sum_row_runs (fun x => x.dg2 h) b).trans (Finset.sum_congr rfl fun t _ => ?_)
  exact congrArg₂ (· * ·) (xr_row o b t h).symm (a.ge_row b t h).symm
theorem eq10 : a.o10 = res10 a := by
  funext i
  obtain ⟨h, rfl⟩ : ∃ h : Fin 512, i = ix2 0 h := ⟨i 1, ix2_row i⟩
  refine Eq.trans ?_ (hallh_apply _ h).symm
  refine Finset.sum_congr rfl fun b _ => (sum_row_runs (fun x => x.drk h) b).trans (Finset.sum_congr rfl fun t _ => ?_)
  refine Eq.trans ?_ (congrArg₂ (· * ·) (a.q_row b t ⟨h.val / 64, by omega⟩ ⟨h.val % 64, by omega⟩) (Arr.sd_row b t ⟨h.val / 64, by omega⟩ ⟨h.val % 64, by omega⟩ o)).symm
  rw [at_split]
  rfl
theorem eq11 : a.o11 = res11 a := by
  funext i
  obtain ⟨k, h, rfl⟩ : ∃ (k : Fin 256) (h : Fin 512), i = ix2 k h := ⟨i 0, i 1, ix2_eta i⟩
  refine Eq.trans ?_ (hgw_apply _ _ k h).symm
  refine Finset.sum_congr rfl fun b _ => (sum_row_runs (fun x => x.dgw k h) b).trans (Finset.sum_congr rfl fun t _ => ?_)
  rw [Arr.dg_row b t h o, a.sg_row b t k]
  exact mul_comm _ _
theorem eq12 : a.o12 = res12 a := by
  funext i
  obtain ⟨h, rfl⟩ : ∃ h : Fin 512, i = ix2 0 h := ⟨i 1, ix2_row i⟩
  refine Eq.trans ?_ (hall5_apply _ h).symm
  refine Finset.sum_congr rfl fun b _ => (sum_row_runs (fun x => x.dlw h) b).trans (Finset.sum_congr rfl fun t _ => ?_)
  exact congrArg₂ (· * ·) (Arr.nh_row b t h o.f).symm (Arr.ds_row b t h o).symm
theorem eq13 : a.o13 = res13 a := by
  funext i
  obtain ⟨h, rfl⟩ : ∃ h : Fin 512, i = ix2 0 h := ⟨i 1, ix2_row i⟩
  refine Eq.trans ?_ (hall5_apply _ h).symm
  exact Finset.sum_congr rfl fun b _ => (sum_row_runs (fun x => x.ds h) b).trans (Finset.sum_congr rfl fun t _ => (Arr.ds_row b t h o).symm)
end Cert.MixOut
-- ==== Proof.MixTile.lean ====
module

public import proofs.«01_k».proof.Proof.Gen.Kernel4Ideal.Skeleton
public import proofs.«01_k».proof.Proof.MixRow
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow

/-- A tile of the mixer's width. -/
abbrev Tl := FVec Ideal S256x512 .f32

/-! ## The sums over the heads -/

/-- The kernel's sum over each head: the tile's rounded part and its remainder times the block matrix, half by half. -/
def segv (e : FVec Ideal S256x256 .bf16) (x : Tl) : Tl :=
  have u : FVec Ideal S256x512 .bf16 := truncf .bf16 x bitsLt_bf16_f32
  have v : FVec Ideal S256x512 .bf16 := truncf .bf16 (subf x (extf .f32 u bitsLt_bf16_f32)) bitsLt_bf16_f32
  have z : FVec Ideal S256x256 .f32 := constant S256x256 .f32 0x00000000#32
  have a : FVec Ideal S256x256 .f32 := addf
    (matmul dot_S256x256_S256x256_S256x256_1_0_0_1_n_n none (extractStridedSlice S256x256 ![0, 0] u slices_S256x512_o0_0_S256x256) e z)
    (matmul dot_S256x256_S256x256_S256x256_1_0_0_1_n_n none (extractStridedSlice S256x256 ![0, 0] v slices_S256x512_o0_0_S256x256) e z)
  have b : FVec Ideal S256x256 .f32 := addf
    (matmul dot_S256x256_S256x256_S256x256_1_0_0_1_n_n none (extractStridedSlice S256x256 ![0, 256] u slices_S256x512_o0_256_S256x256) e z)
    (matmul dot_S256x256_S256x256_S256x256_1_0_0_1_n_n none (extractStridedSlice S256x256 ![0, 256] v slices_S256x512_o0_256_S256x256) e z)
  concatenate S256x512 1 [⟨S256x256, a⟩, ⟨S256x256, b⟩] concatenates_S256x256_S256x256_S256x512_d1

theorem segv_apply (e : FVec Ideal S256x256 .bf16) (x : Tl) (q : Fin 256) (h : Fin 512) :
    segv e x (ix2 q h) = seg (fun k l => e (ix2 k l)) (fun k => x (ix2 q k)) h := by
  pointwise [segv]
  unfold seg
  obtain ⟨h, hh⟩ := h
  by_cases h1 : h < 256
  · have h2 : h / 256 = 0 := by omega
    have h3 : h % 256 = h := by omega
    simp only [h1, h2, h3, ↓reduceDIte, Nat.zero_mul, Nat.zero_add]
  · have h2 : h / 256 = 1 := by omega
    have h3 : h % 256 = h - 256 := by omega
    simp only [h1, h2, h3, ↓reduceDIte, Nat.one_mul]

/-- One of a block's four pairs of heads. -/
def p0 (x : FVec Ideal S1x4x256x128 .f32) : FVec Ideal S1x1x256x128 .f32 :=
  View.ld (Val := Elt Ideal) (e' := .f32) x (Rect.unit ![0, 0, 0, 0] ![1, 1, 256, 128] inb_S1x4x256x128_S1x1x256x128_0_0_0_0)
def p1 (x : FVec Ideal S1x4x256x128 .f32) : FVec Ideal S1x1x256x128 .f32 :=
  View.ld (Val := Elt Ideal) (e' := .f32) x (Rect.unit ![0, 1, 0, 0] ![1, 1, 256, 128] inb_S1x4x256x128_S1x1x256x128_0_1_0_0)
def p2 (x : FVec Ideal S1x4x256x128 .f32) : FVec Ideal S1x1x256x128 .f32 :=
  View.ld (Val := Elt Ideal) (e' := .f32) x (Rect.unit ![0, 2, 0, 0] ![1, 1, 256, 128] inb_S1x4x256x128_S1x1x256x128_0_2_0_0)
def p3 (x : FVec Ideal S1x4x256x128 .f32) : FVec Ideal S1x1x256x128 .f32 :=
  View.ld (Val := Elt Ideal) (e' := .f32) x (Rect.unit ![0, 3, 0, 0] ![1, 1, 256, 128] inb_S1x4x256x128_S1x1x256x128_0_3_0_0)

theorem p0_apply (x : FVec Ideal S1x4x256x128 .f32) (q : Fin 256) (l : Fin 128) : p0 x (ix4 0 0 q l) = x (ix4 0 0 q l) := by pointwise [p0]
theorem p1_apply (x : FVec Ideal S1x4x256x128 .f32) (q : Fin 256) (l : Fin 128) : p1 x (ix4 0 0 q l) = x (ix4 0 1 q l) := by pointwise [p1]
theorem p2_apply (x : FVec Ideal S1x4x256x128 .f32) (q : Fin 256) (l : Fin 128) : p2 x (ix4 0 0 q l) = x (ix4 0 2 q l) := by pointwise [p2]
theorem p3_apply (x : FVec Ideal S1x4x256x128 .f32) (q : Fin 256) (l : Fin 128) : p3 x (ix4 0 0 q l) = x (ix4 0 3 q l) := by pointwise [p3]

/-- Position `h` of a row, out of a block's pairs of heads. -/
def at4 (x : FVec Ideal S1x4x256x128 .f32) (q : Fin 256) (h : Fin 512) : EReal := x (ix4 0 ⟨h.val / 128, by omega⟩ q ⟨h.val % 128, by omega⟩)

theorem four (x : FVec Ideal S1x4x256x128 .f32) (a0 a1 a2 a3 : FVec Ideal S1x1x256x128 .f32) (q : Fin 256) (h : Fin 512)
    (e0 : ∀ l, a0 (ix4 0 0 q l) = x (ix4 0 0 q l)) (e1 : ∀ l, a1 (ix4 0 0 q l) = x (ix4 0 1 q l))
    (e2 : ∀ l, a2 (ix4 0 0 q l) = x (ix4 0 2 q l)) (e3 : ∀ l, a3 (ix4 0 0 q l) = x (ix4 0 3 q l)) :
    (if h1 : h.val < 128 then a0 (ix4 0 0 q ⟨h.val, h1⟩)
    else if h2 : h.val - 128 < 128 then a1 (ix4 0 0 q ⟨h.val - 128, h2⟩)
      else if h3 : h.val - 128 - 128 < 128 then a2 (ix4 0 0 q ⟨h.val - 128 - 128, h3⟩)
        else a3 (ix4 0 0 q ⟨h.val - 128 - 128 - 128, by omega⟩)) = at4 x q h := by
  unfold at4
  split_ifs with h1 h2 h3
  · rw [e0]; exact congrArg₂ (fun j l => x (ix4 0 j q l)) (Fin.ext (by show 0 = h.val / 128; omega)) (Fin.ext (by show h.val = h.val % 128; omega))
  · rw [e1]; exact congrArg₂ (fun j l => x (ix4 0 j q l)) (Fin.ext (by show 1 = h.val / 128; omega)) (Fin.ext (by show h.val - 128 = h.val % 128; omega))
  · rw [e2]; exact congrArg₂ (fun j l => x (ix4 0 j q l)) (Fin.ext (by show 2 = h.val / 128; omega)) (Fin.ext (by show h.val - 128 - 128 = h.val % 128; omega))
  · rw [e3]; exact congrArg₂ (fun j l => x (ix4 0 j q l)) (Fin.ext (by show 3 = h.val / 128; omega)) (Fin.ext (by show h.val - 128 - 128 - 128 = h.val % 128; omega))

theorem pay7_apply (x : FVec Ideal S1x4x256x128 .f32) (q : Fin 256) (h : Fin 512) :
    k0_pay7 (F := Ideal) (p0 x) (p1 x) (p2 x) (p3 x) (ix2 q h) = at4 x q h := by
  have e := four x (p0 x) (p1 x) (p2 x) (p3 x) q h (p0_apply x q) (p1_apply x q) (p2_apply x q) (p3_apply x q)
  generalize p0 x = a0 at e ⊢
  generalize p1 x = a1 at e ⊢
  generalize p2 x = a2 at e ⊢
  generalize p3 x = a3 at e ⊢
  pointwise [k0_pay7]
  exact e

theorem pay6_apply (x : FVec Ideal S1x4x256x128 .f32) (q : Fin 256) (h : Fin 512) :
    k0_pay6 (F := Ideal) (k0_pay5 (p0 x)) (p1 x) (p2 x) (p3 x) (ix2 q h) = at4 x q h := by
  have e := four x (p0 x) (p1 x) (p2 x) (p3 x) q h (p0_apply x q) (p1_apply x q) (p2_apply x q) (p3_apply x q)
  generalize p0 x = a0 at e ⊢
  generalize p1 x = a1 at e ⊢
  generalize p2 x = a2 at e ⊢
  generalize p3 x = a3 at e ⊢
  pointwise [k0_pay6, k0_pay5]
  exact e

theorem pay3_apply (x y : FVec Ideal S1x4x256x128 .f32) (q : Fin 256) (h : Fin 512) :
    k0_pay3 (F := Ideal) (p0 x) (p1 x) (p2 x) (p3 x) (p0 y) (p1 y) (p2 y) (p3 y) (ix2 q h) = at4 x q h + at4 y q h := by
  have e := four x (p0 x) (p1 x) (p2 x) (p3 x) q h (p0_apply x q) (p1_apply x q) (p2_apply x q) (p3_apply x q)
  have f := four y (p0 y) (p1 y) (p2 y) (p3 y) q h (p0_apply y q) (p1_apply y q) (p2_apply y q) (p3_apply y q)
  generalize p0 x = a0 at e ⊢
  generalize p1 x = a1 at e ⊢
  generalize p2 x = a2 at e ⊢
  generalize p3 x = a3 at e ⊢
  generalize p0 y = b0 at f ⊢
  generalize p1 y = b1 at f ⊢
  generalize p2 y = b2 at f ⊢
  generalize p3 y = b3 at f ⊢
  pointwise [k0_pay3]
  exact congrArg₂ (· + ·) e f

theorem pay4_apply (x y : FVec Ideal S1x4x256x128 .f32) (q : Fin 256) (h : Fin 512) :
    k0_pay4 (F := Ideal) (p0 x) (p1 x) (p2 x) (p3 x) (p0 y) (p1 y) (p2 y) (p3 y) (ix2 q h)
      = Ideal.ofBits FTy.f32 1056964608#32 * (at4 x q h + at4 y q h) := by
  have e := four x (p0 x) (p1 x) (p2 x) (p3 x) q h (p0_apply x q) (p1_apply x q) (p2_apply x q) (p3_apply x q)
  have f := four y (p0 y) (p1 y) (p2 y) (p3 y) q h (p0_apply y q) (p1_apply y q) (p2_apply y q) (p3_apply y q)
  generalize p0 x = a0 at e ⊢
  generalize p1 x = a1 at e ⊢
  generalize p2 x = a2 at e ⊢
  generalize p3 x = a3 at e ⊢
  generalize p0 y = b0 at f ⊢
  generalize p1 y = b1 at f ⊢
  generalize p2 y = b2 at f ⊢
  generalize p3 y = b3 at f ⊢
  pointwise [k0_pay4]
  exact congrArg₂ (fun u v => Ideal.ofBits FTy.f32 1056964608#32 * (u + v)) e f

/-! ## The payloads, element by element -/

section
variable (e : FVec Ideal S256x256 .bf16) (y : Tl)

theorem pay11_eq : k0_pay11 (F := Ideal) e y = subf y (mulf (segv e y) (broadcast S256x512 (Scalar.ofBits (F := Ideal) .f32 0x3C800000#32))) := rfl
theorem pay12_eq : k0_pay12 (F := Ideal) e y = addf (mulf (segv e (mulf (k0_pay11 e y) (k0_pay11 e y))) (broadcast S256x512 (Scalar.ofBits (F := Ideal) .f32 0x3C800000#32)))
    (broadcast S256x512 (Scalar.ofBits (F := Ideal) .f32 0x3A27C5AC#32)) := rfl

theorem pay18_eq (k : FVec Ideal S1x512 .f32) : k0_pay18 (F := Ideal) e k y = segv e (mulf y (broadcastTo S256x512 k broadcasts_S1x512_S256x512)) := rfl
theorem pay43_eq (v g : Tl) (d : FVec Ideal S256x1024 .bf16) (w : FVec Ideal S1024x1024 .bf16) :
    k0_pay43 (F := Ideal) e v g d w = segv e (mulf (k0_pay39 g d w) v) := rfl
end

/-- The kernel's norm gradient, with the sums over the heads named. -/
def dyv (e : FVec Ideal S256x256 .bf16) (w : FVec Ideal S1x512 .f32) (yc rs dd ds : Tl) : Tl :=
  have n : Tl := mulf ds (broadcastTo S256x512 w broadcasts_S1x512_S256x512)
  have i : Tl := broadcast S256x512 (Scalar.ofBits (F := Ideal) .f32 0x3C800000#32)
  have s : Tl := segv e (mulf (mulf (mulf yc n) dd) i)
  have c : Tl := addf (addf (mulf n rs) (mulf yc s)) (mulf s yc)
  addf c (segv e (mulf (subf (broadcast S256x512 (Scalar.ofBits (F := Ideal) .f32 0x00000000#32)) c) i))

theorem pay51_eq (e : FVec Ideal S256x256 .bf16) (w : FVec Ideal S1x512 .f32) (yc rs dd ds : Tl) :
    k0_pay51 (F := Ideal) e w yc rs dd ds = dyv e w yc rs dd ds := rfl

/-- A row of weights, laid over a tile. -/
theorem row_apply (k : FVec Ideal S1x512 .f32) (q : Fin 256) (h : Fin 512) : broadcastTo S256x512 k broadcasts_S1x512_S256x512 (ix2 q h) = k (ix2 0 h) := by
  pointwise

theorem pay19_apply (x : FVec Ideal S1x256x256 .f32) (q k : Fin 256) : k0_pay19 (F := Ideal) (k0_pay8 x) (ix2 q k) = Ideal.exp (-(x (ix3 0 q k))) := by
  pointwise [k0_pay19, k0_pay8]
  rw [zero_sub]
theorem pay21_apply (x : FVec Ideal S1x256x256 .f32) (q k : Fin 256) :
    k0_pay21 (F := Ideal) (k0_pay8 x) (ix2 q k) = Ideal.div 1 (1 + Ideal.exp (-(x (ix3 0 q k)))) := by
  pointwise [k0_pay21, k0_pay20, k0_pay19, k0_pay8]
  rw [zero_sub]
theorem pay22_apply (x : FVec Ideal S1x256x256 .f32) (q k : Fin 256) :
    k0_pay22 (F := Ideal) (k0_pay8 x) (ix2 q k) = Ideal.div 1 ((1 + Ideal.exp (-(x (ix3 0 q k)))) * (1 + Ideal.exp (-(x (ix3 0 q k))))) := by
  pointwise [k0_pay22, k0_pay20, k0_pay19, k0_pay8]
  simp only [zero_sub]

theorem pay23_apply (x : FVec Ideal S256x256 .f32) (w : Tl) (s : Fin 256 → EReal) (q : Fin 256) (h : Fin 512)
    (hs : ∀ k, k0_pay21 (F := Ideal) x (ix2 q k) = s k) : k0_pay23 (F := Ideal) x (k0_pay10 w) (ix2 q h) = ∑ k, s k * w (ix2 k h) := by
  unfold k0_pay23
  generalize k0_pay21 (F := Ideal) x = z at hs ⊢
  pointwise [k0_pay10]
  simp only [hs]

section
variable (e : FVec Ideal S256x256 .bf16) (v : Tl) (x : FVec Ideal S256x256 .f32) (k : FVec Ideal S1x512 .f32) (w yn p : Tl)
  (c : FVec Ideal S1x256x512 .f32) (o : FVec Ideal S1024x1024 .bf16)

theorem pay25_apply (s g : Half) (q : Fin 256) (j : Fin 1024) (hs : ∀ h, k0_pay24 (F := Ideal) e v k yn p (ix2 q h) = s h)
    (hg : ∀ h, k0_pay23 (F := Ideal) x w (ix2 q h) = g h) :
    k0_pay25 (F := Ideal) e v x k w yn p c (ix2 q j) = if h : j.val < 512 then s ⟨j.val, h⟩ * g ⟨j.val, h⟩ else c (ix3 0 q ⟨j.val - 512, by omega⟩) := by
  unfold k0_pay25
  generalize k0_pay24 (F := Ideal) e v k yn p = z at hs ⊢
  generalize k0_pay23 (F := Ideal) x w = z' at hg ⊢
  pointwise
  simp only [hs, hg]

theorem pay26_apply (a : Row) (q : Fin 256) (h : Fin 1024) (ha : ∀ j, k0_pay25 (F := Ideal) e v x k w yn p c (ix2 q j) = a j) :
    k0_pay26 (F := Ideal) e v x k w yn p c o (ix2 q h) = ∑ j, a j * o (ix2 j h) := by
  unfold k0_pay26
  generalize k0_pay25 (F := Ideal) e v x k w yn p c = z at ha ⊢
  pointwise
  simp only [ha]
end

section
variable (x : FVec Ideal S256x1024 .f32) (a : FVec Ideal S1x1x1024 .f32) (g : FVec Ideal S1x1024 .f32) (d : FVec Ideal S1x256x1024 .f32)

theorem pay33_apply (x' : Fin 256 → Row) (h : Fin 1024) (hx : ∀ q k, x (ix2 q k) = x' q k) :
    k0_pay33 (F := Ideal) x g d (ix2 0 h) = ∑ q, d (ix3 0 q h) * nrm (x' q) (fun k => g (ix2 0 k)) h := by
  pointwise [k0_pay33, k0_pay31, k0_pay30, k0_pay29, k0_pay28]
  simp only [hx]
  rfl
theorem pay34_apply (x' : Fin 256 → Row) (h : Fin 1024) (hx : ∀ q k, x (ix2 q k) = x' q k) :
    k0_pay34 (F := Ideal) x (k0_pay27 a) d (ix2 0 h) = ∑ q, x' q h * Ideal.rsqrt (ms (x' q)) * (a (ix3 0 0 h) * d (ix3 0 q h)) := by
  pointwise [k0_pay34, k0_pay32, k0_pay31, k0_pay30, k0_pay29, k0_pay28, k0_pay27]
  simp only [hx]
  rfl
theorem pay35_apply (x' : Row) (q : Fin 256) (h : Fin 1024) (hx : ∀ k, x (ix2 q k) = x' k) :
    k0_pay35 (F := Ideal) x (k0_pay27 a) g d (ix2 q h) = back x' (fun k => a (ix3 0 0 k) * d (ix3 0 q k) * g (ix2 0 k)) h := by
  pointwise [k0_pay35, k0_pay32, k0_pay31, k0_pay29, k0_pay28, k0_pay27]
  simp only [Fin.sum_univ_one, hx]
  rfl
end

section
variable (d : FVec Ideal S256x1024 .bf16) (o : FVec Ideal S1024x1024 .bf16)

theorem pay36_apply (d' : Row) (q : Fin 256) (j : Fin 1024) (hd : ∀ k, d (ix2 q k) = d' k) :
    k0_pay36 (F := Ideal) d o (ix2 q j) = ∑ h, d' h * o (ix2 j h) := by
  pointwise [k0_pay36]
  simp only [hd]
theorem pay37_apply (q : Fin 256) (h : Fin 512) : k0_pay37 (F := Ideal) d o (ix2 q h) = k0_pay36 (F := Ideal) d o (ix2 q ⟨h.val, by omega⟩) := by
  unfold k0_pay37
  generalize k0_pay36 (F := Ideal) d o = z
  pointwise

theorem pay40_apply (s : FVec Ideal S256x256 .f32) (t : Tl) (s' : Fin 256 → Fin 256 → EReal) (g : Fin 256 → Half) (k : Fin 256) (h : Fin 512)
    (hs : ∀ q k, s (ix2 q k) = s' q k) (hg : ∀ q h, k0_pay38 (F := Ideal) t d o (ix2 q h) = g q h) :
    k0_pay40 (F := Ideal) s t d o (ix2 k h) = ∑ q, s' q k * g q h := by
  unfold k0_pay40
  generalize k0_pay38 (F := Ideal) t d o = z at hg ⊢
  pointwise
  simp only [hs, hg]

theorem pay41_apply (w : Tl) (ex sp : FVec Ideal S256x256 .f32) (t : Tl) (g : Half) (q k : Fin 256)
    (hg : ∀ h, k0_pay38 (F := Ideal) t d o (ix2 q h) = g h) :
    k0_pay41 (F := Ideal) (k0_pay10 w) ex sp t d o (ix2 q k) = -(-((∑ h, g h * w (ix2 k h)) * sp (ix2 q k)) * ex (ix2 q k)) := by
  unfold k0_pay41
  generalize k0_pay38 (F := Ideal) t d o = z at hg ⊢
  pointwise [k0_pay10]
  simp only [hg, zero_sub]

theorem pay44_apply (e : FVec Ideal S256x256 .bf16) (v p g : Tl) (p' s : Fin 256 → EReal) (h : Fin 512)
    (hp : ∀ q, p (ix2 q h) = p' q) (hs : ∀ q, k0_pay43 (F := Ideal) e v g d o (ix2 q h) = s q) :
    k0_pay44 (F := Ideal) e v p g d o (ix2 0 h) = ∑ q, p' q * s q := by
  unfold k0_pay44
  generalize k0_pay43 (F := Ideal) e v g d o = z at hs ⊢
  pointwise
  simp only [hs, hp]

theorem pay48_apply (g : Tl) (s : Fin 256 → EReal) (h : Fin 512) (hs : ∀ q, k0_pay39 (F := Ideal) g d o (ix2 q h) = s q) :
    k0_pay48 (F := Ideal) g d o (ix2 0 h) = ∑ q, s q := by
  unfold k0_pay48
  generalize k0_pay39 (F := Ideal) g d o = z at hs ⊢
  pointwise
  simp only [hs]
end

theorem pay50_apply (x : Tl) (s : Fin 256 → EReal) (h : Fin 512) (hs : ∀ q, x (ix2 q h) = s q) : k0_pay50 (F := Ideal) x (ix2 0 h) = ∑ q, s q := by
  pointwise [k0_pay50]
  simp only [hs]

theorem pay2_apply (e : FVec Ideal S256x256 .bf16) (k l : Fin 256) : k0_pay2 (F := Ideal) e (ix2 k l) = e (ix2 k l) := by pointwise [k0_pay2]
theorem pay9_apply (k : FVec Ideal S1x512 .f32) (h : Fin 512) : k0_pay9 (F := Ideal) k (ix2 0 h) = k (ix2 0 h) := by pointwise [k0_pay9]
end Cert.MixOut
-- ==== Proof.MixBlk.lean ====
module

public import proofs.«01_k».proof.Proof.MixTile
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow

/-- What one point of the grid reads. -/
structure Blk where
  YF : FVec Ideal S1x4x256x128 .f32
  YB : FVec Ideal S1x4x256x128 .f32
  KF : FVec Ideal S1x4x256x128 .f32
  KB : FVec Ideal S1x4x256x128 .f32
  R : FVec Ideal S1x4x256x128 .f32
  V : FVec Ideal S1x4x256x128 .f32
  GD : FVec Ideal S1x256x256 .f32
  CV : FVec Ideal S1x256x512 .f32
  X : FVec Ideal S1x256x1024 .f32
  GA : FVec Ideal S1x1x1024 .f32
  RK : FVec Ideal S1x512 .f32
  GW : FVec Ideal S256x512 .f32
  LW : FVec Ideal S1x512 .f32
  LB : FVec Ideal S1x512 .f32
  WO : FVec Ideal S1024x1024 .bf16
  G2 : FVec Ideal S1x1024 .f32
  E : FVec Ideal S256x256 .bf16
  D : FVec Ideal S1x256x1024 .f32

namespace Blk
variable (b : Blk)

/-- Token `q` of the point with all it needs. -/
def at' (q : Fin 256) : MixRow.In where
  yf h := at4 b.YF q h
  yb h := at4 b.YB q h
  kf h := at4 b.KF q h
  kb h := at4 b.KB q h
  r h := at4 b.R q h
  v h := at4 b.V q h
  gd k := b.GD (ix3 0 q k)
  cv h := b.CV (ix3 0 q h)
  ga h := b.GA (ix3 0 0 h)
  rk h := b.RK (ix2 0 h)
  gw k h := b.GW (ix2 k h)
  lw h := b.LW (ix2 0 h)
  lb h := b.LB (ix2 0 h)
  wo j h := b.WO (ix2 j h)
  g2 h := b.G2 (ix2 0 h)
  E k l := b.E (ix2 k l)
  d h := b.D (ix3 0 q h)

/-! ## The point's values, named as the rows' are -/

def e : FVec Ideal S256x256 .bf16 := k0_pay2 (F := Ideal) b.E
def y : Tl := k0_pay3 (F := Ideal) (p0 b.YF) (p1 b.YF) (p2 b.YF) (p3 b.YF) (p0 b.YB) (p1 b.YB) (p2 b.YB) (p3 b.YB)
def k : Tl := k0_pay4 (F := Ideal) (p0 b.KF) (p1 b.KF) (p2 b.KF) (p3 b.KF) (p0 b.KB) (p1 b.KB) (p2 b.KB) (p3 b.KB)
def r : Tl := k0_pay6 (F := Ideal) (k0_pay5 (p0 b.R)) (p1 b.R) (p2 b.R) (p3 b.R)
def v : Tl := k0_pay7 (F := Ideal) (p0 b.V) (p1 b.V) (p2 b.V) (p3 b.V)
def gd : FVec Ideal S256x256 .f32 := k0_pay8 (F := Ideal) b.GD
def rk : FVec Ideal S1x512 .f32 := k0_pay9 (F := Ideal) b.RK
def gw : Tl := k0_pay10 (F := Ideal) b.GW
def yc : Tl := k0_pay11 (F := Ideal) b.e b.y
def rs : Tl := k0_pay13 (F := Ideal) b.e b.y
def dd : Tl := k0_pay14 (F := Ideal) b.e b.y
def nh : Tl := k0_pay15 (F := Ideal) b.e b.y
def yn : Tl := k0_pay16 (F := Ideal) b.e b.y b.LW b.LB
def q : Tl := k0_pay17 (F := Ideal) b.k b.r
def sb : Tl := k0_pay18 (F := Ideal) b.e b.rk b.q
def ex : FVec Ideal S256x256 .f32 := k0_pay19 (F := Ideal) b.gd
def sg : FVec Ideal S256x256 .f32 := k0_pay21 (F := Ideal) b.gd
def sp : FVec Ideal S256x256 .f32 := k0_pay22 (F := Ideal) b.gd
def g : Tl := k0_pay23 (F := Ideal) b.gd b.gw
def s : Tl := k0_pay24 (F := Ideal) b.e b.v b.rk b.yn b.q
def cat : FVec Ideal S256x1024 .bf16 := k0_pay25 (F := Ideal) b.e b.v b.gd b.rk b.gw b.yn b.q b.CV
def mix : FVec Ideal S256x1024 .f32 := k0_pay26 (F := Ideal) b.e b.v b.gd b.rk b.gw b.yn b.q b.CV b.WO
def ga : FVec Ideal S1x1024 .f32 := k0_pay27 (F := Ideal) b.GA
def dgate : FVec Ideal S1x1024 .f32 := k0_pay33 (F := Ideal) b.mix b.G2 b.D
def dg2 : FVec Ideal S1x1024 .f32 := k0_pay34 (F := Ideal) b.mix b.ga b.D
def dmix : FVec Ideal S256x1024 .bf16 := k0_pay35 (F := Ideal) b.mix b.ga b.G2 b.D
def dcat : FVec Ideal S256x1024 .f32 := k0_pay36 (F := Ideal) b.dmix b.WO
def dro : Tl := k0_pay37 (F := Ideal) b.dmix b.WO
def dg : Tl := k0_pay38 (F := Ideal) b.s b.dmix b.WO
def ds : Tl := k0_pay39 (F := Ideal) b.g b.dmix b.WO
def dgw : Tl := k0_pay40 (F := Ideal) b.sg b.s b.dmix b.WO
def dgd : FVec Ideal S256x256 .f32 := k0_pay41 (F := Ideal) b.gw b.ex b.sp b.s b.dmix b.WO
def dv : Tl := k0_pay42 (F := Ideal) b.sb b.g b.dmix b.WO
def sd : Tl := k0_pay43 (F := Ideal) b.e b.v b.g b.dmix b.WO
def drk : FVec Ideal S1x512 .f32 := k0_pay44 (F := Ideal) b.e b.v b.q b.g b.dmix b.WO
def dq : Tl := k0_pay45 (F := Ideal) b.e b.v b.rk b.g b.dmix b.WO
def dk : Tl := k0_pay46 (F := Ideal) b.e b.r b.v b.rk b.g b.dmix b.WO
def dr : Tl := k0_pay47 (F := Ideal) b.e b.k b.v b.rk b.g b.dmix b.WO
def dlb : FVec Ideal S1x512 .f32 := k0_pay48 (F := Ideal) b.g b.dmix b.WO
def dl : Tl := k0_pay49 (F := Ideal) b.nh b.g b.dmix b.WO
def dlw : FVec Ideal S1x512 .f32 := k0_pay50 (F := Ideal) b.dl
def dy : Tl := k0_pay51 (F := Ideal) b.e b.LW b.yc b.rs b.dd b.ds

/-! ## Their elements -/

variable (q : Fin 256) (h : Fin 512)

theorem e_apply (k l : Fin 256) : b.e (ix2 k l) = (b.at' q).E k l := pay2_apply _ k l

/-- The sum over each head of a tile whose row `q` is `x'`. -/
theorem seg_at (x : Tl) (x' : Half) (hx : ∀ k, x (ix2 q k) = x' k) : segv b.e x (ix2 q h) = seg (b.at' q).E x' h :=
  (segv_apply _ _ q h).trans (congrArg₂ (fun E x => seg E x h) (funext fun k => funext fun l => b.e_apply q k l) (funext hx))

theorem y_apply : b.y (ix2 q h) = (b.at' q).y h := pay3_apply _ _ q h
theorem k_apply : b.k (ix2 q h) = (b.at' q).k h := pay4_apply _ _ q h
theorem r_apply : b.r (ix2 q h) = (b.at' q).r h := pay6_apply _ q h
theorem v_apply : b.v (ix2 q h) = (b.at' q).v h := pay7_apply _ q h
theorem rk_apply : broadcastTo S256x512 b.rk broadcasts_S1x512_S256x512 (ix2 q h) = (b.at' q).rk h := (row_apply _ q h).trans (pay9_apply _ h)

theorem yc_apply : b.yc (ix2 q h) = (b.at' q).yc h :=
  congrArg₂ (fun y s : EReal => y - s * MixRow.inv) (b.y_apply q h) (b.seg_at q h b.y _ fun k => b.y_apply q k)
theorem a_apply : k0_pay12 (F := Ideal) b.e b.y (ix2 q h) = (b.at' q).a h :=
  congrArg (fun s : EReal => s * MixRow.inv + eps) (b.seg_at q h (mulf b.yc b.yc) _ fun k => congrArg₂ (· * ·) (b.yc_apply q k) (b.yc_apply q k))
theorem rs_apply : b.rs (ix2 q h) = (b.at' q).rs h := congrArg Ideal.rsqrt (b.a_apply q h)
theorem dd_apply : b.dd (ix2 q h) = (b.at' q).dd h :=
  congrArg₂ (fun r a => mhalf * Ideal.div r a) (b.rs_apply q h) (b.a_apply q h)
theorem nh_apply : b.nh (ix2 q h) = (b.at' q).nh h := congrArg₂ (· * ·) (b.yc_apply q h) (b.rs_apply q h)
theorem yn_apply : b.yn (ix2 q h) = (b.at' q).yn h :=
  congrArg₂ (· + ·) (congrArg₂ (· * ·) (b.nh_apply q h) (row_apply b.LW q h)) (row_apply b.LB q h)
theorem q_apply : b.q (ix2 q h) = (b.at' q).q h := congrArg₂ (· * ·) (b.r_apply q h) (b.k_apply q h)
theorem sb_apply : b.sb (ix2 q h) = (b.at' q).sb h :=
  b.seg_at q h (mulf b.q (broadcastTo S256x512 b.rk broadcasts_S1x512_S256x512)) _ fun k => congrArg₂ (· * ·) (b.q_apply q k) (b.rk_apply q k)
theorem ex_apply (k : Fin 256) : b.ex (ix2 q k) = (b.at' q).ex k := pay19_apply _ q k
theorem sg_apply (k : Fin 256) : b.sg (ix2 q k) = (b.at' q).sg k := pay21_apply _ q k
theorem sp_apply (k : Fin 256) : b.sp (ix2 q k) = (b.at' q).sp k := pay22_apply _ q k
theorem g_apply : b.g (ix2 q h) = (b.at' q).g h := pay23_apply b.gd b.GW (b.at' q).sg q h fun k => b.sg_apply q k
theorem s_apply : b.s (ix2 q h) = (b.at' q).s h :=
  congrArg₂ (· + ·) (b.yn_apply q h) (congrArg₂ (· * ·) (b.sb_apply q h) (b.v_apply q h))
theorem cat_apply (j : Fin 1024) : b.cat (ix2 q j) = (b.at' q).cat j :=
  pay25_apply b.e b.v b.gd b.rk b.gw b.yn b.q b.CV (b.at' q).s (b.at' q).g q j (fun h => b.s_apply q h) fun h => b.g_apply q h
theorem mix_apply (j : Fin 1024) : b.mix (ix2 q j) = (b.at' q).mix j :=
  pay26_apply b.e b.v b.gd b.rk b.gw b.yn b.q b.CV b.WO (b.at' q).cat q j fun k => b.cat_apply q k
theorem dgate_apply (j : Fin 1024) : b.dgate (ix2 0 j) = ∑ q, (b.at' q).dgate j :=
  pay33_apply b.mix b.G2 b.D (fun q => (b.at' q).mix) j fun q k => b.mix_apply q k
theorem dg2_apply (j : Fin 1024) : b.dg2 (ix2 0 j) = ∑ q, (b.at' q).dg2 j :=
  pay34_apply b.mix b.GA b.D (fun q => (b.at' q).mix) j fun q k => b.mix_apply q k
theorem dmix_apply (j : Fin 1024) : b.dmix (ix2 q j) = (b.at' q).dmix j :=
  pay35_apply b.mix b.GA b.G2 b.D (b.at' q).mix q j fun k => b.mix_apply q k
theorem dcat_apply (j : Fin 1024) : b.dcat (ix2 q j) = (b.at' q).dcat j := pay36_apply b.dmix b.WO (b.at' q).dmix q j fun k => b.dmix_apply q k
theorem dro_apply : b.dro (ix2 q h) = (b.at' q).dro h := (pay37_apply b.dmix b.WO q h).trans (b.dcat_apply q _)
theorem dg_apply : b.dg (ix2 q h) = (b.at' q).dg h := congrArg₂ (· * ·) (b.s_apply q h) (b.dro_apply q h)
theorem ds_apply : b.ds (ix2 q h) = (b.at' q).ds h := congrArg₂ (· * ·) (b.dro_apply q h) (b.g_apply q h)
theorem dgw_apply (k : Fin 256) : b.dgw (ix2 k h) = ∑ q, (b.at' q).dgw k h :=
  pay40_apply b.dmix b.WO b.sg b.s (fun q k => (b.at' q).sg k) (fun q h => (b.at' q).dg h) k h (fun q k => b.sg_apply q k) fun q h => b.dg_apply q h
theorem dgd_apply (k : Fin 256) : b.dgd (ix2 q k) = (b.at' q).dgd k :=
  (pay41_apply b.dmix b.WO b.GW b.ex b.sp b.s (b.at' q).dg q k fun h => b.dg_apply q h).trans
    (congrArg₂ (fun sp ex => -(-((b.at' q).dsg k * sp) * ex)) (b.sp_apply q k) (b.ex_apply q k))
theorem dv_apply : b.dv (ix2 q h) = (b.at' q).dv h := congrArg₂ (· * ·) (b.sb_apply q h) (b.ds_apply q h)
theorem sd_apply : b.sd (ix2 q h) = (b.at' q).sd h :=
  b.seg_at q h (mulf b.ds b.v) _ fun k => congrArg₂ (· * ·) (b.ds_apply q k) (b.v_apply q k)
theorem drk_apply : b.drk (ix2 0 h) = ∑ q, (b.at' q).drk h :=
  pay44_apply b.dmix b.WO b.e b.v b.q b.g (fun q => (b.at' q).q h) (fun q => (b.at' q).sd h) h (fun q => b.q_apply q h) fun q => b.sd_apply q h
theorem dq_apply : b.dq (ix2 q h) = (b.at' q).dq h := congrArg₂ (· * ·) (b.sd_apply q h) (b.rk_apply q h)
theorem dk_apply : b.dk (ix2 q h) = (b.at' q).dk h := congrArg₂ (· * ·) (b.r_apply q h) (b.dq_apply q h)
theorem dr_apply : b.dr (ix2 q h) = (b.at' q).dr h := congrArg₂ (· * ·) (b.dq_apply q h) (b.k_apply q h)
theorem dlb_apply : b.dlb (ix2 0 h) = ∑ q, (b.at' q).ds h := pay48_apply b.dmix b.WO b.g (fun q => (b.at' q).ds h) h fun q => b.ds_apply q h
theorem dl_apply : b.dl (ix2 q h) = (b.at' q).dlw h := congrArg₂ (· * ·) (b.nh_apply q h) (b.ds_apply q h)
theorem dlw_apply : b.dlw (ix2 0 h) = ∑ q, (b.at' q).dlw h := pay50_apply b.dl (fun q => (b.at' q).dlw h) h fun q => b.dl_apply q h

/-- The group norm's gradient, step by step. -/
def n : Tl := mulf b.ds (broadcastTo S256x512 b.LW broadcasts_S1x512_S256x512)
def i64 : Tl := broadcast S256x512 (Scalar.ofBits (F := Ideal) .f32 0x3C800000#32)
def sv : Tl := segv b.e (mulf (mulf (mulf b.yc b.n) b.dd) i64)
def dyc : Tl := addf (addf (mulf b.n b.rs) (mulf b.yc b.sv)) (mulf b.sv b.yc)
def neg : Tl := mulf (subf (broadcast S256x512 (Scalar.ofBits (F := Ideal) .f32 0x00000000#32)) b.dyc) i64

theorem n_apply : b.n (ix2 q h) = (b.at' q).dn h := congrArg₂ (· * ·) (b.ds_apply q h) (row_apply b.LW q h)
theorem sv_apply : b.sv (ix2 q h) = (b.at' q).sv h :=
  b.seg_at q h (mulf (mulf (mulf b.yc b.n) b.dd) i64) _ fun k =>
    congrArg₂ (fun x y : EReal => x * y * MixRow.inv) (congrArg₂ (· * ·) (b.yc_apply q k) (b.n_apply q k)) (b.dd_apply q k)
theorem dyc_apply : b.dyc (ix2 q h) = (b.at' q).dyc h :=
  congrArg₂ (· + ·) (congrArg₂ (· + ·) (congrArg₂ (· * ·) (b.n_apply q h) (b.rs_apply q h)) (congrArg₂ (· * ·) (b.yc_apply q h) (b.sv_apply q h)))
    (congrArg₂ (· * ·) (b.sv_apply q h) (b.yc_apply q h))
theorem neg_apply : b.neg (ix2 q h) = -((b.at' q).dyc h) * MixRow.inv := by
  rw [← b.dyc_apply, ← zero_sub (b.dyc (ix2 q h)), ← show Ideal.ofBits FTy.f32 0#32 = 0 by simp [Ideal.ofBits, Ideal.ieee]]
  rfl
theorem dy_eq : b.dy = addf b.dyc (segv b.e b.neg) := pay51_eq _ _ _ _ _ _
theorem dy_apply : b.dy (ix2 q h) = (b.at' q).dy h := by
  rw [dy_eq]
  exact congrArg₂ (· + ·) (b.dyc_apply q h) (b.seg_at q h b.neg _ fun k => b.neg_apply q k)
end Blk

/-! ## The stores -/

/-- A tile as its four pairs of heads. -/
def pairs (v : Tl) : FVec Ideal S1x4x256x128 .f32 := fun i => v (ix2 (i 2) ⟨(i 1).val * 128 + (i 3).val, by
  have h1 : (i 1).val < 4 := (i 1).isLt
  have h3 : (i 3).val < 128 := (i 3).isLt
  omega⟩)

theorem pay52_apply (v : Tl) (q : Fin 256) (l : Fin 128) : k0_pay52 (F := Ideal) v (ix4 0 0 q l) = v (ix2 q ⟨0 + l.val, by omega⟩) := by pointwise [k0_pay52]
theorem pay53_apply (v : Tl) (q : Fin 256) (l : Fin 128) : k0_pay53 (F := Ideal) v (ix4 0 0 q l) = v (ix2 q ⟨128 + l.val, by omega⟩) := by pointwise [k0_pay53]
theorem pay54_apply (v : Tl) (q : Fin 256) (l : Fin 128) : k0_pay54 (F := Ideal) v (ix4 0 0 q l) = v (ix2 q ⟨256 + l.val, by omega⟩) := by pointwise [k0_pay54]
theorem pay55_apply (v : Tl) (q : Fin 256) (l : Fin 128) : k0_pay55 (F := Ideal) v (ix4 0 0 q l) = v (ix2 q ⟨384 + l.val, by omega⟩) := by pointwise [k0_pay55]
theorem pay56_apply (v : Tl) (q : Fin 256) (l : Fin 128) : k0_pay56 (F := Ideal) v (ix4 0 0 q l) = v (ix2 q ⟨0 + l.val, by omega⟩) := by pointwise [k0_pay56]
theorem pay57_apply (v : Tl) (q : Fin 256) (l : Fin 128) : k0_pay57 (F := Ideal) v (ix4 0 0 q l) = v (ix2 q ⟨128 + l.val, by omega⟩) := by pointwise [k0_pay57]
theorem pay60_apply (v : Tl) (q : Fin 256) (l : Fin 128) : k0_pay60 (F := Ideal) v (ix4 0 0 q l) = v (ix2 q ⟨384 + l.val, by omega⟩) := by pointwise [k0_pay60]
theorem pay61_apply (v : Tl) (q : Fin 256) (l : Fin 128) : k0_pay61 (F := Ideal) v (ix4 0 0 q l) = v (ix2 q ⟨0 + l.val, by omega⟩) := by pointwise [k0_pay61]
theorem pay62_apply (v : Tl) (q : Fin 256) (l : Fin 128) : k0_pay62 (F := Ideal) v (ix4 0 0 q l) = v (ix2 q ⟨128 + l.val, by omega⟩) := by pointwise [k0_pay62]
theorem pay63_apply (v : Tl) (q : Fin 256) (l : Fin 128) : k0_pay63 (F := Ideal) v (ix4 0 0 q l) = v (ix2 q ⟨256 + l.val, by omega⟩) := by pointwise [k0_pay63]
theorem pay64_apply (v : Tl) (q : Fin 256) (l : Fin 128) : k0_pay64 (F := Ideal) v (ix4 0 0 q l) = v (ix2 q ⟨384 + l.val, by omega⟩) := by pointwise [k0_pay64]
theorem pay65_apply (v : Tl) (q : Fin 256) (l : Fin 128) : k0_pay65 (F := Ideal) v (ix4 0 0 q l) = v (ix2 q ⟨0 + l.val, by omega⟩) := by pointwise [k0_pay65]
theorem pay68_apply (v : Tl) (q : Fin 256) (l : Fin 128) : k0_pay68 (F := Ideal) v (ix4 0 0 q l) = v (ix2 q ⟨256 + l.val, by omega⟩) := by pointwise [k0_pay68]
theorem pay69_apply (v : Tl) (q : Fin 256) (l : Fin 128) : k0_pay69 (F := Ideal) v (ix4 0 0 q l) = v (ix2 q ⟨384 + l.val, by omega⟩) := by pointwise [k0_pay69]
theorem pay59_apply (v : Tl) (q : Fin 256) (l : Fin 128) : k0_pay59 (F := Ideal) (k0_pay58 v) (ix4 0 0 q l) = v (ix2 q ⟨256 + l.val, by omega⟩) := by pointwise [k0_pay59, k0_pay58]
theorem pay67_apply (v : Tl) (q : Fin 256) (l : Fin 128) : k0_pay67 (F := Ideal) (k0_pay66 v) (ix4 0 0 q l) = v (ix2 q ⟨128 + l.val, by omega⟩) := by pointwise [k0_pay67, k0_pay66]
theorem pay70_apply (v : FVec Ideal S256x256 .f32) (q k : Fin 256) : k0_pay70 (F := Ideal) v (ix3 0 q k) = v (ix2 q k) := by pointwise [k0_pay70]
theorem pay71_apply (v : FVec Ideal S256x1024 .f32) (q : Fin 256) (h : Fin 512) : k0_pay71 (F := Ideal) v (ix3 0 q h) = v (ix2 q ⟨512 + h.val, by omega⟩) := by pointwise [k0_pay71]
theorem pay72_apply (v : FVec Ideal S256x1024 .bf16) (q : Fin 256) (h : Fin 1024) : k0_pay72 (F := Ideal) v (ix3 0 q h) = v (ix2 q h) := by pointwise [k0_pay72]
theorem pay73_apply (v : FVec Ideal S256x1024 .bf16) (q : Fin 256) (h : Fin 1024) : k0_pay73 (F := Ideal) v (ix3 0 q h) = v (ix2 q h) := by pointwise [k0_pay73]
theorem pay74_apply (v : FVec Ideal S1x1024 .f32) (h : Fin 1024) : k0_pay74 (F := Ideal) v (ix3 0 0 h) = v (ix2 0 h) := by pointwise [k0_pay74]

end Cert.MixOut
-- ==== Proof.MixOut.lean ====
module

public import proofs.«01_k».proof.Proof.MixDats
public import proofs.«01_k».proof.Proof.MixBlk
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow Cert.MixRun

variable (m : (ℓ : Loc nD τ sig) → Buf (Elt Ideal) ℓ)

/-- What the point `t` reads. -/
def blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

theorem cases (t : Fin cfg0.N) : t.val = 0 ∨ ¬t.val % 8 = 0 ∨ (¬t.val = 0 ∧ t.val % 8 = 0) := by
  omega

theorem ix4_of {n2 n3 : ℕ} (y : (⟨4, ![1, 1, n2, n3]⟩ : Shape).Idx) : y = ix4 0 0 (y 2) (y 3) := by
  funext a
  match a with
  | ⟨0, _⟩ => exact Fin.ext (Nat.lt_one_iff.1 (y 0).isLt)
  | ⟨1, _⟩ => exact Fin.ext (Nat.lt_one_iff.1 (y 1).isLt)
  | ⟨2, _⟩ => rfl
  | ⟨3, _⟩ => rfl

theorem pairs_at (v : Tl) (y : S1x4x256x128.Idx) (j n : ℕ) (hn : n = j * 128) (q : Fin 256) (l : Fin 128) (h1 : (y 1).val = j) (h2 : (y 2).val = q.val) (h3 : (y 3).val = l.val) (hl : n + l.val < 512 := by omega) :
    v (ix2 q ⟨n + l.val, hl⟩) = pairs v y := by
  unfold pairs
  have e : y 2 = q := Fin.ext h2
  have e' : (⟨n + l.val, hl⟩ : Fin 512) = ⟨(y 1).val * 128 + (y 3).val, by omega⟩ := Fin.ext (by show n + l.val = (y 1).val * 128 + (y 3).val; omega)
  rw [e', ← e]

/-- The four stores of output 18 are the tile by its pairs of heads. -/
theorem stores18 (v : Tl) : View.canon (Val := Elt Ideal) (s := S1x4x256x128) (e := .f32) [⟨Rect.unit ![0, 3, 0, 0] ![1, 1, 256, 128] inb_S1x4x256x128_S1x1x256x128_0_3_0_0, k0_pay55 (F := Ideal) v⟩,
    ⟨Rect.unit ![0, 2, 0, 0] ![1, 1, 256, 128] inb_S1x4x256x128_S1x1x256x128_0_2_0_0, k0_pay54 (F := Ideal) v⟩,
    ⟨Rect.unit ![0, 1, 0, 0] ![1, 1, 256, 128] inb_S1x4x256x128_S1x1x256x128_0_1_0_0, k0_pay53 (F := Ideal) v⟩,
    ⟨Rect.unit ![0, 0, 0, 0] ![1, 1, 256, 128] inb_S1x4x256x128_S1x1x256x128_0_0_0_0, k0_pay52 (F := Ideal) v⟩] = pairs v := by
  funext y
  canon_tiles x h
  · exact (congrArg _ (ix4_of x)).trans ((pay55_apply v (x 2) (x 3)).trans (pairs_at v y 3 _ (by omega) (x 2) (x 3) (by omega) (by omega) (by omega)))
  · exact (congrArg _ (ix4_of x)).trans ((pay54_apply v (x 2) (x 3)).trans (pairs_at v y 2 _ (by omega) (x 2) (x 3) (by omega) (by omega) (by omega)))
  · exact (congrArg _ (ix4_of x)).trans ((pay53_apply v (x 2) (x 3)).trans (pairs_at v y 1 _ (by omega) (x 2) (x 3) (by omega) (by omega) (by omega)))
  · exact (congrArg _ (ix4_of x)).trans ((pay52_apply v (x 2) (x 3)).trans (pairs_at v y 0 _ (by omega) (x 2) (x 3) (by omega) (by omega) (by omega)))

/-- The four stores of output 19 are the tile by its pairs of heads. -/
theorem stores19 (v : Tl) : View.canon (Val := Elt Ideal) (s := S1x4x256x128) (e := .f32) [⟨Rect.unit ![0, 3, 0, 0] ![1, 1, 256, 128] inb_S1x4x256x128_S1x1x256x128_0_3_0_0, k0_pay60 (F := Ideal) v⟩,
    ⟨Rect.unit ![0, 2, 0, 0] ![1, 1, 256, 128] inb_S1x4x256x128_S1x1x256x128_0_2_0_0, k0_pay59 (F := Ideal) (k0_pay58 (F := Ideal) v)⟩,
    ⟨Rect.unit ![0, 1, 0, 0] ![1, 1, 256, 128] inb_S1x4x256x128_S1x1x256x128_0_1_0_0, k0_pay57 (F := Ideal) v⟩,
    ⟨Rect.unit ![0, 0, 0, 0] ![1, 1, 256, 128] inb_S1x4x256x128_S1x1x256x128_0_0_0_0, k0_pay56 (F := Ideal) v⟩] = pairs v := by
  funext y
  canon_tiles x h
  · exact (congrArg _ (ix4_of x)).trans ((pay60_apply v (x 2) (x 3)).trans (pairs_at v y 3 _ (by omega) (x 2) (x 3) (by omega) (by omega) (by omega)))
  · exact (congrArg _ (ix4_of x)).trans ((pay59_apply v (x 2) (x 3)).trans (pairs_at v y 2 _ (by omega) (x 2) (x 3) (by omega) (by omega) (by omega)))
  · exact (congrArg _ (ix4_of x)).trans ((pay57_apply v (x 2) (x 3)).trans (pairs_at v y 1 _ (by omega) (x 2) (x 3) (by omega) (by omega) (by omega)))
  · exact (congrArg _ (ix4_of x)).trans ((pay56_apply v (x 2) (x 3)).trans (pairs_at v y 0 _ (by omega) (x 2) (x 3) (by omega) (by omega) (by omega)))

/-- The four stores of output 20 are the tile by its pairs of heads. -/
theorem stores20 (v : Tl) : View.canon (Val := Elt Ideal) (s := S1x4x256x128) (e := .f32) [⟨Rect.unit ![0, 3, 0, 0] ![1, 1, 256, 128] inb_S1x4x256x128_S1x1x256x128_0_3_0_0, k0_pay64 (F := Ideal) v⟩,
    ⟨Rect.unit ![0, 2, 0, 0] ![1, 1, 256, 128] inb_S1x4x256x128_S1x1x256x128_0_2_0_0, k0_pay63 (F := Ideal) v⟩,
    ⟨Rect.unit ![0, 1, 0, 0] ![1, 1, 256, 128] inb_S1x4x256x128_S1x1x256x128_0_1_0_0, k0_pay62 (F := Ideal) v⟩,
    ⟨Rect.unit ![0, 0, 0, 0] ![1, 1, 256, 128] inb_S1x4x256x128_S1x1x256x128_0_0_0_0, k0_pay61 (F := Ideal) v⟩] = pairs v := by
  funext y
  canon_tiles x h
  · exact (congrArg _ (ix4_of x)).trans ((pay64_apply v (x 2) (x 3)).trans (pairs_at v y 3 _ (by omega) (x 2) (x 3) (by omega) (by omega) (by omega)))
  · exact (congrArg _ (ix4_of x)).trans ((pay63_apply v (x 2) (x 3)).trans (pairs_at v y 2 _ (by omega) (x 2) (x 3) (by omega) (by omega) (by omega)))
  · exact (congrArg _ (ix4_of x)).trans ((pay62_apply v (x 2) (x 3)).trans (pairs_at v y 1 _ (by omega) (x 2) (x 3) (by omega) (by omega) (by omega)))
  · exact (congrArg _ (ix4_of x)).trans ((pay61_apply v (x 2) (x 3)).trans (pairs_at v y 0 _ (by omega) (x 2) (x 3) (by omega) (by omega) (by omega)))

/-- The four stores of output 21 are the tile by its pairs of heads. -/
theorem stores21 (v : Tl) : View.canon (Val := Elt Ideal) (s := S1x4x256x128) (e := .f32) [⟨Rect.unit ![0, 3, 0, 0] ![1, 1, 256, 128] inb_S1x4x256x128_S1x1x256x128_0_3_0_0, k0_pay69 (F := Ideal) v⟩,
    ⟨Rect.unit ![0, 2, 0, 0] ![1, 1, 256, 128] inb_S1x4x256x128_S1x1x256x128_0_2_0_0, k0_pay68 (F := Ideal) v⟩,
    ⟨Rect.unit ![0, 1, 0, 0] ![1, 1, 256, 128] inb_S1x4x256x128_S1x1x256x128_0_1_0_0, k0_pay67 (F := Ideal) (k0_pay66 (F := Ideal) v)⟩,
    ⟨Rect.unit ![0, 0, 0, 0] ![1, 1, 256, 128] inb_S1x4x256x128_S1x1x256x128_0_0_0_0, k0_pay65 (F := Ideal) v⟩] = pairs v := by
  funext y
  canon_tiles x h
  · exact (congrArg _ (ix4_of x)).trans ((pay69_apply v (x 2) (x 3)).trans (pairs_at v y 3 _ (by omega) (x 2) (x 3) (by omega) (by omega) (by omega)))
  · exact (congrArg _ (ix4_of x)).trans ((pay68_apply v (x 2) (x 3)).trans (pairs_at v y 2 _ (by omega) (x 2) (x 3) (by omega) (by omega) (by omega)))
  · exact (congrArg _ (ix4_of x)).trans ((pay67_apply v (x 2) (x 3)).trans (pairs_at v y 1 _ (by omega) (x 2) (x 3) (by omega) (by omega) (by omega)))
  · exact (congrArg _ (ix4_of x)).trans ((pay65_apply v (x 2) (x 3)).trans (pairs_at v y 0 _ (by omega) (x 2) (x 3) (by omega) (by omega) (by omega)))

end Cert.MixOut
-- ==== Proof.MixTiles.lean ====
module

public import proofs.«01_k».proof.Proof.MixHost
public import proofs.«01_k».proof.Proof.MixOut

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow Cert.MixRun

variable (m : (ℓ : Loc nD τ sig) → Buf (Elt Ideal) ℓ) (c : Dev nD) (a : Arr)

/-! ## The blocks a point reads -/

theorem idx0 : ∀ t : Fin cfg0.N, win0_0.index t = ![t.val / 8, 0, 1 + t.val % 8, 0] := (by decide +kernel : ∀ t : Fin grid0.N, _)
theorem idx1 : ∀ t : Fin cfg0.N, win0_1.index t = ![t.val / 8, 0, 1 + t.val % 8, 0] := (by decide +kernel : ∀ t : Fin grid0.N, _)
theorem idx2 : ∀ t : Fin cfg0.N, win0_2.index t = ![t.val / 8, 0, 1 + t.val % 8, 0] := (by decide +kernel : ∀ t : Fin grid0.N, _)
theorem idx3 : ∀ t : Fin cfg0.N, win0_3.index t = ![t.val / 8, 0, 1 + t.val % 8, 0] := (by decide +kernel : ∀ t : Fin grid0.N, _)
theorem idx4 : ∀ t : Fin cfg0.N, win0_4.index t = ![t.val / 8, 0, 1 + t.val % 8, 0] := (by decide +kernel : ∀ t : Fin grid0.N, _)
theorem idx5 : ∀ t : Fin cfg0.N, win0_5.index t = ![t.val / 8, 0, 1 + t.val % 8, 0] := (by decide +kernel : ∀ t : Fin grid0.N, _)
theorem idx6 : ∀ t : Fin cfg0.N, win0_6.index t = ![t.val / 8, 1 + t.val % 8, 0] := (by decide +kernel : ∀ t : Fin grid0.N, _)
theorem idx7 : ∀ t : Fin cfg0.N, win0_7.index t = ![t.val / 8, 1 + t.val % 8, 0] := (by decide +kernel : ∀ t : Fin grid0.N, _)
theorem idx8 : ∀ t : Fin cfg0.N, win0_8.index t = ![t.val / 8, t.val % 8, 0] := (by decide +kernel : ∀ t : Fin grid0.N, _)
theorem idx9 : ∀ t : Fin cfg0.N, win0_9.index t = ![t.val / 8, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![t.val / 8, t.val % 8, 0] := (by decide +kernel : ∀ t : Fin grid0.N, _)
theorem idx18 : ∀ t : Fin cfg0.N, win0_18.index t = ![t.val / 8, 0, t.val % 8, 0] := (by decide +kernel : ∀ t : Fin grid0.N, _)
theorem idx19 : ∀ t : Fin cfg0.N, win0_19.index t = ![t.val / 8, 0, t.val % 8, 0] := (by decide +kernel : ∀ t : Fin grid0.N, _)
theorem idx20 : ∀ t : Fin cfg0.N, win0_20.index t = ![t.val / 8, 0, t.val % 8, 0] := (by decide +kernel : ∀ t : Fin grid0.N, _)
theorem idx21 : ∀ t : Fin cfg0.N, win0_21.index t = ![t.val / 8, 0, t.val % 8, 0] := (by decide +kernel : ∀ t : Fin grid0.N, _)
theorem idx22 : ∀ t : Fin cfg0.N, win0_22.index t = ![t.val / 8, t.val % 8, 0] := (by decide +kernel : ∀ t : Fin grid0.N, _)
theorem idx23 : ∀ t : Fin cfg0.N, win0_23.index t = ![t.val / 8, t.val % 8, 0] := (by decide +kernel : ∀ t : Fin grid0.N, _)
theorem idx24 : ∀ t : Fin cfg0.N, win0_24.index t = ![t.val / 8, t.val % 8, 0] := (by decide +kernel : ∀ t : Fin grid0.N, _)
theorem idx25 : ∀ t : Fin cfg0.N, win0_25.index t = ![t.val / 8, t.val % 8, 0] := (by decide +kernel : ∀ t : Fin grid0.N, _)
theorem idx26 : ∀ t : Fin cfg0.N, win0_26.index t = ![t.val / 8, 0, 0] := (by decide +kernel : ∀ t : Fin grid0.N, _)
theorem idx27 : ∀ t : Fin cfg0.N, win0_27.index t = ![0, 0] := (by decide +kernel : ∀ t : Fin grid0.N, _)
theorem idx28 : ∀ t : Fin cfg0.N, win0_28.index t = ![0, 0] := (by decide +kernel : ∀ t : Fin grid0.N, _)
theorem idx29 : ∀ t : Fin cfg0.N, win0_29.index t = ![0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)

/-- The point's batch row. -/
def bt (t : Fin cfg0.N) : Fin 4 := ⟨t.val / 8, by have h : t.val < 32 := t.isLt; omega⟩
/-- The point's run of tokens. -/
def jt (t : Fin cfg0.N) : Fin 8 := ⟨t.val % 8, by omega⟩

theorem blk0 (t : Fin cfg0.N) (j : Fin 4) (q : Fin 256) (l : Fin 128) : iblk m c 0 t (ix4 0 j q l) = V m c main_v5 (ix4 (bt t) j ⟨256 + ((jt t).val * 256 + q.val), by have := (jt t).isLt; omega⟩ l) := by
  have e1 : (bt t).val = t.val / 8 := rfl
  have e2 : (jt t).val = t.val % 8 := rfl
  have h := idx0 t
  blk_point [iblk, h]
  all_goals omega
theorem blk1 (t : Fin cfg0.N) (j : Fin 4) (q : Fin 256) (l : Fin 128) : iblk m c 1 t (ix4 0 j q l) = V m c main_v7 (ix4 (bt t) j ⟨256 + ((jt t).val * 256 + q.val), by have := (jt t).isLt; omega⟩ l) := by
  have e1 : (bt t).val = t.val / 8 := rfl
  have e2 : (jt t).val = t.val % 8 := rfl
  have h := idx1 t
  blk_point [iblk, h]
  all_goals omega
theorem blk2 (t : Fin cfg0.N) (j : Fin 4) (q : Fin 256) (l : Fin 128) : iblk m c 2 t (ix4 0 j q l) = V m c main_v9 (ix4 (bt t) j ⟨256 + ((jt t).val * 256 + q.val), by have := (jt t).isLt; omega⟩ l) := by
  have e1 : (bt t).val = t.val / 8 := rfl
  have e2 : (jt t).val = t.val % 8 := rfl
  have h := idx2 t
  blk_point [iblk, h]
  all_goals omega
theorem blk3 (t : Fin cfg0.N) (j : Fin 4) (q : Fin 256) (l : Fin 128) : iblk m c 3 t (ix4 0 j q l) = V m c main_v11 (ix4 (bt t) j ⟨256 + ((jt t).val * 256 + q.val), by have := (jt t).isLt; omega⟩ l) := by
  have e1 : (bt t).val = t.val / 8 := rfl
  have e2 : (jt t).val = t.val % 8 := rfl
  have h := idx3 t
  blk_point [iblk, h]
  all_goals omega
theorem blk4 (t : Fin cfg0.N) (j : Fin 4) (q : Fin 256) (l : Fin 128) : iblk m c 4 t (ix4 0 j q l) = V m c main_v13 (ix4 (bt t) j ⟨256 + ((jt t).val * 256 + q.val), by have := (jt t).isLt; omega⟩ l) := by
  have e1 : (bt t).val = t.val / 8 := rfl
  have e2 : (jt t).val = t.val % 8 := rfl
  have h := idx4 t
  blk_point [iblk, h]
  all_goals omega
theorem blk5 (t : Fin cfg0.N) (j : Fin 4) (q : Fin 256) (l : Fin 128) : iblk m c 5 t (ix4 0 j q l) = V m c main_v15 (ix4 (bt t) j ⟨256 + ((jt t).val * 256 + q.val), by have := (jt t).isLt; omega⟩ l) := by
  have e1 : (bt t).val = t.val / 8 := rfl
  have e2 : (jt t).val = t.val % 8 := rfl
  have h := idx5 t
  blk_point [iblk, h]
  all_goals omega
theorem blk6 (t : Fin cfg0.N) (q : Fin 256) (k : Fin 256) : iblk m c 6 t (ix3 0 q k) = V m c main_v1 (ix3 (bt t) ⟨256 + ((jt t).val * 256 + q.val), by have := (jt t).isLt; omega⟩ k) := by
  have e1 : (bt t).val = t.val / 8 := rfl
  have e2 : (jt t).val = t.val % 8 := rfl
  have h := idx6 t
  blk_point [iblk, h]
  all_goals omega
theorem blk7 (t : Fin cfg0.N) (q : Fin 256) (k : Fin 512) : iblk m c 7 t (ix3 0 q k) = V m c main_arg7 (ix3 (bt t) ⟨256 + ((jt t).val * 256 + q.val), by have := (jt t).isLt; omega⟩ k) := by
  have e1 : (bt t).val = t.val / 8 := rfl
  have e2 : (jt t).val = t.val % 8 := rfl
  have h := idx7 t
  blk_point [iblk, h]
  all_goals omega
theorem blk17 (t : Fin cfg0.N) (q : Fin 256) (k : Fin 1024) : iblk m c 17 t (ix3 0 q k) = V m c main_arg16 (ix3 (bt t) ⟨(jt t).val * 256 + q.val, by have := (jt t).isLt; omega⟩ k) := by
  have e1 : (bt t).val = t.val / 8 := rfl
  have e2 : (jt t).val = t.val % 8 := rfl
  have h := idx17 t
  blk_point [iblk, h]
  all_goals omega
theorem blk9 (t : Fin cfg0.N) (k : Fin 1024) : iblk m c 9 t (ix3 0 0 k) = V m c main_arg9 (ix3 (bt t) 0 k) := by
  have e1 : (bt t).val = t.val / 8 := rfl
  have e2 : (jt t).val = t.val % 8 := rfl
  have h := idx9 t
  blk_point [iblk, h]
  all_goals omega
theorem blk10 (t : Fin cfg0.N) : iblk m c 10 t = V m c main_v16 := by
  have h := idx10 t
  funext j; blk_point [iblk, h]
theorem blk11 (t : Fin cfg0.N) : iblk m c 11 t = V m c main_v3 := by
  have h := idx11 t
  funext j; blk_point [iblk, h]
theorem blk12 (t : Fin cfg0.N) : iblk m c 12 t = V m c main_arg12 := by
  have h := idx12 t
  funext j; blk_point [iblk, h]
theorem blk13 (t : Fin cfg0.N) : iblk m c 13 t = V m c main_arg13 := by
  have h := idx13 t
  funext j; blk_point [iblk, h]
theorem blk14 (t : Fin cfg0.N) : iblk m c 14 t = V m c main_v17 := by
  have h := idx14 t
  funext j; blk_point [iblk, h]
theorem blk15 (t : Fin cfg0.N) : iblk m c 15 t = V m c main_arg15 := by
  have h := idx15 t
  funext j; blk_point [iblk, h]
theorem blk16 (t : Fin cfg0.N) : iblk m c 16 t = V m c main_v26 := by
  have h := idx16 t
  funext j; blk_point [iblk, h]

/-- A pair of heads' entry is the row's. -/
theorem half_of (x : FVec Ideal S4x2304x512 .f32) (b : Fin 4) (t : Fin 2304) (h : Fin 512) :
    hds x (ix4 b ⟨h.val / 128, by omega⟩ t ⟨h.val % 128, by omega⟩) = x (ix3 b t h) := by
  rw [hds_apply]
  have e : (⟨(⟨h.val / 128, by omega⟩ : Fin 4).val * 128 + (⟨h.val % 128, by omega⟩ : Fin 128).val, by dsimp only; omega⟩ : Fin 512) = h := Fin.ext (by dsimp only; omega)
  exact congrArg (fun k => x (ix3 b t k)) e

set_option maxHeartbeats 4000000 in
/-- The point's row `q` is the token of its run. -/
theorem at_run (R : Reads m c a) (t : Fin cfg0.N) (q : Fin 256) : (blk m c t).at' q = a.run (bt t) (jt t) q := by
  refine MixRow.In.ext (funext fun h => ?_) (funext fun h => ?_) (funext fun h => ?_) (funext fun h => ?_) (funext fun h => ?_) (funext fun h => ?_)
    (funext fun k => ?_) (funext fun h => ?_) (funext fun h => ?_) (funext fun h => ?_) (funext fun k => funext fun h => ?_) (funext fun h => ?_)
    (funext fun h => ?_) (funext fun j => funext fun h => ?_) (funext fun h => ?_) (funext fun k => funext fun l => ?_) (funext fun h => ?_)
  · exact (blk0 m c t _ q _).trans ((congrFun R.hYF _).trans (half_of _ _ _ h))
  · exact (blk1 m c t _ q _).trans ((congrFun R.hYB _).trans (half_of _ _ _ h))
  · exact (blk2 m c t _ q _).trans ((congrFun R.hKF _).trans (half_of _ _ _ h))
  · exact (blk3 m c t _ q _).trans ((congrFun R.hKB _).trans (half_of _ _ _ h))
  · exact (blk4 m c t _ q _).trans ((congrFun R.hR _).trans (half_of _ _ _ h))
  · exact (blk5 m c t _ q _).trans ((congrFun R.hV _).trans (half_of _ _ _ h))
  · exact (blk6 m c t q k).trans ((congrFun R.hGD _).trans (gdp_apply _ _ _ k))
  · exact (blk7 m c t q h).trans (congrFun R.hCV _)
  · exact (blk9 m c t h).trans (congrFun R.hGA _)
  · exact (congrFun ((blk10 m c t).trans R.hRK) _).trans (rkr_apply _ h)
  · exact (congrFun ((blk11 m c t).trans R.hGW) _).trans (gwp_apply _ k h)
  · exact congrFun ((blk12 m c t).trans R.hLW) _
  · exact congrFun ((blk13 m c t).trans R.hLB) _
  · exact (congrFun ((blk14 m c t).trans R.hWO) _).trans (wob_apply _ j h)
  · exact congrFun ((blk15 m c t).trans R.hG2) _
  · exact (congrFun ((blk16 m c t).trans R.hE) _).trans (ones_apply k l)
  · exact (blk17 m c t q h).trans (congrFun R.hD _)

/-! ## What the points leave, over the arrays -/

/-- A block's index of three axes, the first of extent one. -/
theorem ix3_of {n1 n2 : ℕ} (y : (⟨3, ![1, n1, n2]⟩ : Shape).Idx) : y = ix3 0 (y 1) (y 2) := by
  funext a
  match a with
  | ⟨0, _⟩ => exact Fin.ext (Nat.lt_one_iff.1 (y 0).isLt)
  | ⟨1, _⟩ => rfl
  | ⟨2, _⟩ => rfl
/-- A row's index. -/
theorem ix2_of {n : ℕ} (y : (⟨2, ![1, n]⟩ : Shape).Idx) : y = ix2 0 (y 1) := by
  funext a
  match a with
  | ⟨0, _⟩ => exact Fin.ext (Nat.lt_one_iff.1 (y 0).isLt)
  | ⟨1, _⟩ => rfl
/-- An index of two axes. -/
theorem ix2_both {n0 n1 : ℕ} (y : (⟨2, ![n0, n1]⟩ : Shape).Idx) : y = ix2 (y 0) (y 1) := by
  funext a
  match a with
  | ⟨0, _⟩ => rfl
  | ⟨1, _⟩ => rfl

/-- A sum over the batch rows and their runs, in the grid's order. -/
theorem sum_runs (f : Fin 4 → Fin 8 → EReal) : ∑ b, ∑ j, f b j = ∑ s : Fin 32, f ⟨s.val / 8, by omega⟩ ⟨s.val % 8, by omega⟩ := by
  rw [← (finProdFinEquiv (m := 4) (n := 8)).sum_comp (fun s : Fin 32 => f ⟨s.val / 8, by omega⟩ ⟨s.val % 8, by omega⟩), Fintype.sum_prod_type]
  refine Finset.sum_congr rfl fun b _ => Finset.sum_congr rfl fun j _ => congrArg₂ f (Fin.ext ?_) (Fin.ext ?_)
  · show b.val = (j.val + 8 * b.val) / 8
    omega
  · show j.val = (j.val + 8 * b.val) % 8
    omega

/-- The array's row an element of a point's block belongs to. -/
theorem run_eq (t : Fin cfg0.N) (q : Fin 256) (b : Fin 4) (r : Fin 2048) (e0 : b.val = t.val / 8) (e1 : r.val = t.val % 8 * 256 + q.val) :
    a.run (bt t) (jt t) q = a.row b r := by
  have hb : b = bt t := Fin.ext e0
  have hr : r = ⟨(jt t).val * 256 + q.val, by have := (jt t).isLt; omega⟩ := Fin.ext e1
  rw [hb, hr]; rfl

/-- A tile by pairs of heads is the array's rows by pairs of heads. -/
theorem pairs_row (t : Fin cfg0.N) (v : Tl) (f : MixRow.In → Half) (hv : ∀ q h, v (ix2 q h) = f (a.run (bt t) (jt t) q) h)
    (y : S1x4x256x128.Idx) (i : S4x4x2048x128.Idx) (e0 : (i 0).val = t.val / 8) (e1 : (i 1).val = (y 1).val)
    (e2 : (i 2).val = t.val % 8 * 256 + (y 2).val) (e3 : (i 3).val = (y 3).val) :
    pairs v y = Arr.pairs (fun b t => f (a.row b t)) i := by
  unfold pairs Arr.pairs
  refine (hv (y 2) _).trans ?_
  rw [run_eq a t (y 2) (i 0) (i 2) e0 e2]
  refine congrArg (f (a.row (i 0) (i 2))) (Fin.ext ?_)
  show (y 1).val * 128 + (y 3).val = (i 1).val * 128 + (i 3).val
  rw [e1, e3]

theorem tile18 (R : Reads m c a) (t : Fin cfg0.N) (y : S1x4x256x128.Idx) (i : S4x4x2048x128.Idx) (e0 : (i 0).val = t.val / 8) (e1 : (i 1).val = (y 1).val)
    (e2 : (i 2).val = t.val % 8 * 256 + (y 2).val) (e3 : (i 3).val = (y 3).val) : pairs (blk m c t).dy y = a.o0 i :=
  pairs_row a t _ MixRow.In.dy (fun q h => by rw [Blk.dy_apply, at_run m c a R]) y i e0 e1 e2 e3
theorem tile19 (R : Reads m c a) (t : Fin cfg0.N) (y : S1x4x256x128.Idx) (i : S4x4x2048x128.Idx) (e0 : (i 0).val = t.val / 8) (e1 : (i 1).val = (y 1).val)
    (e2 : (i 2).val = t.val % 8 * 256 + (y 2).val) (e3 : (i 3).val = (y 3).val) : pairs (blk m c t).dk y = a.o1 i :=
  pairs_row a t _ MixRow.In.dk (fun q h => by rw [Blk.dk_apply, at_run m c a R]) y i e0 e1 e2 e3
theorem tile20 (R : Reads m c a) (t : Fin cfg0.N) (y : S1x4x256x128.Idx) (i : S4x4x2048x128.Idx) (e0 : (i 0).val = t.val / 8) (e1 : (i 1).val = (y 1).val)
    (e2 : (i 2).val = t.val % 8 * 256 + (y 2).val) (e3 : (i 3).val = (y 3).val) : pairs (blk m c t).dr y = a.o2 i :=
  pairs_row a t _ MixRow.In.dr (fun q h => by rw [Blk.dr_apply, at_run m c a R]) y i e0 e1 e2 e3
theorem tile21 (R : Reads m c a) (t : Fin cfg0.N) (y : S1x4x256x128.Idx) (i : S4x4x2048x128.Idx) (e0 : (i 0).val = t.val / 8) (e1 : (i 1).val = (y 1).val)
    (e2 : (i 2).val = t.val % 8 * 256 + (y 2).val) (e3 : (i 3).val = (y 3).val) : pairs (blk m c t).dv y = a.o3 i :=
  pairs_row a t _ MixRow.In.dv (fun q h => by rw [Blk.dv_apply, at_run m c a R]) y i e0 e1 e2 e3
theorem tile22 (R : Reads m c a) (t : Fin cfg0.N) (y : S1x256x256.Idx) (i : S4x2048x256.Idx) (e0 : (i 0).val = t.val / 8)
    (e1 : (i 1).val = t.val % 8 * 256 + (y 1).val) (e2 : (i 2).val = (y 2).val) : k0_pay70 (F := Ideal) (blk m c t).dgd y = a.o4 i := by
  obtain ⟨q, h, rfl⟩ : ∃ (q : Fin 256) (h : Fin 256), y = ix3 0 q h := ⟨y 1, y 2, ix3_of y⟩
  have hh : i 2 = h := Fin.ext e2
  rw [pay70_apply, Blk.dgd_apply, at_run m c a R, run_eq a t q (i 0) (i 1) e0 e1, ← hh]
  rfl
theorem tile23 (R : Reads m c a) (t : Fin cfg0.N) (y : S1x256x512.Idx) (i : S4x2048x512.Idx) (e0 : (i 0).val = t.val / 8)
    (e1 : (i 1).val = t.val % 8 * 256 + (y 1).val) (e2 : (i 2).val = (y 2).val) : k0_pay71 (F := Ideal) (blk m c t).dcat y = a.o5 i := by
  obtain ⟨q, h, rfl⟩ : ∃ (q : Fin 256) (h : Fin 512), y = ix3 0 q h := ⟨y 1, y 2, ix3_of y⟩
  have hh : i 2 = h := Fin.ext e2
  rw [pay71_apply, Blk.dcat_apply, at_run m c a R, run_eq a t q (i 0) (i 1) e0 e1, ← hh]
  rfl
theorem tile24 (R : Reads m c a) (t : Fin cfg0.N) (y : S1x256x1024.Idx) (i : S4x2048x1024.Idx) (e0 : (i 0).val = t.val / 8)
    (e1 : (i 1).val = t.val % 8 * 256 + (y 1).val) (e2 : (i 2).val = (y 2).val) : k0_pay72 (F := Ideal) (blk m c t).cat y = a.o6 i := by
  obtain ⟨q, h, rfl⟩ : ∃ (q : Fin 256) (h : Fin 1024), y = ix3 0 q h := ⟨y 1, y 2, ix3_of y⟩
  have hh : i 2 = h := Fin.ext e2
  rw [pay72_apply, Blk.cat_apply, at_run m c a R, run_eq a t q (i 0) (i 1) e0 e1, ← hh]
  rfl
theorem tile25 (R : Reads m c a) (t : Fin cfg0.N) (y : S1x256x1024.Idx) (i : S4x2048x1024.Idx) (e0 : (i 0).val = t.val / 8)
    (e1 : (i 1).val = t.val % 8 * 256 + (y 1).val) (e2 : (i 2).val = (y 2).val) : k0_pay73 (F := Ideal) (blk m c t).dmix y = a.o7 i := by
  obtain ⟨q, h, rfl⟩ : ∃ (q : Fin 256) (h : Fin 1024), y = ix3 0 q h := ⟨y 1, y 2, ix3_of y⟩
  have hh : i 2 = h := Fin.ext e2
  rw [pay73_apply, Blk.dmix_apply, at_run m c a R, run_eq a t q (i 0) (i 1) e0 e1, ← hh]
  rfl

theorem tile26 (R : Reads m c a) (y : S1x1x1024.Idx) (i : S4x1x1024.Idx) (t : ℕ) (hN : t < 32) (ht : ∀ s : Fin 8, 8 * (t / 8) + s.val < cfg0.N)
    (e0 : (i 0).val = t / 8) (e2 : (i 2).val = (y 2).val) :
    ∑ s : Fin 8, k0_pay74 (F := Ideal) (blk m c ⟨8 * (t / 8) + s.val, ht s⟩).dgate y = a.o8 i := by
  obtain ⟨h, rfl⟩ : ∃ (h : Fin 1024), y = ix3 0 0 h := ⟨y 2, (ix3_of y).trans (congrArg (fun k => ix3 0 k (y 2)) (Fin.ext (Nat.lt_one_iff.1 (y 1).isLt)))⟩
  have hh : i 2 = h := Fin.ext e2
  unfold Arr.o8
  rw [hh]
  refine Finset.sum_congr rfl fun s _ => ?_
  rw [pay74_apply, Blk.dgate_apply]
  simp only [at_run m c a R]
  have hb : bt ⟨8 * (t / 8) + s.val, ht s⟩ = i 0 := Fin.ext (by rw [e0]; show (8 * (t / 8) + s.val) / 8 = t / 8; omega)
  have hj : jt ⟨8 * (t / 8) + s.val, ht s⟩ = s := Fin.ext (by show (8 * (t / 8) + s.val) % 8 = s.val; omega)
  rw [hb, hj]

/-- A sum over the points of the sums over their rows. -/
theorem sum_points (R : Reads m c a) (t : ℕ) (ht : ∀ s : Fin 32, 32 * (t / 32) + s.val < cfg0.N) (f : MixRow.In → EReal) :
    ∑ s : Fin 32, ∑ q, f ((blk m c ⟨32 * (t / 32) + s.val, ht s⟩).at' q) = ∑ b, ∑ j, ∑ q, f (a.run b j q) := by
  rw [sum_runs]
  refine Finset.sum_congr rfl fun s _ => ?_
  simp only [at_run m c a R]
  have h := ht s
  have h' : cfg0.N = 32 := rfl
  have hb : bt ⟨32 * (t / 32) + s.val, ht s⟩ = ⟨s.val / 8, by omega⟩ := Fin.ext (by show (32 * (t / 32) + s.val) / 8 = s.val / 8; omega)
  have hj : jt ⟨32 * (t / 32) + s.val, ht s⟩ = ⟨s.val % 8, by omega⟩ := Fin.ext (by show (32 * (t / 32) + s.val) % 8 = s.val % 8; omega)
  rw [hb, hj]

theorem tile27 (R : Reads m c a) (y i : S1x1024.Idx) (e1 : (i 1).val = (y 1).val) (t : ℕ) (ht : ∀ s : Fin 32, 32 * (t / 32) + s.val < cfg0.N) :
    ∑ s : Fin 32, (blk m c ⟨32 * (t / 32) + s.val, ht s⟩).dg2 y = a.o9 i := by
  obtain ⟨k, rfl⟩ : ∃ k : Fin 1024, y = ix2 0 k := ⟨y 1, ix2_of y⟩
  have hk : i 1 = k := Fin.ext e1
  simp only [Blk.dg2_apply]
  rw [sum_points m c a R t ht fun x => x.dg2 k, ← hk]
  rfl
theorem tile28 (R : Reads m c a) (y i : S1x512.Idx) (e1 : (i 1).val = (y 1).val) (t : ℕ) (ht : ∀ s : Fin 32, 32 * (t / 32) + s.val < cfg0.N) :
    ∑ s : Fin 32, (blk m c ⟨32 * (t / 32) + s.val, ht s⟩).drk y = a.o10 i := by
  obtain ⟨k, rfl⟩ : ∃ k : Fin 512, y = ix2 0 k := ⟨y 1, ix2_of y⟩
  have hk : i 1 = k := Fin.ext e1
  simp only [Blk.drk_apply]
  rw [sum_points m c a R t ht fun x => x.drk k, ← hk]
  rfl
theorem tile30 (R : Reads m c a) (y i : S1x512.Idx) (e1 : (i 1).val = (y 1).val) (t : ℕ) (ht : ∀ s : Fin 32, 32 * (t / 32) + s.val < cfg0.N) :
    ∑ s : Fin 32, (blk m c ⟨32 * (t / 32) + s.val, ht s⟩).dlw y = a.o12 i := by
  obtain ⟨k, rfl⟩ : ∃ k : Fin 512, y = ix2 0 k := ⟨y 1, ix2_of y⟩
  have hk : i 1 = k := Fin.ext e1
  simp only [Blk.dlw_apply]
  rw [sum_points m c a R t ht fun x => x.dlw k, ← hk]
  rfl
theorem tile31 (R : Reads m c a) (y i : S1x512.Idx) (e1 : (i 1).val = (y 1).val) (t : ℕ) (ht : ∀ s : Fin 32, 32 * (t / 32) + s.val < cfg0.N) :
    ∑ s : Fin 32, (blk m c ⟨32 * (t / 32) + s.val, ht s⟩).dlb y = a.o13 i := by
  obtain ⟨k, rfl⟩ : ∃ k : Fin 512, y = ix2 0 k := ⟨y 1, ix2_of y⟩
  have hk : i 1 = k := Fin.ext e1
  simp only [Blk.dlb_apply]
  rw [sum_points m c a R t ht fun x => x.ds k, ← hk]
  rfl
theorem tile29 (R : Reads m c a) (y i : S256x512.Idx) (e0 : (i 0).val = (y 0).val) (e1 : (i 1).val = (y 1).val) (t : ℕ) (ht : ∀ s : Fin 32, 32 * (t / 32) + s.val < cfg0.N) :
    ∑ s : Fin 32, (blk m c ⟨32 * (t / 32) + s.val, ht s⟩).dgw y = a.o11 i := by
  obtain ⟨k, h, rfl⟩ : ∃ (k : Fin 256) (h : Fin 512), y = ix2 k h := ⟨y 0, y 1, ix2_both y⟩
  have hk : i 0 = k := Fin.ext e0
  have hh : i 1 = h := Fin.ext e1
  simp only [Blk.dgw_apply]
  rw [sum_points m c a R t ht fun x => x.dgw k h, ← hk, ← hh]
  rfl

end Cert.MixOut
-- ==== Proof.MixCaseA.lean ====
module

public import proofs.«01_k».proof.Proof.MixOut

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow Cert.MixRun

variable (m : (ℓ : Loc nD τ sig) → Buf (Elt Ideal) ℓ)

/-! # What the outputs hold at the first point -/

set_option maxHeartbeats 4000000 in
theorem out18A (c : Dev nD) (t : Fin cfg0.N) (h : t.val = 0) : (outsAt m c t.val t.isLt).o18 = pairs (blk m c t).dy := by
  rw [outsAt_A m c t h]
  unfold leftA atA
  dsimp only
  frame_out
  refine (stores18 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out19A (c : Dev nD) (t : Fin cfg0.N) (h : t.val = 0) : (outsAt m c t.val t.isLt).o19 = pairs (blk m c t).dk := by
  rw [outsAt_A m c t h]
  unfold leftA atA
  dsimp only
  frame_out
  refine (stores19 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out20A (c : Dev nD) (t : Fin cfg0.N) (h : t.val = 0) : (outsAt m c t.val t.isLt).o20 = pairs (blk m c t).dr := by
  rw [outsAt_A m c t h]
  unfold leftA atA
  dsimp only
  frame_out
  refine (stores20 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out21A (c : Dev nD) (t : Fin cfg0.N) (h : t.val = 0) : (outsAt m c t.val t.isLt).o21 = pairs (blk m c t).dv := by
  rw [outsAt_A m c t h]
  unfold leftA atA
  dsimp only
  frame_out
  refine (stores21 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out22A (c : Dev nD) (t : Fin cfg0.N) (h : t.val = 0) : (outsAt m c t.val t.isLt).o22 = k0_pay70 (F := Ideal) (blk m c t).dgd := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out23A (c : Dev nD) (t : Fin cfg0.N) (h : t.val = 0) : (outsAt m c t.val t.isLt).o23 = k0_pay71 (F := Ideal) (blk m c t).dcat := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out24A (c : Dev nD) (t : Fin cfg0.N) (h : t.val = 0) : (outsAt m c t.val t.isLt).o24 = k0_pay72 (F := Ideal) (blk m c t).cat := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out25A (c : Dev nD) (t : Fin cfg0.N) (h : t.val = 0) : (outsAt m c t.val t.isLt).o25 = k0_pay73 (F := Ideal) (blk m c t).dmix := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out26A (c : Dev nD) (t : Fin cfg0.N) (h : t.val = 0) : (outsAt m c t.val t.isLt).o26 = k0_pay74 (F := Ideal) (blk m c t).dgate := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out27A (c : Dev nD) (t : Fin cfg0.N) (h : t.val = 0) : (outsAt m c t.val t.isLt).o27 = (blk m c t).dg2 := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out28A (c : Dev nD) (t : Fin cfg0.N) (h : t.val = 0) : (outsAt m c t.val t.isLt).o28 = (blk m c t).drk := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out29A (c : Dev nD) (t : Fin cfg0.N) (h : t.val = 0) : (outsAt m c t.val t.isLt).o29 = (blk m c t).dgw := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out30A (c : Dev nD) (t : Fin cfg0.N) (h : t.val = 0) : (outsAt m c t.val t.isLt).o30 = (blk m c t).dlw := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out31A (c : Dev nD) (t : Fin cfg0.N) (h : t.val = 0) : (outsAt m c t.val t.isLt).o31 = (blk m c t).dlb := by
  rw [outsAt_A m c t h]
  unfold leftA atA
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

end Cert.MixOut
-- ==== Proof.MixCaseB.lean ====
module

public import proofs.«01_k».proof.Proof.MixOut

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow Cert.MixRun

variable (m : (ℓ : Loc nD τ sig) → Buf (Elt Ideal) ℓ)

/-! # What the outputs hold at a point that is not a batch entry's first -/

set_option maxHeartbeats 4000000 in
theorem out18B (c : Dev nD) (t : Fin cfg0.N) (h : ¬t.val % 8 = 0) : (outsAt m c t.val t.isLt).o18 = pairs (blk m c t).dy := by
  rw [outsAt_B m c t h]
  unfold leftB atB
  dsimp only
  frame_out
  refine (stores18 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out19B (c : Dev nD) (t : Fin cfg0.N) (h : ¬t.val % 8 = 0) : (outsAt m c t.val t.isLt).o19 = pairs (blk m c t).dk := by
  rw [outsAt_B m c t h]
  unfold leftB atB
  dsimp only
  frame_out
  refine (stores19 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out20B (c : Dev nD) (t : Fin cfg0.N) (h : ¬t.val % 8 = 0) : (outsAt m c t.val t.isLt).o20 = pairs (blk m c t).dr := by
  rw [outsAt_B m c t h]
  unfold leftB atB
  dsimp only
  frame_out
  refine (stores20 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out21B (c : Dev nD) (t : Fin cfg0.N) (h : ¬t.val % 8 = 0) : (outsAt m c t.val t.isLt).o21 = pairs (blk m c t).dv := by
  rw [outsAt_B m c t h]
  unfold leftB atB
  dsimp only
  frame_out
  refine (stores21 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out22B (c : Dev nD) (t : Fin cfg0.N) (h : ¬t.val % 8 = 0) : (outsAt m c t.val t.isLt).o22 = k0_pay70 (F := Ideal) (blk m c t).dgd := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out23B (c : Dev nD) (t : Fin cfg0.N) (h : ¬t.val % 8 = 0) : (outsAt m c t.val t.isLt).o23 = k0_pay71 (F := Ideal) (blk m c t).dcat := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out24B (c : Dev nD) (t : Fin cfg0.N) (h : ¬t.val % 8 = 0) : (outsAt m c t.val t.isLt).o24 = k0_pay72 (F := Ideal) (blk m c t).cat := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out25B (c : Dev nD) (t : Fin cfg0.N) (h : ¬t.val % 8 = 0) : (outsAt m c t.val t.isLt).o25 = k0_pay73 (F := Ideal) (blk m c t).dmix := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out26B (c : Dev nD) (t : Fin cfg0.N) (h : ¬t.val % 8 = 0) : (outsAt m c t.val t.isLt).o26 = k0_pay75 (F := Ideal) (k0_pay74 (F := Ideal) (blk m c t).dgate) (prev m c t).o26 := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out27B (c : Dev nD) (t : Fin cfg0.N) (h : ¬t.val % 8 = 0) : (outsAt m c t.val t.isLt).o27 = k0_pay76 (F := Ideal) ((blk m c t).dg2) (prev m c t).o27 := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out28B (c : Dev nD) (t : Fin cfg0.N) (h : ¬t.val % 8 = 0) : (outsAt m c t.val t.isLt).o28 = k0_pay77 (F := Ideal) ((blk m c t).drk) (prev m c t).o28 := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out29B (c : Dev nD) (t : Fin cfg0.N) (h : ¬t.val % 8 = 0) : (outsAt m c t.val t.isLt).o29 = k0_pay78 (F := Ideal) ((blk m c t).dgw) (prev m c t).o29 := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out30B (c : Dev nD) (t : Fin cfg0.N) (h : ¬t.val % 8 = 0) : (outsAt m c t.val t.isLt).o30 = k0_pay79 (F := Ideal) ((blk m c t).dlw) (prev m c t).o30 := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out31B (c : Dev nD) (t : Fin cfg0.N) (h : ¬t.val % 8 = 0) : (outsAt m c t.val t.isLt).o31 = k0_pay1 (F := Ideal) ((blk m c t).dlb) (prev m c t).o31 := by
  rw [outsAt_B m c t h]
  unfold leftB atB
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

end Cert.MixOut
-- ==== Proof.MixCaseC.lean ====
module

public import proofs.«01_k».proof.Proof.MixOut

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow Cert.MixRun

variable (m : (ℓ : Loc nD τ sig) → Buf (Elt Ideal) ℓ)

/-! # What the outputs hold at a later batch entry's first point -/

set_option maxHeartbeats 4000000 in
theorem out18C (c : Dev nD) (t : Fin cfg0.N) (h0 : ¬t.val = 0) (h8 : t.val % 8 = 0) : (outsAt m c t.val t.isLt).o18 = pairs (blk m c t).dy := by
  rw [outsAt_C m c t h0 h8]
  unfold leftC atC
  dsimp only
  frame_out
  refine (stores18 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out19C (c : Dev nD) (t : Fin cfg0.N) (h0 : ¬t.val = 0) (h8 : t.val % 8 = 0) : (outsAt m c t.val t.isLt).o19 = pairs (blk m c t).dk := by
  rw [outsAt_C m c t h0 h8]
  unfold leftC atC
  dsimp only
  frame_out
  refine (stores19 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out20C (c : Dev nD) (t : Fin cfg0.N) (h0 : ¬t.val = 0) (h8 : t.val % 8 = 0) : (outsAt m c t.val t.isLt).o20 = pairs (blk m c t).dr := by
  rw [outsAt_C m c t h0 h8]
  unfold leftC atC
  dsimp only
  frame_out
  refine (stores20 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out21C (c : Dev nD) (t : Fin cfg0.N) (h0 : ¬t.val = 0) (h8 : t.val % 8 = 0) : (outsAt m c t.val t.isLt).o21 = pairs (blk m c t).dv := by
  rw [outsAt_C m c t h0 h8]
  unfold leftC atC
  dsimp only
  frame_out
  refine (stores21 _).trans ?_
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out22C (c : Dev nD) (t : Fin cfg0.N) (h0 : ¬t.val = 0) (h8 : t.val % 8 = 0) : (outsAt m c t.val t.isLt).o22 = k0_pay70 (F := Ideal) (blk m c t).dgd := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out23C (c : Dev nD) (t : Fin cfg0.N) (h0 : ¬t.val = 0) (h8 : t.val % 8 = 0) : (outsAt m c t.val t.isLt).o23 = k0_pay71 (F := Ideal) (blk m c t).dcat := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out24C (c : Dev nD) (t : Fin cfg0.N) (h0 : ¬t.val = 0) (h8 : t.val % 8 = 0) : (outsAt m c t.val t.isLt).o24 = k0_pay72 (F := Ideal) (blk m c t).cat := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out25C (c : Dev nD) (t : Fin cfg0.N) (h0 : ¬t.val = 0) (h8 : t.val % 8 = 0) : (outsAt m c t.val t.isLt).o25 = k0_pay73 (F := Ideal) (blk m c t).dmix := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out26C (c : Dev nD) (t : Fin cfg0.N) (h0 : ¬t.val = 0) (h8 : t.val % 8 = 0) : (outsAt m c t.val t.isLt).o26 = k0_pay74 (F := Ideal) (blk m c t).dgate := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out27C (c : Dev nD) (t : Fin cfg0.N) (h0 : ¬t.val = 0) (h8 : t.val % 8 = 0) : (outsAt m c t.val t.isLt).o27 = k0_pay76 (F := Ideal) ((blk m c t).dg2) (prev m c t).o27 := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out28C (c : Dev nD) (t : Fin cfg0.N) (h0 : ¬t.val = 0) (h8 : t.val % 8 = 0) : (outsAt m c t.val t.isLt).o28 = k0_pay77 (F := Ideal) ((blk m c t).drk) (prev m c t).o28 := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out29C (c : Dev nD) (t : Fin cfg0.N) (h0 : ¬t.val = 0) (h8 : t.val % 8 = 0) : (outsAt m c t.val t.isLt).o29 = k0_pay78 (F := Ideal) ((blk m c t).dgw) (prev m c t).o29 := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out30C (c : Dev nD) (t : Fin cfg0.N) (h0 : ¬t.val = 0) (h8 : t.val % 8 = 0) : (outsAt m c t.val t.isLt).o30 = k0_pay79 (F := Ideal) ((blk m c t).dlw) (prev m c t).o30 := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

set_option maxHeartbeats 4000000 in
theorem out31C (c : Dev nD) (t : Fin cfg0.N) (h0 : ¬t.val = 0) (h8 : t.val % 8 = 0) : (outsAt m c t.val t.isLt).o31 = k0_pay1 (F := Ideal) ((blk m c t).dlb) (prev m c t).o31 := by
  rw [outsAt_C m c t h0 h8]
  unfold leftC atC
  dsimp only
  frame_out
  simp only [blk, p0, p1, p2, p3, Blk.e, Blk.y, Blk.k, Blk.r, Blk.v, Blk.gd, Blk.rk, Blk.gw, Blk.yc, Blk.rs, Blk.dd, Blk.nh, Blk.yn, Blk.q, Blk.sb, Blk.ex, Blk.sg, Blk.sp, Blk.g, Blk.s, Blk.cat, Blk.mix, Blk.ga, Blk.dgate, Blk.dg2, Blk.dmix, Blk.dcat, Blk.dro, Blk.dg, Blk.ds, Blk.dgw, Blk.dgd, Blk.dv, Blk.sd, Blk.drk, Blk.dq, Blk.dk, Blk.dr, Blk.dlb, Blk.dl, Blk.dlw, Blk.dy]

end Cert.MixOut
-- ==== Proof.MixFinal.lean ====
module

public import proofs.«01_k».proof.Proof.MixTiles
public import proofs.«01_k».proof.Proof.MixCaseA
public import proofs.«01_k».proof.Proof.MixCaseB
public import proofs.«01_k».proof.Proof.MixCaseC

@[expose] public section

set_option maxRecDepth 16384

noncomputable section

open Idealize.ShloMosaic Idealize.ShloMosaic.TcCoe Idealize.SL.Sem
open Idealize.ShloMosaic.Pipeline (Dat)

namespace Cert.MixOut
open Cert.Kernel4Ideal Cert.Kernel4Ideal.Gen Cert.NormRow Cert.MlpRow Cert.MixRow Cert.MixRun

variable (m : (ℓ : Loc nD τ sig) → Buf (Elt Ideal) ℓ) (c : Dev nD) (a : Arr)

/-! ## What each output holds after a point -/

theorem out18 (t : Fin cfg0.N) : (outsAt m c t.val t.isLt).o18 = pairs (blk m c t).dy := by
  rcases cases t with h | h | ⟨h0, h8⟩
  · exact out18A m c t h
  · exact out18B m c t h
  · exact out18C m c t h0 h8
theorem out19 (t : Fin cfg0.N) : (outsAt m c t.val t.isLt).o19 = pairs (blk m c t).dk := by
  rcases cases t with h | h | ⟨h0, h8⟩
  · exact out19A m c t h
  · exact out19B m c t h
  · exact out19C m c t h0 h8
theorem out20 (t : Fin cfg0.N) : (outsAt m c t.val t.isLt).o20 = pairs (blk m c t).dr := by
  rcases cases t with h | h | ⟨h0, h8⟩
  · exact out20A m c t h
  · exact out20B m c t h
  · exact out20C m c t h0 h8
theorem out21 (t : Fin cfg0.N) : (outsAt m c t.val t.isLt).o21 = pairs (blk m c t).dv := by
  rcases cases t with h | h | ⟨h0, h8⟩
  · exact out21A m c t h
  · exact out21B m c t h
  · exact out21C m c t h0 h8
theorem out22 (t : Fin cfg0.N) : (outsAt m c t.val t.isLt).o22 = k0_pay70 (F := Ideal) (blk m c t).dgd := by
  rcases cases t with h | h | ⟨h0, h8⟩
  · exact out22A m c t h
  · exact out22B m c t h
  · exact out22C m c t h0 h8
theorem out23 (t : Fin cfg0.N) : (outsAt m c t.val t.isLt).o23 = k0_pay71 (F := Ideal) (blk m c t).dcat := by
  rcases cases t with h | h | ⟨h0, h8⟩
  · exact out23A m c t h
  · exact out23B m c t h
  · exact out23C m c t h0 h8
theorem out24 (t : Fin cfg0.N) : (outsAt m c t.val t.isLt).o24 = k0_pay72 (F := Ideal) (blk m c t).cat := by
  rcases cases t with h | h | ⟨h0, h8⟩
  · exact out24A m c t h
  · exact out24B m c t h
  · exact out24C m c t h0 h8
theorem out25 (t : Fin cfg0.N) : (outsAt m c t.val t.isLt).o25 = k0_pay73 (F := Ideal) (blk m c t).dmix := by
  rcases cases t with h | h | ⟨h0, h8⟩
  · exact out25A m c t h
  · exact out25B m c t h
  · exact out25C m c t h0 h8
theorem out26_first (t : Fin cfg0.N) (h : t.val % 8 = 0) : (outsAt m c t.val t.isLt).o26 = k0_pay74 (F := Ideal) (blk m c t).dgate := by
  by_cases h0 : t.val = 0
  · exact out26A m c t h0
  · exact out26C m c t h0 h
theorem out27_first (t : Fin cfg0.N) (h : t.val % 32 = 0) : (outsAt m c t.val t.isLt).o27 = (blk m c t).dg2 := by
  have ht : t.val < 32 := t.isLt
  exact out27A m c t (by omega)
theorem out27_later (t : Fin cfg0.N) (h : ¬t.val % 32 = 0) : (outsAt m c t.val t.isLt).o27 = k0_pay76 (F := Ideal) ((blk m c t).dg2) (prev m c t).o27 := by
  rcases cases t with h0 | h0 | ⟨h0, h8⟩
  · exact absurd (by omega) h
  · exact out27B m c t h0
  · exact out27C m c t h0 h8
theorem out28_first (t : Fin cfg0.N) (h : t.val % 32 = 0) : (outsAt m c t.val t.isLt).o28 = (blk m c t).drk := by
  have ht : t.val < 32 := t.isLt
  exact out28A m c t (by omega)
theorem out28_later (t : Fin cfg0.N) (h : ¬t.val % 32 = 0) : (outsAt m c t.val t.isLt).o28 = k0_pay77 (F := Ideal) ((blk m c t).drk) (prev m c t).o28 := by
  rcases cases t with h0 | h0 | ⟨h0, h8⟩
  · exact absurd (by omega) h
  · exact out28B m c t h0
  · exact out28C m c t h0 h8
theorem out29_first (t : Fin cfg0.N) (h : t.val % 32 = 0) : (outsAt m c t.val t.isLt).o29 = (blk m c t).dgw := by
  have ht : t.val < 32 := t.isLt
  exact out29A m c t (by omega)
theorem out29_later (t : Fin cfg0.N) (h : ¬t.val % 32 = 0) : (outsAt m c t.val t.isLt).o29 = k0_pay78 (F := Ideal) ((blk m c t).dgw) (prev m c t).o29 := by
  rcases cases t with h0 | h0 | ⟨h0, h8⟩
  · exact absurd (by omega) h
  · exact out29B m c t h0
  · exact out29C m c t h0 h8
theorem out30_first (t : Fin cfg0.N) (h : t.val % 32 = 0) : (outsAt m c t.val t.isLt).o30 = (blk m c t).dlw := by
  have ht : t.val < 32 := t.isLt
  exact out30A m c t (by omega)
theorem out30_later (t : Fin cfg0.N) (h : ¬t.val % 32 = 0) : (outsAt m c t.val t.isLt).o30 = k0_pay79 (F := Ideal) ((blk m c t).dlw) (prev m c t).o30 := by
  rcases cases t with h0 | h0 | ⟨h0, h8⟩
  · exact absurd (by omega) h
  · exact out30B m c t h0
  · exact out30C m c t h0 h8
theorem out31_first (t : Fin cfg0.N) (h : t.val % 32 = 0) : (outsAt m c t.val t.isLt).o31 = (blk m c t).dlb := by
  have ht : t.val < 32 := t.isLt
  exact out31A m c t (by omega)
theorem out31_later (t : Fin cfg0.N) (h : ¬t.val % 32 = 0) : (outsAt m c t.val t.isLt).o31 = k0_pay1 (F := Ideal) ((blk m c t).dlb) (prev m c t).o31 := by
  rcases cases t with h0 | h0 | ⟨h0, h8⟩
  · exact absurd (by omega) h
  · exact out31B m c t h0
  · exact out31C m c t h0 h8

theorem pay75_apply (a b : FVec Ideal S1x1x1024 .f32) (j : S1x1x1024.Idx) : k0_pay75 (F := Ideal) a b j = b j + a j := by
  pointwise [k0_pay75]
theorem pay76_apply (a b : FVec Ideal S1x1024 .f32) (j : S1x1024.Idx) : k0_pay76 (F := Ideal) a b j = b j + a j := by
  pointwise [k0_pay76]
theorem pay77_apply (a b : FVec Ideal S1x512 .f32) (j : S1x512.Idx) : k0_pay77 (F := Ideal) a b j = b j + a j := by
  pointwise [k0_pay77]
theorem pay78_apply (a b : FVec Ideal S256x512 .f32) (j : S256x512.Idx) : k0_pay78 (F := Ideal) a b j = b j + a j := by
  pointwise [k0_pay78]
theorem pay79_apply (a b : FVec Ideal S1x512 .f32) (j : S1x512.Idx) : k0_pay79 (F := Ideal) a b j = b j + a j := by
  pointwise [k0_pay79]
theorem pay1_apply (a b : FVec Ideal S1x512 .f32) (j : S1x512.Idx) : k0_pay1 (F := Ideal) a b j = b j + a j := by
  pointwise [k0_pay1]

/-! ## The final arrays -/

theorem final18 (R : Reads m c a) : (dats m 0 c).arrAt 18 cfg0.N = a.o0 := by
  refine (dats m 0 c).arrAt_eq_of_covers 18 _ (by decide +kernel) fun t hf y => ?_
  blk_simp
  rw [after18, out18 m c t]
  have y0 : (y 0).val < 1 := (y 0).isLt
  refine tile18 m c a R t y _ ?_ ?_ ?_ ?_
  all_goals (blk_simp [idx18 t] <;> try omega)

theorem final19 (R : Reads m c a) : (dats m 0 c).arrAt 19 cfg0.N = a.o1 := by
  refine (dats m 0 c).arrAt_eq_of_covers 19 _ (by decide +kernel) fun t hf y => ?_
  blk_simp
  rw [after19, out19 m c t]
  have y0 : (y 0).val < 1 := (y 0).isLt
  refine tile19 m c a R t y _ ?_ ?_ ?_ ?_
  all_goals (blk_simp [idx19 t] <;> try omega)

theorem final20 (R : Reads m c a) : (dats m 0 c).arrAt 20 cfg0.N = a.o2 := by
  refine (dats m 0 c).arrAt_eq_of_covers 20 _ (by decide +kernel) fun t hf y => ?_
  blk_simp
  rw [after20, out20 m c t]
  have y0 : (y 0).val < 1 := (y 0).isLt
  refine tile20 m c a R t y _ ?_ ?_ ?_ ?_
  all_goals (blk_simp [idx20 t] <;> try omega)

theorem final21 (R : Reads m c a) : (dats m 0 c).arrAt 21 cfg0.N = a.o3 := by
  refine (dats m 0 c).arrAt_eq_of_covers 21 _ (by decide +kernel) fun t hf y => ?_
  blk_simp
  rw [after21, out21 m c t]
  have y0 : (y 0).val < 1 := (y 0).isLt
  refine tile21 m c a R t y _ ?_ ?_ ?_ ?_
  all_goals (blk_simp [idx21 t] <;> try omega)

theorem final22 (R : Reads m c a) : (dats m 0 c).arrAt 22 cfg0.N = a.o4 := by
  refine (dats m 0 c).arrAt_eq_of_covers 22 _ (by decide +kernel) fun t hf y => ?_
  blk_simp
  rw [after22, out22 m c t]
  have y0 : (y 0).val < 1 := (y 0).isLt
  refine tile22 m c a R t y _ ?_ ?_ ?_
  all_goals (blk_simp [idx22 t] <;> try omega)

theorem final23 (R : Reads m c a) : (dats m 0 c).arrAt 23 cfg0.N = a.o5 := by
  refine (dats m 0 c).arrAt_eq_of_covers 23 _ (by decide +kernel) fun t hf y => ?_
  blk_simp
  rw [after23, out23 m c t]
  have y0 : (y 0).val < 1 := (y 0).isLt
  refine tile23 m c a R t y _ ?_ ?_ ?_
  all_goals (blk_simp [idx23 t] <;> try omega)

theorem final24 (R : Reads m c a) : (dats m 0 c).arrAt 24 cfg0.N = a.o6 := by
  refine (dats m 0 c).arrAt_eq_of_covers 24 _ (by decide +kernel) fun t hf y => ?_
  blk_simp
  rw [after24, out24 m c t]
  have y0 : (y 0).val < 1 := (y 0).isLt
  refine tile24 m c a R t y _ ?_ ?_ ?_
  all_goals (blk_simp [idx24 t] <;> try omega)

theorem final25 (R : Reads m c a) : (dats m 0 c).arrAt 25 cfg0.N = a.o7 := by
  refine (dats m 0 c).arrAt_eq_of_covers 25 _ (by decide +kernel) fun t hf y => ?_
  blk_simp
  rw [after25, out25 m c t]
  have y0 : (y 0).val < 1 := (y 0).isLt
  refine tile25 m c a R t y _ ?_ ?_ ?_
  all_goals (blk_simp [idx25 t] <;> try omega)

theorem final26 (R : Reads m c a) : (dats m 0 c).arrAt 26 cfg0.N = a.o8 := by
  refine (dats m 0 c).arrAt_eq_of_covers 26 _ (by decide +kernel) fun t hf y => ?_
  blk_simp
  rw [after26, Pipeline.eq_sum_fin_of_reset_step_apply_of_flush (fun n h => (outsAt m c n h).o26) 8 (fun _ => 0) (fun t => k0_pay74 (F := Ideal) (blk m c t).dgate)
    (fun t h j => by rw [out26_first m c t h, zero_add]) (fun t h j => by rw [out26B m c t h]; exact pay75_apply _ _ j)
    t ((flush0_26 t).mp hf) _, zero_add]
  have ht : t.val < 32 := t.isLt
  have y0 : (y 0).val < 1 := (y 0).isLt
  refine tile26 m c a R y _ t.val ht _ ?_ ?_
  all_goals (blk_simp [idx26 t] <;> try omega)

theorem final27 (R : Reads m c a) : (dats m 0 c).arrAt 27 cfg0.N = a.o9 := by
  refine (dats m 0 c).arrAt_eq_of_covers 27 _ (by decide +kernel) fun t hf y => ?_
  blk_simp
  rw [after27, Pipeline.eq_sum_fin_of_reset_step_apply_of_flush (fun n h => (outsAt m c n h).o27) 32 (fun _ => 0) (fun t => (blk m c t).dg2)
    (fun t h j => by rw [out27_first m c t h, zero_add]) (fun t h j => by rw [out27_later m c t h]; exact pay76_apply _ _ j)
    t ((flush0_27 t).mp hf) _, zero_add]
  refine tile27 m c a R y _ ?_ t.val _
  blk_simp [idx27 t]

theorem final28 (R : Reads m c a) : (dats m 0 c).arrAt 28 cfg0.N = a.o10 := by
  refine (dats m 0 c).arrAt_eq_of_covers 28 _ (by decide +kernel) fun t hf y => ?_
  blk_simp
  rw [after28, Pipeline.eq_sum_fin_of_reset_step_apply_of_flush (fun n h => (outsAt m c n h).o28) 32 (fun _ => 0) (fun t => (blk m c t).drk)
    (fun t h j => by rw [out28_first m c t h, zero_add]) (fun t h j => by rw [out28_later m c t h]; exact pay77_apply _ _ j)
    t ((flush0_28 t).mp hf) _, zero_add]
  refine tile28 m c a R y _ ?_ t.val _
  blk_simp [idx28 t]

theorem final29 (R : Reads m c a) : (dats m 0 c).arrAt 29 cfg0.N = a.o11 := by
  refine (dats m 0 c).arrAt_eq_of_covers 29 _ (by decide +kernel) fun t hf y => ?_
  blk_simp
  rw [after29, Pipeline.eq_sum_fin_of_reset_step_apply_of_flush (fun n h => (outsAt m c n h).o29) 32 (fun _ => 0) (fun t => (blk m c t).dgw)
    (fun t h j => by rw [out29_first m c t h, zero_add]) (fun t h j => by rw [out29_later m c t h]; exact pay78_apply _ _ j)
    t ((flush0_29 t).mp hf) _, zero_add]
  refine tile29 m c a R y _ ?_ ?_ t.val _
  all_goals blk_simp [idx29 t]

theorem final30 (R : Reads m c a) : (dats m 0 c).arrAt 30 cfg0.N = a.o12 := by
  refine (dats m 0 c).arrAt_eq_of_covers 30 _ (by decide +kernel) fun t hf y => ?_
  blk_simp
  rw [after30, Pipeline.eq_sum_fin_of_reset_step_apply_of_flush (fun n h => (outsAt m c n h).o30) 32 (fun _ => 0) (fun t => (blk m c t).dlw)
    (fun t h j => by rw [out30_first m c t h, zero_add]) (fun t h j => by rw [out30_later m c t h]; exact pay79_apply _ _ j)
    t ((flush0_30 t).mp hf) _, zero_add]
  refine tile30 m c a R y _ ?_ t.val _
  blk_simp [idx30 t]

theorem final31 (R : Reads m c a) : (dats m 0 c).arrAt 31 cfg0.N = a.o13 := by
  refine (dats m 0 c).arrAt_eq_of_covers 31 _ (by decide +kernel) fun t hf y => ?_
  blk_simp
  rw [after31, Pipeline.eq_sum_fin_of_reset_step_apply_of_flush (fun n h => (outsAt m c n h).o31) 32 (fun _ => 0) (fun t => (blk m c t).dlb)
    (fun t h j => by rw [out31_first m c t h, zero_add]) (fun t h j => by rw [out31_later m c t h]; exact pay1_apply _ _ j)
    t ((flush0_31 t).mp hf) _, zero_add]
  refine tile31 m c a R y _ ?_ t.val _
  blk_simp [idx31 t]

end Cert.MixOut
-- ==== Proof.MixOutAlg.lean ====
module

public import proofs.«01_k».proof.Proof.MixEq
public import proofs.«01_k».proof.Proof.MixFinal
public import proofs.«01_k».proof.Proof.MixFrame
public import proofs.«01_k».proof.Defs
public import proofs.«01_k».proof.Proof.Gen.Pre_finite4

@[expose] public section

set_option maxRecDepth 16384

noncomputable section

open Idealize.ShloMosaic Idealize.ShloMosaic.TcCoe Idealize.SL.Sem
namespace Cert.MixOut
open Cert.Finite

instance : Subsingleton (Cert.Pre_finite4.S_).Idx := ⟨fun a b => funext fun i => Fin.elim0 i⟩

theorem inf_bits : Ideal.ofBits .f32 0x7F800000#32 = ⊤ := by simp [Ideal.ofBits, Ideal.ieee]

set_option maxHeartbeats 2000000 in
/-- What the precondition says of the arrays it reads. -/
theorem pre_real (a0 : FVec Ideal Cert.Pre_finite4.S4x2304x512 .f32) (a1 : FVec Ideal Cert.Pre_finite4.S4x2304x512 .f32) (a2 : FVec Ideal Cert.Pre_finite4.S4x2304x512 .f32) (a3 : FVec Ideal Cert.Pre_finite4.S4x2304x512 .f32) (a4 : FVec Ideal Cert.Pre_finite4.S4x2304x512 .f32) (a5 : FVec Ideal Cert.Pre_finite4.S4x2304x512 .f32) (a6 : FVec Ideal Cert.Pre_finite4.S4x2304x160 .f32) (a7 : FVec Ideal Cert.Pre_finite4.S4x2304x512 .f32) (a8 : FVec Ideal Cert.Pre_finite4.S4x2048x1024 .f32) (a9 : FVec Ideal Cert.Pre_finite4.S4x1x1024 .f32) (a10 : FVec Ideal Cert.Pre_finite4.S8x64 .f32) (a11 : FVec Ideal Cert.Pre_finite4.S160x512 .f32) (a12 : FVec Ideal Cert.Pre_finite4.S1x512 .f32) (a13 : FVec Ideal Cert.Pre_finite4.S1x512 .f32) (a14 : FVec Ideal Cert.Pre_finite4.S1024x1024 .f32) (a15 : FVec Ideal Cert.Pre_finite4.S1x1024 .f32) (a16 : FVec Ideal Cert.Pre_finite4.S4x2048x1024 .f32)
    (h : @Cert.Pre_finite4.fn Cert.Pre_finite4.Gen.facts Ideal _ a0 a1 a2 a3 a4 a5 a6 a7 a8 a9 a10 a11 a12 a13 a14 a15 a16 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) := by
  have inf : ∀ x : Ideal .f32, x = Scalar.ofBits (F := Ideal) .f32 0x7F800000#32 → x = (⊤ : EReal) := fun x hx => by
    rw [hx]; exact inf_bits
  have h0 := IntOp.andi_eq_one.1 (congrFun h (fun i => Fin.elim0 i))
  have h1 := IntOp.andi_eq_one.1 h0.1
  have h2 := IntOp.andi_eq_one.1 h1.1
  have h3 := IntOp.andi_eq_one.1 h2.1
  have h4 := IntOp.andi_eq_one.1 h3.1
  have h5 := IntOp.andi_eq_one.1 h4.1
  have h6 := IntOp.andi_eq_one.1 h5.1
  have h7 := IntOp.andi_eq_one.1 h6.1
  have h8 := IntOp.andi_eq_one.1 h7.1
  have h9 := IntOp.andi_eq_one.1 h8.1
  have h10 := IntOp.andi_eq_one.1 h9.1
  have h11 := IntOp.andi_eq_one.1 h10.1
  have h12 := IntOp.andi_eq_one.1 h11.1
  have h13 := IntOp.andi_eq_one.1 h12.1
  have h14 := IntOp.andi_eq_one.1 h13.1
  exact ⟨isReal_of_all _ _ (fun i => inf _ rfl) _ _ _ _ h14.1,
    isReal_of_all _ _ (fun i => inf _ rfl) _ _ _ _ h14.2,
    isReal_of_all _ _ (fun i => inf _ rfl) _ _ _ _ h13.2,
    isReal_of_all _ _ (fun i => inf _ rfl) _ _ _ _ h12.2,
    isReal_of_all _ _ (fun i => inf _ rfl) _ _ _ _ h11.2,
    isReal_of_all _ _ (fun i => inf _ rfl) _ _ _ _ h10.2,
    isReal_of_all _ _ (fun i => inf _ rfl) _ _ _ _ h9.2,
    isReal_of_all _ _ (fun i => inf _ rfl) _ _ _ _ h8.2,
    isReal_of_all _ _ (fun i => inf _ rfl) _ _ _ _ h7.2,
    isReal_of_all _ _ (fun i => inf _ rfl) _ _ _ _ h6.2,
    isReal_of_all _ _ (fun i => inf _ rfl) _ _ _ _ h5.2,
    isReal_of_all _ _ (fun i => inf _ rfl) _ _ _ _ h4.2,
    isReal_of_all _ _ (fun i => inf _ rfl) _ _ _ _ h3.2,
    isReal_of_all _ _ (fun i => inf _ rfl) _ _ _ _ h2.2,
    isReal_of_all _ _ (fun i => inf _ rfl) _ _ _ _ h1.2,
    isReal_of_all _ _ (fun i => inf _ rfl) _ _ _ _ h0.2⟩

/-- The reference's arrays. -/
def rargs (m' : (ℓ : Loc Cert.Reference4Ideal.nD Cert.Reference4Ideal.τ Cert.Reference4Ideal.sig) → Buf (Elt Ideal) ℓ) (c : Dev Cert.Reference4Ideal.nD) : Arr :=
  Arr.mk (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13)) (m' ((c.tc : Thread Cert.Reference4Ideal.nD Cert.Reference4Ideal.τ).loc Cert.Reference4Ideal.main_arg14)) (m' ((c.tc : Thread Cert.Reference4Ideal.nD Cert.Reference4Ideal.τ).loc Cert.Reference4Ideal.main_arg15)) (m' ((c.tc : Thread Cert.Reference4Ideal.nD Cert.Reference4Ideal.τ).loc Cert.Reference4Ideal.main_arg16))

set_option maxHeartbeats 4000000 in
/-- The kernel and the reference end with the same fourteen arrays. -/
theorem alg : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hag
  refine ⟨fun c => (Cert.MixRun.dats m 0 c).arrAt 18 Cert.Kernel4Ideal.cfg0.N, fun c => (Cert.MixRun.dats m 0 c).arrAt 19 Cert.Kernel4Ideal.cfg0.N, fun c => (Cert.MixRun.dats m 0 c).arrAt 20 Cert.Kernel4Ideal.cfg0.N, fun c => (Cert.MixRun.dats m 0 c).arrAt 21 Cert.Kernel4Ideal.cfg0.N, fun c => (Cert.MixRun.dats m 0 c).arrAt 22 Cert.Kernel4Ideal.cfg0.N, fun c => (Cert.MixRun.dats m 0 c).arrAt 23 Cert.Kernel4Ideal.cfg0.N, fun c => (Cert.MixRun.dats m 0 c).arrAt 24 Cert.Kernel4Ideal.cfg0.N, fun c => (Cert.MixRun.dats m 0 c).arrAt 25 Cert.Kernel4Ideal.cfg0.N, fun c => (Cert.MixRun.dats m 0 c).arrAt 26 Cert.Kernel4Ideal.cfg0.N, fun c => (Cert.MixRun.dats m 0 c).arrAt 27 Cert.Kernel4Ideal.cfg0.N, fun c => (Cert.MixRun.dats m 0 c).arrAt 28 Cert.Kernel4Ideal.cfg0.N, fun c => (Cert.MixRun.dats m 0 c).arrAt 29 Cert.Kernel4Ideal.cfg0.N, fun c => (Cert.MixRun.dats m 0 c).arrAt 30 Cert.Kernel4Ideal.cfg0.N, fun c => (Cert.MixRun.dats m 0 c).arrAt 31 Cert.Kernel4Ideal.cfg0.N, ?_, ?_⟩
  · exact Cert.MixRun.run_blocks m g
  · refine (θ_run _ _ _).mono (fun _ h c => ?_) (Cert.Reference4Ideal.Value.run (F := Ideal) m' g')
    obtain ⟨p0, p1, p2, p3, p4, p5, p6, p7, p9, p10, p11, p12, p13, p14, p15, p16⟩ := pre_real _ _ _ _ _ _ _ _ _ _ _ _ _ _ _ _ _ (hpre c)
    obtain ⟨h0, h1, h2, h3, h4, h5, h6, h7, h8, h9, h10, h11, h12, h13, hargs⟩ := h c
    obtain ⟨e0, e1, e2, e3, e4, e5, e6, e7, e8, e9, e10, e11, e12, e13, e14, e15, e16⟩ := hag c
    have reads : Reads m c (rargs m' c) := by
      unfold rargs
      rw [e0, e1, e2, e3, e4, e5, e6, e7, e8, e9, e10, e11, e12, e13, e14, e15, e16]
      exact ⟨r0 _, r1 _, r2 _, r3 _, r4 _, r5 _, r6 _, rfl, rfl, rfl, r7 _, r8 _, rfl, rfl, r9 _, rfl, r10 _, rfl⟩
    have ok : Arr.Ok (rargs m' c) := by
      unfold rargs
      rw [e0, e1, e2, e3, e4, e5, e6, e7, e8, e9, e10, e11, e12, e13, e14, e15, e16]
      exact Arr.ok p0 p1 p2 p3 p4 p5 p6 p7 p9 p10 p11 p12 p13 p14 p15 p16
    refine ⟨h0.trans (Eq.trans (b := res0 (rargs m' c)) rfl ?_),
      h1.trans (Eq.trans (b := res1 (rargs m' c)) rfl ?_),
      h2.trans (Eq.trans (b := res2 (rargs m' c)) rfl ?_),
      h3.trans (Eq.trans (b := res3 (rargs m' c)) rfl ?_),
      h4.trans (Eq.trans (b := res4 (rargs m' c)) rfl ?_),
      h5.trans (Eq.trans (b := res5 (rargs m' c)) rfl ?_),
      h6.trans (Eq.trans (b := res6 (rargs m' c)) rfl ?_),
      h7.trans (Eq.trans (b := res7 (rargs m' c)) rfl ?_),
      h8.trans (Eq.trans (b := res8 (rargs m' c)) rfl ?_),
      h9.trans (Eq.trans (b := res9 (rargs m' c)) rfl ?_),
      h10.trans (Eq.trans (b := res10 (rargs m' c)) rfl ?_),
      h11.trans (Eq.trans (b := res11 (rargs m' c)) rfl ?_),
      h12.trans (Eq.trans (b := res12 (rargs m' c)) rfl ?_),
      h13.trans (Eq.trans (b := res13 (rargs m' c)) rfl ?_), hargs⟩
    · exact ((final18 m c _ reads).trans (eq0 ok)).symm
    · exact ((final19 m c _ reads).trans (eq1 ok)).symm
    · exact ((final20 m c _ reads).trans (eq2 ok)).symm
    · exact ((final21 m c _ reads).trans (eq3 ok)).symm
    · exact ((final22 m c _ reads).trans (eq4 ok)).symm
    · exact ((final23 m c _ reads).trans (eq5 ok)).symm
    · exact ((final24 m c _ reads).trans (eq6 ok)).symm
    · exact ((final25 m c _ reads).trans (eq7 ok)).symm
    · exact ((final26 m c _ reads).trans (eq8 ok)).symm
    · exact ((final27 m c _ reads).trans (eq9 ok)).symm
    · exact ((final28 m c _ reads).trans (eq10 ok)).symm
    · exact ((final29 m c _ reads).trans (eq11 ok)).symm
    · exact ((final30 m c _ reads).trans (eq12 ok)).symm
    · exact ((final31 m c _ reads).trans (eq13 ok)).symm
end Cert.MixOut
-- ==== Proof.AdaFwd.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.RunRead

/-! The forward call of the modulation: `s = x / (1 + exp (-x))` of the conditioning rows, and `s @ w + b`, six tiles of
1024 columns. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.AdaFwd
open Cert.Kernel6Ideal Cert.Kernel6Ideal.Gen

/-- The rows of a device: four batch rows, the context row, three more. -/
def cat (x : FVec Ideal S4x1024 .f32) (y : FVec Ideal S1x1024 .f32) (z : FVec Ideal S3x1024 .f32) : FVec Ideal S8x1024 .f32 :=
  concatenate S8x1024 0 [⟨S4x1024, x⟩, ⟨S1x1024, y⟩, ⟨S3x1024, z⟩] concatenates_S4x1024_S1x1024_S3x1024_S8x1024_d0

/-- The conditioning rows, the last three zero. -/
def rows (x : FVec Ideal S4x1024 .f32) (y : FVec Ideal S1x1024 .f32) : FVec Ideal S8x1024 .f32 :=
  cat x y (broadcastInDim S3x1024 ![] bcast_S_S3x1024 (constant (F := Ideal) S_ .f32 0x00000000#32))

/-- One entry of `x / (1 + exp (-x))`. -/
def silu (x : EReal) : EReal := x * Ideal.div 1 (1 + Ideal.exp (-x))

/-- The first result over the rows. -/
def s0 (x : FVec Ideal S8x1024 .f32) : FVec Ideal S8x1024 .f32 := fun i => silu (x i)

/-- The second result over the rows, the weight and the bias. -/
def s1 (x : FVec Ideal S8x1024 .f32) (w : FVec Ideal S1024x6144 .f32) (b : FVec Ideal S1x6144 .f32) : FVec Ideal S8x6144 .f32 := fun i =>
  ∑ k, silu (x (ix2 (i 0) k)) * w (ix2 k (i 1)) + b (ix2 0 (i 1))

theorem pay1_eq (x : FVec Ideal S8x1024 .f32) : k0_pay1 (F := Ideal) x = s0 x := by
  funext j; idx_vars j
  pointwise [k0_pay1, s0, silu]
  simp only [zero_sub]

theorem pay2_apply (x : FVec Ideal S8x1024 .f32) (w : FVec Ideal S1024x1024 .bf16) (b : FVec Ideal S1x1024 .f32) (r : Fin 8) (k : Fin 1024) :
    k0_pay2 (F := Ideal) x w b (ix2 r k) = ∑ q, silu (x (ix2 r q)) * w (ix2 q k) + b (ix2 0 k) := by
  unfold k0_pay2
  rw [pay1_eq]
  pointwise [s0]

section reads
variable (W : Valuation τ sig (Elt Ideal))
theorem ra0 : StableHlo.upto (hostOps0 (F := Ideal)) W 2 (Proc.devRef .tc main_arg0) = W (Proc.devRef .tc main_arg0) := by
  after_reads_simp
theorem ra1 : StableHlo.upto (hostOps0 (F := Ideal)) W 2 (Proc.devRef .tc main_arg1) = W (Proc.devRef .tc main_arg1) := by
  after_reads_simp
theorem r0 : StableHlo.upto (hostOps0 (F := Ideal)) W 2 (Proc.devRef .tc main_v0) = broadcastInDim S3x1024 ![] bcast_S_S3x1024 (constant (F := Ideal) S_ .f32 0x00000000#32) := by
  after_reads_simp
theorem r1 : StableHlo.after (hostOps0 (F := Ideal)) W (Proc.devRef .tc main_v1) = rows (W (Proc.devRef .tc main_arg0)) (W (Proc.devRef .tc main_arg1)) := by
  after_reads_simp
  change cat (StableHlo.upto (hostOps0 (F := Ideal)) W 2 (Proc.devRef .tc main_arg0)) (StableHlo.upto hostOps0 W 2 (Proc.devRef .tc main_arg1)) (StableHlo.upto hostOps0 W 2 (Proc.devRef .tc main_v0)) = _
  rw [ra0, ra1, r0]; rfl
theorem r2 : StableHlo.after (hostOps0 (F := Ideal)) W (Proc.devRef .tc main_v2) = truncf (F := Ideal) .bf16 (W (Proc.devRef .tc main_arg2)) bitsLt_bf16_f32 := by
  after_reads_simp
end reads

variable (m : (ℓ : Loc nD τ sig) → Buf (Elt Ideal) ℓ) (c : Dev nD)

theorem idx : ∀ t : Fin cfg0.N, win0_0.index t = ![0,0] ∧ win0_1.index t = ![0,t.val] ∧ win0_2.index t = ![0,t.val] ∧ win0_3.index t = ![0,0]
    ∧ win0_4.index t = ![0,t.val] := (by decide +kernel : ∀ t : Fin grid0.N, _)

theorem blk0 (t : Fin cfg0.N) : iblk m c 0 t = V m c main_v1 := by
  obtain ⟨h0, h1, h2, h3, h4⟩ := idx t
  funext j; blk_point [iblk, h0]
theorem blk1 (t : Fin cfg0.N) (q k : Fin 1024) : iblk m c 1 t (ix2 q k) = V m c main_v2 (ix2 q ⟨t.val * 1024 + k.val, by have h : t.val < 6 := t.isLt; omega⟩) := by
  obtain ⟨h0, h1, h2, h3, h4⟩ := idx t
  blk_point [iblk, h1]
theorem blk2 (t : Fin cfg0.N) (k : Fin 1024) : iblk m c 2 t (ix2 0 k) = V m c main_arg3 (ix2 0 ⟨t.val * 1024 + k.val, by have h : t.val < 6 := t.isLt; omega⟩) := by
  obtain ⟨h0, h1, h2, h3, h4⟩ := idx t
  blk_point [iblk, h2]

theorem out3 (t : Fin cfg0.N) : out0_3 (F := Ideal) (iblk m c 0 t) (iblk m c 1 t) (iblk m c 2 t) = s0 (V m c main_v1) := by
  frame_out
  rw [pay1_eq, blk0]
theorem out4 (t : Fin cfg0.N) : out0_4 (F := Ideal) (iblk m c 0 t) (iblk m c 1 t) (iblk m c 2 t)
    = k0_pay2 (F := Ideal) (V m c main_v1) (iblk m c 1 t) (iblk m c 2 t) := by
  frame_out
  rw [blk0]

/-- What a point writes of the second result. -/
theorem tile4 (w : FVec Ideal S1024x6144 .f32) (hW : V m c main_v2 = truncf .bf16 w bitsLt_bf16_f32) (t : Fin cfg0.N) (y : S8x1024.Idx) (i : S8x6144.Idx)
    (e0 : (i 0).val = (y 0).val) (e1 : (i 1).val = t.val * 1024 + (y 1).val) :
    k0_pay2 (F := Ideal) (V m c main_v1) (iblk m c 1 t) (iblk m c 2 t) y = s1 (V m c main_v1) w (V m c main_arg3) i := by
  have ht : t.val < 6 := t.isLt
  obtain ⟨r, k, rfl⟩ : ∃ (r : Fin 8) (k : Fin 1024), y = ix2 r k := ⟨y 0, y 1, by
    funext a
    match a with
    | ⟨0, _⟩ => rfl
    | ⟨1, _⟩ => rfl⟩
  have h0 : i 0 = r := Fin.ext e0
  have h1 : i 1 = (⟨t.val * 1024 + k.val, by omega⟩ : Fin 6144) := Fin.ext e1
  unfold s1
  rw [pay2_apply, blk2, h0, h1]
  simp only [blk1, hW]
  rfl

theorem final3 : (dats m 0 c).arrAt 3 cfg0.N = s0 (V m c main_v1) := by
  refine (dats m 0 c).arrAt_eq_of_covers 3 _ (by decide +kernel) fun t hf y => ?_
  blk_simp
  rw [after0_3, out3]
  refine congrArg _ ?_
  funext a
  match a with
  | ⟨0, _⟩ => exact Fin.ext (by blk_simp [(idx t).2.2.2.1])
  | ⟨1, _⟩ => exact Fin.ext (by blk_simp [(idx t).2.2.2.1])

theorem final4 (w : FVec Ideal S1024x6144 .f32) (hW : V m c main_v2 = truncf .bf16 w bitsLt_bf16_f32) :
    (dats m 0 c).arrAt 4 cfg0.N = s1 (V m c main_v1) w (V m c main_arg3) := by
  refine (dats m 0 c).arrAt_eq_of_covers 4 _ (by decide +kernel) fun t hf y => ?_
  blk_simp
  rw [after0_4, out4]
  refine tile4 m c w hW t y _ ?_ ?_
  all_goals (blk_simp [(idx t).2.2.2.2] <;> try omega)
end Cert.AdaFwd

namespace Cert.AdaFwd
open Cert.Reference6Ideal Cert.Reference6Ideal.Gen

/-- `x / (1 + exp (-x))` as the host writes it. -/
theorem host0 (x : FVec Ideal S8x1024 .f32) : mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x)))) = s0 x := by
  funext j; idx_vars j
  pointwise [s0, silu]

/-- The product and the bias as the host writes them. -/
theorem host1 (x : FVec Ideal S8x1024 .f32) (w : FVec Ideal S1024x6144 .f32) (b : FVec Ideal S1x6144 .f32) :
    addf (Host.dotGeneral dot_S8x1024_S1024x6144_S8x6144_1_0_0_1_n_n none (s0 x) w)
      (broadcastInDim S8x6144 ![0, 1] bcast_S1x6144_S8x6144_0_1 (broadcastInDim S1x6144 ![1] bcast_S6144_S1x6144_1 (shapeCast _ b shapeCasts_S1x6144_S6144)))
    = s1 x w b := by
  funext j; idx_vars j
  pointwise [s0, s1]

theorem alg : Cert.algebraic_Kernel6Ideal_Reference6Ideal (hKernel6Ideal := Cert.Kernel6Ideal.Gen.facts)
    (hReference6Ideal := Cert.Reference6Ideal.Gen.facts) := by
  intro m g m' g' _ hag
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N, ?_, ?_⟩
  · exact Cert.Kernel6Ideal.Value.run_blocks m g
  · refine (θ_run _ _ _).mono (fun _ h c => ?_) (Cert.Reference6Ideal.Value.run (F := Ideal) m' g')
    obtain ⟨h0, h1, hargs⟩ := h c
    obtain ⟨e0, e1, e2, e3⟩ := hag c
    refine ⟨h0.trans ?_, h1.trans ?_, hargs⟩
    · rw [e0, e1]
      exact (host0 (rows _ _)).trans ((final3 m c).trans (congrArg s0 (r1 _))).symm
    · rw [e0, e1, e2, e3]
      refine Eq.trans ?_ ((final4 m c _ (r2 _)).trans (congr (congrArg (fun x => s1 x _) (r1 _)) (Cert.Kernel6Ideal.Gen.V_main_arg3 m c))).symm
      exact (congrArg (fun x => addf (Host.dotGeneral dot_S8x1024_S1024x6144_S8x6144_1_0_0_1_n_n none x _) _) (host0 (rows _ _))).trans (host1 _ _ _)
end Cert.AdaFwd
-- ==== Proof.MixFwd.lean ====
module

public import proofs.«01_k».proof.Proof.MixTiles
public import proofs.«01_k».proof.Proof.Gen.Kernel7Ideal.Value

/-! The forward call of the readout and the output projection: a run of 256 tokens at each point. The readout's values are
those its gradient computes again, so their elements are known already; new are the norm after the projection, the gate, and
the residual stream. -/

@[expose] public section

set_option maxRecDepth 16384

noncomputable section

open Idealize.ShloMosaic Idealize.ShloMosaic.TcCoe Idealize.SL.Sem
open Idealize.ShloMosaic.Pipeline (Dat)

namespace Cert.MixFwd
open Cert.Kernel7Ideal Cert.Kernel7Ideal.Gen Cert.NormRow Cert.MlpRow Cert.MixRow
open Cert.MixOut (Arr Blk hds gdp gwp rkr wob ones half_of gdp_apply rkr_apply gwp_apply wob_apply ones_apply ix3_of p0 p1 p2 p3 Tl)

/-- The result: the stream plus the gated, normalised projection. -/
def res (a : Arr) : FVec Ideal S4x2048x1024 .f32 := fun i =>
  a.X i + a.GA (ix3 (i 0) 0 (i 2)) * nrm (a.row (i 0) (i 1)).mix (a.row (i 0) (i 1)).g2 (i 2)

theorem pay1_apply (z x : FVec Ideal S256x1024 .f32) (g w : FVec Ideal S1x1024 .f32) (q : Fin 256) (h : Fin 1024) :
    k0_pay1 (F := Ideal) z x g w (ix3 0 q h) = x (ix2 q h) + g (ix2 0 h) * nrm (fun k => z (ix2 q k)) (fun k => w (ix2 0 k)) h := by
  pointwise [k0_pay1]
  rfl
theorem pay18_apply (x : FVec Ideal S1x256x1024 .f32) (q : Fin 256) (h : Fin 1024) : k0_pay18 (F := Ideal) x (ix2 q h) = x (ix3 0 q h) := by
  pointwise [k0_pay18]
theorem pay19_apply (x : FVec Ideal S1x1x1024 .f32) (h : Fin 1024) : k0_pay19 (F := Ideal) x (ix2 0 h) = x (ix3 0 0 h) := by
  pointwise [k0_pay19]

/-! ## The same values as in the gradient's call -/

theorem pay13_eq (y : Tl) (lw lb : FVec Ideal S1x512 .f32) (e : FVec Ideal S256x256 .bf16) :
    k0_pay13 (F := Ideal) y lw lb e = Cert.Kernel4Ideal.Gen.k0_pay16 (F := Ideal) e y lw lb := rfl
theorem pay17_eq (v gw yn k r : Tl) (gd : FVec Ideal S256x256 .f32) (rk : FVec Ideal S1x512 .f32) (e : FVec Ideal S256x256 .bf16)
    (cv : FVec Ideal S1x256x512 .f32) (wo : FVec Ideal S1024x1024 .bf16) :
    k0_pay17 (F := Ideal) v gd gw e yn (k0_pay14 k r rk) (k0_pay15 k r rk) (k0_pay16 k r rk) cv wo
      = Cert.Kernel4Ideal.Gen.k0_pay26 (F := Ideal) e v gd rk gw yn (Cert.Kernel4Ideal.Gen.k0_pay17 k r) cv wo := rfl

section heads
variable (x0 x1 x2 x3 y0 y1 y2 y3 : FVec Ideal S1x1x256x128 .f32)
theorem pay2_eq : k0_pay2 (F := Ideal) x0 x1 x2 x3 y0 y1 y2 y3 = Cert.Kernel4Ideal.Gen.k0_pay3 (F := Ideal) x0 x1 x2 x3 y0 y1 y2 y3 := rfl
theorem pay4_eq : k0_pay4 (F := Ideal) (k0_pay3 x0) x1 x2 x3 y0 y1 y2 y3 = Cert.Kernel4Ideal.Gen.k0_pay4 (F := Ideal) x0 x1 x2 x3 y0 y1 y2 y3 := rfl
theorem pay7_eq : k0_pay7 (F := Ideal) (k0_pay5 x0) (k0_pay6 x1) x2 x3 = Cert.Kernel4Ideal.Gen.k0_pay6 (F := Ideal) (Cert.Kernel4Ideal.Gen.k0_pay5 x0) x1 x2 x3 := rfl
theorem pay8_eq : k0_pay8 (F := Ideal) x0 x1 x2 x3 = Cert.Kernel4Ideal.Gen.k0_pay7 (F := Ideal) x0 x1 x2 x3 := rfl
end heads

section mix
variable (b : Blk)
theorem mix_eq : Cert.Kernel4Ideal.Gen.k0_pay26 (F := Ideal) (k0_pay12 b.E) (Cert.Kernel4Ideal.Gen.k0_pay7 (p0 b.V) (p1 b.V) (p2 b.V) (p3 b.V))
    (k0_pay9 b.GD) (k0_pay10 b.RK) (k0_pay11 b.GW) (Cert.Kernel4Ideal.Gen.k0_pay16 (k0_pay12 b.E)
      (Cert.Kernel4Ideal.Gen.k0_pay3 (p0 b.YF) (p1 b.YF) (p2 b.YF) (p3 b.YF) (p0 b.YB) (p1 b.YB) (p2 b.YB) (p3 b.YB)) b.LW b.LB)
    (Cert.Kernel4Ideal.Gen.k0_pay17 (Cert.Kernel4Ideal.Gen.k0_pay4 (p0 b.KF) (p1 b.KF) (p2 b.KF) (p3 b.KF) (p0 b.KB) (p1 b.KB) (p2 b.KB) (p3 b.KB))
      (Cert.Kernel4Ideal.Gen.k0_pay6 (Cert.Kernel4Ideal.Gen.k0_pay5 (p0 b.R)) (p1 b.R) (p2 b.R) (p3 b.R))) b.CV b.WO = b.mix := rfl
theorem out_eq : out0_17 (F := Ideal) b.YF b.YB b.KF b.KB b.R b.V b.GD b.CV b.X b.GA b.RK b.GW b.LW b.LB b.WO b.G2 b.E
    = k0_pay1 (F := Ideal) b.mix (k0_pay18 b.X) (k0_pay19 b.GA) b.G2 := by
  frame_out [k0_pay23, k0_pay22, k0_pay21, k0_pay20]
  rw [pay17_eq, pay13_eq, pay2_eq, pay4_eq, pay7_eq, pay8_eq]
  exact congrArg (fun z => k0_pay1 (F := Ideal) z (k0_pay18 b.X) (k0_pay19 b.GA) b.G2) (mix_eq b)
end mix

variable (m : (ℓ : Loc nD τ sig) → Buf (Elt Ideal) ℓ) (c : Dev nD)

section reads
variable (W : Valuation τ sig (Elt Ideal))
theorem heads : (StableHlo.after (hostOps0 (F := Ideal)) W (Proc.devRef .tc main_v5) = hds (W (Proc.devRef .tc main_arg0)))
    ∧ (StableHlo.after (hostOps0 (F := Ideal)) W (Proc.devRef .tc main_v7) = hds (W (Proc.devRef .tc main_arg1)))
    ∧ (StableHlo.after (hostOps0 (F := Ideal)) W (Proc.devRef .tc main_v9) = hds (W (Proc.devRef .tc main_arg2)))
    ∧ (StableHlo.after (hostOps0 (F := Ideal)) W (Proc.devRef .tc main_v11) = hds (W (Proc.devRef .tc main_arg3)))
    ∧ (StableHlo.after (hostOps0 (F := Ideal)) W (Proc.devRef .tc main_v13) = hds (W (Proc.devRef .tc main_arg4)))
    ∧ (StableHlo.after (hostOps0 (F := Ideal)) W (Proc.devRef .tc main_v15) = hds (W (Proc.devRef .tc main_arg5))) := by
  refine ⟨?_, ?_, ?_, ?_, ?_, ?_⟩ <;> (after_reads_simp; rfl)
theorem tables : (StableHlo.after (hostOps0 (F := Ideal)) W (Proc.devRef .tc main_v1) = gdp (W (Proc.devRef .tc main_arg6)))
    ∧ (StableHlo.after (hostOps0 (F := Ideal)) W (Proc.devRef .tc main_v16) = rkr (W (Proc.devRef .tc main_arg10)))
    ∧ (StableHlo.after (hostOps0 (F := Ideal)) W (Proc.devRef .tc main_v3) = gwp (W (Proc.devRef .tc main_arg11)))
    ∧ (StableHlo.after (hostOps0 (F := Ideal)) W (Proc.devRef .tc main_v17) = wob (W (Proc.devRef .tc main_arg14)))
    ∧ (StableHlo.after (hostOps0 (F := Ideal)) W (Proc.devRef .tc main_v26) = ones) := by
  refine ⟨?_, ?_, ?_, ?_, ?_⟩ <;> (after_reads_simp; rfl)
end reads

/-- The call reads these arrays. -/
structure Reads (a : Arr) : Prop where
  hYF : V m c main_v5 = hds a.YF
  hYB : V m c main_v7 = hds a.YB
  hKF : V m c main_v9 = hds a.KF
  hKB : V m c main_v11 = hds a.KB
  hR : V m c main_v13 = hds a.R
  hV : V m c main_v15 = hds a.V
  hGD : V m c main_v1 = gdp a.GD
  hCV : V m c main_arg7 = a.CV
  hX : V m c main_arg8 = a.X
  hD : a.D = a.X
  hGA : V m c main_arg9 = a.GA
  hRK : V m c main_v16 = rkr a.RK
  hGW : V m c main_v3 = gwp a.GW
  hLW : V m c main_arg12 = a.LW
  hLB : V m c main_arg13 = a.LB
  hWO : V m c main_v17 = wob a.WO
  hG2 : V m c main_arg15 = a.G2
  hE : V m c main_v26 = ones

/-! ## The blocks a point reads -/

theorem idx : ∀ t : Fin cfg0.N, win0_0.index t = ![t.val / 8, 0, 1 + t.val % 8, 0] ∧ win0_1.index t = ![t.val / 8, 0, 1 + t.val % 8, 0]
    ∧ win0_2.index t = ![t.val / 8, 0, 1 + t.val % 8, 0] ∧ win0_3.index t = ![t.val / 8, 0, 1 + t.val % 8, 0]
    ∧ win0_4.index t = ![t.val / 8, 0, 1 + t.val % 8, 0] ∧ win0_5.index t = ![t.val / 8, 0, 1 + t.val % 8, 0] :=
  (by decide +kernel : ∀ t : Fin grid0.N, _)
theorem idx' : ∀ t : Fin cfg0.N, win0_6.index t = ![t.val / 8, 1 + t.val % 8, 0] ∧ win0_7.index t = ![t.val / 8, 1 + t.val % 8, 0]
    ∧ win0_8.index t = ![t.val / 8, t.val % 8, 0] ∧ win0_9.index t = ![t.val / 8, 0, 0] ∧ win0_17.index t = ![t.val / 8, t.val % 8, 0] :=
  (by decide +kernel : ∀ t : Fin grid0.N, _)
theorem idx0 : ∀ t : Fin cfg0.N, win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

/-- The point's batch row and its run of tokens. -/
def bt (t : Fin cfg0.N) : Fin 4 := ⟨t.val / 8, by have h : t.val < 32 := t.isLt; omega⟩
def jt (t : Fin cfg0.N) : Fin 8 := ⟨t.val % 8, by omega⟩
/-- A token of the run in the sequence, and after the context. -/
def tx (t : Fin cfg0.N) (q : Fin 256) : Fin 2048 := ⟨(jt t).val * 256 + q.val, by have := (jt t).isLt; omega⟩
def tc (t : Fin cfg0.N) (q : Fin 256) : Fin 2304 := ⟨256 + ((jt t).val * 256 + q.val), by have := (jt t).isLt; omega⟩

theorem blkH (t : Fin cfg0.N) (j : Fin 4) (q : Fin 256) (l : Fin 128) :
    iblk m c 0 t (ix4 0 j q l) = V m c main_v5 (ix4 (bt t) j (tc t q) l) ∧ iblk m c 1 t (ix4 0 j q l) = V m c main_v7 (ix4 (bt t) j (tc t q) l)
    ∧ iblk m c 2 t (ix4 0 j q l) = V m c main_v9 (ix4 (bt t) j (tc t q) l) ∧ iblk m c 3 t (ix4 0 j q l) = V m c main_v11 (ix4 (bt t) j (tc t q) l)
    ∧ iblk m c 4 t (ix4 0 j q l) = V m c main_v13 (ix4 (bt t) j (tc t q) l) ∧ iblk m c 5 t (ix4 0 j q l) = V m c main_v15 (ix4 (bt t) j (tc t q) l) := by
  have e1 : (bt t).val = t.val / 8 := rfl
  have e2 : (tc t q).val = 256 + (t.val % 8 * 256 + q.val) := rfl
  obtain ⟨h0, h1, h2, h3, h4, h5⟩ := idx t
  refine ⟨?_, ?_, ?_, ?_, ?_, ?_⟩ <;> (blk_point [iblk, h0, h1, h2, h3, h4, h5] <;> omega)
theorem blk6 (t : Fin cfg0.N) (q k : Fin 256) : iblk m c 6 t (ix3 0 q k) = V m c main_v1 (ix3 (bt t) (tc t q) k) := by
  have e1 : (bt t).val = t.val / 8 := rfl
  have e2 : (tc t q).val = 256 + (t.val % 8 * 256 + q.val) := rfl
  have h := (idx' t).1
  blk_point [iblk, h]
  all_goals omega
theorem blk7 (t : Fin cfg0.N) (q : Fin 256) (k : Fin 512) : iblk m c 7 t (ix3 0 q k) = V m c main_arg7 (ix3 (bt t) (tc t q) k) := by
  have e1 : (bt t).val = t.val / 8 := rfl
  have e2 : (tc t q).val = 256 + (t.val % 8 * 256 + q.val) := rfl
  have h := (idx' t).2.1
  blk_point [iblk, h]
  all_goals omega
theorem blk8 (t : Fin cfg0.N) (q : Fin 256) (k : Fin 1024) : iblk m c 8 t (ix3 0 q k) = V m c main_arg8 (ix3 (bt t) (tx t q) k) := by
  have e1 : (bt t).val = t.val / 8 := rfl
  have e2 : (tx t q).val = t.val % 8 * 256 + q.val := rfl
  have h := (idx' t).2.2.1
  blk_point [iblk, h]
  all_goals omega
theorem blk9 (t : Fin cfg0.N) (k : Fin 1024) : iblk m c 9 t (ix3 0 0 k) = V m c main_arg9 (ix3 (bt t) 0 k) := by
  have e1 : (bt t).val = t.val / 8 := rfl
  have h := (idx' t).2.2.2.1
  blk_point [iblk, h]
  all_goals omega
theorem blkW (t : Fin cfg0.N) : iblk m c 10 t = V m c main_v16 ∧ iblk m c 11 t = V m c main_v3 ∧ iblk m c 12 t = V m c main_arg12
    ∧ iblk m c 13 t = V m c main_arg13 ∧ iblk m c 14 t = V m c main_v17 ∧ iblk m c 15 t = V m c main_arg15 ∧ iblk m c 16 t = V m c main_v26 := by
  obtain ⟨h0, h1, h2, h3, h4, h5, h6⟩ := idx0 t
  refine ⟨?_, ?_, ?_, ?_, ?_, ?_, ?_⟩ <;> (funext j; blk_point [iblk, h0, h1, h2, h3, h4, h5, h6])

/-- What point `t` reads. -/
def blk (t : Fin cfg0.N) : Blk := ⟨iblk m c 0 t, iblk m c 1 t, iblk m c 2 t, iblk m c 3 t, iblk m c 4 t, iblk m c 5 t, iblk m c 6 t, iblk m c 7 t,
  iblk m c 8 t, iblk m c 9 t, iblk m c 10 t, iblk m c 11 t, iblk m c 12 t, iblk m c 13 t, iblk m c 14 t, iblk m c 15 t, iblk m c 16 t, iblk m c 8 t⟩

variable (a : Arr)

set_option maxHeartbeats 4000000 in
/-- The point's row `q` is the token of its run. -/
theorem at_run (R : Reads m c a) (t : Fin cfg0.N) (q : Fin 256) : (blk m c t).at' q = a.row (bt t) (tx t q) := by
  obtain ⟨w0, w1, w2, w3, w4, w5, w6⟩ := blkW m c t
  refine MixRow.In.ext (funext fun h => ?_) (funext fun h => ?_) (funext fun h => ?_) (funext fun h => ?_) (funext fun h => ?_) (funext fun h => ?_)
    (funext fun k => ?_) (funext fun h => ?_) (funext fun h => ?_) (funext fun h => ?_) (funext fun k => funext fun h => ?_) (funext fun h => ?_)
    (funext fun h => ?_) (funext fun j => funext fun h => ?_) (funext fun h => ?_) (funext fun k => funext fun l => ?_) (funext fun h => ?_)
  · exact (blkH m c t _ q _).1.trans ((congrFun R.hYF _).trans (half_of _ _ _ h))
  · exact (blkH m c t _ q _).2.1.trans ((congrFun R.hYB _).trans (half_of _ _ _ h))
  · exact (blkH m c t _ q _).2.2.1.trans ((congrFun R.hKF _).trans (half_of _ _ _ h))
  · exact (blkH m c t _ q _).2.2.2.1.trans ((congrFun R.hKB _).trans (half_of _ _ _ h))
  · exact (blkH m c t _ q _).2.2.2.2.1.trans ((congrFun R.hR _).trans (half_of _ _ _ h))
  · exact (blkH m c t _ q _).2.2.2.2.2.trans ((congrFun R.hV _).trans (half_of _ _ _ h))
  · exact (blk6 m c t q k).trans ((congrFun R.hGD _).trans (gdp_apply _ _ _ k))
  · exact (blk7 m c t q h).trans (congrFun R.hCV _)
  · exact (blk9 m c t h).trans (congrFun R.hGA _)
  · exact (congrFun (w0.trans R.hRK) _).trans (rkr_apply _ h)
  · exact (congrFun (w1.trans R.hGW) _).trans (gwp_apply _ k h)
  · exact congrFun (w2.trans R.hLW) _
  · exact congrFun (w3.trans R.hLB) _
  · exact (congrFun (w4.trans R.hWO) _).trans (wob_apply _ j h)
  · exact congrFun (w5.trans R.hG2) _
  · exact (congrFun (w6.trans R.hE) _).trans (ones_apply k l)
  · exact (blk8 m c t q h).trans ((congrFun R.hX _).trans (congrFun R.hD.symm _))

/-! ## What the points leave -/

set_option maxHeartbeats 2000000 in
theorem out17 (t : Fin cfg0.N) : (dats m 0 c).after 17 t = k0_pay1 (F := Ideal) (blk m c t).mix (k0_pay18 (blk m c t).X) (k0_pay19 (blk m c t).GA) (blk m c t).G2 := by
  rw [after0_17]
  exact out_eq (blk m c t)

theorem tile17 (R : Reads m c a) (t : Fin cfg0.N) (y : S1x256x1024.Idx) (i : S4x2048x1024.Idx)
    (e0 : (i 0).val = t.val / 8) (e1 : (i 1).val = t.val % 8 * 256 + (y 1).val) (e2 : (i 2).val = (y 2).val) :
    k0_pay1 (F := Ideal) (blk m c t).mix (k0_pay18 (blk m c t).X) (k0_pay19 (blk m c t).GA) (blk m c t).G2 y = res a i := by
  obtain ⟨q, k, rfl⟩ : ∃ (q : Fin 256) (k : Fin 1024), y = ix3 0 q k := ⟨y 1, y 2, ix3_of y⟩
  obtain ⟨b, r, l, rfl⟩ : ∃ (b : Fin 4) (r : Fin 2048) (l : Fin 1024), i = ix3 b r l := ⟨i 0, i 1, i 2, by
    funext d
    match d with
    | ⟨0, _⟩ => rfl
    | ⟨1, _⟩ => rfl
    | ⟨2, _⟩ => rfl⟩
  obtain rfl : b = bt t := Fin.ext e0
  obtain rfl : r = tx t q := Fin.ext e1
  obtain rfl : l = k := Fin.ext e2
  have hz : (fun k => (blk m c t).mix (ix2 q k)) = (a.row (bt t) (tx t q)).mix := funext fun k => by rw [Blk.mix_apply, at_run m c a R]
  have hw : (fun k => (blk m c t).G2 (ix2 0 k)) = (a.row (bt t) (tx t q)).g2 := funext fun k => congrFun ((blkW m c t).2.2.2.2.2.1.trans R.hG2) _
  have hx : (blk m c t).X (ix3 0 q l) = a.X (ix3 (bt t) (tx t q) l) := (blk8 m c t q l).trans (congrFun R.hX _)
  have hg : (blk m c t).GA (ix3 0 0 l) = a.GA (ix3 (bt t) 0 l) := (blk9 m c t l).trans (congrFun R.hGA _)
  rw [pay1_apply, pay18_apply, pay19_apply, hx, hg, hz, hw]
  rfl

theorem final17 (R : Reads m c a) : (dats m 0 c).arrAt 17 cfg0.N = res a := by
  refine (dats m 0 c).arrAt_eq_of_covers 17 _ (by decide +kernel) fun t hf y => ?_
  blk_simp
  rw [out17]
  have y0 : (y 0).val < 1 := (y 0).isLt
  refine tile17 m c a R t y _ ?_ ?_ ?_
  all_goals (blk_simp [(idx' t).2.2.2.2] <;> try omega)
end Cert.MixFwd
-- ==== Proof.MixFwdAlg.lean ====
module

public import proofs.«01_k».proof.Proof.MixFwd
public import proofs.«01_k».proof.Proof.MixEq
public import proofs.«01_k».proof.Proof.Gen.Reference7Ideal.Run
public import proofs.«01_k».proof.Proof.Gen.Pre_finite7
public import proofs.«01_k».proof.Defs

/-! The reference's lines of the readout and the output projection, and the equality of the two programs. -/

@[expose] public section

set_option maxRecDepth 16384

noncomputable section

open Idealize.ShloMosaic Idealize.ShloMosaic.TcCoe Idealize.SL.Sem

namespace Cert.MixFwd
open Cert.Reference7Ideal Cert.Reference7Ideal.Gen Cert.NormRow Cert.MlpRow Cert.MixRow Cert.Finite
open Cert.MixOut (Arr Tok Wide hcat hsl hge hw hxr hge_apply hw_apply hxr_apply ix3_eta)

/-- The gate over its true columns, and the projection. -/
def hgr (x : FVec Ideal S4x2304x160 .f32) (w : FVec Ideal S160x512 .f32) : Tok :=
  Host.dotGeneral dot_S4x2048x160_S160x512_S4x2048x512_2_0_01_1_n_n none (Host.divf (broadcastInDim S4x2048x160 ![] bcast_S_S4x2048x160 (constant S_ .f32 0x3F800000#32))
    (addf (broadcastInDim S4x2048x160 ![] bcast_S_S4x2048x160 (constant S_ .f32 0x3F800000#32)) (Host.exp (Host.negf (extractStridedSlice S4x2048x160 ![0, 256, 0] x slices_S4x2304x160_S4x2048x160_0_256_0))))) w
def hmixr (x : Wide) (w : FVec Ideal S1024x1024 .f32) : Wide := Host.dotGeneral dot_S4x2048x1024_S1024x1024_S4x2048x1024_2_0_01_1_n_n none x w

theorem hgr_apply (x : FVec Ideal S4x2304x160 .f32) (w : FVec Ideal S160x512 .f32) (b : Fin 4) (t : Fin 2048) (h : Fin 512) :
    hgr x w (ix3 b t h) = ∑ k : Fin 160, Ideal.div 1 (1 + Ideal.exp (-(x (ix3 b ⟨256 + t.val, by omega⟩ k)))) * w (ix2 k h) := by
  pointwise [hgr]
theorem hmixr_apply (x : Wide) (w : FVec Ideal S1024x1024 .f32) (b : Fin 4) (t : Fin 2048) (h : Fin 1024) :
    hmixr x w (ix3 b t h) = ∑ k : Fin 1024, x (ix3 b t k) * w (ix2 k h) := by
  pointwise [hmixr]

variable {a : Arr} (o : a.OkF)
include o

/-- The padding adds nothing to the gate. -/
theorem hgr_eq : hgr a.GD a.GW = a.g := by
  funext i
  obtain ⟨b, t, h, rfl⟩ : ∃ (b : Fin 4) (t : Fin 2048) (h : Fin 512), i = ix3 b t h := ⟨i 0, i 1, i 2, ix3_eta i⟩
  rw [hgr_apply, a.g_row b t h, (o b t).g_eq h]
  refine Finset.sum_congr rfl fun k _ => congrArg₂ (· * ·) ?_ ?_
  · have e : (a.row b t).gd ⟨k.val, by omega⟩ = a.GD (ix3 b ⟨256 + t.val, by omega⟩ k) := dif_pos k.isLt
    rw [← e]; rfl
  · have e : (a.row b t).gw ⟨k.val, by omega⟩ h = a.GW (ix2 k h) := dif_pos k.isLt
    exact e.symm

/-- The reference's result over the arrays is the kernel's. -/
theorem host_eq : addf a.X (hge a.GA (hw (hxr (hmixr (hcat (mulf a.s (hgr a.GD a.GW)) (hsl a.CV)) a.WO)) a.G2)) = res a := by
  rw [hgr_eq o]
  funext i
  obtain ⟨b, t, h, rfl⟩ : ∃ (b : Fin 4) (t : Fin 2048) (h : Fin 1024), i = ix3 b t h := ⟨i 0, i 1, i 2, ix3_eta i⟩
  refine congrArg (a.X (ix3 b t h) + ·) ((hge_apply b t _ _ h).trans (congrArg (a.GA (ix3 b 0 h) * ·) ?_))
  have e : (fun k => hmixr (hcat (mulf a.s a.g) (hsl a.CV)) a.WO (ix3 b t k)) = (a.row b t).mix := funext fun k =>
    (hmixr_apply _ _ b t k).trans (Finset.sum_congr rfl fun l _ => congrArg (· * _) (Arr.cat_row b t o l))
  rw [hw_apply, hxr_apply, e, congrFun e h]
  rfl
omit o

instance : Subsingleton (Cert.Pre_finite7.S_).Idx := ⟨fun a b => funext fun i => Fin.elim0 i⟩

/-- What the precondition says of the arrays it reads. -/
theorem pre_real (a0 a1 a2 a3 a4 a5 : FVec Ideal Cert.Pre_finite7.S4x2304x512 .f32) (a6 : FVec Ideal Cert.Pre_finite7.S4x2304x160 .f32)
    (a7 : FVec Ideal Cert.Pre_finite7.S4x2304x512 .f32) (a8 : FVec Ideal Cert.Pre_finite7.S4x2048x1024 .f32) (a9 : FVec Ideal Cert.Pre_finite7.S4x1x1024 .f32)
    (a10 : FVec Ideal Cert.Pre_finite7.S8x64 .f32) (a11 : FVec Ideal Cert.Pre_finite7.S160x512 .f32) (a12 a13 : FVec Ideal Cert.Pre_finite7.S1x512 .f32)
    (a14 : FVec Ideal Cert.Pre_finite7.S1024x1024 .f32) (a15 : FVec Ideal Cert.Pre_finite7.S1x1024 .f32)
    (h : @Cert.Pre_finite7.fn Cert.Pre_finite7.Gen.facts Ideal _ a0 a1 a2 a3 a4 a5 a6 a7 a8 a9 a10 a11 a12 a13 a14 a15 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a10 i)) := by
  have inf : ∀ x : Ideal .f32, x = Scalar.ofBits (F := Ideal) .f32 0x7F800000#32 → x = (⊤ : EReal) := fun x hx => by
    rw [hx]; simp [Scalar.ofBits, Ideal.ofBits, Ideal.ieee]
  have h0 := IntOp.andi_eq_one.1 (congrFun h (fun i => Fin.elim0 i))
  have h1 := IntOp.andi_eq_one.1 h0.1
  have h2 := IntOp.andi_eq_one.1 h1.1
  have h3 := IntOp.andi_eq_one.1 h2.1
  have h4 := IntOp.andi_eq_one.1 h3.1
  exact ⟨isReal_of_all _ _ (fun i => inf _ rfl) _ _ _ _ h4.1, isReal_of_all _ _ (fun i => inf _ rfl) _ _ _ _ h4.2,
    isReal_of_all _ _ (fun i => inf _ rfl) _ _ _ _ h3.2, isReal_of_all _ _ (fun i => inf _ rfl) _ _ _ _ h2.2,
    isReal_of_all _ _ (fun i => inf _ rfl) _ _ _ _ h1.2, isReal_of_all _ _ (fun i => inf _ rfl) _ _ _ _ h0.2⟩

/-- The two programs' arrays. -/
def rargs (m : (ℓ : Loc nD τ sig) → Buf (Elt Ideal) ℓ) (c : Dev nD) : Arr :=
  let p := (c.tc : Thread nD τ)
  ⟨m (p.loc main_arg0), m (p.loc main_arg1), m (p.loc main_arg2), m (p.loc main_arg3), m (p.loc main_arg4), m (p.loc main_arg5), m (p.loc main_arg6), m (p.loc main_arg7),
    m (p.loc main_arg8), m (p.loc main_arg9), m (p.loc main_arg10), m (p.loc main_arg11), m (p.loc main_arg12), m (p.loc main_arg13), m (p.loc main_arg14), m (p.loc main_arg15),
    m (p.loc main_arg8)⟩
end Cert.MixFwd

namespace Cert.MixFwd
open Cert.Kernel7Ideal Cert.Kernel7Ideal.Gen Cert.MixOut Cert.Finite
def kargs (m : (ℓ : Loc nD τ sig) → Buf (Elt Ideal) ℓ) (c : Dev nD) : Arr :=
  let p := (c.tc : Thread nD τ)
  ⟨m (p.loc main_arg0), m (p.loc main_arg1), m (p.loc main_arg2), m (p.loc main_arg3), m (p.loc main_arg4), m (p.loc main_arg5), m (p.loc main_arg6), m (p.loc main_arg7),
    m (p.loc main_arg8), m (p.loc main_arg9), m (p.loc main_arg10), m (p.loc main_arg11), m (p.loc main_arg12), m (p.loc main_arg13), m (p.loc main_arg14), m (p.loc main_arg15),
    m (p.loc main_arg8)⟩

theorem kreads (m : (ℓ : Loc nD τ sig) → Buf (Elt Ideal) ℓ) (c : Dev nD) : Reads m c (kargs m c) :=
  ⟨(heads _).1, (heads _).2.1, (heads _).2.2.1, (heads _).2.2.2.1, (heads _).2.2.2.2.1, (heads _).2.2.2.2.2, (tables _).1, V_main_arg7 m c, V_main_arg8 m c, rfl,
    V_main_arg9 m c, (tables _).2.1, (tables _).2.2.1, V_main_arg12 m c, V_main_arg13 m c, (tables _).2.2.2.1, V_main_arg15 m c, (tables _).2.2.2.2⟩

set_option maxHeartbeats 2000000 in
/-- The kernel and the reference end with the same array. -/
theorem alg : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m g m' g' hpre hag
  refine ⟨fun c => (Cert.Kernel7Ideal.Gen.dats m 0 c).arrAt 17 Cert.Kernel7Ideal.cfg0.N, ?_, ?_⟩
  · exact Cert.Kernel7Ideal.Value.run_blocks m g
  · refine (θ_run _ _ _).mono (fun _ h c => ?_) (Cert.Reference7Ideal.Value.run (F := Ideal) m' g')
    obtain ⟨h0, hargs⟩ := h c
    obtain ⟨r0, r1, r2, r3, r4, r10⟩ := pre_real _ _ _ _ _ _ _ _ _ _ _ _ _ _ _ _ (hpre c)
    obtain ⟨e0, e1, e2, e3, e4, e5, e6, e7, e8, e9, e10, e11, e12, e13, e14, e15⟩ := hag c
    have ok : (kargs m c).OkF := fun b t => {
      yf := fun _ => r0 _
      yb := fun _ => r1 _
      kf := fun _ => r2 _
      kb := fun _ => r3 _
      r := fun _ => r4 _
      rk := fun _ => r10 _
      E := fun _ _ => rfl
      pad := fun k h e => dif_neg (by omega) }
    have ea : rargs m' c = kargs m c := by
      unfold rargs kargs
      dsimp only
      rw [e0, e1, e2, e3, e4, e5, e6, e7, e8, e9, e10, e11, e12, e13, e14, e15]
    refine ⟨h0.trans (Eq.trans (b := addf (rargs m' c).X (hge (rargs m' c).GA (hw (hxr (hmixr (hcat (mulf (rargs m' c).s (hgr (rargs m' c).GD (rargs m' c).GW))
      (hsl (rargs m' c).CV)) (rargs m' c).WO)) (rargs m' c).G2))) rfl ?_), hargs⟩
    rw [ea]
    exact (host_eq ok).trans (final17 m c _ (kreads m c)).symm
end Cert.MixFwd
-- ==== Proof.InFwd.lean ====
module

public import proofs.«01_k».proof.Proof.InProjRows
public import proofs.«01_k».proof.Proof.Gen.Kernel8Ideal.Value

/-! The forward call of the input projection: a run of 256 tokens at each point, normalised, modulated, and multiplied by the
padded weight. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.InFwd
open Cert.Kernel8Ideal Cert.Kernel8Ideal.Gen Cert.NormRow
open Cert.InProj (padw padw_apply modt modt_apply hrow)

/-- A normalised row, scaled and shifted: `g` the norm's weight, `sh` and `sc` the modulation. -/
def hid (x g sh sc : Fin 1024 → EReal) (h : Fin 1024) : EReal := x h * Ideal.rsqrt (ms x) * g h * (1 + sc h) + sh h

/-- Row `e` of a run's modulation. -/
def mrow (mc : FVec Ideal S2x1024 .f32) (mx : FVec Ideal S4x2x1024 .f32) (e : Fin 2) (b : Fin 4) (j : Fin 9) (h : Fin 1024) : EReal :=
  if j.val = 0 then mc (ix2 e h) else mx (ix3 b e h)

section results
variable (ctx : FVec Ideal S4x256x1024 .f32) (x : FVec Ideal S4x2048x1024 .f32) (mc : FVec Ideal S2x1024 .f32) (mx : FVec Ideal S4x2x1024 .f32)
  (g : FVec Ideal S1x1024 .f32) (w : FVec Ideal S1024x2976 .f32)

/-- Token `r` of run `j` after the norm and the modulation. -/
def tokh (b : Fin 4) (j : Fin 9) (r : Fin 256) (h : Fin 1024) : EReal :=
  hid (hrow ctx x b j r) (fun k => g (ix2 0 k)) (mrow mc mx 0 b j) (mrow mc mx 1 b j) h

/-- The second result. -/
def s1 : FVec Ideal S4x2304x1024 .bf16 := fun i =>
  tokh ctx x mc mx g (i 0) ⟨(i 1).val / 256, by have : (i 1).val < 2304 := (i 1).isLt; omega⟩ ⟨(i 1).val % 256, by omega⟩ (i 2)

/-- The first result: its product with the padded weight. -/
def s0 : FVec Ideal S4x2304x3072 .f32 := fun i => ∑ k, s1 ctx x mc mx g (ix3 (i 0) (i 1) k) * padw w (ix2 k (i 2))
end results

theorem is_ctx : ∀ j : Fin 9, Scalar.cmpi CmpIPredicate.slt (BitVec.ofNat 32 j.val) 1#32 = if j.val < 1 then 1#1 else 0#1 := by decide +kernel

theorem pay2_apply (i : grid0.Coords) (v1 v3 : FVec Ideal S1x256x1024 .f32) (v6 : FVec Ideal S1x1024 .f32) (v7 v9 : FVec Ideal S1x1x1x1024 .f32) (q : Fin 256) (h : Fin 1024) :
    k0_pay2 (F := Ideal) i v1 v3 v6 v7 v9 (ix2 q h)
      = hid (fun k => if (i 1).val < 1 then v1 (ix3 0 q k) else v3 (ix3 0 q k)) (fun k => v6 (ix2 0 k)) (fun k => v7 (ix4 0 0 0 k)) (fun k => v9 (ix4 0 0 0 k)) h := by
  pointwise [k0_pay2, hid, ms]
  have e := is_ctx (i 1)
  rw [e]
  by_cases hj : (i 1).val < 1
  · simp only [if_pos hj]; rfl
  · simp only [if_neg hj]; rfl

theorem pay3_apply (i : grid0.Coords) (v1 v3 : FVec Ideal S1x256x1024 .f32) (v6 : FVec Ideal S1x1024 .f32) (v7 v9 : FVec Ideal S1x1x1x1024 .f32) (q : Fin 256) (h : Fin 1024) :
    k0_pay3 (F := Ideal) i v1 v3 v6 v7 v9 (ix3 0 q h) = k0_pay2 (F := Ideal) i v1 v3 v6 v7 v9 (ix2 q h) := by
  unfold k0_pay3
  generalize k0_pay2 (F := Ideal) i v1 v3 v6 v7 v9 = z
  pointwise

theorem pay1_apply (z : FVec Ideal S256x1024 .bf16) (w : FVec Ideal S1024x3072 .bf16) (q : Fin 256) (h : Fin 3072) :
    k0_pay1 (F := Ideal) z w (ix3 0 q h) = ∑ k, z (ix2 q k) * w (ix2 k h) := by
  pointwise [k0_pay1]

section reads
variable (W : Valuation τ sig (Elt Ideal))
theorem r5 : StableHlo.upto (hostOps0 (F := Ideal)) W 12 (Proc.devRef .tc main_v5) = (extractStridedSlice S1024x1536 ![0, 0] (W (Proc.devRef .tc main_arg5)) slices_S1024x2976_S1024x1536_0_0) := by
  after_reads_simp
theorem r6 : StableHlo.upto (hostOps0 (F := Ideal)) W 12 (Proc.devRef .tc main_v6) = (extractStridedSlice S1024x128 ![0, 1536] (W (Proc.devRef .tc main_arg5)) slices_S1024x2976_S1024x128_0_1536) := by
  after_reads_simp
theorem r7 : StableHlo.upto (hostOps0 (F := Ideal)) W 12 (Proc.devRef .tc main_v7) = (extractStridedSlice S1024x128 ![0, 1664] (W (Proc.devRef .tc main_arg5)) slices_S1024x2976_S1024x128_0_1664) := by
  after_reads_simp
theorem r8 : StableHlo.upto (hostOps0 (F := Ideal)) W 12 (Proc.devRef .tc main_v8) = (extractStridedSlice S1024x160 ![0, 1792] (W (Proc.devRef .tc main_arg5)) slices_S1024x2976_S1024x160_0_1792) := by
  after_reads_simp
theorem r9 : StableHlo.upto (hostOps0 (F := Ideal)) W 12 (Proc.devRef .tc main_v9) = (broadcastInDim S1024x96 ![] bcast_S_S1024x96 (constant (F := Ideal) S_ .f32 0x00000000#32)) := by
  after_reads_simp
theorem r10 : StableHlo.upto (hostOps0 (F := Ideal)) W 12 (Proc.devRef .tc main_v10) = (extractStridedSlice S1024x1024 ![0, 1952] (W (Proc.devRef .tc main_arg5)) slices_S1024x2976_S1024x1024_0_1952) := by
  after_reads_simp
theorem r12 : StableHlo.after (hostOps0 (F := Ideal)) W (Proc.devRef .tc main_v12) = padw (W (Proc.devRef .tc main_arg5)) := by
  after_reads_simp
  change Cert.InProj.wcols6 (StableHlo.upto (hostOps0 (F := Ideal)) W 12 (Proc.devRef .tc main_v5)) (StableHlo.upto (hostOps0 (F := Ideal)) W 12 (Proc.devRef .tc main_v6)) (StableHlo.upto (hostOps0 (F := Ideal)) W 12 (Proc.devRef .tc main_v7)) (StableHlo.upto (hostOps0 (F := Ideal)) W 12 (Proc.devRef .tc main_v8)) (StableHlo.upto (hostOps0 (F := Ideal)) W 12 (Proc.devRef .tc main_v9)) (StableHlo.upto (hostOps0 (F := Ideal)) W 12 (Proc.devRef .tc main_v10)) = _
  rw [r5, r6, r7, r8, r9, r10]; rfl
theorem r1 : StableHlo.upto (hostOps0 (F := Ideal)) W 4 (Proc.devRef .tc main_v1) = (broadcastInDim S4x1x2x1024 ![0, 1, 2, 3] bcast_S1x1x2x1024_S4x1x2x1024_0_1_2_3 (broadcastInDim S1x1x2x1024 ![2, 3] bcast_S2x1024_S1x1x2x1024_2_3 (W (Proc.devRef .tc main_arg2)))) := by
  after_reads_simp
theorem r3 : StableHlo.upto (hostOps0 (F := Ideal)) W 4 (Proc.devRef .tc main_v3) = (broadcastInDim S4x8x2x1024 ![0, 1, 2, 3] bcast_S4x1x2x1024_S4x8x2x1024_0_1_2_3 (broadcastInDim S4x1x2x1024 ![0, 2, 3] bcast_S4x2x1024_S4x1x2x1024_0_2_3 (W (Proc.devRef .tc main_arg3)))) := by
  after_reads_simp
theorem r4 : StableHlo.after (hostOps0 (F := Ideal)) W (Proc.devRef .tc main_v4) = modt (W (Proc.devRef .tc main_arg2)) (W (Proc.devRef .tc main_arg3)) := by
  after_reads_simp
  change Cert.InProj.runs (StableHlo.upto (hostOps0 (F := Ideal)) W 4 (Proc.devRef .tc main_v1)) (StableHlo.upto (hostOps0 (F := Ideal)) W 4 (Proc.devRef .tc main_v3)) = _
  rw [r1, r3]; rfl
end reads

variable (m : (ℓ : Loc nD τ sig) → Buf (Elt Ideal) ℓ) (c : Dev nD)

theorem idx : ∀ t : Fin cfg0.N, win0_0.index t = ![t.val / 9, 0, 0] ∧ win0_1.index t = ![t.val / 9, t.val % 9 - 1, 0]
    ∧ win0_2.index t = ![t.val / 9, t.val % 9, 0, 0] ∧ win0_3.index t = ![0, 0] ∧ win0_4.index t = ![0, 0]
    ∧ win0_5.index t = ![t.val / 9, t.val % 9, 0] ∧ win0_6.index t = ![t.val / 9, t.val % 9, 0] :=
  (by decide +kernel : ∀ t : Fin grid0.N, _)
theorem coord : ∀ t : Fin cfg0.N, ((grid0.coords t) 1).val = t.val % 9 := (by decide +kernel : ∀ t : Fin grid0.N, _)

/-- The point's batch row. -/
def bt (t : Fin cfg0.N) : Fin 4 := ⟨t.val / 9, by have h : t.val < 36 := t.isLt; omega⟩
/-- The point's run of tokens. -/
def jt (t : Fin cfg0.N) : Fin 9 := ⟨t.val % 9, by omega⟩

theorem blk0 (t : Fin cfg0.N) (q : Fin 256) (k : Fin 1024) : iblk m c 0 t (ix3 0 q k) = V m c main_arg0 (ix3 (bt t) q k) := by
  obtain ⟨h0, h1, h2, h3, h4, h5, h6⟩ := idx t
  have e1 : (bt t).val = t.val / 9 := rfl
  blk_point [iblk, h0]
  all_goals omega
theorem blk1 (t : Fin cfg0.N) (q : Fin 256) (k : Fin 1024) : iblk m c 1 t (ix3 0 q k)
    = V m c main_arg1 (ix3 (bt t) ⟨((jt t).val - 1) * 256 + q.val, by have := (jt t).isLt; omega⟩ k) := by
  obtain ⟨h0, h1, h2, h3, h4, h5, h6⟩ := idx t
  have e1 : (bt t).val = t.val / 9 := rfl
  have e2 : (jt t).val = t.val % 9 := rfl
  blk_point [iblk, h1]
  all_goals omega
theorem blk2 (t : Fin cfg0.N) (e : Fin 2) (k : Fin 1024) : iblk m c 2 t (ix4 0 0 e k) = V m c main_v4 (ix4 (bt t) (jt t) e k) := by
  obtain ⟨h0, h1, h2, h3, h4, h5, h6⟩ := idx t
  have e1 : (bt t).val = t.val / 9 := rfl
  have e2 : (jt t).val = t.val % 9 := rfl
  blk_point [iblk, h2]
  all_goals omega
theorem blk3 (t : Fin cfg0.N) : iblk m c 3 t = V m c main_arg4 := by
  obtain ⟨h0, h1, h2, h3, h4, h5, h6⟩ := idx t
  funext j; blk_point [iblk, h3]
theorem blk4 (t : Fin cfg0.N) : iblk m c 4 t = V m c main_v12 := by
  obtain ⟨h0, h1, h2, h3, h4, h5, h6⟩ := idx t
  funext j; blk_point [iblk, h4]

/-- The two rows of a point's modulation. -/
def shv (M : FVec Ideal S1x1x2x1024 .f32) : FVec Ideal S1x1x1x1024 .f32 :=
  View.ld (Val := Elt Ideal) (e' := .f32) M (Rect.unit ![0, 0, 0, 0] ![1, 1, 1, 1024] inb_S1x1x2x1024_S1x1x1x1024_0_0_0_0)
def scv (M : FVec Ideal S1x1x2x1024 .f32) : FVec Ideal S1x1x1x1024 .f32 :=
  View.ld (Val := Elt Ideal) (e' := .f32) M (Rect.unit ![0, 0, 1, 0] ![1, 1, 1, 1024] inb_S1x1x2x1024_S1x1x1x1024_0_0_1_0)
theorem shv_apply (M : FVec Ideal S1x1x2x1024 .f32) (k : Fin 1024) : shv M (ix4 0 0 0 k) = M (ix4 0 0 0 k) := by pointwise [shv]
theorem scv_apply (M : FVec Ideal S1x1x2x1024 .f32) (k : Fin 1024) : scv M (ix4 0 0 0 k) = M (ix4 0 0 1 k) := by pointwise [scv]

/-- The point's normalised, modulated rows. -/
def ht (t : Fin cfg0.N) : FVec Ideal S256x1024 .bf16 :=
  k0_pay2 (F := Ideal) (grid0.coords t) (iblk m c 0 t) (iblk m c 1 t) (iblk m c 3 t) (shv (iblk m c 2 t)) (scv (iblk m c 2 t))

theorem out5 (t : Fin cfg0.N) : out0_5 (F := Ideal) (grid0.coords t) (iblk m c 0 t) (iblk m c 1 t) (iblk m c 2 t) (iblk m c 3 t) (iblk m c 4 t)
    = k0_pay1 (F := Ideal) (ht m c t) (iblk m c 4 t) := by
  frame_out; rfl
theorem out6 (t : Fin cfg0.N) : out0_6 (F := Ideal) (grid0.coords t) (iblk m c 0 t) (iblk m c 1 t) (iblk m c 2 t) (iblk m c 3 t) (iblk m c 4 t)
    = k0_pay3 (F := Ideal) (grid0.coords t) (iblk m c 0 t) (iblk m c 1 t) (iblk m c 3 t) (shv (iblk m c 2 t)) (scv (iblk m c 2 t)) := by
  frame_out; rfl

variable (ctx : FVec Ideal S4x256x1024 .f32) (x : FVec Ideal S4x2048x1024 .f32) (mc : FVec Ideal S2x1024 .f32) (mx : FVec Ideal S4x2x1024 .f32)
  (g : FVec Ideal S1x1024 .f32) (w : FVec Ideal S1024x2976 .f32)

/-- The call reads these arrays. -/
structure Reads : Prop where
  hC : V m c main_arg0 = ctx
  hX : V m c main_arg1 = x
  hM : V m c main_v4 = modt mc mx
  hG : V m c main_arg4 = g
  hW : V m c main_v12 = padw w

variable {m c ctx x mc mx g w} (R : Reads m c ctx x mc mx g w)
include R

theorem ht_row (t : Fin cfg0.N) (q : Fin 256) (h : Fin 1024) : ht m c t (ix2 q h) = tokh ctx x mc mx g (bt t) (jt t) q h := by
  have e2 : (jt t).val = t.val % 9 := rfl
  unfold ht tokh
  rw [pay2_apply]
  have ex : (fun k => if (grid0.coords t 1).val < 1 then iblk m c 0 t (ix3 0 q k) else iblk m c 1 t (ix3 0 q k)) = hrow ctx x (bt t) (jt t) q := by
    funext k
    unfold hrow
    rw [coord t, ← e2, blk0, blk1, R.hC, R.hX]
    split_ifs <;> rfl
  have em (e : Fin 2) (k : Fin 1024) : iblk m c 2 t (ix4 0 0 e k) = mrow mc mx e (bt t) (jt t) k := by
    rw [blk2, R.hM, modt_apply]; rfl
  rw [ex, blk3, R.hG, funext fun k => (shv_apply (iblk m c 2 t) k).trans (em 0 k), funext fun k => (scv_apply (iblk m c 2 t) k).trans (em 1 k)]

theorem tile6 (t : Fin cfg0.N) (y : S1x256x1024.Idx) (i : S4x2304x1024.Idx)
    (e0 : (i 0).val = t.val / 9) (e1 : (i 1).val = t.val % 9 * 256 + (y 1).val) (e2 : (i 2).val = (y 2).val) :
    k0_pay3 (F := Ideal) (grid0.coords t) (iblk m c 0 t) (iblk m c 1 t) (iblk m c 3 t) (shv (iblk m c 2 t)) (scv (iblk m c 2 t)) y = s1 ctx x mc mx g i := by
  obtain ⟨q, k, rfl⟩ : ∃ (q : Fin 256) (k : Fin 1024), y = ix3 0 q k := ⟨y 1, y 2, by
    funext a
    match a with
    | ⟨0, _⟩ => exact Fin.ext (Nat.lt_one_iff.1 (y 0).isLt)
    | ⟨1, _⟩ => rfl
    | ⟨2, _⟩ => rfl⟩
  replace e1 : (i 1).val = t.val % 9 * 256 + q.val := e1
  refine (pay3_apply _ _ _ _ _ _ q k).trans ((ht_row R t q k).trans ?_)
  unfold s1
  have hb : i 0 = bt t := Fin.ext e0
  have hj : (⟨(i 1).val / 256, by have : (i 1).val < 2304 := (i 1).isLt; omega⟩ : Fin 9) = jt t := Fin.ext (show (i 1).val / 256 = t.val % 9 by omega)
  have hq : (⟨(i 1).val % 256, by omega⟩ : Fin 256) = q := Fin.ext (show (i 1).val % 256 = q.val by omega)
  have hk : i 2 = k := Fin.ext e2
  rw [hb, hj, hq, hk]

theorem tile5 (t : Fin cfg0.N) (y : S1x256x3072.Idx) (i : S4x2304x3072.Idx)
    (e0 : (i 0).val = t.val / 9) (e1 : (i 1).val = t.val % 9 * 256 + (y 1).val) (e2 : (i 2).val = (y 2).val) :
    k0_pay1 (F := Ideal) (ht m c t) (iblk m c 4 t) y = s0 ctx x mc mx g w i := by
  obtain ⟨q, k, rfl⟩ : ∃ (q : Fin 256) (k : Fin 3072), y = ix3 0 q k := ⟨y 1, y 2, by
    funext a
    match a with
    | ⟨0, _⟩ => exact Fin.ext (Nat.lt_one_iff.1 (y 0).isLt)
    | ⟨1, _⟩ => rfl
    | ⟨2, _⟩ => rfl⟩
  refine (pay1_apply _ _ q k).trans ?_
  unfold s0
  have hk : i 2 = k := Fin.ext e2
  rw [blk4, R.hW, hk]
  refine Finset.sum_congr rfl fun l _ => congrArg (· * _) ?_
  exact (pay3_apply _ _ _ _ _ _ q l).symm.trans (tile6 R t (ix3 0 q l) (ix3 (i 0) (i 1) l) e0 e1 rfl)

theorem final5 : (dats m 0 c).arrAt 5 cfg0.N = s0 ctx x mc mx g w := by
  refine (dats m 0 c).arrAt_eq_of_covers 5 _ (by decide +kernel) fun t hf y => ?_
  blk_simp
  rw [after0_5, out5]
  have y0 : (y 0).val < 1 := (y 0).isLt
  refine tile5 R t y _ ?_ ?_ ?_
  all_goals (blk_simp [(idx t).2.2.2.2.2.1] <;> try omega)

theorem final6 : (dats m 0 c).arrAt 6 cfg0.N = s1 ctx x mc mx g := by
  refine (dats m 0 c).arrAt_eq_of_covers 6 _ (by decide +kernel) fun t hf y => ?_
  blk_simp
  rw [after0_6, out6]
  have y0 : (y 0).val < 1 := (y 0).isLt
  refine tile6 R t y _ ?_ ?_ ?_
  all_goals (blk_simp [(idx t).2.2.2.2.2.2] <;> try omega)
end Cert.InFwd
-- ==== Proof.InFwdAlg.lean ====
module

public import proofs.«01_k».proof.Proof.InFwd
public import proofs.«01_k».proof.Proof.Gen.Reference8Ideal.Run
public import proofs.«01_k».proof.Defs

/-! The reference's lines of the input projection, and the equality of the two programs. -/

@[expose] public section

set_option maxRecDepth 16384

noncomputable section

open Idealize.ShloMosaic Idealize.ShloMosaic.TcCoe Idealize.SL.Sem

namespace Cert.InFwd
open Cert.Reference8Ideal Cert.Reference8Ideal.Gen Cert.NormRow
open Cert.InProj (padw padw_apply hrow)

section lines
variable (ctx : FVec Ideal S4x256x1024 .f32) (x : FVec Ideal S4x2048x1024 .f32) (mc : FVec Ideal S2x1024 .f32) (mx : FVec Ideal S4x2x1024 .f32)
  (g : FVec Ideal S1x1024 .f32) (w : FVec Ideal S1024x2976 .f32)

/-- The context's tokens after norm and modulation. -/
def hctx : FVec Ideal S4x256x1024 .f32 :=
  addf (mulf (mulf (mulf ctx (broadcastInDim S4x256x1024 ![0, 1, 2] bcast_S4x256x1_S4x256x1024_0_1_2 (Host.rsqrt (addf (Host.divf (broadcastInDim S4x256x1 ![0, 1] bcast_S4x256_S4x256x1_0_1
      (Host.reduceAdd (mulf ctx ctx) (constant S_ .f32 0x00000000#32) reducesTo_S4x256x1024_S4x256_d2 h_S_)) (broadcastInDim S4x256x1 ![] bcast_S_S4x256x1 (constant S_ .f32 0x44800000#32)))
      (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 (shapeCast S1024 g shapeCasts_S1x1024_S1024))))
    (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32))
      (shapeCast S1024 (extractStridedSlice S1x1024 ![1, 0] mc slices_S2x1024_S1x1024_1_0) shapeCasts_S1x1024_S1024)))))
    (broadcastInDim S4x256x1024 ![0, 1, 2] bcast_S1x1x1024_S4x256x1024_0_1_2 (broadcastInDim S1x1x1024 ![2] bcast_S1024_S1x1x1024_2
      (shapeCast S1024 (extractStridedSlice S1x1024 ![0, 0] mc slices_S2x1024_S1x1024_0_0) shapeCasts_S1x1024_S1024)))
/-- The sequence's tokens after norm and modulation. -/
def hseq : FVec Ideal S4x2048x1024 .f32 :=
  addf (mulf (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1
      (Host.reduceAdd (mulf x x) (constant S_ .f32 0x00000000#32) reducesTo_S4x2048x1024_S4x2048_d2 h_S_)) (broadcastInDim S4x2048x1 ![] bcast_S_S4x2048x1 (constant S_ .f32 0x44800000#32)))
      (broadcastInDim S4x2048x1 ![] bcast_S_S4x2048x1 (constant S_ .f32 0x358637BD#32))))))
    (broadcastInDim S4x2048x1024 ![0, 1, 2] bcast_S1x1x1024_S4x2048x1024_0_1_2 (broadcastInDim S1x1x1024 ![2] bcast_S1024_S1x1x1024_2 (shapeCast S1024 g shapeCasts_S1x1024_S1024))))
    (broadcastInDim S4x2048x1024 ![0, 1, 2] bcast_S4x1x1024_S4x2048x1024_0_1_2 (addf (broadcastInDim S4x1x1024 ![] bcast_S_S4x1x1024 (constant S_ .f32 0x3F800000#32))
      (extractStridedSlice S4x1x1024 ![0, 1, 0] mx slices_S4x2x1024_S4x1x1024_0_1_0))))
    (broadcastInDim S4x2048x1024 ![0, 1, 2] bcast_S4x1x1024_S4x2048x1024_0_1_2 (extractStridedSlice S4x1x1024 ![0, 0, 0] mx slices_S4x2x1024_S4x1x1024_0_0_0))
/-- Both, one after the other. -/
def hall (a : FVec Ideal S4x256x1024 .f32) (b : FVec Ideal S4x2048x1024 .f32) : FVec Ideal S4x2304x1024 .f32 :=
  concatenate S4x2304x1024 1 [⟨S4x256x1024, a⟩, ⟨S4x2048x1024, b⟩] concatenates_S4x256x1024_S4x2048x1024_S4x2304x1024_d1
/-- A product's columns with the zeros of the padding between them. -/
def hpad (z : FVec Ideal S4x2304x2976 .f32) : FVec Ideal S4x2304x3072 .f32 :=
  concatenate S4x2304x3072 2 [⟨S4x2304x1952, extractStridedSlice S4x2304x1952 ![0, 0, 0] z slices_S4x2304x2976_S4x2304x1952_0_0_0⟩,
    ⟨S4x2304x96, broadcastInDim S4x2304x96 ![] bcast_S_S4x2304x96 (constant (F := Ideal) S_ .f32 0x00000000#32)⟩,
    ⟨S4x2304x1024, extractStridedSlice S4x2304x1024 ![0, 0, 1952] z slices_S4x2304x2976_S4x2304x1024_0_0_1952⟩] concatenates_S4x2304x1952_S4x2304x96_S4x2304x1024_S4x2304x3072_d2
/-- The product. -/
def hprod (h : FVec Ideal S4x2304x1024 .f32) : FVec Ideal S4x2304x2976 .f32 :=
  Host.dotGeneral dot_S4x2304x1024_S1024x2976_S4x2304x2976_2_0_01_1_n_n none h w

theorem hctx_apply (b : Fin 4) (q : Fin 256) (h : Fin 1024) :
    hctx ctx mc g (ix3 b q h) = hid (fun k => ctx (ix3 b q k)) (fun k => g (ix2 0 k)) (fun k => mc (ix2 0 k)) (fun k => mc (ix2 1 k)) h := by
  pointwise [hctx, hid, ms]
theorem hseq_apply (b : Fin 4) (q : Fin 2048) (h : Fin 1024) :
    hseq x mx g (ix3 b q h) = hid (fun k => x (ix3 b q k)) (fun k => g (ix2 0 k)) (fun k => mx (ix3 b 0 k)) (fun k => mx (ix3 b 1 k)) h := by
  pointwise [hseq, hid, ms]
theorem hall_apply (a : FVec Ideal S4x256x1024 .f32) (b : FVec Ideal S4x2048x1024 .f32) (e : Fin 4) (q : Fin 2304) (h : Fin 1024) :
    hall a b (ix3 e q h) = if d : q.val < 256 then a (ix3 e ⟨q.val, d⟩ h) else b (ix3 e ⟨q.val - 256, by omega⟩ h) := by
  pointwise [hall]
theorem hpad_apply (z : FVec Ideal S4x2304x2976 .f32) (e : Fin 4) (q : Fin 2304) (k : Fin 3072) :
    hpad z (ix3 e q k) = if d : k.val < 1952 then z (ix3 e q ⟨k.val, by omega⟩) else if d' : k.val < 2048 then 0 else z (ix3 e q ⟨k.val - 96, by omega⟩) := by
  pointwise [hpad]
  by_cases h1 : k.val < 1952
  · simp only [dif_pos h1]
  by_cases h2 : k.val < 2048
  · simp only [dif_neg h1, dif_pos h2, dif_pos (show k.val - 1952 < 96 by omega)]
  · simp only [dif_neg h1, dif_neg h2, dif_neg (show ¬ k.val - 1952 < 96 by omega)]
    exact congrArg (fun c => z (ix3 e q c)) (Fin.ext (show 1952 + (k.val - 1952 - 96) = k.val - 96 by omega))
theorem hprod_apply (h : FVec Ideal S4x2304x1024 .f32) (e : Fin 4) (q : Fin 2304) (k : Fin 2976) :
    hprod w h (ix3 e q k) = ∑ l, h (ix3 e q l) * w (ix2 l k) := by
  pointwise [hprod]

/-- The reference's second result is the kernel's. -/
theorem host1 : hall (hctx ctx mc g) (hseq x mx g) = s1 ctx x mc mx g := by
  funext i
  obtain ⟨e, q, h, rfl⟩ : ∃ (e : Fin 4) (q : Fin 2304) (h : Fin 1024), i = ix3 e q h := ⟨i 0, i 1, i 2, by
    funext a
    match a with
    | ⟨0, _⟩ => rfl
    | ⟨1, _⟩ => rfl
    | ⟨2, _⟩ => rfl⟩
  rw [hall_apply]
  change _ = tokh ctx x mc mx g e ⟨q.val / 256, by omega⟩ ⟨q.val % 256, by omega⟩ h
  unfold tokh hrow mrow
  by_cases d : q.val < 256
  · have z : q.val / 256 = 0 := by omega
    have r : (⟨q.val % 256, by omega⟩ : Fin 256) = ⟨q.val, d⟩ := Fin.ext (show q.val % 256 = q.val by omega)
    rw [dif_pos d, hctx_apply]
    simp only [z, if_true, Nat.zero_lt_one, dite_true, r]
  · have z : ¬ q.val / 256 = 0 := by omega
    have z' : ¬ q.val / 256 < 1 := by omega
    have r : (⟨(q.val / 256 - 1) * 256 + q.val % 256, by omega⟩ : Fin 2048) = ⟨q.val - 256, by omega⟩ :=
      Fin.ext (show (q.val / 256 - 1) * 256 + q.val % 256 = q.val - 256 by omega)
    rw [dif_neg d, hseq_apply]
    simp only [z, z', if_false, dite_false, r]

/-- The reference's first result is the kernel's. -/
theorem host0 : hpad (hprod w (s1 ctx x mc mx g)) = s0 ctx x mc mx g w := by
  funext i
  obtain ⟨e, q, k, rfl⟩ : ∃ (e : Fin 4) (q : Fin 2304) (k : Fin 3072), i = ix3 e q k := ⟨i 0, i 1, i 2, by
    funext a
    match a with
    | ⟨0, _⟩ => rfl
    | ⟨1, _⟩ => rfl
    | ⟨2, _⟩ => rfl⟩
  rw [hpad_apply]
  change _ = ∑ l, s1 ctx x mc mx g (ix3 e q l) * padw w (ix2 l k)
  simp only [padw_apply]
  by_cases h1 : k.val < 1952
  · simp only [dif_pos h1, hprod_apply]
  by_cases h2 : k.val < 2048
  · simp only [dif_neg h1, dif_pos h2]
    exact (Finset.sum_eq_zero fun l _ => mul_zero _).symm
  · simp only [dif_neg h1, dif_neg h2, hprod_apply]
end lines

theorem alg : Cert.algebraic_Kernel8Ideal_Reference8Ideal (hKernel8Ideal := Cert.Kernel8Ideal.Gen.facts)
    (hReference8Ideal := Cert.Reference8Ideal.Gen.facts) := by
  intro m g m' g' _ hag
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N, ?_, ?_⟩
  · exact Cert.Kernel8Ideal.Value.run_blocks m g
  · refine (θ_run _ _ _).mono (fun _ h c => ?_) (Cert.Reference8Ideal.Value.run (F := Ideal) m' g')
    obtain ⟨h0, h1, hargs⟩ := h c
    obtain ⟨e0, e1, e2, e3, e4, e5⟩ := hag c
    have R : Reads m c _ _ _ _ _ _ := ⟨Cert.Kernel8Ideal.Gen.V_main_arg0 m c, Cert.Kernel8Ideal.Gen.V_main_arg1 m c, r4 _, Cert.Kernel8Ideal.Gen.V_main_arg4 m c, r12 _⟩
    refine ⟨h0.trans (Eq.trans (b := hpad (hprod (m' ((c.tc : Thread nD τ).loc main_arg5)) (hall (hctx (m' ((c.tc : Thread nD τ).loc main_arg0)) (m' ((c.tc : Thread nD τ).loc main_arg2)) (m' ((c.tc : Thread nD τ).loc main_arg4)))
        (hseq (m' ((c.tc : Thread nD τ).loc main_arg1)) (m' ((c.tc : Thread nD τ).loc main_arg3)) (m' ((c.tc : Thread nD τ).loc main_arg4)))))) rfl ?_),
      h1.trans (Eq.trans (b := hall (hctx (m' ((c.tc : Thread nD τ).loc main_arg0)) (m' ((c.tc : Thread nD τ).loc main_arg2)) (m' ((c.tc : Thread nD τ).loc main_arg4)))
        (hseq (m' ((c.tc : Thread nD τ).loc main_arg1)) (m' ((c.tc : Thread nD τ).loc main_arg3)) (m' ((c.tc : Thread nD τ).loc main_arg4)))) rfl ?_), hargs⟩
    · rw [e0, e1, e2, e3, e4, e5]
      exact (congrArg (fun z => hpad (hprod _ z)) (host1 _ _ _ _ _)).trans ((host0 _ _ _ _ _ _).trans (final5 R).symm)
    · rw [e0, e1, e2, e3, e4]
      exact (host1 _ _ _ _ _).trans (final6 R).symm
end Cert.InFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.AdaAlg
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.InProjAlg
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MlpAlg
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.MixFrame
public import proofs.«01_k».proof.Proof.MixBits
public import proofs.«01_k».proof.Proof.Gen.Reference4Ideal
public import proofs.«01_k».proof.Proof.Gen.Reference4Ideal.Run
public import proofs.«01_k».proof.Proof.Gen.Pre_finite4
public import proofs.«01_k».proof.Proof.MixOutAlg
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.AdaFwd
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite7
public import proofs.«01_k».proof.Proof.MixFwdAlg
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.InFwdAlg
public import Idealize.ShloMosaic.Lib.Quiescent
public import Idealize.ShloMosaic.Adequacy
public import Idealize.ShloMosaic.Init

@[expose] public section

noncomputable section

namespace Cert.Proof

open Idealize.ShloMosaic Idealize.SL.Sem

/-- The reference of the adaLN gradient leaves its arguments as they were and every semaphore at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference of the input projection's gradient leaves its arguments as they were and every semaphore at zero. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The reference of the squared-ReLU layer's gradient leaves its arguments as they were and every semaphore at zero. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

/-- The reference of the readout's gradient leaves its arguments as they were and every semaphore at zero. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2.2.2.2.2.2.2.2.2.2.2, sem_eq_zero_of_no_sems (by decide) r.2⟩)
    (Cert.Reference4Ideal.Value.run (F := Ideal) m ρ)

/-- The reference of the adaLN forward call leaves its arguments as they were and every semaphore at zero. -/
theorem frame_reference6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The reference of the readout leaves its arguments as they were and every semaphore at zero. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of the input projection leaves its arguments as they were and every semaphore at zero. -/
theorem frame_reference8 : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Pre_finite.Gen.facts,
  Cert.Pre_finite2.Gen.facts,
  Cert.Pre_finite4.Gen.facts,
  Cert.Pre_finite7.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  Cert.MixRun.frame_bits,
  fun m ρ _ => Cert.MixRun.frame4 m ρ,
  fun m ρ _ => Cert.MixRun.frame4 m ρ,
  frame_reference4,
  fun m ρ _ => frame_reference4 m ρ trivial,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  fun m ρ _ => Cert.Kernel7Ideal.Gen.frame m ρ,
  frame_reference7,
  fun m ρ _ => frame_reference7 m ρ trivial,
  fun m ρ _ => Cert.Kernel8.Gen.frame m ρ,
  fun m ρ _ => Cert.Kernel8Ideal.Gen.frame m ρ,
  frame_reference8,
  trivial,
  Cert.Ada.alg,
  trivial,
  Cert.InProj.alg,
  trivial,
  Cert.Mlp.alg,
  trivial,
  Cert.MixOut.alg,
  trivial,
  Cert.AdaFwd.alg,
  trivial,
  Cert.MixFwd.alg,
  trivial,
  Cert.InFwd.alg⟩

end Cert.Proof

end
